-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_gate [hPre_finite_gate : Cert.Pre_finite_gate.Facts] (m : (ℓ : Loc Cert.DactIdeal.nD Cert.DactIdeal.τ Cert.DactIdeal.sig) → Buf (Elt Ideal) ℓ) : Prop :=
  ∀ c : Dev Cert.DactIdeal.nD,
    (Cert.Pre_finite_gate.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))) = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_finite_gate [hPre_finite_gate : Cert.Pre_finite_gate.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_finite_gate.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2)) (m ((c.tc : Thread Cert.DactReferenceIdeal.nD Cert.DactReferenceIdeal.τ).loc Cert.DactReferenceIdeal.main_arg3))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2ReferenceIdeal (m : (ℓ : Loc Cert.Dw2ReferenceIdeal.nD Cert.Dw2ReferenceIdeal.τ Cert.Dw2ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjReferenceIdeal (m : (ℓ : Loc Cert.GateProjReferenceIdeal.nD Cert.GateProjReferenceIdeal.τ Cert.GateProjReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_DhInReferenceIdeal (m : (ℓ : Loc Cert.DhInReferenceIdeal.nD Cert.DhInReferenceIdeal.τ Cert.DhInReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_DhGate (m : (ℓ : Loc Cert.DhGate.nD Cert.DhGate.τ Cert.DhGate.sig) → Buf (Elt Bits) ℓ) : Prop :=
  True

def Pre_DhGateIdeal (m : (ℓ : Loc Cert.DhGateIdeal.nD Cert.DhGateIdeal.τ Cert.DhGateIdeal.sig) → Buf (Elt Ideal) ℓ) : Prop :=
  True

def Pre_DhGateReferenceIdeal (m : (ℓ : Loc Cert.DhGateReferenceIdeal.nD Cert.DhGateReferenceIdeal.τ Cert.DhGateReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedReferenceIdeal (m : (ℓ : Loc Cert.DMergedReferenceIdeal.nD Cert.DMergedReferenceIdeal.τ Cert.DMergedReferenceIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutReferenceIdeal (m : (ℓ : Loc Cert.SbOutReferenceIdeal.nD Cert.SbOutReferenceIdeal.τ Cert.SbOutReferenceIdeal.sig) → Buf (Elt Ideal) ℓ) : Prop :=
  True

def Pre_DwSb (m : (ℓ : Loc Cert.DwSb.nD Cert.DwSb.τ Cert.DwSb.sig) → Buf (Elt Bits) ℓ) : Prop :=
  True

def Pre_DwSbIdeal (m : (ℓ : Loc Cert.DwSbIdeal.nD Cert.DwSbIdeal.τ Cert.DwSbIdeal.sig) → Buf (Elt Ideal) ℓ) : Prop :=
  True

def Pre_DwSbReferenceIdeal (m : (ℓ : Loc Cert.DwSbReferenceIdeal.nD Cert.DwSbReferenceIdeal.τ Cert.DwSbReferenceIdeal.sig) → Buf (Elt Ideal) ℓ) : Prop :=
  True

def Pre_DOa (m : (ℓ : Loc Cert.DOa.nD Cert.DOa.τ Cert.DOa.sig) → Buf (Elt Bits) ℓ) : Prop :=
  True

def Pre_DOaIdeal (m : (ℓ : Loc Cert.DOaIdeal.nD Cert.DOaIdeal.τ Cert.DOaIdeal.sig) → Buf (Elt Ideal) ℓ) : Prop :=
  True

def Pre_DOaReferenceIdeal (m : (ℓ : Loc Cert.DOaReferenceIdeal.nD Cert.DOaReferenceIdeal.τ Cert.DOaReferenceIdeal.sig) → Buf (Elt Ideal) ℓ) : Prop :=
  True

def Pre_DsaOut (m : (ℓ : Loc Cert.DsaOut.nD Cert.DsaOut.τ Cert.DsaOut.sig) → Buf (Elt Bits) ℓ) : Prop :=
  True

def Pre_DsaOutIdeal (m : (ℓ : Loc Cert.DsaOutIdeal.nD Cert.DsaOutIdeal.τ Cert.DsaOutIdeal.sig) → Buf (Elt Ideal) ℓ) : Prop :=
  True

def Pre_DsaOutReferenceIdeal (m : (ℓ : Loc Cert.DsaOutReferenceIdeal.nD Cert.DsaOutReferenceIdeal.τ Cert.DsaOutReferenceIdeal.sig) → Buf (Elt Ideal) ℓ) : Prop :=
  True

def Pre_DwDsa (m : (ℓ : Loc Cert.DwDsa.nD Cert.DwDsa.τ Cert.DwDsa.sig) → Buf (Elt Bits) ℓ) : Prop :=
  True

def Pre_DwDsaIdeal (m : (ℓ : Loc Cert.DwDsaIdeal.nD Cert.DwDsaIdeal.τ Cert.DwDsaIdeal.sig) → Buf (Elt Ideal) ℓ) : Prop :=
  True

def Pre_DwDsaReferenceIdeal (m : (ℓ : Loc Cert.DwDsaReferenceIdeal.nD Cert.DwDsaReferenceIdeal.τ Cert.DwDsaReferenceIdeal.sig) → Buf (Elt Ideal) ℓ) : Prop :=
  True

def Pre_DOb (m : (ℓ : Loc Cert.DOb.nD Cert.DOb.τ Cert.DOb.sig) → Buf (Elt Bits) ℓ) : Prop :=
  True

def Pre_DObIdeal (m : (ℓ : Loc Cert.DObIdeal.nD Cert.DObIdeal.τ Cert.DObIdeal.sig) → Buf (Elt Ideal) ℓ) : Prop :=
  True

def Pre_DObReferenceIdeal (m : (ℓ : Loc Cert.DObReferenceIdeal.nD Cert.DObReferenceIdeal.τ Cert.DObReferenceIdeal.sig) → Buf (Elt Ideal) ℓ) : Prop :=
  True

def Pre_DOc (m : (ℓ : Loc Cert.DOc.nD Cert.DOc.τ Cert.DOc.sig) → Buf (Elt Bits) ℓ) : Prop :=
  True

def Pre_DOcIdeal (m : (ℓ : Loc Cert.DOcIdeal.nD Cert.DOcIdeal.τ Cert.DOcIdeal.sig) → Buf (Elt Ideal) ℓ) : Prop :=
  True

def Pre_DOcReferenceIdeal (m : (ℓ : Loc Cert.DOcReferenceIdeal.nD Cert.DOcReferenceIdeal.τ Cert.DOcReferenceIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_MemRms (m : (ℓ : Loc Cert.MemRms.nD Cert.MemRms.τ Cert.MemRms.sig) → Buf (Elt Bits) ℓ) : Prop :=
  True

def Pre_MemRmsIdeal (m : (ℓ : Loc Cert.MemRmsIdeal.nD Cert.MemRmsIdeal.τ Cert.MemRmsIdeal.sig) → Buf (Elt Ideal) ℓ) : Prop :=
  True

def Pre_MemRmsReferenceIdeal (m : (ℓ : Loc Cert.MemRmsReferenceIdeal.nD Cert.MemRmsReferenceIdeal.τ Cert.MemRmsReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_DwMemKv (m : (ℓ : Loc Cert.DwMemKv.nD Cert.DwMemKv.τ Cert.DwMemKv.sig) → Buf (Elt Bits) ℓ) : Prop :=
  True

def Pre_DwMemKvIdeal (m : (ℓ : Loc Cert.DwMemKvIdeal.nD Cert.DwMemKvIdeal.τ Cert.DwMemKvIdeal.sig) → Buf (Elt Ideal) ℓ) : Prop :=
  True

def Pre_DwMemKvReferenceIdeal (m : (ℓ : Loc Cert.DwMemKvReferenceIdeal.nD Cert.DwMemKvReferenceIdeal.τ Cert.DwMemKvReferenceIdeal.sig) → Buf (Elt Ideal) ℓ) : Prop :=
  True

def Pre_DMemh (m : (ℓ : Loc Cert.DMemh.nD Cert.DMemh.τ Cert.DMemh.sig) → Buf (Elt Bits) ℓ) : Prop :=
  True

def Pre_DMemhIdeal (m : (ℓ : Loc Cert.DMemhIdeal.nD Cert.DMemhIdeal.τ Cert.DMemhIdeal.sig) → Buf (Elt Ideal) ℓ) : Prop :=
  True

def Pre_DMemhReferenceIdeal (m : (ℓ : Loc Cert.DMemhReferenceIdeal.nD Cert.DMemhReferenceIdeal.τ Cert.DMemhReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_gate [hDactIdeal : Cert.DactIdeal.Facts] [hPre_finite_gate : Cert.Pre_finite_gate.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_gate m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DactReferenceIdeal_pre_finite_gate [hDactReferenceIdeal : Cert.DactReferenceIdeal.Facts] [hPre_finite_gate : Cert.Pre_finite_gate.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_finite_gate m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2ReferenceIdeal [hDw2ReferenceIdeal : Cert.Dw2ReferenceIdeal.Facts] : Prop :=
  ∀ (m : (ℓ : Loc Cert.Dw2ReferenceIdeal.nD Cert.Dw2ReferenceIdeal.τ Cert.Dw2ReferenceIdeal.sig) → Buf (Elt Ideal) ℓ) (g : Dev Cert.Dw2ReferenceIdeal.nD → PrngReg), Pre_Dw2ReferenceIdeal m →
    θ_run (Cert.Dw2ReferenceIdeal.defs (F := Ideal)) (onTc (τ := Cert.Dw2ReferenceIdeal.τ) (Cert.Dw2ReferenceIdeal.main (F := Ideal))) ⟨m, fun _ => 0, g⟩ (fun r => (∀ c : Dev Cert.Dw2ReferenceIdeal.nD,
      r.2.mem ((c.tc : Thread Cert.Dw2ReferenceIdeal.nD Cert.Dw2ReferenceIdeal.τ).loc Cert.Dw2ReferenceIdeal.main_arg0) = m ((c.tc : Thread Cert.Dw2ReferenceIdeal.nD Cert.Dw2ReferenceIdeal.τ).loc Cert.Dw2ReferenceIdeal.main_arg0)
      ∧ r.2.mem ((c.tc : Thread Cert.Dw2ReferenceIdeal.nD Cert.Dw2ReferenceIdeal.τ).loc Cert.Dw2ReferenceIdeal.main_arg1) = m ((c.tc : Thread Cert.Dw2ReferenceIdeal.nD Cert.Dw2ReferenceIdeal.τ).loc Cert.Dw2ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ r.2.sem = fun _ => 0)

def quiescent_GateProjReferenceIdeal [hGateProjReferenceIdeal : Cert.GateProjReferenceIdeal.Facts] : Prop :=
  ∀ (m : (ℓ : Loc Cert.GateProjReferenceIdeal.nD Cert.GateProjReferenceIdeal.τ Cert.GateProjReferenceIdeal.sig) → Buf (Elt Ideal) ℓ) (g : Dev Cert.GateProjReferenceIdeal.nD → PrngReg), Pre_GateProjReferenceIdeal m →
    θ_run (Cert.GateProjReferenceIdeal.defs (F := Ideal)) (onTc (τ := Cert.GateProjReferenceIdeal.τ) (Cert.GateProjReferenceIdeal.main (F := Ideal))) ⟨m, fun _ => 0, g⟩ (fun r => (∀ c : Dev Cert.GateProjReferenceIdeal.nD,
      r.2.mem ((c.tc : Thread Cert.GateProjReferenceIdeal.nD Cert.GateProjReferenceIdeal.τ).loc Cert.GateProjReferenceIdeal.main_arg0) = m ((c.tc : Thread Cert.GateProjReferenceIdeal.nD Cert.GateProjReferenceIdeal.τ).loc Cert.GateProjReferenceIdeal.main_arg0)
      ∧ r.2.mem ((c.tc : Thread Cert.GateProjReferenceIdeal.nD Cert.GateProjReferenceIdeal.τ).loc Cert.GateProjReferenceIdeal.main_arg1) = m ((c.tc : Thread Cert.GateProjReferenceIdeal.nD Cert.GateProjReferenceIdeal.τ).loc Cert.GateProjReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ r.2.sem = fun _ => 0)

def quiescent_DhInReferenceIdeal [hDhInReferenceIdeal : Cert.DhInReferenceIdeal.Facts] : Prop :=
  ∀ (m : (ℓ : Loc Cert.DhInReferenceIdeal.nD Cert.DhInReferenceIdeal.τ Cert.DhInReferenceIdeal.sig) → Buf (Elt Ideal) ℓ) (g : Dev Cert.DhInReferenceIdeal.nD → PrngReg), Pre_DhInReferenceIdeal m →
    θ_run (Cert.DhInReferenceIdeal.defs (F := Ideal)) (onTc (τ := Cert.DhInReferenceIdeal.τ) (Cert.DhInReferenceIdeal.main (F := Ideal))) ⟨m, fun _ => 0, g⟩ (fun r => (∀ c : Dev Cert.DhInReferenceIdeal.nD,
      r.2.mem ((c.tc : Thread Cert.DhInReferenceIdeal.nD Cert.DhInReferenceIdeal.τ).loc Cert.DhInReferenceIdeal.main_arg0) = m ((c.tc : Thread Cert.DhInReferenceIdeal.nD Cert.DhInReferenceIdeal.τ).loc Cert.DhInReferenceIdeal.main_arg0)
      ∧ r.2.mem ((c.tc : Thread Cert.DhInReferenceIdeal.nD Cert.DhInReferenceIdeal.τ).loc Cert.DhInReferenceIdeal.main_arg1) = m ((c.tc : Thread Cert.DhInReferenceIdeal.nD Cert.DhInReferenceIdeal.τ).loc Cert.DhInReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_DhGate [hDhGate : Cert.DhGate.Facts] : Prop :=
  ∀ (m : (ℓ : Loc Cert.DhGate.nD Cert.DhGate.τ Cert.DhGate.sig) → Buf (Elt Bits) ℓ) (g : Dev Cert.DhGate.nD → PrngReg), Pre_DhGate m →
    θ_run (Cert.DhGate.defs (F := Bits)) (onTc (τ := Cert.DhGate.τ) (Cert.DhGate.main (F := Bits))) ⟨m, fun _ => 0, g⟩ (fun r => (∀ c : Dev Cert.DhGate.nD,
      r.2.mem ((c.tc : Thread Cert.DhGate.nD Cert.DhGate.τ).loc Cert.DhGate.main_arg0) = m ((c.tc : Thread Cert.DhGate.nD Cert.DhGate.τ).loc Cert.DhGate.main_arg0)
      ∧ r.2.mem ((c.tc : Thread Cert.DhGate.nD Cert.DhGate.τ).loc Cert.DhGate.main_arg1) = m ((c.tc : Thread Cert.DhGate.nD Cert.DhGate.τ).loc Cert.DhGate.main_arg1)
      ∧ r.2.mem ((c.tc : Thread Cert.DhGate.nD Cert.DhGate.τ).loc Cert.DhGate.main_arg2) = m ((c.tc : Thread Cert.DhGate.nD Cert.DhGate.τ).loc Cert.DhGate.main_arg2)
      ∧ r.2.mem ((c.tc : Thread Cert.DhGate.nD Cert.DhGate.τ).loc Cert.DhGate.main_arg3) = m ((c.tc : Thread Cert.DhGate.nD Cert.DhGate.τ).loc Cert.DhGate.main_arg3)
      ∧ r.2.mem ((c.tc : Thread Cert.DhGate.nD Cert.DhGate.τ).loc Cert.DhGate.main_arg4) = m ((c.tc : Thread Cert.DhGate.nD Cert.DhGate.τ).loc Cert.DhGate.main_arg4)
      ∧ r.2.mem ((c.tc : Thread Cert.DhGate.nD Cert.DhGate.τ).loc Cert.DhGate.main_arg5) = m ((c.tc : Thread Cert.DhGate.nD Cert.DhGate.τ).loc Cert.DhGate.main_arg5))
      ∧ r.2.sem = fun _ => 0)

def quiescent_DhGateIdeal [hDhGateIdeal : Cert.DhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
      ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2)
      ∧ r.2.mem ((c.tc : Thread Cert.DhGateIdeal.nD Cert.DhGateIdeal.τ).loc Cert.DhGateIdeal.main_arg3) = m ((c.tc : Thread Cert.DhGateIdeal.nD Cert.DhGateIdeal.τ).loc Cert.DhGateIdeal.main_arg3)
      ∧ r.2.mem ((c.tc : Thread Cert.DhGateIdeal.nD Cert.DhGateIdeal.τ).loc Cert.DhGateIdeal.main_arg4) = m ((c.tc : Thread Cert.DhGateIdeal.nD Cert.DhGateIdeal.τ).loc Cert.DhGateIdeal.main_arg4)
      ∧ r.2.mem ((c.tc : Thread Cert.DhGateIdeal.nD Cert.DhGateIdeal.τ).loc Cert.DhGateIdeal.main_arg5) = m ((c.tc : Thread Cert.DhGateIdeal.nD Cert.DhGateIdeal.τ).loc Cert.DhGateIdeal.main_arg5))
      ∧ r.2.sem = fun _ => 0)

def quiescent_DhGateReferenceIdeal [hDhGateReferenceIdeal : Cert.DhGateReferenceIdeal.Facts] : Prop :=
  ∀ (m : (ℓ : Loc Cert.DhGateReferenceIdeal.nD Cert.DhGateReferenceIdeal.τ Cert.DhGateReferenceIdeal.sig) → Buf (Elt Ideal) ℓ) (g : Dev Cert.DhGateReferenceIdeal.nD → PrngReg), Pre_DhGateReferenceIdeal m →
    θ_run (Cert.DhGateReferenceIdeal.defs (F := Ideal)) (onTc (τ := Cert.DhGateReferenceIdeal.τ) (Cert.DhGateReferenceIdeal.main (F := Ideal))) ⟨m, fun _ => 0, g⟩ (fun r => (∀ c : Dev Cert.DhGateReferenceIdeal.nD,
      r.2.mem ((c.tc : Thread Cert.DhGateReferenceIdeal.nD Cert.DhGateReferenceIdeal.τ).loc Cert.DhGateReferenceIdeal.main_arg0) = m ((c.tc : Thread Cert.DhGateReferenceIdeal.nD Cert.DhGateReferenceIdeal.τ).loc Cert.DhGateReferenceIdeal.main_arg0)
      ∧ r.2.mem ((c.tc : Thread Cert.DhGateReferenceIdeal.nD Cert.DhGateReferenceIdeal.τ).loc Cert.DhGateReferenceIdeal.main_arg1) = m ((c.tc : Thread Cert.DhGateReferenceIdeal.nD Cert.DhGateReferenceIdeal.τ).loc Cert.DhGateReferenceIdeal.main_arg1)
      ∧ r.2.mem ((c.tc : Thread Cert.DhGateReferenceIdeal.nD Cert.DhGateReferenceIdeal.τ).loc Cert.DhGateReferenceIdeal.main_arg2) = m ((c.tc : Thread Cert.DhGateReferenceIdeal.nD Cert.DhGateReferenceIdeal.τ).loc Cert.DhGateReferenceIdeal.main_arg2)
      ∧ r.2.mem ((c.tc : Thread Cert.DhGateReferenceIdeal.nD Cert.DhGateReferenceIdeal.τ).loc Cert.DhGateReferenceIdeal.main_arg3) = m ((c.tc : Thread Cert.DhGateReferenceIdeal.nD Cert.DhGateReferenceIdeal.τ).loc Cert.DhGateReferenceIdeal.main_arg3)
      ∧ r.2.mem ((c.tc : Thread Cert.DhGateReferenceIdeal.nD Cert.DhGateReferenceIdeal.τ).loc Cert.DhGateReferenceIdeal.main_arg4) = m ((c.tc : Thread Cert.DhGateReferenceIdeal.nD Cert.DhGateReferenceIdeal.τ).loc Cert.DhGateReferenceIdeal.main_arg4)
      ∧ r.2.mem ((c.tc : Thread Cert.DhGateReferenceIdeal.nD Cert.DhGateReferenceIdeal.τ).loc Cert.DhGateReferenceIdeal.main_arg5) = m ((c.tc : Thread Cert.DhGateReferenceIdeal.nD Cert.DhGateReferenceIdeal.τ).loc Cert.DhGateReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedReferenceIdeal [hDMergedReferenceIdeal : Cert.DMergedReferenceIdeal.Facts] : Prop :=
  ∀ (m : (ℓ : Loc Cert.DMergedReferenceIdeal.nD Cert.DMergedReferenceIdeal.τ Cert.DMergedReferenceIdeal.sig) → Buf (Elt Ideal) ℓ) (g : Dev Cert.DMergedReferenceIdeal.nD → PrngReg), Pre_DMergedReferenceIdeal m →
    θ_run (Cert.DMergedReferenceIdeal.defs (F := Ideal)) (onTc (τ := Cert.DMergedReferenceIdeal.τ) (Cert.DMergedReferenceIdeal.main (F := Ideal))) ⟨m, fun _ => 0, g⟩ (fun r => (∀ c : Dev Cert.DMergedReferenceIdeal.nD,
      r.2.mem ((c.tc : Thread Cert.DMergedReferenceIdeal.nD Cert.DMergedReferenceIdeal.τ).loc Cert.DMergedReferenceIdeal.main_arg0) = m ((c.tc : Thread Cert.DMergedReferenceIdeal.nD Cert.DMergedReferenceIdeal.τ).loc Cert.DMergedReferenceIdeal.main_arg0)
      ∧ r.2.mem ((c.tc : Thread Cert.DMergedReferenceIdeal.nD Cert.DMergedReferenceIdeal.τ).loc Cert.DMergedReferenceIdeal.main_arg1) = m ((c.tc : Thread Cert.DMergedReferenceIdeal.nD Cert.DMergedReferenceIdeal.τ).loc Cert.DMergedReferenceIdeal.main_arg1))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ r.2.sem = fun _ => 0)

def quiescent_SbOutReferenceIdeal [hSbOutReferenceIdeal : Cert.SbOutReferenceIdeal.Facts] : Prop :=
  ∀ (m : (ℓ : Loc Cert.SbOutReferenceIdeal.nD Cert.SbOutReferenceIdeal.τ Cert.SbOutReferenceIdeal.sig) → Buf (Elt Ideal) ℓ) (g : Dev Cert.SbOutReferenceIdeal.nD → PrngReg), Pre_SbOutReferenceIdeal m →
    θ_run (Cert.SbOutReferenceIdeal.defs (F := Ideal)) (onTc (τ := Cert.SbOutReferenceIdeal.τ) (Cert.SbOutReferenceIdeal.main (F := Ideal))) ⟨m, fun _ => 0, g⟩ (fun r => (∀ c : Dev Cert.SbOutReferenceIdeal.nD,
      r.2.mem ((c.tc : Thread Cert.SbOutReferenceIdeal.nD Cert.SbOutReferenceIdeal.τ).loc Cert.SbOutReferenceIdeal.main_arg0) = m ((c.tc : Thread Cert.SbOutReferenceIdeal.nD Cert.SbOutReferenceIdeal.τ).loc Cert.SbOutReferenceIdeal.main_arg0)
      ∧ r.2.mem ((c.tc : Thread Cert.SbOutReferenceIdeal.nD Cert.SbOutReferenceIdeal.τ).loc Cert.SbOutReferenceIdeal.main_arg1) = m ((c.tc : Thread Cert.SbOutReferenceIdeal.nD Cert.SbOutReferenceIdeal.τ).loc Cert.SbOutReferenceIdeal.main_arg1))
      ∧ r.2.sem = fun _ => 0)

def quiescent_DwSb [hDwSb : Cert.DwSb.Facts] : Prop :=
  ∀ (m : (ℓ : Loc Cert.DwSb.nD Cert.DwSb.τ Cert.DwSb.sig) → Buf (Elt Bits) ℓ) (g : Dev Cert.DwSb.nD → PrngReg), Pre_DwSb m →
    θ_run (Cert.DwSb.defs (F := Bits)) (onTc (τ := Cert.DwSb.τ) (Cert.DwSb.main (F := Bits))) ⟨m, fun _ => 0, g⟩ (fun r => (∀ c : Dev Cert.DwSb.nD,
      r.2.mem ((c.tc : Thread Cert.DwSb.nD Cert.DwSb.τ).loc Cert.DwSb.main_arg0) = m ((c.tc : Thread Cert.DwSb.nD Cert.DwSb.τ).loc Cert.DwSb.main_arg0)
      ∧ r.2.mem ((c.tc : Thread Cert.DwSb.nD Cert.DwSb.τ).loc Cert.DwSb.main_arg1) = m ((c.tc : Thread Cert.DwSb.nD Cert.DwSb.τ).loc Cert.DwSb.main_arg1))
      ∧ r.2.sem = fun _ => 0)

def quiescent_DwSbIdeal [hDwSbIdeal : Cert.DwSbIdeal.Facts] : Prop :=
  ∀ (m : (ℓ : Loc Cert.DwSbIdeal.nD Cert.DwSbIdeal.τ Cert.DwSbIdeal.sig) → Buf (Elt Ideal) ℓ) (g : Dev Cert.DwSbIdeal.nD → PrngReg), Pre_DwSbIdeal m →
    θ_run (Cert.DwSbIdeal.defs (F := Ideal)) (onTc (τ := Cert.DwSbIdeal.τ) (Cert.DwSbIdeal.main (F := Ideal))) ⟨m, fun _ => 0, g⟩ (fun r => (∀ c : Dev Cert.DwSbIdeal.nD,
      r.2.mem ((c.tc : Thread Cert.DwSbIdeal.nD Cert.DwSbIdeal.τ).loc Cert.DwSbIdeal.main_arg0) = m ((c.tc : Thread Cert.DwSbIdeal.nD Cert.DwSbIdeal.τ).loc Cert.DwSbIdeal.main_arg0)
      ∧ r.2.mem ((c.tc : Thread Cert.DwSbIdeal.nD Cert.DwSbIdeal.τ).loc Cert.DwSbIdeal.main_arg1) = m ((c.tc : Thread Cert.DwSbIdeal.nD Cert.DwSbIdeal.τ).loc Cert.DwSbIdeal.main_arg1))
      ∧ r.2.sem = fun _ => 0)

def quiescent_DwSbReferenceIdeal [hDwSbReferenceIdeal : Cert.DwSbReferenceIdeal.Facts] : Prop :=
  ∀ (m : (ℓ : Loc Cert.DwSbReferenceIdeal.nD Cert.DwSbReferenceIdeal.τ Cert.DwSbReferenceIdeal.sig) → Buf (Elt Ideal) ℓ) (g : Dev Cert.DwSbReferenceIdeal.nD → PrngReg), Pre_DwSbReferenceIdeal m →
    θ_run (Cert.DwSbReferenceIdeal.defs (F := Ideal)) (onTc (τ := Cert.DwSbReferenceIdeal.τ) (Cert.DwSbReferenceIdeal.main (F := Ideal))) ⟨m, fun _ => 0, g⟩ (fun r => (∀ c : Dev Cert.DwSbReferenceIdeal.nD,
      r.2.mem ((c.tc : Thread Cert.DwSbReferenceIdeal.nD Cert.DwSbReferenceIdeal.τ).loc Cert.DwSbReferenceIdeal.main_arg0) = m ((c.tc : Thread Cert.DwSbReferenceIdeal.nD Cert.DwSbReferenceIdeal.τ).loc Cert.DwSbReferenceIdeal.main_arg0)
      ∧ r.2.mem ((c.tc : Thread Cert.DwSbReferenceIdeal.nD Cert.DwSbReferenceIdeal.τ).loc Cert.DwSbReferenceIdeal.main_arg1) = m ((c.tc : Thread Cert.DwSbReferenceIdeal.nD Cert.DwSbReferenceIdeal.τ).loc Cert.DwSbReferenceIdeal.main_arg1))
      ∧ r.2.sem = fun _ => 0)

def quiescent_DOa [hDOa : Cert.DOa.Facts] : Prop :=
  ∀ (m : (ℓ : Loc Cert.DOa.nD Cert.DOa.τ Cert.DOa.sig) → Buf (Elt Bits) ℓ) (g : Dev Cert.DOa.nD → PrngReg), Pre_DOa m →
    θ_run (Cert.DOa.defs (F := Bits)) (onTc (τ := Cert.DOa.τ) (Cert.DOa.main (F := Bits))) ⟨m, fun _ => 0, g⟩ (fun r => (∀ c : Dev Cert.DOa.nD,
      r.2.mem ((c.tc : Thread Cert.DOa.nD Cert.DOa.τ).loc Cert.DOa.main_arg0) = m ((c.tc : Thread Cert.DOa.nD Cert.DOa.τ).loc Cert.DOa.main_arg0)
      ∧ r.2.mem ((c.tc : Thread Cert.DOa.nD Cert.DOa.τ).loc Cert.DOa.main_arg1) = m ((c.tc : Thread Cert.DOa.nD Cert.DOa.τ).loc Cert.DOa.main_arg1))
      ∧ r.2.sem = fun _ => 0)

def quiescent_DOaIdeal [hDOaIdeal : Cert.DOaIdeal.Facts] : Prop :=
  ∀ (m : (ℓ : Loc Cert.DOaIdeal.nD Cert.DOaIdeal.τ Cert.DOaIdeal.sig) → Buf (Elt Ideal) ℓ) (g : Dev Cert.DOaIdeal.nD → PrngReg), Pre_DOaIdeal m →
    θ_run (Cert.DOaIdeal.defs (F := Ideal)) (onTc (τ := Cert.DOaIdeal.τ) (Cert.DOaIdeal.main (F := Ideal))) ⟨m, fun _ => 0, g⟩ (fun r => (∀ c : Dev Cert.DOaIdeal.nD,
      r.2.mem ((c.tc : Thread Cert.DOaIdeal.nD Cert.DOaIdeal.τ).loc Cert.DOaIdeal.main_arg0) = m ((c.tc : Thread Cert.DOaIdeal.nD Cert.DOaIdeal.τ).loc Cert.DOaIdeal.main_arg0)
      ∧ r.2.mem ((c.tc : Thread Cert.DOaIdeal.nD Cert.DOaIdeal.τ).loc Cert.DOaIdeal.main_arg1) = m ((c.tc : Thread Cert.DOaIdeal.nD Cert.DOaIdeal.τ).loc Cert.DOaIdeal.main_arg1))
      ∧ r.2.sem = fun _ => 0)

def quiescent_DOaReferenceIdeal [hDOaReferenceIdeal : Cert.DOaReferenceIdeal.Facts] : Prop :=
  ∀ (m : (ℓ : Loc Cert.DOaReferenceIdeal.nD Cert.DOaReferenceIdeal.τ Cert.DOaReferenceIdeal.sig) → Buf (Elt Ideal) ℓ) (g : Dev Cert.DOaReferenceIdeal.nD → PrngReg), Pre_DOaReferenceIdeal m →
    θ_run (Cert.DOaReferenceIdeal.defs (F := Ideal)) (onTc (τ := Cert.DOaReferenceIdeal.τ) (Cert.DOaReferenceIdeal.main (F := Ideal))) ⟨m, fun _ => 0, g⟩ (fun r => (∀ c : Dev Cert.DOaReferenceIdeal.nD,
      r.2.mem ((c.tc : Thread Cert.DOaReferenceIdeal.nD Cert.DOaReferenceIdeal.τ).loc Cert.DOaReferenceIdeal.main_arg0) = m ((c.tc : Thread Cert.DOaReferenceIdeal.nD Cert.DOaReferenceIdeal.τ).loc Cert.DOaReferenceIdeal.main_arg0)
      ∧ r.2.mem ((c.tc : Thread Cert.DOaReferenceIdeal.nD Cert.DOaReferenceIdeal.τ).loc Cert.DOaReferenceIdeal.main_arg1) = m ((c.tc : Thread Cert.DOaReferenceIdeal.nD Cert.DOaReferenceIdeal.τ).loc Cert.DOaReferenceIdeal.main_arg1))
      ∧ r.2.sem = fun _ => 0)

def quiescent_DsaOut [hDsaOut : Cert.DsaOut.Facts] : Prop :=
  ∀ (m : (ℓ : Loc Cert.DsaOut.nD Cert.DsaOut.τ Cert.DsaOut.sig) → Buf (Elt Bits) ℓ) (g : Dev Cert.DsaOut.nD → PrngReg), Pre_DsaOut m →
    θ_run (Cert.DsaOut.defs (F := Bits)) (onTc (τ := Cert.DsaOut.τ) (Cert.DsaOut.main (F := Bits))) ⟨m, fun _ => 0, g⟩ (fun r => (∀ c : Dev Cert.DsaOut.nD,
      r.2.mem ((c.tc : Thread Cert.DsaOut.nD Cert.DsaOut.τ).loc Cert.DsaOut.main_arg0) = m ((c.tc : Thread Cert.DsaOut.nD Cert.DsaOut.τ).loc Cert.DsaOut.main_arg0)
      ∧ r.2.mem ((c.tc : Thread Cert.DsaOut.nD Cert.DsaOut.τ).loc Cert.DsaOut.main_arg1) = m ((c.tc : Thread Cert.DsaOut.nD Cert.DsaOut.τ).loc Cert.DsaOut.main_arg1))
      ∧ r.2.sem = fun _ => 0)

def quiescent_DsaOutIdeal [hDsaOutIdeal : Cert.DsaOutIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg), Pre_DsaOutIdeal m →
    θ_run (Cert.DsaOutIdeal.defs (F := Ideal)) (onTc (τ := Cert.DsaOutIdeal.τ) (Cert.DsaOutIdeal.main (F := Ideal))) ⟨m, fun _ => 0, g⟩ (fun r => (∀ c : Dev Cert.DsaOutIdeal.nD,
      r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
      ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1))
      ∧ r.2.sem = fun _ => 0)

def quiescent_DsaOutReferenceIdeal [hDsaOutReferenceIdeal : Cert.DsaOutReferenceIdeal.Facts] : Prop :=
  ∀ (m : (ℓ : Loc Cert.DsaOutReferenceIdeal.nD Cert.DsaOutReferenceIdeal.τ Cert.DsaOutReferenceIdeal.sig) → Buf (Elt Ideal) ℓ) (g : Dev Cert.DsaOutReferenceIdeal.nD → PrngReg), Pre_DsaOutReferenceIdeal m →
    θ_run (Cert.DsaOutReferenceIdeal.defs (F := Ideal)) (onTc (τ := Cert.DsaOutReferenceIdeal.τ) (Cert.DsaOutReferenceIdeal.main (F := Ideal))) ⟨m, fun _ => 0, g⟩ (fun r => (∀ c : Dev Cert.DsaOutReferenceIdeal.nD,
      r.2.mem ((c.tc : Thread Cert.DsaOutReferenceIdeal.nD Cert.DsaOutReferenceIdeal.τ).loc Cert.DsaOutReferenceIdeal.main_arg0) = m ((c.tc : Thread Cert.DsaOutReferenceIdeal.nD Cert.DsaOutReferenceIdeal.τ).loc Cert.DsaOutReferenceIdeal.main_arg0)
      ∧ r.2.mem ((c.tc : Thread Cert.DsaOutReferenceIdeal.nD Cert.DsaOutReferenceIdeal.τ).loc Cert.DsaOutReferenceIdeal.main_arg1) = m ((c.tc : Thread Cert.DsaOutReferenceIdeal.nD Cert.DsaOutReferenceIdeal.τ).loc Cert.DsaOutReferenceIdeal.main_arg1))
      ∧ r.2.sem = fun _ => 0)

def quiescent_DwDsa [hDwDsa : Cert.DwDsa.Facts] : Prop :=
  ∀ (m : (ℓ : Loc Cert.DwDsa.nD Cert.DwDsa.τ Cert.DwDsa.sig) → Buf (Elt Bits) ℓ) (g : Dev Cert.DwDsa.nD → PrngReg), Pre_DwDsa m →
    θ_run (Cert.DwDsa.defs (F := Bits)) (onTc (τ := Cert.DwDsa.τ) (Cert.DwDsa.main (F := Bits))) ⟨m, fun _ => 0, g⟩ (fun r => (∀ c : Dev Cert.DwDsa.nD,
      r.2.mem ((c.tc : Thread Cert.DwDsa.nD Cert.DwDsa.τ).loc Cert.DwDsa.main_arg0) = m ((c.tc : Thread Cert.DwDsa.nD Cert.DwDsa.τ).loc Cert.DwDsa.main_arg0)
      ∧ r.2.mem ((c.tc : Thread Cert.DwDsa.nD Cert.DwDsa.τ).loc Cert.DwDsa.main_arg1) = m ((c.tc : Thread Cert.DwDsa.nD Cert.DwDsa.τ).loc Cert.DwDsa.main_arg1))
      ∧ r.2.sem = fun _ => 0)

def quiescent_DwDsaIdeal [hDwDsaIdeal : Cert.DwDsaIdeal.Facts] : Prop :=
  ∀ (m : (ℓ : Loc Cert.DwDsaIdeal.nD Cert.DwDsaIdeal.τ Cert.DwDsaIdeal.sig) → Buf (Elt Ideal) ℓ) (g : Dev Cert.DwDsaIdeal.nD → PrngReg), Pre_DwDsaIdeal m →
    θ_run (Cert.DwDsaIdeal.defs (F := Ideal)) (onTc (τ := Cert.DwDsaIdeal.τ) (Cert.DwDsaIdeal.main (F := Ideal))) ⟨m, fun _ => 0, g⟩ (fun r => (∀ c : Dev Cert.DwDsaIdeal.nD,
      r.2.mem ((c.tc : Thread Cert.DwDsaIdeal.nD Cert.DwDsaIdeal.τ).loc Cert.DwDsaIdeal.main_arg0) = m ((c.tc : Thread Cert.DwDsaIdeal.nD Cert.DwDsaIdeal.τ).loc Cert.DwDsaIdeal.main_arg0)
      ∧ r.2.mem ((c.tc : Thread Cert.DwDsaIdeal.nD Cert.DwDsaIdeal.τ).loc Cert.DwDsaIdeal.main_arg1) = m ((c.tc : Thread Cert.DwDsaIdeal.nD Cert.DwDsaIdeal.τ).loc Cert.DwDsaIdeal.main_arg1))
      ∧ r.2.sem = fun _ => 0)

def quiescent_DwDsaReferenceIdeal [hDwDsaReferenceIdeal : Cert.DwDsaReferenceIdeal.Facts] : Prop :=
  ∀ (m : (ℓ : Loc Cert.DwDsaReferenceIdeal.nD Cert.DwDsaReferenceIdeal.τ Cert.DwDsaReferenceIdeal.sig) → Buf (Elt Ideal) ℓ) (g : Dev Cert.DwDsaReferenceIdeal.nD → PrngReg), Pre_DwDsaReferenceIdeal m →
    θ_run (Cert.DwDsaReferenceIdeal.defs (F := Ideal)) (onTc (τ := Cert.DwDsaReferenceIdeal.τ) (Cert.DwDsaReferenceIdeal.main (F := Ideal))) ⟨m, fun _ => 0, g⟩ (fun r => (∀ c : Dev Cert.DwDsaReferenceIdeal.nD,
      r.2.mem ((c.tc : Thread Cert.DwDsaReferenceIdeal.nD Cert.DwDsaReferenceIdeal.τ).loc Cert.DwDsaReferenceIdeal.main_arg0) = m ((c.tc : Thread Cert.DwDsaReferenceIdeal.nD Cert.DwDsaReferenceIdeal.τ).loc Cert.DwDsaReferenceIdeal.main_arg0)
      ∧ r.2.mem ((c.tc : Thread Cert.DwDsaReferenceIdeal.nD Cert.DwDsaReferenceIdeal.τ).loc Cert.DwDsaReferenceIdeal.main_arg1) = m ((c.tc : Thread Cert.DwDsaReferenceIdeal.nD Cert.DwDsaReferenceIdeal.τ).loc Cert.DwDsaReferenceIdeal.main_arg1))
      ∧ r.2.sem = fun _ => 0)

def quiescent_DOb [hDOb : Cert.DOb.Facts] : Prop :=
  ∀ (m : (ℓ : Loc Cert.DOb.nD Cert.DOb.τ Cert.DOb.sig) → Buf (Elt Bits) ℓ) (g : Dev Cert.DOb.nD → PrngReg), Pre_DOb m →
    θ_run (Cert.DOb.defs (F := Bits)) (onTc (τ := Cert.DOb.τ) (Cert.DOb.main (F := Bits))) ⟨m, fun _ => 0, g⟩ (fun r => (∀ c : Dev Cert.DOb.nD,
      r.2.mem ((c.tc : Thread Cert.DOb.nD Cert.DOb.τ).loc Cert.DOb.main_arg0) = m ((c.tc : Thread Cert.DOb.nD Cert.DOb.τ).loc Cert.DOb.main_arg0)
      ∧ r.2.mem ((c.tc : Thread Cert.DOb.nD Cert.DOb.τ).loc Cert.DOb.main_arg1) = m ((c.tc : Thread Cert.DOb.nD Cert.DOb.τ).loc Cert.DOb.main_arg1))
      ∧ r.2.sem = fun _ => 0)

def quiescent_DObIdeal [hDObIdeal : Cert.DObIdeal.Facts] : Prop :=
  ∀ (m : (ℓ : Loc Cert.DObIdeal.nD Cert.DObIdeal.τ Cert.DObIdeal.sig) → Buf (Elt Ideal) ℓ) (g : Dev Cert.DObIdeal.nD → PrngReg), Pre_DObIdeal m →
    θ_run (Cert.DObIdeal.defs (F := Ideal)) (onTc (τ := Cert.DObIdeal.τ) (Cert.DObIdeal.main (F := Ideal))) ⟨m, fun _ => 0, g⟩ (fun r => (∀ c : Dev Cert.DObIdeal.nD,
      r.2.mem ((c.tc : Thread Cert.DObIdeal.nD Cert.DObIdeal.τ).loc Cert.DObIdeal.main_arg0) = m ((c.tc : Thread Cert.DObIdeal.nD Cert.DObIdeal.τ).loc Cert.DObIdeal.main_arg0)
      ∧ r.2.mem ((c.tc : Thread Cert.DObIdeal.nD Cert.DObIdeal.τ).loc Cert.DObIdeal.main_arg1) = m ((c.tc : Thread Cert.DObIdeal.nD Cert.DObIdeal.τ).loc Cert.DObIdeal.main_arg1))
      ∧ r.2.sem = fun _ => 0)

def quiescent_DObReferenceIdeal [hDObReferenceIdeal : Cert.DObReferenceIdeal.Facts] : Prop :=
  ∀ (m : (ℓ : Loc Cert.DObReferenceIdeal.nD Cert.DObReferenceIdeal.τ Cert.DObReferenceIdeal.sig) → Buf (Elt Ideal) ℓ) (g : Dev Cert.DObReferenceIdeal.nD → PrngReg), Pre_DObReferenceIdeal m →
    θ_run (Cert.DObReferenceIdeal.defs (F := Ideal)) (onTc (τ := Cert.DObReferenceIdeal.τ) (Cert.DObReferenceIdeal.main (F := Ideal))) ⟨m, fun _ => 0, g⟩ (fun r => (∀ c : Dev Cert.DObReferenceIdeal.nD,
      r.2.mem ((c.tc : Thread Cert.DObReferenceIdeal.nD Cert.DObReferenceIdeal.τ).loc Cert.DObReferenceIdeal.main_arg0) = m ((c.tc : Thread Cert.DObReferenceIdeal.nD Cert.DObReferenceIdeal.τ).loc Cert.DObReferenceIdeal.main_arg0)
      ∧ r.2.mem ((c.tc : Thread Cert.DObReferenceIdeal.nD Cert.DObReferenceIdeal.τ).loc Cert.DObReferenceIdeal.main_arg1) = m ((c.tc : Thread Cert.DObReferenceIdeal.nD Cert.DObReferenceIdeal.τ).loc Cert.DObReferenceIdeal.main_arg1))
      ∧ r.2.sem = fun _ => 0)

def quiescent_DOc [hDOc : Cert.DOc.Facts] : Prop :=
  ∀ (m : (ℓ : Loc Cert.DOc.nD Cert.DOc.τ Cert.DOc.sig) → Buf (Elt Bits) ℓ) (g : Dev Cert.DOc.nD → PrngReg), Pre_DOc m →
    θ_run (Cert.DOc.defs (F := Bits)) (onTc (τ := Cert.DOc.τ) (Cert.DOc.main (F := Bits))) ⟨m, fun _ => 0, g⟩ (fun r => (∀ c : Dev Cert.DOc.nD,
      r.2.mem ((c.tc : Thread Cert.DOc.nD Cert.DOc.τ).loc Cert.DOc.main_arg0) = m ((c.tc : Thread Cert.DOc.nD Cert.DOc.τ).loc Cert.DOc.main_arg0)
      ∧ r.2.mem ((c.tc : Thread Cert.DOc.nD Cert.DOc.τ).loc Cert.DOc.main_arg1) = m ((c.tc : Thread Cert.DOc.nD Cert.DOc.τ).loc Cert.DOc.main_arg1))
      ∧ r.2.sem = fun _ => 0)

def quiescent_DOcIdeal [hDOcIdeal : Cert.DOcIdeal.Facts] : Prop :=
  ∀ (m : (ℓ : Loc Cert.DOcIdeal.nD Cert.DOcIdeal.τ Cert.DOcIdeal.sig) → Buf (Elt Ideal) ℓ) (g : Dev Cert.DOcIdeal.nD → PrngReg), Pre_DOcIdeal m →
    θ_run (Cert.DOcIdeal.defs (F := Ideal)) (onTc (τ := Cert.DOcIdeal.τ) (Cert.DOcIdeal.main (F := Ideal))) ⟨m, fun _ => 0, g⟩ (fun r => (∀ c : Dev Cert.DOcIdeal.nD,
      r.2.mem ((c.tc : Thread Cert.DOcIdeal.nD Cert.DOcIdeal.τ).loc Cert.DOcIdeal.main_arg0) = m ((c.tc : Thread Cert.DOcIdeal.nD Cert.DOcIdeal.τ).loc Cert.DOcIdeal.main_arg0)
      ∧ r.2.mem ((c.tc : Thread Cert.DOcIdeal.nD Cert.DOcIdeal.τ).loc Cert.DOcIdeal.main_arg1) = m ((c.tc : Thread Cert.DOcIdeal.nD Cert.DOcIdeal.τ).loc Cert.DOcIdeal.main_arg1))
      ∧ r.2.sem = fun _ => 0)

def quiescent_DOcReferenceIdeal [hDOcReferenceIdeal : Cert.DOcReferenceIdeal.Facts] : Prop :=
  ∀ (m : (ℓ : Loc Cert.DOcReferenceIdeal.nD Cert.DOcReferenceIdeal.τ Cert.DOcReferenceIdeal.sig) → Buf (Elt Ideal) ℓ) (g : Dev Cert.DOcReferenceIdeal.nD → PrngReg), Pre_DOcReferenceIdeal m →
    θ_run (Cert.DOcReferenceIdeal.defs (F := Ideal)) (onTc (τ := Cert.DOcReferenceIdeal.τ) (Cert.DOcReferenceIdeal.main (F := Ideal))) ⟨m, fun _ => 0, g⟩ (fun r => (∀ c : Dev Cert.DOcReferenceIdeal.nD,
      r.2.mem ((c.tc : Thread Cert.DOcReferenceIdeal.nD Cert.DOcReferenceIdeal.τ).loc Cert.DOcReferenceIdeal.main_arg0) = m ((c.tc : Thread Cert.DOcReferenceIdeal.nD Cert.DOcReferenceIdeal.τ).loc Cert.DOcReferenceIdeal.main_arg0)
      ∧ r.2.mem ((c.tc : Thread Cert.DOcReferenceIdeal.nD Cert.DOcReferenceIdeal.τ).loc Cert.DOcReferenceIdeal.main_arg1) = m ((c.tc : Thread Cert.DOcReferenceIdeal.nD Cert.DOcReferenceIdeal.τ).loc Cert.DOcReferenceIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_MemRms [hMemRms : Cert.MemRms.Facts] : Prop :=
  ∀ (m : (ℓ : Loc Cert.MemRms.nD Cert.MemRms.τ Cert.MemRms.sig) → Buf (Elt Bits) ℓ) (g : Dev Cert.MemRms.nD → PrngReg), Pre_MemRms m →
    θ_run (Cert.MemRms.defs (F := Bits)) (onTc (τ := Cert.MemRms.τ) (Cert.MemRms.main (F := Bits))) ⟨m, fun _ => 0, g⟩ (fun r => (∀ c : Dev Cert.MemRms.nD,
      r.2.mem ((c.tc : Thread Cert.MemRms.nD Cert.MemRms.τ).loc Cert.MemRms.main_arg0) = m ((c.tc : Thread Cert.MemRms.nD Cert.MemRms.τ).loc Cert.MemRms.main_arg0)
      ∧ r.2.mem ((c.tc : Thread Cert.MemRms.nD Cert.MemRms.τ).loc Cert.MemRms.main_arg1) = m ((c.tc : Thread Cert.MemRms.nD Cert.MemRms.τ).loc Cert.MemRms.main_arg1))
      ∧ r.2.sem = fun _ => 0)

def quiescent_MemRmsIdeal [hMemRmsIdeal : Cert.MemRmsIdeal.Facts] : Prop :=
  ∀ (m : (ℓ : Loc Cert.MemRmsIdeal.nD Cert.MemRmsIdeal.τ Cert.MemRmsIdeal.sig) → Buf (Elt Ideal) ℓ) (g : Dev Cert.MemRmsIdeal.nD → PrngReg), Pre_MemRmsIdeal m →
    θ_run (Cert.MemRmsIdeal.defs (F := Ideal)) (onTc (τ := Cert.MemRmsIdeal.τ) (Cert.MemRmsIdeal.main (F := Ideal))) ⟨m, fun _ => 0, g⟩ (fun r => (∀ c : Dev Cert.MemRmsIdeal.nD,
      r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
      ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1))
      ∧ r.2.sem = fun _ => 0)

def quiescent_MemRmsReferenceIdeal [hMemRmsReferenceIdeal : Cert.MemRmsReferenceIdeal.Facts] : Prop :=
  ∀ (m : (ℓ : Loc Cert.MemRmsReferenceIdeal.nD Cert.MemRmsReferenceIdeal.τ Cert.MemRmsReferenceIdeal.sig) → Buf (Elt Ideal) ℓ) (g : Dev Cert.MemRmsReferenceIdeal.nD → PrngReg), Pre_MemRmsReferenceIdeal m →
    θ_run (Cert.MemRmsReferenceIdeal.defs (F := Ideal)) (onTc (τ := Cert.MemRmsReferenceIdeal.τ) (Cert.MemRmsReferenceIdeal.main (F := Ideal))) ⟨m, fun _ => 0, g⟩ (fun r => (∀ c : Dev Cert.MemRmsReferenceIdeal.nD,
      r.2.mem ((c.tc : Thread Cert.MemRmsReferenceIdeal.nD Cert.MemRmsReferenceIdeal.τ).loc Cert.MemRmsReferenceIdeal.main_arg0) = m ((c.tc : Thread Cert.MemRmsReferenceIdeal.nD Cert.MemRmsReferenceIdeal.τ).loc Cert.MemRmsReferenceIdeal.main_arg0)
      ∧ r.2.mem ((c.tc : Thread Cert.MemRmsReferenceIdeal.nD Cert.MemRmsReferenceIdeal.τ).loc Cert.MemRmsReferenceIdeal.main_arg1) = m ((c.tc : Thread Cert.MemRmsReferenceIdeal.nD Cert.MemRmsReferenceIdeal.τ).loc Cert.MemRmsReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_DwMemKv [hDwMemKv : Cert.DwMemKv.Facts] : Prop :=
  ∀ (m : (ℓ : Loc Cert.DwMemKv.nD Cert.DwMemKv.τ Cert.DwMemKv.sig) → Buf (Elt Bits) ℓ) (g : Dev Cert.DwMemKv.nD → PrngReg), Pre_DwMemKv m →
    θ_run (Cert.DwMemKv.defs (F := Bits)) (onTc (τ := Cert.DwMemKv.τ) (Cert.DwMemKv.main (F := Bits))) ⟨m, fun _ => 0, g⟩ (fun r => (∀ c : Dev Cert.DwMemKv.nD,
      r.2.mem ((c.tc : Thread Cert.DwMemKv.nD Cert.DwMemKv.τ).loc Cert.DwMemKv.main_arg0) = m ((c.tc : Thread Cert.DwMemKv.nD Cert.DwMemKv.τ).loc Cert.DwMemKv.main_arg0)
      ∧ r.2.mem ((c.tc : Thread Cert.DwMemKv.nD Cert.DwMemKv.τ).loc Cert.DwMemKv.main_arg1) = m ((c.tc : Thread Cert.DwMemKv.nD Cert.DwMemKv.τ).loc Cert.DwMemKv.main_arg1))
      ∧ r.2.sem = fun _ => 0)

def quiescent_DwMemKvIdeal [hDwMemKvIdeal : Cert.DwMemKvIdeal.Facts] : Prop :=
  ∀ (m : (ℓ : Loc Cert.DwMemKvIdeal.nD Cert.DwMemKvIdeal.τ Cert.DwMemKvIdeal.sig) → Buf (Elt Ideal) ℓ) (g : Dev Cert.DwMemKvIdeal.nD → PrngReg), Pre_DwMemKvIdeal m →
    θ_run (Cert.DwMemKvIdeal.defs (F := Ideal)) (onTc (τ := Cert.DwMemKvIdeal.τ) (Cert.DwMemKvIdeal.main (F := Ideal))) ⟨m, fun _ => 0, g⟩ (fun r => (∀ c : Dev Cert.DwMemKvIdeal.nD,
      r.2.mem ((c.tc : Thread Cert.DwMemKvIdeal.nD Cert.DwMemKvIdeal.τ).loc Cert.DwMemKvIdeal.main_arg0) = m ((c.tc : Thread Cert.DwMemKvIdeal.nD Cert.DwMemKvIdeal.τ).loc Cert.DwMemKvIdeal.main_arg0)
      ∧ r.2.mem ((c.tc : Thread Cert.DwMemKvIdeal.nD Cert.DwMemKvIdeal.τ).loc Cert.DwMemKvIdeal.main_arg1) = m ((c.tc : Thread Cert.DwMemKvIdeal.nD Cert.DwMemKvIdeal.τ).loc Cert.DwMemKvIdeal.main_arg1))
      ∧ r.2.sem = fun _ => 0)

def quiescent_DwMemKvReferenceIdeal [hDwMemKvReferenceIdeal : Cert.DwMemKvReferenceIdeal.Facts] : Prop :=
  ∀ (m : (ℓ : Loc Cert.DwMemKvReferenceIdeal.nD Cert.DwMemKvReferenceIdeal.τ Cert.DwMemKvReferenceIdeal.sig) → Buf (Elt Ideal) ℓ) (g : Dev Cert.DwMemKvReferenceIdeal.nD → PrngReg), Pre_DwMemKvReferenceIdeal m →
    θ_run (Cert.DwMemKvReferenceIdeal.defs (F := Ideal)) (onTc (τ := Cert.DwMemKvReferenceIdeal.τ) (Cert.DwMemKvReferenceIdeal.main (F := Ideal))) ⟨m, fun _ => 0, g⟩ (fun r => (∀ c : Dev Cert.DwMemKvReferenceIdeal.nD,
      r.2.mem ((c.tc : Thread Cert.DwMemKvReferenceIdeal.nD Cert.DwMemKvReferenceIdeal.τ).loc Cert.DwMemKvReferenceIdeal.main_arg0) = m ((c.tc : Thread Cert.DwMemKvReferenceIdeal.nD Cert.DwMemKvReferenceIdeal.τ).loc Cert.DwMemKvReferenceIdeal.main_arg0)
      ∧ r.2.mem ((c.tc : Thread Cert.DwMemKvReferenceIdeal.nD Cert.DwMemKvReferenceIdeal.τ).loc Cert.DwMemKvReferenceIdeal.main_arg1) = m ((c.tc : Thread Cert.DwMemKvReferenceIdeal.nD Cert.DwMemKvReferenceIdeal.τ).loc Cert.DwMemKvReferenceIdeal.main_arg1))
      ∧ r.2.sem = fun _ => 0)

def quiescent_DMemh [hDMemh : Cert.DMemh.Facts] : Prop :=
  ∀ (m : (ℓ : Loc Cert.DMemh.nD Cert.DMemh.τ Cert.DMemh.sig) → Buf (Elt Bits) ℓ) (g : Dev Cert.DMemh.nD → PrngReg), Pre_DMemh m →
    θ_run (Cert.DMemh.defs (F := Bits)) (onTc (τ := Cert.DMemh.τ) (Cert.DMemh.main (F := Bits))) ⟨m, fun _ => 0, g⟩ (fun r => (∀ c : Dev Cert.DMemh.nD,
      r.2.mem ((c.tc : Thread Cert.DMemh.nD Cert.DMemh.τ).loc Cert.DMemh.main_arg0) = m ((c.tc : Thread Cert.DMemh.nD Cert.DMemh.τ).loc Cert.DMemh.main_arg0)
      ∧ r.2.mem ((c.tc : Thread Cert.DMemh.nD Cert.DMemh.τ).loc Cert.DMemh.main_arg1) = m ((c.tc : Thread Cert.DMemh.nD Cert.DMemh.τ).loc Cert.DMemh.main_arg1))
      ∧ r.2.sem = fun _ => 0)

def quiescent_DMemhIdeal [hDMemhIdeal : Cert.DMemhIdeal.Facts] : Prop :=
  ∀ (m : (ℓ : Loc Cert.DMemhIdeal.nD Cert.DMemhIdeal.τ Cert.DMemhIdeal.sig) → Buf (Elt Ideal) ℓ) (g : Dev Cert.DMemhIdeal.nD → PrngReg), Pre_DMemhIdeal m →
    θ_run (Cert.DMemhIdeal.defs (F := Ideal)) (onTc (τ := Cert.DMemhIdeal.τ) (Cert.DMemhIdeal.main (F := Ideal))) ⟨m, fun _ => 0, g⟩ (fun r => (∀ c : Dev Cert.DMemhIdeal.nD,
      r.2.mem ((c.tc : Thread Cert.DMemhIdeal.nD Cert.DMemhIdeal.τ).loc Cert.DMemhIdeal.main_arg0) = m ((c.tc : Thread Cert.DMemhIdeal.nD Cert.DMemhIdeal.τ).loc Cert.DMemhIdeal.main_arg0)
      ∧ r.2.mem ((c.tc : Thread Cert.DMemhIdeal.nD Cert.DMemhIdeal.τ).loc Cert.DMemhIdeal.main_arg1) = m ((c.tc : Thread Cert.DMemhIdeal.nD Cert.DMemhIdeal.τ).loc Cert.DMemhIdeal.main_arg1))
      ∧ r.2.sem = fun _ => 0)

def quiescent_DMemhReferenceIdeal [hDMemhReferenceIdeal : Cert.DMemhReferenceIdeal.Facts] : Prop :=
  ∀ (m : (ℓ : Loc Cert.DMemhReferenceIdeal.nD Cert.DMemhReferenceIdeal.τ Cert.DMemhReferenceIdeal.sig) → Buf (Elt Ideal) ℓ) (g : Dev Cert.DMemhReferenceIdeal.nD → PrngReg), Pre_DMemhReferenceIdeal m →
    θ_run (Cert.DMemhReferenceIdeal.defs (F := Ideal)) (onTc (τ := Cert.DMemhReferenceIdeal.τ) (Cert.DMemhReferenceIdeal.main (F := Ideal))) ⟨m, fun _ => 0, g⟩ (fun r => (∀ c : Dev Cert.DMemhReferenceIdeal.nD,
      r.2.mem ((c.tc : Thread Cert.DMemhReferenceIdeal.nD Cert.DMemhReferenceIdeal.τ).loc Cert.DMemhReferenceIdeal.main_arg0) = m ((c.tc : Thread Cert.DMemhReferenceIdeal.nD Cert.DMemhReferenceIdeal.τ).loc Cert.DMemhReferenceIdeal.main_arg0)
      ∧ r.2.mem ((c.tc : Thread Cert.DMemhReferenceIdeal.nD Cert.DMemhReferenceIdeal.τ).loc Cert.DMemhReferenceIdeal.main_arg1) = m ((c.tc : Thread Cert.DMemhReferenceIdeal.nD Cert.DMemhReferenceIdeal.τ).loc Cert.DMemhReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def preserves_Kernel_KernelIdeal : Prop :=
  IdealRules.named_const.Statement Cert.KernelIdeal.κ "scale_log2_e" .f32 0x3E38AA3B#32 (((1 / 8) * (Real.log 2)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "sb_dead" .f32 0xC31EB24B#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Dact_DactIdeal : Prop :=
  True

def algebraic_DactIdeal_DactReferenceIdeal_pre_finite_gate [hDactIdeal : Cert.DactIdeal.Facts] [hDactReferenceIdeal : Cert.DactReferenceIdeal.Facts] [hPre_finite_gate : Cert.Pre_finite_gate.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal_finite_gate m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)
      ∧ m' ((c.tc : Thread Cert.DactReferenceIdeal.nD Cert.DactReferenceIdeal.τ).loc Cert.DactReferenceIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v15) = v0 c
          ∧ r.2.mem ((c.tc : Thread Cert.DactReferenceIdeal.nD Cert.DactReferenceIdeal.τ).loc Cert.DactReferenceIdeal.main_v16) = v1 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v5) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_Dw2_Dw2Ideal : Prop :=
  True

def algebraic_Dw2Ideal_Dw2ReferenceIdeal [hDw2Ideal : Cert.Dw2Ideal.Facts] [hDw2ReferenceIdeal : Cert.Dw2ReferenceIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2ReferenceIdeal.nD Cert.Dw2ReferenceIdeal.τ Cert.Dw2ReferenceIdeal.sig) → Buf (Elt Ideal) ℓ) (g' : Dev Cert.Dw2ReferenceIdeal.nD → PrngReg), Pre_Dw2Ideal m →
    (∀ c : Dev Cert.Dw2Ideal.nD,
      m' ((c.tc : Thread Cert.Dw2ReferenceIdeal.nD Cert.Dw2ReferenceIdeal.τ).loc Cert.Dw2ReferenceIdeal.main_arg0) = m ((c.tc : Thread Cert.Dw2Ideal.nD Cert.Dw2Ideal.τ).loc Cert.Dw2Ideal.main_arg0)
      ∧ m' ((c.tc : Thread Cert.Dw2ReferenceIdeal.nD Cert.Dw2ReferenceIdeal.τ).loc Cert.Dw2ReferenceIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2ReferenceIdeal.defs (F := Ideal)) (onTc (τ := Cert.Dw2ReferenceIdeal.τ) (Cert.Dw2ReferenceIdeal.main (F := Ideal))) ⟨m', fun _ => 0, g'⟩ (fun r => ∀ c : Dev Cert.Dw2ReferenceIdeal.nD,
          r.2.mem ((c.tc : Thread Cert.Dw2ReferenceIdeal.nD Cert.Dw2ReferenceIdeal.τ).loc Cert.Dw2ReferenceIdeal.main_v9) = v0 c
          ∧ r.2.mem ((c.tc : Thread Cert.Dw2ReferenceIdeal.nD Cert.Dw2ReferenceIdeal.τ).loc Cert.Dw2ReferenceIdeal.main_arg0) = m' ((c.tc : Thread Cert.Dw2ReferenceIdeal.nD Cert.Dw2ReferenceIdeal.τ).loc Cert.Dw2ReferenceIdeal.main_arg0)
          ∧ r.2.mem ((c.tc : Thread Cert.Dw2ReferenceIdeal.nD Cert.Dw2ReferenceIdeal.τ).loc Cert.Dw2ReferenceIdeal.main_arg1) = m' ((c.tc : Thread Cert.Dw2ReferenceIdeal.nD Cert.Dw2ReferenceIdeal.τ).loc Cert.Dw2ReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_v9) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)
      ∧ m' ((c.tc : Thread Cert.DhReferenceIdeal.nD Cert.DhReferenceIdeal.τ).loc Cert.DhReferenceIdeal.main_arg4) = m ((c.tc : Thread Cert.DhIdeal.nD Cert.DhIdeal.τ).loc Cert.DhIdeal.main_arg4)
      ∧ m' ((c.tc : Thread Cert.DhReferenceIdeal.nD Cert.DhReferenceIdeal.τ).loc Cert.DhReferenceIdeal.main_arg5) = m ((c.tc : Thread Cert.DhIdeal.nD Cert.DhIdeal.τ).loc Cert.DhIdeal.main_arg5)
      ∧ m' ((c.tc : Thread Cert.DhReferenceIdeal.nD Cert.DhReferenceIdeal.τ).loc Cert.DhReferenceIdeal.main_arg6) = m ((c.tc : Thread Cert.DhIdeal.nD Cert.DhIdeal.τ).loc Cert.DhIdeal.main_arg6)) →
    ∃ (v0 : (c : Dev Cert.DhIdeal.nD) → Buf (Elt Ideal) ((c.tc : Thread Cert.DhIdeal.nD Cert.DhIdeal.τ).loc Cert.DhIdeal.main_v0_0)) (v1 : (c : Dev Cert.DhIdeal.nD) → Buf (Elt Ideal) ((c.tc : Thread Cert.DhIdeal.nD Cert.DhIdeal.τ).loc Cert.DhIdeal.main_v0_1)) (v2 : (c : Dev Cert.DhIdeal.nD) → Buf (Elt Ideal) ((c.tc : Thread Cert.DhIdeal.nD Cert.DhIdeal.τ).loc Cert.DhIdeal.main_v0_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0_0) = v0 c
          ∧ r.2.mem ((c.tc : Thread Cert.DhIdeal.nD Cert.DhIdeal.τ).loc Cert.DhIdeal.main_v0_1) = v1 c
          ∧ r.2.mem ((c.tc : Thread Cert.DhIdeal.nD Cert.DhIdeal.τ).loc Cert.DhIdeal.main_v0_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v43) = v0 c
          ∧ r.2.mem ((c.tc : Thread Cert.DhReferenceIdeal.nD Cert.DhReferenceIdeal.τ).loc Cert.DhReferenceIdeal.main_v44) = v1 c
          ∧ r.2.mem ((c.tc : Thread Cert.DhReferenceIdeal.nD Cert.DhReferenceIdeal.τ).loc Cert.DhReferenceIdeal.main_v26) = v2 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_v18) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_GateProj_GateProjIdeal : Prop :=
  True

def algebraic_GateProjIdeal_GateProjReferenceIdeal [hGateProjIdeal : Cert.GateProjIdeal.Facts] [hGateProjReferenceIdeal : Cert.GateProjReferenceIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjReferenceIdeal.nD Cert.GateProjReferenceIdeal.τ Cert.GateProjReferenceIdeal.sig) → Buf (Elt Ideal) ℓ) (g' : Dev Cert.GateProjReferenceIdeal.nD → PrngReg), Pre_GateProjIdeal m →
    (∀ c : Dev Cert.GateProjIdeal.nD,
      m' ((c.tc : Thread Cert.GateProjReferenceIdeal.nD Cert.GateProjReferenceIdeal.τ).loc Cert.GateProjReferenceIdeal.main_arg0) = m ((c.tc : Thread Cert.GateProjIdeal.nD Cert.GateProjIdeal.τ).loc Cert.GateProjIdeal.main_arg0)
      ∧ m' ((c.tc : Thread Cert.GateProjReferenceIdeal.nD Cert.GateProjReferenceIdeal.τ).loc Cert.GateProjReferenceIdeal.main_arg1) = m ((c.tc : Thread Cert.GateProjIdeal.nD Cert.GateProjIdeal.τ).loc Cert.GateProjIdeal.main_arg1)) →
    ∃ (v0 : (c : Dev Cert.GateProjIdeal.nD) → Buf (Elt Ideal) ((c.tc : Thread Cert.GateProjIdeal.nD Cert.GateProjIdeal.τ).loc Cert.GateProjIdeal.main_v0)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v0) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ θ_run (Cert.GateProjReferenceIdeal.defs (F := Ideal)) (onTc (τ := Cert.GateProjReferenceIdeal.τ) (Cert.GateProjReferenceIdeal.main (F := Ideal))) ⟨m', fun _ => 0, g'⟩ (fun r => ∀ c : Dev Cert.GateProjReferenceIdeal.nD,
          r.2.mem ((c.tc : Thread Cert.GateProjReferenceIdeal.nD Cert.GateProjReferenceIdeal.τ).loc Cert.GateProjReferenceIdeal.main_v3) = v0 c
          ∧ r.2.mem ((c.tc : Thread Cert.GateProjReferenceIdeal.nD Cert.GateProjReferenceIdeal.τ).loc Cert.GateProjReferenceIdeal.main_arg0) = m' ((c.tc : Thread Cert.GateProjReferenceIdeal.nD Cert.GateProjReferenceIdeal.τ).loc Cert.GateProjReferenceIdeal.main_arg0)
          ∧ r.2.mem ((c.tc : Thread Cert.GateProjReferenceIdeal.nD Cert.GateProjReferenceIdeal.τ).loc Cert.GateProjReferenceIdeal.main_arg1) = m' ((c.tc : Thread Cert.GateProjReferenceIdeal.nD Cert.GateProjReferenceIdeal.τ).loc Cert.GateProjReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v5) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwGate_DwGateIdeal : Prop :=
  True

def algebraic_DwGateIdeal_DwGateReferenceIdeal [hDwGateIdeal : Cert.DwGateIdeal.Facts] [hDwGateReferenceIdeal : Cert.DwGateReferenceIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateIdeal m →
    (∀ c : Dev Cert.DwGateIdeal.nD,
      m' ((c.tc : Thread Cert.DwGateReferenceIdeal.nD Cert.DwGateReferenceIdeal.τ).loc Cert.DwGateReferenceIdeal.main_arg0) = m ((c.tc : Thread Cert.DwGateIdeal.nD Cert.DwGateIdeal.τ).loc Cert.DwGateIdeal.main_arg0)
      ∧ m' ((c.tc : Thread Cert.DwGateReferenceIdeal.nD Cert.DwGateReferenceIdeal.τ).loc Cert.DwGateReferenceIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v5) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1))

def preserves_DhIn_DhInIdeal : Prop :=
  True

def algebraic_DhInIdeal_DhInReferenceIdeal [hDhInIdeal : Cert.DhInIdeal.Facts] [hDhInReferenceIdeal : Cert.DhInReferenceIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.DhInReferenceIdeal.nD Cert.DhInReferenceIdeal.τ Cert.DhInReferenceIdeal.sig) → Buf (Elt Ideal) ℓ) (g' : Dev Cert.DhInReferenceIdeal.nD → PrngReg), Pre_DhInIdeal m →
    (∀ c : Dev Cert.DhInIdeal.nD,
      m' ((c.tc : Thread Cert.DhInReferenceIdeal.nD Cert.DhInReferenceIdeal.τ).loc Cert.DhInReferenceIdeal.main_arg0) = m ((c.tc : Thread Cert.DhInIdeal.nD Cert.DhInIdeal.τ).loc Cert.DhInIdeal.main_arg0)
      ∧ m' ((c.tc : Thread Cert.DhInReferenceIdeal.nD Cert.DhInReferenceIdeal.τ).loc Cert.DhInReferenceIdeal.main_arg1) = m ((c.tc : Thread Cert.DhInIdeal.nD Cert.DhInIdeal.τ).loc Cert.DhInIdeal.main_arg1)) →
    ∃ (v0 : (c : Dev Cert.DhInIdeal.nD) → Buf (Elt Ideal) ((c.tc : Thread Cert.DhInIdeal.nD Cert.DhInIdeal.τ).loc Cert.DhInIdeal.main_v0)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v0) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ θ_run (Cert.DhInReferenceIdeal.defs (F := Ideal)) (onTc (τ := Cert.DhInReferenceIdeal.τ) (Cert.DhInReferenceIdeal.main (F := Ideal))) ⟨m', fun _ => 0, g'⟩ (fun r => ∀ c : Dev Cert.DhInReferenceIdeal.nD,
          r.2.mem ((c.tc : Thread Cert.DhInReferenceIdeal.nD Cert.DhInReferenceIdeal.τ).loc Cert.DhInReferenceIdeal.main_v4) = v0 c
          ∧ r.2.mem ((c.tc : Thread Cert.DhInReferenceIdeal.nD Cert.DhInReferenceIdeal.τ).loc Cert.DhInReferenceIdeal.main_arg0) = m' ((c.tc : Thread Cert.DhInReferenceIdeal.nD Cert.DhInReferenceIdeal.τ).loc Cert.DhInReferenceIdeal.main_arg0)
          ∧ r.2.mem ((c.tc : Thread Cert.DhInReferenceIdeal.nD Cert.DhInReferenceIdeal.τ).loc Cert.DhInReferenceIdeal.main_arg1) = m' ((c.tc : Thread Cert.DhInReferenceIdeal.nD Cert.DhInReferenceIdeal.τ).loc Cert.DhInReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v20) = v0 c
          ∧ r.2.mem ((c.tc : Thread Cert.LossReferenceIdeal.nD Cert.LossReferenceIdeal.τ).loc Cert.LossReferenceIdeal.main_v21) = v1 c
          ∧ r.2.mem ((c.tc : Thread Cert.LossReferenceIdeal.nD Cert.LossReferenceIdeal.τ).loc Cert.LossReferenceIdeal.main_v25) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_DhGate_DhGateIdeal : Prop :=
  True

def algebraic_DhGateIdeal_DhGateReferenceIdeal [hDhGateIdeal : Cert.DhGateIdeal.Facts] [hDhGateReferenceIdeal : Cert.DhGateReferenceIdeal.Facts] : Prop :=
  ∀ (m : (ℓ : Loc Cert.DhGateIdeal.nD Cert.DhGateIdeal.τ Cert.DhGateIdeal.sig) → Buf (Elt Ideal) ℓ) (g : Dev Cert.DhGateIdeal.nD → PrngReg)
    (m' : (ℓ : Loc Cert.DhGateReferenceIdeal.nD Cert.DhGateReferenceIdeal.τ Cert.DhGateReferenceIdeal.sig) → Buf (Elt Ideal) ℓ) (g' : Dev Cert.DhGateReferenceIdeal.nD → PrngReg), Pre_DhGateIdeal m →
    (∀ c : Dev Cert.DhGateIdeal.nD,
      m' ((c.tc : Thread Cert.DhGateReferenceIdeal.nD Cert.DhGateReferenceIdeal.τ).loc Cert.DhGateReferenceIdeal.main_arg0) = m ((c.tc : Thread Cert.DhGateIdeal.nD Cert.DhGateIdeal.τ).loc Cert.DhGateIdeal.main_arg0)
      ∧ m' ((c.tc : Thread Cert.DhGateReferenceIdeal.nD Cert.DhGateReferenceIdeal.τ).loc Cert.DhGateReferenceIdeal.main_arg1) = m ((c.tc : Thread Cert.DhGateIdeal.nD Cert.DhGateIdeal.τ).loc Cert.DhGateIdeal.main_arg1)
      ∧ m' ((c.tc : Thread Cert.DhGateReferenceIdeal.nD Cert.DhGateReferenceIdeal.τ).loc Cert.DhGateReferenceIdeal.main_arg2) = m ((c.tc : Thread Cert.DhGateIdeal.nD Cert.DhGateIdeal.τ).loc Cert.DhGateIdeal.main_arg2)
      ∧ m' ((c.tc : Thread Cert.DhGateReferenceIdeal.nD Cert.DhGateReferenceIdeal.τ).loc Cert.DhGateReferenceIdeal.main_arg3) = m ((c.tc : Thread Cert.DhGateIdeal.nD Cert.DhGateIdeal.τ).loc Cert.DhGateIdeal.main_arg3)
      ∧ m' ((c.tc : Thread Cert.DhGateReferenceIdeal.nD Cert.DhGateReferenceIdeal.τ).loc Cert.DhGateReferenceIdeal.main_arg4) = m ((c.tc : Thread Cert.DhGateIdeal.nD Cert.DhGateIdeal.τ).loc Cert.DhGateIdeal.main_arg4)
      ∧ m' ((c.tc : Thread Cert.DhGateReferenceIdeal.nD Cert.DhGateReferenceIdeal.τ).loc Cert.DhGateReferenceIdeal.main_arg5) = m ((c.tc : Thread Cert.DhGateIdeal.nD Cert.DhGateIdeal.τ).loc Cert.DhGateIdeal.main_arg5)) →
    ∃ (v0 : (c : Dev Cert.DhGateIdeal.nD) → Buf (Elt Ideal) ((c.tc : Thread Cert.DhGateIdeal.nD Cert.DhGateIdeal.τ).loc Cert.DhGateIdeal.main_v0_0)) (v1 : (c : Dev Cert.DhGateIdeal.nD) → Buf (Elt Ideal) ((c.tc : Thread Cert.DhGateIdeal.nD Cert.DhGateIdeal.τ).loc Cert.DhGateIdeal.main_v0_1)) (v2 : (c : Dev Cert.DhGateIdeal.nD) → Buf (Elt Ideal) ((c.tc : Thread Cert.DhGateIdeal.nD Cert.DhGateIdeal.τ).loc Cert.DhGateIdeal.main_v0_2)),
      θ_run (Cert.DhGateIdeal.defs (F := Ideal)) (onTc (τ := Cert.DhGateIdeal.τ) (Cert.DhGateIdeal.main (F := Ideal))) ⟨m, fun _ => 0, g⟩ (fun r => ∀ c : Dev Cert.DhGateIdeal.nD,
          r.2.mem ((c.tc : Thread Cert.DhGateIdeal.nD Cert.DhGateIdeal.τ).loc Cert.DhGateIdeal.main_v0_0) = v0 c
          ∧ r.2.mem ((c.tc : Thread Cert.DhGateIdeal.nD Cert.DhGateIdeal.τ).loc Cert.DhGateIdeal.main_v0_1) = v1 c
          ∧ r.2.mem ((c.tc : Thread Cert.DhGateIdeal.nD Cert.DhGateIdeal.τ).loc Cert.DhGateIdeal.main_v0_2) = v2 c
          ∧ r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
          ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
          ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2)
          ∧ r.2.mem ((c.tc : Thread Cert.DhGateIdeal.nD Cert.DhGateIdeal.τ).loc Cert.DhGateIdeal.main_arg3) = m ((c.tc : Thread Cert.DhGateIdeal.nD Cert.DhGateIdeal.τ).loc Cert.DhGateIdeal.main_arg3)
          ∧ r.2.mem ((c.tc : Thread Cert.DhGateIdeal.nD Cert.DhGateIdeal.τ).loc Cert.DhGateIdeal.main_arg4) = m ((c.tc : Thread Cert.DhGateIdeal.nD Cert.DhGateIdeal.τ).loc Cert.DhGateIdeal.main_arg4)
          ∧ r.2.mem ((c.tc : Thread Cert.DhGateIdeal.nD Cert.DhGateIdeal.τ).loc Cert.DhGateIdeal.main_arg5) = m ((c.tc : Thread Cert.DhGateIdeal.nD Cert.DhGateIdeal.τ).loc Cert.DhGateIdeal.main_arg5))
      ∧ θ_run (Cert.DhGateReferenceIdeal.defs (F := Ideal)) (onTc (τ := Cert.DhGateReferenceIdeal.τ) (Cert.DhGateReferenceIdeal.main (F := Ideal))) ⟨m', fun _ => 0, g'⟩ (fun r => ∀ c : Dev Cert.DhGateReferenceIdeal.nD,
          r.2.mem ((c.tc : Thread Cert.DhGateReferenceIdeal.nD Cert.DhGateReferenceIdeal.τ).loc Cert.DhGateReferenceIdeal.main_v39) = v0 c
          ∧ r.2.mem ((c.tc : Thread Cert.DhGateReferenceIdeal.nD Cert.DhGateReferenceIdeal.τ).loc Cert.DhGateReferenceIdeal.main_v40) = v1 c
          ∧ r.2.mem ((c.tc : Thread Cert.DhGateReferenceIdeal.nD Cert.DhGateReferenceIdeal.τ).loc Cert.DhGateReferenceIdeal.main_v22) = v2 c
          ∧ r.2.mem ((c.tc : Thread Cert.DhGateReferenceIdeal.nD Cert.DhGateReferenceIdeal.τ).loc Cert.DhGateReferenceIdeal.main_arg0) = m' ((c.tc : Thread Cert.DhGateReferenceIdeal.nD Cert.DhGateReferenceIdeal.τ).loc Cert.DhGateReferenceIdeal.main_arg0)
          ∧ r.2.mem ((c.tc : Thread Cert.DhGateReferenceIdeal.nD Cert.DhGateReferenceIdeal.τ).loc Cert.DhGateReferenceIdeal.main_arg1) = m' ((c.tc : Thread Cert.DhGateReferenceIdeal.nD Cert.DhGateReferenceIdeal.τ).loc Cert.DhGateReferenceIdeal.main_arg1)
          ∧ r.2.mem ((c.tc : Thread Cert.DhGateReferenceIdeal.nD Cert.DhGateReferenceIdeal.τ).loc Cert.DhGateReferenceIdeal.main_arg2) = m' ((c.tc : Thread Cert.DhGateReferenceIdeal.nD Cert.DhGateReferenceIdeal.τ).loc Cert.DhGateReferenceIdeal.main_arg2)
          ∧ r.2.mem ((c.tc : Thread Cert.DhGateReferenceIdeal.nD Cert.DhGateReferenceIdeal.τ).loc Cert.DhGateReferenceIdeal.main_arg3) = m' ((c.tc : Thread Cert.DhGateReferenceIdeal.nD Cert.DhGateReferenceIdeal.τ).loc Cert.DhGateReferenceIdeal.main_arg3)
          ∧ r.2.mem ((c.tc : Thread Cert.DhGateReferenceIdeal.nD Cert.DhGateReferenceIdeal.τ).loc Cert.DhGateReferenceIdeal.main_arg4) = m' ((c.tc : Thread Cert.DhGateReferenceIdeal.nD Cert.DhGateReferenceIdeal.τ).loc Cert.DhGateReferenceIdeal.main_arg4)
          ∧ r.2.mem ((c.tc : Thread Cert.DhGateReferenceIdeal.nD Cert.DhGateReferenceIdeal.τ).loc Cert.DhGateReferenceIdeal.main_arg5) = m' ((c.tc : Thread Cert.DhGateReferenceIdeal.nD Cert.DhGateReferenceIdeal.τ).loc Cert.DhGateReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_v16) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DMerged_DMergedIdeal : Prop :=
  True

def algebraic_DMergedIdeal_DMergedReferenceIdeal [hDMergedIdeal : Cert.DMergedIdeal.Facts] [hDMergedReferenceIdeal : Cert.DMergedReferenceIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedReferenceIdeal.nD Cert.DMergedReferenceIdeal.τ Cert.DMergedReferenceIdeal.sig) → Buf (Elt Ideal) ℓ) (g' : Dev Cert.DMergedReferenceIdeal.nD → PrngReg), Pre_DMergedIdeal m →
    (∀ c : Dev Cert.DMergedIdeal.nD,
      m' ((c.tc : Thread Cert.DMergedReferenceIdeal.nD Cert.DMergedReferenceIdeal.τ).loc Cert.DMergedReferenceIdeal.main_arg0) = m ((c.tc : Thread Cert.DMergedIdeal.nD Cert.DMergedIdeal.τ).loc Cert.DMergedIdeal.main_arg0)
      ∧ m' ((c.tc : Thread Cert.DMergedReferenceIdeal.nD Cert.DMergedReferenceIdeal.τ).loc Cert.DMergedReferenceIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedReferenceIdeal.defs (F := Ideal)) (onTc (τ := Cert.DMergedReferenceIdeal.τ) (Cert.DMergedReferenceIdeal.main (F := Ideal))) ⟨m', fun _ => 0, g'⟩ (fun r => ∀ c : Dev Cert.DMergedReferenceIdeal.nD,
          r.2.mem ((c.tc : Thread Cert.DMergedReferenceIdeal.nD Cert.DMergedReferenceIdeal.τ).loc Cert.DMergedReferenceIdeal.main_v5) = v0 c
          ∧ r.2.mem ((c.tc : Thread Cert.DMergedReferenceIdeal.nD Cert.DMergedReferenceIdeal.τ).loc Cert.DMergedReferenceIdeal.main_arg0) = m' ((c.tc : Thread Cert.DMergedReferenceIdeal.nD Cert.DMergedReferenceIdeal.τ).loc Cert.DMergedReferenceIdeal.main_arg0)
          ∧ r.2.mem ((c.tc : Thread Cert.DMergedReferenceIdeal.nD Cert.DMergedReferenceIdeal.τ).loc Cert.DMergedReferenceIdeal.main_arg1) = m' ((c.tc : Thread Cert.DMergedReferenceIdeal.nD Cert.DMergedReferenceIdeal.τ).loc Cert.DMergedReferenceIdeal.main_arg1))

def preserves_SbOut_SbOutIdeal : Prop :=
  True

def algebraic_SbOutIdeal_SbOutReferenceIdeal [hSbOutIdeal : Cert.SbOutIdeal.Facts] [hSbOutReferenceIdeal : Cert.SbOutReferenceIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutReferenceIdeal.nD Cert.SbOutReferenceIdeal.τ Cert.SbOutReferenceIdeal.sig) → Buf (Elt Ideal) ℓ) (g' : Dev Cert.SbOutReferenceIdeal.nD → PrngReg), Pre_SbOutIdeal m →
    (∀ c : Dev Cert.SbOutIdeal.nD,
      m' ((c.tc : Thread Cert.SbOutReferenceIdeal.nD Cert.SbOutReferenceIdeal.τ).loc Cert.SbOutReferenceIdeal.main_arg0) = m ((c.tc : Thread Cert.SbOutIdeal.nD Cert.SbOutIdeal.τ).loc Cert.SbOutIdeal.main_arg0)
      ∧ m' ((c.tc : Thread Cert.SbOutReferenceIdeal.nD Cert.SbOutReferenceIdeal.τ).loc Cert.SbOutReferenceIdeal.main_arg1) = m ((c.tc : Thread Cert.SbOutIdeal.nD Cert.SbOutIdeal.τ).loc Cert.SbOutIdeal.main_arg1)) →
    ∃ (v0 : (c : Dev Cert.SbOutIdeal.nD) → Buf (Elt Ideal) ((c.tc : Thread Cert.SbOutIdeal.nD Cert.SbOutIdeal.τ).loc Cert.SbOutIdeal.main_v0)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v0) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ θ_run (Cert.SbOutReferenceIdeal.defs (F := Ideal)) (onTc (τ := Cert.SbOutReferenceIdeal.τ) (Cert.SbOutReferenceIdeal.main (F := Ideal))) ⟨m', fun _ => 0, g'⟩ (fun r => ∀ c : Dev Cert.SbOutReferenceIdeal.nD,
          r.2.mem ((c.tc : Thread Cert.SbOutReferenceIdeal.nD Cert.SbOutReferenceIdeal.τ).loc Cert.SbOutReferenceIdeal.main_v2) = v0 c
          ∧ r.2.mem ((c.tc : Thread Cert.SbOutReferenceIdeal.nD Cert.SbOutReferenceIdeal.τ).loc Cert.SbOutReferenceIdeal.main_arg0) = m' ((c.tc : Thread Cert.SbOutReferenceIdeal.nD Cert.SbOutReferenceIdeal.τ).loc Cert.SbOutReferenceIdeal.main_arg0)
          ∧ r.2.mem ((c.tc : Thread Cert.SbOutReferenceIdeal.nD Cert.SbOutReferenceIdeal.τ).loc Cert.SbOutReferenceIdeal.main_arg1) = m' ((c.tc : Thread Cert.SbOutReferenceIdeal.nD Cert.SbOutReferenceIdeal.τ).loc Cert.SbOutReferenceIdeal.main_arg1))

def preserves_DwSb_DwSbIdeal : Prop :=
  True

def algebraic_DwSbIdeal_DwSbReferenceIdeal [hDwSbIdeal : Cert.DwSbIdeal.Facts] [hDwSbReferenceIdeal : Cert.DwSbReferenceIdeal.Facts] : Prop :=
  ∀ (m : (ℓ : Loc Cert.DwSbIdeal.nD Cert.DwSbIdeal.τ Cert.DwSbIdeal.sig) → Buf (Elt Ideal) ℓ) (g : Dev Cert.DwSbIdeal.nD → PrngReg)
    (m' : (ℓ : Loc Cert.DwSbReferenceIdeal.nD Cert.DwSbReferenceIdeal.τ Cert.DwSbReferenceIdeal.sig) → Buf (Elt Ideal) ℓ) (g' : Dev Cert.DwSbReferenceIdeal.nD → PrngReg), Pre_DwSbIdeal m →
    (∀ c : Dev Cert.DwSbIdeal.nD,
      m' ((c.tc : Thread Cert.DwSbReferenceIdeal.nD Cert.DwSbReferenceIdeal.τ).loc Cert.DwSbReferenceIdeal.main_arg0) = m ((c.tc : Thread Cert.DwSbIdeal.nD Cert.DwSbIdeal.τ).loc Cert.DwSbIdeal.main_arg0)
      ∧ m' ((c.tc : Thread Cert.DwSbReferenceIdeal.nD Cert.DwSbReferenceIdeal.τ).loc Cert.DwSbReferenceIdeal.main_arg1) = m ((c.tc : Thread Cert.DwSbIdeal.nD Cert.DwSbIdeal.τ).loc Cert.DwSbIdeal.main_arg1)) →
    ∃ (v0 : (c : Dev Cert.DwSbIdeal.nD) → Buf (Elt Ideal) ((c.tc : Thread Cert.DwSbIdeal.nD Cert.DwSbIdeal.τ).loc Cert.DwSbIdeal.main_v0)),
      θ_run (Cert.DwSbIdeal.defs (F := Ideal)) (onTc (τ := Cert.DwSbIdeal.τ) (Cert.DwSbIdeal.main (F := Ideal))) ⟨m, fun _ => 0, g⟩ (fun r => ∀ c : Dev Cert.DwSbIdeal.nD,
          r.2.mem ((c.tc : Thread Cert.DwSbIdeal.nD Cert.DwSbIdeal.τ).loc Cert.DwSbIdeal.main_v0) = v0 c
          ∧ r.2.mem ((c.tc : Thread Cert.DwSbIdeal.nD Cert.DwSbIdeal.τ).loc Cert.DwSbIdeal.main_arg0) = m ((c.tc : Thread Cert.DwSbIdeal.nD Cert.DwSbIdeal.τ).loc Cert.DwSbIdeal.main_arg0)
          ∧ r.2.mem ((c.tc : Thread Cert.DwSbIdeal.nD Cert.DwSbIdeal.τ).loc Cert.DwSbIdeal.main_arg1) = m ((c.tc : Thread Cert.DwSbIdeal.nD Cert.DwSbIdeal.τ).loc Cert.DwSbIdeal.main_arg1))
      ∧ θ_run (Cert.DwSbReferenceIdeal.defs (F := Ideal)) (onTc (τ := Cert.DwSbReferenceIdeal.τ) (Cert.DwSbReferenceIdeal.main (F := Ideal))) ⟨m', fun _ => 0, g'⟩ (fun r => ∀ c : Dev Cert.DwSbReferenceIdeal.nD,
          r.2.mem ((c.tc : Thread Cert.DwSbReferenceIdeal.nD Cert.DwSbReferenceIdeal.τ).loc Cert.DwSbReferenceIdeal.main_v4) = v0 c
          ∧ r.2.mem ((c.tc : Thread Cert.DwSbReferenceIdeal.nD Cert.DwSbReferenceIdeal.τ).loc Cert.DwSbReferenceIdeal.main_arg0) = m' ((c.tc : Thread Cert.DwSbReferenceIdeal.nD Cert.DwSbReferenceIdeal.τ).loc Cert.DwSbReferenceIdeal.main_arg0)
          ∧ r.2.mem ((c.tc : Thread Cert.DwSbReferenceIdeal.nD Cert.DwSbReferenceIdeal.τ).loc Cert.DwSbReferenceIdeal.main_arg1) = m' ((c.tc : Thread Cert.DwSbReferenceIdeal.nD Cert.DwSbReferenceIdeal.τ).loc Cert.DwSbReferenceIdeal.main_arg1))

def preserves_DOa_DOaIdeal : Prop :=
  True

def algebraic_DOaIdeal_DOaReferenceIdeal [hDOaIdeal : Cert.DOaIdeal.Facts] [hDOaReferenceIdeal : Cert.DOaReferenceIdeal.Facts] : Prop :=
  ∀ (m : (ℓ : Loc Cert.DOaIdeal.nD Cert.DOaIdeal.τ Cert.DOaIdeal.sig) → Buf (Elt Ideal) ℓ) (g : Dev Cert.DOaIdeal.nD → PrngReg)
    (m' : (ℓ : Loc Cert.DOaReferenceIdeal.nD Cert.DOaReferenceIdeal.τ Cert.DOaReferenceIdeal.sig) → Buf (Elt Ideal) ℓ) (g' : Dev Cert.DOaReferenceIdeal.nD → PrngReg), Pre_DOaIdeal m →
    (∀ c : Dev Cert.DOaIdeal.nD,
      m' ((c.tc : Thread Cert.DOaReferenceIdeal.nD Cert.DOaReferenceIdeal.τ).loc Cert.DOaReferenceIdeal.main_arg0) = m ((c.tc : Thread Cert.DOaIdeal.nD Cert.DOaIdeal.τ).loc Cert.DOaIdeal.main_arg0)
      ∧ m' ((c.tc : Thread Cert.DOaReferenceIdeal.nD Cert.DOaReferenceIdeal.τ).loc Cert.DOaReferenceIdeal.main_arg1) = m ((c.tc : Thread Cert.DOaIdeal.nD Cert.DOaIdeal.τ).loc Cert.DOaIdeal.main_arg1)) →
    ∃ (v0 : (c : Dev Cert.DOaIdeal.nD) → Buf (Elt Ideal) ((c.tc : Thread Cert.DOaIdeal.nD Cert.DOaIdeal.τ).loc Cert.DOaIdeal.main_v0)),
      θ_run (Cert.DOaIdeal.defs (F := Ideal)) (onTc (τ := Cert.DOaIdeal.τ) (Cert.DOaIdeal.main (F := Ideal))) ⟨m, fun _ => 0, g⟩ (fun r => ∀ c : Dev Cert.DOaIdeal.nD,
          r.2.mem ((c.tc : Thread Cert.DOaIdeal.nD Cert.DOaIdeal.τ).loc Cert.DOaIdeal.main_v0) = v0 c
          ∧ r.2.mem ((c.tc : Thread Cert.DOaIdeal.nD Cert.DOaIdeal.τ).loc Cert.DOaIdeal.main_arg0) = m ((c.tc : Thread Cert.DOaIdeal.nD Cert.DOaIdeal.τ).loc Cert.DOaIdeal.main_arg0)
          ∧ r.2.mem ((c.tc : Thread Cert.DOaIdeal.nD Cert.DOaIdeal.τ).loc Cert.DOaIdeal.main_arg1) = m ((c.tc : Thread Cert.DOaIdeal.nD Cert.DOaIdeal.τ).loc Cert.DOaIdeal.main_arg1))
      ∧ θ_run (Cert.DOaReferenceIdeal.defs (F := Ideal)) (onTc (τ := Cert.DOaReferenceIdeal.τ) (Cert.DOaReferenceIdeal.main (F := Ideal))) ⟨m', fun _ => 0, g'⟩ (fun r => ∀ c : Dev Cert.DOaReferenceIdeal.nD,
          r.2.mem ((c.tc : Thread Cert.DOaReferenceIdeal.nD Cert.DOaReferenceIdeal.τ).loc Cert.DOaReferenceIdeal.main_v5) = v0 c
          ∧ r.2.mem ((c.tc : Thread Cert.DOaReferenceIdeal.nD Cert.DOaReferenceIdeal.τ).loc Cert.DOaReferenceIdeal.main_arg0) = m' ((c.tc : Thread Cert.DOaReferenceIdeal.nD Cert.DOaReferenceIdeal.τ).loc Cert.DOaReferenceIdeal.main_arg0)
          ∧ r.2.mem ((c.tc : Thread Cert.DOaReferenceIdeal.nD Cert.DOaReferenceIdeal.τ).loc Cert.DOaReferenceIdeal.main_arg1) = m' ((c.tc : Thread Cert.DOaReferenceIdeal.nD Cert.DOaReferenceIdeal.τ).loc Cert.DOaReferenceIdeal.main_arg1))

def preserves_DsaOut_DsaOutIdeal : Prop :=
  True

def algebraic_DsaOutIdeal_DsaOutReferenceIdeal [hDsaOutIdeal : Cert.DsaOutIdeal.Facts] [hDsaOutReferenceIdeal : Cert.DsaOutReferenceIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg)
    (m' : (ℓ : Loc Cert.DsaOutReferenceIdeal.nD Cert.DsaOutReferenceIdeal.τ Cert.DsaOutReferenceIdeal.sig) → Buf (Elt Ideal) ℓ) (g' : Dev Cert.DsaOutReferenceIdeal.nD → PrngReg), Pre_DsaOutIdeal m →
    (∀ c : Dev Cert.DsaOutIdeal.nD,
      m' ((c.tc : Thread Cert.DsaOutReferenceIdeal.nD Cert.DsaOutReferenceIdeal.τ).loc Cert.DsaOutReferenceIdeal.main_arg0) = m ((c.tc : Thread Cert.DsaOutIdeal.nD Cert.DsaOutIdeal.τ).loc Cert.DsaOutIdeal.main_arg0)
      ∧ m' ((c.tc : Thread Cert.DsaOutReferenceIdeal.nD Cert.DsaOutReferenceIdeal.τ).loc Cert.DsaOutReferenceIdeal.main_arg1) = m ((c.tc : Thread Cert.DsaOutIdeal.nD Cert.DsaOutIdeal.τ).loc Cert.DsaOutIdeal.main_arg1)) →
    ∃ (v0 : (c : Dev Cert.DsaOutIdeal.nD) → Buf (Elt Ideal) ((c.tc : Thread Cert.DsaOutIdeal.nD Cert.DsaOutIdeal.τ).loc Cert.DsaOutIdeal.main_v0)),
      θ_run (Cert.DsaOutIdeal.defs (F := Ideal)) (onTc (τ := Cert.DsaOutIdeal.τ) (Cert.DsaOutIdeal.main (F := Ideal))) ⟨m, fun _ => 0, g⟩ (fun r => ∀ c : Dev Cert.DsaOutIdeal.nD,
          r.2.mem ((c.tc : Thread Cert.DsaOutIdeal.nD Cert.DsaOutIdeal.τ).loc Cert.DsaOutIdeal.main_v0) = v0 c
          ∧ r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
          ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1))
      ∧ θ_run (Cert.DsaOutReferenceIdeal.defs (F := Ideal)) (onTc (τ := Cert.DsaOutReferenceIdeal.τ) (Cert.DsaOutReferenceIdeal.main (F := Ideal))) ⟨m', fun _ => 0, g'⟩ (fun r => ∀ c : Dev Cert.DsaOutReferenceIdeal.nD,
          r.2.mem ((c.tc : Thread Cert.DsaOutReferenceIdeal.nD Cert.DsaOutReferenceIdeal.τ).loc Cert.DsaOutReferenceIdeal.main_v2) = v0 c
          ∧ r.2.mem ((c.tc : Thread Cert.DsaOutReferenceIdeal.nD Cert.DsaOutReferenceIdeal.τ).loc Cert.DsaOutReferenceIdeal.main_arg0) = m' ((c.tc : Thread Cert.DsaOutReferenceIdeal.nD Cert.DsaOutReferenceIdeal.τ).loc Cert.DsaOutReferenceIdeal.main_arg0)
          ∧ r.2.mem ((c.tc : Thread Cert.DsaOutReferenceIdeal.nD Cert.DsaOutReferenceIdeal.τ).loc Cert.DsaOutReferenceIdeal.main_arg1) = m' ((c.tc : Thread Cert.DsaOutReferenceIdeal.nD Cert.DsaOutReferenceIdeal.τ).loc Cert.DsaOutReferenceIdeal.main_arg1))

def preserves_DwDsa_DwDsaIdeal : Prop :=
  True

def algebraic_DwDsaIdeal_DwDsaReferenceIdeal [hDwDsaIdeal : Cert.DwDsaIdeal.Facts] [hDwDsaReferenceIdeal : Cert.DwDsaReferenceIdeal.Facts] : Prop :=
  ∀ (m : (ℓ : Loc Cert.DwDsaIdeal.nD Cert.DwDsaIdeal.τ Cert.DwDsaIdeal.sig) → Buf (Elt Ideal) ℓ) (g : Dev Cert.DwDsaIdeal.nD → PrngReg)
    (m' : (ℓ : Loc Cert.DwDsaReferenceIdeal.nD Cert.DwDsaReferenceIdeal.τ Cert.DwDsaReferenceIdeal.sig) → Buf (Elt Ideal) ℓ) (g' : Dev Cert.DwDsaReferenceIdeal.nD → PrngReg), Pre_DwDsaIdeal m →
    (∀ c : Dev Cert.DwDsaIdeal.nD,
      m' ((c.tc : Thread Cert.DwDsaReferenceIdeal.nD Cert.DwDsaReferenceIdeal.τ).loc Cert.DwDsaReferenceIdeal.main_arg0) = m ((c.tc : Thread Cert.DwDsaIdeal.nD Cert.DwDsaIdeal.τ).loc Cert.DwDsaIdeal.main_arg0)
      ∧ m' ((c.tc : Thread Cert.DwDsaReferenceIdeal.nD Cert.DwDsaReferenceIdeal.τ).loc Cert.DwDsaReferenceIdeal.main_arg1) = m ((c.tc : Thread Cert.DwDsaIdeal.nD Cert.DwDsaIdeal.τ).loc Cert.DwDsaIdeal.main_arg1)) →
    ∃ (v0 : (c : Dev Cert.DwDsaIdeal.nD) → Buf (Elt Ideal) ((c.tc : Thread Cert.DwDsaIdeal.nD Cert.DwDsaIdeal.τ).loc Cert.DwDsaIdeal.main_v0)),
      θ_run (Cert.DwDsaIdeal.defs (F := Ideal)) (onTc (τ := Cert.DwDsaIdeal.τ) (Cert.DwDsaIdeal.main (F := Ideal))) ⟨m, fun _ => 0, g⟩ (fun r => ∀ c : Dev Cert.DwDsaIdeal.nD,
          r.2.mem ((c.tc : Thread Cert.DwDsaIdeal.nD Cert.DwDsaIdeal.τ).loc Cert.DwDsaIdeal.main_v0) = v0 c
          ∧ r.2.mem ((c.tc : Thread Cert.DwDsaIdeal.nD Cert.DwDsaIdeal.τ).loc Cert.DwDsaIdeal.main_arg0) = m ((c.tc : Thread Cert.DwDsaIdeal.nD Cert.DwDsaIdeal.τ).loc Cert.DwDsaIdeal.main_arg0)
          ∧ r.2.mem ((c.tc : Thread Cert.DwDsaIdeal.nD Cert.DwDsaIdeal.τ).loc Cert.DwDsaIdeal.main_arg1) = m ((c.tc : Thread Cert.DwDsaIdeal.nD Cert.DwDsaIdeal.τ).loc Cert.DwDsaIdeal.main_arg1))
      ∧ θ_run (Cert.DwDsaReferenceIdeal.defs (F := Ideal)) (onTc (τ := Cert.DwDsaReferenceIdeal.τ) (Cert.DwDsaReferenceIdeal.main (F := Ideal))) ⟨m', fun _ => 0, g'⟩ (fun r => ∀ c : Dev Cert.DwDsaReferenceIdeal.nD,
          r.2.mem ((c.tc : Thread Cert.DwDsaReferenceIdeal.nD Cert.DwDsaReferenceIdeal.τ).loc Cert.DwDsaReferenceIdeal.main_v4) = v0 c
          ∧ r.2.mem ((c.tc : Thread Cert.DwDsaReferenceIdeal.nD Cert.DwDsaReferenceIdeal.τ).loc Cert.DwDsaReferenceIdeal.main_arg0) = m' ((c.tc : Thread Cert.DwDsaReferenceIdeal.nD Cert.DwDsaReferenceIdeal.τ).loc Cert.DwDsaReferenceIdeal.main_arg0)
          ∧ r.2.mem ((c.tc : Thread Cert.DwDsaReferenceIdeal.nD Cert.DwDsaReferenceIdeal.τ).loc Cert.DwDsaReferenceIdeal.main_arg1) = m' ((c.tc : Thread Cert.DwDsaReferenceIdeal.nD Cert.DwDsaReferenceIdeal.τ).loc Cert.DwDsaReferenceIdeal.main_arg1))

def preserves_DOb_DObIdeal : Prop :=
  True

def algebraic_DObIdeal_DObReferenceIdeal [hDObIdeal : Cert.DObIdeal.Facts] [hDObReferenceIdeal : Cert.DObReferenceIdeal.Facts] : Prop :=
  ∀ (m : (ℓ : Loc Cert.DObIdeal.nD Cert.DObIdeal.τ Cert.DObIdeal.sig) → Buf (Elt Ideal) ℓ) (g : Dev Cert.DObIdeal.nD → PrngReg)
    (m' : (ℓ : Loc Cert.DObReferenceIdeal.nD Cert.DObReferenceIdeal.τ Cert.DObReferenceIdeal.sig) → Buf (Elt Ideal) ℓ) (g' : Dev Cert.DObReferenceIdeal.nD → PrngReg), Pre_DObIdeal m →
    (∀ c : Dev Cert.DObIdeal.nD,
      m' ((c.tc : Thread Cert.DObReferenceIdeal.nD Cert.DObReferenceIdeal.τ).loc Cert.DObReferenceIdeal.main_arg0) = m ((c.tc : Thread Cert.DObIdeal.nD Cert.DObIdeal.τ).loc Cert.DObIdeal.main_arg0)
      ∧ m' ((c.tc : Thread Cert.DObReferenceIdeal.nD Cert.DObReferenceIdeal.τ).loc Cert.DObReferenceIdeal.main_arg1) = m ((c.tc : Thread Cert.DObIdeal.nD Cert.DObIdeal.τ).loc Cert.DObIdeal.main_arg1)) →
    ∃ (v0 : (c : Dev Cert.DObIdeal.nD) → Buf (Elt Ideal) ((c.tc : Thread Cert.DObIdeal.nD Cert.DObIdeal.τ).loc Cert.DObIdeal.main_v0)),
      θ_run (Cert.DObIdeal.defs (F := Ideal)) (onTc (τ := Cert.DObIdeal.τ) (Cert.DObIdeal.main (F := Ideal))) ⟨m, fun _ => 0, g⟩ (fun r => ∀ c : Dev Cert.DObIdeal.nD,
          r.2.mem ((c.tc : Thread Cert.DObIdeal.nD Cert.DObIdeal.τ).loc Cert.DObIdeal.main_v0) = v0 c
          ∧ r.2.mem ((c.tc : Thread Cert.DObIdeal.nD Cert.DObIdeal.τ).loc Cert.DObIdeal.main_arg0) = m ((c.tc : Thread Cert.DObIdeal.nD Cert.DObIdeal.τ).loc Cert.DObIdeal.main_arg0)
          ∧ r.2.mem ((c.tc : Thread Cert.DObIdeal.nD Cert.DObIdeal.τ).loc Cert.DObIdeal.main_arg1) = m ((c.tc : Thread Cert.DObIdeal.nD Cert.DObIdeal.τ).loc Cert.DObIdeal.main_arg1))
      ∧ θ_run (Cert.DObReferenceIdeal.defs (F := Ideal)) (onTc (τ := Cert.DObReferenceIdeal.τ) (Cert.DObReferenceIdeal.main (F := Ideal))) ⟨m', fun _ => 0, g'⟩ (fun r => ∀ c : Dev Cert.DObReferenceIdeal.nD,
          r.2.mem ((c.tc : Thread Cert.DObReferenceIdeal.nD Cert.DObReferenceIdeal.τ).loc Cert.DObReferenceIdeal.main_v4) = v0 c
          ∧ r.2.mem ((c.tc : Thread Cert.DObReferenceIdeal.nD Cert.DObReferenceIdeal.τ).loc Cert.DObReferenceIdeal.main_arg0) = m' ((c.tc : Thread Cert.DObReferenceIdeal.nD Cert.DObReferenceIdeal.τ).loc Cert.DObReferenceIdeal.main_arg0)
          ∧ r.2.mem ((c.tc : Thread Cert.DObReferenceIdeal.nD Cert.DObReferenceIdeal.τ).loc Cert.DObReferenceIdeal.main_arg1) = m' ((c.tc : Thread Cert.DObReferenceIdeal.nD Cert.DObReferenceIdeal.τ).loc Cert.DObReferenceIdeal.main_arg1))

def preserves_DOc_DOcIdeal : Prop :=
  True

def algebraic_DOcIdeal_DOcReferenceIdeal [hDOcIdeal : Cert.DOcIdeal.Facts] [hDOcReferenceIdeal : Cert.DOcReferenceIdeal.Facts] : Prop :=
  ∀ (m : (ℓ : Loc Cert.DOcIdeal.nD Cert.DOcIdeal.τ Cert.DOcIdeal.sig) → Buf (Elt Ideal) ℓ) (g : Dev Cert.DOcIdeal.nD → PrngReg)
    (m' : (ℓ : Loc Cert.DOcReferenceIdeal.nD Cert.DOcReferenceIdeal.τ Cert.DOcReferenceIdeal.sig) → Buf (Elt Ideal) ℓ) (g' : Dev Cert.DOcReferenceIdeal.nD → PrngReg), Pre_DOcIdeal m →
    (∀ c : Dev Cert.DOcIdeal.nD,
      m' ((c.tc : Thread Cert.DOcReferenceIdeal.nD Cert.DOcReferenceIdeal.τ).loc Cert.DOcReferenceIdeal.main_arg0) = m ((c.tc : Thread Cert.DOcIdeal.nD Cert.DOcIdeal.τ).loc Cert.DOcIdeal.main_arg0)
      ∧ m' ((c.tc : Thread Cert.DOcReferenceIdeal.nD Cert.DOcReferenceIdeal.τ).loc Cert.DOcReferenceIdeal.main_arg1) = m ((c.tc : Thread Cert.DOcIdeal.nD Cert.DOcIdeal.τ).loc Cert.DOcIdeal.main_arg1)) →
    ∃ (v0 : (c : Dev Cert.DOcIdeal.nD) → Buf (Elt Ideal) ((c.tc : Thread Cert.DOcIdeal.nD Cert.DOcIdeal.τ).loc Cert.DOcIdeal.main_v0)),
      θ_run (Cert.DOcIdeal.defs (F := Ideal)) (onTc (τ := Cert.DOcIdeal.τ) (Cert.DOcIdeal.main (F := Ideal))) ⟨m, fun _ => 0, g⟩ (fun r => ∀ c : Dev Cert.DOcIdeal.nD,
          r.2.mem ((c.tc : Thread Cert.DOcIdeal.nD Cert.DOcIdeal.τ).loc Cert.DOcIdeal.main_v0) = v0 c
          ∧ r.2.mem ((c.tc : Thread Cert.DOcIdeal.nD Cert.DOcIdeal.τ).loc Cert.DOcIdeal.main_arg0) = m ((c.tc : Thread Cert.DOcIdeal.nD Cert.DOcIdeal.τ).loc Cert.DOcIdeal.main_arg0)
          ∧ r.2.mem ((c.tc : Thread Cert.DOcIdeal.nD Cert.DOcIdeal.τ).loc Cert.DOcIdeal.main_arg1) = m ((c.tc : Thread Cert.DOcIdeal.nD Cert.DOcIdeal.τ).loc Cert.DOcIdeal.main_arg1))
      ∧ θ_run (Cert.DOcReferenceIdeal.defs (F := Ideal)) (onTc (τ := Cert.DOcReferenceIdeal.τ) (Cert.DOcReferenceIdeal.main (F := Ideal))) ⟨m', fun _ => 0, g'⟩ (fun r => ∀ c : Dev Cert.DOcReferenceIdeal.nD,
          r.2.mem ((c.tc : Thread Cert.DOcReferenceIdeal.nD Cert.DOcReferenceIdeal.τ).loc Cert.DOcReferenceIdeal.main_v5) = v0 c
          ∧ r.2.mem ((c.tc : Thread Cert.DOcReferenceIdeal.nD Cert.DOcReferenceIdeal.τ).loc Cert.DOcReferenceIdeal.main_arg0) = m' ((c.tc : Thread Cert.DOcReferenceIdeal.nD Cert.DOcReferenceIdeal.τ).loc Cert.DOcReferenceIdeal.main_arg0)
          ∧ r.2.mem ((c.tc : Thread Cert.DOcReferenceIdeal.nD Cert.DOcReferenceIdeal.τ).loc Cert.DOcReferenceIdeal.main_arg1) = m' ((c.tc : Thread Cert.DOcReferenceIdeal.nD Cert.DOcReferenceIdeal.τ).loc Cert.DOcReferenceIdeal.main_arg1))

def preserves_Rms_RmsIdeal : Prop :=
  True

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v12) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_MemRms_MemRmsIdeal : Prop :=
  True

def algebraic_MemRmsIdeal_MemRmsReferenceIdeal [hMemRmsIdeal : Cert.MemRmsIdeal.Facts] [hMemRmsReferenceIdeal : Cert.MemRmsReferenceIdeal.Facts] : Prop :=
  ∀ (m : (ℓ : Loc Cert.MemRmsIdeal.nD Cert.MemRmsIdeal.τ Cert.MemRmsIdeal.sig) → Buf (Elt Ideal) ℓ) (g : Dev Cert.MemRmsIdeal.nD → PrngReg)
    (m' : (ℓ : Loc Cert.MemRmsReferenceIdeal.nD Cert.MemRmsReferenceIdeal.τ Cert.MemRmsReferenceIdeal.sig) → Buf (Elt Ideal) ℓ) (g' : Dev Cert.MemRmsReferenceIdeal.nD → PrngReg), Pre_MemRmsIdeal m →
    (∀ c : Dev Cert.MemRmsIdeal.nD,
      m' ((c.tc : Thread Cert.MemRmsReferenceIdeal.nD Cert.MemRmsReferenceIdeal.τ).loc Cert.MemRmsReferenceIdeal.main_arg0) = m ((c.tc : Thread Cert.MemRmsIdeal.nD Cert.MemRmsIdeal.τ).loc Cert.MemRmsIdeal.main_arg0)
      ∧ m' ((c.tc : Thread Cert.MemRmsReferenceIdeal.nD Cert.MemRmsReferenceIdeal.τ).loc Cert.MemRmsReferenceIdeal.main_arg1) = m ((c.tc : Thread Cert.MemRmsIdeal.nD Cert.MemRmsIdeal.τ).loc Cert.MemRmsIdeal.main_arg1)) →
    ∃ (v0 : (c : Dev Cert.MemRmsIdeal.nD) → Buf (Elt Ideal) ((c.tc : Thread Cert.MemRmsIdeal.nD Cert.MemRmsIdeal.τ).loc Cert.MemRmsIdeal.main_v0)),
      θ_run (Cert.MemRmsIdeal.defs (F := Ideal)) (onTc (τ := Cert.MemRmsIdeal.τ) (Cert.MemRmsIdeal.main (F := Ideal))) ⟨m, fun _ => 0, g⟩ (fun r => ∀ c : Dev Cert.MemRmsIdeal.nD,
          r.2.mem ((c.tc : Thread Cert.MemRmsIdeal.nD Cert.MemRmsIdeal.τ).loc Cert.MemRmsIdeal.main_v0) = v0 c
          ∧ r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
          ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1))
      ∧ θ_run (Cert.MemRmsReferenceIdeal.defs (F := Ideal)) (onTc (τ := Cert.MemRmsReferenceIdeal.τ) (Cert.MemRmsReferenceIdeal.main (F := Ideal))) ⟨m', fun _ => 0, g'⟩ (fun r => ∀ c : Dev Cert.MemRmsReferenceIdeal.nD,
          r.2.mem ((c.tc : Thread Cert.MemRmsReferenceIdeal.nD Cert.MemRmsReferenceIdeal.τ).loc Cert.MemRmsReferenceIdeal.main_v12) = v0 c
          ∧ r.2.mem ((c.tc : Thread Cert.MemRmsReferenceIdeal.nD Cert.MemRmsReferenceIdeal.τ).loc Cert.MemRmsReferenceIdeal.main_arg0) = m' ((c.tc : Thread Cert.MemRmsReferenceIdeal.nD Cert.MemRmsReferenceIdeal.τ).loc Cert.MemRmsReferenceIdeal.main_arg0)
          ∧ r.2.mem ((c.tc : Thread Cert.MemRmsReferenceIdeal.nD Cert.MemRmsReferenceIdeal.τ).loc Cert.MemRmsReferenceIdeal.main_arg1) = m' ((c.tc : Thread Cert.MemRmsReferenceIdeal.nD Cert.MemRmsReferenceIdeal.τ).loc Cert.MemRmsReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_DwMemKv_DwMemKvIdeal : Prop :=
  True

def algebraic_DwMemKvIdeal_DwMemKvReferenceIdeal [hDwMemKvIdeal : Cert.DwMemKvIdeal.Facts] [hDwMemKvReferenceIdeal : Cert.DwMemKvReferenceIdeal.Facts] : Prop :=
  ∀ (m : (ℓ : Loc Cert.DwMemKvIdeal.nD Cert.DwMemKvIdeal.τ Cert.DwMemKvIdeal.sig) → Buf (Elt Ideal) ℓ) (g : Dev Cert.DwMemKvIdeal.nD → PrngReg)
    (m' : (ℓ : Loc Cert.DwMemKvReferenceIdeal.nD Cert.DwMemKvReferenceIdeal.τ Cert.DwMemKvReferenceIdeal.sig) → Buf (Elt Ideal) ℓ) (g' : Dev Cert.DwMemKvReferenceIdeal.nD → PrngReg), Pre_DwMemKvIdeal m →
    (∀ c : Dev Cert.DwMemKvIdeal.nD,
      m' ((c.tc : Thread Cert.DwMemKvReferenceIdeal.nD Cert.DwMemKvReferenceIdeal.τ).loc Cert.DwMemKvReferenceIdeal.main_arg0) = m ((c.tc : Thread Cert.DwMemKvIdeal.nD Cert.DwMemKvIdeal.τ).loc Cert.DwMemKvIdeal.main_arg0)
      ∧ m' ((c.tc : Thread Cert.DwMemKvReferenceIdeal.nD Cert.DwMemKvReferenceIdeal.τ).loc Cert.DwMemKvReferenceIdeal.main_arg1) = m ((c.tc : Thread Cert.DwMemKvIdeal.nD Cert.DwMemKvIdeal.τ).loc Cert.DwMemKvIdeal.main_arg1)) →
    ∃ (v0 : (c : Dev Cert.DwMemKvIdeal.nD) → Buf (Elt Ideal) ((c.tc : Thread Cert.DwMemKvIdeal.nD Cert.DwMemKvIdeal.τ).loc Cert.DwMemKvIdeal.main_v0)),
      θ_run (Cert.DwMemKvIdeal.defs (F := Ideal)) (onTc (τ := Cert.DwMemKvIdeal.τ) (Cert.DwMemKvIdeal.main (F := Ideal))) ⟨m, fun _ => 0, g⟩ (fun r => ∀ c : Dev Cert.DwMemKvIdeal.nD,
          r.2.mem ((c.tc : Thread Cert.DwMemKvIdeal.nD Cert.DwMemKvIdeal.τ).loc Cert.DwMemKvIdeal.main_v0) = v0 c
          ∧ r.2.mem ((c.tc : Thread Cert.DwMemKvIdeal.nD Cert.DwMemKvIdeal.τ).loc Cert.DwMemKvIdeal.main_arg0) = m ((c.tc : Thread Cert.DwMemKvIdeal.nD Cert.DwMemKvIdeal.τ).loc Cert.DwMemKvIdeal.main_arg0)
          ∧ r.2.mem ((c.tc : Thread Cert.DwMemKvIdeal.nD Cert.DwMemKvIdeal.τ).loc Cert.DwMemKvIdeal.main_arg1) = m ((c.tc : Thread Cert.DwMemKvIdeal.nD Cert.DwMemKvIdeal.τ).loc Cert.DwMemKvIdeal.main_arg1))
      ∧ θ_run (Cert.DwMemKvReferenceIdeal.defs (F := Ideal)) (onTc (τ := Cert.DwMemKvReferenceIdeal.τ) (Cert.DwMemKvReferenceIdeal.main (F := Ideal))) ⟨m', fun _ => 0, g'⟩ (fun r => ∀ c : Dev Cert.DwMemKvReferenceIdeal.nD,
          r.2.mem ((c.tc : Thread Cert.DwMemKvReferenceIdeal.nD Cert.DwMemKvReferenceIdeal.τ).loc Cert.DwMemKvReferenceIdeal.main_v5) = v0 c
          ∧ r.2.mem ((c.tc : Thread Cert.DwMemKvReferenceIdeal.nD Cert.DwMemKvReferenceIdeal.τ).loc Cert.DwMemKvReferenceIdeal.main_arg0) = m' ((c.tc : Thread Cert.DwMemKvReferenceIdeal.nD Cert.DwMemKvReferenceIdeal.τ).loc Cert.DwMemKvReferenceIdeal.main_arg0)
          ∧ r.2.mem ((c.tc : Thread Cert.DwMemKvReferenceIdeal.nD Cert.DwMemKvReferenceIdeal.τ).loc Cert.DwMemKvReferenceIdeal.main_arg1) = m' ((c.tc : Thread Cert.DwMemKvReferenceIdeal.nD Cert.DwMemKvReferenceIdeal.τ).loc Cert.DwMemKvReferenceIdeal.main_arg1))

def preserves_DMemh_DMemhIdeal : Prop :=
  True

def algebraic_DMemhIdeal_DMemhReferenceIdeal [hDMemhIdeal : Cert.DMemhIdeal.Facts] [hDMemhReferenceIdeal : Cert.DMemhReferenceIdeal.Facts] : Prop :=
  ∀ (m : (ℓ : Loc Cert.DMemhIdeal.nD Cert.DMemhIdeal.τ Cert.DMemhIdeal.sig) → Buf (Elt Ideal) ℓ) (g : Dev Cert.DMemhIdeal.nD → PrngReg)
    (m' : (ℓ : Loc Cert.DMemhReferenceIdeal.nD Cert.DMemhReferenceIdeal.τ Cert.DMemhReferenceIdeal.sig) → Buf (Elt Ideal) ℓ) (g' : Dev Cert.DMemhReferenceIdeal.nD → PrngReg), Pre_DMemhIdeal m →
    (∀ c : Dev Cert.DMemhIdeal.nD,
      m' ((c.tc : Thread Cert.DMemhReferenceIdeal.nD Cert.DMemhReferenceIdeal.τ).loc Cert.DMemhReferenceIdeal.main_arg0) = m ((c.tc : Thread Cert.DMemhIdeal.nD Cert.DMemhIdeal.τ).loc Cert.DMemhIdeal.main_arg0)
      ∧ m' ((c.tc : Thread Cert.DMemhReferenceIdeal.nD Cert.DMemhReferenceIdeal.τ).loc Cert.DMemhReferenceIdeal.main_arg1) = m ((c.tc : Thread Cert.DMemhIdeal.nD Cert.DMemhIdeal.τ).loc Cert.DMemhIdeal.main_arg1)) →
    ∃ (v0 : (c : Dev Cert.DMemhIdeal.nD) → Buf (Elt Ideal) ((c.tc : Thread Cert.DMemhIdeal.nD Cert.DMemhIdeal.τ).loc Cert.DMemhIdeal.main_v0)),
      θ_run (Cert.DMemhIdeal.defs (F := Ideal)) (onTc (τ := Cert.DMemhIdeal.τ) (Cert.DMemhIdeal.main (F := Ideal))) ⟨m, fun _ => 0, g⟩ (fun r => ∀ c : Dev Cert.DMemhIdeal.nD,
          r.2.mem ((c.tc : Thread Cert.DMemhIdeal.nD Cert.DMemhIdeal.τ).loc Cert.DMemhIdeal.main_v0) = v0 c
          ∧ r.2.mem ((c.tc : Thread Cert.DMemhIdeal.nD Cert.DMemhIdeal.τ).loc Cert.DMemhIdeal.main_arg0) = m ((c.tc : Thread Cert.DMemhIdeal.nD Cert.DMemhIdeal.τ).loc Cert.DMemhIdeal.main_arg0)
          ∧ r.2.mem ((c.tc : Thread Cert.DMemhIdeal.nD Cert.DMemhIdeal.τ).loc Cert.DMemhIdeal.main_arg1) = m ((c.tc : Thread Cert.DMemhIdeal.nD Cert.DMemhIdeal.τ).loc Cert.DMemhIdeal.main_arg1))
      ∧ θ_run (Cert.DMemhReferenceIdeal.defs (F := Ideal)) (onTc (τ := Cert.DMemhReferenceIdeal.τ) (Cert.DMemhReferenceIdeal.main (F := Ideal))) ⟨m', fun _ => 0, g'⟩ (fun r => ∀ c : Dev Cert.DMemhReferenceIdeal.nD,
          r.2.mem ((c.tc : Thread Cert.DMemhReferenceIdeal.nD Cert.DMemhReferenceIdeal.τ).loc Cert.DMemhReferenceIdeal.main_v4) = v0 c
          ∧ r.2.mem ((c.tc : Thread Cert.DMemhReferenceIdeal.nD Cert.DMemhReferenceIdeal.τ).loc Cert.DMemhReferenceIdeal.main_arg0) = m' ((c.tc : Thread Cert.DMemhReferenceIdeal.nD Cert.DMemhReferenceIdeal.τ).loc Cert.DMemhReferenceIdeal.main_arg0)
          ∧ r.2.mem ((c.tc : Thread Cert.DMemhReferenceIdeal.nD Cert.DMemhReferenceIdeal.τ).loc Cert.DMemhReferenceIdeal.main_arg1) = m' ((c.tc : Thread Cert.DMemhReferenceIdeal.nD Cert.DMemhReferenceIdeal.τ).loc Cert.DMemhReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v26) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactReferenceIdeal : Cert.DactReferenceIdeal.Facts) (hDw : Cert.Dw.Facts) (hDwIdeal : Cert.DwIdeal.Facts) (hDwReferenceIdeal : Cert.DwReferenceIdeal.Facts) (hDw2 : Cert.Dw2.Facts) (hDw2Ideal : Cert.Dw2Ideal.Facts) (hDw2ReferenceIdeal : Cert.Dw2ReferenceIdeal.Facts) (hUp : Cert.Up.Facts) (hUpIdeal : Cert.UpIdeal.Facts) (hUpReferenceIdeal : Cert.UpReferenceIdeal.Facts) (hDh : Cert.Dh.Facts) (hDhIdeal : Cert.DhIdeal.Facts) (hDhReferenceIdeal : Cert.DhReferenceIdeal.Facts) (hDown : Cert.Down.Facts) (hDownIdeal : Cert.DownIdeal.Facts) (hDownReferenceIdeal : Cert.DownReferenceIdeal.Facts) (hInProj : Cert.InProj.Facts) (hInProjIdeal : Cert.InProjIdeal.Facts) (hInProjReferenceIdeal : Cert.InProjReferenceIdeal.Facts) (hGateProj : Cert.GateProj.Facts) (hGateProjIdeal : Cert.GateProjIdeal.Facts) (hGateProjReferenceIdeal : Cert.GateProjReferenceIdeal.Facts) (hDwIn : Cert.DwIn.Facts) (hDwInIdeal : Cert.DwInIdeal.Facts) (hDwInReferenceIdeal : Cert.DwInReferenceIdeal.Facts) (hDwGate : Cert.DwGate.Facts) (hDwGateIdeal : Cert.DwGateIdeal.Facts) (hDwGateReferenceIdeal : Cert.DwGateReferenceIdeal.Facts) (hDhIn : Cert.DhIn.Facts) (hDhInIdeal : Cert.DhInIdeal.Facts) (hDhInReferenceIdeal : Cert.DhInReferenceIdeal.Facts) (hLoss : Cert.Loss.Facts) (hLossIdeal : Cert.LossIdeal.Facts) (hLossReferenceIdeal : Cert.LossReferenceIdeal.Facts) (hDhGate : Cert.DhGate.Facts) (hDhGateIdeal : Cert.DhGateIdeal.Facts) (hDhGateReferenceIdeal : Cert.DhGateReferenceIdeal.Facts) (hOutProj : Cert.OutProj.Facts) (hOutProjIdeal : Cert.OutProjIdeal.Facts) (hOutProjReferenceIdeal : Cert.OutProjReferenceIdeal.Facts) (hDwOut : Cert.DwOut.Facts) (hDwOutIdeal : Cert.DwOutIdeal.Facts) (hDwOutReferenceIdeal : Cert.DwOutReferenceIdeal.Facts) (hDMerged : Cert.DMerged.Facts) (hDMergedIdeal : Cert.DMergedIdeal.Facts) (hDMergedReferenceIdeal : Cert.DMergedReferenceIdeal.Facts) (hSbOut : Cert.SbOut.Facts) (hSbOutIdeal : Cert.SbOutIdeal.Facts) (hSbOutReferenceIdeal : Cert.SbOutReferenceIdeal.Facts) (hDwSb : Cert.DwSb.Facts) (hDwSbIdeal : Cert.DwSbIdeal.Facts) (hDwSbReferenceIdeal : Cert.DwSbReferenceIdeal.Facts) (hDOa : Cert.DOa.Facts) (hDOaIdeal : Cert.DOaIdeal.Facts) (hDOaReferenceIdeal : Cert.DOaReferenceIdeal.Facts) (hDsaOut : Cert.DsaOut.Facts) (hDsaOutIdeal : Cert.DsaOutIdeal.Facts) (hDsaOutReferenceIdeal : Cert.DsaOutReferenceIdeal.Facts) (hDwDsa : Cert.DwDsa.Facts) (hDwDsaIdeal : Cert.DwDsaIdeal.Facts) (hDwDsaReferenceIdeal : Cert.DwDsaReferenceIdeal.Facts) (hDOb : Cert.DOb.Facts) (hDObIdeal : Cert.DObIdeal.Facts) (hDObReferenceIdeal : Cert.DObReferenceIdeal.Facts) (hDOc : Cert.DOc.Facts) (hDOcIdeal : Cert.DOcIdeal.Facts) (hDOcReferenceIdeal : Cert.DOcReferenceIdeal.Facts) (hRms : Cert.Rms.Facts) (hRmsIdeal : Cert.RmsIdeal.Facts) (hRmsReferenceIdeal : Cert.RmsReferenceIdeal.Facts) (hMemRms : Cert.MemRms.Facts) (hMemRmsIdeal : Cert.MemRmsIdeal.Facts) (hMemRmsReferenceIdeal : Cert.MemRmsReferenceIdeal.Facts) (hMemKv : Cert.MemKv.Facts) (hMemKvIdeal : Cert.MemKvIdeal.Facts) (hMemKvReferenceIdeal : Cert.MemKvReferenceIdeal.Facts) (hDwMemKv : Cert.DwMemKv.Facts) (hDwMemKvIdeal : Cert.DwMemKvIdeal.Facts) (hDwMemKvReferenceIdeal : Cert.DwMemKvReferenceIdeal.Facts) (hDMemh : Cert.DMemh.Facts) (hDMemhIdeal : Cert.DMemhIdeal.Facts) (hDMemhReferenceIdeal : Cert.DMemhReferenceIdeal.Facts) (hMerge : Cert.Merge.Facts) (hMergeIdeal : Cert.MergeIdeal.Facts) (hMergeReferenceIdeal : Cert.MergeReferenceIdeal.Facts) (hMem : Cert.Mem.Facts) (hMemIdeal : Cert.MemIdeal.Facts) (hMemReferenceIdeal : Cert.MemReferenceIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactIdeal_pre_finite_gate (hDactIdeal := hDactIdeal) (hPre_finite_gate := hPre_finite_gate)
    ∧ quiescent_DactReferenceIdeal (hDactReferenceIdeal := hDactReferenceIdeal)
    ∧ quiescent_DactReferenceIdeal_pre_finite_gate (hDactReferenceIdeal := hDactReferenceIdeal) (hPre_finite_gate := hPre_finite_gate)
    ∧ quiescent_Dw (hDw := hDw)
    ∧ quiescent_DwIdeal (hDwIdeal := hDwIdeal)
    ∧ quiescent_DwReferenceIdeal (hDwReferenceIdeal := hDwReferenceIdeal)
    ∧ quiescent_Dw2 (hDw2 := hDw2)
    ∧ quiescent_Dw2Ideal (hDw2Ideal := hDw2Ideal)
    ∧ quiescent_Dw2ReferenceIdeal (hDw2ReferenceIdeal := hDw2ReferenceIdeal)
    ∧ quiescent_Up (hUp := hUp)
    ∧ quiescent_UpIdeal (hUpIdeal := hUpIdeal)
    ∧ quiescent_UpReferenceIdeal (hUpReferenceIdeal := hUpReferenceIdeal)
    ∧ quiescent_Dh (hDh := hDh)
    ∧ quiescent_DhIdeal (hDhIdeal := hDhIdeal)
    ∧ quiescent_DhReferenceIdeal (hDhReferenceIdeal := hDhReferenceIdeal)
    ∧ quiescent_Down (hDown := hDown)
    ∧ quiescent_DownIdeal (hDownIdeal := hDownIdeal)
    ∧ quiescent_DownReferenceIdeal (hDownReferenceIdeal := hDownReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_GateProj (hGateProj := hGateProj)
    ∧ quiescent_GateProjIdeal (hGateProjIdeal := hGateProjIdeal)
    ∧ quiescent_GateProjReferenceIdeal (hGateProjReferenceIdeal := hGateProjReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwGate (hDwGate := hDwGate)
    ∧ quiescent_DwGateIdeal (hDwGateIdeal := hDwGateIdeal)
    ∧ quiescent_DwGateReferenceIdeal (hDwGateReferenceIdeal := hDwGateReferenceIdeal)
    ∧ quiescent_DhIn (hDhIn := hDhIn)
    ∧ quiescent_DhInIdeal (hDhInIdeal := hDhInIdeal)
    ∧ quiescent_DhInReferenceIdeal (hDhInReferenceIdeal := hDhInReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_DhGate (hDhGate := hDhGate)
    ∧ quiescent_DhGateIdeal (hDhGateIdeal := hDhGateIdeal)
    ∧ quiescent_DhGateReferenceIdeal (hDhGateReferenceIdeal := hDhGateReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DMerged (hDMerged := hDMerged)
    ∧ quiescent_DMergedIdeal (hDMergedIdeal := hDMergedIdeal)
    ∧ quiescent_DMergedReferenceIdeal (hDMergedReferenceIdeal := hDMergedReferenceIdeal)
    ∧ quiescent_SbOut (hSbOut := hSbOut)
    ∧ quiescent_SbOutIdeal (hSbOutIdeal := hSbOutIdeal)
    ∧ quiescent_SbOutReferenceIdeal (hSbOutReferenceIdeal := hSbOutReferenceIdeal)
    ∧ quiescent_DwSb (hDwSb := hDwSb)
    ∧ quiescent_DwSbIdeal (hDwSbIdeal := hDwSbIdeal)
    ∧ quiescent_DwSbReferenceIdeal (hDwSbReferenceIdeal := hDwSbReferenceIdeal)
    ∧ quiescent_DOa (hDOa := hDOa)
    ∧ quiescent_DOaIdeal (hDOaIdeal := hDOaIdeal)
    ∧ quiescent_DOaReferenceIdeal (hDOaReferenceIdeal := hDOaReferenceIdeal)
    ∧ quiescent_DsaOut (hDsaOut := hDsaOut)
    ∧ quiescent_DsaOutIdeal (hDsaOutIdeal := hDsaOutIdeal)
    ∧ quiescent_DsaOutReferenceIdeal (hDsaOutReferenceIdeal := hDsaOutReferenceIdeal)
    ∧ quiescent_DwDsa (hDwDsa := hDwDsa)
    ∧ quiescent_DwDsaIdeal (hDwDsaIdeal := hDwDsaIdeal)
    ∧ quiescent_DwDsaReferenceIdeal (hDwDsaReferenceIdeal := hDwDsaReferenceIdeal)
    ∧ quiescent_DOb (hDOb := hDOb)
    ∧ quiescent_DObIdeal (hDObIdeal := hDObIdeal)
    ∧ quiescent_DObReferenceIdeal (hDObReferenceIdeal := hDObReferenceIdeal)
    ∧ quiescent_DOc (hDOc := hDOc)
    ∧ quiescent_DOcIdeal (hDOcIdeal := hDOcIdeal)
    ∧ quiescent_DOcReferenceIdeal (hDOcReferenceIdeal := hDOcReferenceIdeal)
    ∧ quiescent_Rms (hRms := hRms)
    ∧ quiescent_RmsIdeal (hRmsIdeal := hRmsIdeal)
    ∧ quiescent_RmsReferenceIdeal (hRmsReferenceIdeal := hRmsReferenceIdeal)
    ∧ quiescent_MemRms (hMemRms := hMemRms)
    ∧ quiescent_MemRmsIdeal (hMemRmsIdeal := hMemRmsIdeal)
    ∧ quiescent_MemRmsReferenceIdeal (hMemRmsReferenceIdeal := hMemRmsReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_DwMemKv (hDwMemKv := hDwMemKv)
    ∧ quiescent_DwMemKvIdeal (hDwMemKvIdeal := hDwMemKvIdeal)
    ∧ quiescent_DwMemKvReferenceIdeal (hDwMemKvReferenceIdeal := hDwMemKvReferenceIdeal)
    ∧ quiescent_DMemh (hDMemh := hDMemh)
    ∧ quiescent_DMemhIdeal (hDMemhIdeal := hDMemhIdeal)
    ∧ quiescent_DMemhReferenceIdeal (hDMemhReferenceIdeal := hDMemhReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mem (hMem := hMem)
    ∧ quiescent_MemIdeal (hMemIdeal := hMemIdeal)
    ∧ quiescent_MemReferenceIdeal (hMemReferenceIdeal := hMemReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactReferenceIdeal_pre_finite_gate (hDactIdeal := hDactIdeal) (hDactReferenceIdeal := hDactReferenceIdeal) (hPre_finite_gate := hPre_finite_gate)
    ∧ preserves_Dw_DwIdeal
    ∧ algebraic_DwIdeal_DwReferenceIdeal (hDwIdeal := hDwIdeal) (hDwReferenceIdeal := hDwReferenceIdeal)
    ∧ preserves_Dw2_Dw2Ideal
    ∧ algebraic_Dw2Ideal_Dw2ReferenceIdeal (hDw2Ideal := hDw2Ideal) (hDw2ReferenceIdeal := hDw2ReferenceIdeal)
    ∧ preserves_Up_UpIdeal
    ∧ algebraic_UpIdeal_UpReferenceIdeal (hUpIdeal := hUpIdeal) (hUpReferenceIdeal := hUpReferenceIdeal)
    ∧ preserves_Dh_DhIdeal
    ∧ algebraic_DhIdeal_DhReferenceIdeal (hDhIdeal := hDhIdeal) (hDhReferenceIdeal := hDhReferenceIdeal)
    ∧ preserves_Down_DownIdeal
    ∧ algebraic_DownIdeal_DownReferenceIdeal (hDownIdeal := hDownIdeal) (hDownReferenceIdeal := hDownReferenceIdeal)
    ∧ preserves_InProj_InProjIdeal
    ∧ algebraic_InProjIdeal_InProjReferenceIdeal (hInProjIdeal := hInProjIdeal) (hInProjReferenceIdeal := hInProjReferenceIdeal)
    ∧ preserves_GateProj_GateProjIdeal
    ∧ algebraic_GateProjIdeal_GateProjReferenceIdeal (hGateProjIdeal := hGateProjIdeal) (hGateProjReferenceIdeal := hGateProjReferenceIdeal)
    ∧ preserves_DwIn_DwInIdeal
    ∧ algebraic_DwInIdeal_DwInReferenceIdeal (hDwInIdeal := hDwInIdeal) (hDwInReferenceIdeal := hDwInReferenceIdeal)
    ∧ preserves_DwGate_DwGateIdeal
    ∧ algebraic_DwGateIdeal_DwGateReferenceIdeal (hDwGateIdeal := hDwGateIdeal) (hDwGateReferenceIdeal := hDwGateReferenceIdeal)
    ∧ preserves_DhIn_DhInIdeal
    ∧ algebraic_DhInIdeal_DhInReferenceIdeal (hDhInIdeal := hDhInIdeal) (hDhInReferenceIdeal := hDhInReferenceIdeal)
    ∧ preserves_Loss_LossIdeal
    ∧ algebraic_LossIdeal_LossReferenceIdeal (hLossIdeal := hLossIdeal) (hLossReferenceIdeal := hLossReferenceIdeal)
    ∧ preserves_DhGate_DhGateIdeal
    ∧ algebraic_DhGateIdeal_DhGateReferenceIdeal (hDhGateIdeal := hDhGateIdeal) (hDhGateReferenceIdeal := hDhGateReferenceIdeal)
    ∧ preserves_OutProj_OutProjIdeal
    ∧ algebraic_OutProjIdeal_OutProjReferenceIdeal (hOutProjIdeal := hOutProjIdeal) (hOutProjReferenceIdeal := hOutProjReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DMerged_DMergedIdeal
    ∧ algebraic_DMergedIdeal_DMergedReferenceIdeal (hDMergedIdeal := hDMergedIdeal) (hDMergedReferenceIdeal := hDMergedReferenceIdeal)
    ∧ preserves_SbOut_SbOutIdeal
    ∧ algebraic_SbOutIdeal_SbOutReferenceIdeal (hSbOutIdeal := hSbOutIdeal) (hSbOutReferenceIdeal := hSbOutReferenceIdeal)
    ∧ preserves_DwSb_DwSbIdeal
    ∧ algebraic_DwSbIdeal_DwSbReferenceIdeal (hDwSbIdeal := hDwSbIdeal) (hDwSbReferenceIdeal := hDwSbReferenceIdeal)
    ∧ preserves_DOa_DOaIdeal
    ∧ algebraic_DOaIdeal_DOaReferenceIdeal (hDOaIdeal := hDOaIdeal) (hDOaReferenceIdeal := hDOaReferenceIdeal)
    ∧ preserves_DsaOut_DsaOutIdeal
    ∧ algebraic_DsaOutIdeal_DsaOutReferenceIdeal (hDsaOutIdeal := hDsaOutIdeal) (hDsaOutReferenceIdeal := hDsaOutReferenceIdeal)
    ∧ preserves_DwDsa_DwDsaIdeal
    ∧ algebraic_DwDsaIdeal_DwDsaReferenceIdeal (hDwDsaIdeal := hDwDsaIdeal) (hDwDsaReferenceIdeal := hDwDsaReferenceIdeal)
    ∧ preserves_DOb_DObIdeal
    ∧ algebraic_DObIdeal_DObReferenceIdeal (hDObIdeal := hDObIdeal) (hDObReferenceIdeal := hDObReferenceIdeal)
    ∧ preserves_DOc_DOcIdeal
    ∧ algebraic_DOcIdeal_DOcReferenceIdeal (hDOcIdeal := hDOcIdeal) (hDOcReferenceIdeal := hDOcReferenceIdeal)
    ∧ preserves_Rms_RmsIdeal
    ∧ algebraic_RmsIdeal_RmsReferenceIdeal (hRmsIdeal := hRmsIdeal) (hRmsReferenceIdeal := hRmsReferenceIdeal)
    ∧ preserves_MemRms_MemRmsIdeal
    ∧ algebraic_MemRmsIdeal_MemRmsReferenceIdeal (hMemRmsIdeal := hMemRmsIdeal) (hMemRmsReferenceIdeal := hMemRmsReferenceIdeal)
    ∧ preserves_MemKv_MemKvIdeal
    ∧ algebraic_MemKvIdeal_MemKvReferenceIdeal (hMemKvIdeal := hMemKvIdeal) (hMemKvReferenceIdeal := hMemKvReferenceIdeal)
    ∧ preserves_DwMemKv_DwMemKvIdeal
    ∧ algebraic_DwMemKvIdeal_DwMemKvReferenceIdeal (hDwMemKvIdeal := hDwMemKvIdeal) (hDwMemKvReferenceIdeal := hDwMemKvReferenceIdeal)
    ∧ preserves_DMemh_DMemhIdeal
    ∧ algebraic_DMemhIdeal_DMemhReferenceIdeal (hDMemhIdeal := hDMemhIdeal) (hDMemhReferenceIdeal := hDMemhReferenceIdeal)
    ∧ preserves_Merge_MergeIdeal
    ∧ algebraic_MergeIdeal_MergeReferenceIdeal (hMergeIdeal := hMergeIdeal) (hMergeReferenceIdeal := hMergeReferenceIdeal)
    ∧ preserves_Mem_MemIdeal
    ∧ algebraic_MemIdeal_MemReferenceIdeal (hMemIdeal := hMemIdeal) (hMemReferenceIdeal := hMemReferenceIdeal)
-- ==== Pre_finite.lean ====
abbrev S16384x4096 : Shape := ⟨2, ![16384, 4096]⟩
abbrev S16384x512 : Shape := ⟨2, ![16384, 512]⟩
abbrev S16384x1536 : Shape := ⟨2, ![16384, 1536]⟩
abbrev S_ : Shape := ⟨0, ![]⟩

class Facts : Prop where
  slices_S16384x4096_S16384x1536_0_0 : S16384x4096.Slices ![0, 0] S16384x1536
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x4096 .bf16) (main_arg1 : FVec F S16384x512 .bf16) : IVec S_ 1 :=
  let main_v0 : FVec F S16384x1536 .bf16 := (extractStridedSlice S16384x1536 ![0, 0] · slices_S16384x4096_S16384x1536_0_0) main_arg0
  let main_v1 : FVec F S16384x1536 .f32 := (extf .f32 · bitsLt_bf16_f32) main_v0
  let main_v2 : FVec F S16384x512 .f32 := (extf .f32 · bitsLt_bf16_f32) main_arg1
  let main_v3 : FVec F S16384x1536 .f32 := Host.absf main_v1
  let main_cst : FVec F S_ .f32 := constant S_ .f32 0x7F800000#32
  let main_v4 : FVec F S16384x1536 .f32 := broadcastInDim S16384x1536 ![] bcast_S_S16384x1536 main_cst
  let main_v5 : IVec S16384x1536 1 := cmpf .olt main_v3 main_v4
  let main_c : IVec S_ 1 := constantI S_ 1 1#1
  let main_v6 : IVec S_ 1 := (fun x v => Host.reduce IntOp.andi x v reducesTo_S16384x1536_S_d0_1 h_S_) main_v5 main_c
  let main_v7 : FVec F S16384x512 .f32 := Host.absf main_v2
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_c_1 : IVec S_ 1 := constantI S_ 1 1#1
  let main_v10 : IVec S_ 1 := (fun x v => Host.reduce IntOp.andi x v reducesTo_S16384x512_S_d0_1 h_S_) main_v9 main_c_1
  let main_v11 : IVec S_ 1 := andi main_v6 main_v10
  main_v11
-- ==== Pre_finite_gate.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn {F : FTy → Type} [FloatOps F] (main_arg0 : FVec F S16384x1024 .bf16) (main_arg1 : FVec F S2816x1024 .bf16) (main_arg2 : FVec F S16384x2816 .bf16) (main_arg3 : FVec F S16384x2816 .bf16) : IVec S_ 1 :=
  let main_v0 : FVec F S16384x1024 .f32 := (extf .f32 · bitsLt_bf16_f32) main_arg0
  let main_v1 : FVec F S2816x1024 .f32 := (extf .f32 · bitsLt_bf16_f32) main_arg1
  let main_v2 : FVec F S16384x2816 .f32 := (extf .f32 · bitsLt_bf16_f32) main_arg3
  let main_v3 : FVec F S16384x1024 .f32 := Host.absf main_v0
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_c : IVec S_ 1 := constantI S_ 1 1#1
  let main_v6 : IVec S_ 1 := (fun x v => Host.reduce IntOp.andi x v reducesTo_S16384x1024_S_d0_1 h_S_) main_v5 main_c
  let main_v7 : FVec F S2816x1024 .f32 := Host.absf main_v1
  let main_cst_0 : FVec F S_ .f32 := constant S_ .f32 0x7F800000#32
  let main_v8 : FVec F S2816x1024 .f32 := broadcastInDim S2816x1024 ![] bcast_S_S2816x1024 main_cst_0
  let main_v9 : IVec S2816x1024 1 := cmpf .olt main_v7 main_v8
  let main_c_1 : IVec S_ 1 := constantI S_ 1 1#1
  let main_v10 : IVec S_ 1 := (fun x v => Host.reduce IntOp.andi x v reducesTo_S2816x1024_S_d0_1 h_S_) main_v9 main_c_1
  let main_v11 : FVec F S16384x2816 .f32 := Host.absf main_v2
  let main_cst_2 : FVec F S_ .f32 := constant S_ .f32 0x7F800000#32
  let main_v12 : FVec F S16384x2816 .f32 := broadcastInDim S16384x2816 ![] bcast_S_S16384x2816 main_cst_2
  let main_v13 : IVec S16384x2816 1 := cmpf .olt main_v11 main_v12
  let main_c_3 : IVec S_ 1 := constantI S_ 1 1#1
  let main_v14 : IVec S_ 1 := (fun x v => Host.reduce IntOp.andi x v reducesTo_S16384x2816_S_d0_1 h_S_) main_v13 main_c_3
  let main_v15 : IVec S_ 1 := andi main_v6 main_v10
  let main_v16 : IVec S_ 1 := andi main_v15 main_v14
  main_v16
-- ==== Kernel.lean ====
abbrev S16384x4096 : Shape := ⟨2, ![16384, 4096]⟩
abbrev S16384x512 : Shape := ⟨2, ![16384, 512]⟩
abbrev S256x128 : Shape := ⟨2, ![256, 128]⟩
abbrev S16384x128 : Shape := ⟨2, ![16384, 128]⟩
abbrev S512x128 : Shape := ⟨2, ![512, 128]⟩
abbrev S512x1 : Shape := ⟨2, ![512, 1]⟩
abbrev S128x128 : Shape := ⟨2, ![128, 128]⟩
abbrev S512x256 : Shape := ⟨2, ![512, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S2 : Shape := ⟨1, ![2]⟩
abbrev S_ : Shape := ⟨0, ![]⟩

abbrev nBuf : Space → Nat
  | .hbm => 6
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S16384x512, .bf16⟩
  | .hbm, ⟨2, _⟩ => ⟨S16384x512, .f32⟩
  | .hbm, ⟨3, _⟩ => ⟨S16384x512, .bf16⟩
  | .hbm, ⟨4, _⟩ => ⟨S16384x512, .f32⟩
  | .hbm, ⟨5, _⟩ => ⟨S16384x512, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S16384x128, .bf16⟩
  | .local _ .vmem, ⟨11, _⟩ => ⟨S16384x128, .bf16⟩
  | .local _ .vmem, ⟨12, _⟩ => ⟨S16384x128, .bf16⟩
  | .local _ .vmem, ⟨13, _⟩ => ⟨S16384x128, .bf16⟩
  | .local _ .vmem, ⟨14, _⟩ => ⟨S256x128, .f32⟩
  | .local _ .vmem, ⟨15, _⟩ => ⟨S256x128, .f32⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S16384x128, .f32⟩
  | .local _ .vmem, ⟨21, _⟩ => ⟨S16384x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c2_i32 : BitVec 32 := 2#32
  let v52 : BitVec 32 := Scalar.muli arg1 c2_i32
  let c1_i32_13 : BitVec 32 := 1#32
  let v53 : BitVec 32 := Scalar.addi v52 c1_i32_13
  let c128_i32_14 : BitVec 32 := 128#32
  let v54 : BitVec 32 := Scalar.muli v53 c128_i32_14
  v54
def k0_off1 (i : grid0.Coords) (c1_i32_13 : BitVec 32) : Fin 2 → Nat :=
  let arg1 : BitVec 32 := BitVec.ofNat 32 (i 1).val
  let c2_i32 : BitVec 32 := 2#32
  let v52 : BitVec 32 := Scalar.muli arg1 c2_i32
  let v53 : BitVec 32 := Scalar.addi v52 c1_i32_13
  let c128_i32_14 : BitVec 32 := 128#32
  let v54 : BitVec 32 := Scalar.muli v53 c128_i32_14
  let v55 : BitVec 32 := v54
  let v56 : Index := Scalar.indexCast v55
  let c0_15 : Index := 0#32
  ![v56.toNat, 0]
def k0_mult2 (i : grid0.Coords) : BitVec 32 :=
  let arg1 : BitVec 32 := BitVec.ofNat 32 (i 1).val
  let c2_i32_31 : BitVec 32 := 2#32
  let v103 : BitVec 32 := Scalar.muli arg1 c2_i32_31
  let c0_i32_32 : BitVec 32 := 0#32
  let v104 : BitVec 32 := Scalar.addi v103 c0_i32_32
  let c128_i32_33 : BitVec 32 := 128#32
  let v105 : BitVec 32 := Scalar.muli v104 c128_i32_33
  v105
def k0_mult3 (arg6 : BitVec 32) : BitVec 32 :=
  let c128_i32_55 : BitVec 32 := 128#32
  let v161 : BitVec 32 := Scalar.muli arg6 c128_i32_55
  v161

def k0_off2 (arg6 : BitVec 32) : Fin 2 → Nat :=
  let c128_i32_55 : BitVec 32 := 128#32
  let v161 : BitVec 32 := Scalar.muli arg6 c128_i32_55
  let v162 : BitVec 32 := v161
  let v163 : Index := Scalar.indexCast v162
  let c0_56 : Index := 0#32
  ![v163.toNat, 0]

def k0_chk1 (arg6 : BitVec 32) : Prop :=
  (128 ∣ (k0_mult3 arg6).toNat) ∧
  (∀ a, (k0_off2 arg6) a + S128x128.size a ≤ S16384x128.size a)
theorem k0_mult3_dvd : ∀ (arg6 : BitVec 32) (k0_hw1 : k0_chk1 arg6), 128 ∣ (k0_mult3 arg6).toNat := fun arg6 k0_hw1 => k0_hw1.1
theorem k0_off2_inb : ∀ (arg6 : BitVec 32) (k0_hw1 : k0_chk1 arg6), ∀ a, (k0_off2 arg6) a + S128x128.size a ≤ S16384x128.size a := fun arg6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 64], ![false, false]⟩

def k1_mult1 (i : grid1.Coords) : BitVec 32 :=
  let arg1 : BitVec 32 := BitVec.ofNat 32 (i 1).val
  let c2_i32 : BitVec 32 := 2#32
  let v90 : BitVec 32 := Scalar.muli arg1 c2_i32
  let c1_i32_29 : BitVec 32 := 1#32
  let v91 : BitVec 32 := Scalar.addi v90 c1_i32_29
  let c128_i32_30 : BitVec 32 := 128#32
  let v92 : BitVec 32 := Scalar.muli v91 c128_i32_30
  v92
def k1_off1 (i : grid1.Coords) (c1_i32_29 : BitVec 32) : Fin 2 → Nat :=
  let arg1 : BitVec 32 := BitVec.ofNat 32 (i 1).val
  let c2_i32 : BitVec 32 := 2#32
  let v90 : BitVec 32 := Scalar.muli arg1 c2_i32
  let v91 : BitVec 32 := Scalar.addi v90 c1_i32_29
  let c128_i32_30 : BitVec 32 := 128#32
  let v92 : BitVec 32 := Scalar.muli v91 c128_i32_30
  let v93 : BitVec 32 := v92
  let v94 : Index := Scalar.indexCast v93
  let c0_31 : Index := 0#32
  ![v94.toNat, 0]
def k1_mult2 (i : grid1.Coords) : BitVec 32 :=
  let arg1 : BitVec 32 := BitVec.ofNat 32 (i 1).val
  let c2_i32_59 : BitVec 32 := 2#32
  let v185 : BitVec 32 := Scalar.muli arg1 c2_i32_59
  let c0_i32_60 : BitVec 32 := 0#32
  let v186 : BitVec 32 := Scalar.addi v185 c0_i32_60
  let c128_i32_61 : BitVec 32 := 128#32
  let v187 : BitVec 32 := Scalar.muli v186 c128_i32_61
  v187
def k1_mult3 (arg13 : BitVec 32) : BitVec 32 :=
  let c128_i32_96 : BitVec 32 := 128#32
  let v291 : BitVec 32 := Scalar.muli arg13 c128_i32_96
  v291

def k1_off2 (arg13 : BitVec 32) : Fin 2 → Nat :=
  let c128_i32_96 : BitVec 32 := 128#32
  let v291 : BitVec 32 := Scalar.muli arg13 c128_i32_96
  let v292 : BitVec 32 := v291
  let v293 : Index := Scalar.indexCast v292
  let c0_97 : Index := 0#32
  ![v293.toNat, 0]

def k1_chk1 (arg13 : BitVec 32) : Prop :=
  (128 ∣ (k1_mult3 arg13).toNat) ∧
  (∀ a, (k1_off2 arg13) a + S128x128.size a ≤ S16384x128.size a)
theorem k1_mult3_dvd : ∀ (arg13 : BitVec 32) (k1_hw1 : k1_chk1 arg13), 128 ∣ (k1_mult3 arg13).toNat := fun arg13 k1_hw1 => k1_hw1.1
theorem k1_off2_inb : ∀ (arg13 : BitVec 32) (k1_hw1 : k1_chk1 arg13), ∀ a, (k1_off2 arg13) a + S128x128.size a ≤ S16384x128.size a := fun arg13 k1_hw1 => k1_hw1.2

def k1_cond2 (i : grid1.Coords) : BitVec 1 :=
  let arg1 : BitVec 32 := BitVec.ofNat 32 (i 1).val
  let c63_i32 : BitVec 32 := 63#32
  let v288 : BitVec 1 := Scalar.cmpi .eq arg1 c63_i32
  let v289 : BitVec 32 := Scalar.extui v288
  let c0_i32_95 : BitVec 32 := 0#32
  let v290 : BitVec 1 := Scalar.cmpi .ne v289 c0_i32_95
  v290

def k1_mult4 (i : grid1.Coords) : BitVec 32 :=
  let arg0 : BitVec 32 := BitVec.ofNat 32 (i 0).val
  let c128_i32_96 : BitVec 32 := 128#32
  let v291 : BitVec 32 := Scalar.muli arg0 c128_i32_96
  v291
def k1_off3 (i : grid1.Coords) : Fin 2 → Nat :=
  let c0_i32_98 : BitVec 32 := 0#32
  let arg0 : BitVec 32 := BitVec.ofNat 32 (i 0).val
  let c128_i32_96 : BitVec 32 := 128#32
  let v291 : BitVec 32 := Scalar.muli arg0 c128_i32_96
  let v292 : BitVec 32 := v291
  ![0, v292.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16384x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16384x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "log2_e" => some (((Real.log 2)⁻¹ : ℝ) : EReal)
  | "sb_dead" => some ⊥
  | "scale_log2_e" => some (((1 / 8) * (Real.log 2)⁻¹ : ℝ) : EReal)
  | _ => none
-- ==== ReferenceIdeal.lean ====
abbrev S16384x4096 : Shape := ⟨2, ![16384, 4096]⟩
abbrev S16384x512 : Shape := ⟨2, ![16384, 512]⟩
abbrev S16384x8x64 : Shape := ⟨3, ![16384, 8, 64]⟩
abbrev S8x16384x64 : Shape := ⟨3, ![8, 16384, 64]⟩
abbrev S16384 : Shape := ⟨1, ![16384]⟩
abbrev S8x16384x16384 : Shape := ⟨3, ![8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 182
  | .vmem => 0
  | .smem => 0
  | _ => 0

abbrev hbmTy0_0 (i : Nat) : BufTy := match i % 128 with
  | 0 => ⟨S16384x4096, .bf16⟩
  | 1 => ⟨S16384x512, .bf16⟩
  | 2 => ⟨S16384x512, .bf16⟩
  | 3 => ⟨S16384x512, .f32⟩
  | 4 => ⟨S16384x8x64, .f32⟩
  | 5 => ⟨S8x16384x64, .f32⟩
  | 6 => ⟨S16384x512, .bf16⟩
  | 7 => ⟨S16384x512, .f32⟩
  | 8 => ⟨S16384x8x64, .f32⟩
  | 9 => ⟨S8x16384x64, .f32⟩
  | 10 => ⟨S16384x512, .bf16⟩
  | 11 => ⟨S16384x512, .f32⟩
  | 12 => ⟨S16384x8x64, .f32⟩
  | 13 => ⟨S8x16384x64, .f32⟩
  | 14 => ⟨S16384, .i32⟩
  | 15 => ⟨S8x16384x16384, .f32⟩
  | 16 => ⟨S_, .f32⟩
  | 17 => ⟨S8x16384x16384, .f32⟩
  | 18 => ⟨S8x16384x16384, .f32⟩
  | 19 => ⟨S1x16384, .i32⟩
  | 20 => ⟨S16384x1, .i32⟩
  | 21 => ⟨S16384x16384, .i32⟩
  | 22 => ⟨S16384x16384, .i32⟩
  | 23 => ⟨S16384x16384, .i1⟩
  | 24 => ⟨S8x16384x16384, .f32⟩
  | 25 => ⟨S8x16384x16384, .f32⟩
  | 26 => ⟨S_, .f32⟩
  | 27 => ⟨S8x16384x16384, .f32⟩
  | 28 => ⟨S8x16384x16384, .f32⟩
  | 29 => ⟨S8x16384x16384, .f32⟩
  | 30 => ⟨S8x16384x16384, .f32⟩
  | 31 => ⟨S8x16384x16384, .i1⟩
  | 32 => ⟨S8x16384x16384, .f32⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S8x16384x16384, .f32⟩
  | 40 => ⟨S_, .f32⟩
  | 41 => ⟨S8x16384x16384, .f32⟩
  | 42 => ⟨S8x16384x16384, .i1⟩
  | 43 => ⟨S_, .f32⟩
  | 44 => ⟨S8x16384x16384, .f32⟩
  | 45 => ⟨S8x16384x16384, .f32⟩
  | 46 => ⟨S_, .f32⟩
  | 47 => ⟨S8x16384x16384, .f32⟩
  | 48 => ⟨S8x16384x16384, .i1⟩
  | 49 => ⟨S_, .f32⟩
  | 50 => ⟨S8x16384x16384, .f32⟩
  | 51 => ⟨S8x16384x16384, .f32⟩
  | 52 => ⟨S8x16384x16384, .f32⟩
  | 53 => ⟨S8x16384x16384, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x16384x16384, .f32⟩
  | 62 => ⟨S8x16384x16384, .i1⟩
  | 63 => ⟨S_, .f32⟩
  | 64 => ⟨S8x16384x16384, .f32⟩
  | 65 => ⟨S8x16384x16384, .f32⟩
  | 66 => ⟨S8x16384x16384, .f32⟩
  | 67 => ⟨S8x16384x16384, .f32⟩
  | 68 => ⟨S8x16384x16384, .f32⟩
  | 69 => ⟨S_, .f32⟩
  | 70 => ⟨S8x16384x16384, .f32⟩
  | 71 => ⟨S8x16384x16384, .f32⟩
  | 72 => ⟨S8x16384x16384, .f32⟩
  | 73 => ⟨S_, .f32⟩
  | 74 => ⟨S_, .f32⟩
  | 75 => ⟨S8x16384x16384, .i1⟩
  | 76 => ⟨S8x16384x16384, .f32⟩
  | 77 => ⟨S8x16384x16384, .f32⟩
  | 78 => ⟨S_, .f32⟩
  | 79 => ⟨S8x16384x16384, .f32⟩
  | 80 => ⟨S_, .f32⟩
  | 81 => ⟨S_, .f32⟩
  | 82 => ⟨S8x16384x16384, .f32⟩
  | 83 => ⟨S8x16384x16384, .f32⟩
  | 84 => ⟨S8x16384x16384, .f32⟩
  | 85 => ⟨S_, .f32⟩
  | 86 => ⟨S8x16384x16384, .f32⟩
  | 87 => ⟨S8x16384x16384, .f32⟩
  | 88 => ⟨S8x16384x16384, .f32⟩
  | 89 => ⟨S8x16384x16384, .f32⟩
  | 90 => ⟨S8x16384x16384, .i1⟩
  | 91 => ⟨S8x16384x16384, .f32⟩
  | 92 => ⟨S8x16384x16384, .f32⟩
  | 93 => ⟨S8x16384x16384, .f32⟩
  | 94 => ⟨S8x16384x16384, .f32⟩
  | 95 => ⟨S8x16384x16384, .f32⟩
  | 96 => ⟨S8x16384x16384, .f32⟩
  | 97 => ⟨S8x16384x16384, .f32⟩
  | 98 => ⟨S8x16384x16384, .f32⟩
  | 99 => ⟨S_, .f32⟩
  | 100 => ⟨S8x16384x16384, .f32⟩
  | 101 => ⟨S8x16384x16384, .i1⟩
  | 102 => ⟨S_, .f32⟩
  | 103 => ⟨S8x16384x16384, .f32⟩
  | 104 => ⟨S8x16384x16384, .f32⟩
  | 105 => ⟨S_, .f32⟩
  | 106 => ⟨S8x16384x16384, .f32⟩
  | 107 => ⟨S8x16384x16384, .i1⟩
  | 108 => ⟨S_, .f32⟩
  | 109 => ⟨S8x16384x16384, .f32⟩
  | 110 => ⟨S8x16384x16384, .f32⟩
  | 111 => ⟨S8x16384x16384, .f32⟩
  | 112 => ⟨S8x16384x16384, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x16384x16384, .f32⟩
  | 121 => ⟨S8x16384x16384, .i1⟩
  | 122 => ⟨S_, .f32⟩
  | 123 => ⟨S8x16384x16384, .f32⟩
  | 124 => ⟨S8x16384x16384, .f32⟩
  | 125 => ⟨S8x16384x16384, .f32⟩
  | 126 => ⟨S8x16384x16384, .f32⟩
  | 127 => ⟨S8x16384x16384, .f32⟩
  | _ => ⟨S16384x4096, .bf16⟩

abbrev hbmTy0_1 (i : Nat) : BufTy := match i % 128 with
  | 0 => ⟨S_, .f32⟩
  | 1 => ⟨S8x16384x16384, .f32⟩
  | 2 => ⟨S8x16384x16384, .f32⟩
  | 3 => ⟨S8x16384x16384, .f32⟩
  | 4 => ⟨S8x16384x16384, .f32⟩
  | 5 => ⟨S8x16384x16384, .f32⟩
  | 6 => ⟨S_, .f32⟩
  | 7 => ⟨S_, .f32⟩
  | 8 => ⟨S8x16384x16384, .i1⟩
  | 9 => ⟨S8x16384x16384, .f32⟩
  | 10 => ⟨S8x16384x16384, .f32⟩
  | 11 => ⟨S_, .f32⟩
  | 12 => ⟨S8x16384x16384, .f32⟩
  | 13 => ⟨S8x16384x64, .f32⟩
  | 14 => ⟨S16384x512, .f32⟩
  | 15 => ⟨S16384x8x64, .f32⟩
  | 16 => ⟨S8x16384x64, .f32⟩
  | 17 => ⟨S8x64x16384, .f32⟩
  | 18 => ⟨S8x16384x64, .f32⟩
  | 19 => ⟨S8x16384x16384, .f32⟩
  | 20 => ⟨S_, .f32⟩
  | 21 => ⟨S8x16384x16384, .f32⟩
  | 22 => ⟨S8x16384x16384, .f32⟩
  | 23 => ⟨S8x16384x16384, .f32⟩
  | 24 => ⟨S8x16384x16384, .f32⟩
  | 25 => ⟨S8x16384x16384, .f32⟩
  | 26 => ⟨S8x16384x16384, .f32⟩
  | 27 => ⟨S8x16384x16384, .f32⟩
  | 28 => ⟨S_, .f32⟩
  | 29 => ⟨S_, .f32⟩
  | 30 => ⟨S8x16384x16384, .f32⟩
  | 31 => ⟨S8x16384x16384, .f32⟩
  | 32 => ⟨S_, .f32⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S8x16384x16384, .f32⟩
  | 40 => ⟨S_, .f32⟩
  | 41 => ⟨S8x16384x16384, .f32⟩
  | 42 => ⟨S8x16384x16384, .f32⟩
  | 43 => ⟨S8x16384x64, .f32⟩
  | 44 => ⟨S8x16384x64, .f32⟩
  | 45 => ⟨S16384x8x64, .f32⟩
  | 46 => ⟨S16384x512, .f32⟩
  | 47 => ⟨S16384x8x64, .f32⟩
  | 48 => ⟨S16384x512, .f32⟩
  | 49 => ⟨S16384x512, .bf16⟩
  | 50 => ⟨S16384x8x64, .f32⟩
  | 51 => ⟨S16384x512, .f32⟩
  | 52 => ⟨S16384x8x64, .f32⟩
  | 53 => ⟨S16384x512, .f32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v26_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Dact.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactReferenceIdeal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x1024, .f32⟩
  | .hbm, ⟨5, _⟩ => ⟨S2816x1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .bf16⟩
  | .hbm, ⟨37, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Dw.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x1024, .f32⟩
  | .hbm, ⟨3, _⟩ => ⟨S16384x2816, .f32⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dw2.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2ReferenceIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S1024x2816, .f32⟩
  | .hbm, ⟨14, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Up.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x1024, .f32⟩
  | .hbm, ⟨4, _⟩ => ⟨S1024x2816, .f32⟩
  | .hbm, ⟨5, _⟩ => ⟨S1024x2816, .f32⟩
  | .hbm, ⟨6, _⟩ => ⟨S16384x2816, .f32⟩
  | .hbm, ⟨7, _⟩ => ⟨S16384x2816, .f32⟩
  | .hbm, ⟨8, _⟩ => ⟨S16384x2816, .bf16⟩
  | .hbm, ⟨9, _⟩ => ⟨S16384x2816, .bf16⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Dh.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S16384x2816, .bf16⟩
  | .hbm, ⟨1, _⟩ => ⟨S1024x2816, .bf16⟩
  | .hbm, ⟨2, _⟩ => ⟨S16384x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def k0_cond3 (i : grid0.Coords) : BitVec 1 :=
  let arg0 : BitVec 32 := BitVec.ofNat 32 (i 0).val
  let c0_i32_32 : BitVec 32 := 0#32
  let v51 : BitVec 1 := Scalar.cmpi .eq arg0 c0_i32_32
  let v52 : BitVec 32 := Scalar.extui v51
  let c0_i32_33 : BitVec 32 := 0#32
  let v53 : BitVec 1 := Scalar.cmpi .ne v52 c0_i32_33
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== DhReferenceIdeal.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S1024x2816, .bf16⟩
  | .hbm, ⟨2, _⟩ => ⟨S16384x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x2816, .f32⟩
  | .hbm, ⟨8, _⟩ => ⟨S1024x2816, .f32⟩
  | .hbm, ⟨9, _⟩ => ⟨S16384x2816, .f32⟩
  | .hbm, ⟨10, _⟩ => ⟨S1024x2816, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== InProj.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S16384x1024, .f32⟩
  | .hbm, ⟨3, _⟩ => ⟨S1024x4096, .f32⟩
  | .hbm, ⟨4, _⟩ => ⟨S16384x4096, .f32⟩
  | .hbm, ⟨5, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateProj.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateProjReferenceIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwIn.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S16384x1024, .f32⟩
  | .hbm, ⟨3, _⟩ => ⟨S16384x4096, .f32⟩
  | .hbm, ⟨4, _⟩ => ⟨S_, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGate.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateReferenceIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S16384x1024, .f32⟩
  | .hbm, ⟨3, _⟩ => ⟨S16384x3072, .f32⟩
  | .hbm, ⟨4, _⟩ => ⟨S_, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhIn.lean ====
abbrev S16384x4096 : Shape := ⟨2, ![16384, 4096]⟩
abbrev S1024x4096 : Shape := ⟨2, ![1024, 4096]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhInReferenceIdeal.lean ====
abbrev S16384x4096 : Shape := ⟨2, ![16384, 4096]⟩
abbrev S1024x4096 : Shape := ⟨2, ![1024, 4096]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x4096, .f32⟩
  | .hbm, ⟨3, _⟩ => ⟨S1024x4096, .f32⟩
  | .hbm, ⟨4, _⟩ => ⟨S_, .f32⟩
  | .hbm, ⟨5, _⟩ => ⟨S16384x1024, .f32⟩
  | .hbm, ⟨6, _⟩ => ⟨S16384x4096, .f32⟩
  | .hbm, ⟨7, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Loss.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== LossReferenceIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S1024 : Shape := ⟨1, ![1024]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1024, .f32⟩
  | .hbm, ⟨33, _⟩ => ⟨S16384x1024, .f32⟩
  | .hbm, ⟨34, _⟩ => ⟨S16384x1024, .bf16⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DhGate.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== DhGateReferenceIdeal.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x3072, .f32⟩
  | .hbm, ⟨7, _⟩ => ⟨S1024x3072, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x3072, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjReferenceIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwOut.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v11 : BitVec 1 := Scalar.cmpi .eq arg2 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMerged.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbOut.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutReferenceIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .bf16⟩
  | .hbm, ⟨2, _⟩ => ⟨S512x1024, .f32⟩
  | .hbm, ⟨3, _⟩ => ⟨S16384x1024, .f32⟩
  | .hbm, ⟨4, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwSb.lean ====
abbrev S16384x512 : Shape := ⟨2, ![16384, 512]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v12 : BitVec 1 := Scalar.cmpi .eq arg2 c31_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSbReferenceIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S512x1024, .f32⟩
  | .hbm, ⟨5, _⟩ => ⟨S16384x1024, .f32⟩
  | .hbm, ⟨6, _⟩ => ⟨S1024x512, .f32⟩
  | .hbm, ⟨7, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOa.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOaReferenceIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x1024, .f32⟩
  | .hbm, ⟨3, _⟩ => ⟨S512x1024, .f32⟩
  | .hbm, ⟨4, _⟩ => ⟨S_, .f32⟩
  | .hbm, ⟨5, _⟩ => ⟨S16384x512, .f32⟩
  | .hbm, ⟨6, _⟩ => ⟨S16384x1024, .f32⟩
  | .hbm, ⟨7, _⟩ => ⟨S16384x512, .f32⟩
  | .hbm, ⟨8, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DsaOut.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S16384x1024, .bf16⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S256x512, .bf16⟩
  | .local _ .vmem, ⟨4, _⟩ => ⟨S1024x512, .bf16⟩
  | .local _ .vmem, ⟨5, _⟩ => ⟨S1024x512, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DsaOutReferenceIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .bf16⟩
  | .hbm, ⟨2, _⟩ => ⟨S256x1024, .f32⟩
  | .hbm, ⟨3, _⟩ => ⟨S16384x1024, .f32⟩
  | .hbm, ⟨4, _⟩ => ⟨S16384x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDsa.lean ====
abbrev S16384x256 : Shape := ⟨2, ![16384, 256]⟩
abbrev S16384x1024 : Shape := ⟨2, ![16384, 1024]⟩
abbrev S256x1024 : Shape := ⟨2, ![256, 1024]⟩
abbrev S512x256 : Shape := ⟨2, ![512, 256]⟩
abbrev S512x512 : Shape := ⟨2, ![512, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 32], ![false, false, false]⟩

def k0_cond2 (i : grid0.Coords) : BitVec 1 :=
  let arg2 : BitVec 32 := BitVec.ofNat 32 (i 2).val
  let c31_i32 : BitVec 32 := 31#32
  let v12 : BitVec 1 := Scalar.cmpi .eq arg2 c31_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDsaReferenceIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S256x1024, .f32⟩
  | .hbm, ⟨5, _⟩ => ⟨S16384x1024, .f32⟩
  | .hbm, ⟨6, _⟩ => ⟨S1024x256, .f32⟩
  | .hbm, ⟨7, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOb.lean ====
abbrev S16384x1024 : Shape := ⟨2, ![16384, 1024]⟩
abbrev S256x1024 : Shape := ⟨2, ![256, 1024]⟩
abbrev S16384x256 : Shape := ⟨2, ![16384, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DObReferenceIdeal.lean ====
abbrev S16384x1024 : Shape := ⟨2, ![16384, 1024]⟩
abbrev S256x1024 : Shape := ⟨2, ![256, 1024]⟩
abbrev S_ : Shape := ⟨0, ![]⟩
abbrev S16384x256 : Shape := ⟨2, ![16384, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x1024, .f32⟩
  | .hbm, ⟨3, _⟩ => ⟨S256x1024, .f32⟩
  | .hbm, ⟨4, _⟩ => ⟨S_, .f32⟩
  | .hbm, ⟨5, _⟩ => ⟨S16384x256, .f32⟩
  | .hbm, ⟨6, _⟩ => ⟨S16384x1024, .f32⟩
  | .hbm, ⟨7, _⟩ => ⟨S16384x256, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOc.lean ====
abbrev S16384x1024 : Shape := ⟨2, ![16384, 1024]⟩
abbrev S256x1024 : Shape := ⟨2, ![256, 1024]⟩
abbrev S16384x256 : Shape := ⟨2, ![16384, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOcReferenceIdeal.lean ====
abbrev S16384x1024 : Shape := ⟨2, ![16384, 1024]⟩
abbrev S256x1024 : Shape := ⟨2, ![256, 1024]⟩
abbrev S_ : Shape := ⟨0, ![]⟩
abbrev S16384x256 : Shape := ⟨2, ![16384, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x1024, .f32⟩
  | .hbm, ⟨3, _⟩ => ⟨S256x1024, .f32⟩
  | .hbm, ⟨4, _⟩ => ⟨S_, .f32⟩
  | .hbm, ⟨5, _⟩ => ⟨S16384x256, .f32⟩
  | .hbm, ⟨6, _⟩ => ⟨S16384x1024, .f32⟩
  | .hbm, ⟨7, _⟩ => ⟨S16384x256, .f32⟩
  | .hbm, ⟨8, _⟩ => ⟨S16384x256, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Rms.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemRms.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemRmsReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemKv.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x512, .bf16⟩
  | .local _ .vmem, ⟨0, _⟩ => ⟨S256x1024, .bf16⟩
  | .local _ .vmem, ⟨1, _⟩ => ⟨S1024x512, .bf16⟩
  | .local _ .vmem, ⟨2, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvReferenceIdeal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x1024, .f32⟩
  | .hbm, ⟨3, _⟩ => ⟨S1024x512, .f32⟩
  | .hbm, ⟨4, _⟩ => ⟨S256x512, .f32⟩
  | .hbm, ⟨5, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwMemKv.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S1024x512, .f32⟩
  | .local _ .vmem, ⟨0, _⟩ => ⟨S256x1024, .bf16⟩
  | .local _ .vmem, ⟨1, _⟩ => ⟨S256x512, .bf16⟩
  | .local _ .vmem, ⟨2, _⟩ => ⟨S1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwMemKvReferenceIdeal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S256x1024, .f32⟩
  | .hbm, ⟨3, _⟩ => ⟨S256x512, .f32⟩
  | .hbm, ⟨4, _⟩ => ⟨S_, .f32⟩
  | .hbm, ⟨5, _⟩ => ⟨S1024x512, .f32⟩
  | .hbm, ⟨6, _⟩ => ⟨S256x512, .f32⟩
  | .hbm, ⟨7, _⟩ => ⟨S512x1024, .f32⟩
  | .hbm, ⟨8, _⟩ => ⟨S1024x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMemh.lean ====
abbrev S256x512 : Shape := ⟨2, ![256, 512]⟩
abbrev S1024x512 : Shape := ⟨2, ![1024, 512]⟩
abbrev S256x1024 : Shape := ⟨2, ![256, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x1024, .f32⟩
  | .local _ .vmem, ⟨0, _⟩ => ⟨S256x512, .bf16⟩
  | .local _ .vmem, ⟨1, _⟩ => ⟨S512x512, .bf16⟩
  | .local _ .vmem, ⟨2, _⟩ => ⟨S512x512, .bf16⟩
  | .local _ .vmem, ⟨3, _⟩ => ⟨S256x512, .f32⟩
  | .local _ .vmem, ⟨4, _⟩ => ⟨S256x512, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMemhReferenceIdeal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x512, .f32⟩
  | .hbm, ⟨3, _⟩ => ⟨S1024x512, .f32⟩
  | .hbm, ⟨4, _⟩ => ⟨S_, .f32⟩
  | .hbm, ⟨5, _⟩ => ⟨S256x1024, .f32⟩
  | .hbm, ⟨6, _⟩ => ⟨S256x512, .f32⟩
  | .hbm, ⟨7, _⟩ => ⟨S256x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S16384x3072 : Shape := ⟨2, ![16384, 3072]⟩
abbrev S1x3072 : Shape := ⟨2, ![1, 3072]⟩
abbrev S16384x1024 : Shape := ⟨2, ![16384, 1024]⟩
abbrev S1024x1024 : Shape := ⟨2, ![1024, 1024]⟩
abbrev S1x1024 : Shape := ⟨2, ![1, 1024]⟩

abbrev nBuf : Space → Nat
  | .hbm => 6
  | .vmem => 17
  | .smem => 0
  | _ => 0

abbrev bufTy : (tb : Table) → Fin (tcTables nBuf tb) → BufTy
  | .hbm, ⟨0, _⟩ => ⟨S16384x3072, .bf16⟩
  | .hbm, ⟨1, _⟩ => ⟨S1x3072, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x3072 : Shape := ⟨2, ![16384, 3072]⟩
abbrev S1x3072 : Shape := ⟨2, ![1, 3072]⟩
abbrev S16384x1024 : Shape := ⟨2, ![16384, 1024]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1x3072, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x3072, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x3072, .f32⟩
  | .hbm, ⟨10, _⟩ => ⟨S16384x3072, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S16384x3x1024, .f32⟩
  | .hbm, ⟨20, _⟩ => ⟨S16384x1x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Mem.lean ====
abbrev S16384x256 : Shape := ⟨2, ![16384, 256]⟩
abbrev S256x256 : Shape := ⟨2, ![256, 256]⟩
abbrev S256x512 : Shape := ⟨2, ![256, 512]⟩
abbrev S2048x128 : Shape := ⟨2, ![2048, 128]⟩
abbrev S256x128 : Shape := ⟨2, ![256, 128]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x512, .bf16⟩
  | .hbm, ⟨3, _⟩ => ⟨S16384x256, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .f32⟩
  | .local _ .vmem, ⟨7, _⟩ => ⟨S2048x128, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S16384x256 : Shape := ⟨2, ![16384, 256]⟩
abbrev S256x256 : Shape := ⟨2, ![256, 256]⟩
abbrev S256x512 : Shape := ⟨2, ![256, 512]⟩
abbrev S16384x4x64 : Shape := ⟨3, ![16384, 4, 64]⟩
abbrev S4x16384x64 : Shape := ⟨3, ![4, 16384, 64]⟩
abbrev S256x4x64 : Shape := ⟨3, ![256, 4, 64]⟩
abbrev S4x256x64 : Shape := ⟨3, ![4, 256, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x512, .bf16⟩
  | .hbm, ⟨3, _⟩ => ⟨S16384x256, .f32⟩
  | .hbm, ⟨4, _⟩ => ⟨S256x256, .f32⟩
  | .hbm, ⟨5, _⟩ => ⟨S256x512, .f32⟩
  | .hbm, ⟨6, _⟩ => ⟨S16384x4x64, .f32⟩
  | .hbm, ⟨7, _⟩ => ⟨S4x16384x64, .f32⟩
  | .hbm, ⟨8, _⟩ => ⟨S256x4x64, .f32⟩
  | .hbm, ⟨9, _⟩ => ⟨S4x256x64, .f32⟩
  | .hbm, ⟨10, _⟩ => ⟨S4x16384x256, .f32⟩
  | .hbm, ⟨11, _⟩ => ⟨S_, .f32⟩
  | .hbm, ⟨12, _⟩ => ⟨S4x16384x256, .f32⟩
  | .hbm, ⟨13, _⟩ => ⟨S4x16384x256, .f32⟩
  | .hbm, ⟨14, _⟩ => ⟨S_, .f32⟩
  | .hbm, ⟨15, _⟩ => ⟨S4x16384, .f32⟩
  | .hbm, ⟨16, _⟩ => ⟨S_, .f32⟩
  | .hbm, ⟨17, _⟩ => ⟨S4x16384, .f32⟩
  | .hbm, ⟨18, _⟩ => ⟨S4x16384, .f32⟩
  | .hbm, ⟨19, _⟩ => ⟨S4x16384x1, .f32⟩
  | .hbm, ⟨20, _⟩ => ⟨S4x16384x256, .f32⟩
  | .hbm, ⟨21, _⟩ => ⟨S4x16384x256, .f32⟩
  | .hbm, ⟨22, _⟩ => ⟨S4x16384x256, .f32⟩
  | .hbm, ⟨23, _⟩ => ⟨S_, .f32⟩
  | .hbm, ⟨24, _⟩ => ⟨S4x16384, .f32⟩
  | .hbm, ⟨25, _⟩ => ⟨S4x16384x1, .f32⟩
  | .hbm, ⟨26, _⟩ => ⟨S4x16384x256, .f32⟩
  | .hbm, ⟨27, _⟩ => ⟨S4x16384x256, .f32⟩
  | .hbm, ⟨28, _⟩ => ⟨S256x256, .f32⟩
  | .hbm, ⟨29, _⟩ => ⟨S256x4x64, .f32⟩
  | .hbm, ⟨30, _⟩ => ⟨S4x256x64, .f32⟩
  | .hbm, ⟨31, _⟩ => ⟨S4x16384x64, .f32⟩
  | .hbm, ⟨32, _⟩ => ⟨S16384x4x64, .f32⟩
  | .hbm, ⟨33, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Tiles.lean ====
/-
  What one column tile of the stick-breaking attention does to the values the kernels carry, forward and backward, as
  functions of the tile's keys and values and of what is carried; and what a grid point computes: two masked tiles, then
  the tiles to their left one by one while the attention is alive.

  A row block is 256 rows of two heads; the kernels stack the two heads to 512 rows. A tile is 128 columns. Logits and
  carries are in base-2 logarithms.
-/
module

public import proofs.«01_k».proof.Proof.Gen.KernelIdeal.Skeleton
public import Idealize.ShloMosaic.Lib.Pointwise.Index

@[expose] public section

noncomputable section

namespace Cert.Proof

open Cert.KernelIdeal Cert.KernelIdeal.Gen
open Idealize.ShloMosaic

variable {F : FTy → Type} [FloatOps F] [Named F]

/-! ## One tile -/

/-- A choice of a tile's entries: the rest become zero. -/
abbrev Sel (F : FTy → Type) : Type := FVec F S512x128 .f32 → FVec F S512x128 .f32

/-- A tile left of the diagonal: every entry stays. -/
def keep : Sel F := fun x => x

/-- A tile on the diagonal: the entries the mask holds stay. -/
def under (mk : IVec S512x128 1) : Sel F := fun x =>
  select mk x (broadcast S512x128 (Scalar.ofBits .f32 0x00000000#32 : F .f32))

/-- The zero a product accumulates from. -/
abbrev zero512 : FVec F S512x128 .f32 := constant S512x128 .f32 0x00000000#32

/-- The logits of the stacked rows against the tile's keys, in base 2. -/
def logits (q : FVec F S512x128 .bf16) (k : Vec F S128x128 .bf16) : FVec F S512x128 .f32 :=
  mulf (matmul dot_S512x128_S128x128_S512x128_1_1_0_0_n_n none q k zero512)
    (broadcast S512x128 (Named.named κ "scale_log2_e" 0x3E38AA3B#32 : F .f32))

/-- Of logits in base 2, the logarithm in base 2 of the chance that the stick is not broken there. -/
def passed (z : FVec F S512x128 .f32) : FVec F S512x128 .f32 :=
  subf (broadcast S512x128 (Scalar.ofBits .f32 0x00000000#32 : F .f32))
    (addf (maximumf z (broadcast S512x128 (Scalar.ofBits .f32 0x00000000#32 : F .f32)))
      (mulf (log (addf (broadcast S512x128 (Scalar.ofBits .f32 0x3F800000#32 : F .f32))
          (exp2 (subf (broadcast S512x128 (Scalar.ofBits .f32 0x00000000#32 : F .f32)) (absf z)))))
        (broadcast S512x128 (Named.named κ "log2_e" 0x3FB8AA3B#32 : F .f32))))

/-- The sum of each row, as a column. -/
def rowSum (x : FVec F S512x128 .f32) : FVec F S512x1 .f32 :=
  shapeCast S512x1 (multiReduction .add [1] S512 x 0x00000000#32 reduces_S512x128_S512 (.inl rfl) rfl) shapeCasts_S512_S512x1

/-- A tile of 32-bit values as two bf16 tiles side by side: its rounding, and what the rounding left. -/
def halves (x : FVec F S512x128 .f32) : FVec F S512x256 .bf16 :=
  concatenate S512x256 1 [⟨S512x128, truncf .bf16 x bitsLt_bf16_f32⟩,
    ⟨S512x128, truncf .bf16 (subf x (extf .f32 (truncf .bf16 x bitsLt_bf16_f32) bitsLt_bf16_f32)) bitsLt_bf16_f32⟩]
    concatenates_S512x128_S512x128_S512x256_d1

/-- Each row's running sums by a table of zeros and ones (`tri`, twice stacked). -/
def running (tri : FVec F S256x128 .bf16) (x : FVec F S512x128 .f32) : FVec F S512x128 .f32 :=
  matmul dot_S512x256_S256x128_S512x128_1_0_0_1_n_n none (halves x) tri zero512

/-- The attention weights of the tile: the chance to break at a column times the chance to have passed the columns between. -/
def weights (s : Sel F) (tri : FVec F S256x128 .bf16) (q : FVec F S512x128 .bf16) (k : Vec F S128x128 .bf16)
    (carry : FVec F S512x1 .f32) : FVec F S512x128 .bf16 :=
  truncf .bf16 (s (exp2 (addf (addf (addf (logits q k) (passed (logits q k))) (running tri (s (passed (logits q k)))))
    (broadcastTo S512x128 carry broadcasts_S512x1_S512x128)))) bitsLt_bf16_f32

/-- The carry after the tile: the tile's columns passed too. -/
def carryOn (s : Sel F) (q : FVec F S512x128 .bf16) (k : Vec F S128x128 .bf16) (carry : FVec F S512x1 .f32) : FVec F S512x1 .f32 :=
  addf carry (rowSum (s (passed (logits q k))))

/-- A tile's rows into the stacked accumulator: `w · v`. -/
def accOn (w : FVec F S512x128 .bf16) (v : Vec F S128x128 .bf16) (acc : FVec F S512x128 .f32) : FVec F S512x128 .f32 :=
  addf acc (matmul dot_S512x128_S128x128_S512x128_1_0_0_1_n_n none w v zero512)

/-- Whether some row may still put weight on a column further left. -/
def alive (carry : FVec F S512x1 .f32) : BitVec 32 :=
  Scalar.extui (Scalar.cmpf .ogt
    (extractAt ![0, 0, 0] (shapeCast S1x1x1 (multiReduction .maximumf [1, 2] S1 (shapeCast S1x512x1 carry shapeCasts_S512x1_S1x512x1)
      0xFF800000#32 reduces_S1x512x1_S1 (.inl rfl) rfl) shapeCasts_S1_S1x1x1) inpos_S1x1x1_p0_0_0)
    (Named.named κ "sb_dead" 0xC31EB24B#32 : F .f32))

/-- The cotangent of a weight times the weight. -/
def wgrad (w : FVec F S512x128 .bf16) (dy : FVec F S512x128 .bf16) (v : Vec F S128x128 .bf16) : FVec F S512x128 .f32 :=
  mulf (matmul dot_S512x128_S128x128_S512x128_1_1_0_0_n_n none dy v zero512) (extf .f32 w bitsLt_bf16_f32)

/-- The cotangent of the natural logits over the scale, from `g` (`wgrad`), the chance `b` to break, the row's total `ds`
    and what the columns further right had of it (`gc`). -/
def zgrad (s : Sel F) (tri : FVec F S256x128 .bf16) (z : FVec F S512x128 .f32) (g : FVec F S512x128 .f32)
    (ds gc : FVec F S512x1 .f32) : FVec F S512x128 .f32 :=
  mulf (s (subf (mulf g (subf (broadcast S512x128 (Scalar.ofBits .f32 0x3F800000#32 : F .f32)) (exp2 (addf z (passed z)))))
      (mulf (exp2 (addf z (passed z))) (subf (broadcastTo S512x128 ds broadcasts_S512x1_S512x128)
        (addf (running tri g) (broadcastTo S512x128 gc broadcasts_S512x1_S512x128))))))
    (broadcast S512x128 (Scalar.ofBits .f32 0x3E000000#32 : F .f32))

/-- Rows of a tile summed over the stacked rows: `aᵀ · b` onto `old`. -/
def colsOn (a b : FVec F S512x128 .bf16) (old : Vec F S128x128 .f32) : Vec F S128x128 .f32 :=
  shapeCast S128x128 (addf old (matmul dot_S512x128_S512x128_S128x128_0_0_1_1_n_n none a b (constant S128x128 .f32 0x00000000#32)))
    shapeCasts_S128x128_S128x128

/-- The backward values carried from tile to tile within a grid point: the carry, the cotangent's, the queries'. -/
structure BSt (F : FTy → Type) where
  carry : FVec F S512x1 .f32
  gc : FVec F S512x1 .f32
  dq : FVec F S512x128 .f32
  dk : S16384x128.Idx → Elt F .f32
  dv : S16384x128.Idx → Elt F .f32

/-- Rows `128 n …` of a resident operand. -/
def tileAt {e : EltTy} (X : S16384x128.Idx → Elt F e) (n : ℕ) : S128x128.Idx → Elt F e :=
  fun x => X (ix2 ⟨(128 * n + (x 0).val) % 16384, Nat.mod_lt _ (by decide)⟩ (x 1))

/-- Rows `128 n …` of a resident operand replaced. -/
def putTile {e : EltTy} (X : S16384x128.Idx → Elt F e) (n : ℕ) (w : S128x128.Idx → Elt F e) : S16384x128.Idx → Elt F e :=
  fun y => if (y 0).val / 128 = n then w (ix2 ⟨(y 0).val % 128, Nat.mod_lt _ (by decide)⟩ (y 1)) else X y

/-- The stacked constants of a backward grid point: queries, cotangents, the two tables, the rows' totals. -/
structure BCon (F : FTy → Type) where
  q : FVec F S512x128 .bf16
  dy : FVec F S512x128 .bf16
  tri : FVec F S256x128 .bf16
  trg : FVec F S256x128 .bf16
  ds : FVec F S512x1 .f32

/-- One backward tile: column tile `n` of the keys `K` and the values `V`. -/
def bTile (s : Sel F) (b : BCon F) (K V : S16384x128.Idx → Elt F .bf16) (n : ℕ) (σ : BSt F) : BSt F :=
  let w := weights s b.tri b.q (tileAt K n) σ.carry
  let g := wgrad w b.dy (tileAt V n)
  let dz := truncf .bf16 (zgrad s b.trg (logits b.q (tileAt K n)) g b.ds σ.gc) bitsLt_bf16_f32
  { carry := carryOn s b.q (tileAt K n) σ.carry
    gc := addf σ.gc (rowSum g)
    dq := accOn dz (tileAt K n) σ.dq
    dk := putTile σ.dk n (colsOn dz b.q (tileAt σ.dk n))
    dv := putTile σ.dv n (colsOn w b.dy (tileAt σ.dv n)) }

/-! ## A grid point -/

/-- The lanes of the first head of a pair. -/
def firstHead : IVec S256x128 1 := cmpi .slt (iota .tc S256x128 32 [1] iota_S256x128_d1_w32) (broadcast S256x128 64#32)

/-- A row block of a pair of heads, stacked: the first head's lanes, then the second's, the other's lanes zero. -/
def stack (x : Vec F S256x128 .bf16) : FVec F S512x128 .bf16 :=
  concatenate S512x128 0 [⟨S256x128, select firstHead x (broadcast S256x128 (Scalar.ofBits .bf16 0x0000#16 : F .bf16))⟩,
    ⟨S256x128, select firstHead (broadcast S256x128 (Scalar.ofBits .bf16 0x0000#16 : F .bf16)) x⟩]
    concatenates_S256x128_S256x128_S512x128_d0

/-- A stacked pair put side by side again. -/
def unstack (x : FVec F S512x128 .f32) : FVec F S256x128 .f32 :=
  select firstHead (extractStridedSlice S256x128 ![0, 0] x slices_S512x128_o0_0_S256x128)
    (extractStridedSlice S256x128 ![256, 0] x slices_S512x128_o256_0_S256x128)

/-- The row's total: the cotangent against the output. -/
def totals (dy : FVec F S512x128 .bf16) (o : Vec F S256x128 .f32) : FVec F S512x1 .f32 :=
  rowSum (mulf (extf .f32 dy bitsLt_bf16_f32) (concatenate S512x128 0
    [⟨S256x128, shapeCast S256x128 o shapeCasts_S256x128_S256x128⟩, ⟨S256x128, shapeCast S256x128 o shapeCasts_S256x128_S256x128⟩]
    concatenates_S256x128_S256x128_S512x128_d0))

/-- Of a tile on the diagonal, the entries strictly below it: row block `a`, column tile `2 a + r`. -/
def strictly (a r : BitVec 32) : IVec S512x128 1 :=
  cmpi .slt (k1_pay20 (iota .tc S512x128 32 [1] iota_S512x128_d1_w32) (Scalar.select (Scalar.cmpi .eq 256#32 0#32) 1#32 256#32)
      k1_pay17 k1_pay18 k1_pay19)
    (broadcast S512x128 (Scalar.subi (Scalar.muli a 256#32) (Scalar.muli (Scalar.addi (Scalar.muli a 2#32) r) 128#32)))

/-- The table that sums a row's entries to the right of a column. -/
def triRight : FVec F S256x128 .bf16 := k0_pay9

/-- The table that sums a row's entries from a column on. -/
def triFrom : FVec F S256x128 .bf16 := k1_pay16

/-- A column of zeros. -/
def col0 : FVec F S512x1 .f32 := broadcast S512x1 (Scalar.ofBits .f32 0x00000000#32 : F .f32)

/-- Stacked zeros. -/
def acc0 : FVec F S512x128 .f32 := broadcast S512x128 (Scalar.ofBits .f32 0x00000000#32 : F .f32)

/-- The forward values carried from tile to tile: the carry and the output. -/
abbrev FSt (F : FTy → Type) : Type := FVec F S512x1 .f32 × FVec F S512x128 .f32

/-- One forward tile. -/
def fTile (s : Sel F) (q : FVec F S512x128 .bf16) (K V : S16384x128.Idx → Elt F .bf16) (n : ℕ) (σ : FSt F) : FSt F :=
  (carryOn s q (tileAt K n) σ.1, accOn (weights s triRight q (tileAt K n) σ.1) (tileAt V n) σ.2)

/-- The tiles left of the diagonal, from tile `n - 1` down, while alive. -/
def fLoop (q : FVec F S512x128 .bf16) (K V : S16384x128.Idx → Elt F .bf16) : ℕ → BitVec 32 → FSt F → BitVec 32 × BitVec 32 × FSt F
  | 0, al, σ => (0#32 - 1#32, al, σ)
  | n + 1, al, σ =>
    if Scalar.cmpi .sgt al 0#32 = 1#1 then fLoop q K V n (alive (fTile keep q K V n σ).1) (fTile keep q K V n σ)
    else (BitVec.ofNat 32 n, al, σ)

/-- The forward state after the two tiles on the diagonal of row block `a`. -/
def fDiag (a : ℕ) (q : FVec F S512x128 .bf16) (K V : S16384x128.Idx → Elt F .bf16) : FSt F :=
  fTile (under (strictly (BitVec.ofNat 32 a) 0#32)) q K V (2 * a)
    (fTile (under (strictly (BitVec.ofNat 32 a) 1#32)) q K V (2 * a + 1) (col0, acc0))

/-- What a forward grid point stores: row block `a` of a pair's output. -/
def fOut (a : ℕ) (Q : S256x128.Idx → Elt F .bf16) (K V : S16384x128.Idx → Elt F .bf16) : S256x128.Idx → Elt F .f32 :=
  unstack (fLoop (stack Q) K V (2 * a) 1#32 (fDiag a (stack Q) K V)).2.2.2

/-- The backward tiles left of the diagonal, from tile `n - 1` down, while alive. -/
def bLoop (b : BCon F) (K V : S16384x128.Idx → Elt F .bf16) : ℕ → BitVec 32 → BSt F → BitVec 32 × BitVec 32 × BSt F
  | 0, al, σ => (0#32 - 1#32, al, σ)
  | n + 1, al, σ =>
    if Scalar.cmpi .sgt al 0#32 = 1#1 then bLoop b K V n (alive (bTile keep b K V n σ).carry) (bTile keep b K V n σ)
    else (BitVec.ofNat 32 n, al, σ)

/-- The stacked constants of a backward grid point, of the blocks of queries, cotangents and outputs. -/
def bCon (Q Dy : S256x128.Idx → Elt F .bf16) (O : S256x128.Idx → Elt F .f32) : BCon F :=
  { q := stack Q, dy := stack Dy, tri := triRight, trg := triFrom, ds := totals (stack Dy) O }

/-- The backward state after the two tiles on the diagonal of row block `a`, from the keys' and values' gradients so far. -/
def bDiag (a : ℕ) (b : BCon F) (K V : S16384x128.Idx → Elt F .bf16) (dk dv : S16384x128.Idx → Elt F .f32) : BSt F :=
  bTile (under (strictly (BitVec.ofNat 32 a) 0#32)) b K V (2 * a)
    (bTile (under (strictly (BitVec.ofNat 32 a) 1#32)) b K V (2 * a + 1) ⟨col0, col0, acc0, dk, dv⟩)

/-- The backward state at the end of a grid point. -/
def bPoint (a : ℕ) (b : BCon F) (K V : S16384x128.Idx → Elt F .bf16) (dk dv : S16384x128.Idx → Elt F .f32) : BSt F :=
  (bLoop b K V (2 * a) 1#32 (bDiag a b K V dk dv)).2.2

/-- What a backward grid point stores: row block `a` of the queries' gradient. -/
def bOut (a : ℕ) (b : BCon F) (K V : S16384x128.Idx → Elt F .bf16) (dk dv : S16384x128.Idx → Elt F .f32) : S256x128.Idx → Elt F .bf16 :=
  truncf .bf16 (unstack (bPoint a b K V dk dv).dq) bitsLt_bf16_f32

/-- The gradient of a pair's keys or values before any row block. -/
def rows0 : S16384x128.Idx → Elt F .f32 :=
  broadcast S16384x128 (Scalar.ofBits .f32 0x00000000#32 : F .f32)

end Cert.Proof

end
-- ==== Proof.TileAccess.lean ====
/-
  The loads and stores of a column tile, as the tile's rows; the words a loop over the tiles counts with.
-/
module

public import proofs.«01_k».proof.Proof.Tiles
public import Idealize.ShloMosaic.Lib.Pipeline.ValueKit
public import Idealize.ShloMosaic.Lib.Pipeline.FrameBody
public import Idealize.ShloMosaic.Lib.WritesUnit

@[expose] public section

noncomputable section

namespace Cert.Proof

open Cert.KernelIdeal Cert.KernelIdeal.Gen
open Idealize.ShloMosaic

variable {F : FTy → Type} [FloatOps F] [Named F]

/-- A load of 128 rows from row `128 n` on is tile `n`. -/
theorem ld_tile {e : EltTy} (X : S16384x128.Idx → Elt F e) (off : Fin 2 → ℕ) (inb : ∀ a, off a + S128x128.size a ≤ S16384x128.size a)
    (n : ℕ) (hn : n < 128) (h : off = ![128 * n, 0]) :
    View.ld X (Rect.unit (s := S16384x128) off S128x128.size inb) = tileAt X n := by
  subst h
  funext x
  refine View.ld_unit_apply_of X _ _ inb x _ fun a => ?_
  have h0 : (x 0).val < 128 := (x 0).isLt
  match a with
  | ⟨0, _⟩ => show (128 * n + (x 0).val) % 16384 = 128 * n + (x 0).val; exact Nat.mod_eq_of_lt (by omega)
  | ⟨1, _⟩ => show (x 1).val = 0 + (x 1).val; omega

/-- A load of a whole block is the block. -/
theorem ld_block {e : EltTy} (X : S256x128.Idx → Elt F e) (inb : ∀ a, (![0, 0] : Fin 2 → ℕ) a + S256x128.size a ≤ S256x128.size a) :
    View.ld X (Rect.unit (s := S256x128) ![0, 0] S256x128.size inb) = X := by
  funext x
  refine View.ld_unit_apply_of X _ _ inb x _ fun a => ?_
  match a with
  | ⟨0, _⟩ => exact (Nat.zero_add _).symm
  | ⟨1, _⟩ => exact (Nat.zero_add _).symm

/-- After a store of a whole block the block is what was stored. -/
theorem read_block {e : EltTy} {κ : Kind} {sp : Space} (v : View sig κ sp S256x128 e) (f : v.ty.Contents (Elt F))
    (inb : ∀ a, (![0, 0] : Fin 2 → ℕ) a + S256x128.size a ≤ S256x128.size a)
    (w : S256x128.Idx → Elt F e) (L : List (View.Piece (Elt F) S256x128 e)) :
    v.read (Elt F) (v.writes (Elt F) f (⟨Rect.unit (s := S256x128) ![0, 0] S256x128.size inb, w⟩ :: L)) = w := by
  funext y
  exact View.read_writes_cons_rows_of_mem v f inb w L y y rfl (Nat.zero_add _).symm rfl

/-- After a store of a whole resident operand it is what was stored. -/
theorem read_rows {e : EltTy} {κ : Kind} {sp : Space} (v : View sig κ sp S16384x128 e) (f : v.ty.Contents (Elt F))
    (inb : ∀ a, (![0, 0] : Fin 2 → ℕ) a + S16384x128.size a ≤ S16384x128.size a)
    (w : S16384x128.Idx → Elt F e) (L : List (View.Piece (Elt F) S16384x128 e)) :
    v.read (Elt F) (v.writes (Elt F) f (⟨Rect.unit (s := S16384x128) ![0, 0] S16384x128.size inb, w⟩ :: L)) = w := by
  funext y
  exact View.read_writes_cons_rows_of_mem v f inb w L y y rfl (Nat.zero_add _).symm rfl

/-- A store of 128 rows from row `128 n` on replaces tile `n`. -/
theorem read_tile {e : EltTy} {κ : Kind} {sp : Space} (v : View sig κ sp S16384x128 e) (f : v.ty.Contents (Elt F))
    (off : Fin 2 → ℕ) (inb : ∀ a, off a + S128x128.size a ≤ S16384x128.size a)
    (w : S128x128.Idx → Elt F e) (L : List (View.Piece (Elt F) S16384x128 e)) (n : ℕ) (h : off = ![128 * n, 0]) :
    v.read (Elt F) (v.writes (Elt F) f (⟨Rect.unit (s := S16384x128) off S128x128.size inb, w⟩ :: L))
      = putTile (v.read (Elt F) (v.writes (Elt F) f L)) n w := by
  funext y
  unfold putTile
  by_cases hy : (y 0).val / 128 = n
  · rw [if_pos hy]
    refine View.read_writes_cons_rows_of_mem v f inb w L y _ h ?_ rfl
    show (y 0).val = 128 * n + (y 0).val % 128
    omega
  · rw [if_neg hy]
    exact View.read_writes_cons_rows_of_not_mem v f inb w L y h (W := 128) rfl (by omega)

/-- The tile's offset as the loop computes it. -/
theorem off_fwd (n : ℕ) (hn : n < 128) : k0_off2 (BitVec.ofNat 32 n) = ![128 * n, 0] := by
  have : (BitVec.ofNat 32 n * 128#32).toNat = 128 * n := by
    rw [BitVec.toNat_mul, BitVec.toNat_ofNat]; simp; omega
  exact congrArg (fun x => ![x, 0]) this

theorem off_bwd (n : ℕ) (hn : n < 128) : k1_off2 (BitVec.ofNat 32 n) = ![128 * n, 0] := by
  have : (BitVec.ofNat 32 n * 128#32).toNat = 128 * n := by
    rw [BitVec.toNat_mul, BitVec.toNat_ofNat]; simp; omega
  exact congrArg (fun x => ![x, 0]) this

/-- The loop's side condition holds of every tile. -/
theorem chk_fwd (n : ℕ) (hn : n < 128) : k0_chk1 (BitVec.ofNat 32 n) := by
  have : (BitVec.ofNat 32 n * 128#32).toNat = 128 * n := by
    rw [BitVec.toNat_mul, BitVec.toNat_ofNat]; simp; omega
  refine ⟨?_, ?_⟩
  · unfold k0_mult3
    simp only [Scalar.muli, IntOp.muli]; rw [this]; exact ⟨n, rfl⟩
  · rw [off_fwd n hn]
    intro a
    match a with
    | ⟨0, _⟩ => show 128 * n + 128 ≤ 16384; omega
    | ⟨1, _⟩ => show 0 + 128 ≤ 128; omega

theorem chk_bwd (n : ℕ) (hn : n < 128) : k1_chk1 (BitVec.ofNat 32 n) := by
  have : (BitVec.ofNat 32 n * 128#32).toNat = 128 * n := by
    rw [BitVec.toNat_mul, BitVec.toNat_ofNat]; simp; omega
  refine ⟨?_, ?_⟩
  · unfold k1_mult3
    simp only [Scalar.muli, IntOp.muli]; rw [this]; exact ⟨n, rfl⟩
  · rw [off_bwd n hn]
    intro a
    match a with
    | ⟨0, _⟩ => show 128 * n + 128 ≤ 16384; omega
    | ⟨1, _⟩ => show 0 + 128 ≤ 128; omega

/-- The counter below tile `n + 1` is tile `n`. -/
theorem word_pred (n : ℕ) : Scalar.subi (BitVec.ofNat 32 (n + 1)) 1#32 = BitVec.ofNat 32 n := by
  show BitVec.ofNat 32 (n + 1) - 1#32 = BitVec.ofNat 32 n
  apply BitVec.eq_of_toNat_eq
  simp [BitVec.toNat_sub]; omega

/-- What the loop counts with `n` tiles to go: the tile below. -/
def down (n : ℕ) : BitVec 32 := BitVec.ofNat 32 n - 1#32

theorem down_succ (n : ℕ) : down (n + 1) = BitVec.ofNat 32 n := word_pred n

theorem sge_down_succ (n : ℕ) (hn : n < 128) : Scalar.cmpi .sge (down (n + 1)) 0#32 = 1#1 := by
  rw [down_succ]; revert n; decide

theorem sge_down_zero : ¬ Scalar.cmpi .sge (down 0) 0#32 = 1#1 := by decide

theorem subi_ofNat (n : ℕ) (hn : n < 128) : Scalar.subi (BitVec.ofNat 32 n) 1#32 = down n := rfl

/-- The first tile left of row block `a`'s diagonal. -/
theorem down_start (a : ℕ) (ha : a < 64) : Scalar.subi (Scalar.muli (BitVec.ofNat 32 a) 2#32) 1#32 = down (2 * a) := by
  revert a; decide

theorem andi_one (x y : BitVec 1) : Scalar.andi x y = 1#1 ↔ x = 1#1 ∧ y = 1#1 := by
  revert x y; decide

end Cert.Proof

end
-- ==== Proof.Common.lean ====
/-
  What both regions' proofs share: the resource algebra (the pipeline library's beside the counters of the transfers), the
  variants a loop's trips count down, a memref held whole.
-/
module

public import proofs.«01_k».proof.Proof.TileAccess
public import proofs.«01_k».proof.Proof.Gen.KernelIdeal.Points
public import proofs.«01_k».proof.Proof.Gen.KernelIdeal.Launch
public import Idealize.ShloMosaic.Lib.Tactic
public import Idealize.ShloMosaic.Lib.Pipeline.Kit

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's, and the counters the transfers take their tokens from. -/
abbrev UU : Type := UR sig nD τ × Counters

/-- A loop's trips to go bound its calls of itself. -/
abbrev 𝒱₀ : Variants := Variants.nat

local notation "𝕄" => MT nD τ sig Unit (Elt F) ℕ UU ℕ

/-- A memref's buffer on core `c`. -/
abbrev Bf (c : Dev nD) {sp : Space} {S : Shape} {e : EltTy} (M : Memref sig .tc sp S e) : Type := Buf (Elt F) (M.view.loc (c : Thread nD τ))

/-- A memref's elements held at contents `f` of its buffer. -/
abbrev own (c : Dev nD) {sp : Space} {S : Shape} {e : EltTy} (M : Memref sig .tc sp S e) (f : Bf (F := F) c M) : sProp 𝕄 :=
  M.view.loc (c : Thread nD τ) ↦[M.view.set]{fullShare} f

end Cert.Proof

end
-- ==== Proof.BwdLoop.lean ====
/-
  The loop of the backward kernel over the column tiles left of the diagonal: its body run once per tile is `bTile`, and the
  gradients of the keys and the values are kept in two buffers that it changes tile by tile.
-/
module

public import proofs.«01_k».proof.Proof.Common

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A buffer that reads `X`. -/
def reads {sp : Space} {s : Shape} {e : EltTy} (c : Dev nD) (M : Memref sig .tc sp s e) (X : s.Idx → Elt F e) : sProp 𝕄 :=
  iprop(∃ f, ⌜M.view.read (Elt F) f = X⌝ ∗ own c M f)

/-- What the loop returns besides the two buffers it changes. -/
abbrev BRet (F : FTy → Type) : Type := BitVec 32 × BitVec 32 × FVec F S512x1 .f32 × FVec F S512x1 .f32 × FVec F S512x128 .f32

/-- The returned values of a loop's end. -/
def bRet (r : BitVec 32 × BitVec 32 × BSt F) : BRet F := (r.1, r.2.1, r.2.2.carry, r.2.2.gc, r.2.2.dq)

variable (c : Dev nD) (i : grid1.Coords)
  (MK : Memref sig .tc .vmem S16384x128 .bf16) (hK : MK.IsWhole) (MV : Memref sig .tc .vmem S16384x128 .bf16) (hV : MV.IsWhole)
  (MX : Memref sig .tc .vmem S16384x128 .f32) (hX : MX.IsWhole) (MY : Memref sig .tc .vmem S16384x128 .f32) (hY : MY.IsWhole)
  (fK : Bf (F := F) c MK) (fV : Bf (F := F) c MV) (q dy : FVec F S512x128 .bf16) (ds : FVec F S512x1 .f32)

/-- The backward loop's answer with `n` tiles to go, from the state `σ`. -/
def bSpec (n : ℕ) (al : BitVec 32) (σ : BSt F) : sWPT 𝕄 (BRet F) := do
  sWPT.consume iprop(own c MK fK ∗ own c MV fV ∗ reads c MX σ.dk ∗ reads c MY σ.dv)
  sWPT.produce iprop(own c MK fK ∗ own c MV fV
    ∗ reads c MX (bLoop ⟨q, dy, triRight, triFrom, ds⟩ (MK.view.read (Elt F) fK) (MV.view.read (Elt F) fV) n al σ).2.2.dk
    ∗ reads c MY (bLoop ⟨q, dy, triRight, triFrom, ds⟩ (MK.view.read (Elt F) fK) (MV.view.read (Elt F) fV) n al σ).2.2.dv)
  pure (bRet (bLoop ⟨q, dy, triRight, triFrom, ds⟩ (MK.view.read (Elt F) fK) (MV.view.read (Elt F) fV) n al σ))

theorem bSpec_apply (n : ℕ) (al : BitVec 32) (σ : BSt F) (Q : BRet F → sProp 𝕄) :
    bSpec c MK MV MX MY fK fV q dy ds n al σ Q
      = iprop((own c MK fK ∗ own c MV fV ∗ reads c MX σ.dk ∗ reads c MY σ.dv)
        ∗ ((own c MK fK ∗ own c MV fV
            ∗ reads c MX (bLoop ⟨q, dy, triRight, triFrom, ds⟩ (MK.view.read (Elt F) fK) (MV.view.read (Elt F) fV) n al σ).2.2.dk
            ∗ reads c MY (bLoop ⟨q, dy, triRight, triFrom, ds⟩ (MK.view.read (Elt F) fK) (MV.view.read (Elt F) fV) n al σ).2.2.dv)
          -∗ Q (bRet (bLoop ⟨q, dy, triRight, triFrom, ds⟩ (MK.view.read (Elt F) fK) (MV.view.read (Elt F) fV) n al σ)))) := rfl

/-- The loop meets its answer. -/
theorem bSpec_le (E : Set ℕ) : ∀ n, n ≤ 128 → ∀ (al : BitVec 32) (σ : BSt F) Q, bSpec c MK MV MX MY fK fV q dy ds n al σ Q
    ⊢ wp frame (wpE (defs₀ (F := F)) 𝒱₀ (c : Thread nD τ) (some n)) E
        (defs₀ (F := F) .tc 3 ⟨i, MK, hK, q, triRight, MV, hV, dy, triFrom, ds, MX, hX, MY, hY, down n, al, σ.carry, σ.gc, σ.dq⟩) Q := by
  intro n
  induction n with
  | zero =>
    intro _ al σ Q
    rw [bSpec_apply]
    show _ ⊢ wp frame (wpE (defs₀ (F := F)) 𝒱₀ (c : Thread nD τ) (some 0)) E
      (cc1_while1 i MK hK q triRight MV hV dy triFrom ds MX hX MY hY (down 0) al σ.carry σ.gc σ.dq) Q
    have htest : ¬ Scalar.andi (Scalar.cmpi .sge (down 0) 0#32) (Scalar.cmpi .sgt al 0#32) = 1#1 := fun h =>
      sge_down_zero ((andi_one _ _).1 h).1
    simp only [cc1_while1_eq_skeleton]; unfold cc1_while1_skel
    simp only [htest, ↓reduceIte, Prog.pure_eq_ret]
    iintro ⟨H, Hk⟩
    rw [wp_ret]; imodintro
    rw [bLoop, show (0#32 - 1#32 : BitVec 32) = down 0 from rfl,
      show ((down 0, al, σ.carry, σ.gc, σ.dq) : BRet F) = bRet (down 0, al, σ) from rfl]
    iapply Hk
    iexact H
  | succ n ih =>
    intro hn al σ Q
    rw [bSpec_apply]
    show _ ⊢ wp frame (wpE (defs₀ (F := F)) 𝒱₀ (c : Thread nD τ) (some (n + 1))) E
      (cc1_while1 i MK hK q triRight MV hV dy triFrom ds MX hX MY hY (down (n + 1)) al σ.carry σ.gc σ.dq) Q
    simp only [cc1_while1_eq_skeleton]; unfold cc1_while1_skel
    by_cases hal : Scalar.cmpi .sgt al 0#32 = 1#1
    · have htest : Scalar.andi (Scalar.cmpi .sge (BitVec.ofNat 32 n) 0#32) (Scalar.cmpi .sgt al 0#32) = 1#1 :=
        (andi_one _ _).2 ⟨down_succ n ▸ sge_down_succ n (by omega), hal⟩
      rw [down_succ]
      simp only [htest, ↓reduceIte, k1_part8_eq_skeleton]
      unfold k1_part8_skel
      simp only [k1_part7_eq_skeleton]
      unfold k1_part7_skel
      simp only [Prog.lift, Prog.bind_op, Prog.bind_ret, Prog.pure_eq_ret]
      have hchk : k1_chk1 (BitVec.ofNat 32 n) := chk_bwd n (by omega)
      have hoff : k1_off2 (BitVec.ofNat 32 n) = ![128 * n, 0] := off_bwd n (by omega)
      unfold reads
      iintro ⟨⟨HK, HV, ⟨%fX, %hfX, HX⟩, ⟨%fY, %hfY, HY⟩⟩, Hk⟩
      sl_exec
      have hKt : MK.view.readAt (Elt F) (Rect.unit (s := S16384x128) (k1_off2 (BitVec.ofNat 32 n)) ![128, 128] (k1_off2_inb _ hchk)).toLoadRect fK
          = tileAt (MK.view.read (Elt F) fK) n := ld_tile _ _ _ n (by omega) hoff
      have hVt : MV.view.readAt (Elt F) (Rect.unit (s := S16384x128) (k1_off2 (BitVec.ofNat 32 n)) ![128, 128] (k1_off2_inb _ hchk)).toLoadRect fV
          = tileAt (MV.view.read (Elt F) fV) n := ld_tile _ _ _ n (by omega) hoff
      have hXt : MX.view.readAt (Elt F) (Rect.unit (s := S16384x128) (k1_off2 (BitVec.ofNat 32 n)) ![128, 128] (k1_off2_inb _ hchk)).toLoadRect fX
          = tileAt σ.dk n := (ld_tile _ _ _ n (by omega) hoff).trans (by rw [hfX])
      have hYt : MY.view.readAt (Elt F) (Rect.unit (s := S16384x128) (k1_off2 (BitVec.ofNat 32 n)) ![128, 128] (k1_off2_inb _ hchk)).toLoadRect fY
          = tileAt σ.dv n := (ld_tile _ _ _ n (by omega) hoff).trans (by rw [hfY])
      rw [hKt, hVt]
      generalize hσ' : bTile keep ⟨q, dy, triRight, triFrom, ds⟩ (MK.view.read (Elt F) fK) (MV.view.read (Elt F) fV) n σ = σ'
      have hcall := ih (by omega) (alive σ'.carry) σ'
      subst hσ'
      iapply (wp_call_spec 𝒱₀ (c : Thread nD τ) (some (n + 1)) E
        (bSpec c MK MV MX MY fK fV q dy ds n
          (alive (bTile keep ⟨q, dy, triRight, triFrom, ds⟩ (MK.view.read (Elt F) fK) (MV.view.read (Elt F) fV) n σ).carry)
          (bTile keep ⟨q, dy, triRight, triFrom, ds⟩ (MK.view.read (Elt F) fK) (MV.view.read (Elt F) fV) n σ)) n
        (fun u hu => by cases hu; exact Nat.lt_succ_self n) hcall)
      rw [bSpec_apply]
      unfold reads
      isplitl [HK HV HX HY]
      · isplitl [HK]; · iexact HK
        isplitl [HV]; · iexact HV
        isplitl [HX]
        · iexists _
          isplitr
          swap
          · iexact HX
          · ipureintro
            refine (read_tile MX.view fX _ (k1_off2_inb _ hchk) _ [] n hoff).trans ?_
            exact congrArg₂ (fun A B => putTile A n (colsOn (truncf .bf16 (zgrad keep triFrom (logits q (tileAt (MK.view.read (Elt F) fK) n))
              (wgrad (weights keep triRight q (tileAt (MK.view.read (Elt F) fK) n) σ.carry) dy (tileAt (MV.view.read (Elt F) fV) n)) ds σ.gc)
                bitsLt_bf16_f32) q B)) hfX hXt
        · iexists _
          isplitr
          swap
          · iexact HY
          · ipureintro
            refine (read_tile MY.view fY _ (k1_off2_inb _ hchk) _ [] n hoff).trans ?_
            exact congrArg₂ (fun A B => putTile A n (colsOn (weights keep triRight q (tileAt (MK.view.read (Elt F) fK) n) σ.carry) dy B)) hfY hYt
      iintro H
      rw [wp_ret]; imodintro
      rw [bLoop, if_pos hal]
      iapply Hk
      iexact H
    · have htest : ¬ Scalar.andi (Scalar.cmpi .sge (down (n + 1)) 0#32) (Scalar.cmpi .sgt al 0#32) = 1#1 := fun h =>
        hal ((andi_one _ _).1 h).2
      simp only [htest, ↓reduceIte, Prog.pure_eq_ret]
      iintro ⟨H, Hk⟩
      rw [wp_ret]; imodintro
      rw [bLoop, if_neg hal, down_succ,
        show ((BitVec.ofNat 32 n, al, σ.carry, σ.gc, σ.dq) : BRet F) = bRet (BitVec.ofNat 32 n, al, σ) from rfl]
      iapply Hk
      iexact H

end Cert.Proof

end
-- ==== Proof.BwdBegin.lean ====
/-
  The start of a backward grid point: the two gradients cleared at a pair's first row block, and the row block loaded.
-/
module

public import proofs.«01_k».proof.Proof.BwdLoop

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The keys' or values' gradient a grid point starts from: nothing at a pair's first row block. -/
def start (a : ℕ) (X : S16384x128.Idx → Elt F .f32) : S16384x128.Idx → Elt F .f32 := if a = 0 then rows0 else X

/-- Columns `128 p …` of a gradient replaced. -/
def putCols (X : S16384x512.Idx → Elt F .f32) (p : ℕ) (w : S16384x128.Idx → Elt F .f32) : S16384x512.Idx → Elt F .f32 :=
  fun y => if (y 1).val / 128 = p then w (ix2 (y 0) ⟨(y 1).val % 128, Nat.mod_lt _ (by decide)⟩) else X y

/-- A gradient's columns after a grid point: written at a pair's last row block. -/
def finish (p a : ℕ) (X : S16384x512.Idx → Elt F .f32) (w : S16384x128.Idx → Elt F .f32) : S16384x512.Idx → Elt F .f32 :=
  if a = 63 then putCols X p w else X

theorem first_word : ∀ a : Fin 64, (Scalar.cmpi .ne (Scalar.extui (Scalar.cmpi .eq (BitVec.ofNat 32 a.val) 0#32) : BitVec 32) 0#32 = 1#1) ↔ a = 0 := by
  decide

theorem last_word (i : grid1.Coords) : k1_cond2 i = 1#1 ↔ (i 1).val = 63 := by
  have : ∀ a : Fin 64, (Scalar.cmpi .ne (Scalar.extui (Scalar.cmpi .eq (BitVec.ofNat 32 a.val) 63#32) : BitVec 32) 0#32 = 1#1) ↔ a.val = 63 := by
    decide
  exact this (i 1)

/-- The two semaphores of the copies out. -/
def sems (c : Dev nD) : sProp 𝕄 :=
  iprop(semVal ((c : Thread nD τ), .dma (20 : DmaSem sig)) 0 ∗ semVal ((c : Thread nD τ), .dma (21 : DmaSem sig)) 0)

set_option maxHeartbeats 4000000 in
/-- The first part of a backward grid point: at a pair's first row block it clears the two gradients; it loads the row block. -/
theorem begin_run (c : Dev nD) (i : grid1.Coords)
    (MQ : Memref sig .tc .vmem S256x128 .bf16) (hQ : MQ.IsWhole) (MK : Memref sig .tc .vmem S16384x128 .bf16) (hK : MK.IsWhole)
    (MV : Memref sig .tc .vmem S16384x128 .bf16) (hV : MV.IsWhole) (MO : Memref sig .tc .vmem S256x128 .f32) (hO : MO.IsWhole)
    (MD : Memref sig .tc .vmem S256x128 .bf16) (hD : MD.IsWhole) (MG : Memref sig .tc .vmem S256x128 .bf16) (hG : MG.IsWhole)
    (A B : Memref sig .tc .hbm S16384x512 .f32) (hA : A.IsWhole) (hB : B.IsWhole)
    (MX : Memref sig .tc .vmem S16384x128 .f32) (hX : MX.IsWhole) (MY : Memref sig .tc .vmem S16384x128 .f32) (hY : MY.IsWhole) (sm : DmaSems sig S2)
    (fQ : Bf (F := F) c MQ) (fO : Bf (F := F) c MO) (fD : Bf (F := F) c MD) (X Y : S16384x128.Idx → Elt F .f32) (Q : _ → sProp 𝕄) :
    iprop(own c MQ fQ ∗ own c MO fO ∗ own c MD fD ∗ reads c MX X ∗ reads c MY Y
      ∗ ((own c MQ fQ ∗ own c MO fO ∗ own c MD fD ∗ reads c MX (start (i 1).val X) ∗ reads c MY (start (i 1).val Y))
        -∗ Q ⟨BitVec.ofNat 32 (i 0).val, BitVec.ofNat 32 (i 1).val, k1_pay8, stack (MQ.view.read (Elt F) fQ), stack (MD.view.read (Elt F) fD),
          totals (stack (MD.view.read (Elt F) fD)) (MO.view.read (Elt F) fO), k1_pay12, k1_pay13, k1_pay14⟩))
    ⊢ wp frame (wpE (defs₀ (F := F)) 𝒱₀ c none) Set.univ
        (k1_part1_skel i MQ hQ MK hK MV hV MO hO MD hD MG hG A hA B hB MX hX MY hY sm) Q := by
  unfold k1_part1_skel
  have hQb : MQ.view.readAt (Elt F) (Rect.unit (s := S256x128) ![0, 0] ![256, 128] inb_S256x128_S256x128_0_0).toLoadRect fQ = MQ.view.read (Elt F) fQ :=
    ld_block _ _
  have hOb : MO.view.readAt (Elt F) (Rect.unit (s := S256x128) ![0, 0] ![256, 128] inb_S256x128_S256x128_0_0).toLoadRect fO = MO.view.read (Elt F) fO :=
    ld_block _ _
  have hDb : MD.view.readAt (Elt F) (Rect.unit (s := S256x128) ![0, 0] ![256, 128] inb_S256x128_S256x128_0_0).toLoadRect fD = MD.view.read (Elt F) fD :=
    ld_block _ _
  by_cases h1 : (i 1).val = 0
  · have hw : Scalar.cmpi .ne (Scalar.extui (Scalar.cmpi .eq (BitVec.ofNat 32 (i 1).val) 0#32) : BitVec 32) 0#32 = 1#1 :=
      (first_word (i 1)).2 (Fin.ext h1)
    simp only [hw, ↓reduceDIte, Prog.lift, Prog.bind_op, Prog.bind_ret, Prog.pure_eq_ret]
    unfold reads
    iintro ⟨HQ, HO, HD, ⟨%fX, %hfX, HX⟩, ⟨%fY, %hfY, HY⟩, Hk⟩
    sl_exec
    rw [wp_ret]; imodintro
    rw [show k1_pay9 (MQ.view.read (Elt F) fQ) = stack (MQ.view.read (Elt F) fQ) from rfl,
      show k1_pay11 (MD.view.read (Elt F) fD) (MO.view.read (Elt F) fO) = totals (stack (MD.view.read (Elt F) fD)) (MO.view.read (Elt F) fO) from rfl,
      show k1_pay10 (MD.view.read (Elt F) fD) = stack (MD.view.read (Elt F) fD) from rfl]
    iapply Hk
    isplitl [HQ]; · iexact HQ
    isplitl [HO]; · iexact HO
    isplitl [HD]; · iexact HD
    isplitl [HX]
    · iexists _
      isplitr
      swap
      · iexact HX
      · ipureintro
        exact (read_rows MX.view fX inb_S16384x128_S16384x128_0_0 _ []).trans (if_pos h1).symm
    · iexists _
      isplitr
      swap
      · iexact HY
      · ipureintro
        exact (read_rows MY.view fY inb_S16384x128_S16384x128_0_0 _ []).trans (if_pos h1).symm
  · have hw : ¬ Scalar.cmpi .ne (Scalar.extui (Scalar.cmpi .eq (BitVec.ofNat 32 (i 1).val) 0#32) : BitVec 32) 0#32 = 1#1 := fun h =>
      h1 (congrArg Fin.val ((first_word (i 1)).1 h))
    simp only [hw, ↓reduceDIte, Prog.lift, Prog.bind_op, Prog.bind_ret, Prog.pure_eq_ret]
    iintro ⟨HQ, HO, HD, HX, HY, Hk⟩
    sl_exec
    rw [wp_ret]; imodintro
    rw [show k1_pay9 (MQ.view.read (Elt F) fQ) = stack (MQ.view.read (Elt F) fQ) from rfl,
      show k1_pay11 (MD.view.read (Elt F) fD) (MO.view.read (Elt F) fO) = totals (stack (MD.view.read (Elt F) fD)) (MO.view.read (Elt F) fO) from rfl,
      show k1_pay10 (MD.view.read (Elt F) fD) = stack (MD.view.read (Elt F) fD) from rfl]
    iapply Hk
    isplitl [HQ]; · iexact HQ
    isplitl [HO]; · iexact HO
    isplitl [HD]; · iexact HD
    rw [start, start, if_neg h1, if_neg h1]
    isplitl [HX] <;> iassumption

end Cert.Proof

end
-- ==== Proof.BwdBody.lean ====
/-
  The backward kernel's body at a grid point.
-/
module

public import proofs.«01_k».proof.Proof.BwdBegin

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A copy into the 128 columns from `128 p` on replaces them. -/
theorem read_cols {κ : Kind} {sp : Space} (v : View sig κ sp S16384x512 .f32) (f : v.ty.Contents (Elt F))
    (off : Fin 2 → ℕ) (inb : ∀ a, off a + S16384x128.size a ≤ S16384x512.size a) (p : ℕ) (h : off = ![0, 128 * p])
    (w : S16384x128.Idx → Elt F .f32) :
    v.read (Elt F) (v.writes (Elt F) f [⟨Rect.unit (s := S16384x512) off S16384x128.size inb, w⟩]) = putCols (v.read (Elt F) f) p w := by
  funext y
  unfold putCols
  by_cases hy : (y 1).val / 128 = p
  · rw [if_pos hy]
    refine View.read_writes_cons_unit_of_mem v f inb w [] y _ h fun a => ?_
    match a with
    | ⟨0, _⟩ => exact (Nat.zero_add _).symm
    | ⟨1, _⟩ => show (y 1).val = 128 * p + (y 1).val % 128; omega
  · rw [if_neg hy]
    refine View.read_writes_cons_unit_of_not_mem v f inb w [] y h (1 : Fin 2) ?_
    show (y 1).val < 128 * p ∨ 128 * p + 128 ≤ (y 1).val
    omega

/-- A tile other than the one replaced. -/
theorem tileAt_putTile {e : EltTy} (X : S16384x128.Idx → Elt F e) (n m : ℕ) (hn : n < 128) (h : n ≠ m) (w : S128x128.Idx → Elt F e) :
    tileAt (putTile X m w) n = tileAt X n := by
  funext x
  unfold tileAt putTile
  have h0 : (x 0).val < 128 := (x 0).isLt
  refine if_neg fun hh => h ?_
  have h2 : (128 * n + (x 0).val) % 16384 / 128 = m := hh
  rw [Nat.mod_eq_of_lt (by omega)] at h2
  omega

/-- The two tiles on the diagonal put in a gradient, the right one and then the left one; the left one's old rows are
    the old gradient's. -/
theorem diag_put {κ : Kind} {sp : Space} (v : View sig κ sp S16384x128 .f32) (f : v.ty.Contents (Elt F)) (a : ℕ) (ha : a < 64)
    (off0 off1 : Fin 2 → ℕ) (inb0 : ∀ x, off0 x + S128x128.size x ≤ S16384x128.size x) (inb1 : ∀ x, off1 x + S128x128.size x ≤ S16384x128.size x)
    (h0 : off0 = ![128 * (2 * a), 0]) (h1 : off1 = ![128 * (2 * a + 1), 0]) (X : S16384x128.Idx → Elt F .f32) (hf : v.read (Elt F) f = X)
    (g0 g1 : Vec F S128x128 .f32 → S128x128.Idx → Elt F .f32) :
    v.read (Elt F) (v.writes (Elt F) f
      [⟨Rect.unit (s := S16384x128) off0 S128x128.size inb0, g0 (v.readAt (Elt F) (Rect.unit (s := S16384x128) off0 S128x128.size inb0).toLoadRect f)⟩,
       ⟨Rect.unit (s := S16384x128) off1 S128x128.size inb1, g1 (v.readAt (Elt F) (Rect.unit (s := S16384x128) off1 S128x128.size inb1).toLoadRect f)⟩])
      = putTile (putTile X (2 * a + 1) (g1 (tileAt X (2 * a + 1)))) (2 * a)
          (g0 (tileAt (putTile X (2 * a + 1) (g1 (tileAt X (2 * a + 1)))) (2 * a))) := by
  subst hf
  have hl1 : v.readAt (Elt F) (Rect.unit (s := S16384x128) off1 S128x128.size inb1).toLoadRect f = tileAt (v.read (Elt F) f) (2 * a + 1) :=
    ld_tile _ _ _ _ (by omega) h1
  have hl0 : v.readAt (Elt F) (Rect.unit (s := S16384x128) off0 S128x128.size inb0).toLoadRect f = tileAt (v.read (Elt F) f) (2 * a) :=
    ld_tile _ _ _ _ (by omega) h0
  rw [hl0, hl1, tileAt_putTile _ _ _ (by omega) (by omega), read_tile _ _ _ _ _ _ (2 * a) h0, read_tile _ _ _ _ _ _ (2 * a + 1) h1]
  rfl

set_option maxHeartbeats 4000000 in
/-- A backward grid point. -/
theorem bwd_run (c : Dev nD) (i : grid1.Coords)
    (MQ : Memref sig .tc .vmem S256x128 .bf16) (hQ : MQ.IsWhole) (MK : Memref sig .tc .vmem S16384x128 .bf16) (hK : MK.IsWhole)
    (MV : Memref sig .tc .vmem S16384x128 .bf16) (hV : MV.IsWhole) (MO : Memref sig .tc .vmem S256x128 .f32) (hO : MO.IsWhole)
    (MD : Memref sig .tc .vmem S256x128 .bf16) (hD : MD.IsWhole) (MG : Memref sig .tc .vmem S256x128 .bf16) (hG : MG.IsWhole)
    (fQ : Bf (F := F) c MQ) (fK : Bf (F := F) c MK) (fV : Bf (F := F) c MV) (fO : Bf (F := F) c MO) (fD : Bf (F := F) c MD) (fG : Bf (F := F) c MG)
    (X Y : S16384x128.Idx → Elt F .f32) (HX HY : S16384x512.Idx → Elt F .f32) (W : Waits sig Unit) (Q : PUnit → sProp 𝕄) (b : BCon F)
    (σ : BSt F) (hb : b = bCon (MQ.view.read (Elt F) fQ) (MD.view.read (Elt F) fD) (MO.view.read (Elt F) fO))
    (hσ : σ = bPoint (i 1).val b (MK.view.read (Elt F) fK) (MV.view.read (Elt F) fV) (start (i 1).val X) (start (i 1).val Y)) :
    iprop(own c MQ fQ ∗ own c MK fK ∗ own c MV fV ∗ own c MO fO ∗ own c MD fD ∗ own c MG fG
      ∗ reads c (Memref.whole cc1_scratch0) X ∗ reads c (Memref.whole cc1_scratch1) Y
      ∗ reads c (Memref.whole main_v1_1) HX ∗ reads c (Memref.whole main_v1_2) HY ∗ sems c ∗ owes (c : Thread nD τ) 0 W
      ∗ ((own c MQ fQ ∗ own c MK fK ∗ own c MV fV ∗ own c MO fO ∗ own c MD fD
          ∗ reads c MG (truncf .bf16 (unstack σ.dq) bitsLt_bf16_f32)
          ∗ reads c (Memref.whole cc1_scratch0) σ.dk ∗ reads c (Memref.whole cc1_scratch1) σ.dv
          ∗ reads c (Memref.whole main_v1_1) (finish (i 0).val (i 1).val HX σ.dk)
          ∗ reads c (Memref.whole main_v1_2) (finish (i 0).val (i 1).val HY σ.dv) ∗ sems c ∗ ∃ W, owes (c : Thread nD τ) 0 W) -∗ Q ⟨⟩))
    ⊢ wp frame (wpE (defs₀ (F := F)) 𝒱₀ c none) Set.univ (cc1_sb_bwd i MQ hQ MK hK MV hV MO hO MD hD MG hG
        (Memref.whole main_v1_1) (Memref.isWhole_whole _) (Memref.whole main_v1_2) (Memref.isWhole_whole _)
        (Memref.whole cc1_scratch0) (Memref.isWhole_whole _) (Memref.whole cc1_scratch1) (Memref.isWhole_whole _) cc1_scratch2) Q := by
  have hi : (i 1).val < 64 := (i 1).isLt
  rw [cc1_sb_bwd_eq_skeleton]
  unfold cc1_sb_bwd_skel
  simp only [k1_part1_eq_skeleton, k1_part2_eq_skeleton, k1_part3_eq_skeleton, k1_part4_eq_skeleton, k1_part5_eq_skeleton, k1_part6_eq_skeleton]
  rw [wp_bind]
  iintro ⟨HQ, HK, HV, HO, HD, HG, HX, HY, HA, HB, Hs, HW, Hk⟩
  iapply (begin_run c i MQ hQ MK hK MV hV MO hO MD hD MG hG (Memref.whole main_v1_1) (Memref.whole main_v1_2) (Memref.isWhole_whole _) (Memref.isWhole_whole _)
    (Memref.whole cc1_scratch0) (Memref.isWhole_whole _) (Memref.whole cc1_scratch1) (Memref.isWhole_whole _) cc1_scratch2 fQ fO fD X Y)
  isplitl [HQ]; · iexact HQ
  isplitl [HO]; · iexact HO
  isplitl [HD]; · iexact HD
  isplitl [HX]; · iexact HX
  isplitl [HY]; · iexact HY
  unfold reads
  iintro ⟨HQ, HO, HD, ⟨%fX, %hfX, HX⟩, ⟨%fY, %hfY, HY⟩⟩
  unfold k1_part2_skel k1_part3_skel k1_part4_skel k1_part5_skel k1_part6_skel
  simp only [bind_assoc, Prog.lift, Prog.bind_op, Prog.bind_ret, Prog.pure_eq_ret]
  sl_exec
  have off1 (r : Fin 2) : k1_off1 i (BitVec.ofNat 32 r.val) = ![128 * (2 * (i 1).val + r.val), 0] := by
    rw [k1_off1_eq]; congr 1; omega
  have hK1 : MK.view.readAt (Elt F) (Rect.unit (s := S16384x128) (k1_off1 i 1#32) ![128, 128] (k1_off1_inb i 1)).toLoadRect fK
      = tileAt (MK.view.read (Elt F) fK) (2 * (i 1).val + 1) := ld_tile _ _ _ _ (by omega) (off1 1)
  have hK0 : MK.view.readAt (Elt F) (Rect.unit (s := S16384x128) (k1_off1 i 0#32) ![128, 128] (k1_off1_inb i 0)).toLoadRect fK
      = tileAt (MK.view.read (Elt F) fK) (2 * (i 1).val) := ld_tile _ _ _ _ (by omega) (off1 0)
  have hV1 : MV.view.readAt (Elt F) (Rect.unit (s := S16384x128) (k1_off1 i 1#32) ![128, 128] (k1_off1_inb i 1)).toLoadRect fV
      = tileAt (MV.view.read (Elt F) fV) (2 * (i 1).val + 1) := ld_tile _ _ _ _ (by omega) (off1 1)
  have hV0 : MV.view.readAt (Elt F) (Rect.unit (s := S16384x128) (k1_off1 i 0#32) ![128, 128] (k1_off1_inb i 0)).toLoadRect fV
      = tileAt (MV.view.read (Elt F) fV) (2 * (i 1).val) := ld_tile _ _ _ _ (by omega) (off1 0)
  rw [hK1, hK0, hV1, hV0, down_start _ hi]
  have hcall := bSpec_le c i MK hK MV hV (Memref.whole cc1_scratch0) (Memref.isWhole_whole _) (Memref.whole cc1_scratch1) (Memref.isWhole_whole _)
    fK fV b.q b.dy b.ds Set.univ (2 * (i 1).val) (by omega) 1#32
    (bDiag (i 1).val b (MK.view.read (Elt F) fK) (MV.view.read (Elt F) fV) (start (i 1).val X) (start (i 1).val Y))
  subst hb
  iapply (wp_call_spec 𝒱₀ (c : Thread nD τ) none Set.univ _ (2 * (i 1).val) (fun u hu => nomatch hu) hcall)
  rw [bSpec_apply]
  isplitl [HK HV HX HY]
  · unfold reads
    isplitl [HK]; · iexact HK
    isplitl [HV]; · iexact HV
    isplitl [HX]
    · iexists _
      isplitr
      swap
      · iexact HX
      · ipureintro
        exact diag_put (Memref.whole cc1_scratch0).view fX (i 1).val hi (k1_off1 i 0#32) (k1_off1 i 1#32) (k1_off1_inb i 0) (k1_off1_inb i 1)
          (off1 0) (off1 1) (start (i 1).val X) hfX
          (fun L => colsOn (truncf .bf16 (zgrad (under (strictly (BitVec.ofNat 32 (i 1).val) 0#32)) triFrom (logits (stack (MQ.view.read (Elt F) fQ)) (tileAt (MK.view.read (Elt F) fK) (2 * (i 1).val))) (wgrad (weights (under (strictly (BitVec.ofNat 32 (i 1).val) 0#32)) triRight (stack (MQ.view.read (Elt F) fQ)) (tileAt (MK.view.read (Elt F) fK) (2 * (i 1).val)) (carryOn (under (strictly (BitVec.ofNat 32 (i 1).val) 1#32)) (stack (MQ.view.read (Elt F) fQ)) (tileAt (MK.view.read (Elt F) fK) (2 * (i 1).val + 1)) col0)) (stack (MD.view.read (Elt F) fD)) (tileAt (MV.view.read (Elt F) fV) (2 * (i 1).val))) (totals (stack (MD.view.read (Elt F) fD)) (MO.view.read (Elt F) fO)) (addf col0 (rowSum (wgrad (weights (under (strictly (BitVec.ofNat 32 (i 1).val) 1#32)) triRight (stack (MQ.view.read (Elt F) fQ)) (tileAt (MK.view.read (Elt F) fK) (2 * (i 1).val + 1)) col0) (stack (MD.view.read (Elt F) fD)) (tileAt (MV.view.read (Elt F) fV) (2 * (i 1).val + 1)))))) bitsLt_bf16_f32) (stack (MQ.view.read (Elt F) fQ)) L)
          (fun L => colsOn (truncf .bf16 (zgrad (under (strictly (BitVec.ofNat 32 (i 1).val) 1#32)) triFrom (logits (stack (MQ.view.read (Elt F) fQ)) (tileAt (MK.view.read (Elt F) fK) (2 * (i 1).val + 1))) (wgrad (weights (under (strictly (BitVec.ofNat 32 (i 1).val) 1#32)) triRight (stack (MQ.view.read (Elt F) fQ)) (tileAt (MK.view.read (Elt F) fK) (2 * (i 1).val + 1)) col0) (stack (MD.view.read (Elt F) fD)) (tileAt (MV.view.read (Elt F) fV) (2 * (i 1).val + 1))) (totals (stack (MD.view.read (Elt F) fD)) (MO.view.read (Elt F) fO)) col0) bitsLt_bf16_f32) (stack (MQ.view.read (Elt F) fQ)) L)
    · iexists _
      isplitr
      swap
      · iexact HY
      · ipureintro
        exact diag_put (Memref.whole cc1_scratch1).view fY (i 1).val hi (k1_off1 i 0#32) (k1_off1 i 1#32) (k1_off1_inb i 0) (k1_off1_inb i 1)
          (off1 0) (off1 1) (start (i 1).val Y) hfY
          (fun L => colsOn (weights (under (strictly (BitVec.ofNat 32 (i 1).val) 0#32)) triRight (stack (MQ.view.read (Elt F) fQ)) (tileAt (MK.view.read (Elt F) fK) (2 * (i 1).val)) (carryOn (under (strictly (BitVec.ofNat 32 (i 1).val) 1#32)) (stack (MQ.view.read (Elt F) fQ)) (tileAt (MK.view.read (Elt F) fK) (2 * (i 1).val + 1)) col0)) (stack (MD.view.read (Elt F) fD)) L)
          (fun L => colsOn (weights (under (strictly (BitVec.ofNat 32 (i 1).val) 1#32)) triRight (stack (MQ.view.read (Elt F) fQ)) (tileAt (MK.view.read (Elt F) fK) (2 * (i 1).val + 1)) col0) (stack (MD.view.read (Elt F) fD)) L)
  have hr : ∀ r, r = bLoop ⟨(bCon (MQ.view.read (Elt F) fQ) (MD.view.read (Elt F) fD) (MO.view.read (Elt F) fO)).q,
    (bCon (MQ.view.read (Elt F) fQ) (MD.view.read (Elt F) fD) (MO.view.read (Elt F) fO)).dy, triRight, triFrom,
    (bCon (MQ.view.read (Elt F) fQ) (MD.view.read (Elt F) fD) (MO.view.read (Elt F) fO)).ds⟩ (MK.view.read (Elt F) fK) (MV.view.read (Elt F) fV)
      (2 * (i 1).val) 1#32 (bDiag (i 1).val (bCon (MQ.view.read (Elt F) fQ) (MD.view.read (Elt F) fD) (MO.view.read (Elt F) fO))
        (MK.view.read (Elt F) fK) (MV.view.read (Elt F) fV) (start (i 1).val X) (start (i 1).val Y)) → r.2.2 = σ := fun r h => h ▸ hσ.symm
  generalize hr' : bLoop (F := F) _ _ _ _ _ _ = r
  obtain ⟨r1, r2, r3⟩ := r
  obtain rfl : r3 = σ := hr _ hr'.symm
  clear hcall hσ hr hr'
  unfold reads
  iintro ⟨HK, HV, ⟨%gX, %hgX, HX⟩, ⟨%gY, %hgY, HY⟩⟩
  icases HA with ⟨%fA, %hfA, HA⟩
  icases HB with ⟨%fB, %hfB, HB⟩
  unfold sems
  icases Hs with ⟨Hs0, Hs1⟩
  by_cases h2 : (i 1).val = 63
  · have hw : k1_cond2 i = 1#1 := (last_word i).2 h2
    simp only [hw, ↓reduceDIte]
    sl_exec!
    sl_step
    iapply Hk
    isplitl [HQ]; · iexact HQ
    isplitl [HK]; · iexact HK
    isplitl [HV]; · iexact HV
    isplitl [HO]; · iexact HO
    isplitl [HD]; · iexact HD
    isplitl [HG]
    · iexists _
      isplitr
      swap
      · iexact HG
      · ipureintro
        exact read_block _ _ inb_S256x128_S256x128_0_0 _ []
    isplitl [HX]
    · iexists _
      isplitr
      swap
      · iexact HX
      · ipureintro; exact hgX
    isplitl [HY]
    · iexists _
      isplitr
      swap
      · iexact HY
      · ipureintro; exact hgY
    isplitl [HA]
    · iexists _
      isplitr
      swap
      · iexact HA
      · ipureintro
        rw [finish, if_pos h2]
        refine (read_cols _ _ _ (k1_off3_inb i hw) (i 0).val (k1_off3_eq i) _).trans ?_
        rw [hfA]
        exact congrArg (putCols HX _) hgX
    isplitl [HB]
    · iexists _
      isplitr
      swap
      · iexact HB
      · ipureintro
        rw [finish, if_pos h2]
        refine (read_cols _ _ _ (k1_off3_inb i hw) (i 0).val (k1_off3_eq i) _).trans ?_
        rw [hfB]
        exact congrArg (putCols HY _) hgY
    isplitl [Hs0 Hs1]
    · isplitl [Hs0]; · iexact Hs0
      iexact Hs1
    iexists _
    iexact HW
  · have hw : ¬ k1_cond2 i = 1#1 := fun h => h2 ((last_word i).1 h)
    simp only [hw, ↓reduceDIte]
    sl_exec
    sl_step
    iapply Hk
    isplitl [HQ]; · iexact HQ
    isplitl [HK]; · iexact HK
    isplitl [HV]; · iexact HV
    isplitl [HO]; · iexact HO
    isplitl [HD]; · iexact HD
    isplitl [HG]
    · iexists _
      isplitr
      swap
      · iexact HG
      · ipureintro
        exact read_block _ _ inb_S256x128_S256x128_0_0 _ []
    isplitl [HX]
    · iexists _
      isplitr
      swap
      · iexact HX
      · ipureintro; exact hgX
    isplitl [HY]
    · iexists _
      isplitr
      swap
      · iexact HY
      · ipureintro; exact hgY
    isplitl [HA]
    · iexists _
      isplitr
      swap
      · iexact HA
      · ipureintro
        rw [finish, if_neg h2]; exact hfA
    isplitl [HB]
    · iexists _
      isplitr
      swap
      · iexact HB
      · ipureintro
        rw [finish, if_neg h2]; exact hfB
    isplitl [Hs0 Hs1]
    · isplitl [Hs0]; · iexact Hs0
      iexact Hs1
    iexists _
    iexact HW

end Cert.Proof
-- ==== Proof.FwdLoop.lean ====
/-
  The forward kernel's loop over the column tiles left of the diagonal: with `n` tiles to go it returns what `fLoop` gives.
-/
module

public import proofs.«01_k».proof.Proof.Common

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (c : Dev nD) (i : grid0.Coords)
  (MK : Memref sig .tc .vmem S16384x128 .bf16) (hK : MK.IsWhole) (MV : Memref sig .tc .vmem S16384x128 .bf16) (hV : MV.IsWhole)
  (fK : Bf (F := F) c MK) (fV : Bf (F := F) c MV) (q : FVec F S512x128 .bf16)

/-- The loop's answer with `n` tiles to go: holding the keys and the values it hands them back, and returns `fLoop`'s values. -/
def fSpec (n : ℕ) (al : BitVec 32) (σ : FSt F) : sWPT 𝕄 (BitVec 32 × BitVec 32 × FVec F S512x1 .f32 × FVec F S512x128 .f32) := do
  sWPT.consume iprop(own c MK fK ∗ own c MV fV)
  sWPT.produce iprop(own c MK fK ∗ own c MV fV)
  pure (fLoop q (MK.view.read (Elt F) fK) (MV.view.read (Elt F) fV) n al σ)

theorem fSpec_apply (n : ℕ) (al : BitVec 32) (σ : FSt F) (Q : BitVec 32 × BitVec 32 × FVec F S512x1 .f32 × FVec F S512x128 .f32 → sProp 𝕄) :
    fSpec c MK MV fK fV q n al σ Q
      = iprop((own c MK fK ∗ own c MV fV) ∗ ((own c MK fK ∗ own c MV fV)
          -∗ Q (fLoop q (MK.view.read (Elt F) fK) (MV.view.read (Elt F) fV) n al σ))) := rfl

theorem fSpec_le (E : Set ℕ) : ∀ n, n ≤ 128 → ∀ (al : BitVec 32) (σ : FSt F) Q, fSpec c MK MV fK fV q n al σ Q
    ⊢ wp frame (wpE (defs₀ (F := F)) 𝒱₀ (c : Thread nD τ) (some n)) E
        (defs₀ (F := F) .tc 2 ⟨i, MK, hK, q, triRight, MV, hV, down n, al, σ.1, σ.2⟩) Q := by
  intro n
  induction n with
  | zero =>
    intro _ al σ Q
    rw [fSpec_apply]
    show _ ⊢ wp frame (wpE (defs₀ (F := F)) 𝒱₀ (c : Thread nD τ) (some 0)) E (cc0_while1 i MK hK q triRight MV hV (down 0) al σ.1 σ.2) Q
    have htest : ¬ Scalar.andi (Scalar.cmpi .sge (down 0) 0#32) (Scalar.cmpi .sgt al 0#32) = 1#1 := fun h =>
      sge_down_zero ((andi_one _ _).1 h).1
    simp only [cc0_while1_eq_skeleton]; unfold cc0_while1_skel
    simp only [htest, ↓reduceIte, Prog.pure_eq_ret]
    iintro ⟨H, Hk⟩
    rw [wp_ret]; imodintro
    rw [fLoop, show (0#32 - 1#32 : BitVec 32) = down 0 from rfl]
    iapply Hk
    iexact H
  | succ n ih =>
    intro hn al σ Q
    rw [fSpec_apply]
    show _ ⊢ wp frame (wpE (defs₀ (F := F)) 𝒱₀ (c : Thread nD τ) (some (n + 1))) E (cc0_while1 i MK hK q triRight MV hV (down (n + 1)) al σ.1 σ.2) Q
    simp only [cc0_while1_eq_skeleton]; unfold cc0_while1_skel
    by_cases hal : Scalar.cmpi .sgt al 0#32 = 1#1
    · have htest : Scalar.andi (Scalar.cmpi .sge (BitVec.ofNat 32 n) 0#32) (Scalar.cmpi .sgt al 0#32) = 1#1 :=
        (andi_one _ _).2 ⟨down_succ n ▸ sge_down_succ n (by omega), hal⟩
      rw [down_succ]
      simp only [htest, ↓reduceIte, k0_part4_eq_skeleton]
      unfold k0_part4_skel
      have hchk : k0_chk1 (BitVec.ofNat 32 n) := chk_fwd n (by omega)
      iintro ⟨⟨HK, HV⟩, Hk⟩
      sl_exec
      have hKt : MK.view.readAt (Elt F) (Rect.unit (s := S16384x128) (k0_off2 (BitVec.ofNat 32 n)) S128x128.size (k0_off2_inb _ hchk)).toLoadRect fK
          = tileAt (MK.view.read (Elt F) fK) n := ld_tile _ _ _ n (by omega) (off_fwd n (by omega))
      have hVt : MV.view.readAt (Elt F) (Rect.unit (s := S16384x128) (k0_off2 (BitVec.ofNat 32 n)) S128x128.size (k0_off2_inb _ hchk)).toLoadRect fV
          = tileAt (MV.view.read (Elt F) fV) n := ld_tile _ _ _ n (by omega) (off_fwd n (by omega))
      rw [hKt, hVt]
      iapply (wp_call_spec 𝒱₀ (c : Thread nD τ) (some (n + 1)) E
        (fSpec c MK MV fK fV q n (alive (fTile keep q (MK.view.read (Elt F) fK) (MV.view.read (Elt F) fV) n σ).1)
          (fTile keep q (MK.view.read (Elt F) fK) (MV.view.read (Elt F) fV) n σ)) n
        (fun u hu => by cases hu; exact Nat.lt_succ_self n) (ih (by omega) _ _))
      rw [fSpec_apply]
      isplitl [HK HV]
      · isplitl [HK] <;> iassumption
      iintro H
      rw [wp_ret]; imodintro
      rw [fLoop, if_pos hal]
      iapply Hk
      iexact H
    · have htest : ¬ Scalar.andi (Scalar.cmpi .sge (down (n + 1)) 0#32) (Scalar.cmpi .sgt al 0#32) = 1#1 := fun h =>
        hal ((andi_one _ _).1 h).2
      simp only [htest, ↓reduceIte, Prog.pure_eq_ret]
      iintro ⟨H, Hk⟩
      rw [wp_ret]; imodintro
      rw [fLoop, if_neg hal, down_succ]
      iapply Hk
      iexact H

end Cert.Proof

end
-- ==== Proof.FwdBody.lean ====
/-
  The forward kernel's body at a grid point: from the blocks of the queries, the keys and the values it stores `fOut`.
-/
module

public import proofs.«01_k».proof.Proof.FwdLoop

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- From its three input blocks a forward grid point stores the row block's output and leaves the inputs. -/
theorem fwd_run (c : Dev nD) (i : grid0.Coords)
    (MQ : Memref sig .tc .vmem S256x128 .bf16) (hQ : MQ.IsWhole) (MK : Memref sig .tc .vmem S16384x128 .bf16) (hK : MK.IsWhole)
    (MV : Memref sig .tc .vmem S16384x128 .bf16) (hV : MV.IsWhole) (MO : Memref sig .tc .vmem S256x128 .f32) (hO : MO.IsWhole)
    (fQ : Bf (F := F) c MQ) (fK : Bf (F := F) c MK) (fV : Bf (F := F) c MV) (fO : Bf (F := F) c MO) (Q : PUnit → sProp 𝕄) :
    iprop(own c MQ fQ ∗ own c MK fK ∗ own c MV fV ∗ own c MO fO
      ∗ ((own c MQ fQ ∗ own c MK fK ∗ own c MV fV
          ∗ ∃ f, ⌜MO.view.read (Elt F) f = fOut (i 1).val (MQ.view.read (Elt F) fQ) (MK.view.read (Elt F) fK) (MV.view.read (Elt F) fV)⌝ ∗ own c MO f) -∗ Q ⟨⟩))
    ⊢ wp frame (wpE (defs₀ (F := F)) 𝒱₀ c none) Set.univ (cc0_sb_fwd i MQ hQ MK hK MV hV MO hO) Q := by
  have hi : (i 1).val < 64 := (i 1).isLt
  rw [cc0_sb_fwd_eq_skeleton]
  unfold cc0_sb_fwd_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  iintro ⟨HQ, HK, HV, HO, Hk⟩
  sl_exec
  have hQb : MQ.view.readAt (Elt F) (Rect.unit (s := S256x128) ![0, 0] ![256, 128] inb_S256x128_S256x128_0_0).toLoadRect fQ = MQ.view.read (Elt F) fQ :=
    ld_block _ _
  have hKt (r : Fin 2) : MK.view.readAt (Elt F) (Rect.unit (s := S16384x128) (k0_off1 i (BitVec.ofNat 32 r.val)) S128x128.size (k0_off1_inb i r)).toLoadRect fK
      = tileAt (MK.view.read (Elt F) fK) (2 * (i 1).val + r.val) :=
    ld_tile _ _ _ _ (by omega) (by rw [k0_off1_eq]; congr 1; omega)
  have hVt (r : Fin 2) : MV.view.readAt (Elt F) (Rect.unit (s := S16384x128) (k0_off1 i (BitVec.ofNat 32 r.val)) S128x128.size (k0_off1_inb i r)).toLoadRect fV
      = tileAt (MV.view.read (Elt F) fV) (2 * (i 1).val + r.val) :=
    ld_tile _ _ _ _ (by omega) (by rw [k0_off1_eq]; congr 1; omega)
  have hK1 : MK.view.readAt (Elt F) (Rect.unit (s := S16384x128) (k0_off1 i 1#32) ![128, 128] (k0_off1_inb i 1)).toLoadRect fK = tileAt (MK.view.read (Elt F) fK) (2 * (i 1).val + 1) := hKt 1
  have hK0 : MK.view.readAt (Elt F) (Rect.unit (s := S16384x128) (k0_off1 i 0#32) ![128, 128] (k0_off1_inb i 0)).toLoadRect fK = tileAt (MK.view.read (Elt F) fK) (2 * (i 1).val) := hKt 0
  have hV1 : MV.view.readAt (Elt F) (Rect.unit (s := S16384x128) (k0_off1 i 1#32) ![128, 128] (k0_off1_inb i 1)).toLoadRect fV = tileAt (MV.view.read (Elt F) fV) (2 * (i 1).val + 1) := hVt 1
  have hV0 : MV.view.readAt (Elt F) (Rect.unit (s := S16384x128) (k0_off1 i 0#32) ![128, 128] (k0_off1_inb i 0)).toLoadRect fV = tileAt (MV.view.read (Elt F) fV) (2 * (i 1).val) := hVt 0
  rw [hQb, hK1, hK0, hV1, hV0, down_start _ hi]
  generalize MQ.view.read (Elt F) fQ = q
  have hcall := fSpec_le c i MK hK MV hV fK fV (stack q) Set.univ (2 * (i 1).val) (by omega) 1#32
    (fDiag (i 1).val (stack q) (MK.view.read (Elt F) fK) (MV.view.read (Elt F) fV))
  iapply (wp_call_spec 𝒱₀ (c : Thread nD τ) none Set.univ (fSpec c MK MV fK fV (stack q) (2 * (i 1).val) 1#32
    (fDiag (i 1).val (stack q) (MK.view.read (Elt F) fK) (MV.view.read (Elt F) fV))) (2 * (i 1).val) (fun u hu => nomatch hu) hcall)
  rw [fSpec_apply]
  isplitl [HK HV]
  · isplitl [HK] <;> iassumption
  iintro ⟨HK, HV⟩
  sl_exec
  sl_step
  iapply Hk
  isplitl [HQ]; · iexact HQ
  isplitl [HK]; · iexact HK
  isplitl [HV]; · iexact HV
  iexists _
  isplitr
  · ipureintro
    exact read_block MO.view fO inb_S256x128_S256x128_0_0 _ []
  · iexact HO

end Cert.Proof

end
-- ==== Proof.FwdRegion.lean ====
/-
  The forward region: its proof data, its body's obligation, and its segment over the core's unscoped buffers.
-/
module

public import proofs.«01_k».proof.Proof.FwdBody
public import proofs.«01_k».proof.Proof.Gen.KernelIdeal.Points
public import proofs.«01_k».proof.Proof.Gen.KernelIdeal.Regions
public import Idealize.ShloMosaic.Lib.Pipeline.RegionsLoop
public import Idealize.ShloMosaic.Lib.Pipeline.FrameBody

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What each core's unscoped buffers hold. -/
abbrev Held (F : FTy → Type) : Type := (c : Dev nD) → (b : Ref sig .tc) → Buf (Elt F) ((c : Thread nD τ).loc b)

variable (V : Held F)

/-- The queries a forward point reads, as the region is entered. -/
abbrev fInQ (c : Dev nD) (t : Fin (cfg0 (F := F)).N) : S256x128.Idx → Elt F .bf16 :=
  (((cfg0 (F := F)).win 0).blk t).view.read (Elt F) (V c main_arg0)

/-- The keys a forward point reads, as the region is entered. -/
abbrev fInK (c : Dev nD) (t : Fin (cfg0 (F := F)).N) : S16384x128.Idx → Elt F .bf16 :=
  (((cfg0 (F := F)).win 1).blk t).view.read (Elt F) (V c main_arg0)

/-- The values a forward point reads, as the region is entered. -/
abbrev fInV (c : Dev nD) (t : Fin (cfg0 (F := F)).N) : S16384x128.Idx → Elt F .bf16 :=
  (((cfg0 (F := F)).win 2).blk t).view.read (Elt F) (V c main_arg0)

/-- The forward region's proof data: the inputs stay, a point leaves its row block of the output. -/
def dat0 (c : Dev nD) : Dat τ (Elt F) Unit ℕ UU ℕ (cfg0 (F := F)) c where
  A w := V c (Pipeline.arrRef spec0 w)
  after w t := match w with
    | ⟨0, _⟩ => fInQ V c t
    | ⟨1, _⟩ => fInK V c t
    | ⟨2, _⟩ => fInV V c t
    | ⟨3, _⟩ => fOut (grid0.coords t 1).val (fInQ V c t) (fInK V c t) (fInV V c t)
  Φ _ := Pipeline.scopedRest (Ix := Unit) (Name := ℕ) (U := UU) (Lvl := ℕ) (Val := Elt F) spec0 c
  q w := Pipeline.shareOf spec0 w
  owed _ := 0

theorem before0_0 (c : Dev nD) (t : Fin (cfg0 (F := F)).N) (d) : (dat0 V c).before 0 t d = fInQ V c t :=
  (dat0 V c).before_in_eq_fetched 0 rfl (fun _ => rfl) (fun _ _ _ => rfl) (fun _ => rfl) t d
theorem before0_1 (c : Dev nD) (t : Fin (cfg0 (F := F)).N) (d) : (dat0 V c).before 1 t d = fInK V c t :=
  (dat0 V c).before_in_eq_fetched 1 rfl (fun _ => rfl) (fun _ _ _ => rfl) (fun _ => rfl) t d
theorem before0_2 (c : Dev nD) (t : Fin (cfg0 (F := F)).N) (d) : (dat0 V c).before 2 t d = fInV V c t :=
  (dat0 V c).before_in_eq_fetched 2 rfl (fun _ => rfl) (fun _ _ _ => rfl) (fun _ => rfl) t d

/-- What a forward point leaves. -/
def fPost (c : Dev nD) (t : Fin (cfg0 (F := F)).N) : sProp 𝕄 :=
  iprop((dat0 V c).Φ t.succ ∗ (dat0 V c).owesAt () t.succ
    ∗ owns (c : Thread nD τ) (st0_0 t) fullShare (fInQ V c t) ∗ owns (c : Thread nD τ) (st0_1 t) fullShare (fInK V c t)
    ∗ owns (c : Thread nD τ) (st0_2 t) fullShare (fInV V c t)
    ∗ owns (c : Thread nD τ) (st0_3 t) fullShare (fOut (grid0.coords t 1).val (fInQ V c t) (fInK V c t) (fInV V c t)))

/-- A forward point turns its row block of queries and the pair's keys and values into its row block of the output. -/
theorem body0_run (c : Dev nD) (t : Fin (cfg0 (F := F)).N) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d)))
    ⊢ wp frame (wpE (defs₀ (F := F)) 𝒱₀ c none) Set.univ (bodyAt0 t) (fun _ => fPost V c t) := by
  unfold fPost owns
  iintro ⟨HΦ, Howes, ⟨%d0, %f0, %hf0, H0⟩, ⟨%d1, %f1, %hf1, H1⟩, ⟨%d2, %f2, %hf2, H2⟩, ⟨%d3, %f3, -, H3⟩⟩
  rw [show (dat0 V c).Φ t.succ = (dat0 V c).Φ t.castSucc from rfl, show (dat0 V c).owesAt () t.succ = (dat0 V c).owesAt () t.castSucc from rfl]
  rw [before0_0] at hf0
  rw [before0_1] at hf1
  rw [before0_2] at hf2
  iapply (fwd_run c (grid0.coords t) _ _ _ _ _ _ _ _ f0 f1 f2 f3)
  isplitl [H0]; · iexact H0
  isplitl [H1]; · iexact H1
  isplitl [H2]; · iexact H2
  isplitl [H3]; · iexact H3
  iintro ⟨H0, H1, H2, ⟨%g, %hg, H3⟩⟩
  isplitl [HΦ]; · iexact HΦ
  isplitl [Howes]; · iexact Howes
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  iexists _; isplitr; swap; (· iexact H3); ipureintro
  refine hg.trans ?_
  exact congrArg₂ (fun X Y => fOut (grid0.coords t 1).val X Y.1 Y.2) hf0 (congrArg₂ Prod.mk hf1 hf2)

theorem body0 (c : Dev nD) : BodyObligation (dat0 V c) (defs₀ (F := F)) 𝒱₀ () Set.univ := fun t => by
  rw [bigSep_W0, bigSep_W0]
  exact body0_run V c t

end Cert.Proof

end
-- ==== Proof.BwdRegion.lean ====
/-
  The backward region: what the gradients' buffers hold between its grid points, its proof data, its body's obligation.
-/
module

public import proofs.«01_k».proof.Proof.BwdBody
public import proofs.«01_k».proof.Proof.FwdRegion

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : Held F)

/-- The queries a backward point reads, as the region is entered. -/
abbrev bInQ (c : Dev nD) (t : Fin (cfg1 (F := F)).N) : S256x128.Idx → Elt F .bf16 :=
  (((cfg1 (F := F)).win 0).blk t).view.read (Elt F) (V c main_arg0)

/-- The keys a backward point reads, as the region is entered. -/
abbrev bInK (c : Dev nD) (t : Fin (cfg1 (F := F)).N) : S16384x128.Idx → Elt F .bf16 :=
  (((cfg1 (F := F)).win 1).blk t).view.read (Elt F) (V c main_arg0)

/-- The values a backward point reads, as the region is entered. -/
abbrev bInV (c : Dev nD) (t : Fin (cfg1 (F := F)).N) : S16384x128.Idx → Elt F .bf16 :=
  (((cfg1 (F := F)).win 2).blk t).view.read (Elt F) (V c main_arg0)

/-- The forward outputs a backward point reads, as the region is entered. -/
abbrev bInO (c : Dev nD) (t : Fin (cfg1 (F := F)).N) : S256x128.Idx → Elt F .f32 :=
  (((cfg1 (F := F)).win 3).blk t).view.read (Elt F) (V c main_v0)

/-- The cotangents a backward point reads, as the region is entered. -/
abbrev bInD (c : Dev nD) (t : Fin (cfg1 (F := F)).N) : S256x128.Idx → Elt F .bf16 :=
  (((cfg1 (F := F)).win 4).blk t).view.read (Elt F) (V c main_arg1)

/-- A backward point's end, from the two gradients it finds. -/
def bEnd (c : Dev nD) (t : Fin (cfg1 (F := F)).N) (G : (S16384x128.Idx → Elt F .f32) × (S16384x128.Idx → Elt F .f32)) : BSt F :=
  bPoint (grid1.coords t 1).val (bCon (bInQ V c t) (bInD V c t) (bInO V c t)) (bInK V c t) (bInV V c t)
    (start (grid1.coords t 1).val G.1) (start (grid1.coords t 1).val G.2)

/-- The keys' and the values' gradient of the pair at hand after `n` points. -/
def grads (c : Dev nD) : ℕ → (S16384x128.Idx → Elt F .f32) × (S16384x128.Idx → Elt F .f32)
  | 0 => (rows0, rows0)
  | n + 1 => if h : n < (cfg1 (F := F)).N then ((bEnd V c ⟨n, h⟩ (grads c n)).dk, (bEnd V c ⟨n, h⟩ (grads c n)).dv) else grads c n

/-- The two result arrays the body itself writes, after `n` points. -/
def dests (c : Dev nD) : ℕ → (S16384x512.Idx → Elt F .f32) × (S16384x512.Idx → Elt F .f32)
  | 0 => (V c main_v1_1, V c main_v1_2)
  | n + 1 => if h : n < (cfg1 (F := F)).N then
      (finish (grid1.coords ⟨n, h⟩ 0).val (grid1.coords ⟨n, h⟩ 1).val (dests c n).1 (grads V c (n + 1)).1,
       finish (grid1.coords ⟨n, h⟩ 0).val (grid1.coords ⟨n, h⟩ 1).val (dests c n).2 (grads V c (n + 1)).2) else dests c n

theorem grads_succ (c : Dev nD) (t : Fin (cfg1 (F := F)).N) :
    grads V c (t.val + 1) = ((bEnd V c t (grads V c t.val)).dk, (bEnd V c t (grads V c t.val)).dv) := by
  rw [grads, dif_pos t.isLt]

theorem dests_succ (c : Dev nD) (t : Fin (cfg1 (F := F)).N) :
    dests V c (t.val + 1) = (finish (grid1.coords t 0).val (grid1.coords t 1).val (dests V c t.val).1 (grads V c (t.val + 1)).1,
      finish (grid1.coords t 0).val (grid1.coords t 1).val (dests V c t.val).2 (grads V c (t.val + 1)).2) := by
  rw [dests, dif_pos t.isLt]

/-- The forward region's staging buffers, idle here. -/
def idle (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- What holds before the region's point `n`: the gradients so far, the arrays written so far, the copies' semaphores at zero. -/
def inv (c : Dev nD) (n : ℕ) : sProp 𝕄 :=
  iprop((∃ X, ⌜n ≠ 0 → X = (grads V c n).1⌝ ∗ reads c (Memref.whole cc1_scratch0) X)
    ∗ (∃ Y, ⌜n ≠ 0 → Y = (grads V c n).2⌝ ∗ reads c (Memref.whole cc1_scratch1) Y)
    ∗ reads c (Memref.whole main_v1_1) (dests V c n).1 ∗ reads c (Memref.whole main_v1_2) (dests V c n).2 ∗ sems c ∗ idle c)

/-- The backward region's proof data. -/
def dat1 (c : Dev nD) : Dat τ (Elt F) Unit ℕ UU ℕ (cfg1 (F := F)) c where
  A w := V c (Pipeline.arrRef spec1 w)
  after w t := match w with
    | ⟨0, _⟩ => bInQ V c t
    | ⟨1, _⟩ => bInK V c t
    | ⟨2, _⟩ => bInV V c t
    | ⟨3, _⟩ => bInO V c t
    | ⟨4, _⟩ => bInD V c t
    | ⟨5, _⟩ => truncf .bf16 (unstack (bEnd V c t (grads V c t.val)).dq) bitsLt_bf16_f32
  Φ t := inv V c t.val
  q w := Pipeline.shareOf spec1 w
  owed _ := 0

theorem inv_eq (c : Dev nD) (p) : (dat1 V c).Φ p = inv V c p.val := rfl

theorem before1_0 (c : Dev nD) (t : Fin (cfg1 (F := F)).N) (d) : (dat1 V c).before 0 t d = bInQ V c t :=
  (dat1 V c).before_in_eq_fetched 0 rfl (fun _ => rfl) (fun _ _ _ => rfl) (fun _ => rfl) t d
theorem before1_1 (c : Dev nD) (t : Fin (cfg1 (F := F)).N) (d) : (dat1 V c).before 1 t d = bInK V c t :=
  (dat1 V c).before_in_eq_fetched 1 rfl (fun _ => rfl) (fun _ _ _ => rfl) (fun _ => rfl) t d
theorem before1_2 (c : Dev nD) (t : Fin (cfg1 (F := F)).N) (d) : (dat1 V c).before 2 t d = bInV V c t :=
  (dat1 V c).before_in_eq_fetched 2 rfl (fun _ => rfl) (fun _ _ _ => rfl) (fun _ => rfl) t d
theorem before1_3 (c : Dev nD) (t : Fin (cfg1 (F := F)).N) (d) : (dat1 V c).before 3 t d = bInO V c t :=
  (dat1 V c).before_in_eq_fetched 3 rfl (fun _ => rfl) (fun _ _ _ => rfl) (fun _ => rfl) t d
theorem before1_4 (c : Dev nD) (t : Fin (cfg1 (F := F)).N) (d) : (dat1 V c).before 4 t d = bInD V c t :=
  (dat1 V c).before_in_eq_fetched 4 rfl (fun _ => rfl) (fun _ _ _ => rfl) (fun _ => rfl) t d

/-- The gradients found at a point, where the first point of a pair finds anything. -/
theorem coords1_zero : ∀ t : Fin grid1.N, t.val = 0 → (grid1.coords t 1).val = 0 := by
  intro t h
  have : t = ⟨0, by decide⟩ := Fin.ext h
  subst this
  decide

theorem start_found (t : Fin grid1.N) (X G : S16384x128.Idx → Elt F .f32) (h : t.val ≠ 0 → X = G) :
    start (grid1.coords t 1).val X = start (grid1.coords t 1).val G := by
  by_cases h0 : t.val = 0
  · unfold start; rw [if_pos (coords1_zero t h0), if_pos (coords1_zero t h0)]
  · rw [h h0]

theorem bCon_congr {Q Q' D D' : S256x128.Idx → Elt F .bf16} {O O' : S256x128.Idx → Elt F .f32} (hq : Q = Q') (hd : D = D') (ho : O = O') :
    bCon Q' D' O' = bCon Q D O := by subst hq; subst hd; subst ho; rfl

theorem bPoint_congr {a : ℕ} {b : BCon F} {K K' U U' : S16384x128.Idx → Elt F .bf16} {X Y : S16384x128.Idx → Elt F .f32}
    (hk : K = K') (hu : U = U') : bPoint a b K' U' X Y = bPoint a b K U X Y := by subst hk; subst hu; rfl

/-- What a backward point leaves. -/
def bPost (c : Dev nD) (t : Fin (cfg1 (F := F)).N) : sProp 𝕄 :=
  iprop((dat1 V c).Φ t.succ ∗ (dat1 V c).owesAt () t.succ
    ∗ owns (c : Thread nD τ) (st1_0 t) fullShare (bInQ V c t) ∗ owns (c : Thread nD τ) (st1_1 t) fullShare (bInK V c t)
    ∗ owns (c : Thread nD τ) (st1_2 t) fullShare (bInV V c t) ∗ owns (c : Thread nD τ) (st1_3 t) fullShare (bInO V c t)
    ∗ owns (c : Thread nD τ) (st1_4 t) fullShare (bInD V c t)
    ∗ owns (c : Thread nD τ) (st1_5 t) fullShare (truncf .bf16 (unstack (bEnd V c t (grads V c t.val)).dq) bitsLt_bf16_f32))

theorem body1_run (c : Dev nD) (t : Fin (cfg1 (F := F)).N) :
    iprop((dat1 V c).Φ t.castSucc ∗ (dat1 V c).owesAt () t.castSucc
      ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d))
      ∗ (∃ d, owns (c : Thread nD τ) (st1_4 t) fullShare ((dat1 V c).before 4 t d)) ∗ (∃ d, owns (c : Thread nD τ) (st1_5 t) fullShare ((dat1 V c).before 5 t d)))
    ⊢ wp frame (wpE (defs₀ (F := F)) 𝒱₀ c none) Set.univ (bodyAt1 t) (fun _ => bPost V c t) := by
  unfold bPost owns
  rw [inv_eq, inv_eq, Fin.val_castSucc, Fin.val_succ]
  unfold inv Dat.owesAt Pipeline.owesWithin
  iintro ⟨⟨⟨%X, %hX, HX⟩, ⟨%Y, %hY, HY⟩, HA, HB, Hs, Hi⟩, ⟨%W, -, HO⟩, ⟨%d0, %f0, %hf0, H0⟩, ⟨%d1, %f1, %hf1, H1⟩, ⟨%d2, %f2, %hf2, H2⟩,
    ⟨%d3, %f3, %hf3, H3⟩, ⟨%d4, %f4, %hf4, H4⟩, ⟨%d5, %f5, -, H5⟩⟩
  rw [before1_0] at hf0
  rw [before1_1] at hf1
  rw [before1_2] at hf2
  rw [before1_3] at hf3
  rw [before1_4] at hf4
  iapply (bwd_run c (grid1.coords t) _ _ _ _ _ _ _ _ _ _ _ _ f0 f1 f2 f3 f4 f5 X Y (dests V c t.val).1 (dests V c t.val).2 W _
    (bCon (bInQ V c t) (bInD V c t) (bInO V c t)) (bEnd V c t (grads V c t.val))
    (bCon_congr hf0 hf4 hf3)
    (by rw [start_found t X _ hX, start_found t Y _ hY]; exact bPoint_congr hf1 hf2))
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HY]; · iexact HY
  isplitl [HA]; · iexact HA
  isplitl [HB]; · iexact HB
  isplitl [Hs]; · iexact Hs
  isplitl [HO]; · iexact HO
  iintro ⟨H0, H1, H2, H3, H4, H5, HX, HY, HA, HB, Hs, ⟨%W', HO⟩⟩
  rw [dests_succ, grads_succ]
  isplitl [HX HY HA HB Hs Hi]
  · isplitl [HX]
    · iexists _; isplitr; swap; (· iexact HX); ipureintro; exact fun _ => rfl
    isplitl [HY]
    · iexists _; isplitr; swap; (· iexact HY); ipureintro; exact fun _ => rfl
    isplitl [HA]; · iexact HA
    isplitl [HB]; · iexact HB
    isplitl [Hs]; · iexact Hs
    iexact Hi
  isplitl [HO]
  · iexists W'; isplitr; · ipureintro; exact fun _ _ => Or.inl trivial
    iexact HO
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  unfold reads
  iexact H5

theorem body1 (c : Dev nD) : BodyObligation (dat1 V c) (defs₀ (F := F)) 𝒱₀ () Set.univ := fun t => by
  rw [bigSep_W1, bigSep_W1]
  exact body1_run V c t

end Cert.Proof

end
-- ==== Proof.Regs.lean ====
/-
  The two regions as segments of the program: what each is entered from and what it leaves.
-/
module

public import proofs.«01_k».proof.Proof.BwdRegion
public import proofs.«01_k».proof.Proof.Gen.KernelIdeal.Regions
public import Idealize.ShloMosaic.Lib.Pipeline.RegionsLoop

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

/-- The two regions' proof data, each from what the buffers hold as it is entered. -/
def pdats (V W : Held F) : (p : Fin 2) → (c : Dev nD) → Dat τ (Elt F) Unit ℕ UU ℕ (Pipeline.pin (pcfgs (F := F)) adm p) c
  | ⟨0, _⟩ => fun c => dat0 V c
  | ⟨1, _⟩ => fun c => dat1 W c

/-- A core's debt, empty. -/
abbrev rest (c : Dev nD) : sProp 𝕄 := iprop(∃ W, owes (c : Thread nD τ) (0 : CellTallies nD τ sig Unit) W)

variable (V W Z : Held F)

set_option backward.isDefEq.respectTransparency.types false in
/-- The forward region: from the buffers at `V` to the buffers at `W`, which differ in the output alone. -/
def reg0 (hout : ∀ c, W c main_v0 = (dat0 V c).arrAt 3 (cfg0 (F := F)).N) (hne : ∀ c (b : Ref sig .tc), b ≠ main_v0 → W c b = V c b) :
    Pipeline.RegionSeg (pcfgs (F := F)) adm (pdats V W) () defs₀ 𝒱₀ L lv 0 where
  win := winFacts₀0
  block_pos := block_pos0
  stage_whole := stage_whole0
  K := PEmpty
  osem k := k.elim
  ho := Pipeline.OwnSemFacts.none _
  hbody c := (body0 V c).loose
  hwaits := Pipeline.hwaits_of_owed_zero _ _ _ _ L lv 0 fun _ _ => rfl
  pre c := iprop(unscopedBufs c (V c) ∗ rest c)
  post c := iprop(unscopedBufs c (W c) ∗ rest c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs_shared (p := 0) (pcfgs (F := F)) adm (pdats V W) winFacts₀0 sharedIn0 arr_whole0 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats V W 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays_shared (p := 0) (pcfgs (F := F)) adm winFacts₀0 sharedIn0 arr_whole0 c (pdats V W)
      (fun _ _ => rfl) (V c) (W c) ((pdats V W 0 c).arrAt · (cfg0 (F := F)).N)
      (fun w => by
        fin_cases w
        · exact ((pdats V W 0 c).arrAt_in 0 rfl _).trans (hne c main_arg0 (by decide)).symm
        · exact ((pdats V W 0 c).arrAt_in 1 rfl _).trans (hne c main_arg0 (by decide)).symm
        · exact ((pdats V W 0 c).arrAt_in 2 rfl _).trans (hne c main_arg0 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The backward region's own semaphores: its two copies'. -/
abbrev osem : Fin 2 → SemLoc sig := ![.dma 20, .dma 21]

theorem ownSemFacts : Pipeline.OwnSemFacts spec1 osem := by decide

theorem ownSems0_eq (c : Dev nD) :
    (Pipeline.ownSems0 (Ix := Unit) (Name := ℕ) (U := UU) (Lvl := ℕ) (Val := Elt F) (τ := τ) osem c : sProp 𝕄) = sems c :=
  Pipeline.ownSems0_eq_of_list c osem [0, 1] (by decide) (by decide)

/-- A buffer held whole, read through its whole memref. -/
theorem reads_whole (c : Dev nD) (b : Ref sig .tc) (f : Buf (Elt F) ((c : Thread nD τ).loc b)) :
    (reads c (Memref.whole b) f : sProp 𝕄) = (((c : Thread nD τ).loc b) ↦{fullShare} f) := owns_whole (c : Thread nD τ) b fullShare f

/-- The invariant at the region's entry. -/
theorem inv_enter (c : Dev nD) :
    iprop((reads c (Memref.whole main_v1_1) (V c main_v1_1) ∗ reads c (Memref.whole main_v1_2) (V c main_v1_2) ∗ sems c)
      ∗ Pipeline.scopedRest (Ix := Unit) (Name := ℕ) (U := UU) (Lvl := ℕ) (Val := Elt F) spec1 c) ⊢ (inv V c 0 : sProp 𝕄) := by
  rw [scopedRest1_eq]
  unfold inv idle
  iintro ⟨⟨HA, HB, Hs⟩, H0, H1, H2, H3, H4, H5, H6, H7, ⟨%X, HX⟩, ⟨%Y, HY⟩⟩
  isplitl [HX]
  · iexists X; isplitr; · ipureintro; exact fun h => absurd rfl h
    rw [reads_whole]; iexact HX
  isplitl [HY]
  · iexists Y; isplitr; · ipureintro; exact fun h => absurd rfl h
    rw [reads_whole]; iexact HY
  isplitl [HA]; · iexact HA
  isplitl [HB]; · iexact HB
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The invariant at the region's end. -/
theorem inv_leave (c : Dev nD) (n : ℕ) :
    (inv V c n : sProp 𝕄) ⊢ iprop((reads c (Memref.whole main_v1_1) (dests V c n).1 ∗ reads c (Memref.whole main_v1_2) (dests V c n).2) ∗ sems c
      ∗ Pipeline.scopedRest (Ix := Unit) (Name := ℕ) (U := UU) (Lvl := ℕ) (Val := Elt F) spec1 c) := by
  rw [scopedRest1_eq]
  unfold inv idle
  iintro ⟨⟨%X, -, HX⟩, ⟨%Y, -, HY⟩, HA, HB, Hs, H0, H1, H2, H3, H4, H5, H6, H7⟩
  isplitl [HA HB]
  · isplitl [HA] <;> iassumption
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]
  · iexists X; iapply (Entails.of_eq (reads_whole c cc1_scratch0 X)); iexact HX
  iexists Y; iapply (Entails.of_eq (reads_whole c cc1_scratch1 Y)); iexact HY

set_option backward.isDefEq.respectTransparency.types false in
/-- The backward region: from the buffers at `W` to the buffers at `Z`, which differ in the three gradients alone. -/
def reg1 (hdq : ∀ c, Z c main_v1_0 = (dat1 W c).arrAt 5 (cfg1 (F := F)).N) (hdk : ∀ c, Z c main_v1_1 = (dests W c (cfg1 (F := F)).N).1)
    (hdv : ∀ c, Z c main_v1_2 = (dests W c (cfg1 (F := F)).N).2)
    (hne : ∀ c (b : Ref sig .tc), b ≠ main_v1_0 → b ≠ main_v1_1 → b ≠ main_v1_2 → Z c b = W c b) :
    Pipeline.RegionSeg (pcfgs (F := F)) adm (pdats V W) () defs₀ 𝒱₀ L lv 1 where
  win := winFacts₀1
  block_pos := block_pos1
  stage_whole := stage_whole1
  K := Fin 2
  osem := osem
  ho := ownSemFacts
  hbody c := (body1 W c).loose
  hwaits := Pipeline.hwaits_of_owed_zero _ _ _ _ L lv 1 fun _ _ => rfl
  pre c := iprop(unscopedBufs c (W c) ∗ rest c)
  post c := iprop(unscopedBufs c (Z c) ∗ rest c)
  X c := iprop(reads c (Memref.whole main_v1_1) (W c main_v1_1) ∗ reads c (Memref.whole main_v1_2) (W c main_v1_2) ∗ sems c)
  Y c := iprop(reads c (Memref.whole main_v1_1) (dests W c (cfg1 (F := F)).N).1 ∗ reads c (Memref.whole main_v1_2) (dests W c (cfg1 (F := F)).N).2)
  Z _ := BI.emp
  hentry c := by
    rw [ownSems0_eq]
    have hsplit := (Pipeline.arrays_of_unscopedBufs_shared (p := 1) (pcfgs (F := F)) adm (pdats V W) winFacts₀1 sharedIn1 arr_whole1 c
      (fun _ _ => rfl) (W c) fun _ => rfl).trans (sep_mono .rfl (Entails.of_eq (unscopedRest1_eq c (W c))))
    iintro ⟨⟨Hub, HO⟩, Hs, -⟩
    ihave H := hsplit $$ Hub
    icases H with ⟨Ha, HA, HB⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HA HB Hs]
    · rw [reads_whole, reads_whole]
      isplitl [HA]; · iexact HA
      isplitl [HB]; · iexact HB
      iexact Hs
    iempintro
  hin c := by
    rw [show (pdats V W 1 c).Φ 0 = inv W c 0 from rfl]
    iintro ⟨HX, -, Hr⟩
    iapply inv_enter
    isplitl [HX] <;> iassumption
  hout c := by
    rw [ownSems0_eq, show (pdats V W 1 c).Φ (Fin.last _) = inv W c (cfg1 (F := F)).N from rfl]
    exact inv_leave W c _
  hexit c := by
    have hjoin := Pipeline.unscopedBufs_of_arrays_shared (p := 1) (pcfgs (F := F)) adm winFacts₀1 sharedIn1 arr_whole1 c (pdats V W)
      (fun _ _ => rfl) (Z c) (Z c) ((pdats V W 1 c).arrAt · (cfg1 (F := F)).N)
      (fun w => by
        fin_cases w
        · exact ((pdats V W 1 c).arrAt_in 0 rfl _).trans (hne c main_arg0 (by decide) (by decide) (by decide)).symm
        · exact ((pdats V W 1 c).arrAt_in 1 rfl _).trans (hne c main_arg0 (by decide) (by decide) (by decide)).symm
        · exact ((pdats V W 1 c).arrAt_in 2 rfl _).trans (hne c main_arg0 (by decide) (by decide) (by decide)).symm
        · exact ((pdats V W 1 c).arrAt_in 3 rfl _).trans (hne c main_v0 (by decide) (by decide) (by decide)).symm
        · exact ((pdats V W 1 c).arrAt_in 4 rfl _).trans (hne c main_arg1 (by decide) (by decide) (by decide)).symm
        · exact (hdq c).symm)
      (fun _ _ => rfl)
    rw [← hdk, ← hdv, reads_whole, reads_whole]
    have hrest := Entails.of_eq (unscopedRest1_eq (Ix := Unit) (Val := Elt F) (Name := ℕ) (U := UU) (Lvl := ℕ) c (Z c)).symm
    iintro ⟨Ha, HO, HY, -⟩
    imodintro
    isplitl [Ha HY]
    · iapply hjoin
      isplitl [Ha]; · iexact Ha
      iapply hrest
      iexact HY
    unfold Pipeline.Dat.owesAt Pipeline.owesWithin
    icases HO with ⟨%W, -, HO⟩; iexists W; iexact HO

end Cert.Proof

end
-- ==== Proof.Run.lean ====
/-
  The whole program's run: its arguments as launched, its four results as the two regions leave them, every semaphore at zero.
-/
module

public import proofs.«01_k».proof.Proof.Regs

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg)

variable {F : FTy → Type} [FloatOps F] [Named F]

local notation "𝕄" => MT nD τ sig Unit (Elt F) ℕ UU ℕ

variable (m : (ℓ : Loc nD τ sig) → Buf (Elt F) ℓ)

/-- The buffers at launch. -/
abbrev W0 (c : Dev nD) : Valuation τ sig (Elt F) := fun b => m (c, b)
abbrev held0 : Held F := fun c b => W0 m c b
/-- The buffers after the forward region. -/
def W1 (c : Dev nD) : Valuation τ sig (Elt F) := Function.update (W0 m c) main_v0 ((dat0 (held0 m) c).arrAt 3 (cfg0 (F := F)).N)
abbrev held1 : Held F := fun c b => W1 m c b
/-- The buffers after the backward region. -/
def W2 (c : Dev nD) : Valuation τ sig (Elt F) :=
  Function.update (Function.update (Function.update (W1 m c) main_v1_0 ((dat1 (held1 m) c).arrAt 5 (cfg1 (F := F)).N))
    main_v1_1 (dests (held1 m) c (cfg1 (F := F)).N).1) main_v1_2 (dests (held1 m) c (cfg1 (F := F)).N).2
abbrev held2 : Held F := fun c b => W2 m c b

theorem W1_out (c : Dev nD) : held1 m c main_v0 = (dat0 (held0 m) c).arrAt 3 (cfg0 (F := F)).N := by
  unfold held1 W1; exact Function.update_self _ _ _
theorem W1_ne (c : Dev nD) (b : Ref sig .tc) (h : b ≠ main_v0) : held1 m c b = held0 m c b := by
  unfold held1 W1; exact Function.update_of_ne (StableHlo.devRef_ne_of_ne h) _ _
theorem W2_dv (c : Dev nD) : held2 m c main_v1_2 = (dests (held1 m) c (cfg1 (F := F)).N).2 := by
  unfold held2 W2; exact Function.update_self _ _ _
theorem W2_dk (c : Dev nD) : held2 m c main_v1_1 = (dests (held1 m) c (cfg1 (F := F)).N).1 := by
  unfold held2 W2
  exact (Function.update_of_ne (StableHlo.devRef_ne_of_ne (by decide)) _ _).trans (Function.update_self _ _ _)
theorem W2_dq (c : Dev nD) : held2 m c main_v1_0 = (dat1 (held1 m) c).arrAt 5 (cfg1 (F := F)).N := by
  unfold held2 W2
  exact (Function.update_of_ne (StableHlo.devRef_ne_of_ne (by decide)) _ _).trans
    ((Function.update_of_ne (StableHlo.devRef_ne_of_ne (by decide)) _ _).trans (Function.update_self _ _ _))
theorem W2_ne (c : Dev nD) (b : Ref sig .tc) (h0 : b ≠ main_v1_0) (h1 : b ≠ main_v1_1) (h2 : b ≠ main_v1_2) : held2 m c b = held1 m c b := by
  unfold held2 W2
  exact (Function.update_of_ne (StableHlo.devRef_ne_of_ne h2) _ _).trans
    ((Function.update_of_ne (StableHlo.devRef_ne_of_ne h1) _ _).trans (Function.update_of_ne (StableHlo.devRef_ne_of_ne h0) _ _))

/-- The two regions at this launch. -/
def r0 : RegionSeg (pcfgs (F := F)) adm (pdats (held0 m) (held1 m)) () defs₀ 𝒱₀ L lv 0 := reg0 (held0 m) (held1 m) (W1_out m) (W1_ne m)
def r1 : RegionSeg (pcfgs (F := F)) adm (pdats (held0 m) (held1 m)) () defs₀ 𝒱₀ L lv 1 :=
  reg1 (held0 m) (held1 m) (held2 m) (W2_dq m) (W2_dk m) (W2_dv m) (W2_ne m)

/-- The program as its two segments. -/
abbrev parts (_ : Dev nD) : List (Seg (pcfgs (F := F)) adm (pdats (held0 m) (held1 m)) () defs₀ 𝒱₀ L lv) := [.region (r0 m), .region (r1 m)]

/-- Where the pipeline library's algebra sits in this one. -/
abbrev EP : Emb (UR sig nD τ) 𝕄 := embL

/-- The launch element: the pipeline library's; no counter yet. -/
def u₀ : UU := (initOf (Pipeline.cells (cfgs (F := F)) cellOf_inj) (Pipeline.launchToks (cfgs (F := F)) cellOf_inj), 1)

/-- What a core's memory holds at the end. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1))
  ∧ s.mem ((c.tc : Thread nD τ).loc main_v0) = (dat0 (held0 m) c).arrAt 3 (cfg0 (F := F)).N
  ∧ s.mem ((c.tc : Thread nD τ).loc main_v1_0) = (dat1 (held1 m) c).arrAt 5 (cfg1 (F := F)).N
  ∧ s.mem ((c.tc : Thread nD τ).loc main_v1_1) = (dests (held1 m) c (cfg1 (F := F)).N).1
  ∧ s.mem ((c.tc : Thread nD τ).loc main_v1_2) = (dests (held1 m) c (cfg1 (F := F)).N).2

theorem held2_arg0 (c : Dev nD) : held2 m c main_arg0 = m ((c.tc : Thread nD τ).loc main_arg0) :=
  (W2_ne m c main_arg0 (by decide) (by decide) (by decide)).trans (W1_ne m c main_arg0 (by decide))
theorem held2_arg1 (c : Dev nD) : held2 m c main_arg1 = m ((c.tc : Thread nD τ).loc main_arg1) :=
  (W2_ne m c main_arg1 (by decide) (by decide) (by decide)).trans (W1_ne m c main_arg1 (by decide))
theorem held2_o (c : Dev nD) : held2 m c main_v0 = (dat0 (held0 m) c).arrAt 3 (cfg0 (F := F)).N :=
  (W2_ne m c main_v0 (by decide) (by decide) (by decide)).trans (W1_out m c)

set_option backward.isDefEq.respectTransparency.types false in
/-- Every fair execution from zero counters ends, with the arguments as launched, the results as the regions leave them and
    every counter at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (held0 m) (held1 m)) () cellOf_inj EP defs₀ 𝒱₀ L lv m ρ main
    (parts m)
    (fun c Q => by
      rewrite [main_chain c, Seg.run_eq_chain,
        show (parts m c).map Seg.prog = [
          Prog.lift (.customCall (Pipeline.entry 0) ()),
          Prog.lift (.customCall (Pipeline.entry 1) ()) ] from rfl]
      dsimp (config := { failIfUnchanged := false }) only
      exact .rfl)
    (fun c => by simp only [parts, Seg.pipes_region, Seg.pipes_nil]; decide) 0 (fun _ _ => rfl) (fun _ => iprop(emp)) (u₀ (F := F)) ?_
    (T₀ := fun c => iprop(unscopedBufs c (held0 m c) ∗ rest c)) (Tₙ := fun c => unscopedBufs c (held2 m c))
    (hch := fun c => ⟨.rfl, .rfl, .rfl⟩)
    (hinit := ?_) (QY := fun c s => Ends m c s) (hfin := fun c s' => ?_)
    (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨Hh, -, HO, -, -, -⟩, -⟩
    imodintro
    isplitl [Hh]; · iexact Hh
    iexists ∅; iexact HO
  · rw [show unscopedBufs c (held2 m c) = (StableHlo.held (c : Thread nD τ) (Pipeline.ucRefs τ sig) (W2 m c) : sProp 𝕄) from Pipeline.unscopedBufs_held c (W2 m c)]
    unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      have at_ (r : Ref sig .tc) (hr : ¬ (Proc.devRef .tc r : DevRef τ sig).isScoped) : s'.mem.mem ((c.tc : Thread nD τ).loc r) = held2 m c r :=
        h (Proc.devRef .tc r) (Finset.mem_filter.mpr ⟨StableHlo.devRef_mem_tcRefs r, hr⟩)
      exact ⟨⟨(at_ main_arg0 (by decide)).trans (held2_arg0 m c), (at_ main_arg1 (by decide)).trans (held2_arg1 m c)⟩,
        (at_ main_v0 (by decide)).trans (held2_o m c), (at_ main_v1_0 (by decide)).trans (W2_dq m c),
        (at_ main_v1_1 (by decide)).trans (W2_dk m c), (at_ main_v1_2 (by decide)).trans (W2_dv m c)⟩
    · iexact HSI

end Cert.Proof

end
-- ==== Proof.Printed.Common.lean ====
/-
  What both regions' proofs share: the resource algebra (the pipeline library's beside the counters of the transfers), the
  variants a loop's trips count down, a memref held whole.
-/
module

public import proofs.«01_k».proof.Proof.Printed.TileAccess
public import proofs.«01_k».proof.Proof.Gen.Kernel.Points
public import proofs.«01_k».proof.Proof.Gen.Kernel.Launch
public import Idealize.ShloMosaic.Lib.Tactic
public import Idealize.ShloMosaic.Lib.Pipeline.Kit

@[expose] public section

noncomputable section

namespace Cert.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, and the counters the transfers take their tokens from. -/
abbrev UU : Type := UR sig nD τ × Counters

/-- A loop's trips to go bound its calls of itself. -/
abbrev 𝒱₀ : Variants := Variants.nat

local notation "𝕄" => MT nD τ sig Unit (Elt F) ℕ UU ℕ

/-- A memref's buffer on core `c`. -/
abbrev Bf (c : Dev nD) {sp : Space} {S : Shape} {e : EltTy} (M : Memref sig .tc sp S e) : Type := Buf (Elt F) (M.view.loc (c : Thread nD τ))

/-- A memref's elements held at contents `f` of its buffer. -/
abbrev own (c : Dev nD) {sp : Space} {S : Shape} {e : EltTy} (M : Memref sig .tc sp S e) (f : Bf (F := F) c M) : sProp 𝕄 :=
  M.view.loc (c : Thread nD τ) ↦[M.view.set]{fullShare} f

end Cert.Printed

end
-- ==== Proof.Frames.lean ====
/-
  The frames: each program's run, read at its arguments and its semaphores.
-/
module

public import proofs.«01_k».proof.Proof.Run
public import proofs.«01_k».proof.Proof.Printed.Run
public import proofs.«01_k».proof.Defs
public import proofs.«01_k».proof.Proof.Gen.Pre_finite
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).1, h.2⟩) (Cert.Printed.run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_ideal_finite : Cert.quiescent_KernelIdeal_pre_finite := fun m ρ _ => frame_ideal m ρ trivial

/-- The reference declares no semaphore. -/
theorem frame_reference : Cert.quiescent_ReferenceIdeal := fun m ρ _ =>
  (θ_run Cert.ReferenceIdeal.defs _ _).mono (fun r h => ⟨fun c => ⟨(h c).2.2.2.2.1, (h c).2.2.2.2.2⟩, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- Each named constant is its value at the ideal instance. -/
theorem preserved : Cert.preserves_Kernel_KernelIdeal :=
  ⟨IdealRules.named_const.statement _ _ _ _ _ rfl, IdealRules.named_const.statement _ _ _ _ _ rfl, IdealRules.named_const.statement _ _ _ _ _ rfl⟩

end Cert.Proof

end
-- ==== Proof.RefTerms.lean ====
/-
  The reference's own steps, named: the heads' queries, keys and values, the logits, the log of the chance to pass and to
  break, the weights, and the backward of each; and that its four results are these.
-/
module

public import proofs.«01_k».proof.Proof.Gen.ReferenceIdeal.Run

@[expose] public section

set_option maxRecDepth 16384

noncomputable section

namespace Cert.Proof.Ref

open Cert.ReferenceIdeal Cert.ReferenceIdeal.Gen
open Idealize.ShloMosaic
open Idealize.ShloMosaic.TcCoe

variable {F : FTy → Type} [FloatOps F]

/-- Columns as heads of 64. -/
def heads (x : FVec F S16384x512 .bf16) : FVec F S8x16384x64 .f32 :=
  transpose S8x16384x64 [1, 0, 2] (shapeCast S16384x8x64 (extf .f32 x bitsLt_bf16_f32) shapeCasts_S16384x512_S16384x8x64)
    transposes_S16384x8x64_S8x16384x64_1_0_2

/-- Heads as columns. -/
def merge (x : FVec F S8x16384x64 .f32) : FVec F S16384x512 .f32 :=
  shapeCast S16384x512 (transpose S16384x8x64 [1, 0, 2] x transposes_S8x16384x64_S16384x8x64_1_0_2) shapeCasts_S16384x8x64_S16384x512

def queries (p : FVec F S16384x4096 .bf16) : FVec F S8x16384x64 .f32 := heads (extractStridedSlice S16384x512 ![0, 0] p slices_S16384x4096_S16384x512_0_0)
def keys (p : FVec F S16384x4096 .bf16) : FVec F S8x16384x64 .f32 := heads (extractStridedSlice S16384x512 ![0, 512] p slices_S16384x4096_S16384x512_0_512)
def values (p : FVec F S16384x4096 .bf16) : FVec F S8x16384x64 .f32 := heads (extractStridedSlice S16384x512 ![0, 1024] p slices_S16384x4096_S16384x512_0_1024)

/-- Every token against every token, per head. -/
abbrev Pairs (F : FTy → Type) : Type := FVec F S8x16384x16384 .f32

/-- One constant everywhere. -/
def each (w : BitVec 32) : Pairs F := broadcastInDim S8x16384x16384 ![] bcast_S_S8x16384x16384 (constant S_ .f32 w)

/-- Whether a column's token is before the row's. -/
def before : IVec S8x16384x16384 1 :=
  broadcastInDim S8x16384x16384 ![1, 2] bcast_S16384x16384_S8x16384x16384_1_2 (cmpi .slt
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

/-- Zero but before the row's token. -/
def mask (x : Pairs F) : Pairs F := select before x (each 0x00000000#32)

def softplus (y : Pairs F) : Pairs F :=
  select (cmpf .une (subf y (each 0x00000000#32)) (subf y (each 0x00000000#32))) (addf y (each 0x00000000#32))
    (addf (maximumf y (each 0x00000000#32)) (Host.log1p (Host.exp (Host.negf (Host.absf (subf y (each 0x00000000#32)))))))

/-- The softplus's slope as its backward keeps it. -/
def slope (y : Pairs F) : Pairs F :=
  Host.exp (subf (select (cmpf .oeq y (each 0x7F800000#32)) (each 0x00000000#32) y)
    (select (cmpf .oeq (softplus y) (each 0x7F800000#32)) (each 0x00000000#32) (softplus y)))

def logits (p : FVec F S16384x4096 .bf16) : Pairs F :=
  mulf (Host.dotGeneral dot_S8x16384x64_S8x16384x64_S8x16384x16384_2_2_1_1_0_0 none (queries p) (keys p)) (each 0x3E000000#32)

/-- The log of the chance to pass each column before the row's token. -/
def passes (z : Pairs F) : Pairs F := mask (Host.negf (softplus (Host.negf (Host.negf z))))

/-- The sum of a row from each column on. -/
def sumFrom (x : Pairs F) : Pairs F :=
  Host.reduceWindowAdd ![1, 1, 16384] ![1, 1, 1] ![0, 0, 0] ![0, 0, 16383] x (broadcastInDim S_ ![] bcast_S_S_ (constant S_ .f32 0x00000000#32))
    reduceWindows_S8x16384x16384_S8x16384x16384_w1s1p0_0_w1s1p0_0_w16384s1p0_16383 h_S_

/-- The sum of a row up to each column. -/
def sumUpto (x : Pairs F) : Pairs F :=
  Host.reduceWindowAdd ![1, 1, 16384] ![1, 1, 1] ![0, 0, 16383] ![0, 0, 0] x (broadcastInDim S_ ![] bcast_S_S_ (constant S_ .f32 0x00000000#32))
    reduceWindows_S8x16384x16384_S8x16384x16384_w1s1p0_0_w1s1p0_0_w16384s1p16383_0 h_S_

/-- The weights before masking. -/
def weightsAll (z : Pairs F) : Pairs F := Host.exp (addf (Host.negf (softplus (Host.negf z))) (subf (sumFrom (passes z)) (passes z)))

def weights (z : Pairs F) : Pairs F := mask (weightsAll z)

def output (p : FVec F S16384x4096 .bf16) : FVec F S8x16384x64 .f32 :=
  Host.dotGeneral dot_S8x16384x16384_S8x16384x64_S8x16384x64_2_1_1_2_0_0 none (weights (logits p)) (values p)

/-- The cotangent of the weights, times the weights. -/
def wgrads (p : FVec F S16384x4096 .bf16) (d : FVec F S16384x512 .bf16) : Pairs F :=
  mulf (mask (Host.dotGeneral dot_S8x16384x64_S8x16384x64_S8x16384x16384_2_2_1_1_0_0 none (heads d) (values p))) (weightsAll (logits p))

/-- The cotangent of the scaled products, from the logits and the weights' `g`. -/
def zgrads (z g : Pairs F) : Pairs F :=
  mulf (addf (Host.negf (mulf (Host.negf g) (slope (Host.negf z))))
    (Host.negf (Host.negf (mulf (Host.negf (mask (addf (Host.negf g) (sumUpto g)))) (slope (Host.negf (Host.negf z))))))) (each 0x3E000000#32)

def dvalues (p : FVec F S16384x4096 .bf16) (d : FVec F S16384x512 .bf16) : FVec F S8x16384x64 .f32 :=
  transpose S8x16384x64 [0, 2, 1] (Host.dotGeneral dot_S8x16384x64_S8x16384x16384_S8x64x16384_1_1_2_2_0_0 none (heads d) (weights (logits p)))
    transposes_S8x64x16384_S8x16384x64_0_2_1

def dkeys (p : FVec F S16384x4096 .bf16) (d : FVec F S16384x512 .bf16) : FVec F S8x16384x64 .f32 :=
  Host.dotGeneral dot_S8x16384x16384_S8x16384x64_S8x16384x64_1_1_2_2_0_0 none (zgrads (logits p) (wgrads p d)) (queries p)

def dqueries (p : FVec F S16384x4096 .bf16) (d : FVec F S16384x512 .bf16) : FVec F S8x16384x64 .f32 :=
  Host.dotGeneral dot_S8x16384x16384_S8x16384x64_S8x16384x64_2_1_1_2_0_0 none (zgrads (logits p) (wgrads p d)) (keys p)

variable (m : (ℓ : Loc nD τ sig) → Buf (Elt F) ℓ) (c : Dev nD)

theorem out0_eq : Value.res_out0 m c = merge (output (m ((c.tc : Thread nD τ).loc main_arg0))) := rfl

theorem out1_eq : Value.res_out1 m c = truncf .bf16 (merge (dqueries (m ((c.tc : Thread nD τ).loc main_arg0)) (m ((c.tc : Thread nD τ).loc main_arg1)))) bitsLt_bf16_f32 := rfl

theorem out2_eq : Value.res_out2 m c = merge (dkeys (m ((c.tc : Thread nD τ).loc main_arg0)) (m ((c.tc : Thread nD τ).loc main_arg1))) := rfl

theorem out3_eq : Value.res_out3 m c = merge (dvalues (m ((c.tc : Thread nD τ).loc main_arg0)) (m ((c.tc : Thread nD τ).loc main_arg1))) := rfl

end Cert.Proof.Ref

end
-- ==== Proof.Closed.lean ====
/-
  The stick-breaking attention of one row, as real numbers: the weights of a row at token `t` from its logits, the
  gradient of its logits, and how each sum over the columns from `128 n` on takes in one more tile.
-/
module

public import Mathlib.Analysis.SpecialFunctions.Pow.Real
public import Mathlib.Algebra.BigOperators.Intervals
public import Mathlib.Data.EReal.Operations

@[expose] public section

noncomputable section

namespace Cert.Proof

open Finset

/-- The softplus `log (1 + eᶻ)`: minus the logarithm of the chance that the stick is not broken at a logit `z`. -/
def sp (z : ℝ) : ℝ := Real.log (1 + Real.exp z)

/-- The chance that the stick is broken at a logit `z`. -/
def sg (z : ℝ) : ℝ := Real.exp (z - sp z)

/-- The logarithm of the chance to pass column `s`, of the columns before token `t`. -/
def fail (t : ℕ) (z : ℕ → ℝ) (s : ℕ) : ℝ := if s < t then -sp (z s) else 0

/-- A sum over the columns from `n` on. -/
def from' (f : ℕ → ℝ) (n : ℕ) : ℝ := ∑ s ∈ Ico n 16384, f s

/-- The weight of column `s` for token `t`. -/
def wt (t : ℕ) (z : ℕ → ℝ) (s : ℕ) : ℝ := if s < t then Real.exp (z s - sp (z s) + from' (fail t z) (s + 1)) else 0

/-- The cotangent of column `s`'s weight, times the weight. -/
def gw (t : ℕ) (z c : ℕ → ℝ) (s : ℕ) : ℝ := c s * wt t z s

/-- The gradient of the scaled product of query `t` and key `s`. -/
def dz (t : ℕ) (z c : ℕ → ℝ) (s : ℕ) : ℝ :=
  if s < t then (gw t z c s * (1 - sg (z s)) - sg (z s) * ∑ s' ∈ range s, gw t z c s') * (1 / 8) else 0

/-- A tile's columns join a sum from the next tile's on. -/
theorem from_tile (f : ℕ → ℝ) {n : ℕ} (h : n < 128) :
    from' f (128 * n) = from' f (128 * (n + 1)) + ∑ j : Fin 128, f (128 * n + j.val) := by
  rw [from', from', ← Finset.sum_Ico_consecutive f (show 128 * n ≤ 128 * (n + 1) by omega) (by omega), add_comm]
  congr 1
  rw [Finset.sum_Ico_eq_sum_range, show 128 * (n + 1) - 128 * n = 128 by omega, Finset.sum_range]

/-- A sum from column `128 n + j` on: that tile's columns from `j` on, and the tiles after. -/
theorem from_within (f : ℕ → ℝ) {n : ℕ} (h : n < 128) (j : ℕ) (hj : j ≤ 128) :
    from' f (128 * n + j) = from' f (128 * (n + 1)) + ∑ i : Fin 128, if j ≤ i.val then f (128 * n + i.val) else 0 := by
  rw [from', from', ← Finset.sum_Ico_consecutive f (show 128 * n + j ≤ 128 * (n + 1) by omega) (by omega), add_comm]
  congr 1
  rw [← Finset.sum_range (fun i => if j ≤ i then f (128 * n + i) else 0), ← Finset.sum_filter]
  refine (Finset.sum_bij (fun i _ => 128 * n + i) ?_ ?_ ?_ ?_).symm
  · intro i hi; simp only [mem_filter, mem_range, mem_Ico] at hi ⊢; omega
  · intro a _ b _ e; omega
  · intro b hb
    refine ⟨b - 128 * n, ?_, ?_⟩
    · simp only [mem_filter, mem_range, mem_Ico] at hb ⊢; omega
    · simp only [mem_Ico] at hb; omega
  · intro i _; rfl

/-- No column at or past the last. -/
theorem from_none (f : ℕ → ℝ) {n : ℕ} (h : ∀ s, n ≤ s → f s = 0) : from' f n = 0 :=
  Finset.sum_eq_zero fun s hs => h s (mem_Ico.1 hs).1

theorem from_zero (f : ℕ → ℝ) : from' f 0 = ∑ s : Fin 16384, f s.val := by
  rw [from', ← Finset.range_eq_Ico, Finset.sum_range]

/-- The columns before `s` are all of them but those from `s` on. -/
theorem before_eq (f : ℕ → ℝ) {s : ℕ} (h : s ≤ 16384) : ∑ s' ∈ range s, f s' = from' f 0 - from' f s := by
  rw [from', from', ← Finset.sum_Ico_consecutive f (Nat.zero_le s) h, ← Finset.range_eq_Ico]
  ring

/-! ## The softplus in base 2 -/

theorem log2_ne : Real.log 2 ≠ 0 := (Real.log_pos (by norm_num)).ne'

theorem two_rpow (x : ℝ) : (2 : ℝ) ^ (x / Real.log 2) = Real.exp x := by
  rw [Real.rpow_def_of_pos (by norm_num), mul_div_cancel₀ _ log2_ne]

theorem sp_eq (z : ℝ) : sp z = max z 0 + Real.log (1 + Real.exp (-|z|)) := by
  rcases le_total z 0 with h | h
  · rw [max_eq_right h, abs_of_nonpos h, neg_neg, zero_add, sp]
  · rw [max_eq_left h, abs_of_nonneg h, sp]
    have : 1 + Real.exp z = Real.exp z * (1 + Real.exp (-z)) := by
      rw [mul_add, ← Real.exp_add]; simp [add_comm]
    rw [this, Real.log_mul (Real.exp_ne_zero _) (by positivity), Real.log_exp]

/-- The softplus of `z` in base 2, as the tile computes it from `z` in base 2. -/
theorem sp_base2 (z : ℝ) :
    max (z / Real.log 2) 0 + Real.log (1 + (2 : ℝ) ^ (0 - |z / Real.log 2|)) * (Real.log 2)⁻¹ = sp z / Real.log 2 := by
  have h2 : 0 < Real.log 2 := Real.log_pos (by norm_num)
  have e : (0 : ℝ) - |z / Real.log 2| = (-|z|) / Real.log 2 := by rw [abs_div, abs_of_pos h2]; ring
  rw [e, two_rpow, sp_eq, add_div, div_eq_mul_inv (Real.log _)]
  congr 1
  rcases le_total z 0 with h | h
  · rw [max_eq_right h, max_eq_right (div_nonpos_of_nonpos_of_nonneg h h2.le), zero_div]
  · rw [max_eq_left h, max_eq_left (div_nonneg h h2.le)]

theorem sp_neg (z : ℝ) : sp (-z) = sp z - z := by
  have : 1 + Real.exp z = Real.exp z * (1 + Real.exp (-z)) := by
    rw [mul_add, ← Real.exp_add]; simp [add_comm]
  rw [sp, sp, this, Real.log_mul (Real.exp_ne_zero _) (by positivity), Real.log_exp]; ring

/-- The chance to pass is what the chance to break leaves. -/
theorem one_sub_sg (z : ℝ) : Real.exp (-sp z) = 1 - sg z := by
  have h : (0 : ℝ) < 1 + Real.exp z := by positivity
  rw [sg, sub_eq_add_neg z, Real.exp_add, Real.exp_neg, sp, Real.exp_log h]
  field_simp
  ring

end Cert.Proof

end
-- ==== Proof.WindowSum.lean ====
/-
  The reference's two running sums along a row: a window as long as the row, padded behind, sums from a column on; padded
  before, it sums up to a column.
-/
module

public import Idealize.ShloMosaic.Lib.Pointwise.Index
public import Idealize.ShloMosaic.PureOps.Ideal.Laws
public import proofs.«01_k».proof.Proof.Closed

@[expose] public section

noncomputable section

namespace Cert.Proof

open Idealize.ShloMosaic

/-- Rows of `n` entries. -/
abbrev Rows (A B N : ℕ) : Shape := ⟨3, ![A, B, N]⟩

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The places of a window along the last axis. -/
def placeEquiv (N : ℕ) : (⟨3, ![1, 1, N]⟩ : Shape).Idx ≃ Fin N where
  toFun w := w 2
  invFun k := ix3 0 0 k
  left_inv w := by
    funext a
    match a with
    | ⟨0, _⟩ => exact Subsingleton.elim (α := Fin 1) _ _
    | ⟨1, _⟩ => exact Subsingleton.elim (α := Fin 1) _ _
    | ⟨2, _⟩ => rfl
  right_inv _ := rfl

/-- A window along the last axis, padded by `L` entries before. -/
theorem window_sum {A B N L : ℕ} {u : Shape} {hi : Fin 3 → ℕ} (f : ℕ → EReal) {x : (Rows A B N).Idx → EReal} {a : Fin A} {b : Fin B}
    (hx : ∀ s : Fin N, x (ix3 a b s) = f s.val) {init : u.Idx → EReal} (h0 : ∀ y, init y = 0)
    (h : (Rows A B N).ReduceWindows ![1, 1, N] ![1, 1, 1] ![0, 0, L] hi (Rows A B N)) (hu : 0 < u.numel) (j : Fin N) :
    Host.reduceWindow (· + ·) ![1, 1, N] ![1, 1, 1] ![0, 0, L] hi x init h hu (ix3 a b j)
      = ∑ k : Fin N, if L ≤ j.val + k.val ∧ j.val + k.val - L < N then f (j.val + k.val - L) else 0 := by
  unfold Host.reduceWindow
  dsimp only
  rw [foldl_sum, h0, zero_add, ← Fin.sum_univ_def]
  refine Fintype.sum_equiv ((⟨3, ![1, 1, N]⟩ : Shape).rowMajor.symm.trans (placeEquiv N)) _ _ fun n => ?_
  rw [Equiv.trans_apply]
  have w0 : ((⟨3, ![1, 1, N]⟩ : Shape).rowMajor.symm n 0).val = 0 := Nat.lt_one_iff.1 ((⟨3, ![1, 1, N]⟩ : Shape).rowMajor.symm n 0).isLt
  have w1 : ((⟨3, ![1, 1, N]⟩ : Shape).rowMajor.symm n 1).val = 0 := Nat.lt_one_iff.1 ((⟨3, ![1, 1, N]⟩ : Shape).rowMajor.symm n 1).isLt
  have w2 : ((⟨3, ![1, 1, N]⟩ : Shape).rowMajor.symm n 2).val = (placeEquiv N ((⟨3, ![1, 1, N]⟩ : Shape).rowMajor.symm n)).val := rfl
  have hk := (placeEquiv N ((⟨3, ![1, 1, N]⟩ : Shape).rowMajor.symm n)).isLt
  have ha := a.isLt
  have hb := b.isLt
  split
  · next hin =>
    have h2 : L ≤ j.val * 1 + ((⟨3, ![1, 1, N]⟩ : Shape).rowMajor.symm n 2).val
      ∧ j.val * 1 + ((⟨3, ![1, 1, N]⟩ : Shape).rowMajor.symm n 2).val - L < N := hin 2
    rw [Nat.mul_one, w2] at h2
    rw [if_pos h2]
    refine (congrArg x (funext fun i => Fin.ext ?_)).trans (hx ⟨_, h2.2⟩)
    match i with
    | ⟨0, _⟩ => show a.val * 1 + ((⟨3, ![1, 1, N]⟩ : Shape).rowMajor.symm n 0).val - 0 = a.val; omega
    | ⟨1, _⟩ => show b.val * 1 + ((⟨3, ![1, 1, N]⟩ : Shape).rowMajor.symm n 1).val - 0 = b.val; omega
    | ⟨2, _⟩ => show j.val * 1 + ((⟨3, ![1, 1, N]⟩ : Shape).rowMajor.symm n 2).val - L = j.val + _ - L; rw [w2, Nat.mul_one]
  · next hin =>
    rw [if_neg]
    intro h2
    refine hin fun i => ?_
    match i with
    | ⟨0, _⟩ => exact ⟨Nat.zero_le _, show a.val * 1 + ((⟨3, ![1, 1, N]⟩ : Shape).rowMajor.symm n 0).val - 0 < A by omega⟩
    | ⟨1, _⟩ => exact ⟨Nat.zero_le _, show b.val * 1 + ((⟨3, ![1, 1, N]⟩ : Shape).rowMajor.symm n 1).val - 0 < B by omega⟩
    | ⟨2, _⟩ => exact ⟨show L ≤ j.val * 1 + ((⟨3, ![1, 1, N]⟩ : Shape).rowMajor.symm n 2).val by omega,
        show j.val * 1 + ((⟨3, ![1, 1, N]⟩ : Shape).rowMajor.symm n 2).val - L < N by omega⟩

theorem real_sum {ι : Type} (s : Finset ι) (f : ι → ℝ) : ∑ i ∈ s, (f i : EReal) = ((∑ i ∈ s, f i : ℝ) : EReal) := by
  classical
  induction s using Finset.induction with
  | empty => simp
  | insert a s h ih => rw [Finset.sum_insert h, Finset.sum_insert h, EReal.coe_add, ih]

/-- The sum from a column on. -/
theorem sum_from (f : ℕ → ℝ) (j : Fin 16384) :
    (∑ k : Fin 16384, if 0 ≤ j.val + k.val ∧ j.val + k.val - 0 < 16384 then (f (j.val + k.val - 0) : EReal) else 0) = (from' f j.val : EReal) := by
  rw [from', ← real_sum, Finset.sum_range (fun k => if 0 ≤ j.val + k ∧ j.val + k - 0 < 16384 then (f (j.val + k - 0) : EReal) else 0) |>.symm,
    ← Finset.sum_filter]
  refine Finset.sum_bij (fun k _ => j.val + k) ?_ ?_ ?_ ?_
  · intro k hk; simp only [Finset.mem_filter, Finset.mem_range, Finset.mem_Ico] at hk ⊢; omega
  · intro k _ l _ e; omega
  · intro s hs
    rw [Finset.mem_Ico] at hs
    exact ⟨s - j.val, by simp only [Finset.mem_filter, Finset.mem_range]; omega, by omega⟩
  · intro k _; rfl

/-- The sum up to a column. -/
theorem sum_upto (f : ℕ → ℝ) (j : Fin 16384) :
    (∑ k : Fin 16384, if 16383 ≤ j.val + k.val ∧ j.val + k.val - 16383 < 16384 then (f (j.val + k.val - 16383) : EReal) else 0)
      = ((∑ s ∈ Finset.range (j.val + 1), f s : ℝ) : EReal) := by
  rw [← real_sum, Finset.sum_range (fun k => if 16383 ≤ j.val + k ∧ j.val + k - 16383 < 16384 then (f (j.val + k - 16383) : EReal) else 0) |>.symm,
    ← Finset.sum_filter]
  have hj := j.isLt
  refine Finset.sum_bij (fun k _ => j.val + k - 16383) ?_ ?_ ?_ ?_
  · intro k hk; simp only [Finset.mem_filter, Finset.mem_range] at hk ⊢; omega
  · intro k hk l hl e; simp only [Finset.mem_filter, Finset.mem_range] at hk hl; omega
  · intro s hs
    rw [Finset.mem_range] at hs
    exact ⟨s + 16383 - j.val, by simp only [Finset.mem_filter, Finset.mem_range]; omega, by omega⟩
  · intro k _; rfl

end Cert.Proof

end
-- ==== Proof.Heads.lean ====
/-
  The stick-breaking attention of every head as real numbers: `p t c` is entry `c` of token `t`'s projection — the queries
  in columns 0 to 511, the keys in 512 to 1023, the values in 1024 to 1535, 64 to a head — and `d t c` the cotangent of the
  output. The output and the three gradients are given by token and by column.
-/
module

public import proofs.«01_k».proof.Proof.Closed

@[expose] public section

noncomputable section

namespace Cert.Proof

open Finset

variable (p d : ℕ → ℕ → ℝ)

/-- The scaled product of query `t` and key `s` of head `h`. -/
def zh (h t s : ℕ) : ℝ := (∑ j : Fin 64, p t (64 * h + j.val) * p s (512 + (64 * h + j.val))) * (1 / 8)

/-- The cotangent of token `t` against value `s` of head `h`. -/
def ch (h t s : ℕ) : ℝ := ∑ j : Fin 64, d t (64 * h + j.val) * p s (1024 + (64 * h + j.val))

/-- The attention's output. -/
def oCol (t c : ℕ) : ℝ := from' (fun s => wt t (zh p (c / 64) t) s * p s (1024 + c)) 0

/-- The gradient of the queries. -/
def dqCol (t c : ℕ) : ℝ := from' (fun s => dz t (zh p (c / 64) t) (ch p d (c / 64) t) s * p s (512 + c)) 0

/-- The gradient of the keys, of the first `n` tokens. -/
def dkCol (n s c : ℕ) : ℝ := ∑ t ∈ range n, dz t (zh p (c / 64) t) (ch p d (c / 64) t) s * p t c

/-- The gradient of the values, of the first `n` tokens. -/
def dvCol (n s c : ℕ) : ℝ := ∑ t ∈ range n, wt t (zh p (c / 64) t) s * d t c

/-- A row's total: the cotangent against the output is the sum of all the weights' gradients. -/
theorem total_eq (h t : ℕ) :
    ∑ j : Fin 64, d t (64 * h + j.val) * oCol p t (64 * h + j.val) = from' (gw t (zh p h t) (ch p d h t)) 0 := by
  have e (j : Fin 64) : (64 * h + j.val) / 64 = h := by omega
  simp only [oCol, e, from', Finset.mul_sum]
  rw [Finset.sum_comm]
  refine Finset.sum_congr rfl fun s _ => ?_
  rw [gw, ch, Finset.sum_mul]
  exact Finset.sum_congr rfl fun j _ => by ring

/-- A sum over two halves of which only one counts. -/
theorem sum_half {n m : ℕ} (hn : n = m + m) (hm : 0 < m) (f : ℕ → ℝ) {e : ℕ} (he : e < 2) :
    ∑ r : Fin n, (if r.val / m = e then f r.val else 0) = ∑ j : Fin m, f (m * e + j.val) := by
  subst hn
  rw [Fin.sum_univ_add]
  have h0 (j : Fin m) : (Fin.castAdd m j).val / m = 0 := Nat.div_eq_of_lt j.2
  have h1 (j : Fin m) : (Fin.natAdd m j).val / m = 1 := by
    rw [Fin.val_natAdd, Nat.add_div_left _ hm, Nat.div_eq_of_lt j.2]
  simp only [h0, h1]
  obtain rfl | rfl : e = 0 ∨ e = 1 := by omega
  · simp
  · simp [add_comm]

/-- The sums over the tokens take in a row block. -/
theorem range_block (f : ℕ → ℝ) (i : ℕ) : ∑ t ∈ range (256 * (i + 1)), f t = ∑ t ∈ range (256 * i), f t + ∑ r : Fin 256, f (256 * i + r.val) := by
  rw [show 256 * (i + 1) = 256 * i + 256 by ring, Finset.sum_range_add, ← Finset.sum_range (fun r => f (256 * i + r))]

end Cert.Proof

end
-- ==== Proof.Masks.lean ====
/-
  The words of the two tables, of the mask on the diagonal and of the lanes of a head, as conditions on the indices.
-/
module

public import proofs.«01_k».proof.Proof.Tiles
public import Idealize.ShloMosaic.Lib.Pointwise
public import Idealize.ShloMosaic.Lib.WordCmp
public import Idealize.ShloMosaic.PureOps.Ideal.Laws
public import Idealize.ShloMosaic.Lib.IdealHost

@[expose] public section

set_option maxRecDepth 16384

noncomputable section

namespace Cert.Proof

open Cert.KernelIdeal Cert.KernelIdeal.Gen
open Idealize.ShloMosaic Idealize.ShloMosaic.WordCmp

/-- The remainder rounded down, as the programs write it from the remainder rounded toward zero. -/
def wrapped (n x : BitVec 32) : BitVec 32 :=
  let d := Scalar.select (Scalar.cmpi .eq n 0#32) 1#32 n
  Scalar.select (IntOp.andi (IntOp.xori (IntOp.cmpi .slt (IntOp.remsi ArithUnit.vector x d) 0#32) (Scalar.cmpi .slt d 0#32))
    (IntOp.cmpi .ne (IntOp.remsi ArithUnit.vector x d) 0#32)) (IntOp.addi (IntOp.remsi ArithUnit.vector x d) d) (IntOp.remsi ArithUnit.vector x d)

theorem wrapped_128 : ∀ r : Fin 256, wrapped 128#32 (BitVec.ofNat 32 r.val) = BitVec.ofNat 32 (r.val % 128) := by decide +kernel

theorem wrapped_256 : ∀ r : Fin 512, wrapped 256#32 (BitVec.ofNat 32 r.val) = BitVec.ofNat 32 (r.val % 256) := by decide +kernel

theorem select_ofBool {α : Type} (p : Prop) [Decidable p] (x y : α) : Scalar.select (BitVec.ofBool (decide p)) x y = if p then x else y := by
  by_cases h : p <;> simp [h, Scalar.select]

theorem triRight_val (r : Fin 256) (j : Fin 128) :
    triRight (F := Ideal) (ix2 r j) = if j.val < r.val % 128 then 1 else 0 := by
  have e : triRight (F := Ideal) (ix2 r j) = Scalar.select (IntOp.cmpi .sgt (wrapped 128#32 (BitVec.ofNat 32 r.val)) (BitVec.ofNat 32 j.val)) 1 0 := by
    pointwise [triRight, k0_pay9, wrapped]
  rw [e, wrapped_128, cmpi_sgt_ofNat (by omega) (by omega), select_ofBool]

theorem triFrom_val (r : Fin 256) (j : Fin 128) :
    triFrom (F := Ideal) (ix2 r j) = if j.val ≤ r.val % 128 then 1 else 0 := by
  have e : triFrom (F := Ideal) (ix2 r j) = Scalar.select (IntOp.cmpi .sge (wrapped 128#32 (BitVec.ofNat 32 r.val)) (BitVec.ofNat 32 j.val)) 1 0 := by
    pointwise [triFrom, k1_pay16, wrapped]
  rw [e, wrapped_128, cmpi_sge_ofNat (by omega) (by omega), select_ofBool]

theorem diag_word : ∀ (a : Fin 64) (r : Fin 2), (Scalar.subi (Scalar.muli (BitVec.ofNat 32 a.val) 256#32)
    (Scalar.muli (Scalar.addi (Scalar.muli (BitVec.ofNat 32 a.val) 2#32) (BitVec.ofNat 32 r.val)) 128#32)).toInt = -(128 * (r.val : ℤ)) := by
  decide +kernel

theorem sub_toInt (j p : ℕ) (hj : j < 128) (hp : p < 256) : (BitVec.ofNat 32 j - BitVec.ofNat 32 p).toInt = (j : ℤ) - p := by
  have small (n : ℕ) (h : n < 256) : (BitVec.ofNat 32 n).toInt = (n : ℤ) := by
    rw [BitVec.toInt_eq_toNat_of_lt (by rw [BitVec.toNat_ofNat]; omega), BitVec.toNat_ofNat, Nat.mod_eq_of_lt (by omega)]
  rw [BitVec.toInt_sub, small j (by omega), small p hp]
  simp only [Int.bmod]
  omega

/-- Column tile `2 a + r` of row block `a`: the columns before the row's token. -/
theorem under_val (a : Fin 64) (r : Fin 2) (x : FVec Ideal S512x128 .f32) (ρ : Fin 512) (j : Fin 128) :
    under (strictly (BitVec.ofNat 32 a.val) (BitVec.ofNat 32 r.val)) x (ix2 ρ j)
      = if 128 * (2 * a.val + r.val) + j.val < 256 * a.val + ρ.val % 256 then x (ix2 ρ j) else 0 := by
  have e : strictly (BitVec.ofNat 32 a.val) (BitVec.ofNat 32 r.val) (ix2 ρ j)
      = IntOp.cmpi .slt (IntOp.subi (BitVec.ofNat 32 j.val) (wrapped 256#32 (BitVec.ofNat 32 ρ.val))) (Scalar.subi (Scalar.muli (BitVec.ofNat 32 a.val) 256#32)
          (Scalar.muli (Scalar.addi (Scalar.muli (BitVec.ofNat 32 a.val) 2#32) (BitVec.ofNat 32 r.val)) 128#32)) := by
    pointwise [strictly, k1_pay20, k1_pay17, k1_pay18, k1_pay19, wrapped]
  have u : under (strictly (BitVec.ofNat 32 a.val) (BitVec.ofNat 32 r.val)) x (ix2 ρ j)
      = Scalar.select (strictly (BitVec.ofNat 32 a.val) (BitVec.ofNat 32 r.val) (ix2 ρ j)) (x (ix2 ρ j)) 0 := by
    pointwise [under]
  rw [u, e, wrapped_256, cmpi_slt_eq, select_ofBool, diag_word]
  show (if (BitVec.ofNat 32 j.val - BitVec.ofNat 32 (ρ.val % 256)).toInt < _ then _ else _) = _
  rw [sub_toInt _ _ j.2 (by omega)]
  congr 1
  apply propext
  omega

theorem firstHead_val (r : Fin 256) (l : Fin 128) : firstHead (ix2 r l) = BitVec.ofBool (decide (l.val < 64)) := by
  have e : firstHead (ix2 r l) = IntOp.cmpi .slt (BitVec.ofNat 32 l.val) 64#32 := by pointwise [firstHead]
  rw [e, show (64#32 : BitVec 32) = BitVec.ofNat 32 64 from rfl, cmpi_slt_ofNat (by omega) (by omega)]

/-- A stacked row: its head's lanes of the pair's row, the other head's zero. -/
theorem stack_val (x : Vec Ideal S256x128 .bf16) (ρ : Fin 512) (l : Fin 128) :
    stack x (ix2 ρ l) = if l.val / 64 = ρ.val / 256 then x (ix2 ⟨ρ.val % 256, Nat.mod_lt _ (by decide)⟩ l) else 0 := by
  have e : stack x (ix2 ρ l) = if h : ρ.val < 256
      then Scalar.select (firstHead (ix2 (⟨ρ.val, h⟩ : Fin 256) l)) (x (ix2 ⟨ρ.val, h⟩ l)) 0
      else Scalar.select (firstHead (ix2 (⟨ρ.val - 256, by omega⟩ : Fin 256) l)) 0 (x (ix2 ⟨ρ.val - 256, by omega⟩ l)) := by
    pointwise [stack]
  rw [e]
  split
  · next h =>
    rw [firstHead_val, select_ofBool, Fin.ext (a := ⟨ρ.val, h⟩) (b := ⟨ρ.val % 256, Nat.mod_lt _ (by decide)⟩) (by show ρ.val = ρ.val % 256; omega)]
    by_cases g : l.val < 64
    · rw [if_pos g, if_pos (by omega)]
    · rw [if_neg g, if_neg (by omega)]
  · next h =>
    rw [firstHead_val, select_ofBool, Fin.ext (a := ⟨ρ.val - 256, by omega⟩) (b := ⟨ρ.val % 256, Nat.mod_lt _ (by decide)⟩) (by show ρ.val - 256 = ρ.val % 256; omega)]
    by_cases g : l.val < 64
    · rw [if_pos g, if_neg (by omega)]
    · rw [if_neg g, if_pos (by omega)]

theorem unstack_val (x : FVec Ideal S512x128 .f32) (r : Fin 256) (l : Fin 128) :
    unstack x (ix2 r l) = x (ix2 ⟨256 * (l.val / 64) + r.val, by omega⟩ l) := by
  have e : unstack x (ix2 r l) = Scalar.select (firstHead (ix2 r l)) (x (ix2 ⟨r.val, by omega⟩ l)) (x (ix2 ⟨256 + r.val, by omega⟩ l)) := by
    pointwise [unstack]
  rw [e, firstHead_val, select_ofBool]
  split
  · congr 2; apply Fin.ext; show r.val = 256 * (l.val / 64) + r.val; omega
  · congr 2; apply Fin.ext; show 256 + r.val = 256 * (l.val / 64) + r.val; omega

theorem totals_val (dy : FVec Ideal S512x128 .bf16) (o : Vec Ideal S256x128 .f32) (ρ : Fin 512) (j : Fin 1) :
    totals dy o (ix2 ρ j) = ∑ l : Fin 128, dy (ix2 ρ l) * o (ix2 ⟨ρ.val % 256, Nat.mod_lt _ (by decide)⟩ l) := by
  have e : totals dy o (ix2 ρ j) = ∑ l : Fin 128, dy (ix2 ρ l) * (if h : ρ.val < 256 then o (ix2 ⟨ρ.val, h⟩ l) else o (ix2 ⟨ρ.val - 256, by omega⟩ l)) := by
    pointwise [totals, rowSum]
  rw [e]
  refine Finset.sum_congr rfl fun l _ => ?_
  congr 1
  split
  · congr 2; apply Fin.ext; show ρ.val = ρ.val % 256; omega
  · congr 2; apply Fin.ext; show ρ.val - 256 = ρ.val % 256; omega

end Cert.Proof

end
-- ==== Proof.TileValue.lean ====
/-
  One column tile over the real numbers: from real queries, keys, values and carried sums, the tile leaves the sums the
  closed forms of a row take from that tile on.
-/
module

public import proofs.«01_k».proof.Proof.Tiles
public import proofs.«01_k».proof.Proof.Closed
public import proofs.«01_k».proof.Proof.Masks
public import Idealize.ShloMosaic.Lib.Pointwise
public import Idealize.ShloMosaic.PureOps.Ideal.Laws
public import Idealize.ShloMosaic.Lib.IdealHost
public import Idealize.ShloMosaic.PureOps.IdealRules

@[expose] public section

set_option maxRecDepth 16384

noncomputable section

namespace Cert.Proof

open Cert.KernelIdeal Cert.KernelIdeal.Gen
open Idealize.ShloMosaic

/-! ## Real numbers among the extended -/

theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

theorem coe_max (a b : ℝ) : ((max a b : ℝ) : EReal) = max (a : EReal) (b : EReal) := EReal.coe_strictMono.monotone.map_max

theorem abs_coe {φ : FTy} (a : ℝ) : FloatOps.absf (F := Ideal) (φ := φ) (a : EReal) = ((|a| : ℝ) : EReal) := by
  rw [Ideal.absf_def, ← EReal.coe_neg, ← coe_max]; rfl

theorem exp2_coe {φ : FTy} (a : ℝ) : FloatOps.exp2 (F := Ideal) (φ := φ) (a : EReal) = (((2 : ℝ) ^ a : ℝ) : EReal) := rfl

theorem log_coe {a : ℝ} (h : 0 < a) : Ideal.log (a : EReal) = ((Real.log a : ℝ) : EReal) := by
  show (if a ≤ 0 then ⊥ else (Real.log a : EReal)) = _
  rw [if_neg (not_le.2 h)]

theorem coe_ite (p : Prop) [Decidable p] (a b : ℝ) : ((if p then a else b : ℝ) : EReal) = if p then (a : EReal) else (b : EReal) := by
  split <;> rfl

theorem named_scale (b : BitVec 32) : Named.named (F := Ideal) (φ := .f32) κ "scale_log2_e" b = ((1 / 8 * (Real.log 2)⁻¹ : ℝ) : EReal) :=
  IdealRules.named_const.ideal_named_scalar _ _ _ _ rfl

theorem named_log2e (b : BitVec 32) : Named.named (F := Ideal) (φ := .f32) κ "log2_e" b = (((Real.log 2)⁻¹ : ℝ) : EReal) :=
  IdealRules.named_const.ideal_named_scalar _ _ _ _ rfl

theorem named_dead (b : BitVec 32) : Named.named (F := Ideal) (φ := .f32) κ "sb_dead" b = ⊥ :=
  IdealRules.named_const.ideal_named_scalar _ _ _ _ rfl

/-! ## The logits -/

section

variable {Q : Fin 512 → Fin 128 → ℝ} {K : Fin 128 → Fin 128 → ℝ}

theorem logits_val {q : FVec Ideal S512x128 .bf16} {k : Vec Ideal S128x128 .bf16}
    (hq : ∀ r l, q (ix2 r l) = (Q r l : EReal)) (hk : ∀ j l, k (ix2 j l) = (K j l : EReal)) (r : Fin 512) (j : Fin 128) :
    logits q k (ix2 r j) = (((∑ l, Q r l * K j l) * (1 / 8) / Real.log 2 : ℝ) : EReal) := by
  have e : logits q k (ix2 r j) = (∑ l, q (ix2 r l) * k (ix2 j l)) * Named.named (F := Ideal) (φ := .f32) κ "scale_log2_e" 0x3E38AA3B#32 := by
    pointwise [logits]
  rw [e, named_scale, show (∑ l, Q r l * K j l) * (1 / 8) / Real.log 2 = (∑ l, Q r l * K j l) * (1 / 8 * (Real.log 2)⁻¹) by ring, EReal.coe_mul (∑ l, Q r l * K j l), coe_sum]
  simp only [hq, hk, EReal.coe_mul]

theorem passed_val {z : FVec Ideal S512x128 .f32} {Z : Fin 512 → Fin 128 → ℝ}
    (hz : ∀ r j, z (ix2 r j) = ((Z r j / Real.log 2 : ℝ) : EReal)) (r : Fin 512) (j : Fin 128) :
    passed z (ix2 r j) = ((-sp (Z r j) / Real.log 2 : ℝ) : EReal) := by
  pointwise [passed]
  rw [hz, abs_coe, named_log2e, neg_div, ← sp_base2, ← EReal.coe_zero, ← EReal.coe_sub, exp2_coe, ← EReal.coe_one, ← EReal.coe_add,
    log_coe (by positivity), ← EReal.coe_mul, ← coe_max, ← EReal.coe_add, ← EReal.coe_sub]
  simp only [zero_sub]

theorem rowSum_val {x : FVec Ideal S512x128 .f32} {X : Fin 512 → Fin 128 → ℝ} (hx : ∀ r j, x (ix2 r j) = (X r j : EReal))
    (r : Fin 512) (j : Fin 1) : rowSum x (ix2 r j) = ((∑ j, X r j : ℝ) : EReal) := by
  have e : rowSum x (ix2 r j) = ∑ l, x (ix2 r l) := by pointwise [rowSum]
  rw [e, coe_sum]
  simp only [hx]

theorem running_val {tri : FVec Ideal S256x128 .bf16} {p : ℕ → ℕ → Prop} [∀ i j, Decidable (p i j)]
    (ht : ∀ (r : Fin 256) (j : Fin 128), tri (ix2 r j) = if p (r.val % 128) j.val then 1 else 0)
    {x : FVec Ideal S512x128 .f32} {X : Fin 512 → Fin 128 → ℝ} (hx : ∀ r j, x (ix2 r j) = (X r j : EReal))
    (r : Fin 512) (j : Fin 128) : running tri x (ix2 r j) = ((∑ i : Fin 128, if p i.val j.val then X r i else 0 : ℝ) : EReal) := by
  have e : running tri x (ix2 r j) = ∑ i : Fin 128, x (ix2 r i) * tri (ix2 ⟨i.val, by omega⟩ j)
      + ∑ i : Fin 128, (x (ix2 r i) - x (ix2 r i)) * tri (ix2 ⟨128 + i.val, by omega⟩ j) := by pointwise [running, halves]
  have z : ∀ i : Fin 128, (x (ix2 r i) - x (ix2 r i)) * tri (ix2 ⟨128 + i.val, by omega⟩ j) = 0 := fun i => by
    rw [hx, ← EReal.coe_sub, sub_self, EReal.coe_zero, zero_mul]
  rw [e, Finset.sum_eq_zero fun i _ => z i, add_zero, coe_sum]
  refine Finset.sum_congr rfl fun i _ => ?_
  rw [ht, hx]
  simp only [Nat.mod_eq_of_lt i.2]
  split <;> simp

end

/-! ## A tile of a row's closed form -/

/-- The natural logits of the stacked rows against every key. -/
def zz (Q : Fin 512 → Fin 128 → ℝ) (K : ℕ → Fin 128 → ℝ) (r : Fin 512) (s : ℕ) : ℝ := (∑ l, Q r l * K s l) * (1 / 8)

/-- The cotangents of the stacked rows against every value. -/
def cc (D : Fin 512 → Fin 128 → ℝ) (V : ℕ → Fin 128 → ℝ) (r : Fin 512) (s : ℕ) : ℝ := ∑ l, D r l * V s l

/-- A choice of the columns of tile `n` before each row's token. -/
def Before (t : Fin 512 → ℕ) (n : ℕ) (s : Sel Ideal) : Prop :=
  ∀ (x : FVec Ideal S512x128 .f32) (r : Fin 512) (j : Fin 128), s x (ix2 r j) = if 128 * n + j.val < t r then x (ix2 r j) else 0

theorem tileAt_val {e : EltTy} {X : S16384x128.Idx → Elt Ideal e} {v : ℕ → Fin 128 → Elt Ideal e}
    (hX : ∀ (s : Fin 16384) l, X (ix2 s l) = v s.val l) {n : ℕ} (hn : n < 128) (j l : Fin 128) :
    tileAt X n (ix2 j l) = v (128 * n + j.val) l := by
  show X (ix2 ⟨(128 * n + j.val) % 16384, _⟩ l) = _
  rw [hX]
  show v ((128 * n + j.val) % 16384) l = _
  rw [Nat.mod_eq_of_lt (by omega)]

theorem tileAt_bf16 {X : S16384x128.Idx → Elt Ideal .bf16} {v : ℕ → Fin 128 → ℝ} (hX : ∀ (s : Fin 16384) l, X (ix2 s l) = (v s.val l : EReal))
    {n : ℕ} (hn : n < 128) (j l : Fin 128) : tileAt X n (ix2 j l) = (v (128 * n + j.val) l : EReal) :=
  tileAt_val (e := .bf16) (v := fun s l => (v s l : EReal)) hX hn j l

theorem tileAt_f32 {X : S16384x128.Idx → Elt Ideal .f32} {v : ℕ → Fin 128 → ℝ} (hX : ∀ (s : Fin 16384) l, X (ix2 s l) = (v s.val l : EReal))
    {n : ℕ} (hn : n < 128) (j l : Fin 128) : tileAt X n (ix2 j l) = (v (128 * n + j.val) l : EReal) :=
  tileAt_val (e := .f32) (v := fun s l => (v s l : EReal)) hX hn j l

section

variable {Q D : Fin 512 → Fin 128 → ℝ} {K V : ℕ → Fin 128 → ℝ} {t : Fin 512 → ℕ} {n : ℕ} (hn : n < 128)
  {s : Sel Ideal} (hs : Before t n s) {q dy : FVec Ideal S512x128 .bf16} {k v : Vec Ideal S128x128 .bf16}
  (hq : ∀ r l, q (ix2 r l) = (Q r l : EReal)) (hd : ∀ r l, dy (ix2 r l) = (D r l : EReal))
  (hk : ∀ j l, k (ix2 j l) = (K (128 * n + j.val) l : EReal)) (hv : ∀ j l, v (ix2 j l) = (V (128 * n + j.val) l : EReal))

include hq hk in
theorem logits_row (r : Fin 512) (j : Fin 128) : logits q k (ix2 r j) = ((zz Q K r (128 * n + j.val) / Real.log 2 : ℝ) : EReal) :=
  logits_val hq hk r j

include hq hk hs in
theorem passed_row (r : Fin 512) (j : Fin 128) :
    s (passed (logits q k)) (ix2 r j) = ((fail (t r) (zz Q K r) (128 * n + j.val) / Real.log 2 : ℝ) : EReal) := by
  rw [hs, passed_val (Z := fun r j => zz Q K r (128 * n + j.val)) (logits_row hq hk), fail]
  split
  · rfl
  · rw [zero_div, EReal.coe_zero]

variable {c : FVec Ideal S512x1 .f32} (hc : ∀ r j, c (ix2 r j) = ((from' (fail (t r) (zz Q K r)) (128 * (n + 1)) / Real.log 2 : ℝ) : EReal))

include hn hq hk hs hc in
theorem carryOn_row (r : Fin 512) (j : Fin 1) :
    carryOn s q k c (ix2 r j) = ((from' (fail (t r) (zz Q K r)) (128 * n) / Real.log 2 : ℝ) : EReal) := by
  have e : carryOn s q k c (ix2 r j) = c (ix2 r j) + rowSum (s (passed (logits q k))) (ix2 r j) := by pointwise [carryOn]
  rw [e, hc, rowSum_val (passed_row hs hq hk), ← EReal.coe_add, from_tile _ hn, add_div, Finset.sum_div]

include hn hq hk hs hc in
theorem weights_row (r : Fin 512) (j : Fin 128) :
    weights s triRight q k c (ix2 r j) = ((wt (t r) (zz Q K r) (128 * n + j.val) : ℝ) : EReal) := by
  have e : weights s triRight q k c (ix2 r j) = s (exp2 (addf (addf (addf (logits q k) (passed (logits q k))) (running triRight (s (passed (logits q k)))))
      (broadcastTo S512x128 c broadcasts_S512x1_S512x128))) (ix2 r j) := rfl
  have e' : exp2 (addf (addf (addf (logits q k) (passed (logits q k))) (running triRight (s (passed (logits q k)))))
      (broadcastTo S512x128 c broadcasts_S512x1_S512x128)) (ix2 r j)
      = FloatOps.exp2 (F := Ideal) (φ := .f32) (logits q k (ix2 r j) + passed (logits q k) (ix2 r j) + running triRight (s (passed (logits q k))) (ix2 r j) + c (ix2 r 0)) := by
    pointwise
  rw [e, hs, e', hc, running_val (p := fun i j => j < i) triRight_val (passed_row hs hq hk),
    passed_val (Z := fun r j => zz Q K r (128 * n + j.val)) (logits_row hq hk), logits_row hq hk,
    ← EReal.coe_add, ← EReal.coe_add, ← EReal.coe_add, exp2_coe, wt]
  split
  · rw [← two_rpow, show 128 * n + j.val + 1 = 128 * n + (j.val + 1) from rfl, from_within _ hn (j.val + 1) (by omega)]
    congr 2
    simp only [Nat.succ_le_iff, add_div, sub_div, Finset.sum_div, ite_div, zero_div]
    ring
  · rfl

theorem accOn_row {w : FVec Ideal S512x128 .bf16} {W : Fin 512 → ℕ → ℝ} (hn : n < 128) (hw : ∀ r j, w (ix2 r j) = (W r (128 * n + j.val) : EReal))
    (hv : ∀ j l, v (ix2 j l) = (V (128 * n + j.val) l : EReal))
    {a : FVec Ideal S512x128 .f32} (ha : ∀ r l, a (ix2 r l) = ((from' (fun s => W r s * V s l) (128 * (n + 1)) : ℝ) : EReal)) (r : Fin 512) (l : Fin 128) :
    accOn w v a (ix2 r l) = ((from' (fun s => W r s * V s l) (128 * n) : ℝ) : EReal) := by
  have e : accOn w v a (ix2 r l) = a (ix2 r l) + ∑ j, w (ix2 r j) * v (ix2 j l) := by pointwise [accOn]
  rw [e, ha, from_tile _ hn, EReal.coe_add, coe_sum]
  simp only [hw, hv, EReal.coe_mul]

/-! ## Backward -/

include hd hv in
theorem wgrad_row {w : FVec Ideal S512x128 .bf16} (hw : ∀ r j, w (ix2 r j) = ((wt (t r) (zz Q K r) (128 * n + j.val) : ℝ) : EReal)) (r : Fin 512) (j : Fin 128) :
    wgrad w dy v (ix2 r j) = ((gw (t r) (zz Q K r) (cc D V r) (128 * n + j.val) : ℝ) : EReal) := by
  have e : wgrad w dy v (ix2 r j) = (∑ l, dy (ix2 r l) * v (ix2 j l)) * w (ix2 r j) := by pointwise [wgrad]
  rw [e, hw, gw, EReal.coe_mul, cc, coe_sum]
  simp only [hd, hv, EReal.coe_mul]

include hn hq hk hs in
theorem zgrad_row {g : FVec Ideal S512x128 .f32} {ds gc : FVec Ideal S512x1 .f32} {C : Fin 512 → ℕ → ℝ}
    (hg : ∀ r j, g (ix2 r j) = ((gw (t r) (zz Q K r) (C r) (128 * n + j.val) : ℝ) : EReal))
    (hds : ∀ r j, ds (ix2 r j) = ((from' (gw (t r) (zz Q K r) (C r)) 0 : ℝ) : EReal))
    (hgc : ∀ r j, gc (ix2 r j) = ((from' (gw (t r) (zz Q K r) (C r)) (128 * (n + 1)) : ℝ) : EReal)) (r : Fin 512) (j : Fin 128) :
    zgrad s triFrom (logits q k) g ds gc (ix2 r j) = ((dz (t r) (zz Q K r) (C r) (128 * n + j.val) : ℝ) : EReal) := by
  have e : zgrad s triFrom (logits q k) g ds gc (ix2 r j)
      = s (subf (mulf g (subf (broadcast S512x128 (Scalar.ofBits .f32 0x3F800000#32 : Ideal .f32)) (exp2 (addf (logits q k) (passed (logits q k))))))
        (mulf (exp2 (addf (logits q k) (passed (logits q k)))) (subf (broadcastTo S512x128 ds broadcasts_S512x1_S512x128)
          (addf (running triFrom g) (broadcastTo S512x128 gc broadcasts_S512x1_S512x128))))) (ix2 r j) * Ideal.ofBits .f32 0x3E000000#32 := rfl
  have e' : (subf (mulf g (subf (broadcast S512x128 (Scalar.ofBits .f32 0x3F800000#32 : Ideal .f32)) (exp2 (addf (logits q k) (passed (logits q k))))))
        (mulf (exp2 (addf (logits q k) (passed (logits q k)))) (subf (broadcastTo S512x128 ds broadcasts_S512x1_S512x128)
          (addf (running triFrom g) (broadcastTo S512x128 gc broadcasts_S512x1_S512x128))))) (ix2 r j)
      = g (ix2 r j) * (1 - FloatOps.exp2 (F := Ideal) (φ := .f32) (logits q k (ix2 r j) + passed (logits q k) (ix2 r j)))
        - FloatOps.exp2 (F := Ideal) (φ := .f32) (logits q k (ix2 r j) + passed (logits q k) (ix2 r j)) * (ds (ix2 r 0) - (running triFrom g (ix2 r j) + gc (ix2 r 0))) := by
    pointwise
  have eighth : Ideal.ofBits .f32 0x3E000000#32 = ((1 / 8 : ℝ) : EReal) := by
    simp [Ideal.ofBits, Ideal.ieee, -EReal.coe_mul]; norm_num
  rw [e, hs, e', hg, hds, hgc, eighth, running_val (p := fun i j => j ≤ i) triFrom_val hg,
    passed_val (Z := fun r j => zz Q K r (128 * n + j.val)) (logits_row hq hk), logits_row hq hk,
    ← EReal.coe_add, exp2_coe, ← add_div, two_rpow, dz, sg, before_eq _ (show 128 * n + j.val ≤ 16384 by omega), from_within _ hn j.val (by omega),
    ← EReal.coe_one, ← EReal.coe_sub, ← EReal.coe_mul, ← EReal.coe_add, ← EReal.coe_sub, ← EReal.coe_mul, ← EReal.coe_sub]
  split
  · rw [← EReal.coe_mul]
    congr 1
    rw [sub_eq_add_neg (zz Q K r _)]
    ring
  · rw [zero_mul, EReal.coe_zero]

theorem gcOn_row {g : FVec Ideal S512x128 .f32} {gc : FVec Ideal S512x1 .f32} {G : Fin 512 → ℕ → ℝ} (hn : n < 128)
    (hg : ∀ r j, g (ix2 r j) = (G r (128 * n + j.val) : EReal)) (hgc : ∀ r j, gc (ix2 r j) = ((from' (G r) (128 * (n + 1)) : ℝ) : EReal)) (r : Fin 512) (j : Fin 1) :
    addf gc (rowSum g) (ix2 r j) = ((from' (G r) (128 * n) : ℝ) : EReal) := by
  show gc (ix2 r j) + rowSum g (ix2 r j) = _
  rw [hgc, rowSum_val hg, ← EReal.coe_add, from_tile _ hn]

theorem colsOn_val {a b : FVec Ideal S512x128 .bf16} {old : Vec Ideal S128x128 .f32} {A B : Fin 512 → Fin 128 → ℝ} {O : Fin 128 → Fin 128 → ℝ}
    (ha : ∀ r j, a (ix2 r j) = (A r j : EReal)) (hb : ∀ r j, b (ix2 r j) = (B r j : EReal)) (ho : ∀ r j, old (ix2 r j) = (O r j : EReal)) (j l : Fin 128) :
    colsOn a b old (ix2 j l) = ((O j l + ∑ r, A r j * B r l : ℝ) : EReal) := by
  have e : colsOn a b old (ix2 j l) = old (ix2 j l) + ∑ r, a (ix2 r j) * b (ix2 r l) := by pointwise [colsOn]
  rw [e, EReal.coe_add, coe_sum]
  simp only [ha, hb, ho, EReal.coe_mul]

end

end Cert.Proof

end
-- ==== Proof.RefValue.lean ====
/-
  The reference over the real numbers: each of its steps is the closed form of its head, its row's token and its column's.
-/
module

public import proofs.«01_k».proof.Proof.RefTerms
public import proofs.«01_k».proof.Proof.WindowSum
public import proofs.«01_k».proof.Proof.Heads
public import proofs.«01_k».proof.Proof.TileValue

@[expose] public section

set_option maxRecDepth 16384

noncomputable section

namespace Cert.Proof.Ref

open Cert.ReferenceIdeal Cert.ReferenceIdeal.Gen
open Idealize.ShloMosaic
open Idealize.ShloMosaic.WordCmp

/-- An array of real numbers by head, row and column. -/
def Reals (X : Pairs Ideal) (f : ℕ → ℕ → ℕ → ℝ) : Prop := ∀ (h : Fin 8) (t s : Fin 16384), X (ix3 h t s) = (f h.val t.val s.val : EReal)

theorem before_val (h : Fin 8) (t s : Fin 16384) : before (ix3 h t s) = BitVec.ofBool (decide (s.val < t.val)) := by
  have e : before (ix3 h t s) = IntOp.cmpi .slt (BitVec.ofNat 32 s.val) (BitVec.ofNat 32 t.val) := by pointwise [before]
  rw [e, cmpi_slt_ofNat (by omega) (by omega)]

theorem inf_val : Ideal.ofBits .f32 0x7F800000#32 = ⊤ := by
  simp [Ideal.ofBits, Ideal.ieee]

theorem init_zero (i : S_.Idx) : broadcastInDim (α := EReal) S_ ![] bcast_S_S_ (constant (F := Ideal) S_ .f32 0x00000000#32) i = 0 := by
  show Ideal.ofBits .f32 0x00000000#32 = 0
  simp [Ideal.ofBits, Ideal.ieee]

theorem eighth_val : Ideal.ofBits .f32 0x3E000000#32 = ((1 / 8 : ℝ) : EReal) := by
  simp [Ideal.ofBits, Ideal.ieee, -EReal.coe_mul]
  norm_num

/-- A windowed sum is the fold of the addition. -/
theorem window_fold {s t u : Shape} (window strides lo hi : Fin s.rank → ℕ) (x : FVec Ideal s .f32) (init : u.Idx → Ideal .f32)
    (h : s.ReduceWindows window strides lo hi t) (hu : 0 < u.numel) :
    Host.reduceWindowAdd window strides lo hi x init h hu
      = Host.reduceWindow (α := EReal) (· + ·) window strides lo hi x (fun _ : (⟨0, ![]⟩ : Shape).Idx => init (Shape.Idx.first hu)) h (by decide) := rfl

section

variable {X Y : Pairs Ideal} {f g : ℕ → ℕ → ℕ → ℝ} (hX : Reals X f) (hY : Reals Y g)

include hX

theorem mask_val : Reals (mask X) fun h t s => if s < t then f h t s else 0 := fun h t s => by
  have e : mask X (ix3 h t s) = Scalar.select (before (ix3 h t s)) (X (ix3 h t s)) 0 := by pointwise [mask, each]
  rw [e, before_val, select_ofBool, hX, coe_ite, EReal.coe_zero]

theorem neg_val : Reals (Host.negf X) fun h t s => -f h t s := fun h t s => by
  have e : Host.negf X (ix3 h t s) = -X (ix3 h t s) := by pointwise
  rw [e, hX, EReal.coe_neg]

theorem softplus_val : Reals (softplus X) fun h t s => sp (f h t s) := fun h t s => by
  have e : softplus X (ix3 h t s) = if X (ix3 h t s) ≠ X (ix3 h t s) then X (ix3 h t s)
      else max (X (ix3 h t s)) 0 + Ideal.log1p (Ideal.exp (-FloatOps.absf (F := Ideal) (φ := .f32) (X (ix3 h t s)))) := by pointwise [softplus, each]
  rw [e, if_neg (by simp), hX, abs_coe, ← EReal.coe_neg, Ideal.exp_coe, Ideal.log1p, ← EReal.coe_one, ← EReal.coe_add,
    log_coe (by positivity), ← EReal.coe_zero, ← coe_max, ← EReal.coe_add]
  exact congrArg _ (sp_eq _).symm

theorem slope_val : Reals (slope X) fun h t s => sg (f h t s) := fun h t s => by
  have e : slope X (ix3 h t s) = Ideal.exp ((if X (ix3 h t s) = Ideal.ofBits .f32 0x7F800000#32 then 0 else X (ix3 h t s)) -
        if softplus X (ix3 h t s) = Ideal.ofBits .f32 0x7F800000#32 then 0 else softplus X (ix3 h t s)) := by pointwise [slope, each]
  rw [e, inf_val, softplus_val hX, hX, if_neg (EReal.coe_ne_top _), if_neg (EReal.coe_ne_top _), ← EReal.coe_sub, Ideal.exp_coe]
  rfl

theorem exp_val : Reals (Host.exp X) fun h t s => Real.exp (f h t s) := fun h t s => by
  have e : Host.exp X (ix3 h t s) = Ideal.exp (X (ix3 h t s)) := by pointwise
  rw [e, hX, Ideal.exp_coe]

theorem eighth_mul : Reals (mulf X (each 0x3E000000#32)) fun h t s => f h t s * (1 / 8) := fun h t s => by
  have e : mulf X (each 0x3E000000#32) (ix3 h t s) = X (ix3 h t s) * Ideal.ofBits .f32 0x3E000000#32 := by pointwise [each]
  rw [e, hX, eighth_val, EReal.coe_mul (f h.val t.val s.val)]

theorem sumFrom_val : Reals (sumFrom X) fun h t s => from' (f h t) s := fun h t s => by
  rw [sumFrom, window_fold, window_sum (fun k => (f h.val t.val k : EReal)) (hX h t) fun _ => init_zero _]
  exact sum_from _ s

theorem sumUpto_val : Reals (sumUpto X) fun h t s => ∑ k ∈ Finset.range (s + 1), f h t k := fun h t s => by
  rw [sumUpto, window_fold, window_sum (fun k => (f h.val t.val k : EReal)) (hX h t) fun _ => init_zero _]
  exact sum_upto _ s

include hY

theorem add_val : Reals (addf X Y) fun h t s => f h t s + g h t s := fun h t s => by
  have e : addf X Y (ix3 h t s) = X (ix3 h t s) + Y (ix3 h t s) := by pointwise
  rw [e, hX, hY, EReal.coe_add]

theorem sub_val : Reals (subf X Y) fun h t s => f h t s - g h t s := fun h t s => by
  have e : subf X Y (ix3 h t s) = X (ix3 h t s) - Y (ix3 h t s) := by pointwise
  rw [e, hX, hY, EReal.coe_sub]

theorem mul_val : Reals (mulf X Y) fun h t s => f h t s * g h t s := fun h t s => by
  have e : mulf X Y (ix3 h t s) = X (ix3 h t s) * Y (ix3 h t s) := by pointwise
  rw [e, hX, hY, EReal.coe_mul]

end

theorem Reals.of_eq {X : Pairs Ideal} {f g : ℕ → ℕ → ℕ → ℝ} (h : Reals X f) (e : ∀ (a : Fin 8) (t s : Fin 16384), f a.val t.val s.val = g a.val t.val s.val) :
    Reals X g := fun a t s => by rw [h, e]

/-- A sum from a column on, without the column. -/
theorem from_succ (f : ℕ → ℝ) {s : ℕ} (h : s < 16384) : from' f s - f s = from' f (s + 1) := by
  rw [from', from', Finset.sum_eq_sum_Ico_succ_bot h]
  ring

section

variable {Z G : Pairs Ideal} {z g : ℕ → ℕ → ℕ → ℝ} (hZ : Reals Z z) (hG : Reals G g)

include hZ

theorem passes_val : Reals (passes Z) fun h t s => fail t (z h t) s :=
  (mask_val (neg_val (softplus_val (neg_val (neg_val hZ))))).of_eq fun a t s => by rw [neg_neg, fail]

theorem weightsAll_val : Reals (weightsAll Z) fun h t s => Real.exp (z h t s - sp (z h t s) + from' (fail t (z h t)) (s + 1)) :=
  (exp_val (add_val (neg_val (softplus_val (neg_val hZ))) (sub_val (sumFrom_val (passes_val hZ)) (passes_val hZ)))).of_eq fun a t s => by
    rw [sp_neg, from_succ _ s.isLt]
    congr 2
    ring

theorem weights_val : Reals (weights Z) fun h t s => wt t (z h t) s := mask_val (weightsAll_val hZ)

include hG

theorem zgrads_val : Reals (zgrads Z G) fun h t s => (g h t s * (1 - sg (z h t s)) - (if s < t then ∑ k ∈ Finset.range s, g h t k else 0) * sg (z h t s)) * (1 / 8) :=
  (eighth_mul (add_val (neg_val (mul_val (neg_val hG) (slope_val (neg_val hZ))))
    (neg_val (neg_val (mul_val (neg_val (mask_val (add_val (neg_val hG) (sumUpto_val hG)))) (slope_val (neg_val (neg_val hZ)))))))).of_eq fun a t s => by
    have e : sg (-z a t s) = 1 - sg (z a t s) := by rw [← one_sub_sg, sg, sp_neg]; congr 1; ring
    rw [e, neg_neg (z a t s), Finset.sum_range_succ]
    simp only [show -g a t s + (∑ k ∈ Finset.range s.val, g a t k + g a t s) = ∑ k ∈ Finset.range s.val, g a t k by ring]
    ring

end

/-! ## Heads and products -/

section

variable {p : FVec Ideal S16384x4096 .bf16} {d : FVec Ideal S16384x512 .bf16} {P D : ℕ → ℕ → ℝ}
  (hp : ∀ (t : Fin 16384) (c : Fin 4096), c.val < 1536 → p (ix2 t c) = (P t.val c.val : EReal)) (hd : ∀ (t : Fin 16384) (c : Fin 512), d (ix2 t c) = (D t.val c.val : EReal))

theorem heads_val (x : FVec Ideal S16384x512 .bf16) (h : Fin 8) (t : Fin 16384) (j : Fin 64) : heads x (ix3 h t j) = x (ix2 t ⟨h.val * 64 + j.val, by omega⟩) := by
  pointwise [heads]

theorem merge_val (x : FVec Ideal S8x16384x64 .f32) (t : Fin 16384) (c : Fin 512) :
    merge x (ix2 t c) = x (ix3 ⟨c.val / 64, by omega⟩ t ⟨c.val % 64, by omega⟩) := by
  pointwise [merge]

include hd in
theorem cot_val (h : Fin 8) (t : Fin 16384) (j : Fin 64) : heads d (ix3 h t j) = (D t.val (64 * h.val + j.val) : EReal) := by
  rw [heads_val, hd]
  dsimp only
  rw [Nat.mul_comm h.val]

include hp

theorem queries_val (h : Fin 8) (t : Fin 16384) (j : Fin 64) : queries p (ix3 h t j) = (P t.val (64 * h.val + j.val) : EReal) := by
  have e : queries p (ix3 h t j) = p (ix2 t ⟨64 * h.val + j.val, by omega⟩) := by
    rw [queries, heads_val]
    pointwise
    congr 2
    apply Fin.ext
    simp only
    omega
  rw [e, hp _ _ (by dsimp only; omega)]

theorem keys_val (h : Fin 8) (t : Fin 16384) (j : Fin 64) : keys p (ix3 h t j) = (P t.val (512 + (64 * h.val + j.val)) : EReal) := by
  have e : keys p (ix3 h t j) = p (ix2 t ⟨512 + (64 * h.val + j.val), by omega⟩) := by
    rw [keys, heads_val]
    pointwise
    congr 2
    apply Fin.ext
    simp only
    omega
  rw [e, hp _ _ (by dsimp only; omega)]

theorem values_val (h : Fin 8) (t : Fin 16384) (j : Fin 64) : values p (ix3 h t j) = (P t.val (1024 + (64 * h.val + j.val)) : EReal) := by
  have e : values p (ix3 h t j) = p (ix2 t ⟨1024 + (64 * h.val + j.val), by omega⟩) := by
    rw [values, heads_val]
    pointwise
    congr 2
    apply Fin.ext
    simp only
    omega
  rw [e, hp _ _ (by dsimp only; omega)]

theorem logits_val : Reals (logits p) (zh P) :=
  (eighth_mul (f := fun h t s => ∑ j : Fin 64, P t (64 * h + j.val) * P s (512 + (64 * h + j.val))) fun h t s => by
    have e : Host.dotGeneral dot_S8x16384x64_S8x16384x64_S8x16384x16384_2_2_1_1_0_0 none (queries p) (keys p) (ix3 h t s)
        = ∑ j : Fin 64, queries p (ix3 h t j) * keys p (ix3 h s j) := by pointwise
    rw [e, coe_sum]
    exact Finset.sum_congr rfl fun j _ => by rw [queries_val hp, keys_val hp, EReal.coe_mul]).of_eq fun _ _ _ => rfl

/-- The output. -/
theorem output_val (t : Fin 16384) (c : Fin 512) : merge (output p) (ix2 t c) = (oCol P t.val c.val : EReal) := by
  have e (h : Fin 8) (j : Fin 64) : output p (ix3 h t j) = ∑ s : Fin 16384, weights (logits p) (ix3 h t s) * values p (ix3 h s j) := by pointwise [output]
  rw [merge_val, e, oCol, from_zero, coe_sum]
  refine Finset.sum_congr rfl fun s _ => ?_
  rw [weights_val (logits_val hp), values_val hp, EReal.coe_mul]
  dsimp only
  rw [Nat.div_add_mod]

include hd

theorem wgrads_val : Reals (wgrads p d) fun h t s => gw t (zh P h t) (ch P D h t) s :=
  (mul_val (mask_val (f := ch P D) fun h t s => by
    have e : Host.dotGeneral dot_S8x16384x64_S8x16384x64_S8x16384x16384_2_2_1_1_0_0 none (heads d) (values p) (ix3 h t s)
        = ∑ j : Fin 64, heads d (ix3 h t j) * values p (ix3 h s j) := by pointwise
    rw [e, ch, coe_sum]
    exact Finset.sum_congr rfl fun j _ => by rw [cot_val hd, values_val hp, EReal.coe_mul]) (weightsAll_val (logits_val hp))).of_eq fun a t s => by
    rw [gw, wt]
    split
    · rfl
    · rw [zero_mul, mul_zero]

theorem dz_val : Reals (zgrads (logits p) (wgrads p d)) fun h t s => dz t (zh P h t) (ch P D h t) s :=
  (zgrads_val (logits_val hp) (wgrads_val hp hd)).of_eq fun a t s => by
    rw [dz]
    split
    · ring
    · next h => rw [gw, wt, if_neg h]; ring

/-- The gradient of the queries. -/
theorem dqueries_val (t : Fin 16384) (c : Fin 512) : merge (dqueries p d) (ix2 t c) = (dqCol P D t.val c.val : EReal) := by
  have e (h : Fin 8) (j : Fin 64) : dqueries p d (ix3 h t j) = ∑ s : Fin 16384, zgrads (logits p) (wgrads p d) (ix3 h t s) * keys p (ix3 h s j) := by pointwise [dqueries]
  rw [merge_val, e, dqCol, from_zero, coe_sum]
  refine Finset.sum_congr rfl fun s _ => ?_
  rw [dz_val hp hd, keys_val hp, EReal.coe_mul]
  dsimp only
  rw [Nat.div_add_mod]

/-- The gradient of the keys. -/
theorem dkeys_val (s : Fin 16384) (c : Fin 512) : merge (dkeys p d) (ix2 s c) = (dkCol P D 16384 s.val c.val : EReal) := by
  have e (h : Fin 8) (j : Fin 64) : dkeys p d (ix3 h s j) = ∑ t : Fin 16384, zgrads (logits p) (wgrads p d) (ix3 h t s) * queries p (ix3 h t j) := by pointwise [dkeys]
  rw [merge_val, e, dkCol, Finset.sum_range, coe_sum]
  refine Finset.sum_congr rfl fun t _ => ?_
  rw [dz_val hp hd, queries_val hp, EReal.coe_mul]
  dsimp only
  rw [Nat.div_add_mod]

/-- The gradient of the values. -/
theorem dvalues_val (s : Fin 16384) (c : Fin 512) : merge (dvalues p d) (ix2 s c) = (dvCol P D 16384 s.val c.val : EReal) := by
  have e (h : Fin 8) (j : Fin 64) : dvalues p d (ix3 h s j) = ∑ t : Fin 16384, heads d (ix3 h t j) * weights (logits p) (ix3 h t s) := by pointwise [dvalues]
  rw [merge_val, e, dvCol, Finset.sum_range, coe_sum]
  refine Finset.sum_congr rfl fun t _ => ?_
  rw [weights_val (logits_val hp), cot_val hd, EReal.coe_mul, mul_comm]
  dsimp only
  rw [Nat.div_add_mod]

end

end Cert.Proof.Ref

end
-- ==== Proof.PointValue.lean ====
/-
  A grid point over the real numbers: from the diagonal tiles down to the first, the carried values are the sums of the
  rows' closed forms over the columns taken in so far; at real values every row block stays alive.
-/
module

public import proofs.«01_k».proof.Proof.TileValue

@[expose] public section

set_option maxRecDepth 16384

noncomputable section

namespace Cert.Proof

open Cert.KernelIdeal Cert.KernelIdeal.Gen
open Idealize.ShloMosaic

/-- A real carry keeps a row block alive. -/
theorem alive_real {c : FVec Ideal S512x1 .f32} {C : Fin 512 → ℝ} (hc : ∀ r j, c (ix2 r j) = (C r : EReal)) : alive c = 1#32 := by
  have e : alive c = Scalar.extui (BitVec.ofBool (decide (Named.named (F := Ideal) (φ := .f32) κ "sb_dead" 0xC31EB24B#32
      < Finset.fold max (Ideal.ofBits .f32 0xFF800000#32) (fun x : Fin 512 × Fin 1 => c (ix2 x.1 0)) Finset.univ))) := by
    pointwise [alive]
  have h : (⊥ : EReal) < Finset.fold max (Ideal.ofBits .f32 0xFF800000#32) (fun x : Fin 512 × Fin 1 => c (ix2 x.1 0)) Finset.univ := by
    refine (Finset.lt_fold_max _).2 (Or.inr ⟨(0, 0), Finset.mem_univ _, ?_⟩)
    rw [hc]
    exact EReal.bot_lt_coe _
  rw [e, named_dead, decide_eq_true h]
  rfl

/-- The token of each stacked row of row block `a`. -/
def tok (a : ℕ) (r : Fin 512) : ℕ := 256 * a + r.val % 256

theorem keep_before {a n : ℕ} (h : n < 2 * a) : Before (tok a) n (keep : Sel Ideal) := fun x r j => by
  rw [if_pos (by simp only [tok]; omega)]; rfl

theorem under_before (a : Fin 64) (r : Fin 2) : Before (tok a.val) (2 * a.val + r.val) (under (strictly (BitVec.ofNat 32 a.val) (BitVec.ofNat 32 r.val))) :=
  fun x ρ j => under_val a r x ρ j

theorem col0_val (r : Fin 512) (j : Fin 1) : col0 (F := Ideal) (ix2 r j) = ((0 : ℝ) : EReal) := by
  rw [EReal.coe_zero]
  pointwise [col0]

theorem acc0_val (r : Fin 512) (l : Fin 128) : acc0 (F := Ideal) (ix2 r l) = ((0 : ℝ) : EReal) := by
  rw [EReal.coe_zero]
  pointwise [acc0]

theorem past {a s : ℕ} (h : 128 * (2 * a + 1 + 1) ≤ s) (r : Fin 512) : ¬ s < tok a r := by simp only [tok]; omega

/-- The values of a forward grid point once the tiles from `n` on are taken in. -/
structure FRow (t : Fin 512 → ℕ) (Q : Fin 512 → Fin 128 → ℝ) (K V : ℕ → Fin 128 → ℝ) (n : ℕ) (σ : FSt Ideal) : Prop where
  carry : ∀ r j, σ.1 (ix2 r j) = ((from' (fail (t r) (zz Q K r)) (128 * n) / Real.log 2 : ℝ) : EReal)
  acc : ∀ r l, σ.2 (ix2 r l) = ((from' (fun s => wt (t r) (zz Q K r) s * V s l) (128 * n) : ℝ) : EReal)

section

variable {Q : Fin 512 → Fin 128 → ℝ} {K V : ℕ → Fin 128 → ℝ} {q : FVec Ideal S512x128 .bf16} {KK VV : S16384x128.Idx → Elt Ideal .bf16}
  (hq : ∀ r l, q (ix2 r l) = (Q r l : EReal)) (hK : ∀ (s : Fin 16384) l, KK (ix2 s l) = (K s.val l : EReal)) (hV : ∀ (s : Fin 16384) l, VV (ix2 s l) = (V s.val l : EReal))

include hq hK hV

theorem fTile_row {t : Fin 512 → ℕ} {n : ℕ} (hn : n < 128) {s : Sel Ideal} (hs : Before t n s) {σ : FSt Ideal} (h : FRow t Q K V (n + 1) σ) :
    FRow t Q K V n (fTile s q KK VV n σ) where
  carry := carryOn_row hn hs hq (tileAt_bf16 hK hn) h.carry
  acc := accOn_row (W := fun r => wt (t r) (zz Q K r)) hn (weights_row hn hs hq (tileAt_bf16 hK hn) h.carry)
    (tileAt_bf16 hV hn) h.acc

theorem fLoop_row {a : ℕ} (n : ℕ) (hn : n ≤ 2 * a) (ha : a < 64) : ∀ {σ : FSt Ideal}, FRow (tok a) Q K V n σ → FRow (tok a) Q K V 0 (fLoop q KK VV n 1#32 σ).2.2 := by
  induction n with
  | zero => exact fun h => h
  | succ n ih =>
    intro σ h
    have h' := fTile_row hq hK hV (by omega) (keep_before (a := a) (show n < 2 * a by omega)) h
    rw [fLoop, if_pos (by decide), alive_real h'.carry]
    exact ih (by omega) h'

theorem fDiag_row (a : Fin 64) : FRow (tok a.val) Q K V (2 * a.val) (fDiag a.val q KK VV) := by
  refine fTile_row hq hK hV (by omega) (under_before a 0) (fTile_row hq hK hV (by omega) (under_before a 1) ⟨fun r j => ?_, fun r l => ?_⟩)
  · have z : from' (fail (tok a.val r) (zz Q K r)) (128 * (2 * a.val + 1 + 1)) = 0 := from_none _ fun s h => if_neg (past h r)
    exact (col0_val r j).trans (by rw [← zero_div (Real.log 2), ← z]; rfl)
  · have z : from' (fun s => wt (tok a.val r) (zz Q K r) s * V s l) (128 * (2 * a.val + 1 + 1)) = 0 := from_none _ fun s h => by
      rw [wt, if_neg (past h r), zero_mul]
    exact (acc0_val r l).trans (by rw [← z]; rfl)

/-- The stacked output of a forward grid point. -/
theorem fPoint_row (a : Fin 64) (r : Fin 512) (l : Fin 128) :
    (fLoop q KK VV (2 * a.val) 1#32 (fDiag a.val q KK VV)).2.2.2 (ix2 r l) = ((from' (fun s => wt (tok a.val r) (zz Q K r) s * V s l) 0 : ℝ) : EReal) :=
  (fLoop_row hq hK hV _ le_rfl a.2 (fDiag_row hq hK hV a)).acc r l

end

/-! ## Backward -/

/-- The values of a backward grid point once the tiles from `n` on are taken in, from keys' and values' gradients `DK`, `DV`. -/
structure BRow (t : Fin 512 → ℕ) (Q D : Fin 512 → Fin 128 → ℝ) (K V : ℕ → Fin 128 → ℝ) (DK DV : ℕ → Fin 128 → ℝ) (n : ℕ) (σ : BSt Ideal) : Prop where
  carry : ∀ r j, σ.carry (ix2 r j) = ((from' (fail (t r) (zz Q K r)) (128 * n) / Real.log 2 : ℝ) : EReal)
  gc : ∀ r j, σ.gc (ix2 r j) = ((from' (gw (t r) (zz Q K r) (cc D V r)) (128 * n) : ℝ) : EReal)
  dq : ∀ r l, σ.dq (ix2 r l) = ((from' (fun s => dz (t r) (zz Q K r) (cc D V r) s * K s l) (128 * n) : ℝ) : EReal)
  dk : ∀ (s : Fin 16384) l, σ.dk (ix2 s l) = ((DK s.val l + if 128 * n ≤ s.val then ∑ r, dz (t r) (zz Q K r) (cc D V r) s.val * Q r l else 0 : ℝ) : EReal)
  dv : ∀ (s : Fin 16384) l, σ.dv (ix2 s l) = ((DV s.val l + if 128 * n ≤ s.val then ∑ r, wt (t r) (zz Q K r) s.val * D r l else 0 : ℝ) : EReal)

/-- A tile's rows joined to a sum kept by rows. -/
theorem putTile_row {X : S16384x128.Idx → Elt Ideal .f32} {a b : FVec Ideal S512x128 .bf16} {B : ℕ → Fin 128 → ℝ} {A : Fin 512 → ℕ → ℝ} {Y : Fin 512 → Fin 128 → ℝ} {n : ℕ} (hn : n < 128)
    (hX : ∀ (s : Fin 16384) l, X (ix2 s l) = ((B s.val l + if 128 * (n + 1) ≤ s.val then ∑ r, A r s.val * Y r l else 0 : ℝ) : EReal))
    (ha : ∀ r j, a (ix2 r j) = (A r (128 * n + j.val) : EReal)) (hb : ∀ r j, b (ix2 r j) = (Y r j : EReal)) (s : Fin 16384) (l : Fin 128) :
    putTile X n (colsOn a b (tileAt X n)) (ix2 s l) = ((B s.val l + if 128 * n ≤ s.val then ∑ r, A r s.val * Y r l else 0 : ℝ) : EReal) := by
  show (if s.val / 128 = n then colsOn a b (tileAt X n) (ix2 ⟨s.val % 128, _⟩ l) else X (ix2 s l)) = _
  split
  · next h =>
    have e : 128 * n + s.val % 128 = s.val := by omega
    rw [colsOn_val (A := fun r j => A r (128 * n + j.val)) (B := Y)
      (O := fun j l => B (128 * n + j.val) l + if 128 * (n + 1) ≤ 128 * n + j.val then ∑ r, A r (128 * n + j.val) * Y r l else 0)
      ha hb (tileAt_f32 (v := fun s l => B s l + if 128 * (n + 1) ≤ s then ∑ r, A r s * Y r l else 0) hX hn)]
    simp only [e]
    rw [if_neg (by omega), if_pos (by omega), add_zero]
  · next h =>
    rw [hX]
    congr 2
    by_cases g : 128 * (n + 1) ≤ s.val
    · rw [if_pos g, if_pos (by omega)]
    · rw [if_neg g, if_neg (by omega)]

section

variable {Q D : Fin 512 → Fin 128 → ℝ} {K V DK DV : ℕ → Fin 128 → ℝ} {b : BCon Ideal} {KK VV : S16384x128.Idx → Elt Ideal .bf16} {t : Fin 512 → ℕ}
  (hq : ∀ r l, b.q (ix2 r l) = (Q r l : EReal)) (hd : ∀ r l, b.dy (ix2 r l) = (D r l : EReal))
  (hK : ∀ (s : Fin 16384) l, KK (ix2 s l) = (K s.val l : EReal)) (hV : ∀ (s : Fin 16384) l, VV (ix2 s l) = (V s.val l : EReal))
  (htri : b.tri = triRight) (htrg : b.trg = triFrom)

include hq hd hK hV htri htrg

theorem bTile_row {n : ℕ} (hn : n < 128) {s : Sel Ideal} (hs : Before t n s)
    (hds : ∀ r j, b.ds (ix2 r j) = ((from' (gw (t r) (zz Q K r) (cc D V r)) 0 : ℝ) : EReal)) {σ : BSt Ideal} (h : BRow t Q D K V DK DV (n + 1) σ) :
    BRow t Q D K V DK DV n (bTile s b KK VV n σ) := by
  have hk := tileAt_bf16 hK hn
  have hv := tileAt_bf16 hV hn
  have hw : ∀ r j, weights s b.tri b.q (tileAt KK n) σ.carry (ix2 r j) = ((wt (t r) (zz Q K r) (128 * n + j.val) : ℝ) : EReal) := by
    rw [htri]; exact weights_row hn hs hq hk h.carry
  have hg := wgrad_row (t := t) (Q := Q) (K := K) hd hv hw
  have hz : ∀ r j, zgrad s b.trg (logits b.q (tileAt KK n)) (wgrad (weights s b.tri b.q (tileAt KK n) σ.carry) b.dy (tileAt VV n)) b.ds σ.gc (ix2 r j)
      = ((dz (t r) (zz Q K r) (cc D V r) (128 * n + j.val) : ℝ) : EReal) := by
    rw [htrg]; exact zgrad_row hn hs hq hk hg hds h.gc
  exact ⟨carryOn_row hn hs hq hk h.carry, gcOn_row (G := fun r => gw (t r) (zz Q K r) (cc D V r)) hn hg h.gc,
    accOn_row (W := fun r => dz (t r) (zz Q K r) (cc D V r)) hn hz hk h.dq,
    putTile_row (A := fun r => dz (t r) (zz Q K r) (cc D V r)) hn h.dk hz hq,
    putTile_row (A := fun r => wt (t r) (zz Q K r)) hn h.dv hw hd⟩

theorem bLoop_row {a : ℕ} (n : ℕ) (hn : n ≤ 2 * a) (ha : a < 64)
    (hds : ∀ r j, b.ds (ix2 r j) = ((from' (gw (tok a r) (zz Q K r) (cc D V r)) 0 : ℝ) : EReal)) :
    ∀ {σ : BSt Ideal}, BRow (tok a) Q D K V DK DV n σ → BRow (tok a) Q D K V DK DV 0 (bLoop b KK VV n 1#32 σ).2.2 := by
  induction n with
  | zero => exact fun h => h
  | succ n ih =>
    intro σ h
    have h' := bTile_row hq hd hK hV htri htrg (by omega) (keep_before (a := a) (show n < 2 * a by omega)) hds h
    rw [bLoop, if_pos (by decide), alive_real h'.carry]
    exact ih (by omega) h'

/-- A backward grid point. -/
theorem bPoint_row (a : Fin 64) {dk dv : S16384x128.Idx → Elt Ideal .f32}
    (hds : ∀ r j, b.ds (ix2 r j) = ((from' (gw (tok a.val r) (zz Q K r) (cc D V r)) 0 : ℝ) : EReal))
    (hdk : ∀ (s : Fin 16384) l, dk (ix2 s l) = (DK s.val l : EReal)) (hdv : ∀ (s : Fin 16384) l, dv (ix2 s l) = (DV s.val l : EReal)) :
    BRow (tok a.val) Q D K V DK DV 0 (bPoint a.val b KK VV dk dv) := by
  refine bLoop_row hq hd hK hV htri htrg _ le_rfl a.2 hds (bTile_row hq hd hK hV htri htrg (by omega) (under_before a 0) hds
    (bTile_row hq hd hK hV htri htrg (by omega) (under_before a 1) hds ⟨fun r j => ?_, fun r j => ?_, fun r l => ?_, fun s l => ?_, fun s l => ?_⟩))
  · have z : from' (fail (tok a.val r) (zz Q K r)) (128 * (2 * a.val + 1 + 1)) = 0 := from_none _ fun s h => if_neg (past h r)
    exact (col0_val r j).trans (by rw [← zero_div (Real.log 2), ← z]; rfl)
  · have z : from' (gw (tok a.val r) (zz Q K r) (cc D V r)) (128 * (2 * a.val + 1 + 1)) = 0 := from_none _ fun s h => by
      rw [gw, wt, if_neg (past h r), mul_zero]
    exact (col0_val r j).trans (by rw [← z]; rfl)
  · have z : from' (fun s => dz (tok a.val r) (zz Q K r) (cc D V r) s * K s l) (128 * (2 * a.val + 1 + 1)) = 0 := from_none _ fun s h => by
      rw [dz, if_neg (past h r), zero_mul]
    exact (acc0_val r l).trans (by rw [← z]; rfl)
  · refine (hdk s l).trans (congrArg _ ?_)
    split
    · next h => rw [Finset.sum_eq_zero fun r _ => by rw [dz, if_neg (past h r), zero_mul], add_zero]
    · rw [add_zero]
  · refine (hdv s l).trans (congrArg _ ?_)
    split
    · next h => rw [Finset.sum_eq_zero fun r _ => by rw [wt, if_neg (past h r), zero_mul], add_zero]
    · rw [add_zero]

end

end Cert.Proof

end
-- ==== Proof.PairValue.lean ====
/-
  A grid point of a pair of heads over the real numbers: from its blocks of the projection, the cotangent and the output,
  the row block of the output and of the queries' gradient, and what the row block adds to the keys' and values' gradients.
-/
module

public import proofs.«01_k».proof.Proof.PointValue
public import proofs.«01_k».proof.Proof.Heads

@[expose] public section

set_option maxRecDepth 16384

noncomputable section

namespace Cert.Proof

open Cert.KernelIdeal Cert.KernelIdeal.Gen
open Idealize.ShloMosaic

/-- The stacked rows of row block `i` of pair `g`: each row keeps its own head's lanes. -/
def rowsOf (x : ℕ → ℕ → ℝ) (g i : ℕ) (r : Fin 512) (l : Fin 128) : ℝ :=
  if l.val / 64 = r.val / 256 then x (tok i r) (128 * g + l.val) else 0

/-- The head of a stacked row. -/
abbrev headOf (g : ℕ) (r : Fin 512) : ℕ := 2 * g + r.val / 256

theorem stack_rows {x : ℕ → ℕ → ℝ} {g i : ℕ} {X : S256x128.Idx → Elt Ideal .bf16}
    (h : ∀ r l, X (ix2 r l) = (x (256 * i + r.val) (128 * g + l.val) : EReal)) (r : Fin 512) (l : Fin 128) :
    stack X (ix2 r l) = (rowsOf x g i r l : EReal) := by
  rw [stack_val, rowsOf]
  split
  · rw [h]; rfl
  · exact EReal.coe_zero.symm

variable (p d : ℕ → ℕ → ℝ)

theorem rows_dot (x y : ℕ → ℕ → ℝ) (g i o : ℕ) (r : Fin 512) (s : ℕ) :
    ∑ l, rowsOf x g i r l * y s (o + (128 * g + l.val))
      = ∑ j : Fin 64, x (tok i r) (64 * headOf g r + j.val) * y s (o + (64 * headOf g r + j.val)) := by
  have e : ∑ l : Fin 128, rowsOf x g i r l * y s (o + (128 * g + l.val))
      = ∑ l : Fin 128, if l.val / 64 = r.val / 256 then x (tok i r) (128 * g + l.val) * y s (o + (128 * g + l.val)) else 0 :=
    Finset.sum_congr rfl fun l _ => by rw [rowsOf, ite_mul, zero_mul]
  rw [e, sum_half (m := 64) (by norm_num) (by norm_num) (fun l => x (tok i r) (128 * g + l) * y s (o + (128 * g + l))) (by omega)]
  refine Finset.sum_congr rfl fun j _ => ?_
  rw [show 128 * g + (64 * (r.val / 256) + j.val) = 64 * headOf g r + j.val by unfold headOf; ring]

theorem zz_rows (g i : ℕ) (r : Fin 512) :
    zz (rowsOf p g i) (fun s l => p s (512 + (128 * g + l.val))) r = zh p (headOf g r) (tok i r) :=
  funext fun s => by rw [zz, zh, rows_dot]

theorem cc_rows (g i : ℕ) (r : Fin 512) :
    cc (rowsOf d g i) (fun s l => p s (1024 + (128 * g + l.val))) r = ch p d (headOf g r) (tok i r) :=
  funext fun s => by rw [cc, ch, rows_dot]

/-- A sum over the stacked rows at a lane takes the rows of the lane's head. -/
theorem rows_cols (F : ℕ → ℕ → ℝ) (x : ℕ → ℕ → ℝ) (g i : ℕ) (l : Fin 128) :
    ∑ r, F (headOf g r) (tok i r) * rowsOf x g i r l
      = ∑ r : Fin 256, F ((128 * g + l.val) / 64) (256 * i + r.val) * x (256 * i + r.val) (128 * g + l.val) := by
  have e : ∑ r, F (headOf g r) (tok i r) * rowsOf x g i r l = ∑ r : Fin 512, if r.val / 256 = l.val / 64
      then F (2 * g + r.val / 256) (256 * i + r.val % 256) * x (256 * i + r.val % 256) (128 * g + l.val) else 0 := by
    refine Finset.sum_congr rfl fun r _ => ?_
    rw [rowsOf, mul_ite, mul_zero]
    simp only [eq_comm (a := l.val / 64)]
    rfl
  rw [e, sum_half (m := 256) (by norm_num) (by norm_num)
    (fun r => F (2 * g + r / 256) (256 * i + r % 256) * x (256 * i + r % 256) (128 * g + l.val)) (by omega)]
  refine Finset.sum_congr rfl fun j _ => ?_
  rw [show (256 * (l.val / 64) + j.val) % 256 = j.val by omega, show 2 * g + (256 * (l.val / 64) + j.val) / 256 = (128 * g + l.val) / 64 by omega]

/-- The stacked row that holds lane `l` of token `r`. -/
theorem of_lane (g i : ℕ) (r : Fin 256) (l : Fin 128) :
    headOf g ⟨256 * (l.val / 64) + r.val, by omega⟩ = (128 * g + l.val) / 64 ∧ tok i ⟨256 * (l.val / 64) + r.val, by omega⟩ = 256 * i + r.val := by
  unfold headOf tok
  constructor <;> dsimp only <;> omega

variable {p d} {g : ℕ} {Q D : S256x128.Idx → Elt Ideal .bf16} {K V : S16384x128.Idx → Elt Ideal .bf16} {O : S256x128.Idx → Elt Ideal .f32} (i : Fin 64)
  (hQ : ∀ r l, Q (ix2 r l) = (p (256 * i.val + r.val) (128 * g + l.val) : EReal))
  (hK : ∀ (s : Fin 16384) l, K (ix2 s l) = (p s.val (512 + (128 * g + l.val)) : EReal))
  (hV : ∀ (s : Fin 16384) l, V (ix2 s l) = (p s.val (1024 + (128 * g + l.val)) : EReal))

include hQ hK hV

/-- A forward grid point's row block. -/
theorem fOut_val (r : Fin 256) (l : Fin 128) :
    fOut i.val Q K V (ix2 r l) = (oCol p (256 * i.val + r.val) (128 * g + l.val) : EReal) := by
  rw [fOut, unstack_val, fPoint_row (K := fun s l => p s (512 + (128 * g + l.val))) (V := fun s l => p s (1024 + (128 * g + l.val)))
    (stack_rows hQ) hK hV, zz_rows, (of_lane g i.val r l).1, (of_lane g i.val r l).2]
  rfl

variable (hD : ∀ r l, D (ix2 r l) = (d (256 * i.val + r.val) (128 * g + l.val) : EReal))
  (hO : ∀ r l, O (ix2 r l) = (oCol p (256 * i.val + r.val) (128 * g + l.val) : EReal))

include hD hO

omit hQ hK hV in
theorem totals_rows (r : Fin 512) (j : Fin 1) :
    totals (stack D) O (ix2 r j) = ((from' (gw (tok i.val r) (zz (rowsOf p g i.val) (fun s l => p s (512 + (128 * g + l.val))) r)
      (cc (rowsOf d g i.val) (fun s l => p s (1024 + (128 * g + l.val))) r)) 0 : ℝ) : EReal) := by
  have e := rows_dot d (oCol p) g i.val 0 r (tok i.val r)
  simp only [zero_add] at e
  rw [totals_val, zz_rows, cc_rows, ← total_eq, ← e, coe_sum]
  refine Finset.sum_congr rfl fun l _ => ?_
  rw [stack_rows hD, hO, EReal.coe_mul]
  rfl

/-- A backward grid point. -/
theorem bPoint_val {dk dv : S16384x128.Idx → Elt Ideal .f32} {n : ℕ} (hn : n = 256 * i.val)
    (hdk : ∀ (s : Fin 16384) l, dk (ix2 s l) = (dkCol p d n s.val (128 * g + l.val) : EReal))
    (hdv : ∀ (s : Fin 16384) l, dv (ix2 s l) = (dvCol p d n s.val (128 * g + l.val) : EReal)) :
    (∀ (r : Fin 256) (l : Fin 128), unstack (bPoint i.val (bCon Q D O) K V dk dv).dq (ix2 r l) = (dqCol p d (256 * i.val + r.val) (128 * g + l.val) : EReal))
    ∧ (∀ (s : Fin 16384) l, (bPoint i.val (bCon Q D O) K V dk dv).dk (ix2 s l) = (dkCol p d (256 * (i.val + 1)) s.val (128 * g + l.val) : EReal))
    ∧ (∀ (s : Fin 16384) l, (bPoint i.val (bCon Q D O) K V dk dv).dv (ix2 s l) = (dvCol p d (256 * (i.val + 1)) s.val (128 * g + l.val) : EReal)) := by
  subst hn
  have h := bPoint_row (b := bCon Q D O) (K := fun s l => p s (512 + (128 * g + l.val))) (V := fun s l => p s (1024 + (128 * g + l.val)))
    (DK := fun s l => dkCol p d (256 * i.val) s (128 * g + l.val)) (DV := fun s l => dvCol p d (256 * i.val) s (128 * g + l.val))
    (stack_rows hQ) (stack_rows hD) hK hV rfl rfl i (totals_rows i hD hO) hdk hdv
  refine ⟨fun r l => ?_, fun s l => ?_, fun s l => ?_⟩
  · rw [unstack_val, h.dq, zz_rows, cc_rows, (of_lane g i.val r l).1, (of_lane g i.val r l).2]
    rfl
  · rw [h.dk, if_pos (by omega)]
    congr 1
    rw [dkCol, dkCol, range_block]
    congr 1
    simp only [zz_rows, cc_rows]
    exact rows_cols (fun e t => dz t (zh p e t) (ch p d e t) s.val) p g i.val l
  · rw [h.dv, if_pos (by omega)]
    congr 1
    rw [dvCol, dvCol, range_block]
    congr 1
    simp only [zz_rows]
    exact rows_cols (fun e t => wt t (zh p e t) s.val) d g i.val l

end Cert.Proof

end
-- ==== Proof.ArrayValue.lean ====
/-
  The four result arrays of the kernels over the real numbers: the output, and the gradients of the queries, the keys and
  the values, each entry the closed form of its token and column.
-/
module

public import proofs.«01_k».proof.Proof.PairValue
public import proofs.«01_k».proof.Proof.Run
public import Idealize.ShloMosaic.Lib.Pipeline.ValueKit

@[expose] public section

set_option maxRecDepth 16384

noncomputable section

namespace Cert.Proof

open Cert.KernelIdeal Cert.KernelIdeal.Gen
open Idealize.ShloMosaic
open Idealize.ShloMosaic.TcCoe

/-- A grid point's pair and row block. -/
theorem coords0_pair : ∀ t : Fin grid0.N, (grid0.coords t 0).val = t.val / 64 := by decide +kernel
theorem coords0_row : ∀ t : Fin grid0.N, (grid0.coords t 1).val = t.val % 64 := by decide +kernel
theorem coords1_pair : ∀ t : Fin grid1.N, (grid1.coords t 0).val = t.val / 64 := by decide +kernel
theorem coords1_row : ∀ t : Fin grid1.N, (grid1.coords t 1).val = t.val % 64 := by decide +kernel

/-- The blocks' places in their arrays. -/
theorem idx0_0 : ∀ t : Fin grid0.N, win0_0.index t = ![t.val % 64, t.val / 64] := by decide +kernel
theorem idx0_1 : ∀ t : Fin grid0.N, win0_1.index t = ![0, 4 + t.val / 64] := by decide +kernel
theorem idx0_2 : ∀ t : Fin grid0.N, win0_2.index t = ![0, 8 + t.val / 64] := by decide +kernel
theorem idx0_3 : ∀ t : Fin grid0.N, win0_3.index t = ![t.val % 64, t.val / 64] := by decide +kernel
theorem idx1_0 : ∀ t : Fin grid1.N, win1_0.index t = ![t.val % 64, t.val / 64] := by decide +kernel
theorem idx1_1 : ∀ t : Fin grid1.N, win1_1.index t = ![0, 4 + t.val / 64] := by decide +kernel
theorem idx1_2 : ∀ t : Fin grid1.N, win1_2.index t = ![0, 8 + t.val / 64] := by decide +kernel
theorem idx1_3 : ∀ t : Fin grid1.N, win1_3.index t = ![t.val % 64, t.val / 64] := by decide +kernel
theorem idx1_4 : ∀ t : Fin grid1.N, win1_4.index t = ![t.val % 64, t.val / 64] := by decide +kernel
theorem idx1_5 : ∀ t : Fin grid1.N, win1_5.index t = ![t.val % 64, t.val / 64] := by decide +kernel

/-- An array whose entries are given by token and column. -/
def Given {n w : ℕ} (X : (⟨2, ![n, w]⟩ : Shape).Idx → EReal) (x : ℕ → ℕ → ℝ) (b : ℕ) : Prop :=
  ∀ y, (y 1).val < b → X y = (x (y 0).val (y 1).val : EReal)

theorem Given.at {n w : ℕ} {X : (⟨2, ![n, w]⟩ : Shape).Idx → EReal} {x : ℕ → ℕ → ℝ} {b : ℕ} (h : Given X x b)
    (y : (⟨2, ![n, w]⟩ : Shape).Idx) {i j : ℕ} (h0 : (y 0).val = i) (h1 : (y 1).val = j) (hj : j < b) : X y = (x i j : EReal) := by
  subst h0; subst h1; exact h y hj

variable {V : Held Ideal} {c : Dev nD} {p d : ℕ → ℕ → ℝ}

section

variable (hp : Given (V c main_arg0) p 1536)

include hp

theorem fInQ_val (t : Fin (cfg0 (F := Ideal)).N) (r : Fin 256) (l : Fin 128) :
    fInQ V c t (ix2 r l) = (p (256 * (t.val % 64) + r.val) (128 * (t.val / 64) + l.val) : EReal) := by
  have h : t.val < 256 := t.isLt
  exact hp.at _ (by blk_simp [idx0_0 t]; omega) (by blk_simp [idx0_0 t]; omega) (by omega)

theorem fInK_val (t : Fin (cfg0 (F := Ideal)).N) (s : Fin 16384) (l : Fin 128) :
    fInK V c t (ix2 s l) = (p s.val (512 + (128 * (t.val / 64) + l.val)) : EReal) := by
  have h : t.val < 256 := t.isLt
  exact hp.at _ (by blk_simp [idx0_1 t]) (by blk_simp [idx0_1 t]; omega) (by omega)

theorem fInV_val (t : Fin (cfg0 (F := Ideal)).N) (s : Fin 16384) (l : Fin 128) :
    fInV V c t (ix2 s l) = (p s.val (1024 + (128 * (t.val / 64) + l.val)) : EReal) := by
  have h : t.val < 256 := t.isLt
  exact hp.at _ (by blk_simp [idx0_2 t]) (by blk_simp [idx0_2 t]; omega) (by omega)

/-- A forward point's row block. -/
theorem fAfter_val (t : Fin (cfg0 (F := Ideal)).N) (r : Fin 256) (l : Fin 128) :
    fOut (grid0.coords t 1).val (fInQ V c t) (fInK V c t) (fInV V c t) (ix2 r l)
      = (oCol p (256 * (t.val % 64) + r.val) (128 * (t.val / 64) + l.val) : EReal) := by
  rw [coords0_row]
  exact fOut_val (g := t.val / 64) ⟨t.val % 64, Nat.mod_lt _ (by decide)⟩ (fInQ_val hp t) (fInK_val hp t) (fInV_val hp t) r l

/-- The output. -/
theorem out_val : (dat0 V c).arrAt 3 (cfg0 (F := Ideal)).N = fun y => (oCol p (y 0).val (y 1).val : EReal) := by
  refine (dat0 V c).arrAt_eq_of_covers 3 _ (by decide +kernel) fun t hf y => ?_
  blk_simp
  rw [idx0_3]
  obtain ⟨r, l, rfl⟩ : ∃ (r : Fin 256) (l : Fin 128), y = (ix2 r l : S256x128.Idx) := ⟨y 0, y 1, (ix2_eta (n0 := 256) (n1 := 128) y).symm⟩
  refine (fAfter_val hp t r l).trans ?_
  simp only [Matrix.cons_val_zero, Matrix.cons_val_one, Nat.mul_comm]
  rfl

end

section

variable (hp : Given (V c main_arg0) p 1536) (hd : Given (V c main_arg1) d 512) (ho : Given (V c main_v0) (oCol p) 512)

include hp hd ho

omit hd ho in
theorem bInQ_val (t : Fin (cfg1 (F := Ideal)).N) (r : Fin 256) (l : Fin 128) :
    bInQ V c t (ix2 r l) = (p (256 * (t.val % 64) + r.val) (128 * (t.val / 64) + l.val) : EReal) := by
  have h : t.val < 256 := t.isLt
  exact hp.at _ (by blk_simp [idx1_0 t]; omega) (by blk_simp [idx1_0 t]; omega) (by omega)

omit hd ho in
theorem bInK_val (t : Fin (cfg1 (F := Ideal)).N) (s : Fin 16384) (l : Fin 128) :
    bInK V c t (ix2 s l) = (p s.val (512 + (128 * (t.val / 64) + l.val)) : EReal) := by
  have h : t.val < 256 := t.isLt
  exact hp.at _ (by blk_simp [idx1_1 t]) (by blk_simp [idx1_1 t]; omega) (by omega)

omit hd ho in
theorem bInV_val (t : Fin (cfg1 (F := Ideal)).N) (s : Fin 16384) (l : Fin 128) :
    bInV V c t (ix2 s l) = (p s.val (1024 + (128 * (t.val / 64) + l.val)) : EReal) := by
  have h : t.val < 256 := t.isLt
  exact hp.at _ (by blk_simp [idx1_2 t]) (by blk_simp [idx1_2 t]; omega) (by omega)

omit hp hd in
theorem bInO_val (t : Fin (cfg1 (F := Ideal)).N) (r : Fin 256) (l : Fin 128) :
    bInO V c t (ix2 r l) = (oCol p (256 * (t.val % 64) + r.val) (128 * (t.val / 64) + l.val) : EReal) := by
  have h : t.val < 256 := t.isLt
  exact ho.at _ (by blk_simp [idx1_3 t]; omega) (by blk_simp [idx1_3 t]; omega) (by omega)

omit hp ho in
theorem bInD_val (t : Fin (cfg1 (F := Ideal)).N) (r : Fin 256) (l : Fin 128) :
    bInD V c t (ix2 r l) = (d (256 * (t.val % 64) + r.val) (128 * (t.val / 64) + l.val) : EReal) := by
  have h : t.val < 256 := t.isLt
  exact hd.at _ (by blk_simp [idx1_4 t]; omega) (by blk_simp [idx1_4 t]; omega) (by omega)

/-- What a backward point finds in the gradients' buffers: the sums over the tokens before its row block. -/
def Found (p d : ℕ → ℕ → ℝ) (k : ℕ) (G : (S16384x128.Idx → Elt Ideal .f32) × (S16384x128.Idx → Elt Ideal .f32)) : Prop :=
  (∀ (s : Fin 16384) l, start (k % 64) G.1 (ix2 s l) = (dkCol p d (256 * (k % 64)) s.val (128 * (k / 64) + l.val) : EReal))
  ∧ (∀ (s : Fin 16384) l, start (k % 64) G.2 (ix2 s l) = (dvCol p d (256 * (k % 64)) s.val (128 * (k / 64) + l.val) : EReal))

/-- A backward point from what it finds. -/
theorem bEnd_val (t : Fin (cfg1 (F := Ideal)).N) {G : (S16384x128.Idx → Elt Ideal .f32) × (S16384x128.Idx → Elt Ideal .f32)} (hG : Found p d t.val G) :
    (∀ (r : Fin 256) (l : Fin 128), unstack (bEnd V c t G).dq (ix2 r l) = (dqCol p d (256 * (t.val % 64) + r.val) (128 * (t.val / 64) + l.val) : EReal))
    ∧ (∀ (s : Fin 16384) l, (bEnd V c t G).dk (ix2 s l) = (dkCol p d (256 * (t.val % 64 + 1)) s.val (128 * (t.val / 64) + l.val) : EReal))
    ∧ (∀ (s : Fin 16384) l, (bEnd V c t G).dv (ix2 s l) = (dvCol p d (256 * (t.val % 64 + 1)) s.val (128 * (t.val / 64) + l.val) : EReal)) := by
  rw [bEnd, coords1_row]
  exact bPoint_val (g := t.val / 64) ⟨t.val % 64, Nat.mod_lt _ (by decide)⟩ (bInQ_val hp t) (bInK_val hp t) (bInV_val hp t) (bInD_val hd t) (bInO_val ho t)
    rfl hG.1 hG.2

omit hp hd ho in
/-- Before the first row block nothing is summed. -/
theorem rows0_val (s : Fin 16384) (l : Fin 128) : rows0 (F := Ideal) (ix2 s l) = ((0 : ℝ) : EReal) := by
  rw [EReal.coe_zero]
  pointwise [rows0]

omit hp hd ho in
theorem found_first {k : ℕ} (h : k % 64 = 0) (G) : Found p d k G := by
  refine ⟨fun s l => ?_, fun s l => ?_⟩
  · rw [h, start, if_pos rfl, rows0_val, dkCol, Nat.mul_zero, Finset.sum_range_zero]
  · rw [h, start, if_pos rfl, rows0_val, dvCol, Nat.mul_zero, Finset.sum_range_zero]

theorem grads_found : ∀ k, k < 256 → Found p d k (grads V c k)
  | 0, _ => found_first rfl _
  | k + 1, h => by
    by_cases h0 : (k + 1) % 64 = 0
    · exact found_first h0 _
    · have e := bEnd_val hp hd ho ⟨k, show k < 256 by omega⟩ (grads_found k (by omega))
      have g := grads_succ V c ⟨k, show k < 256 by omega⟩
      have e0 : (k + 1) % 64 = k % 64 + 1 := by omega
      have e1 : (k + 1) / 64 = k / 64 := by omega
      dsimp only at e g
      refine ⟨fun s l => ?_, fun s l => ?_⟩
      · rw [start, if_neg h0, g, e0, e1]
        exact e.2.1 s l
      · rw [start, if_neg h0, g, e0, e1]
        exact e.2.2 s l

/-- The gradient of the queries. -/
theorem dq_val : (dat1 V c).arrAt 5 (cfg1 (F := Ideal)).N = fun y => (dqCol p d (y 0).val (y 1).val : EReal) := by
  refine (dat1 V c).arrAt_eq_of_covers 5 _ (by decide +kernel) fun t hf y => ?_
  blk_simp
  rw [idx1_5]
  obtain ⟨r, l, rfl⟩ : ∃ (r : Fin 256) (l : Fin 128), y = (ix2 r l : S256x128.Idx) := ⟨y 0, y 1, (ix2_eta (n0 := 256) (n1 := 128) y).symm⟩
  refine ((bEnd_val hp hd ho t (grads_found hp hd ho t.val t.isLt)).1 r l).trans ?_
  simp only [Matrix.cons_val_zero, Matrix.cons_val_one, Nat.mul_comm]
  rfl

/-- The gradients of the keys and the values, of the pairs already done. -/
theorem dests_val : ∀ n, n ≤ 256 → (∀ (s : Fin 16384) (x : Fin 512), x.val < 128 * (n / 64) →
    (dests V c n).1 (ix2 s x) = (dkCol p d 16384 s.val x.val : EReal) ∧ (dests V c n).2 (ix2 s x) = (dvCol p d 16384 s.val x.val : EReal))
  | 0, _ => fun s x hx => absurd hx (by omega)
  | n + 1, h => fun s x hx => by
    have ih := dests_val n (by omega) s x
    have e := bEnd_val hp hd ho ⟨n, show n < 256 by omega⟩ (grads_found hp hd ho n (by omega))
    have g := grads_succ V c ⟨n, show n < 256 by omega⟩
    have w := dests_succ V c ⟨n, show n < 256 by omega⟩
    rw [coords1_pair, coords1_row] at w
    dsimp only at e g w
    rw [w]
    unfold finish
    by_cases h1 : n % 64 = 63
    · rw [if_pos h1, if_pos h1]
      show (if x.val / 128 = n / 64 then (grads V c (n + 1)).1 (ix2 s ⟨x.val % 128, _⟩) else (dests V c n).1 (ix2 s x)) = _
        ∧ (if x.val / 128 = n / 64 then (grads V c (n + 1)).2 (ix2 s ⟨x.val % 128, _⟩) else (dests V c n).2 (ix2 s x)) = _
      by_cases h2 : x.val / 128 = n / 64
      · have h3 : 128 * (n / 64) + x.val % 128 = x.val := by omega
        rw [if_pos h2, if_pos h2, g]
        dsimp only
        rw [e.2.1, e.2.2, h1]
        dsimp only
        rw [h3]
        exact ⟨rfl, rfl⟩
      · rw [if_neg h2, if_neg h2]
        exact ih (by omega)
    · rw [if_neg h1, if_neg h1]
      exact ih (by omega)

/-- The gradient of the keys. -/
theorem dk_val : (dests V c (cfg1 (F := Ideal)).N).1 = fun y => (dkCol p d 16384 (y 0).val (y 1).val : EReal) := by
  funext y
  obtain ⟨s, x, rfl⟩ : ∃ (s : Fin 16384) (x : Fin 512), y = ix2 s x := ⟨y 0, y 1, (ix2_eta y).symm⟩
  exact (dests_val hp hd ho 256 le_rfl s x (by omega)).1

/-- The gradient of the values. -/
theorem dv_val : (dests V c (cfg1 (F := Ideal)).N).2 = fun y => (dvCol p d 16384 (y 0).val (y 1).val : EReal) := by
  funext y
  obtain ⟨s, x, rfl⟩ : ∃ (s : Fin 16384) (x : Fin 512), y = ix2 s x := ⟨y 0, y 1, (ix2_eta y).symm⟩
  exact (dests_val hp hd ho 256 le_rfl s x (by omega)).2

end

end Cert.Proof

end
-- ==== Proof.Finite.lean ====
/-
  What the precondition says: the queries, keys and values, and the output's gradient, are real numbers.
-/
module

public import proofs.«01_k».proof.Proof.Gen.Pre_finite
public import proofs.«01_k».proof.Proof.RefValue
public import proofs.«01_k».proof.Proof.ArrayValue
public import Idealize.ShloMosaic.Lib.ReduceAll

@[expose] public section

set_option maxRecDepth 16384

noncomputable section

namespace Cert.Proof

open Cert.Pre_finite Cert.Pre_finite.Gen
open Idealize.ShloMosaic

/-- An array's entries as real numbers. -/
def realOf {n w : ℕ} (X : (⟨2, ![n, w]⟩ : Shape).Idx → EReal) (t c : ℕ) : ℝ :=
  if h : t < n ∧ c < w then (X (ix2 ⟨t, h.1⟩ ⟨c, h.2⟩)).toReal else 0

/-- Below infinity in absolute value: a real number. -/
theorem toReal_of_lt {x : EReal} (h : Ideal.cmp .olt (FloatOps.absf (F := Ideal) (φ := .f32) x) (Ideal.ofBits .f32 0x7F800000#32) = 1#1) : x = (x.toReal : EReal) := by
  rw [Ref.inf_val, Ideal.absf_def] at h
  have hl : max x (-x) < ⊤ := of_decide_eq_true ((WordCmp.ofBool_eq_one_iff _).1 h)
  rw [max_lt_iff] at hl
  refine (EReal.coe_toReal hl.1.ne fun e => ?_).symm
  rw [e, EReal.neg_bot] at hl
  exact lt_irrefl _ hl.2

theorem given_realOf {n w b : ℕ} {X : (⟨2, ![n, w]⟩ : Shape).Idx → EReal} (hX : ∀ y, (y 1).val < b → X y = ((X y).toReal : EReal)) : Given X (realOf X) b := fun y hy => by
  obtain ⟨t, c, rfl⟩ : ∃ (t : Fin n) (c : Fin w), y = ix2 t c := ⟨y 0, y 1, (ix2_eta y).symm⟩
  rw [hX _ hy]
  have e : realOf X t.val c.val = (X (ix2 t c)).toReal := dif_pos ⟨t.isLt, c.isLt⟩
  exact congrArg _ e.symm

section

variable {p : FVec Ideal S16384x4096 .bf16} {d : FVec Ideal S16384x512 .bf16} (h : Cert.Pre_finite.fn (F := Ideal) p d = fun _ => 1#1)

include h

theorem finite_parts :
    (∀ i, cmpf .olt (Host.absf (extf .f32 (extractStridedSlice S16384x1536 ![0, 0] p slices_S16384x4096_S16384x1536_0_0) bitsLt_bf16_f32))
      (broadcastInDim S16384x1536 ![] bcast_S_S16384x1536 (constant S_ .f32 0x7F800000#32)) i = 1#1)
    ∧ ∀ i, cmpf .olt (Host.absf (extf .f32 d bitsLt_bf16_f32)) (broadcastInDim S16384x512 ![] bcast_S_S16384x512 (constant S_ .f32 0x7F800000#32)) i = 1#1 := by
  haveI : Subsingleton S_.Idx := ⟨fun a b => funext fun i => i.elim0⟩
  have e := IntOp.andi_eq_one.1 (congrFun h (Shape.Idx.first h_S_))
  exact ⟨Host.reduce_andi_all _ _ _ _ _ e.1, Host.reduce_andi_all _ _ _ _ _ e.2⟩

theorem given_p : Given p (realOf p) 1536 := given_realOf fun y hy => by
  obtain ⟨t, c, rfl⟩ : ∃ (t : Fin 16384) (c : Fin 4096), y = ix2 t c := ⟨y 0, y 1, (ix2_eta y).symm⟩
  have hc : c.val < 1536 := hy
  have e : extractStridedSlice S16384x1536 ![0, 0] p slices_S16384x4096_S16384x1536_0_0 (ix2 t (⟨c.val, hc⟩ : Fin 1536)) = p (ix2 t c) := by
    pointwise
    try congr 2
  have := (finite_parts h).1 (ix2 t (⟨c.val, hc⟩ : Fin 1536))
  rw [← e]
  exact toReal_of_lt this

theorem given_d : Given d (realOf d) 512 := given_realOf fun y _ => toReal_of_lt ((finite_parts h).2 y)

end

end Cert.Proof

end
-- ==== Proof.Algebraic.lean ====
/-
  The value claim: over the real numbers the kernel's four results are the reference's.
-/
module

public import proofs.«01_k».proof.Proof.Finite
public import proofs.«01_k».proof.Proof.Run
public import proofs.«01_k».proof.Defs

@[expose] public section

set_option maxRecDepth 16384

noncomputable section

namespace Cert.Proof

open Cert.KernelIdeal Cert.KernelIdeal.Gen
open Idealize.ShloMosaic Idealize.SL.Sem

/-! ## The kernel -/

section

variable {m : (ℓ : Loc nD τ sig) → Buf (Elt Ideal) ℓ} (hm : Cert.Pre_KernelIdeal_finite m) (c : Dev nD)

/-- A device's projections and its output's gradient, as real numbers. -/
def projOf (m : (ℓ : Loc nD τ sig) → Buf (Elt Ideal) ℓ) (c : Dev nD) : ℕ → ℕ → ℝ := realOf (n := 16384) (w := 4096) (m ((c.tc : Thread nD τ).loc main_arg0))
def cotOf (m : (ℓ : Loc nD τ sig) → Buf (Elt Ideal) ℓ) (c : Dev nD) : ℕ → ℕ → ℝ := realOf (n := 16384) (w := 512) (m ((c.tc : Thread nD τ).loc main_arg1))

include hm

theorem held0_p : Given (n := 16384) (w := 4096) (held0 m c main_arg0) (projOf m c) 1536 := given_p (hm c)

theorem held0_out : (dat0 (held0 m) c).arrAt 3 (cfg0 (F := Ideal)).N = fun y => (oCol (projOf m c) (y 0).val (y 1).val : EReal) := out_val (held0_p hm c)

theorem held1_p : Given (n := 16384) (w := 4096) (held1 m c main_arg0) (projOf m c) 1536 := by
  rw [W1_ne m c main_arg0 (by decide)]; exact held0_p hm c

theorem held1_d : Given (n := 16384) (w := 512) (held1 m c main_arg1) (cotOf m c) 512 := by
  rw [W1_ne m c main_arg1 (by decide)]; exact given_d (hm c)

theorem held1_o : Given (n := 16384) (w := 512) (held1 m c main_v0) (oCol (projOf m c)) 512 := by
  rw [W1_out m c, held0_out hm c]; exact fun _ _ => rfl

end

/-! ## The reference -/

section

variable {m : (ℓ : Loc nD τ sig) → Buf (Elt Ideal) ℓ} (hm : Cert.Pre_KernelIdeal_finite m)
  {m' : (ℓ : Loc Cert.ReferenceIdeal.nD Cert.ReferenceIdeal.τ Cert.ReferenceIdeal.sig) → Buf (Elt Ideal) ℓ} (c : Dev nD)
  (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))

include hm h0

theorem ref_p (t : Fin 16384) (j : Fin 4096) (hj : j.val < 1536) :
    (m' ((c.tc : Thread Cert.ReferenceIdeal.nD Cert.ReferenceIdeal.τ).loc Cert.ReferenceIdeal.main_arg0) : FVec Ideal Cert.ReferenceIdeal.S16384x4096 .bf16) (ix2 t j)
      = (projOf m c t.val j.val : EReal) := by
  rw [h0]; exact held0_p hm c (ix2 t j) hj

theorem ref_out : Cert.ReferenceIdeal.Value.res_out0 m' c = fun y => (oCol (projOf m c) (y 0).val (y 1).val : EReal) := by
  rw [Ref.out0_eq]
  funext y
  obtain ⟨t, j, rfl⟩ : ∃ (t : Fin 16384) (j : Fin 512), y = ix2 t j := ⟨y 0, y 1, (ix2_eta (n0 := 16384) (n1 := 512) y).symm⟩
  exact Ref.output_val (ref_p hm c h0) t j

include h1

omit h0 in
theorem ref_d (t : Fin 16384) (j : Fin 512) :
    (m' ((c.tc : Thread Cert.ReferenceIdeal.nD Cert.ReferenceIdeal.τ).loc Cert.ReferenceIdeal.main_arg1) : FVec Ideal Cert.ReferenceIdeal.S16384x512 .bf16) (ix2 t j)
      = (cotOf m c t.val j.val : EReal) := by
  rw [h1]; exact given_d (hm c) (ix2 t j) j.isLt

theorem ref_dq : Cert.ReferenceIdeal.Value.res_out1 m' c = fun y => (dqCol (projOf m c) (cotOf m c) (y 0).val (y 1).val : EReal) := by
  rw [Ref.out1_eq]
  funext y
  obtain ⟨t, j, rfl⟩ : ∃ (t : Fin 16384) (j : Fin 512), y = ix2 t j := ⟨y 0, y 1, (ix2_eta (n0 := 16384) (n1 := 512) y).symm⟩
  exact Ref.dqueries_val (ref_p hm c h0) (ref_d hm c h1) t j

theorem ref_dk : Cert.ReferenceIdeal.Value.res_out2 m' c = fun y => (dkCol (projOf m c) (cotOf m c) 16384 (y 0).val (y 1).val : EReal) := by
  rw [Ref.out2_eq]
  funext y
  obtain ⟨t, j, rfl⟩ : ∃ (t : Fin 16384) (j : Fin 512), y = ix2 t j := ⟨y 0, y 1, (ix2_eta (n0 := 16384) (n1 := 512) y).symm⟩
  exact Ref.dkeys_val (ref_p hm c h0) (ref_d hm c h1) t j

theorem ref_dv : Cert.ReferenceIdeal.Value.res_out3 m' c = fun y => (dvCol (projOf m c) (cotOf m c) 16384 (y 0).val (y 1).val : EReal) := by
  rw [Ref.out3_eq]
  funext y
  obtain ⟨t, j, rfl⟩ : ∃ (t : Fin 16384) (j : Fin 512), y = ix2 t j := ⟨y 0, y 1, (ix2_eta (n0 := 16384) (n1 := 512) y).symm⟩
  exact Ref.dvalues_val (ref_p hm c h0) (ref_d hm c h1) t j

end

/-! ## Both -/

/-- Both programs end with the closed forms' values. -/
theorem algebraic : Cert.algebraic_KernelIdeal_ReferenceIdeal_pre_finite := fun m g m' g' hm hargs => by
  refine ⟨fun c y => (oCol (projOf m c) (y 0).val (y 1).val : EReal), fun c y => (dqCol (projOf m c) (cotOf m c) (y 0).val (y 1).val : EReal),
    fun c y => (dkCol (projOf m c) (cotOf m c) 16384 (y 0).val (y 1).val : EReal), fun c y => (dvCol (projOf m c) (cotOf m c) 16384 (y 0).val (y 1).val : EReal), ?_, ?_⟩
  · refine (θ_run Cert.KernelIdeal.defs _ _).mono (fun r h c => ?_) (run_main (F := Ideal) m g)
    obtain ⟨args, o, dq, dk, dv⟩ := h.1 c
    exact ⟨o.trans (held0_out hm c), dq.trans (dq_val (held1_p hm c) (held1_d hm c) (held1_o hm c)), dk.trans (dk_val (held1_p hm c) (held1_d hm c) (held1_o hm c)),
      dv.trans (dv_val (held1_p hm c) (held1_d hm c) (held1_o hm c)), args⟩
  · refine (θ_run Cert.ReferenceIdeal.defs _ _).mono (fun r h c => ?_) (Cert.ReferenceIdeal.Value.run (F := Ideal) m' g')
    obtain ⟨o, dq, dk, dv, args⟩ := h c
    obtain ⟨h0, h1⟩ := hargs c
    exact ⟨o.trans (ref_out hm c h0), dq.trans (ref_dq hm c h0 h1), dk.trans (ref_dk hm c h0 h1), dv.trans (ref_dv hm c h0 h1), args⟩

end Cert.Proof

end
-- ==== Proof.FfnFrames.lean ====
/-
  The frames of the feed-forward calls.
-/
module

public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactIdeal.Value
public import proofs.«01_k».proof.Proof.Gen.DactReferenceIdeal
public import proofs.«01_k».proof.Proof.Gen.DactReferenceIdeal.Run
public import proofs.«01_k».proof.Proof.Gen.DactReferenceIdeal.Read
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwReferenceIdeal
public import proofs.«01_k».proof.Proof.Gen.DwReferenceIdeal.Run
public import proofs.«01_k».proof.Proof.Gen.DwReferenceIdeal.Read
public import proofs.«01_k».proof.Proof.Gen.Dw2
public import proofs.«01_k».proof.Proof.Gen.Dw2.Frame
public import proofs.«01_k».proof.Proof.Gen.Dw2Ideal
public import proofs.«01_k».proof.Proof.Gen.Dw2Ideal.Frame
public import proofs.«01_k».proof.Proof.Gen.Dw2Ideal.Value
public import proofs.«01_k».proof.Proof.Gen.Dw2ReferenceIdeal
public import proofs.«01_k».proof.Proof.Gen.Dw2ReferenceIdeal.Run
public import proofs.«01_k».proof.Proof.Gen.Dw2ReferenceIdeal.Read
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhReferenceIdeal
public import proofs.«01_k».proof.Proof.Gen.DhReferenceIdeal.Run
public import proofs.«01_k».proof.Proof.Gen.DhReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Pre_finite_gate
public import proofs.«01_k».proof.Defs
public import Idealize.ShloMosaic.Lib.Quiescent

@[expose] public section

noncomputable section

namespace Cert.Proof

open Idealize.ShloMosaic Idealize.SL.Sem

/-! The generated frames are the calls'; a reference declares no semaphore and its run keeps its arguments. -/

theorem dact_frame : Cert.quiescent_Dact := fun m ρ _ => Cert.Dact.Gen.frame m ρ
theorem dact_frame_ideal : Cert.quiescent_DactIdeal := fun m ρ _ => Cert.DactIdeal.Gen.frame m ρ
theorem dact_frame_reference : Cert.quiescent_DactReferenceIdeal := fun m ρ _ =>
  (θ_run Cert.DactReferenceIdeal.defs _ _).mono (fun r h => ⟨fun c => (h c).2.2, sem_eq_zero_of_no_sems (by decide) r.2⟩)
    (Cert.DactReferenceIdeal.Value.run (F := Ideal) m ρ)

theorem dw_frame : Cert.quiescent_Dw := fun m ρ _ => Cert.Dw.Gen.frame m ρ
theorem dw_frame_ideal : Cert.quiescent_DwIdeal := fun m ρ _ => Cert.DwIdeal.Gen.frame m ρ
theorem dw_frame_reference : Cert.quiescent_DwReferenceIdeal := fun m ρ _ =>
  (θ_run Cert.DwReferenceIdeal.defs _ _).mono (fun r h => ⟨fun c => (h c).2, sem_eq_zero_of_no_sems (by decide) r.2⟩)
    (Cert.DwReferenceIdeal.Value.run (F := Ideal) m ρ)

theorem dw2_frame : Cert.quiescent_Dw2 := fun m ρ _ => Cert.Dw2.Gen.frame m ρ
theorem dw2_frame_ideal : Cert.quiescent_Dw2Ideal := fun m ρ _ => Cert.Dw2Ideal.Gen.frame m ρ
theorem dw2_frame_reference : Cert.quiescent_Dw2ReferenceIdeal := fun m ρ _ =>
  (θ_run Cert.Dw2ReferenceIdeal.defs _ _).mono (fun r h => ⟨fun c => (h c).2, sem_eq_zero_of_no_sems (by decide) r.2⟩)
    (Cert.Dw2ReferenceIdeal.Value.run (F := Ideal) m ρ)

theorem dh_frame : Cert.quiescent_Dh := fun m ρ _ => Cert.Dh.Gen.frame m ρ
theorem dh_frame_ideal : Cert.quiescent_DhIdeal := fun m ρ _ => Cert.DhIdeal.Gen.frame m ρ
theorem dh_frame_reference : Cert.quiescent_DhReferenceIdeal := fun m ρ _ =>
  (θ_run Cert.DhReferenceIdeal.defs _ _).mono (fun r h => ⟨fun c => (h c).2.2.2, sem_eq_zero_of_no_sems (by decide) r.2⟩)
    (Cert.DhReferenceIdeal.Value.run (F := Ideal) m ρ)

theorem up_frame : Cert.quiescent_Up := fun m ρ _ => Cert.Up.Gen.frame m ρ
theorem up_frame_ideal : Cert.quiescent_UpIdeal := fun m ρ _ => Cert.UpIdeal.Gen.frame m ρ
theorem up_frame_reference : Cert.quiescent_UpReferenceIdeal := fun m ρ _ =>
  (θ_run Cert.UpReferenceIdeal.defs _ _).mono (fun r h => ⟨fun c => (h c).2.2.2, sem_eq_zero_of_no_sems (by decide) r.2⟩)
    (Cert.UpReferenceIdeal.Value.run (F := Ideal) m ρ)

/-! With their preconditions the same frames hold. -/

theorem dact_frame_finite : Cert.quiescent_DactIdeal_pre_finite_gate := fun m ρ _ => dact_frame_ideal m ρ trivial
theorem dact_frame_reference_finite : Cert.quiescent_DactReferenceIdeal_pre_finite_gate := fun m ρ _ => dact_frame_reference m ρ trivial

end Cert.Proof

end
-- ==== Proof.Entries.lean ====
/-
  Arrays of two axes read at two numbers, and sums over a contraction taken block by block.
-/
module

public import Idealize.ShloMosaic.Lib.Pointwise.Index
public import Idealize.ShloMosaic.Lib.Pipeline.ValueKit

@[expose] public section

noncomputable section

namespace Cert.Proof

open Idealize.ShloMosaic

/-- The entry of an array at a row and a column, zero outside. -/
def at2 {n w : ℕ} (X : (⟨2, ![n, w]⟩ : Shape).Idx → EReal) (i j : ℕ) : EReal :=
  if h : i < n ∧ j < w then X (ix2 ⟨i, h.1⟩ ⟨j, h.2⟩) else 0

theorem at2_ix2 {n w : ℕ} (X : (⟨2, ![n, w]⟩ : Shape).Idx → EReal) (i : Fin n) (j : Fin w) : X (ix2 i j) = at2 X i.val j.val := by
  unfold at2
  rw [dif_pos ⟨i.isLt, j.isLt⟩]

theorem at2_of {n w : ℕ} (X : (⟨2, ![n, w]⟩ : Shape).Idx → EReal) (y : (⟨2, ![n, w]⟩ : Shape).Idx) {i j : ℕ} (h0 : (y 0).val = i) (h1 : (y 1).val = j) :
    X y = at2 X i j := by
  subst h0; subst h1
  exact (congrArg X (ix2_eta (n0 := n) (n1 := w) y).symm).trans (at2_ix2 X (y 0) (y 1))

/-- The first blocks of a sum, and the next block. -/
theorem sum_block (b q : ℕ) (f : ℕ → EReal) :
    ∑ k ∈ Finset.range (b * (q + 1)), f k = ∑ k ∈ Finset.range (b * q), f k + ∑ k : Fin b, f (b * q + k.val) := by
  rw [Nat.mul_succ, Finset.sum_range_add, Finset.sum_range]
  congr 1
  exact Finset.sum_range _

/-- One half, as the programs write it. -/
theorem half_val : Ideal.ofBits .f32 0x3F000000#32 = ((1 / 2 : ℝ) : EReal) := by
  simp [Ideal.ofBits, Ideal.ieee, -EReal.coe_mul]; norm_num

/-- One, as the programs write it. -/
theorem one_val : Ideal.ofBits .f32 0x3F800000#32 = 1 := by
  simp [Ideal.ofBits, Ideal.ieee, -EReal.coe_mul]
  norm_num

/-- A half times a sum is the sum of the halves, whatever the terms are. -/
theorem half_sum {ι : Type} (s : Finset ι) (f : ι → EReal) : ((1 / 2 : ℝ) : EReal) * ∑ k ∈ s, f k = ∑ k ∈ s, ((1 / 2 : ℝ) : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr (by norm_num)) (EReal.coe_ne_top _) _ _

end Cert.Proof

end
-- ==== Proof.Gate.lean ====
/-
  Entries that are real numbers, and the derivative of the gate's activation.
-/
module

public import proofs.«01_k».proof.Proof.Entries
public import proofs.«01_k».proof.Proof.Finite

@[expose] public section

noncomputable section

namespace Cert.Proof

open Idealize.ShloMosaic

/-- An entry that is a real number. -/
def IsReal (x : EReal) : Prop := ∃ r : ℝ, x = (r : EReal)

theorem isReal_mul {x y : EReal} : IsReal x → IsReal y → IsReal (x * y) := by
  rintro ⟨r, rfl⟩ ⟨s, rfl⟩
  exact ⟨r * s, (EReal.coe_mul r s).symm⟩

theorem isReal_add {x y : EReal} : IsReal x → IsReal y → IsReal (x + y) := by
  rintro ⟨r, rfl⟩ ⟨s, rfl⟩
  exact ⟨r + s, (EReal.coe_add r s).symm⟩

theorem isReal_sum {n : ℕ} {f : ℕ → EReal} (h : ∀ k, IsReal (f k)) : IsReal (∑ k ∈ Finset.range n, f k) := by
  induction n with
  | zero => exact ⟨0, by simp⟩
  | succ n ih => rw [Finset.sum_range_succ]; exact isReal_add ih (h n)

theorem isReal_at2 {n w : ℕ} {X : (⟨2, ![n, w]⟩ : Shape).Idx → EReal} (hX : ∀ y, X y = ((X y).toReal : EReal)) (i j : ℕ) : IsReal (at2 X i j) := by
  unfold at2
  split
  · exact ⟨_, hX _⟩
  · exact ⟨0, rfl⟩

/-- The logistic function. -/
def logistic (a : EReal) : EReal := Ideal.div 1 (1 + Ideal.exp (-a))

theorem logistic_coe (a : ℝ) : logistic (a : EReal) = ((1 / (1 + Real.exp (-a)) : ℝ) : EReal) := by
  unfold logistic
  rw [← EReal.coe_neg, Ideal.exp_coe, ← EReal.coe_one, ← EReal.coe_add, Ideal.div_coe (add_pos one_pos (Real.exp_pos _)).ne',
    ← EReal.coe_mul, one_mul]

theorem logistic_top : logistic ⊤ = 1 := by
  have e : Ideal.exp ⊥ = 0 := rfl
  rw [logistic, EReal.neg_top, e, add_zero, Ideal.div, if_neg one_ne_zero]
  simp

theorem logistic_bot : logistic ⊥ = 0 := by
  have e : Ideal.exp ⊤ = ⊤ := rfl
  rw [logistic, EReal.neg_bot, e, EReal.add_top_of_ne_bot (by exact EReal.coe_ne_bot 1), Ideal.div, if_neg (by exact EReal.top_ne_zero)]
  simp

/-- The two forms of the activation's derivative times a real number agree; at an infinite input both are its limit. -/
theorem slope_forms {x : EReal} (hx : IsReal x) (a : EReal) :
    x * (logistic a + a * logistic a * (1 - logistic a)) = x * logistic a + a * x * (logistic a * (1 - logistic a)) := by
  obtain ⟨r, rfl⟩ := hx
  induction a with
  | bot => simp [logistic_bot]
  | top =>
    have e : (1 : EReal) - 1 = 0 := by rw [← EReal.coe_one, ← EReal.coe_sub]; simp
    simp [logistic_top, e]
  | coe a =>
    rw [logistic_coe]
    generalize 1 / (1 + Real.exp (-a)) = s
    have e : ((1 : EReal) - (s : EReal)) = ((1 - s : ℝ) : EReal) := by rw [EReal.coe_sub, EReal.coe_one]
    rw [e]
    norm_cast
    ring

end Cert.Proof

end
-- ==== Proof.DactValue.lean ====
/-
  The gradient of the feed-forward half step's gate: a grid point computes a block of 512 tokens and 1408 columns from the
  block's whole rows of the gradient and of the weight.
-/
module

public import proofs.«01_k».proof.Proof.Gate
public import proofs.«01_k».proof.Proof.Gen.DactIdeal.Value
public import Idealize.ShloMosaic.Lib.Tactic

@[expose] public section

set_option maxRecDepth 16384

noncomputable section

namespace Cert.Proof.Dact

open Cert.DactIdeal Cert.DactIdeal.Gen
open Idealize.ShloMosaic
open Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The call's arguments. -/
abbrev argD : FVec Ideal S16384x1024 .bf16 := m ((c : Thread nD τ).loc main_arg0)
abbrev argW : FVec Ideal S2816x1024 .bf16 := m ((c : Thread nD τ).loc main_arg1)
abbrev argA : FVec Ideal S16384x2816 .bf16 := m ((c : Thread nD τ).loc main_arg2)
abbrev argB : FVec Ideal S16384x2816 .bf16 := m ((c : Thread nD τ).loc main_arg3)

theorem idx0_0 : ∀ t : Fin grid0.N, win0_0.index t = ![t.val / 2, 0] := by decide +kernel
theorem idx0_1 : ∀ t : Fin grid0.N, win0_1.index t = ![t.val % 2, 0] := by decide +kernel
theorem idx0_2 : ∀ t : Fin grid0.N, win0_2.index t = ![t.val / 2, t.val % 2] := by decide +kernel
theorem idx0_3 : ∀ t : Fin grid0.N, win0_3.index t = ![t.val / 2, t.val % 2] := by decide +kernel
theorem idx0_4 : ∀ t : Fin grid0.N, win0_4.index t = ![t.val / 2, t.val % 2] := by decide +kernel
theorem idx0_5 : ∀ t : Fin grid0.N, win0_5.index t = ![t.val / 2, t.val % 2] := by decide +kernel

theorem blockD (t : Fin cfg0.N) (r : Fin 512) (k : Fin 1024) : iblk m c 0 t (ix2 r k) = at2 (argD m c) (512 * (t.val / 2) + r.val) k.val := by
  refine at2_of (argD m c) (((cfg0.win 0).blk t).view.emb (ix2 r k)) ?_ ?_
  · blk_simp [idx0_0 t]; omega
  · blk_simp [idx0_0 t]

theorem blockW (t : Fin cfg0.N) (l : Fin 1408) (k : Fin 1024) : iblk m c 1 t (ix2 l k) = at2 (argW m c) (1408 * (t.val % 2) + l.val) k.val := by
  refine at2_of (argW m c) (((cfg0.win 1).blk t).view.emb (ix2 l k)) ?_ ?_
  · blk_simp [idx0_1 t]; omega
  · blk_simp [idx0_1 t]

theorem blockA (t : Fin cfg0.N) (r : Fin 512) (l : Fin 1408) :
    iblk m c 2 t (ix2 r l) = at2 (argA m c) (512 * (t.val / 2) + r.val) (1408 * (t.val % 2) + l.val) := by
  refine at2_of (argA m c) (((cfg0.win 2).blk t).view.emb (ix2 r l)) ?_ ?_
  · blk_simp [idx0_2 t]; omega
  · blk_simp [idx0_2 t]; omega

theorem blockB (t : Fin cfg0.N) (r : Fin 512) (l : Fin 1408) :
    iblk m c 3 t (ix2 r l) = at2 (argB m c) (512 * (t.val / 2) + r.val) (1408 * (t.val % 2) + l.val) := by
  refine at2_of (argB m c) (((cfg0.win 3).blk t).view.emb (ix2 r l)) ?_ ?_
  · blk_simp [idx0_3 t]; omega
  · blk_simp [idx0_3 t]; omega

/-- The gradient of the gated activation: half the product of a row of the gradient with a row of the weight. -/
def back (d : FVec Ideal S16384x1024 .bf16) (w : FVec Ideal S2816x1024 .bf16) (i j : ℕ) : EReal :=
  (∑ k ∈ Finset.range 1024, at2 d i k * at2 w j k) * ((1 / 2 : ℝ) : EReal)

/-- The gradients of the gate's two inputs, from its output's. -/
def gradA (g a b : EReal) : EReal := g * b * (logistic a + a * logistic a * (1 - logistic a))
def gradB (g a : EReal) : EReal := g * (a * logistic a)

theorem pay1_val (t : Fin cfg0.N) (r : Fin 512) (l : Fin 1408) :
    k0_pay1 (iblk m c 0 t) (iblk m c 1 t) (ix2 r l) = back (argD m c) (argW m c) (512 * (t.val / 2) + r.val) (1408 * (t.val % 2) + l.val) := by
  unfold back
  rw [Finset.sum_range, ← half_val]
  pointwise [k0_pay1]
  refine congrArg (· * _) (Finset.sum_congr rfl fun k _ => ?_)
  rw [← blockD, ← blockW]

theorem pay4_val (d : Vec Ideal S512x1024 .bf16) (w : Vec Ideal S1408x1024 .bf16) (u v : Vec Ideal S512x1408 .bf16) (y : S512x1408.Idx) :
    k0_pay4 d w u v y = gradA (k0_pay1 d w y) (u y) (v y) := by
  unfold gradA logistic k0_pay4 k0_pay3 k0_pay2
  generalize k0_pay1 d w = g
  pointwise
  rw [zero_sub]

theorem pay5_val (d : Vec Ideal S512x1024 .bf16) (w : Vec Ideal S1408x1024 .bf16) (u : Vec Ideal S512x1408 .bf16) (y : S512x1408.Idx) :
    k0_pay5 d w u y = gradB (k0_pay1 d w y) (u y) := by
  unfold gradB logistic k0_pay5 k0_pay3 k0_pay2
  generalize k0_pay1 d w = g
  pointwise
  rw [zero_sub]

/-! ## What a point leaves in its blocks -/

theorem after_a (t : Fin cfg0.N) (r : Fin 512) (l : Fin 1408) :
    (dats m 0 c).after 4 t (ix2 r l) = gradA (back (argD m c) (argW m c) (512 * (t.val / 2) + r.val) (1408 * (t.val % 2) + l.val))
      (at2 (argA m c) (512 * (t.val / 2) + r.val) (1408 * (t.val % 2) + l.val)) (at2 (argB m c) (512 * (t.val / 2) + r.val) (1408 * (t.val % 2) + l.val)) := by
  rw [after0_4, out0_4, View.canon_unit_zero hz]
  simp only [View.ld_unit_zero (S := S512x1024) hz, View.ld_unit_zero (S := S1408x1024) hz, View.ld_unit_zero (S := S512x1408) hz]
  rw [← pay1_val, ← blockA, ← blockB]
  exact pay4_val _ _ _ _ _

theorem after_b (t : Fin cfg0.N) (r : Fin 512) (l : Fin 1408) :
    (dats m 0 c).after 5 t (ix2 r l) = gradB (back (argD m c) (argW m c) (512 * (t.val / 2) + r.val) (1408 * (t.val % 2) + l.val))
      (at2 (argA m c) (512 * (t.val / 2) + r.val) (1408 * (t.val % 2) + l.val)) := by
  rw [after0_5, out0_5, View.canon_unit_zero hz]
  simp only [View.ld_unit_zero (S := S512x1024) hz, View.ld_unit_zero (S := S1408x1024) hz, View.ld_unit_zero (S := S512x1408) hz]
  rw [← pay1_val, ← blockA]
  exact pay5_val _ _ _ _

/-! ## The results -/

theorem a_val : (dats m 0 c).arrAt 4 cfg0.N = fun y => gradA (back (argD m c) (argW m c) (y 0).val (y 1).val)
    (at2 (argA m c) (y 0).val (y 1).val) (at2 (argB m c) (y 0).val (y 1).val) := by
  refine (dats m 0 c).arrAt_eq_of_covers 4 _ (by decide +kernel) fun t hf y => ?_
  blk_simp
  rw [idx0_4]
  obtain ⟨r, l, rfl⟩ : ∃ (r : Fin 512) (l : Fin 1408), y = (ix2 r l : S512x1408.Idx) := ⟨y 0, y 1, (ix2_eta (n0 := 512) (n1 := 1408) y).symm⟩
  refine (after_a m c t r l).trans ?_
  simp only [Matrix.cons_val_zero, Matrix.cons_val_one, Nat.mul_comm]
  rfl

theorem b_val : (dats m 0 c).arrAt 5 cfg0.N = fun y => gradB (back (argD m c) (argW m c) (y 0).val (y 1).val) (at2 (argA m c) (y 0).val (y 1).val) := by
  refine (dats m 0 c).arrAt_eq_of_covers 5 _ (by decide +kernel) fun t hf y => ?_
  blk_simp
  rw [idx0_5]
  obtain ⟨r, l, rfl⟩ : ∃ (r : Fin 512) (l : Fin 1408), y = (ix2 r l : S512x1408.Idx) := ⟨y 0, y 1, (ix2_eta (n0 := 512) (n1 := 1408) y).symm⟩
  refine (after_b m c t r l).trans ?_
  simp only [Matrix.cons_val_zero, Matrix.cons_val_one, Nat.mul_comm]
  rfl

end Cert.Proof.Dact

end
-- ==== Proof.DactAlgebraic.lean ====
/-
  The gate's gradient's call and its reference end with the same arrays, where the gradient, the weight and the gate's
  second input are real numbers.
-/
module

public import proofs.«01_k».proof.Proof.DactValue
public import proofs.«01_k».proof.Proof.Gen.Pre_finite_gate
public import proofs.«01_k».proof.Proof.Gen.DactReferenceIdeal.Read
public import proofs.«01_k».proof.Defs

@[expose] public section

set_option maxRecDepth 16384

noncomputable section

namespace Cert.Proof.Dact

open Idealize.ShloMosaic Idealize.SL.Sem

section

open Cert.Pre_finite_gate Cert.Pre_finite_gate.Gen

variable {d : FVec Ideal S16384x1024 .bf16} {w : FVec Ideal S2816x1024 .bf16} {a b : FVec Ideal S16384x2816 .bf16}

/-- What the precondition says. -/
theorem finite_parts (h : Cert.Pre_finite_gate.fn (F := Ideal) d w a b = fun _ => 1#1) :
    (∀ y, d y = ((d y).toReal : EReal)) ∧ (∀ y, w y = ((w y).toReal : EReal)) ∧ ∀ y, b y = ((b y).toReal : EReal) := by
  haveI : Subsingleton S_.Idx := ⟨fun a b => funext fun i => i.elim0⟩
  have e := IntOp.andi_eq_one.1 (congrFun h (Shape.Idx.first h_S_))
  have e' := IntOp.andi_eq_one.1 e.1
  exact ⟨fun y => toReal_of_lt (Host.reduce_andi_all _ _ _ _ _ e'.1 y), fun y => toReal_of_lt (Host.reduce_andi_all _ _ _ _ _ e'.2 y),
    fun y => toReal_of_lt (Host.reduce_andi_all _ _ _ _ _ e.2 y)⟩

end

section

open Cert.DactReferenceIdeal Cert.DactReferenceIdeal.Read

variable (d : FVec Ideal S16384x1024 .bf16) (w : FVec Ideal S2816x1024 .bf16) (a b : FVec Ideal S16384x2816 .bf16) (y : S16384x2816.Idx)

theorem reference_back : val_main_v11 (F := Ideal) d w y = back d w (y 0).val (y 1).val := by
  unfold back
  rw [val_main_v11_apply, Finset.sum_range, mul_comm, half_sum]
  refine Finset.sum_congr rfl fun k _ => ?_
  rw [val_main_v10_apply, val_main_v9_apply, val_main_v0_apply, val_main_v1_apply, ← mul_assoc, ← half_val]
  exact congrArg₂ (· * ·) (congrArg _ (at2_of d _ rfl rfl)) (at2_of w _ rfl rfl)

theorem reference_logistic : val_main_v4_2 (F := Ideal) a y = logistic (at2 a (y 0).val (y 1).val) := by
  rw [val_main_v4_2_apply, val_main_call0_v4_apply, val_main_call0_v3_apply, val_main_call0_v2_apply, val_main_call0_v1_apply, val_main_call0_v0_apply,
    val_main_v2_apply, ← at2_of a y rfl rfl]
  unfold logistic
  rw [← one_val]
  rfl

theorem reference_b : val_main_v16 (F := Ideal) d w a y = gradB (back d w (y 0).val (y 1).val) (at2 a (y 0).val (y 1).val) := by
  unfold gradB
  rw [val_main_v16_apply, val_main_v12_apply, val_main_v4_0_apply, reference_back, reference_logistic, val_main_v2_apply, mul_comm, ← at2_of a y rfl rfl]
  rfl

theorem reference_a (hd : ∀ y, d y = ((d y).toReal : EReal)) (hw : ∀ y, w y = ((w y).toReal : EReal)) (hb : ∀ y, b y = ((b y).toReal : EReal)) :
    val_main_v15 (F := Ideal) d w a b y
      = gradA (back d w (y 0).val (y 1).val) (at2 a (y 0).val (y 1).val) (at2 b (y 0).val (y 1).val) := by
  unfold gradA
  rw [val_main_v15_apply, val_main_v14_apply, val_main_call1_v1_apply, val_main_call1_v2_apply, val_main_call1_v0_apply, val_main_v13_apply,
    val_main_v4_1_apply, val_main_call0_v7_apply, val_main_call0_v6_apply, val_main_v2_apply, val_main_v3_apply, reference_back, reference_logistic,
    ← at2_of a y rfl rfl, at2_of b y rfl rfl]
  refine Eq.trans ?_ (slope_forms (isReal_mul (isReal_mul (isReal_sum fun k => isReal_mul (isReal_at2 hd _ k) (isReal_at2 hw _ k)) ⟨_, rfl⟩)
    (isReal_at2 hb (y 0).val (y 1).val)) (a y)).symm
  rw [← one_val]
  rfl

end

theorem algebraic : Cert.algebraic_DactIdeal_DactReferenceIdeal_pre_finite_gate := fun m g m' g' hpre hargs => by
  refine ⟨fun c y => gradA (back (argD m c) (argW m c) (y 0).val (y 1).val) (at2 (argA m c) (y 0).val (y 1).val) (at2 (argB m c) (y 0).val (y 1).val),
    fun c y => gradB (back (argD m c) (argW m c) (y 0).val (y 1).val) (at2 (argA m c) (y 0).val (y 1).val), ?_, ?_⟩
  · exact (θ_run Cert.DactIdeal.defs _ _).mono (fun r h c => ⟨(h c).1.trans (a_val m c), (h c).2.1.trans (b_val m c), (h c).2.2⟩)
      (Cert.DactIdeal.Value.run_blocks (F := Ideal) m g)
  · refine (θ_run Cert.DactReferenceIdeal.defs _ _).mono (fun r h c => ⟨(h c).1.trans ?_, (h c).2.1.trans ?_, (h c).2.2⟩)
      (Cert.DactReferenceIdeal.Value.run (F := Ideal) m' g')
    · obtain ⟨hd, hw, hb⟩ := finite_parts (hpre c)
      rw [Cert.DactReferenceIdeal.Read.val_main_v15_eq, (hargs c).1, (hargs c).2.1, (hargs c).2.2.1, (hargs c).2.2.2]
      funext y
      exact reference_a _ _ _ _ y hd hw hb
    · rw [Cert.DactReferenceIdeal.Read.val_main_v16_eq, (hargs c).1, (hargs c).2.1, (hargs c).2.2.1]
      funext y
      exact reference_b _ _ _ y

end Cert.Proof.Dact

end
-- ==== Proof.DwValue.lean ====
/-
  The weight gradient of the feed-forward half step's first product: the call adds up, block of 2048 tokens by block, the
  product of the normalized inputs' columns with the gradient's columns.
-/
module

public import proofs.«01_k».proof.Proof.Entries
public import proofs.«01_k».proof.Proof.Gen.DwIdeal.Value
public import Idealize.ShloMosaic.Lib.Tactic

@[expose] public section

set_option maxRecDepth 16384

noncomputable section

namespace Cert.Proof.Dw

open Cert.DwIdeal Cert.DwIdeal.Gen
open Idealize.ShloMosaic
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S1024x1408 .f32) (h5 : a5.IsWhole)
  (a6 : Memref sig .tc .vmem S1024x1408 .f32) (h6 : a6.IsWhole) (x : Vec F S2048x1024 .bf16) (y : Vec F S2048x1408 .bf16)
  (s : Vec F S1024x1408 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S2048x1024) hz, View.ld_unit_zero (S := S2048x1408) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S2048x1024) hz,
    View.ld_unit_zero (S := S2048x1408) hz, View.ld_unit_zero (S := S1024x1408) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1408) hz, View.ld_unit_zero (S := S1024x1408) hz]

/-- What the last block of tokens writes out: the finished sum. -/
theorem written_last (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x1408) _ hz, View.readAt_eq_ld, h3.read_unread, h4.read_unread, h6.read_unread,
    View.ld_unit_zero (S := S2048x1024) hz, View.ld_unit_zero (S := S2048x1408) hz, View.ld_unit_zero (S := S1024x1408) hz]

end

/-! ## The sums -/

variable (m : (ℓ : Loc nD τ sig) → Buf (Elt Ideal) ℓ) (c : Dev nD)

/-- The call's arguments. -/
abbrev argH : FVec Ideal S16384x1024 .bf16 := m ((c : Thread nD τ).loc main_arg0)
abbrev argD : FVec Ideal S16384x2816 .bf16 := m ((c : Thread nD τ).loc main_arg1)

theorem idx0_0 : ∀ t : Fin grid0.N, win0_0.index t = ![t.val % 8, 0] := by decide +kernel
theorem idx0_1 : ∀ t : Fin grid0.N, win0_1.index t = ![t.val % 8, t.val / 8] := by decide +kernel

theorem blockH (t : Fin cfg0.N) (k : Fin 2048) (r : Fin 1024) : iblk m c 0 t (ix2 k r) = at2 (argH m c) (2048 * (t.val % 8) + k.val) r.val := by
  refine at2_of (argH m c) (((cfg0.win 0).blk t).view.emb (ix2 k r)) ?_ ?_
  · blk_simp [idx0_0 t]; omega
  · blk_simp [idx0_0 t]

theorem blockD (t : Fin cfg0.N) (k : Fin 2048) (l : Fin 1408) :
    iblk m c 1 t (ix2 k l) = at2 (argD m c) (2048 * (t.val % 8) + k.val) (1408 * (t.val / 8) + l.val) := by
  refine at2_of (argD m c) (((cfg0.win 1).blk t).view.emb (ix2 k l)) ?_ ?_
  · blk_simp [idx0_1 t]; omega
  · blk_simp [idx0_1 t]; omega

/-- One entry of the product, over the first `n` tokens. -/
def part (n i j : ℕ) : EReal := ∑ k ∈ Finset.range n, at2 (argH m c) k i * at2 (argD m c) k j

/-- A point adds its block of tokens. -/
theorem step_val (t : Fin cfg0.N) (s : Vec Ideal S1024x1408 .f32) (r : Fin 1024) (l : Fin 1408)
    (hs : s (ix2 r l) = part m c (2048 * (t.val % 8)) r.val (1408 * (t.val / 8) + l.val)) :
    k0_pay2 s (iblk m c 0 t) (iblk m c 1 t) (ix2 r l) = part m c (2048 * (t.val % 8 + 1)) r.val (1408 * (t.val / 8) + l.val) := by
  unfold part at hs ⊢
  rw [sum_block, ← hs]
  pointwise [k0_pay2]
  congr 1
  exact Finset.sum_congr rfl fun k _ => by rw [← blockH, ← blockD]

theorem first_zero (r : Fin 1024) (l : Fin 1408) : k0_pay1 (F := Ideal) (ix2 r l) = 0 := by
  pointwise [k0_pay1]

/-- What a point leaves in the running sum. -/
theorem scratch_val : ∀ (n : ℕ) (hn : n < cfg0.N) (r : Fin 1024) (l : Fin 1408),
    (outsAt0 m c n hn).2 (ix2 r l) = part m c (2048 * (n % 8 + 1)) r.val (1408 * (n / 8) + l.val)
  | n, hn, r, l => by
    have hN : n < 16 := lt_of_lt_of_eq hn (show cfg0.N = 16 from N_0)
    by_cases e0 : n % 8 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 8 + 1 = n % 8 by omega, show (n - 1) / 8 = n / 8 by omega] at ih
      by_cases e1 : n % 8 = 7
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: the product over all the tokens. -/
theorem written_val (n : ℕ) (hn : n < cfg0.N) (e1 : n % 8 = 7) (r : Fin 1024) (l : Fin 1408) :
    (outsAt0 m c n hn).1 (ix2 r l) = part m c 16384 r.val (1408 * (n / 8) + l.val) := by
  rw [outsAt0_C m c ⟨n, hn⟩ (by dsimp only; omega) e1]
  dsimp only
  rw [written_last]
  have ih := scratch_val m c (n - 1) (by omega) r l
  rw [show (n - 1) % 8 + 1 = n % 8 by omega, show (n - 1) / 8 = n / 8 by omega] at ih
  refine (step_val m c ⟨n, hn⟩ _ r l ih).trans ?_
  dsimp only
  rw [e1]

/-- The call's result. -/
theorem result_val : Cert.DwIdeal.Value.G2 m c = fun y => part m c 16384 (y 0).val (y 1).val := by
  funext y
  have y0 : (y 0).val < 1024 := (y 0).isLt
  have y1 : (y 1).val < 2816 := (y 1).isLt
  have hp : Cert.DwIdeal.Value.pt2Of y = 8 * ((y 1).val / 1408) + 7 := by
    show 8 * (2 * ((y 0).val / 1024 - 0) + 1 * ((y 1).val / 1408 - 0)) + 7 = _
    omega
  have hlt : Cert.DwIdeal.Value.pt2Of y < cfg0.N := by rw [hp, show cfg0.N = 16 from N_0]; omega
  have hl : Cert.DwIdeal.Value.loc2Of y = ix2 ⟨(y 0).val % 1024, Nat.mod_lt _ (by decide)⟩ ⟨(y 1).val % 1408, Nat.mod_lt _ (by decide)⟩ :=
    funext fun a => match a with | ⟨0, _⟩ => rfl | ⟨1, _⟩ => rfl
  unfold Cert.DwIdeal.Value.G2
  rw [dif_pos hlt, ← Cert.DwIdeal.Value.outsAt0_sweep, hl]
  refine (written_val m c _ hlt (by omega) _ _).trans ?_
  dsimp only
  rw [show (y 0).val % 1024 = (y 0).val by omega, show 1408 * (Cert.DwIdeal.Value.pt2Of y / 8) + (y 1).val % 1408 = (y 1).val by omega]

end Cert.Proof.Dw

end
-- ==== Proof.DwAlgebraic.lean ====
/-
  The weight gradient's call and its reference end with the same product.
-/
module

public import proofs.«01_k».proof.Proof.DwValue
public import proofs.«01_k».proof.Proof.Gen.DwReferenceIdeal.Read
public import proofs.«01_k».proof.Defs

@[expose] public section

set_option maxRecDepth 16384

noncomputable section

namespace Cert.Proof.Dw

open Idealize.ShloMosaic Idealize.SL.Sem
open Cert.DwReferenceIdeal.Read

/-- The reference's result at an entry. -/
theorem reference_val (x : FVec Ideal Cert.DwReferenceIdeal.S16384x1024 .bf16) (d : FVec Ideal Cert.DwReferenceIdeal.S16384x2816 .bf16)
    (y : Cert.DwReferenceIdeal.S1024x2816.Idx) :
    val_main_v5 (F := Ideal) x d y = ∑ k ∈ Finset.range 16384, at2 x k (y 0).val * at2 d k (y 1).val := by
  rw [val_main_v5_apply, val_main_v4_apply, Finset.sum_range]
  refine Finset.sum_congr rfl fun k _ => ?_
  rw [mul_comm, val_main_v0_apply, val_main_v1_apply]
  exact congrArg₂ (· * ·) (at2_of x _ rfl rfl) (at2_of d _ rfl rfl)

theorem algebraic : Cert.algebraic_DwIdeal_DwReferenceIdeal := fun m g m' g' _ hargs => by
  refine ⟨fun c y => part m c 16384 (y 0).val (y 1).val, ?_, ?_⟩
  · exact (θ_run Cert.DwIdeal.defs _ _).mono (fun r h c => ⟨(h c).1.trans (result_val m c), (h c).2⟩) (Cert.DwIdeal.Value.run (F := Ideal) m g)
  · refine (θ_run Cert.DwReferenceIdeal.defs _ _).mono (fun r h c => ⟨(h c).1.trans ?_, (h c).2⟩) (Cert.DwReferenceIdeal.Value.run (F := Ideal) m' g')
    rw [val_main_v5_eq, (hargs c).1, (hargs c).2]
    funext y
    exact reference_val _ _ y

end Cert.Proof.Dw

end
-- ==== Proof.Dw2Value.lean ====
/-
  The weight gradient of the feed-forward half step's second product: the call adds up, block of 2048 tokens by block, the
  product of the activations' columns with the gradient's columns, and halves the sum when it is complete.
-/
module

public import proofs.«01_k».proof.Proof.Entries
public import proofs.«01_k».proof.Proof.Gen.Dw2Ideal.Value
public import Idealize.ShloMosaic.Lib.Tactic

@[expose] public section

set_option maxRecDepth 16384

noncomputable section

namespace Cert.Proof.Dw2

open Cert.Dw2Ideal Cert.Dw2Ideal.Gen
open Idealize.ShloMosaic
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .f32) (h5 : a5.IsWhole)
  (a6 : Memref sig .tc .vmem S1408x1024 .f32) (h6 : a6.IsWhole) (x : Vec F S2048x1408 .bf16) (y : Vec F S2048x1024 .bf16)
  (s : Vec F S1408x1024 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S2048x1408) hz, View.ld_unit_zero (S := S2048x1024) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S2048x1408) hz,
    View.ld_unit_zero (S := S2048x1024) hz, View.ld_unit_zero (S := S1408x1024) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S2048x1408) hz,
    View.ld_unit_zero (S := S2048x1024) hz, View.ld_unit_zero (S := S1408x1024) hz]

/-- What the last block of tokens writes out: half the finished sum. -/
theorem written_last (hc0 : ¬cond0_0 i) (hc1 : cond0_1 i) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1408x1024) _ hz, View.readAt_eq_ld, h3.read_unread, h4.read_unread, h6.read_unread,
    View.ld_unit_zero (S := S2048x1408) hz, View.ld_unit_zero (S := S2048x1024) hz, View.ld_unit_zero (S := S1408x1024) hz]

end

/-! ## The sums -/

variable (m : (ℓ : Loc nD τ sig) → Buf (Elt Ideal) ℓ) (c : Dev nD)

/-- The call's arguments. -/
abbrev argF : FVec Ideal S16384x2816 .bf16 := m ((c : Thread nD τ).loc main_arg0)
abbrev argD : FVec Ideal S16384x1024 .bf16 := m ((c : Thread nD τ).loc main_arg1)

theorem idx0_0 : ∀ t : Fin grid0.N, win0_0.index t = ![t.val % 8, t.val / 8] := by decide +kernel
theorem idx0_1 : ∀ t : Fin grid0.N, win0_1.index t = ![t.val % 8, 0] := by decide +kernel

theorem blockF (t : Fin cfg0.N) (k : Fin 2048) (r : Fin 1408) :
    iblk m c 0 t (ix2 k r) = at2 (argF m c) (2048 * (t.val % 8) + k.val) (1408 * (t.val / 8) + r.val) := by
  refine at2_of (argF m c) (((cfg0.win 0).blk t).view.emb (ix2 k r)) ?_ ?_
  · blk_simp [idx0_0 t]; omega
  · blk_simp [idx0_0 t]; omega

theorem blockD (t : Fin cfg0.N) (k : Fin 2048) (l : Fin 1024) : iblk m c 1 t (ix2 k l) = at2 (argD m c) (2048 * (t.val % 8) + k.val) l.val := by
  refine at2_of (argD m c) (((cfg0.win 1).blk t).view.emb (ix2 k l)) ?_ ?_
  · blk_simp [idx0_1 t]; omega
  · blk_simp [idx0_1 t]

/-- One entry of the product, over the first `n` tokens. -/
def part (n i j : ℕ) : EReal := ∑ k ∈ Finset.range n, at2 (argF m c) k i * at2 (argD m c) k j

/-- A point adds its block of tokens. -/
theorem step_val (t : Fin cfg0.N) (s : Vec Ideal S1408x1024 .f32) (r : Fin 1408) (l : Fin 1024)
    (hs : s (ix2 r l) = part m c (2048 * (t.val % 8)) (1408 * (t.val / 8) + r.val) l.val) :
    k0_pay2 s (iblk m c 0 t) (iblk m c 1 t) (ix2 r l) = part m c (2048 * (t.val % 8 + 1)) (1408 * (t.val / 8) + r.val) l.val := by
  unfold part at hs ⊢
  rw [sum_block, ← hs]
  pointwise [k0_pay2]
  congr 1
  exact Finset.sum_congr rfl fun k _ => by rw [← blockF, ← blockD]

theorem first_zero (r : Fin 1408) (l : Fin 1024) : k0_pay1 (F := Ideal) (ix2 r l) = 0 := by
  pointwise [k0_pay1]

theorem half_written (s : Vec Ideal S1408x1024 .f32) (r : Fin 1408) (l : Fin 1024) : k0_pay3 s (ix2 r l) = s (ix2 r l) * ((1 / 2 : ℝ) : EReal) := by
  rw [← half_val]
  rfl

/-- What a point leaves in the running sum. -/
theorem scratch_val : ∀ (n : ℕ) (hn : n < cfg0.N) (r : Fin 1408) (l : Fin 1024),
    (outsAt0 m c n hn).2 (ix2 r l) = part m c (2048 * (n % 8 + 1)) (1408 * (n / 8) + r.val) l.val
  | n, hn, r, l => by
    have hN : n < 16 := lt_of_lt_of_eq hn (show cfg0.N = 16 from N_0)
    by_cases e0 : n % 8 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 8 + 1 = n % 8 by omega, show (n - 1) / 8 = n / 8 by omega] at ih
      by_cases e1 : n % 8 = 7
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: half the product over all the tokens. -/
theorem written_val (n : ℕ) (hn : n < cfg0.N) (e1 : n % 8 = 7) (r : Fin 1408) (l : Fin 1024) :
    (outsAt0 m c n hn).1 (ix2 r l) = part m c 16384 (1408 * (n / 8) + r.val) l.val * ((1 / 2 : ℝ) : EReal) := by
  rw [outsAt0_C m c ⟨n, hn⟩ (by dsimp only; omega) e1]
  dsimp only
  rw [written_last, half_written]
  have ih := scratch_val m c (n - 1) (by omega) r l
  rw [show (n - 1) % 8 + 1 = n % 8 by omega, show (n - 1) / 8 = n / 8 by omega] at ih
  refine congrArg (· * _) ((step_val m c ⟨n, hn⟩ _ r l ih).trans ?_)
  dsimp only
  rw [e1]

/-- The call's result. -/
theorem result_val : Cert.Dw2Ideal.Value.G2 m c = fun y => part m c 16384 (y 0).val (y 1).val * ((1 / 2 : ℝ) : EReal) := by
  funext y
  have y0 : (y 0).val < 2816 := (y 0).isLt
  have y1 : (y 1).val < 1024 := (y 1).isLt
  have hp : Cert.Dw2Ideal.Value.pt2Of y = 8 * ((y 0).val / 1408) + 7 := by
    show 8 * (1 * ((y 0).val / 1408 - 0) + 1 * ((y 1).val / 1024 - 0)) + 7 = _
    omega
  have hlt : Cert.Dw2Ideal.Value.pt2Of y < cfg0.N := by rw [hp, show cfg0.N = 16 from N_0]; omega
  have hl : Cert.Dw2Ideal.Value.loc2Of y = ix2 ⟨(y 0).val % 1408, Nat.mod_lt _ (by decide)⟩ ⟨(y 1).val % 1024, Nat.mod_lt _ (by decide)⟩ :=
    funext fun a => match a with | ⟨0, _⟩ => rfl | ⟨1, _⟩ => rfl
  unfold Cert.Dw2Ideal.Value.G2
  rw [dif_pos hlt, ← Cert.Dw2Ideal.Value.outsAt0_sweep, hl]
  refine (written_val m c _ hlt (by omega) _ _).trans ?_
  dsimp only
  rw [show (y 1).val % 1024 = (y 1).val by omega, show 1408 * (Cert.Dw2Ideal.Value.pt2Of y / 8) + (y 0).val % 1408 = (y 0).val by omega]

end Cert.Proof.Dw2

end
-- ==== Proof.Dw2Algebraic.lean ====
/-
  The second weight gradient's call and its reference end with the same product.
-/
module

public import proofs.«01_k».proof.Proof.Dw2Value
public import proofs.«01_k».proof.Proof.Gen.Dw2ReferenceIdeal.Read
public import proofs.«01_k».proof.Defs

@[expose] public section

set_option maxRecDepth 16384

noncomputable section

namespace Cert.Proof.Dw2

open Idealize.ShloMosaic Idealize.SL.Sem
open Cert.Dw2ReferenceIdeal.Read

/-- The reference's result at an entry: it halves the gradient before the product, the call halves the product. -/
theorem reference_val (x : FVec Ideal Cert.Dw2ReferenceIdeal.S16384x2816 .bf16) (d : FVec Ideal Cert.Dw2ReferenceIdeal.S16384x1024 .bf16)
    (y : Cert.Dw2ReferenceIdeal.S2816x1024.Idx) :
    val_main_v9 (F := Ideal) x d y = (∑ k ∈ Finset.range 16384, at2 x k (y 0).val * at2 d k (y 1).val) * ((1 / 2 : ℝ) : EReal) := by
  rw [val_main_v9_apply, val_main_v8_apply, Finset.sum_range, mul_comm, half_sum]
  refine Finset.sum_congr rfl fun k _ => ?_
  rw [val_main_v7_apply, val_main_v6_apply, val_main_v0_apply, val_main_v1_apply, mul_comm (at2 x _ _), ← mul_assoc, ← half_val]
  exact congrArg₂ (· * ·) (congrArg _ (at2_of d _ rfl rfl)) (at2_of x _ rfl rfl)

theorem algebraic : Cert.algebraic_Dw2Ideal_Dw2ReferenceIdeal := fun m g m' g' _ hargs => by
  refine ⟨fun c y => part m c 16384 (y 0).val (y 1).val * ((1 / 2 : ℝ) : EReal), ?_, ?_⟩
  · exact (θ_run Cert.Dw2Ideal.defs _ _).mono (fun r h c => ⟨(h c).1.trans (result_val m c), (h c).2⟩) (Cert.Dw2Ideal.Value.run (F := Ideal) m g)
  · refine (θ_run Cert.Dw2ReferenceIdeal.defs _ _).mono (fun r h c => ⟨(h c).1.trans ?_, (h c).2⟩) (Cert.Dw2ReferenceIdeal.Value.run (F := Ideal) m' g')
    rw [val_main_v9_eq, (hargs c).1, (hargs c).2]
    funext y
    exact reference_val _ _ y

end Cert.Proof.Dw2

end
-- ==== Proof.UpValue.lean ====
/-
  The feed-forward half step's first two products and their activation: a grid point computes a block of 512 tokens and
  1408 columns from the block's whole rows and columns.
-/
module

public import proofs.«01_k».proof.Proof.Entries
public import proofs.«01_k».proof.Proof.Gen.UpIdeal.Value
public import Idealize.ShloMosaic.Lib.Tactic

@[expose] public section

set_option maxRecDepth 16384

noncomputable section

namespace Cert.Proof.Up

open Cert.UpIdeal Cert.UpIdeal.Gen
open Idealize.ShloMosaic
open Idealize.ShloMosaic.TcCoe

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S16384x1024 .bf16 := m ((c : Thread nD τ).loc main_arg0)
abbrev argA : FVec Ideal S1024x2816 .bf16 := m ((c : Thread nD τ).loc main_arg1)
abbrev argB : FVec Ideal S1024x2816 .bf16 := m ((c : Thread nD τ).loc main_arg2)

theorem idx0_0 : ∀ t : Fin grid0.N, win0_0.index t = ![t.val / 2, 0] := by decide +kernel
theorem idx0_1 : ∀ t : Fin grid0.N, win0_1.index t = ![0, t.val % 2] := by decide +kernel
theorem idx0_2 : ∀ t : Fin grid0.N, win0_2.index t = ![0, t.val % 2] := by decide +kernel
theorem idx0_3 : ∀ t : Fin grid0.N, win0_3.index t = ![t.val / 2, t.val % 2] := by decide +kernel
theorem idx0_4 : ∀ t : Fin grid0.N, win0_4.index t = ![t.val / 2, t.val % 2] := by decide +kernel
theorem idx0_5 : ∀ t : Fin grid0.N, win0_5.index t = ![t.val / 2, t.val % 2] := by decide +kernel

theorem blockH (t : Fin cfg0.N) (r : Fin 512) (k : Fin 1024) : iblk m c 0 t (ix2 r k) = at2 (argH m c) (512 * (t.val / 2) + r.val) k.val := by
  refine at2_of (argH m c) (((cfg0.win 0).blk t).view.emb (ix2 r k)) ?_ ?_
  · blk_simp [idx0_0 t]; omega
  · blk_simp [idx0_0 t]

theorem blockA (t : Fin cfg0.N) (k : Fin 1024) (l : Fin 1408) : iblk m c 1 t (ix2 k l) = at2 (argA m c) k.val (1408 * (t.val % 2) + l.val) := by
  refine at2_of (argA m c) (((cfg0.win 1).blk t).view.emb (ix2 k l)) ?_ ?_
  · blk_simp [idx0_1 t]
  · blk_simp [idx0_1 t]; omega

theorem blockB (t : Fin cfg0.N) (k : Fin 1024) (l : Fin 1408) : iblk m c 2 t (ix2 k l) = at2 (argB m c) k.val (1408 * (t.val % 2) + l.val) := by
  refine at2_of (argB m c) (((cfg0.win 2).blk t).view.emb (ix2 k l)) ?_ ?_
  · blk_simp [idx0_2 t]
  · blk_simp [idx0_2 t]; omega

/-- One entry of a product of rows of the tokens with columns of a weight. -/
def row (x : FVec Ideal S16384x1024 .bf16) (w : FVec Ideal S1024x2816 .bf16) (i j : ℕ) : EReal := ∑ k ∈ Finset.range 1024, at2 x i k * at2 w k j

theorem pay1_val (t : Fin cfg0.N) (r : Fin 512) (l : Fin 1408) :
    k0_pay1 (iblk m c 0 t) (iblk m c 1 t) (ix2 r l) = row (argH m c) (argA m c) (512 * (t.val / 2) + r.val) (1408 * (t.val % 2) + l.val) := by
  unfold row
  rw [Finset.sum_range]
  pointwise [k0_pay1]
  exact Finset.sum_congr rfl fun k _ => by rw [← blockH, ← blockA]

theorem pay2_val (t : Fin cfg0.N) (r : Fin 512) (l : Fin 1408) :
    k0_pay2 (iblk m c 0 t) (iblk m c 2 t) (ix2 r l) = row (argH m c) (argB m c) (512 * (t.val / 2) + r.val) (1408 * (t.val % 2) + l.val) := by
  unfold row
  rw [Finset.sum_range]
  pointwise [k0_pay2]
  exact Finset.sum_congr rfl fun k _ => by rw [← blockH, ← blockB]

/-- The activation: `a` times its logistic value, times `b`. -/
def act (a b : EReal) : EReal := a * Ideal.div 1 (1 + Ideal.exp (-a)) * b

theorem pay5_val (h : Vec Ideal S512x1024 .bf16) (u v : Vec Ideal S1024x1408 .bf16) (y : S512x1408.Idx) :
    k0_pay5 h u v y = act (k0_pay1 h u y) (k0_pay2 h v y) := by
  unfold act k0_pay5
  generalize k0_pay1 h u = a
  generalize k0_pay2 h v = b
  pointwise
  rw [zero_sub]

/-! ## What a point leaves in its blocks -/

theorem after_a (t : Fin cfg0.N) (r : Fin 512) (l : Fin 1408) :
    (dats m 0 c).after 3 t (ix2 r l) = row (argH m c) (argA m c) (512 * (t.val / 2) + r.val) (1408 * (t.val % 2) + l.val) := by
  rw [after0_3, out0_3, View.canon_unit_zero hz, View.ld_unit_zero (S := S512x1024) hz, View.ld_unit_zero (S := S1024x1408) hz]
  exact pay1_val m c t r l

theorem after_b (t : Fin cfg0.N) (r : Fin 512) (l : Fin 1408) :
    (dats m 0 c).after 4 t (ix2 r l) = row (argH m c) (argB m c) (512 * (t.val / 2) + r.val) (1408 * (t.val % 2) + l.val) := by
  rw [after0_4, out0_4, View.canon_unit_zero hz, View.ld_unit_zero (S := S512x1024) hz, View.ld_unit_zero (S := S1024x1408) hz]
  exact pay2_val m c t r l

theorem after_act (t : Fin cfg0.N) (r : Fin 512) (l : Fin 1408) :
    (dats m 0 c).after 5 t (ix2 r l) = act (row (argH m c) (argA m c) (512 * (t.val / 2) + r.val) (1408 * (t.val % 2) + l.val))
      (row (argH m c) (argB m c) (512 * (t.val / 2) + r.val) (1408 * (t.val % 2) + l.val)) := by
  rw [after0_5, out0_5, View.canon_unit_zero hz]
  simp only [View.ld_unit_zero (S := S512x1024) hz, View.ld_unit_zero (S := S1024x1408) hz]
  exact (pay5_val _ _ _ _).trans (congrArg₂ act (pay1_val m c t r l) (pay2_val m c t r l))

/-! ## The results -/

theorem a_val : (dats m 0 c).arrAt 3 cfg0.N = fun y => row (argH m c) (argA m c) (y 0).val (y 1).val := by
  refine (dats m 0 c).arrAt_eq_of_covers 3 _ (by decide +kernel) fun t hf y => ?_
  blk_simp
  rw [idx0_3]
  obtain ⟨r, l, rfl⟩ : ∃ (r : Fin 512) (l : Fin 1408), y = (ix2 r l : S512x1408.Idx) := ⟨y 0, y 1, (ix2_eta (n0 := 512) (n1 := 1408) y).symm⟩
  refine (after_a m c t r l).trans ?_
  simp only [Matrix.cons_val_zero, Matrix.cons_val_one, Nat.mul_comm]
  rfl

theorem b_val : (dats m 0 c).arrAt 4 cfg0.N = fun y => row (argH m c) (argB m c) (y 0).val (y 1).val := by
  refine (dats m 0 c).arrAt_eq_of_covers 4 _ (by decide +kernel) fun t hf y => ?_
  blk_simp
  rw [idx0_4]
  obtain ⟨r, l, rfl⟩ : ∃ (r : Fin 512) (l : Fin 1408), y = (ix2 r l : S512x1408.Idx) := ⟨y 0, y 1, (ix2_eta (n0 := 512) (n1 := 1408) y).symm⟩
  refine (after_b m c t r l).trans ?_
  simp only [Matrix.cons_val_zero, Matrix.cons_val_one, Nat.mul_comm]
  rfl

theorem act_val : (dats m 0 c).arrAt 5 cfg0.N = fun y => act (row (argH m c) (argA m c) (y 0).val (y 1).val) (row (argH m c) (argB m c) (y 0).val (y 1).val) := by
  refine (dats m 0 c).arrAt_eq_of_covers 5 _ (by decide +kernel) fun t hf y => ?_
  blk_simp
  rw [idx0_5]
  obtain ⟨r, l, rfl⟩ : ∃ (r : Fin 512) (l : Fin 1408), y = (ix2 r l : S512x1408.Idx) := ⟨y 0, y 1, (ix2_eta (n0 := 512) (n1 := 1408) y).symm⟩
  refine (after_act m c t r l).trans ?_
  simp only [Matrix.cons_val_zero, Matrix.cons_val_one, Nat.mul_comm]
  rfl

end Cert.Proof.Up

end
-- ==== Proof.UpAlgebraic.lean ====
/-
  The first two products' call and its reference end with the same arrays.
-/
module

public import proofs.«01_k».proof.Proof.UpValue
public import proofs.«01_k».proof.Proof.Gen.UpReferenceIdeal.Read
public import proofs.«01_k».proof.Defs

@[expose] public section

set_option maxRecDepth 16384

noncomputable section

namespace Cert.Proof.Up

open Idealize.ShloMosaic Idealize.SL.Sem
open Cert.UpReferenceIdeal Cert.UpReferenceIdeal.Read

section

variable (x : FVec Ideal S16384x1024 .bf16) (u v : FVec Ideal S1024x2816 .bf16) (y : S16384x2816.Idx)

theorem reference_row : val_main_v3 (F := Ideal) x u y = row x u (y 0).val (y 1).val := by
  unfold row
  rw [val_main_v3_apply, Finset.sum_range]
  refine Finset.sum_congr rfl fun k _ => ?_
  rw [val_main_v0_apply, val_main_v1_apply]
  exact congrArg₂ (· * ·) (at2_of x _ rfl rfl) (at2_of u _ rfl rfl)

theorem reference_row' : val_main_v4 (F := Ideal) x v y = row x v (y 0).val (y 1).val := by
  unfold row
  rw [val_main_v4_apply, Finset.sum_range]
  refine Finset.sum_congr rfl fun k _ => ?_
  rw [val_main_v0_apply, val_main_v2_apply]
  exact congrArg₂ (· * ·) (at2_of x _ rfl rfl) (at2_of v _ rfl rfl)

theorem reference_act : val_main_v9 (F := Ideal) x u v y = act (row x u (y 0).val (y 1).val) (row x v (y 0).val (y 1).val) := by
  rw [val_main_v9_apply, val_main_v8_apply, val_main_v7_apply, val_main_call0_v5_apply, val_main_call0_v4_apply, val_main_call0_v3_apply,
    val_main_call0_v2_apply, val_main_call0_v1_apply, val_main_call0_v0_apply, reference_row, reference_row']
  unfold act
  rw [← one_val]
  rfl

end

theorem algebraic : Cert.algebraic_UpIdeal_UpReferenceIdeal := fun m g m' g' _ hargs => by
  refine ⟨fun c y => row (argH m c) (argA m c) (y 0).val (y 1).val, fun c y => row (argH m c) (argB m c) (y 0).val (y 1).val,
    fun c y => act (row (argH m c) (argA m c) (y 0).val (y 1).val) (row (argH m c) (argB m c) (y 0).val (y 1).val), ?_, ?_⟩
  · exact (θ_run Cert.UpIdeal.defs _ _).mono (fun r h c => ⟨(h c).1.trans (a_val m c), (h c).2.1.trans (b_val m c), (h c).2.2.1.trans (act_val m c), (h c).2.2.2⟩)
      (Cert.UpIdeal.Value.run_blocks (F := Ideal) m g)
  · refine (θ_run Cert.UpReferenceIdeal.defs _ _).mono (fun r h c => ⟨(h c).1.trans ?_, (h c).2.1.trans ?_, (h c).2.2.1.trans ?_, (h c).2.2.2⟩)
      (Cert.UpReferenceIdeal.Value.run (F := Ideal) m' g')
    · rw [val_main_v5_eq, (hargs c).1, (hargs c).2.1]
      funext y
      exact reference_row _ _ y
    · rw [val_main_v6_eq, (hargs c).1, (hargs c).2.2]
      funext y
      exact reference_row' _ _ y
    · rw [val_main_v9_eq, (hargs c).1, (hargs c).2.1, (hargs c).2.2]
      funext y
      exact reference_act _ _ _ y

end Cert.Proof.Up

end
-- ==== Proof.DhRun.lean ====
/-
  The gradient of the half step's input: what a grid point leaves in its blocks, as the body's own operations.
-/
module

public import proofs.«01_k».proof.Proof.Gen.DhIdeal.Value
public import Idealize.ShloMosaic.Lib.Tactic

@[expose] public section

set_option maxRecDepth 16384

noncomputable section

namespace Cert.Proof.Dh

open Cert.DhIdeal Cert.DhIdeal.Gen
open Idealize.ShloMosaic
open Idealize.ShloMosaic.TcCoe

theorem hz : (![0, 0] : Fin 2 → Nat) = fun _ => 0 := funext fun a => by fin_cases a <;> rfl

variable {F : FTy → Type} [FloatOps F]
variable (c : Dev nD) (i : grid0.Coords) (a3 : Memref sig .tc .vmem S512x1408 .bf16) (h3 : a3.IsWhole)
  (a4 : Memref sig .tc .vmem S1024x1408 .bf16) (h4 : a4.IsWhole) (a5 : Memref sig .tc .vmem S512x1408 .bf16) (h5 : a5.IsWhole)
  (a6 : Memref sig .tc .vmem S1024x1408 .bf16) (h6 : a6.IsWhole) (a7 : Memref sig .tc .vmem S512x1024 .f32) (h7 : a7.IsWhole)
  (a8 : Memref sig .tc .vmem S512x1024 .f32) (h8 : a8.IsWhole) (a9 : Memref sig .tc .vmem S1x1024 .f32) (h9 : a9.IsWhole)
  (a10 : Memref sig .tc .vmem S512x1024 .f32) (h10 : a10.IsWhole) (a11 : Memref sig .tc .vmem S512x1024 .bf16) (h11 : a11.IsWhole)
  (a12 : Memref sig .tc .vmem S1x1024 .f32) (h12 : a12.IsWhole) (a13 : Memref sig .tc .vmem S512x1024 .f32) (h13 : a13.IsWhole)
  (x0 : Vec F S512x1408 .bf16) (x1 : Vec F S1024x1408 .bf16) (x2 : Vec F S512x1408 .bf16) (x3 : Vec F S1024x1408 .bf16)
  (x4 : Vec F S512x1024 .f32) (x5 : Vec F S512x1024 .f32) (x6 : Vec F S1x1024 .f32) (g : Vec F S1x1024 .f32) (s : Vec F S512x1024 .f32)

/-- The first half of the columns: the product's sum starts at zero. -/
theorem scratch_first (hc0 : cond0_0 i) (hc1 : ¬cond0_1 i) :
    sout0_A_0 c i a3 h3 a4 h4 a5 h5 a6 h6 a7 h7 a8 h8 a9 h9 a10 h10 a11 h11 a12 h12 a13 h13 hc0 hc1 x0 x1 x2 x3 x4 x5 x6
      = k0_pay2 (k0_pay1 (F := F)) x0 x1 x2 x3 := by
  unfold sout0_A_0
  rw [View.read_writes_eq_canon _ _ _ (scover0_A_0 c i a3 h3 a4 h4 a5 h5 a6 h6 a7 h7 a8 h8 a9 h9 a10 h10 a11 h11 a12 h12 a13 h13 hc0 hc1
    x0 x1 x2 x3 x4 x5 x6)]
  unfold kernelRun0_A
  dsimp only
  sl_unfold_words
  rw [View.canon_cons_unit_zero (S := S512x1024) hz, View.readCov_unit_zero (S := S512x1024) _ hz]
  simp only [View.readAt_eq_ld, h3.read_unread, h4.read_unread, h5.read_unread, h6.read_unread, View.ld_unit_zero (S := S512x1408) hz,
    View.ld_unit_zero (S := S1024x1408) hz]

/-! The second half, in the first block of rows. -/

theorem input_first (hc0 : ¬cond0_0 i) (hc1 : cond0_1 i) (hc2 : cond0_2 i) :
    out0_B_7 c i a3 h3 a4 h4 a5 h5 a6 h6 a7 h7 a8 h8 a9 h9 a10 h10 a11 h11 a12 h12 a13 h13 hc0 hc1 hc2 x0 x1 x2 x3 x4 x5 x6 s
      = k0_pay6 (k0_pay2 s x0 x1 x2 x3) x4 x5 x6 := by
  unfold out0_B_7
  rw [View.read_writes_eq_canon _ _ _ (cover0_B_7 c i a3 h3 a4 h4 a5 h5 a6 h6 a7 h7 a8 h8 a9 h9 a10 h10 a11 h11 a12 h12 a13 h13 hc0 hc1 hc2
    x0 x1 x2 x3 x4 x5 x6 s)]
  unfold kernelRun0_B
  dsimp only
  sl_unfold_words
  rw [View.canon_unit_zero hz]
  simp only [View.readCov_unit_zero (S := S512x1024) _ hz, View.readAt_eq_ld, h3.read_unread, h4.read_unread, h5.read_unread,
    h6.read_unread, h7.read_unread, h8.read_unread, h9.read_unread, h13.read_unread, View.ld_unit_zero (S := S512x1408) hz,
    View.ld_unit_zero (S := S1024x1408) hz, View.ld_unit_zero (S := S512x1024) hz, View.ld_unit_zero (S := S1x1024) hz]

theorem cast_first (hc0 : ¬cond0_0 i) (hc1 : cond0_1 i) (hc2 : cond0_2 i) :
    out0_B_8 c i a3 h3 a4 h4 a5 h5 a6 h6 a7 h7 a8 h8 a9 h9 a10 h10 a11 h11 a12 h12 a13 h13 hc0 hc1 hc2 x0 x1 x2 x3 x4 x5 x6 s
      = k0_pay8 (k0_pay2 s x0 x1 x2 x3) x4 x5 x6 := by
  unfold out0_B_8
  rw [View.read_writes_eq_canon _ _ _ (cover0_B_8 c i a3 h3 a4 h4 a5 h5 a6 h6 a7 h7 a8 h8 a9 h9 a10 h10 a11 h11 a12 h12 a13 h13 hc0 hc1 hc2
    x0 x1 x2 x3 x4 x5 x6 s)]
  unfold kernelRun0_B
  dsimp only
  sl_unfold_words
  rw [View.canon_unit_zero hz]
  simp only [View.readCov_unit_zero (S := S512x1024) _ hz, View.readAt_eq_ld, h3.read_unread, h4.read_unread, h5.read_unread,
    h6.read_unread, h7.read_unread, h8.read_unread, h9.read_unread, h13.read_unread, View.ld_unit_zero (S := S512x1408) hz,
    View.ld_unit_zero (S := S1024x1408) hz, View.ld_unit_zero (S := S512x1024) hz, View.ld_unit_zero (S := S1x1024) hz]

/-- The gain's gradient starts at zero. -/
theorem gain_first (hc0 : ¬cond0_0 i) (hc1 : cond0_1 i) (hc2 : cond0_2 i) :
    out0_B_9 c i a3 h3 a4 h4 a5 h5 a6 h6 a7 h7 a8 h8 a9 h9 a10 h10 a11 h11 a12 h12 a13 h13 hc0 hc1 hc2 x0 x1 x2 x3 x4 x5 x6 s
      = k0_pay3 (k0_pay7 (k0_pay2 s x0 x1 x2 x3) x4) (k0_pay9 (F := F)) := by
  unfold out0_B_9
  rw [View.read_writes_eq_canon _ _ _ (cover0_B_9 c i a3 h3 a4 h4 a5 h5 a6 h6 a7 h7 a8 h8 a9 h9 a10 h10 a11 h11 a12 h12 a13 h13 hc0 hc1 hc2
    x0 x1 x2 x3 x4 x5 x6 s)]
  unfold kernelRun0_B
  dsimp only
  sl_unfold_words
  rw [View.canon_cons_unit_zero (S := S1x1024) hz, View.readCov_unit_zero (S := S1x1024) _ hz]
  simp only [View.readCov_unit_zero (S := S512x1024) _ hz, View.readAt_eq_ld, h3.read_unread, h4.read_unread, h5.read_unread,
    h6.read_unread, h7.read_unread, h13.read_unread, View.ld_unit_zero (S := S512x1408) hz,
    View.ld_unit_zero (S := S1024x1408) hz, View.ld_unit_zero (S := S512x1024) hz]

/-! The second half, in a later block of rows. -/

theorem input_next (hc0 : ¬cond0_0 i) (hc1 : cond0_1 i) (hc2 : ¬cond0_2 i) :
    out0_C_7 c i a3 h3 a4 h4 a5 h5 a6 h6 a7 h7 a8 h8 a9 h9 a10 h10 a11 h11 a12 h12 a13 h13 hc0 hc1 hc2 x0 x1 x2 x3 x4 x5 x6 g s
      = k0_pay6 (k0_pay2 s x0 x1 x2 x3) x4 x5 x6 := by
  unfold out0_C_7
  rw [View.read_writes_eq_canon _ _ _ (cover0_C_7 c i a3 h3 a4 h4 a5 h5 a6 h6 a7 h7 a8 h8 a9 h9 a10 h10 a11 h11 a12 h12 a13 h13 hc0 hc1 hc2
    x0 x1 x2 x3 x4 x5 x6 g s)]
  unfold kernelRun0_C
  dsimp only
  sl_unfold_words
  rw [View.canon_unit_zero hz]
  simp only [View.readCov_unit_zero (S := S512x1024) _ hz, View.readAt_eq_ld, h3.read_unread, h4.read_unread, h5.read_unread,
    h6.read_unread, h7.read_unread, h8.read_unread, h9.read_unread, h13.read_unread, View.ld_unit_zero (S := S512x1408) hz,
    View.ld_unit_zero (S := S1024x1408) hz, View.ld_unit_zero (S := S512x1024) hz, View.ld_unit_zero (S := S1x1024) hz]

theorem cast_next (hc0 : ¬cond0_0 i) (hc1 : cond0_1 i) (hc2 : ¬cond0_2 i) :
    out0_C_8 c i a3 h3 a4 h4 a5 h5 a6 h6 a7 h7 a8 h8 a9 h9 a10 h10 a11 h11 a12 h12 a13 h13 hc0 hc1 hc2 x0 x1 x2 x3 x4 x5 x6 g s
      = k0_pay8 (k0_pay2 s x0 x1 x2 x3) x4 x5 x6 := by
  unfold out0_C_8
  rw [View.read_writes_eq_canon _ _ _ (cover0_C_8 c i a3 h3 a4 h4 a5 h5 a6 h6 a7 h7 a8 h8 a9 h9 a10 h10 a11 h11 a12 h12 a13 h13 hc0 hc1 hc2
    x0 x1 x2 x3 x4 x5 x6 g s)]
  unfold kernelRun0_C
  dsimp only
  sl_unfold_words
  rw [View.canon_unit_zero hz]
  simp only [View.readCov_unit_zero (S := S512x1024) _ hz, View.readAt_eq_ld, h3.read_unread, h4.read_unread, h5.read_unread,
    h6.read_unread, h7.read_unread, h8.read_unread, h9.read_unread, h13.read_unread, View.ld_unit_zero (S := S512x1408) hz,
    View.ld_unit_zero (S := S1024x1408) hz, View.ld_unit_zero (S := S512x1024) hz, View.ld_unit_zero (S := S1x1024) hz]

/-- The gain's gradient grows by the block's sum over its rows. -/
theorem gain_next (hc0 : ¬cond0_0 i) (hc1 : cond0_1 i) (hc2 : ¬cond0_2 i) :
    out0_C_9 c i a3 h3 a4 h4 a5 h5 a6 h6 a7 h7 a8 h8 a9 h9 a10 h10 a11 h11 a12 h12 a13 h13 hc0 hc1 hc2 x0 x1 x2 x3 x4 x5 x6 g s
      = k0_pay3 (k0_pay7 (k0_pay2 s x0 x1 x2 x3) x4) g := by
  unfold out0_C_9
  rw [View.read_writes_eq_canon _ _ _ (cover0_C_9 c i a3 h3 a4 h4 a5 h5 a6 h6 a7 h7 a8 h8 a9 h9 a10 h10 a11 h11 a12 h12 a13 h13 hc0 hc1 hc2
    x0 x1 x2 x3 x4 x5 x6 g s)]
  unfold kernelRun0_C
  dsimp only
  sl_unfold_words
  rw [View.canon_unit_zero hz]
  simp only [View.readCov_unit_zero (S := S512x1024) _ hz, View.readAt_eq_ld, h3.read_unread, h4.read_unread, h5.read_unread,
    h6.read_unread, h7.read_unread, h12.read_unread, h13.read_unread, View.ld_unit_zero (S := S512x1408) hz,
    View.ld_unit_zero (S := S1024x1408) hz, View.ld_unit_zero (S := S512x1024) hz, View.ld_unit_zero (S := S1x1024) hz]

end Cert.Proof.Dh

end
-- ==== Proof.NormBack.lean ====
/-
  The gradient through a norm by the root of the mean square, in the kernel's form and in the differentiated reference's.
-/
module

public import proofs.«01_k».proof.Proof.Entries
public import Idealize.ShloMosaic.PureOps.Ideal

@[expose] public section

noncomputable section

namespace Cert.Proof

open Idealize.ShloMosaic

theorem width_val : Ideal.ofBits .f32 0x44800000#32 = ((1024 : ℝ) : EReal) := by
  simp [Ideal.ofBits, Ideal.ieee, -EReal.coe_mul]; norm_num

/-- The constant under the root is a positive real number. -/
theorem shift_val : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem minus_half_val : Ideal.ofBits .f32 0xBF000000#32 = ((-(1 / 2) : ℝ) : EReal) := by
  simp [Ideal.ofBits, Ideal.ieee, -EReal.coe_mul]; norm_num

/-- A row's mean square, and the constant. -/
def meanSq (x : ℕ → EReal) : EReal :=
  Ideal.div (∑ k ∈ Finset.range 1024, x k * x k) (Ideal.ofBits .f32 0x44800000#32) + Ideal.ofBits .f32 0x358637BD#32

/-- The number a row is scaled by. -/
def scale (x : ℕ → EReal) : EReal := Ideal.rsqrt (meanSq x)

/-- The row's gradient as the kernel computes it, added to what comes from elsewhere. -/
def backRow (x w : ℕ → EReal) (d : EReal) (j : ℕ) : EReal :=
  d + scale x * (w j - x j * scale x * Ideal.div (∑ k ∈ Finset.range 1024, w k * (x k * scale x)) (Ideal.ofBits .f32 0x44800000#32))

/-- The mean square's own gradient, as the differentiated reference computes it. -/
def backMean (x w : ℕ → EReal) : EReal :=
  Ideal.div ((∑ k ∈ Finset.range 1024, x k * w k) * (Ideal.ofBits .f32 0xBF000000#32 * Ideal.div (scale x) (meanSq x)))
    (Ideal.ofBits .f32 0x44800000#32)

theorem square_nonneg (x : EReal) : 0 ≤ x * x :=
  EReal.mul_nonneg_iff.2 ((le_total 0 x).elim (fun h => .inl ⟨h, h⟩) fun h => .inr ⟨h, h⟩)

/-- A nonnegative real number goes into a sum, whatever the terms are. -/
theorem scaled_sum {ι : Type} {r : ℝ} (hr : 0 ≤ r) (s : Finset ι) (f : ι → EReal) : ∑ k ∈ s, (r : EReal) * f k = r * ∑ k ∈ s, f k := by
  classical
  induction s using Finset.induction_on with
  | empty => simp
  | insert a s ha ih =>
    rw [Finset.sum_insert ha, Finset.sum_insert ha, ih]
    exact (EReal.left_distrib_of_nonneg_of_ne_top (EReal.coe_nonneg.mpr hr) (EReal.coe_ne_top _) _ _).symm

/-- A row's mean square is infinite, or a positive real number. -/
theorem meanSq_cases (x : ℕ → EReal) : meanSq x = ⊤ ∨ ∃ v : ℝ, 0 < v ∧ meanSq x = (v : EReal) := by
  obtain ⟨e, he, hs⟩ := shift_val
  have h0 : 0 ≤ ∑ k ∈ Finset.range 1024, x k * x k := Finset.sum_nonneg fun k _ => square_nonneg _
  unfold meanSq
  rw [width_val, hs, Ideal.div_coe (by norm_num)]
  revert h0
  generalize ∑ k ∈ Finset.range 1024, x k * x k = s
  intro h0
  induction s with
  | bot => exact absurd h0 (by simp)
  | top =>
    refine .inl ?_
    rw [EReal.top_mul_coe_of_pos (by norm_num), EReal.top_add_coe]
  | coe s =>
    have hs : 0 ≤ s := EReal.coe_nonneg.mp h0
    exact .inr ⟨s * (1 / 1024) + e, by positivity, by push_cast; rfl⟩

/-- The two forms of the gradient agree. -/
theorem back_forms (x w : ℕ → EReal) (d : EReal) (j : ℕ) :
    d + w j * scale x + x j * backMean x w + backMean x w * x j = backRow x w d j := by
  unfold backRow backMean scale
  rcases meanSq_cases x with h | ⟨v, hv, h⟩
  · rw [h, Ideal.rsqrt_top]
    have e : Ideal.div 0 ⊤ = 0 := by rw [Ideal.div, if_neg EReal.top_ne_zero, zero_mul]
    have e' : Ideal.div 0 (Ideal.ofBits .f32 0x44800000#32) = 0 := by rw [width_val, Ideal.div_coe (by norm_num), zero_mul]
    simp [e, e']
  · have hp : 0 < (Real.sqrt v)⁻¹ := inv_pos.mpr (Real.sqrt_pos.mpr hv)
    have hpp : (Real.sqrt v)⁻¹ * (Real.sqrt v)⁻¹ = 1 / v := by rw [← mul_inv, Real.mul_self_sqrt hv.le, one_div]
    rw [h, Ideal.rsqrt_coe, if_neg hv.not_gt, if_neg hv.ne', width_val, minus_half_val, Ideal.div_coe hv.ne', Ideal.div_coe (by norm_num),
      Ideal.div_coe (by norm_num)]
    rw [← hpp]
    revert hp
    generalize (Real.sqrt v)⁻¹ = p
    intro hp
    have es : ∑ k ∈ Finset.range 1024, w k * (x k * (p : EReal)) = p * ∑ k ∈ Finset.range 1024, x k * w k := by
      rw [← scaled_sum hp.le]
      exact Finset.sum_congr rfl fun k _ => by rw [← mul_assoc, mul_comm (w k), mul_comm _ (p : EReal)]
    rw [es]
    generalize ∑ k ∈ Finset.range 1024, x k * w k = q
    rw [sub_eq_add_neg, EReal.left_distrib_of_nonneg_of_ne_top (EReal.coe_nonneg.mpr hp.le) (EReal.coe_ne_top _), mul_comm (w j), add_assoc, add_assoc]
    congr 2
    have e1 : x j * (q * (((-(1 / 2) : ℝ) : EReal) * (p * ((p * p : ℝ) : EReal))) * ((1 / 1024 : ℝ) : EReal)) = -(x j * q) * ((p * p * p / 2048 : ℝ) : EReal) := by
      have : ((p * p * p / 2048 : ℝ) : EReal) = -(((-(1 / 2) : ℝ) : EReal) * (p * ((p * p : ℝ) : EReal)) * ((1 / 1024 : ℝ) : EReal)) := by
        norm_cast; ring
      rw [this, neg_mul_neg]
      simp only [mul_assoc]
    have e2 : (p : EReal) * -(x j * p * (p * q * ((1 / 1024 : ℝ) : EReal))) = -(x j * q) * ((p * p * p / 2048 + p * p * p / 2048 : ℝ) : EReal) := by
      have : ((p * p * p / 2048 + p * p * p / 2048 : ℝ) : EReal) = p * (p * (p * ((1 / 1024 : ℝ) : EReal))) := by
        norm_cast; ring
      rw [this, mul_neg, neg_mul]
      congr 1
      ac_rfl
    rw [mul_comm _ (x j), e1, e2, EReal.coe_add, EReal.left_distrib_of_nonneg]
    · exact EReal.coe_nonneg.mpr (by positivity)
    · exact EReal.coe_nonneg.mpr (by positivity)

end Cert.Proof

end
-- ==== Proof.DhValue.lean ====
/-
  The gradient of the half step's input and of the norm's gain, as the call's blocks and the grid give them.
-/
module

public import proofs.«01_k».proof.Proof.DhRun
public import proofs.«01_k».proof.Proof.NormBack

@[expose] public section

set_option maxRecDepth 16384

noncomputable section

namespace Cert.Proof.Dh

open Cert.DhIdeal Cert.DhIdeal.Gen
open Idealize.ShloMosaic
open Idealize.ShloMosaic.TcCoe

variable (m : (ℓ : Loc nD τ sig) → Buf (Elt Ideal) ℓ) (c : Dev nD)

/-- The call's arguments. -/
abbrev argA : FVec Ideal S16384x2816 .bf16 := m ((c : Thread nD τ).loc main_arg0)
abbrev argU : FVec Ideal S1024x2816 .bf16 := m ((c : Thread nD τ).loc main_arg1)
abbrev argB : FVec Ideal S16384x2816 .bf16 := m ((c : Thread nD τ).loc main_arg2)
abbrev argV : FVec Ideal S1024x2816 .bf16 := m ((c : Thread nD τ).loc main_arg3)
abbrev argX : FVec Ideal S16384x1024 .f32 := m ((c : Thread nD τ).loc main_arg4)
abbrev argY : FVec Ideal S16384x1024 .f32 := m ((c : Thread nD τ).loc main_arg5)
abbrev argG : FVec Ideal S1x1024 .f32 := m ((c : Thread nD τ).loc main_arg6)

theorem idx0_0 : ∀ t : Fin grid0.N, win0_0.index t = ![t.val / 2, t.val % 2] := by decide +kernel
theorem idx0_1 : ∀ t : Fin grid0.N, win0_1.index t = ![0, t.val % 2] := by decide +kernel
theorem idx0_2 : ∀ t : Fin grid0.N, win0_2.index t = ![t.val / 2, t.val % 2] := by decide +kernel
theorem idx0_3 : ∀ t : Fin grid0.N, win0_3.index t = ![0, t.val % 2] := by decide +kernel
theorem idx0_4 : ∀ t : Fin grid0.N, win0_4.index t = ![t.val / 2, 0] := by decide +kernel
theorem idx0_5 : ∀ t : Fin grid0.N, win0_5.index t = ![t.val / 2, 0] := by decide +kernel
theorem idx0_6 : ∀ t : Fin grid0.N, win0_6.index t = ![0, 0] := by decide +kernel

theorem blockA (t : Fin cfg0.N) (r : Fin 512) (k : Fin 1408) :
    iblk m c 0 t (ix2 r k) = at2 (argA m c) (512 * (t.val / 2) + r.val) (1408 * (t.val % 2) + k.val) := by
  refine at2_of (argA m c) (((cfg0.win 0).blk t).view.emb (ix2 r k)) ?_ ?_
  · blk_simp [idx0_0 t]; omega
  · blk_simp [idx0_0 t]; omega

theorem blockU (t : Fin cfg0.N) (l : Fin 1024) (k : Fin 1408) : iblk m c 1 t (ix2 l k) = at2 (argU m c) l.val (1408 * (t.val % 2) + k.val) := by
  refine at2_of (argU m c) (((cfg0.win 1).blk t).view.emb (ix2 l k)) ?_ ?_
  · blk_simp [idx0_1 t]
  · blk_simp [idx0_1 t]; omega

theorem blockB (t : Fin cfg0.N) (r : Fin 512) (k : Fin 1408) :
    iblk m c 2 t (ix2 r k) = at2 (argB m c) (512 * (t.val / 2) + r.val) (1408 * (t.val % 2) + k.val) := by
  refine at2_of (argB m c) (((cfg0.win 2).blk t).view.emb (ix2 r k)) ?_ ?_
  · blk_simp [idx0_2 t]; omega
  · blk_simp [idx0_2 t]; omega

theorem blockV (t : Fin cfg0.N) (l : Fin 1024) (k : Fin 1408) : iblk m c 3 t (ix2 l k) = at2 (argV m c) l.val (1408 * (t.val % 2) + k.val) := by
  refine at2_of (argV m c) (((cfg0.win 3).blk t).view.emb (ix2 l k)) ?_ ?_
  · blk_simp [idx0_3 t]
  · blk_simp [idx0_3 t]; omega

theorem blockX (t : Fin cfg0.N) (r : Fin 512) (l : Fin 1024) : iblk m c 4 t (ix2 r l) = at2 (argX m c) (512 * (t.val / 2) + r.val) l.val := by
  refine at2_of (argX m c) (((cfg0.win 4).blk t).view.emb (ix2 r l)) ?_ ?_
  · blk_simp [idx0_4 t]; omega
  · blk_simp [idx0_4 t]

theorem blockY (t : Fin cfg0.N) (r : Fin 512) (l : Fin 1024) : iblk m c 5 t (ix2 r l) = at2 (argY m c) (512 * (t.val / 2) + r.val) l.val := by
  refine at2_of (argY m c) (((cfg0.win 5).blk t).view.emb (ix2 r l)) ?_ ?_
  · blk_simp [idx0_5 t]; omega
  · blk_simp [idx0_5 t]

theorem blockG (t : Fin cfg0.N) (l : Fin 1024) : iblk m c 6 t (ix2 (0 : Fin 1) l) = at2 (argG m c) 0 l.val := by
  refine at2_of (argG m c) (((cfg0.win 6).blk t).view.emb (ix2 (0 : Fin 1) l)) ?_ ?_
  · blk_simp [idx0_6 t]; rfl
  · blk_simp [idx0_6 t]

/-! ## The products -/

/-- One entry of the two products' sum, over the first `n` columns. -/
def part (n i j : ℕ) : EReal :=
  ∑ k ∈ Finset.range n, (at2 (argA m c) i k * at2 (argU m c) j k + at2 (argB m c) i k * at2 (argV m c) j k)

theorem step_val (t : Fin cfg0.N) (s : Vec Ideal S512x1024 .f32) (r : Fin 512) (l : Fin 1024)
    (hs : s (ix2 r l) = part m c (1408 * (t.val % 2)) (512 * (t.val / 2) + r.val) l.val) :
    k0_pay2 s (iblk m c 0 t) (iblk m c 1 t) (iblk m c 2 t) (iblk m c 3 t) (ix2 r l)
      = part m c (1408 * (t.val % 2 + 1)) (512 * (t.val / 2) + r.val) l.val := by
  unfold part at hs ⊢
  rw [sum_block, ← hs, Finset.sum_add_distrib]
  pointwise [k0_pay2]
  refine congrArg (_ + ·) (congrArg₂ (· + ·) ?_ ?_)
  · exact Finset.sum_congr rfl fun k _ => by rw [← blockA, ← blockU]
  · exact Finset.sum_congr rfl fun k _ => by rw [← blockB, ← blockV]

theorem first_zero (r : Fin 512) (l : Fin 1024) : k0_pay1 (F := Ideal) (ix2 r l) = 0 := by
  pointwise [k0_pay1]

/-- After the first half of the columns. -/
theorem scratch_half (t : Fin cfg0.N) (e0 : t.val % 2 = 0) (r : Fin 512) (l : Fin 1024) :
    (outsAt0 m c t.val t.isLt).2.2.2 (ix2 r l) = part m c 1408 (512 * (t.val / 2) + r.val) l.val := by
  rw [outsAt0_A m c t e0 (by omega)]
  dsimp only
  rw [scratch_first]
  refine (step_val m c t _ r l ?_).trans (by rw [e0])
  rw [first_zero, e0]
  exact (Finset.sum_range_zero _).symm

/-! ## The norm -/

section

variable {s x y : Vec Ideal S512x1024 .f32} {g : Vec Ideal S1x1024 .f32} {r : Fin 512} {X W : ℕ → EReal}

theorem pay4_val (hx : ∀ k : Fin 1024, x (ix2 r k) = X k.val) : k0_pay4 x (ix2 r (0 : Fin 1)) = scale X := by
  unfold scale meanSq
  rw [Finset.sum_range]
  pointwise [k0_pay4]
  simp only [hx]

theorem pay5_val (hx : ∀ k : Fin 1024, x (ix2 r k) = X k.val) (l : Fin 1024) : k0_pay5 x (ix2 r l) = X l.val * scale X := by
  rw [← pay4_val hx, ← hx]
  unfold k0_pay5
  generalize k0_pay4 x = p
  pointwise

theorem pay6_val (hx : ∀ k : Fin 1024, x (ix2 r k) = X k.val) (hw : ∀ k : Fin 1024, s (ix2 r k) * g (ix2 (0 : Fin 1) k) = W k.val) (l : Fin 1024) :
    k0_pay6 s x y g (ix2 r l) = backRow X W (y (ix2 r l)) l.val := by
  unfold backRow
  rw [Finset.sum_range]
  simp only [← pay5_val hx, ← hw]
  rw [← pay4_val hx]
  unfold k0_pay6
  generalize k0_pay5 x = u
  generalize k0_pay4 x = p
  pointwise

end

theorem pay7_val (s x : Vec Ideal S512x1024 .f32) (l : Fin 1024) :
    k0_pay7 s x (ix2 (0 : Fin 1) l) = ∑ r : Fin 512, s (ix2 r l) * k0_pay5 x (ix2 r l) := by
  unfold k0_pay7
  generalize k0_pay5 x = u
  pointwise

/-! ## What the second half of the columns leaves -/

/-- A row of the products with the norm's gain. -/
def gained (i k : ℕ) : EReal := part m c 2816 i k * at2 (argG m c) 0 k

/-- The block of products that the second half of the columns completes. -/
abbrev whole (t : Fin cfg0.N) : Vec Ideal S512x1024 .f32 :=
  k0_pay2 (outsAt0 m c (t.val - 1) (lt_of_le_of_lt (Nat.sub_le _ _) t.isLt)).2.2.2 (iblk m c 0 t) (iblk m c 1 t) (iblk m c 2 t) (iblk m c 3 t)

theorem whole_val (t : Fin cfg0.N) (e1 : t.val % 2 = 1) (r : Fin 512) (l : Fin 1024) :
    whole m c t (ix2 r l) = part m c 2816 (512 * (t.val / 2) + r.val) l.val := by
  refine (step_val m c t _ r l ?_).trans (by rw [e1])
  refine (scratch_half m c ⟨t.val - 1, lt_of_le_of_lt (Nat.sub_le _ _) t.isLt⟩ (by dsimp only; omega) r l).trans ?_
  dsimp only
  rw [e1, show (t.val - 1) / 2 = t.val / 2 by omega]

theorem input_val (t : Fin cfg0.N) (e1 : t.val % 2 = 1) (r : Fin 512) (l : Fin 1024) :
    k0_pay6 (whole m c t) (iblk m c 4 t) (iblk m c 5 t) (iblk m c 6 t) (ix2 r l)
      = backRow (at2 (argX m c) (512 * (t.val / 2) + r.val)) (gained m c (512 * (t.val / 2) + r.val))
        (at2 (argY m c) (512 * (t.val / 2) + r.val) l.val) l.val := by
  rw [← blockY]
  refine pay6_val (fun k => blockX m c t r k) (fun k => ?_) l
  rw [whole_val m c t e1, blockG]
  rfl

/-- What a point of the second half leaves of the input's gradient, and of its cast. -/
theorem after_input (t : Fin cfg0.N) (e1 : t.val % 2 = 1) :
    (outsAt0 m c t.val t.isLt).1 = k0_pay6 (whole m c t) (iblk m c 4 t) (iblk m c 5 t) (iblk m c 6 t)
      ∧ (outsAt0 m c t.val t.isLt).2.1 = k0_pay8 (whole m c t) (iblk m c 4 t) (iblk m c 5 t) (iblk m c 6 t) := by
  by_cases h : t.val < 2
  · rw [outsAt0_B m c t (by omega) e1 h]
    dsimp only
    rw [input_first, cast_first]
    exact ⟨rfl, rfl⟩
  · rw [outsAt0_C m c t (by omega) e1 h]
    dsimp only
    rw [input_next, cast_next]
    exact ⟨rfl, rfl⟩

/-- One entry of the gain's gradient, over the first `n` rows. -/
def gainPart (n j : ℕ) : EReal :=
  ∑ i ∈ Finset.range n, part m c 2816 i j * (at2 (argX m c) i j * scale (at2 (argX m c) i))

theorem gain_step (t : Fin cfg0.N) (e1 : t.val % 2 = 1) (g : Vec Ideal S1x1024 .f32) (l : Fin 1024)
    (hg : g (ix2 (0 : Fin 1) l) = gainPart m c (512 * (t.val / 2)) l.val) :
    k0_pay3 (k0_pay7 (whole m c t) (iblk m c 4 t)) g (ix2 (0 : Fin 1) l) = gainPart m c (512 * (t.val / 2 + 1)) l.val := by
  unfold gainPart at hg ⊢
  rw [sum_block, ← hg]
  have e : ∀ u : FVec Ideal S1x1024 .f32, k0_pay3 u g (ix2 (0 : Fin 1) l) = g (ix2 (0 : Fin 1) l) + u (ix2 (0 : Fin 1) l) := fun u => by
    pointwise [k0_pay3]
  rw [e, pay7_val]
  refine congrArg (_ + ·) (Finset.sum_congr rfl fun r _ => ?_)
  rw [whole_val m c t e1, pay5_val fun k => blockX m c t r k]

theorem gain_zero (l : Fin 1024) : k0_pay9 (F := Ideal) (ix2 (0 : Fin 1) l) = 0 := by
  pointwise [k0_pay9]

/-- What a point of the second half leaves of the gain's gradient. -/
theorem gain_val : ∀ (q : ℕ) (hq : 2 * q + 1 < cfg0.N) (l : Fin 1024),
    (outsAt0 m c (2 * q + 1) hq).2.2.1 (ix2 (0 : Fin 1) l) = gainPart m c (512 * (q + 1)) l.val
  | 0, hq, l => by
    rw [outsAt0_B m c ⟨2 * 0 + 1, hq⟩ (by dsimp only; omega) rfl (by dsimp only; omega)]
    dsimp only
    rw [gain_first]
    refine (gain_step m c ⟨2 * 0 + 1, hq⟩ rfl _ l ?_).trans (congrArg (gainPart m c · l.val) (by dsimp only))
    rw [gain_zero]
    dsimp only
    rw [show 512 * ((2 * 0 + 1) / 2) = 0 by norm_num]
    exact (Finset.sum_range_zero _).symm
  | q + 1, hq, l => by
    have ih := gain_val q (by omega) l
    rw [outsAt0_C m c ⟨2 * (q + 1) + 1, hq⟩ (by dsimp only; omega) (by dsimp only; omega) (by dsimp only; omega)]
    dsimp only
    rw [gain_next]
    refine (gain_step m c ⟨2 * (q + 1) + 1, hq⟩ (by dsimp only; omega) _ l ?_).trans ?_
    · rw [show (2 * (q + 1) + 1) / 2 = q + 1 by omega, ← ih]
      show (outsAt0 m c (2 * q + 2) _).2.2.1 _ = _
      rw [outsAt0_A m c ⟨2 * q + 2, by omega⟩ (by dsimp only; omega) (by dsimp only; omega)]
      rfl
    · dsimp only
      rw [show (2 * (q + 1) + 1) / 2 = q + 1 by omega]

/-! ## The results -/

theorem dx_val : Cert.DhIdeal.Value.G7 m c
    = fun y => backRow (at2 (argX m c) (y 0).val) (gained m c (y 0).val) (at2 (argY m c) (y 0).val (y 1).val) (y 1).val := by
  funext y
  have y0 : (y 0).val < 16384 := (y 0).isLt
  have y1 : (y 1).val < 1024 := (y 1).isLt
  have hp : Cert.DhIdeal.Value.pt7Of y = 2 * ((y 0).val / 512) + 1 := by
    show 2 * (1 * ((y 0).val / 512 - 0) + 1 * ((y 1).val / 1024 - 0)) + 1 = _
    omega
  have hlt : Cert.DhIdeal.Value.pt7Of y < cfg0.N := by rw [hp, show cfg0.N = 64 from N_0]; omega
  have hl : Cert.DhIdeal.Value.loc7Of y = ix2 ⟨(y 0).val % 512, Nat.mod_lt _ (by decide)⟩ ⟨(y 1).val % 1024, Nat.mod_lt _ (by decide)⟩ :=
    funext fun a => match a with | ⟨0, _⟩ => rfl | ⟨1, _⟩ => rfl
  unfold Cert.DhIdeal.Value.G7
  rw [dif_pos hlt, ← Cert.DhIdeal.Value.outsAt0_sweep m c _ hlt, hl, (after_input m c ⟨_, hlt⟩ (by dsimp only; omega)).1]
  refine (input_val m c ⟨_, hlt⟩ (by dsimp only; omega) _ _).trans ?_
  dsimp only
  rw [show 512 * (Cert.DhIdeal.Value.pt7Of y / 2) + (y 0).val % 512 = (y 0).val by omega, show (y 1).val % 1024 = (y 1).val by omega]

/-- The cast's result: the same numbers. -/
theorem dxb_val : Cert.DhIdeal.Value.G8 m c
    = fun y => backRow (at2 (argX m c) (y 0).val) (gained m c (y 0).val) (at2 (argY m c) (y 0).val (y 1).val) (y 1).val := by
  refine Eq.trans ?_ (dx_val m c)
  funext y
  have y0 : (y 0).val < 16384 := (y 0).isLt
  have y1 : (y 1).val < 1024 := (y 1).isLt
  have hp : Cert.DhIdeal.Value.pt8Of y = 2 * ((y 0).val / 512) + 1 := by
    show 2 * (1 * ((y 0).val / 512 - 0) + 1 * ((y 1).val / 1024 - 0)) + 1 = _
    omega
  have hlt : Cert.DhIdeal.Value.pt8Of y < cfg0.N := by rw [hp, show cfg0.N = 64 from N_0]; omega
  unfold Cert.DhIdeal.Value.G8 Cert.DhIdeal.Value.G7
  rw [dif_pos hlt, dif_pos hlt, ← Cert.DhIdeal.Value.outsAt0_sweep m c _ hlt]
  obtain ⟨ea, eb⟩ := after_input m c ⟨_, hlt⟩ (by dsimp only; omega)
  rw [ea, eb]
  rfl

theorem dg_val : Cert.DhIdeal.Value.G9 m c = fun y => gainPart m c 16384 (y 1).val := by
  funext y
  obtain ⟨u, l, rfl⟩ : ∃ (u : Fin 1) (l : Fin 1024), y = (ix2 u l : S1x1024.Idx) := ⟨y 0, y 1, (ix2_eta (n0 := 1) (n1 := 1024) y).symm⟩
  obtain rfl : u = 0 := Subsingleton.elim _ _
  rw [Cert.DhIdeal.Value.G9_last, ← Cert.DhIdeal.Value.outsAt0_sweep m c 63 (lt_of_lt_of_eq (by decide) N_0.symm)]
  exact gain_val m c 31 _ l

end Cert.Proof.Dh

end
-- ==== Proof.DhAlgebraic.lean ====
/-
  The call that takes the gate's two gradients to the half step's input and its reference end with the same arrays.
-/
module

public import proofs.«01_k».proof.Proof.DhValue
public import proofs.«01_k».proof.Proof.Gen.DhReferenceIdeal.Read
public import proofs.«01_k».proof.Defs

@[expose] public section

set_option maxRecDepth 16384

noncomputable section

namespace Cert.Proof.Dh

open Idealize.ShloMosaic Idealize.SL.Sem

section

open Cert.DhReferenceIdeal Cert.DhReferenceIdeal.Read

variable (a : FVec Ideal S16384x2816 .bf16) (u : FVec Ideal S1024x2816 .bf16) (b : FVec Ideal S16384x2816 .bf16) (v : FVec Ideal S1024x2816 .bf16)
  (x d : FVec Ideal S16384x1024 .f32) (g : FVec Ideal S1x1024 .f32)

/-- The two products' sum at an entry. -/
def both (i j : ℕ) : EReal := ∑ k ∈ Finset.range 2816, (at2 a i k * at2 u j k + at2 b i k * at2 v j k)

theorem reference_both (y : S16384x1024.Idx) : val_main_v23 (F := Ideal) a u b v y = both a u b v (y 0).val (y 1).val := by
  unfold both
  rw [val_main_v23_apply, val_main_v21_apply, val_main_v22_apply, Finset.sum_range, Finset.sum_add_distrib]
  refine (add_comm _ _).trans (congrArg₂ (· + ·) (Finset.sum_congr rfl fun k _ => ?_) (Finset.sum_congr rfl fun k _ => ?_))
  · rw [val_main_v0_apply, val_main_v1_apply]
    exact congrArg₂ (· * ·) (at2_of a _ rfl rfl) (at2_of u _ rfl rfl)
  · rw [val_main_v2_apply, val_main_v3_apply]
    exact congrArg₂ (· * ·) (at2_of b _ rfl rfl) (at2_of v _ rfl rfl)

theorem reference_meanSq (y : S16384x1.Idx) : val_main_v10 (F := Ideal) x y = meanSq (at2 x (y 0).val) := by
  have e : val_main_v6 (F := Ideal) x y = ∑ k ∈ Finset.range 1024, at2 x (y 0).val k * at2 x (y 0).val k := by
    rw [val_main_v6_apply, val_main_v5_apply, val_main_cst_apply, Finset.sum_range]
    refine (congrArg (· + _) (by exact Ideal.ofBits_zero_f32)).trans ((zero_add _).trans (Finset.sum_congr rfl fun k _ => ?_))
    rw [val_main_v4_apply]
    exact congrArg₂ (· * ·) (at2_of x _ rfl rfl) (at2_of x _ rfl rfl)
  rw [val_main_v10_apply, val_main_v8_apply, e, val_main_v7_apply, val_main_cst_0_apply, val_main_v9_apply, val_main_cst_1_apply]
  rfl

theorem reference_scale (y : S16384x1.Idx) : val_main_v11 (F := Ideal) x y = scale (at2 x (y 0).val) := by
  rw [val_main_v11_apply, reference_meanSq]
  rfl

/-- A row of the products with the norm's gain. -/
def gainedRow (i k : ℕ) : EReal := both a u b v i k * at2 g 0 k

theorem reference_gained (y : S16384x1024.Idx) : val_main_v28 (F := Ideal) a u b v g y = gainedRow a u b v g (y 0).val (y 1).val := by
  rw [val_main_v28_apply, reference_both, val_main_v27_apply]
  exact congrArg (_ * ·) (at2_of g _ rfl rfl)

theorem reference_mean (y : S16384.Idx) :
    val_main_v38 (F := Ideal) a u b v x g y = backMean (at2 x (y 0).val) (gainedRow a u b v g (y 0).val) := by
  have e : ∀ z : S16384x1.Idx, val_main_v31 (F := Ideal) a u b v x g z
      = ∑ k ∈ Finset.range 1024, at2 x (z 0).val k * gainedRow a u b v g (z 0).val k := fun z => by
    have row : ((idx_main_v31 z) 0).val = (z 0).val := by
      have h : (z 1).val < 1 := (z 1).isLt
      show (z 0).val * 1 + (z 1).val = _
      omega
    rw [val_main_v31_apply, val_main_v30_apply, val_main_cst_4_apply, Finset.sum_range]
    refine (congrArg (· + _) (by exact Ideal.ofBits_zero_f32)).trans ((zero_add _).trans (Finset.sum_congr rfl fun k _ => ?_))
    rw [val_main_v29_apply, reference_gained]
    exact congrArg₂ (· * ·) (at2_of x _ row rfl) (congrArg (gainedRow a u b v g · k.val) row)
  rw [val_main_v38_apply, val_main_cst_6_apply, Fin.sum_univ_one]
  refine (congrArg (· + _) (by exact Ideal.ofBits_zero_f32)).trans ((zero_add _).trans ?_)
  rw [val_main_v37_apply, val_main_v35_apply, e, val_main_v36_apply, val_main_cst_5_apply, val_main_v14_apply, val_main_v13_apply, val_main_cst_2_apply,
    val_main_v12_apply, reference_scale, reference_meanSq]
  rfl

theorem reference_dx (y : S16384x1024.Idx) :
    val_main_v43 (F := Ideal) a u b v x d g y
      = backRow (at2 x (y 0).val) (gainedRow a u b v g (y 0).val) (at2 d (y 0).val (y 1).val) (y 1).val := by
  rw [← back_forms, val_main_v43_apply, val_main_v41_apply, val_main_v42_apply, val_main_v40_apply, val_main_v39_apply, reference_mean, val_main_v34_apply,
    val_main_v33_apply, val_main_v32_apply, reference_scale, reference_gained, ← at2_of x y rfl rfl, ← at2_of d y rfl rfl]
  rfl

theorem reference_dg (y : S1x1024.Idx) :
    val_main_v26 (F := Ideal) a u b v x y
      = ∑ i ∈ Finset.range 16384, both a u b v i (y 1).val * (at2 x i (y 1).val * scale (at2 x i)) := by
  have col : ((idx_main_v26 y) 0).val = (y 1).val := by
    have h : (y 0).val < 1 := (y 0).isLt
    show (y 0).val * 1024 + (y 1).val = _
    omega
  rw [val_main_v26_apply, val_main_v25_apply, val_main_cst_3_apply, Finset.sum_range]
  refine (congrArg (· + _) (by exact Ideal.ofBits_zero_f32)).trans ((zero_add _).trans (Finset.sum_congr rfl fun k _ => ?_))
  rw [val_main_v24_apply, reference_both, val_main_v16_apply, val_main_v15_apply, reference_scale]
  exact (EReal.mul_comm _ _).trans (congrArg₂ (· * ·) (congrArg (both a u b v k.val ·) col) (congrArg (· * _) (at2_of x _ rfl col)))

end

theorem algebraic : Cert.algebraic_DhIdeal_DhReferenceIdeal := fun m g m' g' _ hargs => by
  refine ⟨fun c y => backRow (at2 (argX m c) (y 0).val) (gained m c (y 0).val) (at2 (argY m c) (y 0).val (y 1).val) (y 1).val,
    fun c y => backRow (at2 (argX m c) (y 0).val) (gained m c (y 0).val) (at2 (argY m c) (y 0).val (y 1).val) (y 1).val,
    fun c y => gainPart m c 16384 (y 1).val, ?_, ?_⟩
  · exact (θ_run Cert.DhIdeal.defs _ _).mono
      (fun r h c => ⟨(h c).1.trans (dx_val m c), (h c).2.1.trans (dxb_val m c), (h c).2.2.1.trans (dg_val m c), (h c).2.2.2⟩)
      (Cert.DhIdeal.Value.run (F := Ideal) m g)
  · refine (θ_run Cert.DhReferenceIdeal.defs _ _).mono
      (fun r h c => ⟨(h c).1.trans ?_, (h c).2.1.trans ?_, (h c).2.2.1.trans ((Cert.DhReferenceIdeal.Read.val_main_v26_eq _ _ _ _ _).trans ?_), (h c).2.2.2⟩)
      (Cert.DhReferenceIdeal.Value.run (F := Ideal) m' g')
    · obtain ⟨ha, hu, hb, hv, hx, hd, hg⟩ := hargs c
      rw [Cert.DhReferenceIdeal.Read.val_main_v43_eq, ha, hu, hb, hv, hx, hd, hg]
      funext y
      exact reference_dx _ _ _ _ _ _ _ y
    · obtain ⟨ha, hu, hb, hv, hx, hd, hg⟩ := hargs c
      rw [Cert.DhReferenceIdeal.Read.val_main_v44_eq, ha, hu, hb, hv, hx, hd, hg]
      funext y
      exact reference_dx _ _ _ _ _ _ _ y
    · obtain ⟨ha, hu, hb, hv, hx, hd, hg⟩ := hargs c
      rw [ha, hu, hb, hv, hx]
      funext y
      exact reference_dg _ _ _ _ _ y

end Cert.Proof.Dh

end
-- ==== Proof.MixFrames.lean ====
/-
  The frames of the down projections' calls and of the calls on both sides of the mixers.
-/
module

public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.GateProj
public import proofs.«01_k».proof.Proof.Gen.GateProj.Frame
public import proofs.«01_k».proof.Proof.Gen.GateProjIdeal
public import proofs.«01_k».proof.Proof.Gen.GateProjIdeal.Frame
public import proofs.«01_k».proof.Proof.Gen.GateProjIdeal.Value
public import proofs.«01_k».proof.Proof.Gen.GateProjReferenceIdeal
public import proofs.«01_k».proof.Proof.Gen.GateProjReferenceIdeal.Run
public import proofs.«01_k».proof.Proof.Gen.GateProjReferenceIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInReferenceIdeal
public import proofs.«01_k».proof.Proof.Gen.DwInReferenceIdeal.Run
public import proofs.«01_k».proof.Proof.Gen.DwInReferenceIdeal.Read
public import proofs.«01_k».proof.Proof.Gen.DwGate
public import proofs.«01_k».proof.Proof.Gen.DwGate.Frame
public import proofs.«01_k».proof.Proof.Gen.DwGateIdeal
public import proofs.«01_k».proof.Proof.Gen.DwGateIdeal.Frame
public import proofs.«01_k».proof.Proof.Gen.DwGateIdeal.Value
public import proofs.«01_k».proof.Proof.Gen.DwGateReferenceIdeal
public import proofs.«01_k».proof.Proof.Gen.DwGateReferenceIdeal.Run
public import proofs.«01_k».proof.Proof.Gen.DwGateReferenceIdeal.Read
public import proofs.«01_k».proof.Proof.Gen.DhIn
public import proofs.«01_k».proof.Proof.Gen.DhIn.Frame
public import proofs.«01_k».proof.Proof.Gen.DhInIdeal
public import proofs.«01_k».proof.Proof.Gen.DhInIdeal.Frame
public import proofs.«01_k».proof.Proof.Gen.DhInIdeal.Value
public import proofs.«01_k».proof.Proof.Gen.DhInReferenceIdeal
public import proofs.«01_k».proof.Proof.Gen.DhInReferenceIdeal.Run
public import proofs.«01_k».proof.Proof.Gen.DhInReferenceIdeal.Read
public import proofs.«01_k».proof.Proof.Gen.DhGate
public import proofs.«01_k».proof.Proof.Gen.DhGate.Frame
public import proofs.«01_k».proof.Proof.Gen.DhGateIdeal
public import proofs.«01_k».proof.Proof.Gen.DhGateIdeal.Frame
public import proofs.«01_k».proof.Proof.Gen.DhGateIdeal.Value
public import proofs.«01_k».proof.Proof.Gen.DhGateReferenceIdeal
public import proofs.«01_k».proof.Proof.Gen.DhGateReferenceIdeal.Run
public import proofs.«01_k».proof.Proof.Gen.DhGateReferenceIdeal.Read
public import proofs.«01_k».proof.Defs
public import Idealize.ShloMosaic.Lib.Quiescent

@[expose] public section

noncomputable section

namespace Cert.Proof

open Idealize.ShloMosaic Idealize.SL.Sem

/-! As for the other feed-forward calls: generated frames, and a reference's run keeps its arguments. -/

theorem down_frame : Cert.quiescent_Down := fun m ρ _ => Cert.Down.Gen.frame m ρ
theorem down_frame_ideal : Cert.quiescent_DownIdeal := fun m ρ _ => Cert.DownIdeal.Gen.frame m ρ
theorem down_frame_reference : Cert.quiescent_DownReferenceIdeal := fun m ρ _ =>
  (θ_run Cert.DownReferenceIdeal.defs _ _).mono (fun r h => ⟨fun c => (h c).2.2, sem_eq_zero_of_no_sems (by decide) r.2⟩)
    (Cert.DownReferenceIdeal.Value.run (F := Ideal) m ρ)

theorem loss_frame : Cert.quiescent_Loss := fun m ρ _ => Cert.Loss.Gen.frame m ρ
theorem loss_frame_ideal : Cert.quiescent_LossIdeal := fun m ρ _ => Cert.LossIdeal.Gen.frame m ρ
theorem loss_frame_reference : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run (F := Ideal) m ρ)

theorem in_proj_frame : Cert.quiescent_InProj := fun m ρ _ => Cert.InProj.Gen.frame m ρ
theorem in_proj_frame_ideal : Cert.quiescent_InProjIdeal := fun m ρ _ => Cert.InProjIdeal.Gen.frame m ρ
theorem in_proj_frame_reference : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

theorem gate_proj_frame : Cert.quiescent_GateProj := fun m ρ _ => Cert.GateProj.Gen.frame m ρ
theorem gate_proj_frame_ideal : Cert.quiescent_GateProjIdeal := fun m ρ _ => Cert.GateProjIdeal.Gen.frame m ρ
theorem gate_proj_frame_reference : Cert.quiescent_GateProjReferenceIdeal := fun m ρ _ =>
  (θ_run Cert.GateProjReferenceIdeal.defs _ _).mono (fun r h => ⟨fun c => (h c).2, sem_eq_zero_of_no_sems (by decide) r.2⟩)
    (Cert.GateProjReferenceIdeal.Value.run (F := Ideal) m ρ)

theorem dw_in_frame : Cert.quiescent_DwIn := fun m ρ _ => Cert.DwIn.Gen.frame m ρ
theorem dw_in_frame_ideal : Cert.quiescent_DwInIdeal := fun m ρ _ => Cert.DwInIdeal.Gen.frame m ρ
theorem dw_in_frame_reference : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run (F := Ideal) m ρ)

theorem dw_gate_frame : Cert.quiescent_DwGate := fun m ρ _ => Cert.DwGate.Gen.frame m ρ
theorem dw_gate_frame_ideal : Cert.quiescent_DwGateIdeal := fun m ρ _ => Cert.DwGateIdeal.Gen.frame m ρ
theorem dw_gate_frame_reference : Cert.quiescent_DwGateReferenceIdeal := fun m ρ _ =>
  (θ_run Cert.DwGateReferenceIdeal.defs _ _).mono (fun r h => ⟨fun c => (h c).2, sem_eq_zero_of_no_sems (by decide) r.2⟩)
    (Cert.DwGateReferenceIdeal.Value.run (F := Ideal) m ρ)

theorem dh_in_frame : Cert.quiescent_DhIn := fun m ρ _ => Cert.DhIn.Gen.frame m ρ
theorem dh_in_frame_ideal : Cert.quiescent_DhInIdeal := fun m ρ _ => Cert.DhInIdeal.Gen.frame m ρ
theorem dh_in_frame_reference : Cert.quiescent_DhInReferenceIdeal := fun m ρ _ =>
  (θ_run Cert.DhInReferenceIdeal.defs _ _).mono (fun r h => ⟨fun c => (h c).2, sem_eq_zero_of_no_sems (by decide) r.2⟩)
    (Cert.DhInReferenceIdeal.Value.run (F := Ideal) m ρ)

theorem dh_gate_frame : Cert.quiescent_DhGate := fun m ρ _ => Cert.DhGate.Gen.frame m ρ
theorem dh_gate_frame_ideal : Cert.quiescent_DhGateIdeal := fun m ρ _ => Cert.DhGateIdeal.Gen.frame m ρ
theorem dh_gate_frame_reference : Cert.quiescent_DhGateReferenceIdeal := fun m ρ _ =>
  (θ_run Cert.DhGateReferenceIdeal.defs _ _).mono (fun r h => ⟨fun c => (h c).2.2.2, sem_eq_zero_of_no_sems (by decide) r.2⟩)
    (Cert.DhGateReferenceIdeal.Value.run (F := Ideal) m ρ)

end Cert.Proof

end
-- ==== Proof.Product.lean ====
/-
  One entry of a matrix product, in the three layouts the calls use.
-/
module

public import proofs.«01_k».proof.Proof.Entries

@[expose] public section

noncomputable section

namespace Cert.Proof

open Idealize.ShloMosaic

/-- A row times a column. -/
def rowCol {n p w : ℕ} (x : (⟨2, ![n, p]⟩ : Shape).Idx → EReal) (v : (⟨2, ![p, w]⟩ : Shape).Idx → EReal) (i j : ℕ) : EReal :=
  ∑ k ∈ Finset.range p, at2 x i k * at2 v k j

/-- A row times a row, over the first `q` columns. -/
def rowRow {n p w : ℕ} (x : (⟨2, ![n, p]⟩ : Shape).Idx → EReal) (v : (⟨2, ![w, p]⟩ : Shape).Idx → EReal) (q i j : ℕ) : EReal :=
  ∑ k ∈ Finset.range q, at2 x i k * at2 v j k

/-- A column times a column, over the first `q` rows. -/
def colCol {n p w : ℕ} (x : (⟨2, ![p, n]⟩ : Shape).Idx → EReal) (v : (⟨2, ![p, w]⟩ : Shape).Idx → EReal) (q i j : ℕ) : EReal :=
  ∑ k ∈ Finset.range q, at2 x k i * at2 v k j

end Cert.Proof

end
-- ==== Proof.Down.lean ====
/-
  The first half step's down projection: a grid point computes a block of 512 rows of the residual sum, and the norm of each
  row.
-/
module

public import proofs.«01_k».proof.Proof.Product
public import proofs.«01_k».proof.Proof.NormBack
public import proofs.«01_k».proof.Proof.Gen.DownIdeal.Value
public import proofs.«01_k».proof.Proof.Gen.DownReferenceIdeal.Read
public import proofs.«01_k».proof.Defs
public import Idealize.ShloMosaic.Lib.Tactic

@[expose] public section

set_option maxRecDepth 16384

noncomputable section

namespace Cert.Proof.Down

open Cert.DownIdeal Cert.DownIdeal.Gen
open Idealize.ShloMosaic Idealize.SL.Sem
open Idealize.ShloMosaic.TcCoe
open Cert.DownReferenceIdeal.Read

theorem hz : (![0, 0] : Fin 2 → Nat) = fun _ => 0 := funext fun a => by fin_cases a <;> rfl

/-- One entry of the residual sum: the input and half the product. -/
def residual (f : FVec Ideal S16384x2816 .bf16) (w : FVec Ideal S2816x1024 .bf16) (x : FVec Ideal S16384x1024 .f32) (i j : ℕ) : EReal :=
  at2 x i j + rowCol f w i j * Ideal.ofBits .f32 0x3F000000#32

/-- One entry of its norm, with the gain. -/
def normed (f : FVec Ideal S16384x2816 .bf16) (w : FVec Ideal S2816x1024 .bf16) (x : FVec Ideal S16384x1024 .f32) (g : FVec Ideal S1x1024 .f32) (i j : ℕ) :
    EReal :=
  residual f w x i j * scale (residual f w x i) * at2 g 0 j

variable (m : (ℓ : Loc nD τ sig) → Buf (Elt Ideal) ℓ) (c : Dev nD)

/-- The call's arguments. -/
abbrev argF : FVec Ideal S16384x2816 .bf16 := m ((c : Thread nD τ).loc main_arg0)
abbrev argW : FVec Ideal S2816x1024 .bf16 := m ((c : Thread nD τ).loc main_arg1)
abbrev argX : FVec Ideal S16384x1024 .f32 := m ((c : Thread nD τ).loc main_arg2)
abbrev argG : FVec Ideal S1x1024 .f32 := m ((c : Thread nD τ).loc main_arg3)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel
theorem idx0_3 : ∀ t : Fin grid0.N, win0_3.index t = ![0, 0] := by decide +kernel
theorem idx0_4 : ∀ t : Fin grid0.N, win0_4.index t = ![t.val, 0] := by decide +kernel
theorem idx0_5 : ∀ t : Fin grid0.N, win0_5.index t = ![t.val, 0] := by decide +kernel

theorem blockF (t : Fin cfg0.N) (r : Fin 512) (k : Fin 2816) : iblk m c 0 t (ix2 r k) = at2 (argF m c) (512 * t.val + r.val) k.val := by
  refine at2_of (argF m c) (((cfg0.win 0).blk t).view.emb (ix2 r k)) ?_ ?_
  · blk_simp [idx0_0 t]; omega
  · blk_simp [idx0_0 t]

theorem blockW (t : Fin cfg0.N) (k : Fin 2816) (l : Fin 1024) : iblk m c 1 t (ix2 k l) = at2 (argW m c) k.val l.val := by
  refine at2_of (argW m c) (((cfg0.win 1).blk t).view.emb (ix2 k l)) ?_ ?_
  · blk_simp [idx0_1 t]
  · blk_simp [idx0_1 t]

theorem blockX (t : Fin cfg0.N) (r : Fin 512) (l : Fin 1024) : iblk m c 2 t (ix2 r l) = at2 (argX m c) (512 * t.val + r.val) l.val := by
  refine at2_of (argX m c) (((cfg0.win 2).blk t).view.emb (ix2 r l)) ?_ ?_
  · blk_simp [idx0_2 t]; omega
  · blk_simp [idx0_2 t]

theorem blockG (t : Fin cfg0.N) (l : Fin 1024) : iblk m c 3 t (ix2 (0 : Fin 1) l) = at2 (argG m c) 0 l.val := by
  refine at2_of (argG m c) (((cfg0.win 3).blk t).view.emb (ix2 (0 : Fin 1) l)) ?_ ?_
  · blk_simp [idx0_3 t]; rfl
  · blk_simp [idx0_3 t]

theorem residual_row (f : Vec Ideal S512x2816 .bf16) (w : Vec Ideal S2816x1024 .bf16) (x : Vec Ideal S512x1024 .f32) (r : Fin 512) (l : Fin 1024) :
    k0_pay1 f w x (ix2 r l) = x (ix2 r l) + (∑ k : Fin 2816, f (ix2 r k) * w (ix2 k l)) * Ideal.ofBits .f32 0x3F000000#32 := by
  pointwise [k0_pay1]

theorem residual_point (t : Fin cfg0.N) (r : Fin 512) (l : Fin 1024) :
    k0_pay1 (iblk m c 0 t) (iblk m c 1 t) (iblk m c 2 t) (ix2 r l) = residual (argF m c) (argW m c) (argX m c) (512 * t.val + r.val) l.val := by
  unfold residual rowCol
  rw [Finset.sum_range]
  refine (residual_row _ _ _ r l).trans (congrArg₂ (· + ·) (blockX m c t r l) (congrArg (· * _) (Finset.sum_congr rfl fun k _ => ?_)))
  exact congrArg₂ (· * ·) (blockF m c t r k) (blockW m c t k l)

theorem norm_row (f : Vec Ideal S512x2816 .bf16) (w : Vec Ideal S2816x1024 .bf16) (x : Vec Ideal S512x1024 .f32) (g : Vec Ideal S1x1024 .f32)
    (r : Fin 512) (l : Fin 1024) (X : ℕ → EReal) (hx : ∀ k : Fin 1024, k0_pay1 f w x (ix2 r k) = X k.val) :
    k0_pay2 f w x g (ix2 r l) = X l.val * scale X * g (ix2 (0 : Fin 1) l) := by
  unfold scale meanSq
  rw [Finset.sum_range]
  simp only [← hx]
  unfold k0_pay2
  generalize k0_pay1 f w x = p
  pointwise

theorem normed_point (t : Fin cfg0.N) (r : Fin 512) (l : Fin 1024) :
    k0_pay2 (iblk m c 0 t) (iblk m c 1 t) (iblk m c 2 t) (iblk m c 3 t) (ix2 r l)
      = normed (argF m c) (argW m c) (argX m c) (argG m c) (512 * t.val + r.val) l.val := by
  unfold normed
  rw [← blockG m c t]
  exact norm_row _ _ _ _ r l _ fun k => residual_point m c t r k

/-! ## What a point leaves in its blocks -/

theorem after_residual (t : Fin cfg0.N) (r : Fin 512) (l : Fin 1024) :
    (dats m 0 c).after 4 t (ix2 r l) = residual (argF m c) (argW m c) (argX m c) (512 * t.val + r.val) l.val := by
  rw [after0_4, out0_4, View.canon_unit_zero hz]
  simp only [View.ld_unit_zero (S := S512x2816) hz, View.ld_unit_zero (S := S2816x1024) hz, View.ld_unit_zero (S := S512x1024) hz]
  exact residual_point m c t r l

theorem after_normed (t : Fin cfg0.N) (r : Fin 512) (l : Fin 1024) :
    (dats m 0 c).after 5 t (ix2 r l) = normed (argF m c) (argW m c) (argX m c) (argG m c) (512 * t.val + r.val) l.val := by
  rw [after0_5, out0_5, View.canon_unit_zero hz]
  simp only [View.ld_unit_zero (S := S512x2816) hz, View.ld_unit_zero (S := S2816x1024) hz, View.ld_unit_zero (S := S512x1024) hz,
    View.ld_unit_zero (S := S1x1024) hz]
  exact normed_point m c t r l

/-! ## The results -/

theorem residual_val : (dats m 0 c).arrAt 4 cfg0.N = fun y => residual (argF m c) (argW m c) (argX m c) (y 0).val (y 1).val := by
  refine (dats m 0 c).arrAt_eq_of_covers 4 _ (by decide +kernel) fun t hf y => ?_
  blk_simp
  rw [idx0_4]
  obtain ⟨r, l, rfl⟩ : ∃ (r : Fin 512) (l : Fin 1024), y = (ix2 r l : S512x1024.Idx) := ⟨y 0, y 1, (ix2_eta (n0 := 512) (n1 := 1024) y).symm⟩
  exact (after_residual m c t r l).trans (congrArg₂ (residual (argF m c) (argW m c) (argX m c)) (show _ = t.val * 512 + r.val by omega)
    (show _ = 0 * 1024 + l.val by omega))

theorem normed_val : (dats m 0 c).arrAt 5 cfg0.N = fun y => normed (argF m c) (argW m c) (argX m c) (argG m c) (y 0).val (y 1).val := by
  refine (dats m 0 c).arrAt_eq_of_covers 5 _ (by decide +kernel) fun t hf y => ?_
  blk_simp
  rw [idx0_5]
  obtain ⟨r, l, rfl⟩ : ∃ (r : Fin 512) (l : Fin 1024), y = (ix2 r l : S512x1024.Idx) := ⟨y 0, y 1, (ix2_eta (n0 := 512) (n1 := 1024) y).symm⟩
  exact (after_normed m c t r l).trans (congrArg₂ (normed (argF m c) (argW m c) (argX m c) (argG m c)) (show _ = t.val * 512 + r.val by omega)
    (show _ = 0 * 1024 + l.val by omega))

/-! ## The reference -/

section

variable (f : FVec Ideal S16384x2816 .bf16) (w : FVec Ideal S2816x1024 .bf16) (x : FVec Ideal S16384x1024 .f32) (g : FVec Ideal S1x1024 .f32)

theorem reference_residual (y : S16384x1024.Idx) : val_main_v5 (F := Ideal) f w x y = residual f w x (y 0).val (y 1).val := by
  unfold residual rowCol
  rw [val_main_v5_apply, val_main_v4_apply, val_main_v3_apply, val_main_cst_apply, val_main_v2_apply, Finset.sum_range]
  refine congrArg₂ (· + ·) (at2_of x _ rfl rfl) ((EReal.mul_comm _ _).trans (congrArg₂ (· * ·) (Finset.sum_congr rfl fun k _ => ?_) rfl))
  rw [val_main_v0_apply, val_main_v1_apply]
  exact congrArg₂ (· * ·) (at2_of f _ rfl rfl) (at2_of w _ rfl rfl)

theorem reference_scale (y : Cert.DownReferenceIdeal.S16384x1.Idx) : val_main_v13 (F := Ideal) f w x y = scale (residual f w x (y 0).val) := by
  have e : val_main_v8 (F := Ideal) f w x y = ∑ k ∈ Finset.range 1024, residual f w x (y 0).val k * residual f w x (y 0).val k := by
    rw [val_main_v8_apply, val_main_v7_apply, val_main_cst_0_apply, Finset.sum_range]
    refine (congrArg (· + _) (by exact Ideal.ofBits_zero_f32)).trans ((zero_add _).trans (Finset.sum_congr rfl fun k _ => ?_))
    rw [val_main_v6_apply, reference_residual]
    rfl
  rw [val_main_v13_apply, val_main_v12_apply, val_main_v10_apply, e, val_main_v9_apply, val_main_cst_1_apply, val_main_v11_apply, val_main_cst_2_apply]
  rfl

theorem reference_normed (y : S16384x1024.Idx) : val_main_v17 (F := Ideal) f w x g y = normed f w x g (y 0).val (y 1).val := by
  rw [val_main_v17_apply, val_main_v15_apply, val_main_v14_apply, val_main_v16_apply, reference_residual, reference_scale]
  exact congrArg (_ * ·) (at2_of g _ rfl rfl)

end

theorem algebraic : Cert.algebraic_DownIdeal_DownReferenceIdeal := fun m g m' g' _ hargs => by
  refine ⟨fun c y => residual (argF m c) (argW m c) (argX m c) (y 0).val (y 1).val,
    fun c y => normed (argF m c) (argW m c) (argX m c) (argG m c) (y 0).val (y 1).val, ?_, ?_⟩
  · exact (θ_run Cert.DownIdeal.defs _ _).mono (fun r h c => ⟨(h c).1.trans (residual_val m c), (h c).2.1.trans (normed_val m c), (h c).2.2⟩)
      (Cert.DownIdeal.Value.run_blocks (F := Ideal) m g)
  · refine (θ_run Cert.DownReferenceIdeal.defs _ _).mono (fun r h c => ⟨(h c).1.trans ?_, (h c).2.1.trans ?_, (h c).2.2⟩)
      (Cert.DownReferenceIdeal.Value.run (F := Ideal) m' g')
    · rw [val_main_v5_eq, (hargs c).1, (hargs c).2.1, (hargs c).2.2.1]
      funext y
      exact reference_residual _ _ _ y
    · rw [val_main_v18_eq, (hargs c).1, (hargs c).2.1, (hargs c).2.2.1, (hargs c).2.2.2]
      funext y
      exact reference_normed _ _ _ _ y

end Cert.Proof.Down

end
-- ==== Proof.InProj.lean ====
/-
  The mixers' input projection: a grid point computes a block of 1024 tokens and 1024 columns from the block's whole rows and
  columns.
-/
module

public import proofs.«01_k».proof.Proof.Product
public import proofs.«01_k».proof.Proof.Gen.InProjIdeal.Value
public import proofs.«01_k».proof.Proof.Gen.InProjReferenceIdeal.Read
public import proofs.«01_k».proof.Defs
public import Idealize.ShloMosaic.Lib.Tactic

@[expose] public section

set_option maxRecDepth 16384

noncomputable section

namespace Cert.Proof.InProj

open Cert.InProjIdeal Cert.InProjIdeal.Gen
open Idealize.ShloMosaic Idealize.SL.Sem
open Idealize.ShloMosaic.TcCoe
open Cert.InProjReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S16384x1024 .bf16 := m ((c : Thread nD τ).loc main_arg0)
abbrev argW : FVec Ideal S1024x4096 .bf16 := m ((c : Thread nD τ).loc main_arg1)

theorem idx0_0 : ∀ t : Fin grid0.N, win0_0.index t = ![t.val / 4, 0] := by decide +kernel
theorem idx0_1 : ∀ t : Fin grid0.N, win0_1.index t = ![0, t.val % 4] := by decide +kernel
theorem idx0_2 : ∀ t : Fin grid0.N, win0_2.index t = ![t.val / 4, t.val % 4] := by decide +kernel

theorem blockH (t : Fin cfg0.N) (r k : Fin 1024) : iblk m c 0 t (ix2 r k) = at2 (argH m c) (1024 * (t.val / 4) + r.val) k.val := by
  refine at2_of (argH m c) (((cfg0.win 0).blk t).view.emb (ix2 r k)) ?_ ?_
  · blk_simp [idx0_0 t]; omega
  · blk_simp [idx0_0 t]

theorem blockW (t : Fin cfg0.N) (k l : Fin 1024) : iblk m c 1 t (ix2 k l) = at2 (argW m c) k.val (1024 * (t.val % 4) + l.val) := by
  refine at2_of (argW m c) (((cfg0.win 1).blk t).view.emb (ix2 k l)) ?_ ?_
  · blk_simp [idx0_1 t]
  · blk_simp [idx0_1 t]; omega

theorem point_val (t : Fin cfg0.N) (r l : Fin 1024) :
    k0_pay1 (iblk m c 0 t) (iblk m c 1 t) (ix2 r l) = rowCol (argH m c) (argW m c) (1024 * (t.val / 4) + r.val) (1024 * (t.val % 4) + l.val) := by
  unfold rowCol
  rw [Finset.sum_range]
  pointwise [k0_pay1]
  exact Finset.sum_congr rfl fun k _ => by rw [← blockH, ← blockW]

theorem after_val (t : Fin cfg0.N) (r l : Fin 1024) :
    (dats m 0 c).after 2 t (ix2 r l) = rowCol (argH m c) (argW m c) (1024 * (t.val / 4) + r.val) (1024 * (t.val % 4) + l.val) := by
  rw [after0_2, out0_2, View.canon_unit_zero hz]
  simp only [View.ld_unit_zero (S := S1024x1024) hz]
  exact point_val m c t r l

theorem result_val : (dats m 0 c).arrAt 2 cfg0.N = fun y => rowCol (argH m c) (argW m c) (y 0).val (y 1).val := by
  refine (dats m 0 c).arrAt_eq_of_covers 2 _ (by decide +kernel) fun t hf y => ?_
  blk_simp
  rw [idx0_2]
  obtain ⟨r, l, rfl⟩ : ∃ r l : Fin 1024, y = (ix2 r l : S1024x1024.Idx) := ⟨y 0, y 1, (ix2_eta (n0 := 1024) (n1 := 1024) y).symm⟩
  refine (after_val m c t r l).trans ?_
  simp only [Matrix.cons_val_zero, Matrix.cons_val_one, Nat.mul_comm]
  rfl

/-- The reference's result at an entry. -/
theorem reference_val (x : FVec Ideal S16384x1024 .bf16) (w : FVec Ideal S1024x4096 .bf16) (y : S16384x4096.Idx) :
    val_main_v2 (F := Ideal) x w y = rowCol x w (y 0).val (y 1).val := by
  unfold rowCol
  rw [val_main_v2_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_InProjIdeal_InProjReferenceIdeal := fun m g m' g' _ hargs => by
  refine ⟨fun c y => rowCol (argH m c) (argW m c) (y 0).val (y 1).val, ?_, ?_⟩
  · exact (θ_run Cert.InProjIdeal.defs _ _).mono (fun r h c => ⟨(h c).1.trans (result_val m c), (h c).2⟩) (Cert.InProjIdeal.Value.run_blocks (F := Ideal) m g)
  · refine (θ_run Cert.InProjReferenceIdeal.defs _ _).mono (fun r h c => ⟨(h c).1.trans ?_, (h c).2⟩) (Cert.InProjReferenceIdeal.Value.run (F := Ideal) m' g')
    rw [val_main_v3_eq, (hargs c).1, (hargs c).2]
    funext y
    exact reference_val _ _ y

end Cert.Proof.InProj

end
-- ==== Proof.GateProj.lean ====
/-
  The logits of the mixing gate, before their bias: a grid point computes a block of 1024 tokens and 1024 columns from the block's whole rows and
  columns.
-/
module

public import proofs.«01_k».proof.Proof.Product
public import proofs.«01_k».proof.Proof.Gen.GateProjIdeal.Value
public import proofs.«01_k».proof.Proof.Gen.GateProjReferenceIdeal.Read
public import proofs.«01_k».proof.Defs
public import Idealize.ShloMosaic.Lib.Tactic

@[expose] public section

set_option maxRecDepth 16384

noncomputable section

namespace Cert.Proof.GateProj

open Cert.GateProjIdeal Cert.GateProjIdeal.Gen
open Idealize.ShloMosaic Idealize.SL.Sem
open Idealize.ShloMosaic.TcCoe
open Cert.GateProjReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S16384x1024 .bf16 := m ((c : Thread nD τ).loc main_arg0)
abbrev argW : FVec Ideal S1024x3072 .bf16 := m ((c : Thread nD τ).loc main_arg1)

theorem idx0_0 : ∀ t : Fin grid0.N, win0_0.index t = ![t.val / 3, 0] := by decide +kernel
theorem idx0_1 : ∀ t : Fin grid0.N, win0_1.index t = ![0, t.val % 3] := by decide +kernel
theorem idx0_2 : ∀ t : Fin grid0.N, win0_2.index t = ![t.val / 3, t.val % 3] := by decide +kernel

theorem blockH (t : Fin cfg0.N) (r k : Fin 1024) : iblk m c 0 t (ix2 r k) = at2 (argH m c) (1024 * (t.val / 3) + r.val) k.val := by
  refine at2_of (argH m c) (((cfg0.win 0).blk t).view.emb (ix2 r k)) ?_ ?_
  · blk_simp [idx0_0 t]; omega
  · blk_simp [idx0_0 t]

theorem blockW (t : Fin cfg0.N) (k l : Fin 1024) : iblk m c 1 t (ix2 k l) = at2 (argW m c) k.val (1024 * (t.val % 3) + l.val) := by
  refine at2_of (argW m c) (((cfg0.win 1).blk t).view.emb (ix2 k l)) ?_ ?_
  · blk_simp [idx0_1 t]
  · blk_simp [idx0_1 t]; omega

theorem point_val (t : Fin cfg0.N) (r l : Fin 1024) :
    k0_pay1 (iblk m c 0 t) (iblk m c 1 t) (ix2 r l) = rowCol (argH m c) (argW m c) (1024 * (t.val / 3) + r.val) (1024 * (t.val % 3) + l.val) := by
  unfold rowCol
  rw [Finset.sum_range]
  pointwise [k0_pay1]
  exact Finset.sum_congr rfl fun k _ => by rw [← blockH, ← blockW]

theorem after_val (t : Fin cfg0.N) (r l : Fin 1024) :
    (dats m 0 c).after 2 t (ix2 r l) = rowCol (argH m c) (argW m c) (1024 * (t.val / 3) + r.val) (1024 * (t.val % 3) + l.val) := by
  rw [after0_2, out0_2, View.canon_unit_zero hz]
  simp only [View.ld_unit_zero (S := S1024x1024) hz]
  exact point_val m c t r l

theorem result_val : (dats m 0 c).arrAt 2 cfg0.N = fun y => rowCol (argH m c) (argW m c) (y 0).val (y 1).val := by
  refine (dats m 0 c).arrAt_eq_of_covers 2 _ (by decide +kernel) fun t hf y => ?_
  blk_simp
  rw [idx0_2]
  obtain ⟨r, l, rfl⟩ : ∃ r l : Fin 1024, y = (ix2 r l : S1024x1024.Idx) := ⟨y 0, y 1, (ix2_eta (n0 := 1024) (n1 := 1024) y).symm⟩
  refine (after_val m c t r l).trans ?_
  simp only [Matrix.cons_val_zero, Matrix.cons_val_one, Nat.mul_comm]
  rfl

/-- The reference's result at an entry. -/
theorem reference_val (x : FVec Ideal S16384x1024 .bf16) (w : FVec Ideal S1024x3072 .bf16) (y : S16384x3072.Idx) :
    val_main_v2 (F := Ideal) x w y = rowCol x w (y 0).val (y 1).val := by
  unfold rowCol
  rw [val_main_v2_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_GateProjIdeal_GateProjReferenceIdeal := fun m g m' g' _ hargs => by
  refine ⟨fun c y => rowCol (argH m c) (argW m c) (y 0).val (y 1).val, ?_, ?_⟩
  · exact (θ_run Cert.GateProjIdeal.defs _ _).mono (fun r h c => ⟨(h c).1.trans (result_val m c), (h c).2⟩) (Cert.GateProjIdeal.Value.run_blocks (F := Ideal) m g)
  · refine (θ_run Cert.GateProjReferenceIdeal.defs _ _).mono (fun r h c => ⟨(h c).1.trans ?_, (h c).2⟩) (Cert.GateProjReferenceIdeal.Value.run (F := Ideal) m' g')
    rw [val_main_v3_eq, (hargs c).1, (hargs c).2]
    funext y
    exact reference_val _ _ y

end Cert.Proof.GateProj

end
-- ==== Proof.DwIn.lean ====
/-
  The gradient of the input projection's weight: the call adds up, block of 1024 tokens by block, the product of the inputs'
  columns with the gradient's columns.
-/
module

public import proofs.«01_k».proof.Proof.Product
public import proofs.«01_k».proof.Proof.Gen.DwInIdeal.Value
public import proofs.«01_k».proof.Proof.Gen.DwInReferenceIdeal.Read
public import proofs.«01_k».proof.Defs
public import Idealize.ShloMosaic.Lib.Tactic

@[expose] public section

set_option maxRecDepth 16384

noncomputable section

namespace Cert.Proof.DwIn

open Cert.DwInIdeal Cert.DwInIdeal.Gen
open Idealize.ShloMosaic Idealize.SL.Sem
open Cert.DwInReferenceIdeal.Read
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S1024x1024 .bf16) (h3 : a3.IsWhole)
  (a4 : Memref sig .tc .vmem S1024x2048 .bf16) (h4 : a4.IsWhole) (a5 : Memref sig .tc .vmem S1024x2048 .f32) (h5 : a5.IsWhole)
  (a6 : Memref sig .tc .vmem S1024x2048 .f32) (h6 : a6.IsWhole) (x : Vec F S1024x1024 .bf16) (y : Vec F S1024x2048 .bf16)
  (s : Vec F S1024x2048 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x1024) hz, View.ld_unit_zero (S := S1024x2048) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x1024) hz,
    View.ld_unit_zero (S := S1024x2048) hz, View.ld_unit_zero (S := S1024x2048) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S1024x2048) hz, View.ld_unit_zero (S := S1024x2048) hz]

/-- What the last block of tokens writes out: the finished sum. -/
theorem written_last (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x2048) _ hz, View.readAt_eq_ld, h3.read_unread, h4.read_unread, h6.read_unread,
    View.ld_unit_zero (S := S1024x1024) hz, View.ld_unit_zero (S := S1024x2048) hz, View.ld_unit_zero (S := S1024x2048) hz]

end

/-! ## The sums -/

variable (m : (ℓ : Loc nD τ sig) → Buf (Elt Ideal) ℓ) (c : Dev nD)

/-- The call's arguments. -/
abbrev argH : FVec Ideal S16384x1024 .bf16 := m ((c : Thread nD τ).loc main_arg0)
abbrev argD : FVec Ideal S16384x4096 .bf16 := m ((c : Thread nD τ).loc main_arg1)

theorem idx0_0 : ∀ t : Fin grid0.N, win0_0.index t = ![t.val % 16, 0] := by decide +kernel
theorem idx0_1 : ∀ t : Fin grid0.N, win0_1.index t = ![t.val % 16, t.val / 16] := by decide +kernel

theorem blockH (t : Fin cfg0.N) (k : Fin 1024) (r : Fin 1024) : iblk m c 0 t (ix2 k r) = at2 (argH m c) (1024 * (t.val % 16) + k.val) r.val := by
  refine at2_of (argH m c) (((cfg0.win 0).blk t).view.emb (ix2 k r)) ?_ ?_
  · blk_simp [idx0_0 t]; omega
  · blk_simp [idx0_0 t]

theorem blockD (t : Fin cfg0.N) (k : Fin 1024) (l : Fin 2048) :
    iblk m c 1 t (ix2 k l) = at2 (argD m c) (1024 * (t.val % 16) + k.val) (2048 * (t.val / 16) + l.val) := by
  refine at2_of (argD m c) (((cfg0.win 1).blk t).view.emb (ix2 k l)) ?_ ?_
  · blk_simp [idx0_1 t]; omega
  · blk_simp [idx0_1 t]; omega

/-- A point adds its block of tokens. -/
theorem step_val (t : Fin cfg0.N) (s : Vec Ideal S1024x2048 .f32) (r : Fin 1024) (l : Fin 2048)
    (hs : s (ix2 r l) = colCol (argH m c) (argD m c) (1024 * (t.val % 16)) r.val (2048 * (t.val / 16) + l.val)) :
    k0_pay2 s (iblk m c 0 t) (iblk m c 1 t) (ix2 r l) = colCol (argH m c) (argD m c) (1024 * (t.val % 16 + 1)) r.val (2048 * (t.val / 16) + l.val) := by
  unfold colCol at hs ⊢
  rw [sum_block, ← hs]
  pointwise [k0_pay2]
  congr 1
  exact Finset.sum_congr rfl fun k _ => by rw [← blockH, ← blockD]

theorem first_zero (r : Fin 1024) (l : Fin 2048) : k0_pay1 (F := Ideal) (ix2 r l) = 0 := by
  pointwise [k0_pay1]

/-- What a point leaves in the running sum. -/
theorem scratch_val : ∀ (n : ℕ) (hn : n < cfg0.N) (r : Fin 1024) (l : Fin 2048),
    (outsAt0 m c n hn).2 (ix2 r l) = colCol (argH m c) (argD m c) (1024 * (n % 16 + 1)) r.val (2048 * (n / 16) + l.val)
  | n, hn, r, l => by
    have hN : n < 32 := lt_of_lt_of_eq hn (show cfg0.N = 32 from N_0)
    by_cases e0 : n % 16 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 16 + 1 = n % 16 by omega, show (n - 1) / 16 = n / 16 by omega] at ih
      by_cases e1 : n % 16 = 15
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: the product over all the tokens. -/
theorem written_val (n : ℕ) (hn : n < cfg0.N) (e1 : n % 16 = 15) (r : Fin 1024) (l : Fin 2048) :
    (outsAt0 m c n hn).1 (ix2 r l) = colCol (argH m c) (argD m c) 16384 r.val (2048 * (n / 16) + l.val) := by
  rw [outsAt0_C m c ⟨n, hn⟩ (by dsimp only; omega) e1]
  dsimp only
  rw [written_last]
  have ih := scratch_val m c (n - 1) (by omega) r l
  rw [show (n - 1) % 16 + 1 = n % 16 by omega, show (n - 1) / 16 = n / 16 by omega] at ih
  refine (step_val m c ⟨n, hn⟩ _ r l ih).trans ?_
  dsimp only
  rw [e1]

/-- The call's result. -/
theorem result_val : Cert.DwInIdeal.Value.G2 m c = fun y => colCol (argH m c) (argD m c) 16384 (y 0).val (y 1).val := by
  funext y
  have y0 : (y 0).val < 1024 := (y 0).isLt
  have y1 : (y 1).val < 4096 := (y 1).isLt
  have hp : Cert.DwInIdeal.Value.pt2Of y = 16 * ((y 1).val / 2048) + 15 := by
    show 16 * (2 * ((y 0).val / 1024 - 0) + 1 * ((y 1).val / 2048 - 0)) + 15 = _
    omega
  have hlt : Cert.DwInIdeal.Value.pt2Of y < cfg0.N := by rw [hp, show cfg0.N = 32 from N_0]; omega
  have hl : Cert.DwInIdeal.Value.loc2Of y = ix2 ⟨(y 0).val % 1024, Nat.mod_lt _ (by decide)⟩ ⟨(y 1).val % 2048, Nat.mod_lt _ (by decide)⟩ :=
    funext fun a => match a with | ⟨0, _⟩ => rfl | ⟨1, _⟩ => rfl
  unfold Cert.DwInIdeal.Value.G2
  rw [dif_pos hlt, ← Cert.DwInIdeal.Value.outsAt0_sweep, hl]
  refine (written_val m c _ hlt (by omega) _ _).trans ?_
  dsimp only
  rw [show (y 0).val % 1024 = (y 0).val by omega, show 2048 * (Cert.DwInIdeal.Value.pt2Of y / 16) + (y 1).val % 2048 = (y 1).val by omega]

/-- The reference's result at an entry. -/
theorem reference_val (x : FVec Ideal S16384x1024 .bf16) (d : FVec Ideal S16384x4096 .bf16)
    (y : S1024x4096.Idx) :
    val_main_v5 (F := Ideal) x d y = colCol x d 16384 (y 0).val (y 1).val := by
  unfold colCol
  rw [val_main_v5_apply, val_main_v4_apply, Finset.sum_range]
  refine Finset.sum_congr rfl fun k _ => ?_
  rw [mul_comm, val_main_v0_apply, val_main_v1_apply]
  exact congrArg₂ (· * ·) (at2_of x _ rfl rfl) (at2_of d _ rfl rfl)

theorem algebraic : Cert.algebraic_DwInIdeal_DwInReferenceIdeal := fun m g m' g' _ hargs => by
  refine ⟨fun c y => colCol (argH m c) (argD m c) 16384 (y 0).val (y 1).val, ?_, ?_⟩
  · exact (θ_run Cert.DwInIdeal.defs _ _).mono (fun r h c => ⟨(h c).1.trans (result_val m c), (h c).2⟩) (Cert.DwInIdeal.Value.run (F := Ideal) m g)
  · refine (θ_run Cert.DwInReferenceIdeal.defs _ _).mono (fun r h c => ⟨(h c).1.trans ?_, (h c).2⟩) (Cert.DwInReferenceIdeal.Value.run (F := Ideal) m' g')
    rw [val_main_v5_eq, (hargs c).1, (hargs c).2]
    funext y
    exact reference_val _ _ y

end Cert.Proof.DwIn

end
-- ==== Proof.DwGate.lean ====
/-
  The gradient of the gate projection's weight: the call adds up, block of 1024 tokens by block, the product of the inputs'
  columns with the gradient's columns.
-/
module

public import proofs.«01_k».proof.Proof.Product
public import proofs.«01_k».proof.Proof.Gen.DwGateIdeal.Value
public import proofs.«01_k».proof.Proof.Gen.DwGateReferenceIdeal.Read
public import proofs.«01_k».proof.Defs
public import Idealize.ShloMosaic.Lib.Tactic

@[expose] public section

set_option maxRecDepth 16384

noncomputable section

namespace Cert.Proof.DwGate

open Cert.DwGateIdeal Cert.DwGateIdeal.Gen
open Idealize.ShloMosaic Idealize.SL.Sem
open Cert.DwGateReferenceIdeal.Read
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S1024x1024 .bf16) (h3 : a3.IsWhole)
  (a4 : Memref sig .tc .vmem S1024x1536 .bf16) (h4 : a4.IsWhole) (a5 : Memref sig .tc .vmem S1024x1536 .f32) (h5 : a5.IsWhole)
  (a6 : Memref sig .tc .vmem S1024x1536 .f32) (h6 : a6.IsWhole) (x : Vec F S1024x1024 .bf16) (y : Vec F S1024x1536 .bf16)
  (s : Vec F S1024x1536 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1536) hz, View.readCov_unit_zero (S := S1024x1536) _ hz]
  simp only [View.readAt_eq_ld, h3.read_unread, h4.read_unread, View.ld_unit_zero (S := S1024x1024) hz, View.ld_unit_zero (S := S1024x1536) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x1024) hz,
    View.ld_unit_zero (S := S1024x1536) hz, View.ld_unit_zero (S := S1024x1536) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S1024x1536) hz, View.ld_unit_zero (S := S1024x1536) hz]

/-- What the last block of tokens writes out: the finished sum. -/
theorem written_last (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x1536) _ hz, View.readAt_eq_ld, h3.read_unread, h4.read_unread, h6.read_unread,
    View.ld_unit_zero (S := S1024x1024) hz, View.ld_unit_zero (S := S1024x1536) hz, View.ld_unit_zero (S := S1024x1536) hz]

end

/-! ## The sums -/

variable (m : (ℓ : Loc nD τ sig) → Buf (Elt Ideal) ℓ) (c : Dev nD)

/-- The call's arguments. -/
abbrev argH : FVec Ideal S16384x1024 .bf16 := m ((c : Thread nD τ).loc main_arg0)
abbrev argD : FVec Ideal S16384x3072 .bf16 := m ((c : Thread nD τ).loc main_arg1)

theorem idx0_0 : ∀ t : Fin grid0.N, win0_0.index t = ![t.val % 16, 0] := by decide +kernel
theorem idx0_1 : ∀ t : Fin grid0.N, win0_1.index t = ![t.val % 16, t.val / 16] := by decide +kernel

theorem blockH (t : Fin cfg0.N) (k : Fin 1024) (r : Fin 1024) : iblk m c 0 t (ix2 k r) = at2 (argH m c) (1024 * (t.val % 16) + k.val) r.val := by
  refine at2_of (argH m c) (((cfg0.win 0).blk t).view.emb (ix2 k r)) ?_ ?_
  · blk_simp [idx0_0 t]; omega
  · blk_simp [idx0_0 t]

theorem blockD (t : Fin cfg0.N) (k : Fin 1024) (l : Fin 1536) :
    iblk m c 1 t (ix2 k l) = at2 (argD m c) (1024 * (t.val % 16) + k.val) (1536 * (t.val / 16) + l.val) := by
  refine at2_of (argD m c) (((cfg0.win 1).blk t).view.emb (ix2 k l)) ?_ ?_
  · blk_simp [idx0_1 t]; omega
  · blk_simp [idx0_1 t]; omega

/-- A point adds its block of tokens. -/
theorem step_val (t : Fin cfg0.N) (s : Vec Ideal S1024x1536 .f32) (r : Fin 1024) (l : Fin 1536)
    (hs : s (ix2 r l) = colCol (argH m c) (argD m c) (1024 * (t.val % 16)) r.val (1536 * (t.val / 16) + l.val)) :
    k0_pay2 s (iblk m c 0 t) (iblk m c 1 t) (ix2 r l) = colCol (argH m c) (argD m c) (1024 * (t.val % 16 + 1)) r.val (1536 * (t.val / 16) + l.val) := by
  unfold colCol at hs ⊢
  rw [sum_block, ← hs]
  pointwise [k0_pay2]
  congr 1
  exact Finset.sum_congr rfl fun k _ => by rw [← blockH, ← blockD]

theorem first_zero (r : Fin 1024) (l : Fin 1536) : k0_pay1 (F := Ideal) (ix2 r l) = 0 := by
  pointwise [k0_pay1]

/-- What a point leaves in the running sum. -/
theorem scratch_val : ∀ (n : ℕ) (hn : n < cfg0.N) (r : Fin 1024) (l : Fin 1536),
    (outsAt0 m c n hn).2 (ix2 r l) = colCol (argH m c) (argD m c) (1024 * (n % 16 + 1)) r.val (1536 * (n / 16) + l.val)
  | n, hn, r, l => by
    have hN : n < 32 := lt_of_lt_of_eq hn (show cfg0.N = 32 from N_0)
    by_cases e0 : n % 16 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 16 + 1 = n % 16 by omega, show (n - 1) / 16 = n / 16 by omega] at ih
      by_cases e1 : n % 16 = 15
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: the product over all the tokens. -/
theorem written_val (n : ℕ) (hn : n < cfg0.N) (e1 : n % 16 = 15) (r : Fin 1024) (l : Fin 1536) :
    (outsAt0 m c n hn).1 (ix2 r l) = colCol (argH m c) (argD m c) 16384 r.val (1536 * (n / 16) + l.val) := by
  rw [outsAt0_C m c ⟨n, hn⟩ (by dsimp only; omega) e1]
  dsimp only
  rw [written_last]
  have ih := scratch_val m c (n - 1) (by omega) r l
  rw [show (n - 1) % 16 + 1 = n % 16 by omega, show (n - 1) / 16 = n / 16 by omega] at ih
  refine (step_val m c ⟨n, hn⟩ _ r l ih).trans ?_
  dsimp only
  rw [e1]

/-- The call's result. -/
theorem result_val : Cert.DwGateIdeal.Value.G2 m c = fun y => colCol (argH m c) (argD m c) 16384 (y 0).val (y 1).val := by
  funext y
  have y0 : (y 0).val < 1024 := (y 0).isLt
  have y1 : (y 1).val < 3072 := (y 1).isLt
  have hp : Cert.DwGateIdeal.Value.pt2Of y = 16 * ((y 1).val / 1536) + 15 := by
    show 16 * (2 * ((y 0).val / 1024 - 0) + 1 * ((y 1).val / 1536 - 0)) + 15 = _
    omega
  have hlt : Cert.DwGateIdeal.Value.pt2Of y < cfg0.N := by rw [hp, show cfg0.N = 32 from N_0]; omega
  have hl : Cert.DwGateIdeal.Value.loc2Of y = ix2 ⟨(y 0).val % 1024, Nat.mod_lt _ (by decide)⟩ ⟨(y 1).val % 1536, Nat.mod_lt _ (by decide)⟩ :=
    funext fun a => match a with | ⟨0, _⟩ => rfl | ⟨1, _⟩ => rfl
  unfold Cert.DwGateIdeal.Value.G2
  rw [dif_pos hlt, ← Cert.DwGateIdeal.Value.outsAt0_sweep, hl]
  refine (written_val m c _ hlt (by omega) _ _).trans ?_
  dsimp only
  rw [show (y 0).val % 1024 = (y 0).val by omega, show 1536 * (Cert.DwGateIdeal.Value.pt2Of y / 16) + (y 1).val % 1536 = (y 1).val by omega]

/-- The reference's result at an entry. -/
theorem reference_val (x : FVec Ideal S16384x1024 .bf16) (d : FVec Ideal S16384x3072 .bf16)
    (y : S1024x3072.Idx) :
    val_main_v5 (F := Ideal) x d y = colCol x d 16384 (y 0).val (y 1).val := by
  unfold colCol
  rw [val_main_v5_apply, val_main_v4_apply, Finset.sum_range]
  refine Finset.sum_congr rfl fun k _ => ?_
  rw [mul_comm, val_main_v0_apply, val_main_v1_apply]
  exact congrArg₂ (· * ·) (at2_of x _ rfl rfl) (at2_of d _ rfl rfl)

theorem algebraic : Cert.algebraic_DwGateIdeal_DwGateReferenceIdeal := fun m g m' g' _ hargs => by
  refine ⟨fun c y => colCol (argH m c) (argD m c) 16384 (y 0).val (y 1).val, ?_, ?_⟩
  · exact (θ_run Cert.DwGateIdeal.defs _ _).mono (fun r h c => ⟨(h c).1.trans (result_val m c), (h c).2⟩) (Cert.DwGateIdeal.Value.run (F := Ideal) m g)
  · refine (θ_run Cert.DwGateReferenceIdeal.defs _ _).mono (fun r h c => ⟨(h c).1.trans ?_, (h c).2⟩) (Cert.DwGateReferenceIdeal.Value.run (F := Ideal) m' g')
    rw [val_main_v5_eq, (hargs c).1, (hargs c).2]
    funext y
    exact reference_val _ _ y

end Cert.Proof.DwGate

end
-- ==== Proof.DhIn.lean ====
/-
  The input projection's share of its input's gradient: the call multiplies rows with rows, over two halves of the 4096
  columns.
-/
module

public import proofs.«01_k».proof.Proof.Product
public import proofs.«01_k».proof.Proof.Gen.DhInIdeal.Value
public import proofs.«01_k».proof.Proof.Gen.DhInReferenceIdeal.Read
public import proofs.«01_k».proof.Defs
public import Idealize.ShloMosaic.Lib.Tactic

@[expose] public section

set_option maxRecDepth 16384

noncomputable section

namespace Cert.Proof.DhIn

open Cert.DhInIdeal Cert.DhInIdeal.Gen
open Idealize.ShloMosaic Idealize.SL.Sem
open Cert.DhInReferenceIdeal.Read
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole) (x y : Vec F S1024x2048 .bf16) (s : Vec F S1024x1024 .f32)

/-- The first half of the columns: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz]

/-- The second half adds to it and writes the sum out. -/
theorem written_last (hc0 : ¬cond0_0 i) (hc1 : cond0_1 i) : out0_B_2 c i a3 h3 a4 h4 a5 h5 a6 h6 hc0 hc1 x y s = k0_pay2 s x y := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero hz]
  simp only [View.readCov_unit_zero (S := S1024x1024) _ hz, View.readAt_eq_ld, h3.read_unread, h4.read_unread, h6.read_unread,
    View.ld_unit_zero (S := S1024x2048) hz, View.ld_unit_zero (S := S1024x1024) hz]

end

/-! ## The sums -/

variable (m : (ℓ : Loc nD τ sig) → Buf (Elt Ideal) ℓ) (c : Dev nD)

/-- The call's arguments. -/
abbrev argD : FVec Ideal S16384x4096 .bf16 := m ((c : Thread nD τ).loc main_arg0)
abbrev argW : FVec Ideal S1024x4096 .bf16 := m ((c : Thread nD τ).loc main_arg1)

theorem idx0_0 : ∀ t : Fin grid0.N, win0_0.index t = ![t.val / 2, t.val % 2] := by decide +kernel
theorem idx0_1 : ∀ t : Fin grid0.N, win0_1.index t = ![0, t.val % 2] := by decide +kernel

theorem blockD (t : Fin cfg0.N) (r : Fin 1024) (k : Fin 2048) :
    iblk m c 0 t (ix2 r k) = at2 (argD m c) (1024 * (t.val / 2) + r.val) (2048 * (t.val % 2) + k.val) := by
  refine at2_of (argD m c) (((cfg0.win 0).blk t).view.emb (ix2 r k)) ?_ ?_
  · blk_simp [idx0_0 t]; omega
  · blk_simp [idx0_0 t]; omega

theorem blockW (t : Fin cfg0.N) (l : Fin 1024) (k : Fin 2048) : iblk m c 1 t (ix2 l k) = at2 (argW m c) l.val (2048 * (t.val % 2) + k.val) := by
  refine at2_of (argW m c) (((cfg0.win 1).blk t).view.emb (ix2 l k)) ?_ ?_
  · blk_simp [idx0_1 t]
  · blk_simp [idx0_1 t]; omega

/-- A point adds its half of the columns. -/
theorem step_val (t : Fin cfg0.N) (s : Vec Ideal S1024x1024 .f32) (r l : Fin 1024)
    (hs : s (ix2 r l) = rowRow (argD m c) (argW m c) (2048 * (t.val % 2)) (1024 * (t.val / 2) + r.val) l.val) :
    k0_pay2 s (iblk m c 0 t) (iblk m c 1 t) (ix2 r l) = rowRow (argD m c) (argW m c) (2048 * (t.val % 2 + 1)) (1024 * (t.val / 2) + r.val) l.val := by
  unfold rowRow at hs ⊢
  rw [sum_block, ← hs]
  pointwise [k0_pay2]
  congr 1
  exact Finset.sum_congr rfl fun k _ => by rw [← blockD, ← blockW]

theorem first_zero (r l : Fin 1024) : k0_pay1 (F := Ideal) (ix2 r l) = 0 := by
  pointwise [k0_pay1]

/-- What an even point leaves in the running sum. -/
theorem scratch_val (n : ℕ) (hn : n < cfg0.N) (e0 : n % 2 = 0) (r l : Fin 1024) :
    (outsAt0 m c n hn).2 (ix2 r l) = rowRow (argD m c) (argW m c) 2048 (1024 * (n / 2) + r.val) l.val := by
  rw [outsAt0_A m c ⟨n, hn⟩ e0 (by dsimp only; omega)]
  dsimp only
  rw [scratch_first]
  refine (step_val m c ⟨n, hn⟩ _ r l ?_).trans ?_
  · rw [first_zero]
    dsimp only
    rw [e0]
    exact (Finset.sum_range_zero _).symm
  · dsimp only
    rw [e0]

/-- What an odd point writes out. -/
theorem written_val (n : ℕ) (hn : n < cfg0.N) (e1 : n % 2 = 1) (r l : Fin 1024) :
    (outsAt0 m c n hn).1 (ix2 r l) = rowRow (argD m c) (argW m c) 4096 (1024 * (n / 2) + r.val) l.val := by
  rw [outsAt0_B m c ⟨n, hn⟩ (by dsimp only; omega) e1]
  dsimp only
  rw [written_last]
  have ih := scratch_val m c (n - 1) (by omega) (by omega) r l
  rw [show (n - 1) / 2 = n / 2 by omega] at ih
  refine (step_val m c ⟨n, hn⟩ _ r l ?_).trans ?_
  · dsimp only
    rw [e1]
    exact ih
  · dsimp only
    rw [e1]

/-- The call's result. -/
theorem result_val : Cert.DhInIdeal.Value.G2 m c = fun y => rowRow (argD m c) (argW m c) 4096 (y 0).val (y 1).val := by
  funext y
  have y0 : (y 0).val < 16384 := (y 0).isLt
  have y1 : (y 1).val < 1024 := (y 1).isLt
  have hp : Cert.DhInIdeal.Value.pt2Of y = 2 * ((y 0).val / 1024) + 1 := by
    show 2 * (1 * ((y 0).val / 1024 - 0) + 1 * ((y 1).val / 1024 - 0)) + 1 = _
    omega
  have hlt : Cert.DhInIdeal.Value.pt2Of y < cfg0.N := by rw [hp, show cfg0.N = 32 from N_0]; omega
  have hl : Cert.DhInIdeal.Value.loc2Of y = ix2 ⟨(y 0).val % 1024, Nat.mod_lt _ (by decide)⟩ ⟨(y 1).val % 1024, Nat.mod_lt _ (by decide)⟩ :=
    funext fun a => match a with | ⟨0, _⟩ => rfl | ⟨1, _⟩ => rfl
  unfold Cert.DhInIdeal.Value.G2
  rw [dif_pos hlt, ← Cert.DhInIdeal.Value.outsAt0_sweep, hl]
  refine (written_val m c _ hlt (by omega) _ _).trans ?_
  dsimp only
  rw [show (y 1).val % 1024 = (y 1).val by omega, show 1024 * (Cert.DhInIdeal.Value.pt2Of y / 2) + (y 0).val % 1024 = (y 0).val by omega]

/-- The reference's result at an entry. -/
theorem reference_val (x : FVec Ideal S16384x4096 .bf16) (w : FVec Ideal S1024x4096 .bf16) (y : S16384x1024.Idx) :
    val_main_v4 (F := Ideal) x w y = rowRow x w 4096 (y 0).val (y 1).val := by
  unfold rowRow
  rw [val_main_v4_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_DhInIdeal_DhInReferenceIdeal := fun m g m' g' _ hargs => by
  refine ⟨fun c y => rowRow (argD m c) (argW m c) 4096 (y 0).val (y 1).val, ?_, ?_⟩
  · exact (θ_run Cert.DhInIdeal.defs _ _).mono (fun r h c => ⟨(h c).1.trans (result_val m c), (h c).2⟩) (Cert.DhInIdeal.Value.run (F := Ideal) m g)
  · refine (θ_run Cert.DhInReferenceIdeal.defs _ _).mono (fun r h c => ⟨(h c).1.trans ?_, (h c).2⟩) (Cert.DhInReferenceIdeal.Value.run (F := Ideal) m' g')
    rw [val_main_v4_eq, (hargs c).1, (hargs c).2]
    funext y
    exact reference_val _ _ y

end Cert.Proof.DhIn

end
-- ==== Proof.Loss.lean ====
/-
  The last half step's down projection: a grid point computes 512 rows of the output's gradient, and adds the squared
  errors of its rows to the sums over each column.
-/
module

public import proofs.«01_k».proof.Proof.Product
public import proofs.«01_k».proof.Proof.NormBack
public import proofs.«01_k».proof.Proof.Gen.LossIdeal.Value
public import proofs.«01_k».proof.Proof.Gen.LossReferenceIdeal.Read
public import proofs.«01_k».proof.Defs
public import Idealize.ShloMosaic.Lib.Tactic

@[expose] public section

set_option maxRecDepth 16384

noncomputable section

namespace Cert.Proof.Loss

open Cert.LossIdeal Cert.LossIdeal.Gen
open Idealize.ShloMosaic Idealize.SL.Sem
open Idealize.ShloMosaic.TcCoe
open Cert.LossReferenceIdeal.Read

theorem hz : (![0, 0] : Fin 2 → Nat) = fun _ => 0 := funext fun a => by fin_cases a <;> rfl

/-- One entry of the error: the input and half the product, less the target. -/
def error (f : FVec Ideal S16384x2816 .bf16) (w : FVec Ideal S2816x1024 .bf16) (x y : FVec Ideal S16384x1024 .f32) (i j : ℕ) : EReal :=
  at2 x i j + rowCol f w i j * Ideal.ofBits .f32 0x3F000000#32 - at2 y i j

/-- One entry of the output's gradient. -/
def grad (f : FVec Ideal S16384x2816 .bf16) (w : FVec Ideal S2816x1024 .bf16) (x y : FVec Ideal S16384x1024 .f32) (i j : ℕ) : EReal :=
  Ideal.div (error f w x y i j) (Ideal.ofBits .f32 0x44800000#32)

/-- A column's squared errors, over the first `n` rows. -/
def squares (f : FVec Ideal S16384x2816 .bf16) (w : FVec Ideal S2816x1024 .bf16) (x y : FVec Ideal S16384x1024 .f32) (n j : ℕ) : EReal :=
  ∑ i ∈ Finset.range n, error f w x y i j * error f w x y i j

theorem two_val : Ideal.ofBits .f32 0x40000000#32 = ((2 : ℝ) : EReal) := by
  simp [Ideal.ofBits, Ideal.ieee, -EReal.coe_mul]; norm_num

/-- The reference's factors of an error come to one over the width. -/
theorem factors (e : EReal) :
    Ideal.div (Ideal.ofBits .f32 0x3F000000#32 * Ideal.ofBits .f32 0x3F800000#32) (Ideal.ofBits .f32 0x44800000#32) * (Ideal.ofBits .f32 0x40000000#32 * e)
      = Ideal.div e (Ideal.ofBits .f32 0x44800000#32) := by
  rw [half_val, one_val, two_val, width_val, mul_one, Ideal.div_coe (by norm_num), Ideal.div_coe (by norm_num), ← mul_assoc, mul_comm]
  congr 1
  norm_cast
  norm_num

/-! ## What the two cases of a point leave -/

section

variable {F : FTy → Type} [FloatOps F]
variable (c : Dev nD) (i : grid0.Coords) (a3 : Memref sig .tc .vmem S512x2816 .bf16) (h3 : a3.IsWhole)
  (a4 : Memref sig .tc .vmem S2816x1024 .bf16) (h4 : a4.IsWhole) (a5 : Memref sig .tc .vmem S512x1024 .f32) (h5 : a5.IsWhole)
  (a6 : Memref sig .tc .vmem S512x1024 .f32) (h6 : a6.IsWhole) (a7 : Memref sig .tc .vmem S512x1024 .f32) (h7 : a7.IsWhole)
  (a8 : Memref sig .tc .vmem S512x1024 .bf16) (h8 : a8.IsWhole) (a9 : Memref sig .tc .vmem S1x1024 .f32) (h9 : a9.IsWhole)
  (x0 : Vec F S512x2816 .bf16) (x1 : Vec F S2816x1024 .bf16) (x2 x3 : Vec F S512x1024 .f32) (g : Vec F S1x1024 .f32)

theorem grad_first (hc : cond0_0 i) : out0_A_4 c i a3 h3 a4 h4 a5 h5 a6 h6 a7 h7 a8 h8 a9 h9 hc x0 x1 x2 x3 = k0_pay2 x0 x1 x2 x3 := by
  unfold out0_A_4
  rw [View.read_writes_eq_canon _ _ _ (cover0_A_4 c i a3 h3 a4 h4 a5 h5 a6 h6 a7 h7 a8 h8 a9 h9 hc x0 x1 x2 x3)]
  unfold kernelRun0_A
  dsimp only
  sl_unfold_words
  rw [View.canon_unit_zero hz]
  simp only [View.readAt_eq_ld, h3.read_unread, h4.read_unread, h5.read_unread, h6.read_unread, View.ld_unit_zero (S := S512x2816) hz,
    View.ld_unit_zero (S := S2816x1024) hz, View.ld_unit_zero (S := S512x1024) hz]

theorem cast_first (hc : cond0_0 i) : out0_A_5 c i a3 h3 a4 h4 a5 h5 a6 h6 a7 h7 a8 h8 a9 h9 hc x0 x1 x2 x3 = k0_pay3 x0 x1 x2 x3 := by
  unfold out0_A_5
  rw [View.read_writes_eq_canon _ _ _ (cover0_A_5 c i a3 h3 a4 h4 a5 h5 a6 h6 a7 h7 a8 h8 a9 h9 hc x0 x1 x2 x3)]
  unfold kernelRun0_A
  dsimp only
  sl_unfold_words
  rw [View.canon_unit_zero hz]
  simp only [View.readAt_eq_ld, h3.read_unread, h4.read_unread, h5.read_unread, h6.read_unread, View.ld_unit_zero (S := S512x2816) hz,
    View.ld_unit_zero (S := S2816x1024) hz, View.ld_unit_zero (S := S512x1024) hz]

/-- The sums start at zero. -/
theorem squares_first (hc : cond0_0 i) :
    out0_A_6 c i a3 h3 a4 h4 a5 h5 a6 h6 a7 h7 a8 h8 a9 h9 hc x0 x1 x2 x3 = k0_pay5 x0 x1 x2 x3 (k0_pay4 (F := F)) := by
  unfold out0_A_6
  rw [View.read_writes_eq_canon _ _ _ (cover0_A_6 c i a3 h3 a4 h4 a5 h5 a6 h6 a7 h7 a8 h8 a9 h9 hc x0 x1 x2 x3)]
  unfold kernelRun0_A
  dsimp only
  sl_unfold_words
  rw [View.canon_cons_unit_zero (S := S1x1024) hz, View.readCov_unit_zero (S := S1x1024) _ hz]
  simp only [View.readAt_eq_ld, h3.read_unread, h4.read_unread, h5.read_unread, h6.read_unread, View.ld_unit_zero (S := S512x2816) hz,
    View.ld_unit_zero (S := S2816x1024) hz, View.ld_unit_zero (S := S512x1024) hz]

theorem grad_next (hc : ¬cond0_0 i) : out0_B_4 c i a3 h3 a4 h4 a5 h5 a6 h6 a7 h7 a8 h8 a9 h9 hc x0 x1 x2 x3 g = k0_pay2 x0 x1 x2 x3 := by
  unfold out0_B_4
  rw [View.read_writes_eq_canon _ _ _ (cover0_B_4 c i a3 h3 a4 h4 a5 h5 a6 h6 a7 h7 a8 h8 a9 h9 hc x0 x1 x2 x3 g)]
  unfold kernelRun0_B
  dsimp only
  sl_unfold_words
  rw [View.canon_unit_zero hz]
  simp only [View.readAt_eq_ld, h3.read_unread, h4.read_unread, h5.read_unread, h6.read_unread, View.ld_unit_zero (S := S512x2816) hz,
    View.ld_unit_zero (S := S2816x1024) hz, View.ld_unit_zero (S := S512x1024) hz]

theorem cast_next (hc : ¬cond0_0 i) : out0_B_5 c i a3 h3 a4 h4 a5 h5 a6 h6 a7 h7 a8 h8 a9 h9 hc x0 x1 x2 x3 g = k0_pay3 x0 x1 x2 x3 := by
  unfold out0_B_5
  rw [View.read_writes_eq_canon _ _ _ (cover0_B_5 c i a3 h3 a4 h4 a5 h5 a6 h6 a7 h7 a8 h8 a9 h9 hc x0 x1 x2 x3 g)]
  unfold kernelRun0_B
  dsimp only
  sl_unfold_words
  rw [View.canon_unit_zero hz]
  simp only [View.readAt_eq_ld, h3.read_unread, h4.read_unread, h5.read_unread, h6.read_unread, View.ld_unit_zero (S := S512x2816) hz,
    View.ld_unit_zero (S := S2816x1024) hz, View.ld_unit_zero (S := S512x1024) hz]

/-- The sums grow by the block's. -/
theorem squares_next (hc : ¬cond0_0 i) : out0_B_6 c i a3 h3 a4 h4 a5 h5 a6 h6 a7 h7 a8 h8 a9 h9 hc x0 x1 x2 x3 g = k0_pay5 x0 x1 x2 x3 g := by
  unfold out0_B_6
  rw [View.read_writes_eq_canon _ _ _ (cover0_B_6 c i a3 h3 a4 h4 a5 h5 a6 h6 a7 h7 a8 h8 a9 h9 hc x0 x1 x2 x3 g)]
  unfold kernelRun0_B
  dsimp only
  sl_unfold_words
  rw [View.canon_unit_zero hz]
  simp only [View.readAt_eq_ld, h3.read_unread, h4.read_unread, h5.read_unread, h6.read_unread, h9.read_unread, View.ld_unit_zero (S := S512x2816) hz,
    View.ld_unit_zero (S := S2816x1024) hz, View.ld_unit_zero (S := S512x1024) hz, View.ld_unit_zero (S := S1x1024) hz]

end

/-! ## A point's numbers -/

variable (m : (ℓ : Loc nD τ sig) → Buf (Elt Ideal) ℓ) (c : Dev nD)

/-- The call's arguments. -/
abbrev argF : FVec Ideal S16384x2816 .bf16 := m ((c : Thread nD τ).loc main_arg0)
abbrev argW : FVec Ideal S2816x1024 .bf16 := m ((c : Thread nD τ).loc main_arg1)
abbrev argX : FVec Ideal S16384x1024 .f32 := m ((c : Thread nD τ).loc main_arg2)
abbrev argY : FVec Ideal S16384x1024 .f32 := m ((c : Thread nD τ).loc main_arg3)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel
theorem idx0_3 : ∀ t : Fin grid0.N, win0_3.index t = ![t.val, 0] := by decide +kernel
theorem idx0_4 : ∀ t : Fin grid0.N, win0_4.index t = ![t.val, 0] := by decide +kernel
theorem idx0_5 : ∀ t : Fin grid0.N, win0_5.index t = ![t.val, 0] := by decide +kernel
theorem idx0_6 : ∀ t : Fin grid0.N, win0_6.index t = ![0, 0] := by decide +kernel

theorem blockF (t : Fin cfg0.N) (r : Fin 512) (k : Fin 2816) : iblk m c 0 t (ix2 r k) = at2 (argF m c) (512 * t.val + r.val) k.val := by
  refine at2_of (argF m c) (((cfg0.win 0).blk t).view.emb (ix2 r k)) ?_ ?_
  · blk_simp [idx0_0 t]; omega
  · blk_simp [idx0_0 t]

theorem blockW (t : Fin cfg0.N) (k : Fin 2816) (l : Fin 1024) : iblk m c 1 t (ix2 k l) = at2 (argW m c) k.val l.val := by
  refine at2_of (argW m c) (((cfg0.win 1).blk t).view.emb (ix2 k l)) ?_ ?_
  · blk_simp [idx0_1 t]
  · blk_simp [idx0_1 t]

theorem blockX (t : Fin cfg0.N) (r : Fin 512) (l : Fin 1024) : iblk m c 2 t (ix2 r l) = at2 (argX m c) (512 * t.val + r.val) l.val := by
  refine at2_of (argX m c) (((cfg0.win 2).blk t).view.emb (ix2 r l)) ?_ ?_
  · blk_simp [idx0_2 t]; omega
  · blk_simp [idx0_2 t]

theorem blockY (t : Fin cfg0.N) (r : Fin 512) (l : Fin 1024) : iblk m c 3 t (ix2 r l) = at2 (argY m c) (512 * t.val + r.val) l.val := by
  refine at2_of (argY m c) (((cfg0.win 3).blk t).view.emb (ix2 r l)) ?_ ?_
  · blk_simp [idx0_3 t]; omega
  · blk_simp [idx0_3 t]

theorem error_row (f : Vec Ideal S512x2816 .bf16) (w : Vec Ideal S2816x1024 .bf16) (x y : Vec Ideal S512x1024 .f32) (r : Fin 512) (l : Fin 1024) :
    k0_pay1 f w x y (ix2 r l)
      = x (ix2 r l) + (∑ k : Fin 2816, f (ix2 r k) * w (ix2 k l)) * Ideal.ofBits .f32 0x3F000000#32 - y (ix2 r l) := by
  pointwise [k0_pay1]

theorem error_point (t : Fin cfg0.N) (r : Fin 512) (l : Fin 1024) :
    k0_pay1 (iblk m c 0 t) (iblk m c 1 t) (iblk m c 2 t) (iblk m c 3 t) (ix2 r l)
      = error (argF m c) (argW m c) (argX m c) (argY m c) (512 * t.val + r.val) l.val := by
  unfold error rowCol
  rw [Finset.sum_range]
  refine (error_row _ _ _ _ r l).trans (congrArg₂ (· - ·) (congrArg₂ (· + ·) (blockX m c t r l)
    (congrArg (· * _) (Finset.sum_congr rfl fun k _ => ?_))) (blockY m c t r l))
  exact congrArg₂ (· * ·) (blockF m c t r k) (blockW m c t k l)

theorem grad_row (f : Vec Ideal S512x2816 .bf16) (w : Vec Ideal S2816x1024 .bf16) (x y : Vec Ideal S512x1024 .f32) (r : Fin 512) (l : Fin 1024) :
    k0_pay2 f w x y (ix2 r l) = Ideal.div (k0_pay1 f w x y (ix2 r l)) (Ideal.ofBits .f32 0x44800000#32) := by
  unfold k0_pay2
  generalize k0_pay1 f w x y = p
  pointwise

theorem squares_row (f : Vec Ideal S512x2816 .bf16) (w : Vec Ideal S2816x1024 .bf16) (x y : Vec Ideal S512x1024 .f32) (g : Vec Ideal S1x1024 .f32)
    (l : Fin 1024) :
    k0_pay5 f w x y g (ix2 (0 : Fin 1) l) = g (ix2 (0 : Fin 1) l) + ∑ r : Fin 512, k0_pay1 f w x y (ix2 r l) * k0_pay1 f w x y (ix2 r l) := by
  unfold k0_pay5
  generalize k0_pay1 f w x y = p
  pointwise

theorem squares_zero (l : Fin 1024) : k0_pay4 (F := Ideal) (ix2 (0 : Fin 1) l) = 0 := by
  pointwise [k0_pay4]

/-- What a point leaves of the gradient, and of its cast. -/
theorem after_grad (t : Fin cfg0.N) :
    (outsAt0 m c t.val t.isLt).1 = k0_pay2 (iblk m c 0 t) (iblk m c 1 t) (iblk m c 2 t) (iblk m c 3 t)
      ∧ (outsAt0 m c t.val t.isLt).2.1 = k0_pay3 (iblk m c 0 t) (iblk m c 1 t) (iblk m c 2 t) (iblk m c 3 t) := by
  by_cases h : t.val % 32 = 0
  · rw [outsAt0_A m c t h]
    dsimp only
    rw [grad_first, cast_first]
    exact ⟨rfl, rfl⟩
  · rw [outsAt0_B m c t h]
    dsimp only
    rw [grad_next, cast_next]
    exact ⟨rfl, rfl⟩

theorem grad_point (t : Fin cfg0.N) (r : Fin 512) (l : Fin 1024) :
    k0_pay2 (iblk m c 0 t) (iblk m c 1 t) (iblk m c 2 t) (iblk m c 3 t) (ix2 r l)
      = grad (argF m c) (argW m c) (argX m c) (argY m c) (512 * t.val + r.val) l.val :=
  (grad_row _ _ _ _ r l).trans (congrArg (Ideal.div · _) (error_point m c t r l))

theorem squares_step (t : Fin cfg0.N) (g : Vec Ideal S1x1024 .f32) (l : Fin 1024)
    (hg : g (ix2 (0 : Fin 1) l) = squares (argF m c) (argW m c) (argX m c) (argY m c) (512 * t.val) l.val) :
    k0_pay5 (iblk m c 0 t) (iblk m c 1 t) (iblk m c 2 t) (iblk m c 3 t) g (ix2 (0 : Fin 1) l)
      = squares (argF m c) (argW m c) (argX m c) (argY m c) (512 * (t.val + 1)) l.val := by
  unfold squares at hg ⊢
  rw [sum_block, ← hg]
  refine (squares_row _ _ _ _ g l).trans (congrArg (_ + ·) (Finset.sum_congr rfl fun r _ => ?_))
  rw [error_point]

/-- What a point leaves of the sums. -/
theorem squares_val : ∀ (n : ℕ) (hn : n < cfg0.N) (l : Fin 1024),
    (outsAt0 m c n hn).2.2 (ix2 (0 : Fin 1) l) = squares (argF m c) (argW m c) (argX m c) (argY m c) (512 * (n + 1)) l.val
  | 0, hn, l => by
    rw [outsAt0_A m c ⟨0, hn⟩ rfl]
    dsimp only
    rw [squares_first]
    refine squares_step m c ⟨0, hn⟩ _ l ?_
    rw [squares_zero]
    exact (Finset.sum_range_zero _).symm
  | n + 1, hn, l => by
    have ih := squares_val n (by omega) l
    have hN : n + 1 < 32 := lt_of_lt_of_eq hn N_0
    rw [outsAt0_B m c ⟨n + 1, hn⟩ (by dsimp only; omega)]
    dsimp only
    rw [squares_next]
    exact squares_step m c ⟨n + 1, hn⟩ _ l ih

/-! ## The results -/

theorem grad_val : (dats m 0 c).arrAt 4 cfg0.N = fun y => grad (argF m c) (argW m c) (argX m c) (argY m c) (y 0).val (y 1).val := by
  refine (dats m 0 c).arrAt_eq_of_covers 4 _ (by decide +kernel) fun t hf y => ?_
  blk_simp
  rw [idx0_4, after0_4, (after_grad m c t).1]
  obtain ⟨r, l, rfl⟩ : ∃ (r : Fin 512) (l : Fin 1024), y = (ix2 r l : S512x1024.Idx) := ⟨y 0, y 1, (ix2_eta (n0 := 512) (n1 := 1024) y).symm⟩
  exact (grad_point m c t r l).trans (congrArg₂ (grad (argF m c) (argW m c) (argX m c) (argY m c)) (show _ = t.val * 512 + r.val by omega)
    (show _ = 0 * 1024 + l.val by omega))

theorem cast_val : (dats m 0 c).arrAt 5 cfg0.N = fun y => grad (argF m c) (argW m c) (argX m c) (argY m c) (y 0).val (y 1).val := by
  refine (dats m 0 c).arrAt_eq_of_covers 5 _ (by decide +kernel) fun t hf y => ?_
  blk_simp
  rw [idx0_5, after0_5, (after_grad m c t).2]
  obtain ⟨r, l, rfl⟩ : ∃ (r : Fin 512) (l : Fin 1024), y = (ix2 r l : S512x1024.Idx) := ⟨y 0, y 1, (ix2_eta (n0 := 512) (n1 := 1024) y).symm⟩
  exact (grad_point m c t r l).trans (congrArg₂ (grad (argF m c) (argW m c) (argX m c) (argY m c)) (show _ = t.val * 512 + r.val by omega)
    (show _ = 0 * 1024 + l.val by omega))

theorem sums_val : (dats m 0 c).arrAt 6 cfg0.N = fun y => squares (argF m c) (argW m c) (argX m c) (argY m c) 16384 (y 1).val := by
  refine (dats m 0 c).arrAt_eq_of_covers 6 _ (by decide +kernel) fun t hf y => ?_
  have ht : t.val = 31 := by
    have h1 := (flush0_6 t).mp hf
    have h2 : t.val < 32 := lt_of_lt_of_eq t.isLt N_0
    omega
  blk_simp
  rw [idx0_6, after0_6]
  obtain ⟨u, l, rfl⟩ : ∃ (u : Fin 1) (l : Fin 1024), y = (ix2 u l : S1x1024.Idx) := ⟨y 0, y 1, (ix2_eta (n0 := 1) (n1 := 1024) y).symm⟩
  obtain rfl : u = 0 := Subsingleton.elim _ _
  exact (squares_val m c t.val t.isLt l).trans (congrArg₂ (squares (argF m c) (argW m c) (argX m c) (argY m c)) (by rw [ht])
    (show _ = 0 * 1024 + l.val by omega))

/-! ## The reference -/

section

variable (f : FVec Ideal S16384x2816 .bf16) (w : FVec Ideal S2816x1024 .bf16) (x d : FVec Ideal S16384x1024 .f32)

theorem reference_error (y : S16384x1024.Idx) : val_main_v6 (F := Ideal) f w x d y = error f w x d (y 0).val (y 1).val := by
  unfold error rowCol
  rw [val_main_v6_apply, val_main_v5_apply, val_main_v4_apply, val_main_v3_apply, val_main_cst_apply, val_main_v2_apply, Finset.sum_range]
  refine congrArg₂ (· - ·) (congrArg₂ (· + ·) (at2_of x _ rfl rfl)
    ((EReal.mul_comm _ _).trans (congrArg₂ (· * ·) (Finset.sum_congr rfl fun k _ => ?_) rfl))) (at2_of d _ rfl rfl)
  rw [val_main_v0_apply, val_main_v1_apply]
  exact congrArg₂ (· * ·) (at2_of f _ rfl rfl) (at2_of w _ rfl rfl)

theorem reference_grad (y : S16384x1024.Idx) : val_main_v20 (F := Ideal) f w x d y = grad f w x d (y 0).val (y 1).val := by
  unfold grad
  rw [val_main_v20_apply, val_main_v19_apply, val_main_v18_apply, val_main_v16_apply, val_main_v15_apply, val_main_cst_5_apply, val_main_cst_6_apply,
    val_main_v17_apply, val_main_cst_7_apply, val_main_v9_apply, val_main_v8_apply, val_main_cst_0_apply, reference_error]
  exact factors _

theorem reference_squares (y : S1x1024.Idx) : val_main_v25 (F := Ideal) f w x d y = squares f w x d 16384 (y 1).val := by
  unfold squares
  rw [val_main_v25_apply, val_main_v24_apply, val_main_cst_8_apply, Finset.sum_range]
  refine (congrArg (· + _) (by exact Ideal.ofBits_zero_f32)).trans ((zero_add _).trans (Finset.sum_congr rfl fun k _ => ?_))
  have e : ∀ z, val_main_v22 (F := Ideal) f w x d z = error f w x d (z 0).val (z 1).val := reference_error f w x d
  rw [val_main_v23_apply, e]
  rfl

end

theorem algebraic : Cert.algebraic_LossIdeal_LossReferenceIdeal := fun m g m' g' _ hargs => by
  refine ⟨fun c y => grad (argF m c) (argW m c) (argX m c) (argY m c) (y 0).val (y 1).val,
    fun c y => grad (argF m c) (argW m c) (argX m c) (argY m c) (y 0).val (y 1).val,
    fun c y => squares (argF m c) (argW m c) (argX m c) (argY m c) 16384 (y 1).val, ?_, ?_⟩
  · exact (θ_run Cert.LossIdeal.defs _ _).mono
      (fun r h c => ⟨(h c).1.trans (grad_val m c), (h c).2.1.trans (cast_val m c), (h c).2.2.1.trans (sums_val m c), (h c).2.2.2⟩)
      (Cert.LossIdeal.Value.run_blocks (F := Ideal) m g)
  · refine (θ_run Cert.LossReferenceIdeal.defs _ _).mono
      (fun r h c => ⟨(h c).1.trans ?_, (h c).2.1.trans ?_, (h c).2.2.1.trans ?_, (h c).2.2.2⟩) (Cert.LossReferenceIdeal.Value.run (F := Ideal) m' g')
    · rw [val_main_v20_eq, (hargs c).1, (hargs c).2.1, (hargs c).2.2.1, (hargs c).2.2.2]
      funext y
      exact reference_grad _ _ _ _ y
    · rw [val_main_v21_eq, (hargs c).1, (hargs c).2.1, (hargs c).2.2.1, (hargs c).2.2.2]
      funext y
      exact reference_grad _ _ _ _ y
    · rw [val_main_v25_eq, (hargs c).1, (hargs c).2.1, (hargs c).2.2.1, (hargs c).2.2.2]
      funext y
      exact reference_squares _ _ _ _ y

end Cert.Proof.Loss

end
-- ==== Proof.DhGate.lean ====
/-
  The call that takes the gate's gradient through the mixing layer's norm: a grid point computes the gradient of 512 rows,
  and adds the rows' share to the gradient of the norm's gain.
-/
module

public import proofs.«01_k».proof.Proof.Product
public import proofs.«01_k».proof.Proof.DhAlgebraic
public import proofs.«01_k».proof.Proof.Gen.DhGateIdeal.Value
public import proofs.«01_k».proof.Proof.Gen.DhGateReferenceIdeal.Read
public import proofs.«01_k».proof.Defs
public import Idealize.ShloMosaic.Lib.Tactic

@[expose] public section

set_option maxRecDepth 16384

noncomputable section

namespace Cert.Proof.DhGate

open Cert.DhGateIdeal Cert.DhGateIdeal.Gen
open Idealize.ShloMosaic Idealize.SL.Sem
open Idealize.ShloMosaic.TcCoe
open Cert.DhGateReferenceIdeal.Read

theorem hz : (![0, 0] : Fin 2 → Nat) = fun _ => 0 := funext fun a => by fin_cases a <;> rfl

/-- One entry of the normed input's gradient: the gate's product, and what the other projections give. -/
def both (a : FVec Ideal S16384x3072 .bf16) (w : FVec Ideal S1024x3072 .bf16) (b : FVec Ideal S16384x1024 .f32) (i j : ℕ) : EReal :=
  rowRow a w 3072 i j + at2 b i j

/-- A row of it with the norm's gain. -/
def gained (a : FVec Ideal S16384x3072 .bf16) (w : FVec Ideal S1024x3072 .bf16) (b : FVec Ideal S16384x1024 .f32) (g : FVec Ideal S1x1024 .f32) (i k : ℕ) :
    EReal :=
  both a w b i k * at2 g 0 k

/-- One entry of the input's gradient. -/
def input (a : FVec Ideal S16384x3072 .bf16) (w : FVec Ideal S1024x3072 .bf16) (b x d : FVec Ideal S16384x1024 .f32) (g : FVec Ideal S1x1024 .f32) (i j : ℕ) :
    EReal :=
  backRow (at2 x i) (gained a w b g i) (at2 d i j) j

/-- One entry of the gain's gradient, over the first `n` rows. -/
def gain (a : FVec Ideal S16384x3072 .bf16) (w : FVec Ideal S1024x3072 .bf16) (b x : FVec Ideal S16384x1024 .f32) (n j : ℕ) : EReal :=
  ∑ i ∈ Finset.range n, both a w b i j * (at2 x i j * scale (at2 x i))

/-! ## What the two cases of a point leave -/

section

variable {F : FTy → Type} [FloatOps F]
variable (c : Dev nD) (i : grid0.Coords) (a3 : Memref sig .tc .vmem S512x3072 .bf16) (h3 : a3.IsWhole)
  (a4 : Memref sig .tc .vmem S1024x3072 .bf16) (h4 : a4.IsWhole) (a5 : Memref sig .tc .vmem S512x1024 .f32) (h5 : a5.IsWhole)
  (a6 : Memref sig .tc .vmem S512x1024 .f32) (h6 : a6.IsWhole) (a7 : Memref sig .tc .vmem S512x1024 .f32) (h7 : a7.IsWhole)
  (a8 : Memref sig .tc .vmem S1x1024 .f32) (h8 : a8.IsWhole) (a9 : Memref sig .tc .vmem S512x1024 .f32) (h9 : a9.IsWhole)
  (a10 : Memref sig .tc .vmem S512x1024 .bf16) (h10 : a10.IsWhole) (a11 : Memref sig .tc .vmem S1x1024 .f32) (h11 : a11.IsWhole)
  (x0 : Vec F S512x3072 .bf16) (x1 : Vec F S1024x3072 .bf16) (x2 x3 x4 : Vec F S512x1024 .f32) (x5 g : Vec F S1x1024 .f32)

theorem input_first (hc : cond0_0 i) :
    out0_A_6 c i a3 h3 a4 h4 a5 h5 a6 h6 a7 h7 a8 h8 a9 h9 a10 h10 a11 h11 hc x0 x1 x2 x3 x4 x5 = k0_pay7 x0 x1 x2 x3 x4 x5 := by
  unfold out0_A_6
  rw [View.read_writes_eq_canon _ _ _ (cover0_A_6 c i a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h3.read_unread, h4.read_unread, h5.read_unread, h6.read_unread, h7.read_unread, h8.read_unread,
    View.ld_unit_zero (S := S512x3072) hz, View.ld_unit_zero (S := S1024x3072) hz, View.ld_unit_zero (S := S512x1024) hz, View.ld_unit_zero (S := S1x1024) hz]

theorem cast_first (hc : cond0_0 i) :
    out0_A_7 c i a3 h3 a4 h4 a5 h5 a6 h6 a7 h7 a8 h8 a9 h9 a10 h10 a11 h11 hc x0 x1 x2 x3 x4 x5 = k0_pay1 (k0_pay7 x0 x1 x2 x3 x4 x5) := by
  unfold out0_A_7
  rw [View.read_writes_eq_canon _ _ _ (cover0_A_7 c i a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h3.read_unread, h4.read_unread, h5.read_unread, h6.read_unread, h7.read_unread, h8.read_unread,
    View.ld_unit_zero (S := S512x3072) hz, View.ld_unit_zero (S := S1024x3072) hz, View.ld_unit_zero (S := S512x1024) hz, View.ld_unit_zero (S := S1x1024) hz]

/-- The gain's gradient starts at zero. -/
theorem gain_first (hc : cond0_0 i) :
    out0_A_8 c i a3 h3 a4 h4 a5 h5 a6 h6 a7 h7 a8 h8 a9 h9 a10 h10 a11 h11 hc x0 x1 x2 x3 x4 x5 = k0_pay3 (k0_pay8 x0 x1 x2 x3) (k0_pay2 (F := F)) := by
  unfold out0_A_8
  rw [View.read_writes_eq_canon _ _ _ (cover0_A_8 c i a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, h3.read_unread, h4.read_unread, h5.read_unread, h6.read_unread,
    View.ld_unit_zero (S := S512x3072) hz, View.ld_unit_zero (S := S1024x3072) hz, View.ld_unit_zero (S := S512x1024) hz]

theorem input_next (hc : ¬cond0_0 i) :
    out0_B_6 c i a3 h3 a4 h4 a5 h5 a6 h6 a7 h7 a8 h8 a9 h9 a10 h10 a11 h11 hc x0 x1 x2 x3 x4 x5 g = k0_pay7 x0 x1 x2 x3 x4 x5 := by
  unfold out0_B_6
  rw [View.read_writes_eq_canon _ _ _ (cover0_B_6 c i a3 h3 a4 h4 a5 h5 a6 h6 a7 h7 a8 h8 a9 h9 a10 h10 a11 h11 hc x0 x1 x2 x3 x4 x5 g)]
  unfold kernelRun0_B
  dsimp only
  sl_unfold_words
  rw [View.canon_unit_zero hz]
  simp only [View.readAt_eq_ld, h3.read_unread, h4.read_unread, h5.read_unread, h6.read_unread, h7.read_unread, h8.read_unread,
    View.ld_unit_zero (S := S512x3072) hz, View.ld_unit_zero (S := S1024x3072) hz, View.ld_unit_zero (S := S512x1024) hz, View.ld_unit_zero (S := S1x1024) hz]

theorem cast_next (hc : ¬cond0_0 i) :
    out0_B_7 c i a3 h3 a4 h4 a5 h5 a6 h6 a7 h7 a8 h8 a9 h9 a10 h10 a11 h11 hc x0 x1 x2 x3 x4 x5 g = k0_pay1 (k0_pay7 x0 x1 x2 x3 x4 x5) := by
  unfold out0_B_7
  rw [View.read_writes_eq_canon _ _ _ (cover0_B_7 c i a3 h3 a4 h4 a5 h5 a6 h6 a7 h7 a8 h8 a9 h9 a10 h10 a11 h11 hc x0 x1 x2 x3 x4 x5 g)]
  unfold kernelRun0_B
  dsimp only
  sl_unfold_words
  rw [View.canon_unit_zero hz]
  simp only [View.readAt_eq_ld, h3.read_unread, h4.read_unread, h5.read_unread, h6.read_unread, h7.read_unread, h8.read_unread,
    View.ld_unit_zero (S := S512x3072) hz, View.ld_unit_zero (S := S1024x3072) hz, View.ld_unit_zero (S := S512x1024) hz, View.ld_unit_zero (S := S1x1024) hz]

/-- The gain's gradient grows by the block's sum over its rows. -/
theorem gain_next (hc : ¬cond0_0 i) :
    out0_B_8 c i a3 h3 a4 h4 a5 h5 a6 h6 a7 h7 a8 h8 a9 h9 a10 h10 a11 h11 hc x0 x1 x2 x3 x4 x5 g = k0_pay3 (k0_pay8 x0 x1 x2 x3) g := by
  unfold out0_B_8
  rw [View.read_writes_eq_canon _ _ _ (cover0_B_8 c i a3 h3 a4 h4 a5 h5 a6 h6 a7 h7 a8 h8 a9 h9 a10 h10 a11 h11 hc x0 x1 x2 x3 x4 x5 g)]
  unfold kernelRun0_B
  dsimp only
  sl_unfold_words
  rw [View.canon_unit_zero hz]
  simp only [View.readAt_eq_ld, h3.read_unread, h4.read_unread, h5.read_unread, h6.read_unread, h11.read_unread,
    View.ld_unit_zero (S := S512x3072) hz, View.ld_unit_zero (S := S1024x3072) hz, View.ld_unit_zero (S := S512x1024) hz, View.ld_unit_zero (S := S1x1024) hz]

end

/-! ## A point's numbers -/

section

variable {f : Vec Ideal S512x3072 .bf16} {w : Vec Ideal S1024x3072 .bf16} {b x y : Vec Ideal S512x1024 .f32} {g : Vec Ideal S1x1024 .f32} {r : Fin 512}
  {X W : ℕ → EReal}

theorem both_row (l : Fin 1024) : k0_pay4 f w b (ix2 r l) = (∑ k : Fin 3072, f (ix2 r k) * w (ix2 l k)) + b (ix2 r l) := by
  pointwise [k0_pay4]

/-- The norm is the other half steps' norm, so its number is what they prove. -/
theorem scaled_row (hx : ∀ k : Fin 1024, x (ix2 r k) = X k.val) (l : Fin 1024) : k0_pay6 x (ix2 r l) = X l.val * scale X :=
  Dh.pay5_val hx l

theorem input_row (hx : ∀ k : Fin 1024, x (ix2 r k) = X k.val) (hw : ∀ k : Fin 1024, k0_pay4 f w b (ix2 r k) * g (ix2 (0 : Fin 1) k) = W k.val)
    (l : Fin 1024) : k0_pay7 f w b x y g (ix2 r l) = backRow X W (y (ix2 r l)) l.val :=
  Dh.pay6_val hx hw l

theorem gain_row (l : Fin 1024) :
    k0_pay3 (k0_pay8 f w b x) g (ix2 (0 : Fin 1) l) = g (ix2 (0 : Fin 1) l) + ∑ r : Fin 512, k0_pay4 f w b (ix2 r l) * k0_pay6 x (ix2 r l) := by
  unfold k0_pay8
  generalize k0_pay4 f w b = s
  generalize k0_pay6 x = u
  pointwise [k0_pay3]

end

theorem gain_zero (l : Fin 1024) : k0_pay2 (F := Ideal) (ix2 (0 : Fin 1) l) = 0 := by
  pointwise [k0_pay2]

variable (m : (ℓ : Loc nD τ sig) → Buf (Elt Ideal) ℓ) (c : Dev nD)

/-- The call's arguments. -/
abbrev argA : FVec Ideal S16384x3072 .bf16 := m ((c : Thread nD τ).loc main_arg0)
abbrev argW : FVec Ideal S1024x3072 .bf16 := m ((c : Thread nD τ).loc main_arg1)
abbrev argB : FVec Ideal S16384x1024 .f32 := m ((c : Thread nD τ).loc main_arg2)
abbrev argX : FVec Ideal S16384x1024 .f32 := m ((c : Thread nD τ).loc main_arg3)
abbrev argD : FVec Ideal S16384x1024 .f32 := m ((c : Thread nD τ).loc main_arg4)
abbrev argG : FVec Ideal S1x1024 .f32 := m ((c : Thread nD τ).loc main_arg5)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel
theorem idx0_3 : ∀ t : Fin grid0.N, win0_3.index t = ![t.val, 0] := by decide +kernel
theorem idx0_4 : ∀ t : Fin grid0.N, win0_4.index t = ![t.val, 0] := by decide +kernel
theorem idx0_5 : ∀ t : Fin grid0.N, win0_5.index t = ![0, 0] := by decide +kernel
theorem idx0_6 : ∀ t : Fin grid0.N, win0_6.index t = ![t.val, 0] := by decide +kernel
theorem idx0_7 : ∀ t : Fin grid0.N, win0_7.index t = ![t.val, 0] := by decide +kernel
theorem idx0_8 : ∀ t : Fin grid0.N, win0_8.index t = ![0, 0] := by decide +kernel

theorem blockA (t : Fin cfg0.N) (r : Fin 512) (k : Fin 3072) : iblk m c 0 t (ix2 r k) = at2 (argA m c) (512 * t.val + r.val) k.val := by
  refine at2_of (argA m c) (((cfg0.win 0).blk t).view.emb (ix2 r k)) ?_ ?_
  · blk_simp [idx0_0 t]; omega
  · blk_simp [idx0_0 t]

theorem blockW (t : Fin cfg0.N) (l : Fin 1024) (k : Fin 3072) : iblk m c 1 t (ix2 l k) = at2 (argW m c) l.val k.val := by
  refine at2_of (argW m c) (((cfg0.win 1).blk t).view.emb (ix2 l k)) ?_ ?_
  · blk_simp [idx0_1 t]
  · blk_simp [idx0_1 t]

theorem blockB (t : Fin cfg0.N) (r : Fin 512) (l : Fin 1024) : iblk m c 2 t (ix2 r l) = at2 (argB m c) (512 * t.val + r.val) l.val := by
  refine at2_of (argB m c) (((cfg0.win 2).blk t).view.emb (ix2 r l)) ?_ ?_
  · blk_simp [idx0_2 t]; omega
  · blk_simp [idx0_2 t]

theorem blockX (t : Fin cfg0.N) (r : Fin 512) (l : Fin 1024) : iblk m c 3 t (ix2 r l) = at2 (argX m c) (512 * t.val + r.val) l.val := by
  refine at2_of (argX m c) (((cfg0.win 3).blk t).view.emb (ix2 r l)) ?_ ?_
  · blk_simp [idx0_3 t]; omega
  · blk_simp [idx0_3 t]

theorem blockD (t : Fin cfg0.N) (r : Fin 512) (l : Fin 1024) : iblk m c 4 t (ix2 r l) = at2 (argD m c) (512 * t.val + r.val) l.val := by
  refine at2_of (argD m c) (((cfg0.win 4).blk t).view.emb (ix2 r l)) ?_ ?_
  · blk_simp [idx0_4 t]; omega
  · blk_simp [idx0_4 t]

theorem blockG (t : Fin cfg0.N) (l : Fin 1024) : iblk m c 5 t (ix2 (0 : Fin 1) l) = at2 (argG m c) 0 l.val := by
  refine at2_of (argG m c) (((cfg0.win 5).blk t).view.emb (ix2 (0 : Fin 1) l)) ?_ ?_
  · blk_simp [idx0_5 t]; rfl
  · blk_simp [idx0_5 t]

theorem both_point (t : Fin cfg0.N) (r : Fin 512) (l : Fin 1024) :
    k0_pay4 (iblk m c 0 t) (iblk m c 1 t) (iblk m c 2 t) (ix2 r l) = both (argA m c) (argW m c) (argB m c) (512 * t.val + r.val) l.val := by
  unfold both rowRow
  rw [Finset.sum_range]
  refine (both_row l).trans (congrArg₂ (· + ·) (Finset.sum_congr rfl fun k _ => ?_) (blockB m c t r l))
  exact congrArg₂ (· * ·) (blockA m c t r k) (blockW m c t l k)

theorem input_point (t : Fin cfg0.N) (r : Fin 512) (l : Fin 1024) :
    k0_pay7 (iblk m c 0 t) (iblk m c 1 t) (iblk m c 2 t) (iblk m c 3 t) (iblk m c 4 t) (iblk m c 5 t) (ix2 r l)
      = input (argA m c) (argW m c) (argB m c) (argX m c) (argD m c) (argG m c) (512 * t.val + r.val) l.val := by
  unfold input
  rw [← blockD]
  refine input_row (fun k => blockX m c t r k) (fun k => ?_) l
  exact congrArg₂ (· * ·) (both_point m c t r k) (blockG m c t k)

/-- What a point leaves of the input's gradient, and of its cast. -/
theorem after_input (t : Fin cfg0.N) :
    (outsAt0 m c t.val t.isLt).1 = k0_pay7 (iblk m c 0 t) (iblk m c 1 t) (iblk m c 2 t) (iblk m c 3 t) (iblk m c 4 t) (iblk m c 5 t)
      ∧ (outsAt0 m c t.val t.isLt).2.1
        = k0_pay1 (k0_pay7 (iblk m c 0 t) (iblk m c 1 t) (iblk m c 2 t) (iblk m c 3 t) (iblk m c 4 t) (iblk m c 5 t)) := by
  by_cases h : t.val % 32 = 0
  · rw [outsAt0_A m c t h]
    dsimp only
    rw [input_first, cast_first]
    exact ⟨rfl, rfl⟩
  · rw [outsAt0_B m c t h]
    dsimp only
    rw [input_next, cast_next]
    exact ⟨rfl, rfl⟩

theorem gain_step (t : Fin cfg0.N) (g : Vec Ideal S1x1024 .f32) (l : Fin 1024)
    (hg : g (ix2 (0 : Fin 1) l) = gain (argA m c) (argW m c) (argB m c) (argX m c) (512 * t.val) l.val) :
    k0_pay3 (k0_pay8 (iblk m c 0 t) (iblk m c 1 t) (iblk m c 2 t) (iblk m c 3 t)) g (ix2 (0 : Fin 1) l)
      = gain (argA m c) (argW m c) (argB m c) (argX m c) (512 * (t.val + 1)) l.val := by
  unfold gain at hg ⊢
  rw [sum_block, ← hg]
  refine (gain_row l).trans (congrArg (_ + ·) (Finset.sum_congr rfl fun r _ => ?_))
  exact congrArg₂ (· * ·) (both_point m c t r l) (scaled_row (fun k => blockX m c t r k) l)

/-- What a point leaves of the gain's gradient. -/
theorem gain_val : ∀ (n : ℕ) (hn : n < cfg0.N) (l : Fin 1024),
    (outsAt0 m c n hn).2.2 (ix2 (0 : Fin 1) l) = gain (argA m c) (argW m c) (argB m c) (argX m c) (512 * (n + 1)) l.val
  | 0, hn, l => by
    rw [outsAt0_A m c ⟨0, hn⟩ rfl]
    dsimp only
    rw [gain_first]
    refine gain_step m c ⟨0, hn⟩ _ l ?_
    rw [gain_zero]
    exact (Finset.sum_range_zero _).symm
  | n + 1, hn, l => by
    have ih := gain_val n (by omega) l
    have hN : n + 1 < 32 := lt_of_lt_of_eq hn N_0
    rw [outsAt0_B m c ⟨n + 1, hn⟩ (by dsimp only; omega)]
    dsimp only
    rw [gain_next]
    exact gain_step m c ⟨n + 1, hn⟩ _ l ih

/-! ## The results -/

theorem dx_val : (dats m 0 c).arrAt 6 cfg0.N
    = fun y => input (argA m c) (argW m c) (argB m c) (argX m c) (argD m c) (argG m c) (y 0).val (y 1).val := by
  refine (dats m 0 c).arrAt_eq_of_covers 6 _ (by decide +kernel) fun t hf y => ?_
  blk_simp
  rw [idx0_6, after0_6, (after_input m c t).1]
  obtain ⟨r, l, rfl⟩ : ∃ (r : Fin 512) (l : Fin 1024), y = (ix2 r l : S512x1024.Idx) := ⟨y 0, y 1, (ix2_eta (n0 := 512) (n1 := 1024) y).symm⟩
  exact (input_point m c t r l).trans (congrArg₂ (input (argA m c) (argW m c) (argB m c) (argX m c) (argD m c) (argG m c))
    (show _ = t.val * 512 + r.val by omega) (show _ = 0 * 1024 + l.val by omega))

/-- The cast's result: the same numbers. -/
theorem dxb_val : (dats m 0 c).arrAt 7 cfg0.N
    = fun y => input (argA m c) (argW m c) (argB m c) (argX m c) (argD m c) (argG m c) (y 0).val (y 1).val := by
  refine (dats m 0 c).arrAt_eq_of_covers 7 _ (by decide +kernel) fun t hf y => ?_
  blk_simp
  rw [idx0_7, after0_7, (after_input m c t).2]
  obtain ⟨r, l, rfl⟩ : ∃ (r : Fin 512) (l : Fin 1024), y = (ix2 r l : S512x1024.Idx) := ⟨y 0, y 1, (ix2_eta (n0 := 512) (n1 := 1024) y).symm⟩
  exact (input_point m c t r l).trans (congrArg₂ (input (argA m c) (argW m c) (argB m c) (argX m c) (argD m c) (argG m c))
    (show _ = t.val * 512 + r.val by omega) (show _ = 0 * 1024 + l.val by omega))

theorem dg_val : (dats m 0 c).arrAt 8 cfg0.N = fun y => gain (argA m c) (argW m c) (argB m c) (argX m c) 16384 (y 1).val := by
  refine (dats m 0 c).arrAt_eq_of_covers 8 _ (by decide +kernel) fun t hf y => ?_
  have ht : t.val = 31 := by
    have h1 := (flush0_8 t).mp hf
    have h2 : t.val < 32 := lt_of_lt_of_eq t.isLt N_0
    omega
  blk_simp
  rw [idx0_8, after0_8]
  obtain ⟨u, l, rfl⟩ : ∃ (u : Fin 1) (l : Fin 1024), y = (ix2 u l : S1x1024.Idx) := ⟨y 0, y 1, (ix2_eta (n0 := 1) (n1 := 1024) y).symm⟩
  obtain rfl : u = 0 := Subsingleton.elim _ _
  exact (gain_val m c t.val t.isLt l).trans (congrArg₂ (gain (argA m c) (argW m c) (argB m c) (argX m c)) (by rw [ht])
    (show _ = 0 * 1024 + l.val by omega))

/-! ## The reference -/

section

variable (a : FVec Ideal S16384x3072 .bf16) (w : FVec Ideal S1024x3072 .bf16) (b x d : FVec Ideal S16384x1024 .f32) (g : FVec Ideal S1x1024 .f32)

theorem reference_both (y : S16384x1024.Idx) : val_main_v19 (F := Ideal) a w b y = both a w b (y 0).val (y 1).val := by
  unfold both rowRow
  rw [val_main_v19_apply, val_main_v18_apply, Finset.sum_range]
  refine (add_comm _ _).trans (congrArg₂ (· + ·) (Finset.sum_congr rfl fun k _ => ?_) (at2_of b _ rfl rfl))
  rw [val_main_v0_apply, val_main_v1_apply]
  exact congrArg₂ (· * ·) (at2_of a _ rfl rfl) (at2_of w _ rfl rfl)

theorem reference_meanSq (y : Cert.DhGateReferenceIdeal.S16384x1.Idx) : val_main_v8 (F := Ideal) x y = meanSq (at2 x (y 0).val) := Dh.reference_meanSq x y

theorem reference_scale (y : Cert.DhGateReferenceIdeal.S16384x1.Idx) : val_main_v9 (F := Ideal) x y = scale (at2 x (y 0).val) := Dh.reference_scale x y

theorem reference_gained (y : S16384x1024.Idx) : val_main_v24 (F := Ideal) a w b g y = gained a w b g (y 0).val (y 1).val := by
  rw [val_main_v24_apply, reference_both, val_main_v23_apply]
  exact congrArg (_ * ·) (at2_of g _ rfl rfl)

theorem reference_mean (y : Cert.DhGateReferenceIdeal.S16384.Idx) :
    val_main_v34 (F := Ideal) a w b x g y = backMean (at2 x (y 0).val) (gained a w b g (y 0).val) := by
  have e : ∀ z : Cert.DhGateReferenceIdeal.S16384x1.Idx, val_main_v27 (F := Ideal) a w b x g z = ∑ k ∈ Finset.range 1024, at2 x (z 0).val k * gained a w b g (z 0).val k := fun z => by
    have row : ((idx_main_v27 z) 0).val = (z 0).val := by
      have h : (z 1).val < 1 := (z 1).isLt
      show (z 0).val * 1 + (z 1).val = _
      omega
    rw [val_main_v27_apply, val_main_v26_apply, val_main_cst_4_apply, Finset.sum_range]
    refine (congrArg (· + _) (by exact Ideal.ofBits_zero_f32)).trans ((zero_add _).trans (Finset.sum_congr rfl fun k _ => ?_))
    rw [val_main_v25_apply, reference_gained]
    exact congrArg₂ (· * ·) (at2_of x _ row rfl) (congrArg (gained a w b g · k.val) row)
  rw [val_main_v34_apply, val_main_cst_6_apply, Fin.sum_univ_one]
  refine (congrArg (· + _) (by exact Ideal.ofBits_zero_f32)).trans ((zero_add _).trans ?_)
  rw [val_main_v33_apply, val_main_v31_apply, e, val_main_v32_apply, val_main_cst_5_apply, val_main_v12_apply, val_main_v11_apply, val_main_cst_2_apply,
    val_main_v10_apply, reference_scale, reference_meanSq]
  rfl

theorem reference_dx (y : S16384x1024.Idx) : val_main_v39 (F := Ideal) a w b x d g y = input a w b x d g (y 0).val (y 1).val := by
  unfold input
  rw [← back_forms, val_main_v39_apply, val_main_v37_apply, val_main_v38_apply, val_main_v36_apply, val_main_v35_apply, reference_mean, val_main_v30_apply,
    val_main_v29_apply, val_main_v28_apply, reference_scale, reference_gained, ← at2_of x y rfl rfl, ← at2_of d y rfl rfl]
  rfl

theorem reference_dg (y : S1x1024.Idx) : val_main_v22 (F := Ideal) a w b x y = gain a w b x 16384 (y 1).val := by
  have col : ((idx_main_v22 y) 0).val = (y 1).val := by
    have h : (y 0).val < 1 := (y 0).isLt
    show (y 0).val * 1024 + (y 1).val = _
    omega
  unfold gain
  rw [val_main_v22_apply, val_main_v21_apply, val_main_cst_3_apply, Finset.sum_range]
  refine (congrArg (· + _) (by exact Ideal.ofBits_zero_f32)).trans ((zero_add _).trans (Finset.sum_congr rfl fun k _ => ?_))
  rw [val_main_v20_apply, reference_both, val_main_v14_apply, val_main_v13_apply, reference_scale]
  exact (EReal.mul_comm _ _).trans (congrArg₂ (· * ·) (congrArg (both a w b k.val ·) col) (congrArg (· * _) (at2_of x _ rfl col)))

end

theorem algebraic : Cert.algebraic_DhGateIdeal_DhGateReferenceIdeal := fun m g m' g' _ hargs => by
  refine ⟨fun c y => input (argA m c) (argW m c) (argB m c) (argX m c) (argD m c) (argG m c) (y 0).val (y 1).val,
    fun c y => input (argA m c) (argW m c) (argB m c) (argX m c) (argD m c) (argG m c) (y 0).val (y 1).val,
    fun c y => gain (argA m c) (argW m c) (argB m c) (argX m c) 16384 (y 1).val, ?_, ?_⟩
  · exact (θ_run Cert.DhGateIdeal.defs _ _).mono
      (fun r h c => ⟨(h c).1.trans (dx_val m c), (h c).2.1.trans (dxb_val m c), (h c).2.2.1.trans (dg_val m c), (h c).2.2.2⟩)
      (Cert.DhGateIdeal.Value.run_blocks (F := Ideal) m g)
  · refine (θ_run Cert.DhGateReferenceIdeal.defs _ _).mono
      (fun r h c => ⟨(h c).1.trans ?_, (h c).2.1.trans ?_, (h c).2.2.1.trans ((val_main_v22_eq _ _ _ _).trans ?_), (h c).2.2.2⟩)
      (Cert.DhGateReferenceIdeal.Value.run (F := Ideal) m' g')
    · obtain ⟨ha, hw, hb, hx, hd, hg⟩ := hargs c
      rw [val_main_v39_eq, ha, hw, hb, hx, hd, hg]
      funext y
      exact reference_dx _ _ _ _ _ _ y
    · obtain ⟨ha, hw, hb, hx, hd, hg⟩ := hargs c
      rw [val_main_v40_eq, ha, hw, hb, hx, hd, hg]
      funext y
      exact reference_dx _ _ _ _ _ _ y
    · obtain ⟨ha, hw, hb, hx, hd, hg⟩ := hargs c
      rw [ha, hw, hb, hx]
      funext y
      exact reference_dg _ _ _ _ y

end Cert.Proof.DhGate

end
-- ==== Proof.OutFrames.lean ====
/-
  The frames of the output projections' calls, of the branches and of the mixing layer.
-/
module

public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutReferenceIdeal
public import proofs.«01_k».proof.Proof.Gen.DwOutReferenceIdeal.Run
public import proofs.«01_k».proof.Proof.Gen.DwOutReferenceIdeal.Read
public import proofs.«01_k».proof.Proof.Gen.DMerged
public import proofs.«01_k».proof.Proof.Gen.DMerged.Frame
public import proofs.«01_k».proof.Proof.Gen.DMergedIdeal
public import proofs.«01_k».proof.Proof.Gen.DMergedIdeal.Frame
public import proofs.«01_k».proof.Proof.Gen.DMergedIdeal.Value
public import proofs.«01_k».proof.Proof.Gen.DMergedReferenceIdeal
public import proofs.«01_k».proof.Proof.Gen.DMergedReferenceIdeal.Run
public import proofs.«01_k».proof.Proof.Gen.DMergedReferenceIdeal.Read
public import proofs.«01_k».proof.Proof.Gen.SbOut
public import proofs.«01_k».proof.Proof.Gen.SbOut.Frame
public import proofs.«01_k».proof.Proof.Gen.SbOutIdeal
public import proofs.«01_k».proof.Proof.Gen.SbOutIdeal.Frame
public import proofs.«01_k».proof.Proof.Gen.SbOutIdeal.Value
public import proofs.«01_k».proof.Proof.Gen.SbOutReferenceIdeal
public import proofs.«01_k».proof.Proof.Gen.SbOutReferenceIdeal.Run
public import proofs.«01_k».proof.Proof.Gen.SbOutReferenceIdeal.Read
public import proofs.«01_k».proof.Proof.Gen.DwSb
public import proofs.«01_k».proof.Proof.Gen.DwSb.Frame
public import proofs.«01_k».proof.Proof.Gen.DwSbIdeal
public import proofs.«01_k».proof.Proof.Gen.DwSbIdeal.Frame
public import proofs.«01_k».proof.Proof.Gen.DwSbIdeal.Value
public import proofs.«01_k».proof.Proof.Gen.DwSbReferenceIdeal
public import proofs.«01_k».proof.Proof.Gen.DwSbReferenceIdeal.Run
public import proofs.«01_k».proof.Proof.Gen.DwSbReferenceIdeal.Read
public import proofs.«01_k».proof.Proof.Gen.DOa
public import proofs.«01_k».proof.Proof.Gen.DOa.Frame
public import proofs.«01_k».proof.Proof.Gen.DOaIdeal
public import proofs.«01_k».proof.Proof.Gen.DOaIdeal.Frame
public import proofs.«01_k».proof.Proof.Gen.DOaIdeal.Value
public import proofs.«01_k».proof.Proof.Gen.DOaReferenceIdeal
public import proofs.«01_k».proof.Proof.Gen.DOaReferenceIdeal.Run
public import proofs.«01_k».proof.Proof.Gen.DOaReferenceIdeal.Read
public import proofs.«01_k».proof.Proof.Gen.DsaOut
public import proofs.«01_k».proof.Proof.Gen.DsaOut.Frame
public import proofs.«01_k».proof.Proof.Gen.DsaOutIdeal
public import proofs.«01_k».proof.Proof.Gen.DsaOutIdeal.Frame
public import proofs.«01_k».proof.Proof.Gen.DsaOutIdeal.Value
public import proofs.«01_k».proof.Proof.Gen.DsaOutReferenceIdeal
public import proofs.«01_k».proof.Proof.Gen.DsaOutReferenceIdeal.Run
public import proofs.«01_k».proof.Proof.Gen.DsaOutReferenceIdeal.Read
public import proofs.«01_k».proof.Proof.Gen.DwDsa
public import proofs.«01_k».proof.Proof.Gen.DwDsa.Frame
public import proofs.«01_k».proof.Proof.Gen.DwDsaIdeal
public import proofs.«01_k».proof.Proof.Gen.DwDsaIdeal.Frame
public import proofs.«01_k».proof.Proof.Gen.DwDsaIdeal.Value
public import proofs.«01_k».proof.Proof.Gen.DwDsaReferenceIdeal
public import proofs.«01_k».proof.Proof.Gen.DwDsaReferenceIdeal.Run
public import proofs.«01_k».proof.Proof.Gen.DwDsaReferenceIdeal.Read
public import proofs.«01_k».proof.Proof.Gen.DOb
public import proofs.«01_k».proof.Proof.Gen.DOb.Frame
public import proofs.«01_k».proof.Proof.Gen.DObIdeal
public import proofs.«01_k».proof.Proof.Gen.DObIdeal.Frame
public import proofs.«01_k».proof.Proof.Gen.DObIdeal.Value
public import proofs.«01_k».proof.Proof.Gen.DObReferenceIdeal
public import proofs.«01_k».proof.Proof.Gen.DObReferenceIdeal.Run
public import proofs.«01_k».proof.Proof.Gen.DObReferenceIdeal.Read
public import proofs.«01_k».proof.Proof.Gen.DOc
public import proofs.«01_k».proof.Proof.Gen.DOc.Frame
public import proofs.«01_k».proof.Proof.Gen.DOcIdeal
public import proofs.«01_k».proof.Proof.Gen.DOcIdeal.Frame
public import proofs.«01_k».proof.Proof.Gen.DOcIdeal.Value
public import proofs.«01_k».proof.Proof.Gen.DOcReferenceIdeal
public import proofs.«01_k».proof.Proof.Gen.DOcReferenceIdeal.Run
public import proofs.«01_k».proof.Proof.Gen.DOcReferenceIdeal.Read
public import proofs.«01_k».proof.Defs
public import Idealize.ShloMosaic.Lib.Quiescent

@[expose] public section

noncomputable section

namespace Cert.Proof

open Idealize.ShloMosaic Idealize.SL.Sem

/-! As for the other calls: generated frames, and a reference's run keeps its arguments. -/

theorem out_proj_frame : Cert.quiescent_OutProj := fun m ρ _ => Cert.OutProj.Gen.frame m ρ
theorem out_proj_frame_ideal : Cert.quiescent_OutProjIdeal := fun m ρ _ => Cert.OutProjIdeal.Gen.frame m ρ
theorem out_proj_frame_reference : Cert.quiescent_OutProjReferenceIdeal := fun m ρ _ =>
  (θ_run Cert.OutProjReferenceIdeal.defs _ _).mono (fun r h => ⟨fun c => (h c).2.2, sem_eq_zero_of_no_sems (by decide) r.2⟩)
    (Cert.OutProjReferenceIdeal.Value.run (F := Ideal) m ρ)

theorem dw_out_frame : Cert.quiescent_DwOut := fun m ρ _ => Cert.DwOut.Gen.frame m ρ
theorem dw_out_frame_ideal : Cert.quiescent_DwOutIdeal := fun m ρ _ => Cert.DwOutIdeal.Gen.frame m ρ
theorem dw_out_frame_reference : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run (F := Ideal) m ρ)

theorem d_merged_frame : Cert.quiescent_DMerged := fun m ρ _ => Cert.DMerged.Gen.frame m ρ
theorem d_merged_frame_ideal : Cert.quiescent_DMergedIdeal := fun m ρ _ => Cert.DMergedIdeal.Gen.frame m ρ
theorem d_merged_frame_reference : Cert.quiescent_DMergedReferenceIdeal := fun m ρ _ =>
  (θ_run Cert.DMergedReferenceIdeal.defs _ _).mono (fun r h => ⟨fun c => (h c).2, sem_eq_zero_of_no_sems (by decide) r.2⟩)
    (Cert.DMergedReferenceIdeal.Value.run (F := Ideal) m ρ)

theorem sb_out_frame : Cert.quiescent_SbOut := fun m ρ _ => Cert.SbOut.Gen.frame m ρ
theorem sb_out_frame_ideal : Cert.quiescent_SbOutIdeal := fun m ρ _ => Cert.SbOutIdeal.Gen.frame m ρ
theorem sb_out_frame_reference : Cert.quiescent_SbOutReferenceIdeal := fun m ρ _ =>
  (θ_run Cert.SbOutReferenceIdeal.defs _ _).mono (fun r h => ⟨fun c => (h c).2, sem_eq_zero_of_no_sems (by decide) r.2⟩)
    (Cert.SbOutReferenceIdeal.Value.run (F := Ideal) m ρ)

theorem dw_sb_frame : Cert.quiescent_DwSb := fun m ρ _ => Cert.DwSb.Gen.frame m ρ
theorem dw_sb_frame_ideal : Cert.quiescent_DwSbIdeal := fun m ρ _ => Cert.DwSbIdeal.Gen.frame m ρ
theorem dw_sb_frame_reference : Cert.quiescent_DwSbReferenceIdeal := fun m ρ _ =>
  (θ_run Cert.DwSbReferenceIdeal.defs _ _).mono (fun r h => ⟨fun c => (h c).2, sem_eq_zero_of_no_sems (by decide) r.2⟩)
    (Cert.DwSbReferenceIdeal.Value.run (F := Ideal) m ρ)

theorem d_oa_frame : Cert.quiescent_DOa := fun m ρ _ => Cert.DOa.Gen.frame m ρ
theorem d_oa_frame_ideal : Cert.quiescent_DOaIdeal := fun m ρ _ => Cert.DOaIdeal.Gen.frame m ρ
theorem d_oa_frame_reference : Cert.quiescent_DOaReferenceIdeal := fun m ρ _ =>
  (θ_run Cert.DOaReferenceIdeal.defs _ _).mono (fun r h => ⟨fun c => (h c).2, sem_eq_zero_of_no_sems (by decide) r.2⟩)
    (Cert.DOaReferenceIdeal.Value.run (F := Ideal) m ρ)

theorem dsa_out_frame : Cert.quiescent_DsaOut := fun m ρ _ => Cert.DsaOut.Gen.frame m ρ
theorem dsa_out_frame_ideal : Cert.quiescent_DsaOutIdeal := fun m ρ _ => Cert.DsaOutIdeal.Gen.frame m ρ
theorem dsa_out_frame_reference : Cert.quiescent_DsaOutReferenceIdeal := fun m ρ _ =>
  (θ_run Cert.DsaOutReferenceIdeal.defs _ _).mono (fun r h => ⟨fun c => (h c).2, sem_eq_zero_of_no_sems (by decide) r.2⟩)
    (Cert.DsaOutReferenceIdeal.Value.run (F := Ideal) m ρ)

theorem dw_dsa_frame : Cert.quiescent_DwDsa := fun m ρ _ => Cert.DwDsa.Gen.frame m ρ
theorem dw_dsa_frame_ideal : Cert.quiescent_DwDsaIdeal := fun m ρ _ => Cert.DwDsaIdeal.Gen.frame m ρ
theorem dw_dsa_frame_reference : Cert.quiescent_DwDsaReferenceIdeal := fun m ρ _ =>
  (θ_run Cert.DwDsaReferenceIdeal.defs _ _).mono (fun r h => ⟨fun c => (h c).2, sem_eq_zero_of_no_sems (by decide) r.2⟩)
    (Cert.DwDsaReferenceIdeal.Value.run (F := Ideal) m ρ)

theorem d_ob_frame : Cert.quiescent_DOb := fun m ρ _ => Cert.DOb.Gen.frame m ρ
theorem d_ob_frame_ideal : Cert.quiescent_DObIdeal := fun m ρ _ => Cert.DObIdeal.Gen.frame m ρ
theorem d_ob_frame_reference : Cert.quiescent_DObReferenceIdeal := fun m ρ _ =>
  (θ_run Cert.DObReferenceIdeal.defs _ _).mono (fun r h => ⟨fun c => (h c).2, sem_eq_zero_of_no_sems (by decide) r.2⟩)
    (Cert.DObReferenceIdeal.Value.run (F := Ideal) m ρ)

theorem d_oc_frame : Cert.quiescent_DOc := fun m ρ _ => Cert.DOc.Gen.frame m ρ
theorem d_oc_frame_ideal : Cert.quiescent_DOcIdeal := fun m ρ _ => Cert.DOcIdeal.Gen.frame m ρ
theorem d_oc_frame_reference : Cert.quiescent_DOcReferenceIdeal := fun m ρ _ =>
  (θ_run Cert.DOcReferenceIdeal.defs _ _).mono (fun r h => ⟨fun c => (h c).2, sem_eq_zero_of_no_sems (by decide) r.2⟩)
    (Cert.DOcReferenceIdeal.Value.run (F := Ideal) m ρ)

end Cert.Proof

end
-- ==== Proof.OutProj.lean ====
/-
  The mixing layer's output projection: a grid point computes a block of 1024 rows of the residual sum, and the norm of each
  row.
-/
module

public import proofs.«01_k».proof.Proof.Product
public import proofs.«01_k».proof.Proof.NormBack
public import proofs.«01_k».proof.Proof.Gen.OutProjIdeal.Value
public import proofs.«01_k».proof.Proof.Gen.OutProjReferenceIdeal.Read
public import proofs.«01_k».proof.Defs
public import Idealize.ShloMosaic.Lib.Tactic

@[expose] public section

set_option maxRecDepth 16384

noncomputable section

namespace Cert.Proof.OutProj

open Cert.OutProjIdeal Cert.OutProjIdeal.Gen
open Idealize.ShloMosaic Idealize.SL.Sem
open Idealize.ShloMosaic.TcCoe
open Cert.OutProjReferenceIdeal.Read

theorem hz : (![0, 0] : Fin 2 → Nat) = fun _ => 0 := funext fun a => by fin_cases a <;> rfl

/-- One entry of the residual sum: the input and the product. -/
def residual (f : FVec Ideal S16384x1024 .bf16) (w : FVec Ideal S1024x1024 .bf16) (x : FVec Ideal S16384x1024 .f32) (i j : ℕ) : EReal :=
  at2 x i j + rowCol f w i j

/-- One entry of its norm, with the gain. -/
def normed (f : FVec Ideal S16384x1024 .bf16) (w : FVec Ideal S1024x1024 .bf16) (x : FVec Ideal S16384x1024 .f32) (g : FVec Ideal S1x1024 .f32) (i j : ℕ) :
    EReal :=
  residual f w x i j * scale (residual f w x i) * at2 g 0 j

variable (m : (ℓ : Loc nD τ sig) → Buf (Elt Ideal) ℓ) (c : Dev nD)

/-- The call's arguments. -/
abbrev argF : FVec Ideal S16384x1024 .bf16 := m ((c : Thread nD τ).loc main_arg0)
abbrev argW : FVec Ideal S1024x1024 .bf16 := m ((c : Thread nD τ).loc main_arg1)
abbrev argX : FVec Ideal S16384x1024 .f32 := m ((c : Thread nD τ).loc main_arg2)
abbrev argG : FVec Ideal S1x1024 .f32 := m ((c : Thread nD τ).loc main_arg3)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel
theorem idx0_3 : ∀ t : Fin grid0.N, win0_3.index t = ![0, 0] := by decide +kernel
theorem idx0_4 : ∀ t : Fin grid0.N, win0_4.index t = ![t.val, 0] := by decide +kernel
theorem idx0_5 : ∀ t : Fin grid0.N, win0_5.index t = ![t.val, 0] := by decide +kernel

theorem blockF (t : Fin cfg0.N) (r : Fin 1024) (k : Fin 1024) : iblk m c 0 t (ix2 r k) = at2 (argF m c) (1024 * t.val + r.val) k.val := by
  refine at2_of (argF m c) (((cfg0.win 0).blk t).view.emb (ix2 r k)) ?_ ?_
  · blk_simp [idx0_0 t]; omega
  · blk_simp [idx0_0 t]

theorem blockW (t : Fin cfg0.N) (k : Fin 1024) (l : Fin 1024) : iblk m c 1 t (ix2 k l) = at2 (argW m c) k.val l.val := by
  refine at2_of (argW m c) (((cfg0.win 1).blk t).view.emb (ix2 k l)) ?_ ?_
  · blk_simp [idx0_1 t]
  · blk_simp [idx0_1 t]

theorem blockX (t : Fin cfg0.N) (r : Fin 1024) (l : Fin 1024) : iblk m c 2 t (ix2 r l) = at2 (argX m c) (1024 * t.val + r.val) l.val := by
  refine at2_of (argX m c) (((cfg0.win 2).blk t).view.emb (ix2 r l)) ?_ ?_
  · blk_simp [idx0_2 t]; omega
  · blk_simp [idx0_2 t]

theorem blockG (t : Fin cfg0.N) (l : Fin 1024) : iblk m c 3 t (ix2 (0 : Fin 1) l) = at2 (argG m c) 0 l.val := by
  refine at2_of (argG m c) (((cfg0.win 3).blk t).view.emb (ix2 (0 : Fin 1) l)) ?_ ?_
  · blk_simp [idx0_3 t]; rfl
  · blk_simp [idx0_3 t]

theorem residual_row (f : Vec Ideal S1024x1024 .bf16) (w : Vec Ideal S1024x1024 .bf16) (x : Vec Ideal S1024x1024 .f32) (r : Fin 1024) (l : Fin 1024) :
    k0_pay1 f w x (ix2 r l) = x (ix2 r l) + (∑ k : Fin 1024, f (ix2 r k) * w (ix2 k l)) := by
  pointwise [k0_pay1]

theorem residual_point (t : Fin cfg0.N) (r : Fin 1024) (l : Fin 1024) :
    k0_pay1 (iblk m c 0 t) (iblk m c 1 t) (iblk m c 2 t) (ix2 r l) = residual (argF m c) (argW m c) (argX m c) (1024 * t.val + r.val) l.val := by
  unfold residual rowCol
  rw [Finset.sum_range]
  refine (residual_row _ _ _ r l).trans (congrArg₂ (· + ·) (blockX m c t r l) (Finset.sum_congr rfl fun k _ => ?_))
  exact congrArg₂ (· * ·) (blockF m c t r k) (blockW m c t k l)

theorem norm_row (f : Vec Ideal S1024x1024 .bf16) (w : Vec Ideal S1024x1024 .bf16) (x : Vec Ideal S1024x1024 .f32) (g : Vec Ideal S1x1024 .f32)
    (r : Fin 1024) (l : Fin 1024) (X : ℕ → EReal) (hx : ∀ k : Fin 1024, k0_pay1 f w x (ix2 r k) = X k.val) :
    k0_pay2 f w x g (ix2 r l) = X l.val * scale X * g (ix2 (0 : Fin 1) l) := by
  unfold scale meanSq
  rw [Finset.sum_range]
  simp only [← hx]
  unfold k0_pay2
  generalize k0_pay1 f w x = p
  pointwise

theorem normed_point (t : Fin cfg0.N) (r : Fin 1024) (l : Fin 1024) :
    k0_pay2 (iblk m c 0 t) (iblk m c 1 t) (iblk m c 2 t) (iblk m c 3 t) (ix2 r l)
      = normed (argF m c) (argW m c) (argX m c) (argG m c) (1024 * t.val + r.val) l.val := by
  unfold normed
  rw [← blockG m c t]
  exact norm_row _ _ _ _ r l _ fun k => residual_point m c t r k

/-! ## What a point leaves in its blocks -/

theorem after_residual (t : Fin cfg0.N) (r : Fin 1024) (l : Fin 1024) :
    (dats m 0 c).after 4 t (ix2 r l) = residual (argF m c) (argW m c) (argX m c) (1024 * t.val + r.val) l.val := by
  rw [after0_4, out0_4, View.canon_unit_zero hz]
  simp only [View.ld_unit_zero (S := S1024x1024) hz]
  exact residual_point m c t r l

theorem after_normed (t : Fin cfg0.N) (r : Fin 1024) (l : Fin 1024) :
    (dats m 0 c).after 5 t (ix2 r l) = normed (argF m c) (argW m c) (argX m c) (argG m c) (1024 * t.val + r.val) l.val := by
  rw [after0_5, out0_5, View.canon_unit_zero hz]
  simp only [View.ld_unit_zero (S := S1024x1024) hz,
    View.ld_unit_zero (S := S1x1024) hz]
  exact normed_point m c t r l

/-! ## The results -/

theorem residual_val : (dats m 0 c).arrAt 4 cfg0.N = fun y => residual (argF m c) (argW m c) (argX m c) (y 0).val (y 1).val := by
  refine (dats m 0 c).arrAt_eq_of_covers 4 _ (by decide +kernel) fun t hf y => ?_
  blk_simp
  rw [idx0_4]
  obtain ⟨r, l, rfl⟩ : ∃ (r : Fin 1024) (l : Fin 1024), y = (ix2 r l : S1024x1024.Idx) := ⟨y 0, y 1, (ix2_eta (n0 := 1024) (n1 := 1024) y).symm⟩
  exact (after_residual m c t r l).trans (congrArg₂ (residual (argF m c) (argW m c) (argX m c)) (show _ = t.val * 1024 + r.val by omega)
    (show _ = 0 * 1024 + l.val by omega))

theorem normed_val : (dats m 0 c).arrAt 5 cfg0.N = fun y => normed (argF m c) (argW m c) (argX m c) (argG m c) (y 0).val (y 1).val := by
  refine (dats m 0 c).arrAt_eq_of_covers 5 _ (by decide +kernel) fun t hf y => ?_
  blk_simp
  rw [idx0_5]
  obtain ⟨r, l, rfl⟩ : ∃ (r : Fin 1024) (l : Fin 1024), y = (ix2 r l : S1024x1024.Idx) := ⟨y 0, y 1, (ix2_eta (n0 := 1024) (n1 := 1024) y).symm⟩
  exact (after_normed m c t r l).trans (congrArg₂ (normed (argF m c) (argW m c) (argX m c) (argG m c)) (show _ = t.val * 1024 + r.val by omega)
    (show _ = 0 * 1024 + l.val by omega))

/-! ## The reference -/

section

variable (f : FVec Ideal S16384x1024 .bf16) (w : FVec Ideal S1024x1024 .bf16) (x : FVec Ideal S16384x1024 .f32) (g : FVec Ideal S1x1024 .f32)

theorem reference_residual (y : S16384x1024.Idx) : val_main_v3 (F := Ideal) f w x y = residual f w x (y 0).val (y 1).val := by
  unfold residual rowCol
  rw [val_main_v3_apply, val_main_v2_apply, Finset.sum_range]
  refine congrArg₂ (· + ·) (at2_of x _ rfl rfl) (Finset.sum_congr rfl fun k _ => ?_)
  rw [val_main_v0_apply, val_main_v1_apply]
  exact congrArg₂ (· * ·) (at2_of f _ rfl rfl) (at2_of w _ rfl rfl)

theorem reference_scale (y : Cert.OutProjReferenceIdeal.S16384x1.Idx) : val_main_v11 (F := Ideal) f w x y = scale (residual f w x (y 0).val) := by
  have e : val_main_v6 (F := Ideal) f w x y = ∑ k ∈ Finset.range 1024, residual f w x (y 0).val k * residual f w x (y 0).val k := by
    rw [val_main_v6_apply, val_main_v5_apply, val_main_cst_apply, Finset.sum_range]
    refine (congrArg (· + _) (by exact Ideal.ofBits_zero_f32)).trans ((zero_add _).trans (Finset.sum_congr rfl fun k _ => ?_))
    rw [val_main_v4_apply, reference_residual]
    rfl
  rw [val_main_v11_apply, val_main_v10_apply, val_main_v8_apply, e, val_main_v7_apply, val_main_cst_0_apply, val_main_v9_apply, val_main_cst_1_apply]
  rfl

theorem reference_normed (y : S16384x1024.Idx) : val_main_v15 (F := Ideal) f w x g y = normed f w x g (y 0).val (y 1).val := by
  rw [val_main_v15_apply, val_main_v13_apply, val_main_v12_apply, val_main_v14_apply, reference_residual, reference_scale]
  exact congrArg (_ * ·) (at2_of g _ rfl rfl)

end

theorem algebraic : Cert.algebraic_OutProjIdeal_OutProjReferenceIdeal := fun m g m' g' _ hargs => by
  refine ⟨fun c y => residual (argF m c) (argW m c) (argX m c) (y 0).val (y 1).val,
    fun c y => normed (argF m c) (argW m c) (argX m c) (argG m c) (y 0).val (y 1).val, ?_, ?_⟩
  · exact (θ_run Cert.OutProjIdeal.defs _ _).mono (fun r h c => ⟨(h c).1.trans (residual_val m c), (h c).2.1.trans (normed_val m c), (h c).2.2⟩)
      (Cert.OutProjIdeal.Value.run_blocks (F := Ideal) m g)
  · refine (θ_run Cert.OutProjReferenceIdeal.defs _ _).mono (fun r h c => ⟨(h c).1.trans ?_, (h c).2.1.trans ?_, (h c).2.2⟩)
      (Cert.OutProjReferenceIdeal.Value.run (F := Ideal) m' g')
    · rw [val_main_v3_eq, (hargs c).1, (hargs c).2.1, (hargs c).2.2.1]
      funext y
      exact reference_residual _ _ _ y
    · rw [val_main_v16_eq, (hargs c).1, (hargs c).2.1, (hargs c).2.2.1, (hargs c).2.2.2]
      funext y
      exact reference_normed _ _ _ _ y

end Cert.Proof.OutProj

end
-- ==== Proof.DwOut.lean ====
/-
  The gradient of the output projection's weight: the call adds up, block of 512 tokens by block, the product of the merged
  branches' columns with the gradient's columns.
-/
module

public import proofs.«01_k».proof.Proof.Product
public import proofs.«01_k».proof.Proof.Gen.DwOutIdeal.Value
public import proofs.«01_k».proof.Proof.Gen.DwOutReferenceIdeal.Read
public import proofs.«01_k».proof.Defs
public import Idealize.ShloMosaic.Lib.Tactic

@[expose] public section

set_option maxRecDepth 16384

noncomputable section

namespace Cert.Proof.DwOut

open Cert.DwOutIdeal Cert.DwOutIdeal.Gen
open Idealize.ShloMosaic Idealize.SL.Sem
open Cert.DwOutReferenceIdeal.Read
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S512x1024 .bf16) (h3 : a3.IsWhole)
  (a4 : Memref sig .tc .vmem S512x1024 .bf16) (h4 : a4.IsWhole) (a5 : Memref sig .tc .vmem S1024x1024 .f32) (h5 : a5.IsWhole)
  (a6 : Memref sig .tc .vmem S1024x1024 .f32) (h6 : a6.IsWhole) (x : Vec F S512x1024 .bf16) (y : Vec F S512x1024 .bf16)
  (s : Vec F S1024x1024 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S512x1024) hz, View.ld_unit_zero (S := S512x1024) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S512x1024) hz,
    View.ld_unit_zero (S := S512x1024) hz, View.ld_unit_zero (S := S1024x1024) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S512x1024) hz,
    View.ld_unit_zero (S := S512x1024) hz, View.ld_unit_zero (S := S1024x1024) hz]

/-- What the last block of tokens writes out: the finished sum. -/
theorem written_last (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x1024) _ hz, View.readAt_eq_ld, h3.read_unread, h4.read_unread, h6.read_unread,
    View.ld_unit_zero (S := S512x1024) hz, View.ld_unit_zero (S := S512x1024) hz, View.ld_unit_zero (S := S1024x1024) hz]

end

/-! ## The sums -/

variable (m : (ℓ : Loc nD τ sig) → Buf (Elt Ideal) ℓ) (c : Dev nD)

/-- The call's arguments. -/
abbrev argH : FVec Ideal S16384x1024 .bf16 := m ((c : Thread nD τ).loc main_arg0)
abbrev argD : FVec Ideal S16384x1024 .bf16 := m ((c : Thread nD τ).loc main_arg1)

theorem idx0_0 : ∀ t : Fin grid0.N, win0_0.index t = ![t.val % 32, 0] := by decide +kernel
theorem idx0_1 : ∀ t : Fin grid0.N, win0_1.index t = ![t.val % 32, t.val / 32] := by decide +kernel

theorem blockH (t : Fin cfg0.N) (k : Fin 512) (r : Fin 1024) : iblk m c 0 t (ix2 k r) = at2 (argH m c) (512 * (t.val % 32) + k.val) r.val := by
  refine at2_of (argH m c) (((cfg0.win 0).blk t).view.emb (ix2 k r)) ?_ ?_
  · blk_simp [idx0_0 t]; omega
  · blk_simp [idx0_0 t]

theorem blockD (t : Fin cfg0.N) (k : Fin 512) (l : Fin 1024) :
    iblk m c 1 t (ix2 k l) = at2 (argD m c) (512 * (t.val % 32) + k.val) (1024 * (t.val / 32) + l.val) := by
  refine at2_of (argD m c) (((cfg0.win 1).blk t).view.emb (ix2 k l)) ?_ ?_
  · blk_simp [idx0_1 t]; omega
  · blk_simp [idx0_1 t]; omega

/-- A point adds its block of tokens. -/
theorem step_val (t : Fin cfg0.N) (s : Vec Ideal S1024x1024 .f32) (r : Fin 1024) (l : Fin 1024)
    (hs : s (ix2 r l) = colCol (argH m c) (argD m c) (512 * (t.val % 32)) r.val (1024 * (t.val / 32) + l.val)) :
    k0_pay2 s (iblk m c 0 t) (iblk m c 1 t) (ix2 r l) = colCol (argH m c) (argD m c) (512 * (t.val % 32 + 1)) r.val (1024 * (t.val / 32) + l.val) := by
  unfold colCol at hs ⊢
  rw [sum_block, ← hs]
  pointwise [k0_pay2]
  congr 1
  exact Finset.sum_congr rfl fun k _ => by rw [← blockH, ← blockD]

theorem first_zero (r : Fin 1024) (l : Fin 1024) : k0_pay1 (F := Ideal) (ix2 r l) = 0 := by
  pointwise [k0_pay1]

/-- What a point leaves in the running sum. -/
theorem scratch_val : ∀ (n : ℕ) (hn : n < cfg0.N) (r : Fin 1024) (l : Fin 1024),
    (outsAt0 m c n hn).2 (ix2 r l) = colCol (argH m c) (argD m c) (512 * (n % 32 + 1)) r.val (1024 * (n / 32) + l.val)
  | n, hn, r, l => by
    have hN : n < 32 := lt_of_lt_of_eq hn (show cfg0.N = 32 from N_0)
    by_cases e0 : n % 32 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 32 + 1 = n % 32 by omega, show (n - 1) / 32 = n / 32 by omega] at ih
      by_cases e1 : n % 32 = 31
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: the product over all the tokens. -/
theorem written_val (n : ℕ) (hn : n < cfg0.N) (e1 : n % 32 = 31) (r : Fin 1024) (l : Fin 1024) :
    (outsAt0 m c n hn).1 (ix2 r l) = colCol (argH m c) (argD m c) 16384 r.val (1024 * (n / 32) + l.val) := by
  rw [outsAt0_C m c ⟨n, hn⟩ (by dsimp only; omega) e1]
  dsimp only
  rw [written_last]
  have ih := scratch_val m c (n - 1) (by omega) r l
  rw [show (n - 1) % 32 + 1 = n % 32 by omega, show (n - 1) / 32 = n / 32 by omega] at ih
  refine (step_val m c ⟨n, hn⟩ _ r l ih).trans ?_
  dsimp only
  rw [e1]

/-- The call's result. -/
theorem result_val : Cert.DwOutIdeal.Value.G2 m c = fun y => colCol (argH m c) (argD m c) 16384 (y 0).val (y 1).val := by
  funext y
  have y0 : (y 0).val < 1024 := (y 0).isLt
  have y1 : (y 1).val < 1024 := (y 1).isLt
  have hp : Cert.DwOutIdeal.Value.pt2Of y = 32 * ((y 1).val / 1024) + 31 := by
    show 32 * (1 * ((y 0).val / 1024 - 0) + 1 * ((y 1).val / 1024 - 0)) + 31 = _
    omega
  have hlt : Cert.DwOutIdeal.Value.pt2Of y < cfg0.N := by rw [hp, show cfg0.N = 32 from N_0]; omega
  have hl : Cert.DwOutIdeal.Value.loc2Of y = ix2 ⟨(y 0).val % 1024, Nat.mod_lt _ (by decide)⟩ ⟨(y 1).val % 1024, Nat.mod_lt _ (by decide)⟩ :=
    funext fun a => match a with | ⟨0, _⟩ => rfl | ⟨1, _⟩ => rfl
  unfold Cert.DwOutIdeal.Value.G2
  rw [dif_pos hlt, ← Cert.DwOutIdeal.Value.outsAt0_sweep, hl]
  refine (written_val m c _ hlt (by omega) _ _).trans ?_
  dsimp only
  rw [show (y 0).val % 1024 = (y 0).val by omega, show 1024 * (Cert.DwOutIdeal.Value.pt2Of y / 32) + (y 1).val % 1024 = (y 1).val by omega]

/-- The reference's result at an entry. -/
theorem reference_val (x : FVec Ideal S16384x1024 .bf16) (d : FVec Ideal S16384x1024 .bf16)
    (y : S1024x1024.Idx) :
    val_main_v5 (F := Ideal) x d y = colCol x d 16384 (y 0).val (y 1).val := by
  unfold colCol
  rw [val_main_v5_apply, val_main_v4_apply, Finset.sum_range]
  refine Finset.sum_congr rfl fun k _ => ?_
  rw [mul_comm, val_main_v0_apply, val_main_v1_apply]
  exact congrArg₂ (· * ·) (at2_of x _ rfl rfl) (at2_of d _ rfl rfl)

theorem algebraic : Cert.algebraic_DwOutIdeal_DwOutReferenceIdeal := fun m g m' g' _ hargs => by
  refine ⟨fun c y => colCol (argH m c) (argD m c) 16384 (y 0).val (y 1).val, ?_, ?_⟩
  · exact (θ_run Cert.DwOutIdeal.defs _ _).mono (fun r h c => ⟨(h c).1.trans (result_val m c), (h c).2⟩) (Cert.DwOutIdeal.Value.run (F := Ideal) m g)
  · refine (θ_run Cert.DwOutReferenceIdeal.defs _ _).mono (fun r h c => ⟨(h c).1.trans ?_, (h c).2⟩) (Cert.DwOutReferenceIdeal.Value.run (F := Ideal) m' g')
    rw [val_main_v5_eq, (hargs c).1, (hargs c).2]
    funext y
    exact reference_val _ _ y

end Cert.Proof.DwOut

end
-- ==== Proof.DMerged.lean ====
/-
  The gradient of the merged branches: a grid point multiplies 1024 tokens' rows with the weight's rows.
-/
module

public import proofs.«01_k».proof.Proof.Product
public import proofs.«01_k».proof.Proof.Gen.DMergedIdeal.Value
public import proofs.«01_k».proof.Proof.Gen.DMergedReferenceIdeal.Read
public import proofs.«01_k».proof.Defs
public import Idealize.ShloMosaic.Lib.Tactic

@[expose] public section

set_option maxRecDepth 16384

noncomputable section

namespace Cert.Proof.DMerged

open Cert.DMergedIdeal Cert.DMergedIdeal.Gen
open Idealize.ShloMosaic Idealize.SL.Sem
open Idealize.ShloMosaic.TcCoe
open Cert.DMergedReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argD : FVec Ideal S16384x1024 .bf16 := m ((c : Thread nD τ).loc main_arg0)
abbrev argW : FVec Ideal S1024x1024 .bf16 := m ((c : Thread nD τ).loc main_arg1)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel

theorem blockD (t : Fin cfg0.N) (r k : Fin 1024) : iblk m c 0 t (ix2 r k) = at2 (argD m c) (1024 * t.val + r.val) k.val := by
  refine at2_of (argD m c) (((cfg0.win 0).blk t).view.emb (ix2 r k)) ?_ ?_
  · blk_simp [idx0_0 t]; omega
  · blk_simp [idx0_0 t]

theorem blockW (t : Fin cfg0.N) (l : Fin 1024) (k : Fin 1024) : iblk m c 1 t (ix2 l k) = at2 (argW m c) l.val k.val := by
  refine at2_of (argW m c) (((cfg0.win 1).blk t).view.emb (ix2 l k)) ?_ ?_
  · blk_simp [idx0_1 t]
  · blk_simp [idx0_1 t]

theorem point_val (t : Fin cfg0.N) (r : Fin 1024) (l : Fin 1024) :
    k0_pay1 (iblk m c 0 t) (iblk m c 1 t) (ix2 r l) = rowRow (argD m c) (argW m c) 1024 (1024 * t.val + r.val) l.val := by
  unfold rowRow
  rw [Finset.sum_range]
  pointwise [k0_pay1]
  exact Finset.sum_congr rfl fun k _ => by rw [← blockD, ← blockW]

theorem after_val (t : Fin cfg0.N) (r : Fin 1024) (l : Fin 1024) :
    (dats m 0 c).after 2 t (ix2 r l) = rowRow (argD m c) (argW m c) 1024 (1024 * t.val + r.val) l.val := by
  rw [after0_2, out0_2, View.canon_unit_zero hz]
  simp only [View.ld_unit_zero (S := S1024x1024) hz]
  exact point_val m c t r l

theorem result_val : (dats m 0 c).arrAt 2 cfg0.N = fun y => rowRow (argD m c) (argW m c) 1024 (y 0).val (y 1).val := by
  refine (dats m 0 c).arrAt_eq_of_covers 2 _ (by decide +kernel) fun t hf y => ?_
  blk_simp
  rw [idx0_2]
  obtain ⟨r, l, rfl⟩ : ∃ (r : Fin 1024) (l : Fin 1024), y = (ix2 r l : S1024x1024.Idx) := ⟨y 0, y 1, (ix2_eta (n0 := 1024) (n1 := 1024) y).symm⟩
  exact (after_val m c t r l).trans (congrArg₂ (rowRow (argD m c) (argW m c) 1024) (show _ = t.val * 1024 + r.val by omega)
    (show _ = 0 * 1024 + l.val by omega))

/-- The reference's result at an entry. -/
theorem reference_val (x : FVec Ideal S16384x1024 .bf16) (w : FVec Ideal S1024x1024 .bf16) (y : S16384x1024.Idx) :
    val_main_v4 (F := Ideal) x w y = rowRow x w 1024 (y 0).val (y 1).val := by
  unfold rowRow
  rw [val_main_v4_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_DMergedIdeal_DMergedReferenceIdeal := fun m g m' g' _ hargs => by
  refine ⟨fun c y => rowRow (argD m c) (argW m c) 1024 (y 0).val (y 1).val, ?_, ?_⟩
  · exact (θ_run Cert.DMergedIdeal.defs _ _).mono (fun r h c => ⟨(h c).1.trans (result_val m c), (h c).2⟩) (Cert.DMergedIdeal.Value.run_blocks (F := Ideal) m g)
  · refine (θ_run Cert.DMergedReferenceIdeal.defs _ _).mono (fun r h c => ⟨(h c).1.trans ?_, (h c).2⟩) (Cert.DMergedReferenceIdeal.Value.run (F := Ideal) m' g')
    rw [val_main_v5_eq, (hargs c).1, (hargs c).2]
    funext y
    exact reference_val _ _ y

end Cert.Proof.DMerged

end
-- ==== Proof.SbOut.lean ====
/-
  The stick-breaking branch's output projection: a grid point computes a block of 1024 tokens and 512 columns.
-/
module

public import proofs.«01_k».proof.Proof.Product
public import proofs.«01_k».proof.Proof.Gen.SbOutIdeal.Value
public import proofs.«01_k».proof.Proof.Gen.SbOutReferenceIdeal.Read
public import proofs.«01_k».proof.Defs
public import Idealize.ShloMosaic.Lib.Tactic

@[expose] public section

set_option maxRecDepth 16384

noncomputable section

namespace Cert.Proof.SbOut

open Cert.SbOutIdeal Cert.SbOutIdeal.Gen
open Idealize.ShloMosaic Idealize.SL.Sem
open Idealize.ShloMosaic.TcCoe
open Cert.SbOutReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S16384x512 .f32 := m ((c : Thread nD τ).loc main_arg0)
abbrev argW : FVec Ideal S512x1024 .bf16 := m ((c : Thread nD τ).loc main_arg1)

theorem idx0_0 : ∀ t : Fin grid0.N, win0_0.index t = ![t.val / 2, 0] := by decide +kernel
theorem idx0_1 : ∀ t : Fin grid0.N, win0_1.index t = ![0, t.val % 2] := by decide +kernel
theorem idx0_2 : ∀ t : Fin grid0.N, win0_2.index t = ![t.val / 2, t.val % 2] := by decide +kernel

theorem blockH (t : Fin cfg0.N) (r : Fin 1024) (k : Fin 512) : iblk m c 0 t (ix2 r k) = at2 (argH m c) (1024 * (t.val / 2) + r.val) k.val := by
  refine at2_of (argH m c) (((cfg0.win 0).blk t).view.emb (ix2 r k)) ?_ ?_
  · blk_simp [idx0_0 t]; omega
  · blk_simp [idx0_0 t]

theorem blockW (t : Fin cfg0.N) (k : Fin 512) (l : Fin 512) : iblk m c 1 t (ix2 k l) = at2 (argW m c) k.val (512 * (t.val % 2) + l.val) := by
  refine at2_of (argW m c) (((cfg0.win 1).blk t).view.emb (ix2 k l)) ?_ ?_
  · blk_simp [idx0_1 t]
  · blk_simp [idx0_1 t]; omega

theorem point_val (t : Fin cfg0.N) (r : Fin 1024) (l : Fin 512) :
    k0_pay1 (iblk m c 0 t) (iblk m c 1 t) (ix2 r l) = rowCol (argH m c) (argW m c) (1024 * (t.val / 2) + r.val) (512 * (t.val % 2) + l.val) := by
  unfold rowCol
  rw [Finset.sum_range]
  pointwise [k0_pay1]
  exact Finset.sum_congr rfl fun k _ => by rw [← blockH, ← blockW]

theorem after_val (t : Fin cfg0.N) (r : Fin 1024) (l : Fin 512) :
    (dats m 0 c).after 2 t (ix2 r l) = rowCol (argH m c) (argW m c) (1024 * (t.val / 2) + r.val) (512 * (t.val % 2) + l.val) := by
  rw [after0_2, out0_2, View.canon_unit_zero hz]
  simp only [View.ld_unit_zero (S := S1024x512) hz, View.ld_unit_zero (S := S512x512) hz]
  exact point_val m c t r l

theorem result_val : (dats m 0 c).arrAt 2 cfg0.N = fun y => rowCol (argH m c) (argW m c) (y 0).val (y 1).val := by
  refine (dats m 0 c).arrAt_eq_of_covers 2 _ (by decide +kernel) fun t hf y => ?_
  blk_simp
  rw [idx0_2]
  obtain ⟨r, l, rfl⟩ : ∃ (r : Fin 1024) (l : Fin 512), y = (ix2 r l : S1024x512.Idx) := ⟨y 0, y 1, (ix2_eta (n0 := 1024) (n1 := 512) y).symm⟩
  refine (after_val m c t r l).trans ?_
  simp only [Matrix.cons_val_zero, Matrix.cons_val_one, Nat.mul_comm]
  rfl

/-- The reference's result at an entry. -/
theorem reference_val (x : FVec Ideal S16384x512 .f32) (w : FVec Ideal S512x1024 .bf16) (y : S16384x1024.Idx) :
    val_main_v1 (F := Ideal) x w y = rowCol x w (y 0).val (y 1).val := by
  unfold rowCol
  rw [val_main_v1_apply, Finset.sum_range]
  refine Finset.sum_congr rfl fun k _ => ?_
  rw [val_main_v0_apply]
  exact congrArg₂ (· * ·) (at2_of x _ rfl rfl) (at2_of w _ rfl rfl)

theorem algebraic : Cert.algebraic_SbOutIdeal_SbOutReferenceIdeal := fun m g m' g' _ hargs => by
  refine ⟨fun c y => rowCol (argH m c) (argW m c) (y 0).val (y 1).val, ?_, ?_⟩
  · exact (θ_run Cert.SbOutIdeal.defs _ _).mono (fun r h c => ⟨(h c).1.trans (result_val m c), (h c).2⟩) (Cert.SbOutIdeal.Value.run_blocks (F := Ideal) m g)
  · refine (θ_run Cert.SbOutReferenceIdeal.defs _ _).mono (fun r h c => ⟨(h c).1.trans ?_, (h c).2⟩) (Cert.SbOutReferenceIdeal.Value.run (F := Ideal) m' g')
    rw [val_main_v2_eq, (hargs c).1, (hargs c).2]
    funext y
    exact reference_val _ _ y

end Cert.Proof.SbOut

end
-- ==== Proof.DwSb.lean ====
/-
  The gradient of the stick-breaking branch's projection weight: the call adds up, block of 512 tokens by block, the product of
  the branch's columns with the gradient's columns.
-/
module

public import proofs.«01_k».proof.Proof.Product
public import proofs.«01_k».proof.Proof.Gen.DwSbIdeal.Value
public import proofs.«01_k».proof.Proof.Gen.DwSbReferenceIdeal.Read
public import proofs.«01_k».proof.Defs
public import Idealize.ShloMosaic.Lib.Tactic

@[expose] public section

set_option maxRecDepth 16384

noncomputable section

namespace Cert.Proof.DwSb

open Cert.DwSbIdeal Cert.DwSbIdeal.Gen
open Idealize.ShloMosaic Idealize.SL.Sem
open Cert.DwSbReferenceIdeal.Read
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S512x512 .f32) (h3 : a3.IsWhole)
  (a4 : Memref sig .tc .vmem S512x1024 .bf16) (h4 : a4.IsWhole) (a5 : Memref sig .tc .vmem S512x1024 .f32) (h5 : a5.IsWhole)
  (a6 : Memref sig .tc .vmem S512x1024 .f32) (h6 : a6.IsWhole) (x : Vec F S512x512 .f32) (y : Vec F S512x1024 .bf16)
  (s : Vec F S512x1024 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) hz, View.readCov_unit_zero (S := S512x1024) _ hz]
  simp only [View.readAt_eq_ld, h3.read_unread, h4.read_unread, View.ld_unit_zero (S := S512x512) hz, View.ld_unit_zero (S := S512x1024) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S512x512) hz,
    View.ld_unit_zero (S := S512x1024) hz, View.ld_unit_zero (S := S512x1024) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S512x512) hz,
    View.ld_unit_zero (S := S512x1024) hz, View.ld_unit_zero (S := S512x1024) hz]

/-- What the last block of tokens writes out: the finished sum. -/
theorem written_last (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S512x1024) _ hz, View.readAt_eq_ld, h3.read_unread, h4.read_unread, h6.read_unread,
    View.ld_unit_zero (S := S512x512) hz, View.ld_unit_zero (S := S512x1024) hz, View.ld_unit_zero (S := S512x1024) hz]

end

/-! ## The sums -/

variable (m : (ℓ : Loc nD τ sig) → Buf (Elt Ideal) ℓ) (c : Dev nD)

/-- The call's arguments. -/
abbrev argH : FVec Ideal S16384x512 .f32 := m ((c : Thread nD τ).loc main_arg0)
abbrev argD : FVec Ideal S16384x1024 .bf16 := m ((c : Thread nD τ).loc main_arg1)

theorem idx0_0 : ∀ t : Fin grid0.N, win0_0.index t = ![t.val % 32, 0] := by decide +kernel
theorem idx0_1 : ∀ t : Fin grid0.N, win0_1.index t = ![t.val % 32, t.val / 32] := by decide +kernel

theorem blockH (t : Fin cfg0.N) (k : Fin 512) (r : Fin 512) : iblk m c 0 t (ix2 k r) = at2 (argH m c) (512 * (t.val % 32) + k.val) r.val := by
  refine at2_of (argH m c) (((cfg0.win 0).blk t).view.emb (ix2 k r)) ?_ ?_
  · blk_simp [idx0_0 t]; omega
  · blk_simp [idx0_0 t]

theorem blockD (t : Fin cfg0.N) (k : Fin 512) (l : Fin 1024) :
    iblk m c 1 t (ix2 k l) = at2 (argD m c) (512 * (t.val % 32) + k.val) (1024 * (t.val / 32) + l.val) := by
  refine at2_of (argD m c) (((cfg0.win 1).blk t).view.emb (ix2 k l)) ?_ ?_
  · blk_simp [idx0_1 t]; omega
  · blk_simp [idx0_1 t]; omega

/-- A point adds its block of tokens. -/
theorem step_val (t : Fin cfg0.N) (s : Vec Ideal S512x1024 .f32) (r : Fin 512) (l : Fin 1024)
    (hs : s (ix2 r l) = colCol (argH m c) (argD m c) (512 * (t.val % 32)) r.val (1024 * (t.val / 32) + l.val)) :
    k0_pay2 s (iblk m c 0 t) (iblk m c 1 t) (ix2 r l) = colCol (argH m c) (argD m c) (512 * (t.val % 32 + 1)) r.val (1024 * (t.val / 32) + l.val) := by
  unfold colCol at hs ⊢
  rw [sum_block, ← hs]
  pointwise [k0_pay2]
  congr 1
  exact Finset.sum_congr rfl fun k _ => by rw [← blockH, ← blockD]

theorem first_zero (r : Fin 512) (l : Fin 1024) : k0_pay1 (F := Ideal) (ix2 r l) = 0 := by
  pointwise [k0_pay1]

/-- What a point leaves in the running sum. -/
theorem scratch_val : ∀ (n : ℕ) (hn : n < cfg0.N) (r : Fin 512) (l : Fin 1024),
    (outsAt0 m c n hn).2 (ix2 r l) = colCol (argH m c) (argD m c) (512 * (n % 32 + 1)) r.val (1024 * (n / 32) + l.val)
  | n, hn, r, l => by
    have hN : n < 32 := lt_of_lt_of_eq hn (show cfg0.N = 32 from N_0)
    by_cases e0 : n % 32 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 32 + 1 = n % 32 by omega, show (n - 1) / 32 = n / 32 by omega] at ih
      by_cases e1 : n % 32 = 31
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: the product over all the tokens. -/
theorem written_val (n : ℕ) (hn : n < cfg0.N) (e1 : n % 32 = 31) (r : Fin 512) (l : Fin 1024) :
    (outsAt0 m c n hn).1 (ix2 r l) = colCol (argH m c) (argD m c) 16384 r.val (1024 * (n / 32) + l.val) := by
  rw [outsAt0_C m c ⟨n, hn⟩ (by dsimp only; omega) e1]
  dsimp only
  rw [written_last]
  have ih := scratch_val m c (n - 1) (by omega) r l
  rw [show (n - 1) % 32 + 1 = n % 32 by omega, show (n - 1) / 32 = n / 32 by omega] at ih
  refine (step_val m c ⟨n, hn⟩ _ r l ih).trans ?_
  dsimp only
  rw [e1]

/-- The call's result. -/
theorem result_val : Cert.DwSbIdeal.Value.G2 m c = fun y => colCol (argH m c) (argD m c) 16384 (y 0).val (y 1).val := by
  funext y
  have y0 : (y 0).val < 512 := (y 0).isLt
  have y1 : (y 1).val < 1024 := (y 1).isLt
  have hp : Cert.DwSbIdeal.Value.pt2Of y = 32 * ((y 1).val / 1024) + 31 := by
    show 32 * (1 * ((y 0).val / 512 - 0) + 1 * ((y 1).val / 1024 - 0)) + 31 = _
    omega
  have hlt : Cert.DwSbIdeal.Value.pt2Of y < cfg0.N := by rw [hp, show cfg0.N = 32 from N_0]; omega
  have hl : Cert.DwSbIdeal.Value.loc2Of y = ix2 ⟨(y 0).val % 512, Nat.mod_lt _ (by decide)⟩ ⟨(y 1).val % 1024, Nat.mod_lt _ (by decide)⟩ :=
    funext fun a => match a with | ⟨0, _⟩ => rfl | ⟨1, _⟩ => rfl
  unfold Cert.DwSbIdeal.Value.G2
  rw [dif_pos hlt, ← Cert.DwSbIdeal.Value.outsAt0_sweep, hl]
  refine (written_val m c _ hlt (by omega) _ _).trans ?_
  dsimp only
  rw [show (y 0).val % 512 = (y 0).val by omega, show 1024 * (Cert.DwSbIdeal.Value.pt2Of y / 32) + (y 1).val % 1024 = (y 1).val by omega]

/-- The reference's result at an entry. -/
theorem reference_val (x : FVec Ideal S16384x512 .f32) (d : FVec Ideal S16384x1024 .bf16)
    (y : S512x1024.Idx) :
    val_main_v4 (F := Ideal) x d y = colCol x d 16384 (y 0).val (y 1).val := by
  unfold colCol
  rw [val_main_v4_apply, val_main_v3_apply, Finset.sum_range]
  refine Finset.sum_congr rfl fun k _ => ?_
  rw [mul_comm, val_main_v0_apply]
  exact congrArg₂ (· * ·) (at2_of x _ rfl rfl) (at2_of d _ rfl rfl)

theorem algebraic : Cert.algebraic_DwSbIdeal_DwSbReferenceIdeal := fun m g m' g' _ hargs => by
  refine ⟨fun c y => colCol (argH m c) (argD m c) 16384 (y 0).val (y 1).val, ?_, ?_⟩
  · exact (θ_run Cert.DwSbIdeal.defs _ _).mono (fun r h c => ⟨(h c).1.trans (result_val m c), (h c).2⟩) (Cert.DwSbIdeal.Value.run (F := Ideal) m g)
  · refine (θ_run Cert.DwSbReferenceIdeal.defs _ _).mono (fun r h c => ⟨(h c).1.trans ?_, (h c).2⟩) (Cert.DwSbReferenceIdeal.Value.run (F := Ideal) m' g')
    rw [val_main_v4_eq, (hargs c).1, (hargs c).2]
    funext y
    exact reference_val _ _ y

end Cert.Proof.DwSb

end
-- ==== Proof.DOa.lean ====
/-
  The gradient of the stick-breaking branch's output: a grid point multiplies 1024 tokens' rows with the weight's rows.
-/
module

public import proofs.«01_k».proof.Proof.Product
public import proofs.«01_k».proof.Proof.Gen.DOaIdeal.Value
public import proofs.«01_k».proof.Proof.Gen.DOaReferenceIdeal.Read
public import proofs.«01_k».proof.Defs
public import Idealize.ShloMosaic.Lib.Tactic

@[expose] public section

set_option maxRecDepth 16384

noncomputable section

namespace Cert.Proof.DOa

open Cert.DOaIdeal Cert.DOaIdeal.Gen
open Idealize.ShloMosaic Idealize.SL.Sem
open Idealize.ShloMosaic.TcCoe
open Cert.DOaReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argD : FVec Ideal S16384x1024 .bf16 := m ((c : Thread nD τ).loc main_arg0)
abbrev argW : FVec Ideal S512x1024 .bf16 := m ((c : Thread nD τ).loc main_arg1)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel

theorem blockD (t : Fin cfg0.N) (r k : Fin 1024) : iblk m c 0 t (ix2 r k) = at2 (argD m c) (1024 * t.val + r.val) k.val := by
  refine at2_of (argD m c) (((cfg0.win 0).blk t).view.emb (ix2 r k)) ?_ ?_
  · blk_simp [idx0_0 t]; omega
  · blk_simp [idx0_0 t]

theorem blockW (t : Fin cfg0.N) (l : Fin 512) (k : Fin 1024) : iblk m c 1 t (ix2 l k) = at2 (argW m c) l.val k.val := by
  refine at2_of (argW m c) (((cfg0.win 1).blk t).view.emb (ix2 l k)) ?_ ?_
  · blk_simp [idx0_1 t]
  · blk_simp [idx0_1 t]

theorem point_val (t : Fin cfg0.N) (r : Fin 1024) (l : Fin 512) :
    k0_pay1 (iblk m c 0 t) (iblk m c 1 t) (ix2 r l) = rowRow (argD m c) (argW m c) 1024 (1024 * t.val + r.val) l.val := by
  unfold rowRow
  rw [Finset.sum_range]
  pointwise [k0_pay1]
  exact Finset.sum_congr rfl fun k _ => by rw [← blockD, ← blockW]

theorem after_val (t : Fin cfg0.N) (r : Fin 1024) (l : Fin 512) :
    (dats m 0 c).after 2 t (ix2 r l) = rowRow (argD m c) (argW m c) 1024 (1024 * t.val + r.val) l.val := by
  rw [after0_2, out0_2, View.canon_unit_zero hz]
  simp only [View.ld_unit_zero (S := S1024x1024) hz, View.ld_unit_zero (S := S512x1024) hz]
  exact point_val m c t r l

theorem result_val : (dats m 0 c).arrAt 2 cfg0.N = fun y => rowRow (argD m c) (argW m c) 1024 (y 0).val (y 1).val := by
  refine (dats m 0 c).arrAt_eq_of_covers 2 _ (by decide +kernel) fun t hf y => ?_
  blk_simp
  rw [idx0_2]
  obtain ⟨r, l, rfl⟩ : ∃ (r : Fin 1024) (l : Fin 512), y = (ix2 r l : S1024x512.Idx) := ⟨y 0, y 1, (ix2_eta (n0 := 1024) (n1 := 512) y).symm⟩
  exact (after_val m c t r l).trans (congrArg₂ (rowRow (argD m c) (argW m c) 1024) (show _ = t.val * 1024 + r.val by omega)
    (show _ = 0 * 512 + l.val by omega))

/-- The reference's result at an entry. -/
theorem reference_val (x : FVec Ideal S16384x1024 .bf16) (w : FVec Ideal S512x1024 .bf16) (y : S16384x512.Idx) :
    val_main_v4 (F := Ideal) x w y = rowRow x w 1024 (y 0).val (y 1).val := by
  unfold rowRow
  rw [val_main_v4_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_DOaIdeal_DOaReferenceIdeal := fun m g m' g' _ hargs => by
  refine ⟨fun c y => rowRow (argD m c) (argW m c) 1024 (y 0).val (y 1).val, ?_, ?_⟩
  · exact (θ_run Cert.DOaIdeal.defs _ _).mono (fun r h c => ⟨(h c).1.trans (result_val m c), (h c).2⟩) (Cert.DOaIdeal.Value.run_blocks (F := Ideal) m g)
  · refine (θ_run Cert.DOaReferenceIdeal.defs _ _).mono (fun r h c => ⟨(h c).1.trans ?_, (h c).2⟩) (Cert.DOaReferenceIdeal.Value.run (F := Ideal) m' g')
    rw [val_main_v5_eq, (hargs c).1, (hargs c).2]
    funext y
    exact reference_val _ _ y

end Cert.Proof.DOa

end
-- ==== Proof.DsaOut.lean ====
/-
  The other two branches' output projections: a grid point computes a block of 1024 tokens and 512 columns.
-/
module

public import proofs.«01_k».proof.Proof.Product
public import proofs.«01_k».proof.Proof.Gen.DsaOutIdeal.Value
public import proofs.«01_k».proof.Proof.Gen.DsaOutReferenceIdeal.Read
public import proofs.«01_k».proof.Defs
public import Idealize.ShloMosaic.Lib.Tactic

@[expose] public section

set_option maxRecDepth 16384

noncomputable section

namespace Cert.Proof.DsaOut

open Cert.DsaOutIdeal Cert.DsaOutIdeal.Gen
open Idealize.ShloMosaic Idealize.SL.Sem
open Idealize.ShloMosaic.TcCoe
open Cert.DsaOutReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S16384x256 .f32 := m ((c : Thread nD τ).loc main_arg0)
abbrev argW : FVec Ideal S256x1024 .bf16 := m ((c : Thread nD τ).loc main_arg1)

theorem idx0_0 : ∀ t : Fin grid0.N, win0_0.index t = ![t.val / 2, 0] := by decide +kernel
theorem idx0_1 : ∀ t : Fin grid0.N, win0_1.index t = ![0, t.val % 2] := by decide +kernel
theorem idx0_2 : ∀ t : Fin grid0.N, win0_2.index t = ![t.val / 2, t.val % 2] := by decide +kernel

theorem blockH (t : Fin cfg0.N) (r : Fin 1024) (k : Fin 256) : iblk m c 0 t (ix2 r k) = at2 (argH m c) (1024 * (t.val / 2) + r.val) k.val := by
  refine at2_of (argH m c) (((cfg0.win 0).blk t).view.emb (ix2 r k)) ?_ ?_
  · blk_simp [idx0_0 t]; omega
  · blk_simp [idx0_0 t]

theorem blockW (t : Fin cfg0.N) (k : Fin 256) (l : Fin 512) : iblk m c 1 t (ix2 k l) = at2 (argW m c) k.val (512 * (t.val % 2) + l.val) := by
  refine at2_of (argW m c) (((cfg0.win 1).blk t).view.emb (ix2 k l)) ?_ ?_
  · blk_simp [idx0_1 t]
  · blk_simp [idx0_1 t]; omega

theorem point_val (t : Fin cfg0.N) (r : Fin 1024) (l : Fin 512) :
    k0_pay1 (iblk m c 0 t) (iblk m c 1 t) (ix2 r l) = rowCol (argH m c) (argW m c) (1024 * (t.val / 2) + r.val) (512 * (t.val % 2) + l.val) := by
  unfold rowCol
  rw [Finset.sum_range]
  pointwise [k0_pay1]
  exact Finset.sum_congr rfl fun k _ => by rw [← blockH, ← blockW]

theorem after_val (t : Fin cfg0.N) (r : Fin 1024) (l : Fin 512) :
    (dats m 0 c).after 2 t (ix2 r l) = rowCol (argH m c) (argW m c) (1024 * (t.val / 2) + r.val) (512 * (t.val % 2) + l.val) := by
  rw [after0_2, out0_2, View.canon_unit_zero hz]
  simp only [View.ld_unit_zero (S := S1024x256) hz, View.ld_unit_zero (S := S256x512) hz]
  exact point_val m c t r l

theorem result_val : (dats m 0 c).arrAt 2 cfg0.N = fun y => rowCol (argH m c) (argW m c) (y 0).val (y 1).val := by
  refine (dats m 0 c).arrAt_eq_of_covers 2 _ (by decide +kernel) fun t hf y => ?_
  blk_simp
  rw [idx0_2]
  obtain ⟨r, l, rfl⟩ : ∃ (r : Fin 1024) (l : Fin 512), y = (ix2 r l : S1024x512.Idx) := ⟨y 0, y 1, (ix2_eta (n0 := 1024) (n1 := 512) y).symm⟩
  refine (after_val m c t r l).trans ?_
  simp only [Matrix.cons_val_zero, Matrix.cons_val_one, Nat.mul_comm]
  rfl

/-- The reference's result at an entry. -/
theorem reference_val (x : FVec Ideal S16384x256 .f32) (w : FVec Ideal S256x1024 .bf16) (y : S16384x1024.Idx) :
    val_main_v1 (F := Ideal) x w y = rowCol x w (y 0).val (y 1).val := by
  unfold rowCol
  rw [val_main_v1_apply, Finset.sum_range]
  refine Finset.sum_congr rfl fun k _ => ?_
  rw [val_main_v0_apply]
  exact congrArg₂ (· * ·) (at2_of x _ rfl rfl) (at2_of w _ rfl rfl)

theorem algebraic : Cert.algebraic_DsaOutIdeal_DsaOutReferenceIdeal := fun m g m' g' _ hargs => by
  refine ⟨fun c y => rowCol (argH m c) (argW m c) (y 0).val (y 1).val, ?_, ?_⟩
  · exact (θ_run Cert.DsaOutIdeal.defs _ _).mono (fun r h c => ⟨(h c).1.trans (result_val m c), (h c).2⟩) (Cert.DsaOutIdeal.Value.run_blocks (F := Ideal) m g)
  · refine (θ_run Cert.DsaOutReferenceIdeal.defs _ _).mono (fun r h c => ⟨(h c).1.trans ?_, (h c).2⟩) (Cert.DsaOutReferenceIdeal.Value.run (F := Ideal) m' g')
    rw [val_main_v2_eq, (hargs c).1, (hargs c).2]
    funext y
    exact reference_val _ _ y

end Cert.Proof.DsaOut

end
-- ==== Proof.DwDsa.lean ====
/-
  The gradients of the other two branches' projection weights: the call adds up, block of 512 tokens by block, the product of
  the branch's columns with the gradient's columns.
-/
module

public import proofs.«01_k».proof.Proof.Product
public import proofs.«01_k».proof.Proof.Gen.DwDsaIdeal.Value
public import proofs.«01_k».proof.Proof.Gen.DwDsaReferenceIdeal.Read
public import proofs.«01_k».proof.Defs
public import Idealize.ShloMosaic.Lib.Tactic

@[expose] public section

set_option maxRecDepth 16384

noncomputable section

namespace Cert.Proof.DwDsa

open Cert.DwDsaIdeal Cert.DwDsaIdeal.Gen
open Idealize.ShloMosaic Idealize.SL.Sem
open Cert.DwDsaReferenceIdeal.Read
open Idealize.ShloMosaic.TcCoe

theorem hz : (![0, 0] : Fin 2 → Nat) = fun _ => 0 := funext fun a => by fin_cases a <;> rfl

section

variable {F : FTy → Type} [FloatOps F]
variable (c : Dev nD) (i : grid0.Coords) (a3 : Memref sig .tc .vmem S512x256 .f32) (h3 : a3.IsWhole)
  (a4 : Memref sig .tc .vmem S512x512 .bf16) (h4 : a4.IsWhole) (a5 : Memref sig .tc .vmem S256x512 .f32) (h5 : a5.IsWhole)
  (a6 : Memref sig .tc .vmem S256x512 .f32) (h6 : a6.IsWhole) (x : Vec F S512x256 .f32) (y : Vec F S512x512 .bf16)
  (s : Vec F S256x512 .f32)

/-- The first block of tokens: the sum starts at zero. -/
theorem scratch_first (hc0 : cond0_0 i) (hc1 : ¬cond0_1 i) : sout0_A_0 c i a3 h3 a4 h4 a5 h5 a6 h6 hc0 hc1 x y = k0_pay2 (k0_pay1 (F := F)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x512) hz, View.readCov_unit_zero (S := S256x512) _ hz]
  simp only [View.readAt_eq_ld, h3.read_unread, h4.read_unread, View.ld_unit_zero (S := S512x256) hz, View.ld_unit_zero (S := S512x512) hz]

/-- A block of tokens in between. -/
theorem scratch_next (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S512x256) hz,
    View.ld_unit_zero (S := S512x512) hz, View.ld_unit_zero (S := S256x512) hz]

/-- The last block of tokens. -/
theorem scratch_last (hc0 : ¬cond0_0 i) (hc1 : cond0_1 i) : sout0_C_0 c i a3 h3 a4 h4 a5 h5 a6 h6 hc0 hc1 x y s = k0_pay2 s x y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero hz]
  simp only [View.readAt_eq_ld, h3.read_unread, h4.read_unread, h6.read_unread, View.ld_unit_zero (S := S512x256) hz,
    View.ld_unit_zero (S := S512x512) hz, View.ld_unit_zero (S := S256x512) hz]

/-- What the last block of tokens writes out: the finished sum. -/
theorem written_last (hc0 : ¬cond0_0 i) (hc1 : cond0_1 i) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S256x512) _ hz, View.readAt_eq_ld, h3.read_unread, h4.read_unread, h6.read_unread,
    View.ld_unit_zero (S := S512x256) hz, View.ld_unit_zero (S := S512x512) hz, View.ld_unit_zero (S := S256x512) hz]

end

/-! ## The sums -/

variable (m : (ℓ : Loc nD τ sig) → Buf (Elt Ideal) ℓ) (c : Dev nD)

/-- The call's arguments. -/
abbrev argH : FVec Ideal S16384x256 .f32 := m ((c : Thread nD τ).loc main_arg0)
abbrev argD : FVec Ideal S16384x1024 .bf16 := m ((c : Thread nD τ).loc main_arg1)

theorem idx0_0 : ∀ t : Fin grid0.N, win0_0.index t = ![t.val % 32, 0] := by decide +kernel
theorem idx0_1 : ∀ t : Fin grid0.N, win0_1.index t = ![t.val % 32, t.val / 32] := by decide +kernel

theorem blockH (t : Fin cfg0.N) (k : Fin 512) (r : Fin 256) : iblk m c 0 t (ix2 k r) = at2 (argH m c) (512 * (t.val % 32) + k.val) r.val := by
  refine at2_of (argH m c) (((cfg0.win 0).blk t).view.emb (ix2 k r)) ?_ ?_
  · blk_simp [idx0_0 t]; omega
  · blk_simp [idx0_0 t]

theorem blockD (t : Fin cfg0.N) (k : Fin 512) (l : Fin 512) :
    iblk m c 1 t (ix2 k l) = at2 (argD m c) (512 * (t.val % 32) + k.val) (512 * (t.val / 32) + l.val) := by
  refine at2_of (argD m c) (((cfg0.win 1).blk t).view.emb (ix2 k l)) ?_ ?_
  · blk_simp [idx0_1 t]; omega
  · blk_simp [idx0_1 t]; omega

/-- A point adds its block of tokens. -/
theorem step_val (t : Fin cfg0.N) (s : Vec Ideal S256x512 .f32) (r : Fin 256) (l : Fin 512)
    (hs : s (ix2 r l) = colCol (argH m c) (argD m c) (512 * (t.val % 32)) r.val (512 * (t.val / 32) + l.val)) :
    k0_pay2 s (iblk m c 0 t) (iblk m c 1 t) (ix2 r l) = colCol (argH m c) (argD m c) (512 * (t.val % 32 + 1)) r.val (512 * (t.val / 32) + l.val) := by
  unfold colCol at hs ⊢
  rw [sum_block, ← hs]
  pointwise [k0_pay2]
  congr 1
  exact Finset.sum_congr rfl fun k _ => by rw [← blockH, ← blockD]

theorem first_zero (r : Fin 256) (l : Fin 512) : k0_pay1 (F := Ideal) (ix2 r l) = 0 := by
  pointwise [k0_pay1]

/-- What a point leaves in the running sum. -/
theorem scratch_val : ∀ (n : ℕ) (hn : n < cfg0.N) (r : Fin 256) (l : Fin 512),
    (outsAt0 m c n hn).2 (ix2 r l) = colCol (argH m c) (argD m c) (512 * (n % 32 + 1)) r.val (512 * (n / 32) + l.val)
  | n, hn, r, l => by
    have hN : n < 64 := lt_of_lt_of_eq hn (show cfg0.N = 64 from N_0)
    by_cases e0 : n % 32 = 0
    · rw [outsAt0_A m c ⟨n, hn⟩ e0 (by dsimp only; omega)]
      dsimp only
      rw [scratch_first]
      refine step_val m c ⟨n, hn⟩ _ r l ?_
      rw [first_zero]
      dsimp only
      rw [e0]
      exact (Finset.sum_range_zero _).symm
    · have ih := scratch_val (n - 1) (by omega) r l
      rw [show (n - 1) % 32 + 1 = n % 32 by omega, show (n - 1) / 32 = n / 32 by omega] at ih
      by_cases e1 : n % 32 = 31
      · rw [outsAt0_C m c ⟨n, hn⟩ e0 e1]
        dsimp only
        rw [scratch_last]
        exact step_val m c ⟨n, hn⟩ _ r l ih
      · rw [outsAt0_B m c ⟨n, hn⟩ e0 e1]
        dsimp only
        rw [scratch_next]
        exact step_val m c ⟨n, hn⟩ _ r l ih

/-- What a last point writes out: the product over all the tokens. -/
theorem written_val (n : ℕ) (hn : n < cfg0.N) (e1 : n % 32 = 31) (r : Fin 256) (l : Fin 512) :
    (outsAt0 m c n hn).1 (ix2 r l) = colCol (argH m c) (argD m c) 16384 r.val (512 * (n / 32) + l.val) := by
  rw [outsAt0_C m c ⟨n, hn⟩ (by dsimp only; omega) e1]
  dsimp only
  rw [written_last]
  have ih := scratch_val m c (n - 1) (by omega) r l
  rw [show (n - 1) % 32 + 1 = n % 32 by omega, show (n - 1) / 32 = n / 32 by omega] at ih
  refine (step_val m c ⟨n, hn⟩ _ r l ih).trans ?_
  dsimp only
  rw [e1]

/-- The call's result. -/
theorem result_val : Cert.DwDsaIdeal.Value.G2 m c = fun y => colCol (argH m c) (argD m c) 16384 (y 0).val (y 1).val := by
  funext y
  have y0 : (y 0).val < 256 := (y 0).isLt
  have y1 : (y 1).val < 1024 := (y 1).isLt
  have hp : Cert.DwDsaIdeal.Value.pt2Of y = 32 * ((y 1).val / 512) + 31 := by
    show 32 * (2 * ((y 0).val / 256 - 0) + 1 * ((y 1).val / 512 - 0)) + 31 = _
    omega
  have hlt : Cert.DwDsaIdeal.Value.pt2Of y < cfg0.N := by rw [hp, show cfg0.N = 64 from N_0]; omega
  have hl : Cert.DwDsaIdeal.Value.loc2Of y = ix2 ⟨(y 0).val % 256, Nat.mod_lt _ (by decide)⟩ ⟨(y 1).val % 512, Nat.mod_lt _ (by decide)⟩ :=
    funext fun a => match a with | ⟨0, _⟩ => rfl | ⟨1, _⟩ => rfl
  unfold Cert.DwDsaIdeal.Value.G2
  rw [dif_pos hlt, ← Cert.DwDsaIdeal.Value.outsAt0_sweep, hl]
  refine (written_val m c _ hlt (by omega) _ _).trans ?_
  dsimp only
  rw [show (y 0).val % 256 = (y 0).val by omega, show 512 * (Cert.DwDsaIdeal.Value.pt2Of y / 32) + (y 1).val % 512 = (y 1).val by omega]

/-- The reference's result at an entry. -/
theorem reference_val (x : FVec Ideal S16384x256 .f32) (d : FVec Ideal S16384x1024 .bf16)
    (y : S256x1024.Idx) :
    val_main_v4 (F := Ideal) x d y = colCol x d 16384 (y 0).val (y 1).val := by
  unfold colCol
  rw [val_main_v4_apply, val_main_v3_apply, Finset.sum_range]
  refine Finset.sum_congr rfl fun k _ => ?_
  rw [mul_comm, val_main_v0_apply]
  exact congrArg₂ (· * ·) (at2_of x _ rfl rfl) (at2_of d _ rfl rfl)

theorem algebraic : Cert.algebraic_DwDsaIdeal_DwDsaReferenceIdeal := fun m g m' g' _ hargs => by
  refine ⟨fun c y => colCol (argH m c) (argD m c) 16384 (y 0).val (y 1).val, ?_, ?_⟩
  · exact (θ_run Cert.DwDsaIdeal.defs _ _).mono (fun r h c => ⟨(h c).1.trans (result_val m c), (h c).2⟩) (Cert.DwDsaIdeal.Value.run (F := Ideal) m g)
  · refine (θ_run Cert.DwDsaReferenceIdeal.defs _ _).mono (fun r h c => ⟨(h c).1.trans ?_, (h c).2⟩) (Cert.DwDsaReferenceIdeal.Value.run (F := Ideal) m' g')
    rw [val_main_v4_eq, (hargs c).1, (hargs c).2]
    funext y
    exact reference_val _ _ y

end Cert.Proof.DwDsa

end
-- ==== Proof.DOb.lean ====
/-
  The gradient of the dilated branch's output: a grid point multiplies 1024 tokens' rows with the weight's rows.
-/
module

public import proofs.«01_k».proof.Proof.Product
public import proofs.«01_k».proof.Proof.Gen.DObIdeal.Value
public import proofs.«01_k».proof.Proof.Gen.DObReferenceIdeal.Read
public import proofs.«01_k».proof.Defs
public import Idealize.ShloMosaic.Lib.Tactic

@[expose] public section

set_option maxRecDepth 16384

noncomputable section

namespace Cert.Proof.DOb

open Cert.DObIdeal Cert.DObIdeal.Gen
open Idealize.ShloMosaic Idealize.SL.Sem
open Idealize.ShloMosaic.TcCoe
open Cert.DObReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argD : FVec Ideal S16384x1024 .bf16 := m ((c : Thread nD τ).loc main_arg0)
abbrev argW : FVec Ideal S256x1024 .bf16 := m ((c : Thread nD τ).loc main_arg1)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel

theorem blockD (t : Fin cfg0.N) (r k : Fin 1024) : iblk m c 0 t (ix2 r k) = at2 (argD m c) (1024 * t.val + r.val) k.val := by
  refine at2_of (argD m c) (((cfg0.win 0).blk t).view.emb (ix2 r k)) ?_ ?_
  · blk_simp [idx0_0 t]; omega
  · blk_simp [idx0_0 t]

theorem blockW (t : Fin cfg0.N) (l : Fin 256) (k : Fin 1024) : iblk m c 1 t (ix2 l k) = at2 (argW m c) l.val k.val := by
  refine at2_of (argW m c) (((cfg0.win 1).blk t).view.emb (ix2 l k)) ?_ ?_
  · blk_simp [idx0_1 t]
  · blk_simp [idx0_1 t]

theorem point_val (t : Fin cfg0.N) (r : Fin 1024) (l : Fin 256) :
    k0_pay1 (iblk m c 0 t) (iblk m c 1 t) (ix2 r l) = rowRow (argD m c) (argW m c) 1024 (1024 * t.val + r.val) l.val := by
  unfold rowRow
  rw [Finset.sum_range]
  pointwise [k0_pay1]
  exact Finset.sum_congr rfl fun k _ => by rw [← blockD, ← blockW]

theorem after_val (t : Fin cfg0.N) (r : Fin 1024) (l : Fin 256) :
    (dats m 0 c).after 2 t (ix2 r l) = rowRow (argD m c) (argW m c) 1024 (1024 * t.val + r.val) l.val := by
  rw [after0_2, out0_2, View.canon_unit_zero hz]
  simp only [View.ld_unit_zero (S := S1024x1024) hz, View.ld_unit_zero (S := S256x1024) hz]
  exact point_val m c t r l

theorem result_val : (dats m 0 c).arrAt 2 cfg0.N = fun y => rowRow (argD m c) (argW m c) 1024 (y 0).val (y 1).val := by
  refine (dats m 0 c).arrAt_eq_of_covers 2 _ (by decide +kernel) fun t hf y => ?_
  blk_simp
  rw [idx0_2]
  obtain ⟨r, l, rfl⟩ : ∃ (r : Fin 1024) (l : Fin 256), y = (ix2 r l : S1024x256.Idx) := ⟨y 0, y 1, (ix2_eta (n0 := 1024) (n1 := 256) y).symm⟩
  exact (after_val m c t r l).trans (congrArg₂ (rowRow (argD m c) (argW m c) 1024) (show _ = t.val * 1024 + r.val by omega)
    (show _ = 0 * 256 + l.val by omega))

/-- The reference's result at an entry. -/
theorem reference_val (x : FVec Ideal S16384x1024 .bf16) (w : FVec Ideal S256x1024 .bf16) (y : S16384x256.Idx) :
    val_main_v4 (F := Ideal) x w y = rowRow x w 1024 (y 0).val (y 1).val := by
  unfold rowRow
  rw [val_main_v4_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_DObIdeal_DObReferenceIdeal := fun m g m' g' _ hargs => by
  refine ⟨fun c y => rowRow (argD m c) (argW m c) 1024 (y 0).val (y 1).val, ?_, ?_⟩
  · exact (θ_run Cert.DObIdeal.defs _ _).mono (fun r h c => ⟨(h c).1.trans (result_val m c), (h c).2⟩) (Cert.DObIdeal.Value.run_blocks (F := Ideal) m g)
  · refine (θ_run Cert.DObReferenceIdeal.defs _ _).mono (fun r h c => ⟨(h c).1.trans ?_, (h c).2⟩) (Cert.DObReferenceIdeal.Value.run (F := Ideal) m' g')
    rw [val_main_v4_eq, (hargs c).1, (hargs c).2]
    funext y
    exact reference_val _ _ y

end Cert.Proof.DOb

end
-- ==== Proof.DOc.lean ====
/-
  The gradient of the memory branch's output: a grid point multiplies 1024 tokens' rows with the weight's rows.
-/
module

public import proofs.«01_k».proof.Proof.Product
public import proofs.«01_k».proof.Proof.Gen.DOcIdeal.Value
public import proofs.«01_k».proof.Proof.Gen.DOcReferenceIdeal.Read
public import proofs.«01_k».proof.Defs
public import Idealize.ShloMosaic.Lib.Tactic

@[expose] public section

set_option maxRecDepth 16384

noncomputable section

namespace Cert.Proof.DOc

open Cert.DOcIdeal Cert.DOcIdeal.Gen
open Idealize.ShloMosaic Idealize.SL.Sem
open Idealize.ShloMosaic.TcCoe
open Cert.DOcReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argD : FVec Ideal S16384x1024 .bf16 := m ((c : Thread nD τ).loc main_arg0)
abbrev argW : FVec Ideal S256x1024 .bf16 := m ((c : Thread nD τ).loc main_arg1)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel

theorem blockD (t : Fin cfg0.N) (r k : Fin 1024) : iblk m c 0 t (ix2 r k) = at2 (argD m c) (1024 * t.val + r.val) k.val := by
  refine at2_of (argD m c) (((cfg0.win 0).blk t).view.emb (ix2 r k)) ?_ ?_
  · blk_simp [idx0_0 t]; omega
  · blk_simp [idx0_0 t]

theorem blockW (t : Fin cfg0.N) (l : Fin 256) (k : Fin 1024) : iblk m c 1 t (ix2 l k) = at2 (argW m c) l.val k.val := by
  refine at2_of (argW m c) (((cfg0.win 1).blk t).view.emb (ix2 l k)) ?_ ?_
  · blk_simp [idx0_1 t]
  · blk_simp [idx0_1 t]

theorem point_val (t : Fin cfg0.N) (r : Fin 1024) (l : Fin 256) :
    k0_pay1 (iblk m c 0 t) (iblk m c 1 t) (ix2 r l) = rowRow (argD m c) (argW m c) 1024 (1024 * t.val + r.val) l.val := by
  unfold rowRow
  rw [Finset.sum_range]
  pointwise [k0_pay1]
  exact Finset.sum_congr rfl fun k _ => by rw [← blockD, ← blockW]

theorem after_val (t : Fin cfg0.N) (r : Fin 1024) (l : Fin 256) :
    (dats m 0 c).after 2 t (ix2 r l) = rowRow (argD m c) (argW m c) 1024 (1024 * t.val + r.val) l.val := by
  rw [after0_2, out0_2, View.canon_unit_zero hz]
  simp only [View.ld_unit_zero (S := S1024x1024) hz, View.ld_unit_zero (S := S256x1024) hz]
  exact point_val m c t r l

theorem result_val : (dats m 0 c).arrAt 2 cfg0.N = fun y => rowRow (argD m c) (argW m c) 1024 (y 0).val (y 1).val := by
  refine (dats m 0 c).arrAt_eq_of_covers 2 _ (by decide +kernel) fun t hf y => ?_
  blk_simp
  rw [idx0_2]
  obtain ⟨r, l, rfl⟩ : ∃ (r : Fin 1024) (l : Fin 256), y = (ix2 r l : S1024x256.Idx) := ⟨y 0, y 1, (ix2_eta (n0 := 1024) (n1 := 256) y).symm⟩
  exact (after_val m c t r l).trans (congrArg₂ (rowRow (argD m c) (argW m c) 1024) (show _ = t.val * 1024 + r.val by omega)
    (show _ = 0 * 256 + l.val by omega))

/-- The reference's result at an entry. -/
theorem reference_val (x : FVec Ideal S16384x1024 .bf16) (w : FVec Ideal S256x1024 .bf16) (y : S16384x256.Idx) :
    val_main_v4 (F := Ideal) x w y = rowRow x w 1024 (y 0).val (y 1).val := by
  unfold rowRow
  rw [val_main_v4_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_DOcIdeal_DOcReferenceIdeal := fun m g m' g' _ hargs => by
  refine ⟨fun c y => rowRow (argD m c) (argW m c) 1024 (y 0).val (y 1).val, ?_, ?_⟩
  · exact (θ_run Cert.DOcIdeal.defs _ _).mono (fun r h c => ⟨(h c).1.trans (result_val m c), (h c).2⟩) (Cert.DOcIdeal.Value.run_blocks (F := Ideal) m g)
  · refine (θ_run Cert.DOcReferenceIdeal.defs _ _).mono (fun r h c => ⟨(h c).1.trans ?_, (h c).2⟩) (Cert.DOcReferenceIdeal.Value.run (F := Ideal) m' g')
    rw [val_main_v5_eq, (hargs c).1, (hargs c).2]
    funext y
    exact reference_val _ _ y

end Cert.Proof.DOc

end
-- ==== Proof.MemFrames.lean ====
/-
  The frames of the norms', the memory's and the merge's calls.
-/
module

public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RmsReferenceIdeal
public import proofs.«01_k».proof.Proof.Gen.RmsReferenceIdeal.Run
public import proofs.«01_k».proof.Proof.Gen.RmsReferenceIdeal.Read
public import proofs.«01_k».proof.Proof.Gen.MemRms
public import proofs.«01_k».proof.Proof.Gen.MemRms.Frame
public import proofs.«01_k».proof.Proof.Gen.MemRmsIdeal
public import proofs.«01_k».proof.Proof.Gen.MemRmsIdeal.Frame
public import proofs.«01_k».proof.Proof.Gen.MemRmsIdeal.Value
public import proofs.«01_k».proof.Proof.Gen.MemRmsReferenceIdeal
public import proofs.«01_k».proof.Proof.Gen.MemRmsReferenceIdeal.Run
public import proofs.«01_k».proof.Proof.Gen.MemRmsReferenceIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.DwMemKv
public import proofs.«01_k».proof.Proof.Gen.DwMemKv.Frame
public import proofs.«01_k».proof.Proof.Gen.DwMemKvIdeal
public import proofs.«01_k».proof.Proof.Gen.DwMemKvIdeal.Frame
public import proofs.«01_k».proof.Proof.Gen.DwMemKvIdeal.Value
public import proofs.«01_k».proof.Proof.Gen.DwMemKvReferenceIdeal
public import proofs.«01_k».proof.Proof.Gen.DwMemKvReferenceIdeal.Run
public import proofs.«01_k».proof.Proof.Gen.DwMemKvReferenceIdeal.Read
public import proofs.«01_k».proof.Proof.Gen.DMemh
public import proofs.«01_k».proof.Proof.Gen.DMemh.Frame
public import proofs.«01_k».proof.Proof.Gen.DMemhIdeal
public import proofs.«01_k».proof.Proof.Gen.DMemhIdeal.Frame
public import proofs.«01_k».proof.Proof.Gen.DMemhIdeal.Value
public import proofs.«01_k».proof.Proof.Gen.DMemhReferenceIdeal
public import proofs.«01_k».proof.Proof.Gen.DMemhReferenceIdeal.Run
public import proofs.«01_k».proof.Proof.Gen.DMemhReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Mem
public import proofs.«01_k».proof.Proof.Gen.Mem.Frame
public import proofs.«01_k».proof.Proof.Gen.MemIdeal
public import proofs.«01_k».proof.Proof.Gen.MemIdeal.Frame
public import proofs.«01_k».proof.Proof.Gen.MemIdeal.Value
public import proofs.«01_k».proof.Proof.Gen.MemReferenceIdeal
public import proofs.«01_k».proof.Proof.Gen.MemReferenceIdeal.Run
public import proofs.«01_k».proof.Proof.Gen.MemReferenceIdeal.Read
public import proofs.«01_k».proof.Defs
public import Idealize.ShloMosaic.Lib.Quiescent

@[expose] public section

noncomputable section

namespace Cert.Proof

open Idealize.ShloMosaic Idealize.SL.Sem

/-! As for the other calls: generated frames, and a reference's run keeps its arguments. -/

theorem rms_frame : Cert.quiescent_Rms := fun m ρ _ => Cert.Rms.Gen.frame m ρ
theorem rms_frame_ideal : Cert.quiescent_RmsIdeal := fun m ρ _ => Cert.RmsIdeal.Gen.frame m ρ
theorem rms_frame_reference : Cert.quiescent_RmsReferenceIdeal := fun m ρ _ =>
  (θ_run Cert.RmsReferenceIdeal.defs _ _).mono (fun r h => ⟨fun c => (h c).2, sem_eq_zero_of_no_sems (by decide) r.2⟩)
    (Cert.RmsReferenceIdeal.Value.run (F := Ideal) m ρ)

theorem mem_rms_frame : Cert.quiescent_MemRms := fun m ρ _ => Cert.MemRms.Gen.frame m ρ
theorem mem_rms_frame_ideal : Cert.quiescent_MemRmsIdeal := fun m ρ _ => Cert.MemRmsIdeal.Gen.frame m ρ
theorem mem_rms_frame_reference : Cert.quiescent_MemRmsReferenceIdeal := fun m ρ _ =>
  (θ_run Cert.MemRmsReferenceIdeal.defs _ _).mono (fun r h => ⟨fun c => (h c).2, sem_eq_zero_of_no_sems (by decide) r.2⟩)
    (Cert.MemRmsReferenceIdeal.Value.run (F := Ideal) m ρ)

theorem mem_kv_frame : Cert.quiescent_MemKv := fun m ρ _ => Cert.MemKv.Gen.frame m ρ
theorem mem_kv_frame_ideal : Cert.quiescent_MemKvIdeal := fun m ρ _ => Cert.MemKvIdeal.Gen.frame m ρ
theorem mem_kv_frame_reference : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

theorem dw_mem_kv_frame : Cert.quiescent_DwMemKv := fun m ρ _ => Cert.DwMemKv.Gen.frame m ρ
theorem dw_mem_kv_frame_ideal : Cert.quiescent_DwMemKvIdeal := fun m ρ _ => Cert.DwMemKvIdeal.Gen.frame m ρ
theorem dw_mem_kv_frame_reference : Cert.quiescent_DwMemKvReferenceIdeal := fun m ρ _ =>
  (θ_run Cert.DwMemKvReferenceIdeal.defs _ _).mono (fun r h => ⟨fun c => (h c).2, sem_eq_zero_of_no_sems (by decide) r.2⟩)
    (Cert.DwMemKvReferenceIdeal.Value.run (F := Ideal) m ρ)

theorem d_memh_frame : Cert.quiescent_DMemh := fun m ρ _ => Cert.DMemh.Gen.frame m ρ
theorem d_memh_frame_ideal : Cert.quiescent_DMemhIdeal := fun m ρ _ => Cert.DMemhIdeal.Gen.frame m ρ
theorem d_memh_frame_reference : Cert.quiescent_DMemhReferenceIdeal := fun m ρ _ =>
  (θ_run Cert.DMemhReferenceIdeal.defs _ _).mono (fun r h => ⟨fun c => (h c).2, sem_eq_zero_of_no_sems (by decide) r.2⟩)
    (Cert.DMemhReferenceIdeal.Value.run (F := Ideal) m ρ)

theorem merge_frame : Cert.quiescent_Merge := fun m ρ _ => Cert.Merge.Gen.frame m ρ
theorem merge_frame_ideal : Cert.quiescent_MergeIdeal := fun m ρ _ => Cert.MergeIdeal.Gen.frame m ρ
theorem merge_frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem mem_frame : Cert.quiescent_Mem := fun m ρ _ => Cert.Mem.Gen.frame m ρ
theorem mem_frame_ideal : Cert.quiescent_MemIdeal := fun m ρ _ => Cert.MemIdeal.Gen.frame m ρ
theorem mem_frame_reference : Cert.quiescent_MemReferenceIdeal := fun m ρ _ =>
  (θ_run Cert.MemReferenceIdeal.defs _ _).mono (fun r h => ⟨fun c => (h c).2, sem_eq_zero_of_no_sems (by decide) r.2⟩)
    (Cert.MemReferenceIdeal.Value.run (F := Ideal) m ρ)

end Cert.Proof

end
-- ==== Proof.Rms.lean ====
/-
  The norm of the step's input: a grid point computes 512 rows.
-/
module

public import proofs.«01_k».proof.Proof.NormBack
public import proofs.«01_k».proof.Proof.Gen.RmsIdeal.Value
public import proofs.«01_k».proof.Proof.Gen.RmsReferenceIdeal.Read
public import proofs.«01_k».proof.Defs
public import Idealize.ShloMosaic.Lib.Tactic

@[expose] public section

set_option maxRecDepth 16384

noncomputable section

namespace Cert.Proof.Rms

open Cert.RmsIdeal Cert.RmsIdeal.Gen
open Idealize.ShloMosaic Idealize.SL.Sem
open Idealize.ShloMosaic.TcCoe
open Cert.RmsReferenceIdeal.Read

theorem hz : (![0, 0] : Fin 2 → Nat) = fun _ => 0 := funext fun a => by fin_cases a <;> rfl

/-- One entry of the norm, with the gain. -/
def normed (x : FVec Ideal S16384x1024 .f32) (g : FVec Ideal S1x1024 .f32) (i j : ℕ) : EReal :=
  at2 x i j * scale (at2 x i) * at2 g 0 j

variable (m : (ℓ : Loc nD τ sig) → Buf (Elt Ideal) ℓ) (c : Dev nD)

/-- The call's arguments. -/
abbrev argX : FVec Ideal S16384x1024 .f32 := m ((c : Thread nD τ).loc main_arg0)
abbrev argG : FVec Ideal S1x1024 .f32 := m ((c : Thread nD τ).loc main_arg1)

theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![t.val, 0] := by decide +kernel

theorem blockX (t : Fin cfg0.N) (r : Fin 512) (l : Fin 1024) : iblk m c 0 t (ix2 r l) = at2 (argX m c) (512 * t.val + r.val) l.val := by
  refine at2_of (argX m c) (((cfg0.win 0).blk t).view.emb (ix2 r l)) ?_ ?_
  · blk_simp [idx0_0 t]; omega
  · blk_simp [idx0_0 t]

theorem blockG (t : Fin cfg0.N) (l : Fin 1024) : iblk m c 1 t (ix2 (0 : Fin 1) l) = at2 (argG m c) 0 l.val := by
  refine at2_of (argG m c) (((cfg0.win 1).blk t).view.emb (ix2 (0 : Fin 1) l)) ?_ ?_
  · blk_simp [idx0_1 t]; rfl
  · blk_simp [idx0_1 t]

theorem norm_row (x : Vec Ideal S512x1024 .f32) (g : Vec Ideal S1x1024 .f32) (r : Fin 512) (l : Fin 1024) (X : ℕ → EReal)
    (hx : ∀ k : Fin 1024, x (ix2 r k) = X k.val) : k0_pay1 x g (ix2 r l) = X l.val * scale X * g (ix2 (0 : Fin 1) l) := by
  unfold scale meanSq
  rw [Finset.sum_range]
  simp only [← hx]
  pointwise [k0_pay1]

theorem after_val (t : Fin cfg0.N) (r : Fin 512) (l : Fin 1024) :
    (dats m 0 c).after 2 t (ix2 r l) = normed (argX m c) (argG m c) (512 * t.val + r.val) l.val := by
  rw [after0_2, out0_2, View.canon_unit_zero hz]
  simp only [View.ld_unit_zero (S := S512x1024) hz, View.ld_unit_zero (S := S1x1024) hz]
  unfold normed
  rw [← blockG m c t]
  exact norm_row _ _ r l _ fun k => blockX m c t r k

theorem result_val : (dats m 0 c).arrAt 2 cfg0.N = fun y => normed (argX m c) (argG m c) (y 0).val (y 1).val := by
  refine (dats m 0 c).arrAt_eq_of_covers 2 _ (by decide +kernel) fun t hf y => ?_
  blk_simp
  rw [idx0_2]
  obtain ⟨r, l, rfl⟩ : ∃ (r : Fin 512) (l : Fin 1024), y = (ix2 r l : S512x1024.Idx) := ⟨y 0, y 1, (ix2_eta (n0 := 512) (n1 := 1024) y).symm⟩
  exact (after_val m c t r l).trans (congrArg₂ (normed (argX m c) (argG m c)) (show _ = t.val * 512 + r.val by omega)
    (show _ = 0 * 1024 + l.val by omega))

/-! ## The reference -/

section

variable (x : FVec Ideal S16384x1024 .f32) (g : FVec Ideal S1x1024 .f32)

theorem reference_scale (y : Cert.RmsReferenceIdeal.S16384x1.Idx) : val_main_v7 (F := Ideal) x y = scale (at2 x (y 0).val) := by
  have e : val_main_v2 (F := Ideal) x y = ∑ k ∈ Finset.range 1024, at2 x (y 0).val k * at2 x (y 0).val k := by
    rw [val_main_v2_apply, val_main_v1_apply, val_main_cst_apply, Finset.sum_range]
    refine (congrArg (· + _) (by exact Ideal.ofBits_zero_f32)).trans ((zero_add _).trans (Finset.sum_congr rfl fun k _ => ?_))
    rw [val_main_v0_apply]
    exact congrArg₂ (· * ·) (at2_of x _ rfl rfl) (at2_of x _ rfl rfl)
  rw [val_main_v7_apply, val_main_v6_apply, val_main_v4_apply, e, val_main_v3_apply, val_main_cst_0_apply, val_main_v5_apply, val_main_cst_1_apply]
  rfl

theorem reference_val (y : S16384x1024.Idx) : val_main_v11 (F := Ideal) x g y = normed x g (y 0).val (y 1).val := by
  unfold normed
  rw [val_main_v11_apply, val_main_v9_apply, val_main_v8_apply, val_main_v10_apply, reference_scale]
  exact congrArg₂ (· * ·) (congrArg (· * _) (at2_of x _ rfl rfl)) (at2_of g _ rfl rfl)

end

theorem algebraic : Cert.algebraic_RmsIdeal_RmsReferenceIdeal := fun m g m' g' _ hargs => by
  refine ⟨fun c y => normed (argX m c) (argG m c) (y 0).val (y 1).val, ?_, ?_⟩
  · exact (θ_run Cert.RmsIdeal.defs _ _).mono (fun r h c => ⟨(h c).1.trans (result_val m c), (h c).2⟩) (Cert.RmsIdeal.Value.run_blocks (F := Ideal) m g)
  · refine (θ_run Cert.RmsReferenceIdeal.defs _ _).mono (fun r h c => ⟨(h c).1.trans ?_, (h c).2⟩) (Cert.RmsReferenceIdeal.Value.run (F := Ideal) m' g')
    rw [val_main_v12_eq, (hargs c).1, (hargs c).2]
    funext y
    exact reference_val _ _ y

end Cert.Proof.Rms

end
-- ==== Proof.MemRms.lean ====
/-
  The norm of the memory: the one grid point computes all rows.
-/
module

public import proofs.«01_k».proof.Proof.NormBack
public import proofs.«01_k».proof.Proof.Gen.MemRmsIdeal.Value
public import proofs.«01_k».proof.Proof.Gen.MemRmsReferenceIdeal.Read
public import proofs.«01_k».proof.Defs
public import Idealize.ShloMosaic.Lib.Tactic

@[expose] public section

set_option maxRecDepth 16384

noncomputable section

namespace Cert.Proof.MemRms

open Cert.MemRmsIdeal Cert.MemRmsIdeal.Gen
open Idealize.ShloMosaic Idealize.SL.Sem
open Idealize.ShloMosaic.TcCoe
open Cert.MemRmsReferenceIdeal.Read

theorem hz : (![0, 0] : Fin 2 → Nat) = fun _ => 0 := funext fun a => by fin_cases a <;> rfl

/-- One entry of the norm, with the gain. -/
def normed (x : FVec Ideal S256x1024 .f32) (g : FVec Ideal S1x1024 .f32) (i j : ℕ) : EReal :=
  at2 x i j * scale (at2 x i) * at2 g 0 j

variable (m : (ℓ : Loc nD τ sig) → Buf (Elt Ideal) ℓ) (c : Dev nD)

/-- The call's arguments. -/
abbrev argX : FVec Ideal S256x1024 .f32 := m ((c : Thread nD τ).loc main_arg0)
abbrev argG : FVec Ideal S1x1024 .f32 := m ((c : Thread nD τ).loc main_arg1)

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![0, 0] := by decide +kernel

theorem blockX (t : Fin cfg0.N) (r : Fin 256) (l : Fin 1024) : iblk m c 0 t (ix2 r l) = at2 (argX m c) (r.val) l.val := by
  refine at2_of (argX m c) (((cfg0.win 0).blk t).view.emb (ix2 r l)) ?_ ?_
  · blk_simp [idx0_0 t]
  · blk_simp [idx0_0 t]

theorem blockG (t : Fin cfg0.N) (l : Fin 1024) : iblk m c 1 t (ix2 (0 : Fin 1) l) = at2 (argG m c) 0 l.val := by
  refine at2_of (argG m c) (((cfg0.win 1).blk t).view.emb (ix2 (0 : Fin 1) l)) ?_ ?_
  · blk_simp [idx0_1 t]; rfl
  · blk_simp [idx0_1 t]

theorem norm_row (x : Vec Ideal S256x1024 .f32) (g : Vec Ideal S1x1024 .f32) (r : Fin 256) (l : Fin 1024) (X : ℕ → EReal)
    (hx : ∀ k : Fin 1024, x (ix2 r k) = X k.val) : k0_pay1 x g (ix2 r l) = X l.val * scale X * g (ix2 (0 : Fin 1) l) := by
  unfold scale meanSq
  rw [Finset.sum_range]
  simp only [← hx]
  pointwise [k0_pay1]

theorem after_val (t : Fin cfg0.N) (r : Fin 256) (l : Fin 1024) :
    (dats m 0 c).after 2 t (ix2 r l) = normed (argX m c) (argG m c) (r.val) l.val := by
  rw [after0_2, out0_2, View.canon_unit_zero hz]
  simp only [View.ld_unit_zero (S := S256x1024) hz, View.ld_unit_zero (S := S1x1024) hz]
  unfold normed
  rw [← blockG m c t]
  exact norm_row _ _ r l _ fun k => blockX m c t r k

theorem result_val : (dats m 0 c).arrAt 2 cfg0.N = fun y => normed (argX m c) (argG m c) (y 0).val (y 1).val := by
  refine (dats m 0 c).arrAt_eq_of_covers 2 _ (by decide +kernel) fun t hf y => ?_
  blk_simp
  rw [idx0_2]
  obtain ⟨r, l, rfl⟩ : ∃ (r : Fin 256) (l : Fin 1024), y = (ix2 r l : S256x1024.Idx) := ⟨y 0, y 1, (ix2_eta (n0 := 256) (n1 := 1024) y).symm⟩
  exact (after_val m c t r l).trans (congrArg₂ (normed (argX m c) (argG m c)) (show _ = 0 * 256 + r.val by omega)
    (show _ = 0 * 1024 + l.val by omega))

/-! ## The reference -/

section

variable (x : FVec Ideal S256x1024 .f32) (g : FVec Ideal S1x1024 .f32)

theorem reference_scale (y : Cert.MemRmsReferenceIdeal.S256x1.Idx) : val_main_v7 (F := Ideal) x y = scale (at2 x (y 0).val) := by
  have e : val_main_v2 (F := Ideal) x y = ∑ k ∈ Finset.range 1024, at2 x (y 0).val k * at2 x (y 0).val k := by
    rw [val_main_v2_apply, val_main_v1_apply, val_main_cst_apply, Finset.sum_range]
    refine (congrArg (· + _) (by exact Ideal.ofBits_zero_f32)).trans ((zero_add _).trans (Finset.sum_congr rfl fun k _ => ?_))
    rw [val_main_v0_apply]
    exact congrArg₂ (· * ·) (at2_of x _ rfl rfl) (at2_of x _ rfl rfl)
  rw [val_main_v7_apply, val_main_v6_apply, val_main_v4_apply, e, val_main_v3_apply, val_main_cst_0_apply, val_main_v5_apply, val_main_cst_1_apply]
  rfl

theorem reference_val (y : S256x1024.Idx) : val_main_v11 (F := Ideal) x g y = normed x g (y 0).val (y 1).val := by
  unfold normed
  rw [val_main_v11_apply, val_main_v9_apply, val_main_v8_apply, val_main_v10_apply, reference_scale]
  exact congrArg₂ (· * ·) (congrArg (· * _) (at2_of x _ rfl rfl)) (at2_of g _ rfl rfl)

end

theorem algebraic : Cert.algebraic_MemRmsIdeal_MemRmsReferenceIdeal := fun m g m' g' _ hargs => by
  refine ⟨fun c y => normed (argX m c) (argG m c) (y 0).val (y 1).val, ?_, ?_⟩
  · exact (θ_run Cert.MemRmsIdeal.defs _ _).mono (fun r h c => ⟨(h c).1.trans (result_val m c), (h c).2⟩) (Cert.MemRmsIdeal.Value.run_blocks (F := Ideal) m g)
  · refine (θ_run Cert.MemRmsReferenceIdeal.defs _ _).mono (fun r h c => ⟨(h c).1.trans ?_, (h c).2⟩) (Cert.MemRmsReferenceIdeal.Value.run (F := Ideal) m' g')
    rw [val_main_v12_eq, (hargs c).1, (hargs c).2]
    funext y
    exact reference_val _ _ y

end Cert.Proof.MemRms

end
-- ==== Proof.MemKv.lean ====
/-
  The memory's projection: the one grid point computes it all.
-/
module

public import proofs.«01_k».proof.Proof.Product
public import proofs.«01_k».proof.Proof.Gen.MemKvIdeal.Value
public import proofs.«01_k».proof.Proof.Gen.MemKvReferenceIdeal.Read
public import proofs.«01_k».proof.Defs
public import Idealize.ShloMosaic.Lib.Tactic

@[expose] public section

set_option maxRecDepth 16384

noncomputable section

namespace Cert.Proof.MemKv

open Cert.MemKvIdeal Cert.MemKvIdeal.Gen
open Idealize.ShloMosaic Idealize.SL.Sem
open Idealize.ShloMosaic.TcCoe
open Cert.MemKvReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S256x1024 .bf16 := m ((c : Thread nD τ).loc main_arg0)
abbrev argW : FVec Ideal S1024x512 .bf16 := m ((c : Thread nD τ).loc main_arg1)

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![0, 0] := by decide +kernel

theorem blockH (t : Fin cfg0.N) (r : Fin 256) (k : Fin 1024) : iblk m c 0 t (ix2 r k) = at2 (argH m c) r.val k.val := by
  refine at2_of (argH m c) (((cfg0.win 0).blk t).view.emb (ix2 r k)) ?_ ?_
  · blk_simp [idx0_0 t]
  · blk_simp [idx0_0 t]

theorem blockW (t : Fin cfg0.N) (k : Fin 1024) (l : Fin 512) : iblk m c 1 t (ix2 k l) = at2 (argW m c) k.val l.val := by
  refine at2_of (argW m c) (((cfg0.win 1).blk t).view.emb (ix2 k l)) ?_ ?_
  · blk_simp [idx0_1 t]
  · blk_simp [idx0_1 t]

theorem point_val (t : Fin cfg0.N) (r : Fin 256) (l : Fin 512) :
    k0_pay1 (iblk m c 0 t) (iblk m c 1 t) (ix2 r l) = rowCol (argH m c) (argW m c) r.val l.val := by
  unfold rowCol
  rw [Finset.sum_range]
  pointwise [k0_pay1]
  exact Finset.sum_congr rfl fun k _ => by rw [← blockH, ← blockW]

theorem after_val (t : Fin cfg0.N) (r : Fin 256) (l : Fin 512) :
    (dats m 0 c).after 2 t (ix2 r l) = rowCol (argH m c) (argW m c) r.val l.val := by
  rw [after0_2, out0_2, View.canon_unit_zero hz]
  simp only [View.ld_unit_zero (S := S256x1024) hz, View.ld_unit_zero (S := S1024x512) hz]
  exact point_val m c t r l

theorem result_val : (dats m 0 c).arrAt 2 cfg0.N = fun y => rowCol (argH m c) (argW m c) (y 0).val (y 1).val := by
  refine (dats m 0 c).arrAt_eq_of_covers 2 _ (by decide +kernel) fun t hf y => ?_
  blk_simp
  rw [idx0_2]
  obtain ⟨r, l, rfl⟩ : ∃ (r : Fin 256) (l : Fin 512), y = (ix2 r l : S256x512.Idx) := ⟨y 0, y 1, (ix2_eta (n0 := 256) (n1 := 512) y).symm⟩
  exact (after_val m c t r l).trans (congrArg₂ (rowCol (argH m c) (argW m c)) (show _ = 0 * 256 + r.val by omega)
    (show _ = 0 * 512 + l.val by omega))

/-- The reference's result at an entry. -/
theorem reference_val (x : FVec Ideal S256x1024 .bf16) (w : FVec Ideal S1024x512 .bf16) (y : S256x512.Idx) :
    val_main_v2 (F := Ideal) x w y = rowCol x w (y 0).val (y 1).val := by
  unfold rowCol
  rw [val_main_v2_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_MemKvIdeal_MemKvReferenceIdeal := fun m g m' g' _ hargs => by
  refine ⟨fun c y => rowCol (argH m c) (argW m c) (y 0).val (y 1).val, ?_, ?_⟩
  · exact (θ_run Cert.MemKvIdeal.defs _ _).mono (fun r h c => ⟨(h c).1.trans (result_val m c), (h c).2⟩) (Cert.MemKvIdeal.Value.run_blocks (F := Ideal) m g)
  · refine (θ_run Cert.MemKvReferenceIdeal.defs _ _).mono (fun r h c => ⟨(h c).1.trans ?_, (h c).2⟩) (Cert.MemKvReferenceIdeal.Value.run (F := Ideal) m' g')
    rw [val_main_v3_eq, (hargs c).1, (hargs c).2]
    funext y
    exact reference_val _ _ y

end Cert.Proof.MemKv

end
-- ==== Proof.DwMemKv.lean ====
/-
  The gradient of the memory's projection: the one grid point computes it all.
-/
module

public import proofs.«01_k».proof.Proof.Product
public import proofs.«01_k».proof.Proof.Gen.DwMemKvIdeal.Value
public import proofs.«01_k».proof.Proof.Gen.DwMemKvReferenceIdeal.Read
public import proofs.«01_k».proof.Defs
public import Idealize.ShloMosaic.Lib.Tactic

@[expose] public section

set_option maxRecDepth 16384

noncomputable section

namespace Cert.Proof.DwMemKv

open Cert.DwMemKvIdeal Cert.DwMemKvIdeal.Gen
open Idealize.ShloMosaic Idealize.SL.Sem
open Idealize.ShloMosaic.TcCoe
open Cert.DwMemKvReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argH : FVec Ideal S256x1024 .bf16 := m ((c : Thread nD τ).loc main_arg0)
abbrev argD : FVec Ideal S256x512 .bf16 := m ((c : Thread nD τ).loc main_arg1)

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![0, 0] := by decide +kernel

theorem blockH (t : Fin cfg0.N) (k : Fin 256) (r : Fin 1024) : iblk m c 0 t (ix2 k r) = at2 (argH m c) k.val r.val := by
  refine at2_of (argH m c) (((cfg0.win 0).blk t).view.emb (ix2 k r)) ?_ ?_
  · blk_simp [idx0_0 t]
  · blk_simp [idx0_0 t]

theorem blockD (t : Fin cfg0.N) (k : Fin 256) (l : Fin 512) : iblk m c 1 t (ix2 k l) = at2 (argD m c) k.val l.val := by
  refine at2_of (argD m c) (((cfg0.win 1).blk t).view.emb (ix2 k l)) ?_ ?_
  · blk_simp [idx0_1 t]
  · blk_simp [idx0_1 t]

theorem point_val (t : Fin cfg0.N) (r : Fin 1024) (l : Fin 512) :
    k0_pay1 (iblk m c 0 t) (iblk m c 1 t) (ix2 r l) = colCol (argH m c) (argD m c) 256 r.val l.val := by
  unfold colCol
  rw [Finset.sum_range]
  pointwise [k0_pay1]
  exact Finset.sum_congr rfl fun k _ => by rw [← blockH, ← blockD]

theorem after_val (t : Fin cfg0.N) (r : Fin 1024) (l : Fin 512) :
    (dats m 0 c).after 2 t (ix2 r l) = colCol (argH m c) (argD m c) 256 r.val l.val := by
  rw [after0_2, out0_2, View.canon_unit_zero hz]
  simp only [View.ld_unit_zero (S := S256x1024) hz, View.ld_unit_zero (S := S256x512) hz]
  exact point_val m c t r l

theorem result_val : (dats m 0 c).arrAt 2 cfg0.N = fun y => colCol (argH m c) (argD m c) 256 (y 0).val (y 1).val := by
  refine (dats m 0 c).arrAt_eq_of_covers 2 _ (by decide +kernel) fun t hf y => ?_
  blk_simp
  rw [idx0_2]
  obtain ⟨r, l, rfl⟩ : ∃ (r : Fin 1024) (l : Fin 512), y = (ix2 r l : S1024x512.Idx) := ⟨y 0, y 1, (ix2_eta (n0 := 1024) (n1 := 512) y).symm⟩
  exact (after_val m c t r l).trans (congrArg₂ (colCol (argH m c) (argD m c) 256) (show _ = 0 * 1024 + r.val by omega)
    (show _ = 0 * 512 + l.val by omega))

/-- The reference's result at an entry. -/
theorem reference_val (x : FVec Ideal S256x1024 .bf16) (d : FVec Ideal S256x512 .bf16) (y : S1024x512.Idx) :
    val_main_v5 (F := Ideal) x d y = colCol x d 256 (y 0).val (y 1).val := by
  unfold colCol
  rw [val_main_v5_apply, val_main_v4_apply, Finset.sum_range]
  refine Finset.sum_congr rfl fun k _ => ?_
  rw [mul_comm, val_main_v0_apply, val_main_v1_apply]
  exact congrArg₂ (· * ·) (at2_of x _ rfl rfl) (at2_of d _ rfl rfl)

theorem algebraic : Cert.algebraic_DwMemKvIdeal_DwMemKvReferenceIdeal := fun m g m' g' _ hargs => by
  refine ⟨fun c y => colCol (argH m c) (argD m c) 256 (y 0).val (y 1).val, ?_, ?_⟩
  · exact (θ_run Cert.DwMemKvIdeal.defs _ _).mono (fun r h c => ⟨(h c).1.trans (result_val m c), (h c).2⟩) (Cert.DwMemKvIdeal.Value.run_blocks (F := Ideal) m g)
  · refine (θ_run Cert.DwMemKvReferenceIdeal.defs _ _).mono (fun r h c => ⟨(h c).1.trans ?_, (h c).2⟩) (Cert.DwMemKvReferenceIdeal.Value.run (F := Ideal) m' g')
    rw [val_main_v5_eq, (hargs c).1, (hargs c).2]
    funext y
    exact reference_val _ _ y

end Cert.Proof.DwMemKv

end
-- ==== Proof.DMemh.lean ====
/-
  The gradient of the normed memory: a grid point computes all rows of 512 columns.
-/
module

public import proofs.«01_k».proof.Proof.Product
public import proofs.«01_k».proof.Proof.Gen.DMemhIdeal.Value
public import proofs.«01_k».proof.Proof.Gen.DMemhReferenceIdeal.Read
public import proofs.«01_k».proof.Defs
public import Idealize.ShloMosaic.Lib.Tactic

@[expose] public section

set_option maxRecDepth 16384

noncomputable section

namespace Cert.Proof.DMemh

open Cert.DMemhIdeal Cert.DMemhIdeal.Gen
open Idealize.ShloMosaic Idealize.SL.Sem
open Idealize.ShloMosaic.TcCoe
open Cert.DMemhReferenceIdeal.Read

theorem hz : (![0, 0] : Fin 2 → Nat) = fun _ => 0 := funext fun a => by fin_cases a <;> rfl

variable (m : (ℓ : Loc nD τ sig) → Buf (Elt Ideal) ℓ) (c : Dev nD)

/-- The call's arguments. -/
abbrev argD : FVec Ideal S256x512 .bf16 := m ((c : Thread nD τ).loc main_arg0)
abbrev argW : FVec Ideal S1024x512 .bf16 := m ((c : Thread nD τ).loc main_arg1)

theorem idx0_0 : ∀ t : Fin grid0.N, win0_0.index t = ![0, 0] := by decide +kernel
theorem idx0_1 : ∀ t : Fin grid0.N, win0_1.index t = ![t.val, 0] := by decide +kernel
theorem idx0_2 : ∀ t : Fin grid0.N, win0_2.index t = ![0, t.val] := by decide +kernel

theorem blockD (t : Fin cfg0.N) (r : Fin 256) (k : Fin 512) : iblk m c 0 t (ix2 r k) = at2 (argD m c) r.val k.val := by
  refine at2_of (argD m c) (((cfg0.win 0).blk t).view.emb (ix2 r k)) ?_ ?_
  · blk_simp [idx0_0 t]
  · blk_simp [idx0_0 t]

theorem blockW (t : Fin cfg0.N) (l : Fin 512) (k : Fin 512) : iblk m c 1 t (ix2 l k) = at2 (argW m c) (512 * t.val + l.val) k.val := by
  refine at2_of (argW m c) (((cfg0.win 1).blk t).view.emb (ix2 l k)) ?_ ?_
  · blk_simp [idx0_1 t]; omega
  · blk_simp [idx0_1 t]

theorem point_val (t : Fin cfg0.N) (r : Fin 256) (l : Fin 512) :
    k0_pay1 (iblk m c 0 t) (iblk m c 1 t) (ix2 r l) = rowRow (argD m c) (argW m c) 512 r.val (512 * t.val + l.val) := by
  unfold rowRow
  rw [Finset.sum_range]
  pointwise [k0_pay1]
  exact Finset.sum_congr rfl fun k _ => by rw [← blockD, ← blockW]

theorem after_val (t : Fin cfg0.N) (r : Fin 256) (l : Fin 512) :
    (dats m 0 c).after 2 t (ix2 r l) = rowRow (argD m c) (argW m c) 512 r.val (512 * t.val + l.val) := by
  rw [after0_2, out0_2, View.canon_unit_zero hz]
  simp only [View.ld_unit_zero (S := S256x512) hz, View.ld_unit_zero (S := S512x512) hz]
  exact point_val m c t r l

theorem result_val : (dats m 0 c).arrAt 2 cfg0.N = fun y => rowRow (argD m c) (argW m c) 512 (y 0).val (y 1).val := by
  refine (dats m 0 c).arrAt_eq_of_covers 2 _ (by decide +kernel) fun t hf y => ?_
  blk_simp
  rw [idx0_2]
  obtain ⟨r, l, rfl⟩ : ∃ (r : Fin 256) (l : Fin 512), y = (ix2 r l : S256x512.Idx) := ⟨y 0, y 1, (ix2_eta (n0 := 256) (n1 := 512) y).symm⟩
  exact (after_val m c t r l).trans (congrArg₂ (rowRow (argD m c) (argW m c) 512) (show _ = 0 * 256 + r.val by omega)
    (show _ = t.val * 512 + l.val by omega))

/-- The reference's result at an entry. -/
theorem reference_val (x : FVec Ideal S256x512 .bf16) (w : FVec Ideal S1024x512 .bf16) (y : S256x1024.Idx) :
    val_main_v4 (F := Ideal) x w y = rowRow x w 512 (y 0).val (y 1).val := by
  unfold rowRow
  rw [val_main_v4_apply, Finset.sum_range]
  refine Finset.sum_congr rfl fun k _ => ?_
  rw [val_main_v0_apply, val_main_v1_apply]
  exact congrArg₂ (· * ·) (at2_of x _ rfl rfl) (at2_of w _ rfl rfl)

theorem algebraic : Cert.algebraic_DMemhIdeal_DMemhReferenceIdeal := fun m g m' g' _ hargs => by
  refine ⟨fun c y => rowRow (argD m c) (argW m c) 512 (y 0).val (y 1).val, ?_, ?_⟩
  · exact (θ_run Cert.DMemhIdeal.defs _ _).mono (fun r h c => ⟨(h c).1.trans (result_val m c), (h c).2⟩) (Cert.DMemhIdeal.Value.run_blocks (F := Ideal) m g)
  · refine (θ_run Cert.DMemhReferenceIdeal.defs _ _).mono (fun r h c => ⟨(h c).1.trans ?_, (h c).2⟩) (Cert.DMemhReferenceIdeal.Value.run (F := Ideal) m' g')
    rw [val_main_v4_eq, (hargs c).1, (hargs c).2]
    funext y
    exact reference_val _ _ y

end Cert.Proof.DMemh

end
-- ==== Proof.Merge.lean ====
/-
  The mixing gate's weights and the merge of the three branches: a grid point computes 1024 rows.
-/
module

public import proofs.«01_k».proof.Proof.Gate
public import proofs.«01_k».proof.Proof.Gen.MergeIdeal.Value
public import proofs.«01_k».proof.Proof.Gen.MergeReferenceIdeal.Read
public import proofs.«01_k».proof.Defs
public import Idealize.ShloMosaic.Lib.Tactic

@[expose] public section

set_option maxRecDepth 16384

noncomputable section

namespace Cert.Proof.Merge

open Cert.MergeIdeal Cert.MergeIdeal.Gen
open Idealize.ShloMosaic Idealize.SL.Sem
open Idealize.ShloMosaic.TcCoe
open Cert.MergeReferenceIdeal.Read

theorem hz : (![0, 0] : Fin 2 → Nat) = fun _ => 0 := funext fun a => by fin_cases a <;> rfl

/-- One branch's share of an entry: its gate's weight times its output. -/
def share (l : FVec Ideal S16384x3072 .bf16) (b : FVec Ideal S1x3072 .f32) (y : FVec Ideal S16384x1024 .bf16) (n i j : ℕ) : EReal :=
  logistic (at2 l i (1024 * n + j) + at2 b 0 (1024 * n + j)) * at2 y i j

/-- One entry of the merge. -/
def merged (l : FVec Ideal S16384x3072 .bf16) (b : FVec Ideal S1x3072 .f32) (u v w : FVec Ideal S16384x1024 .bf16) (i j : ℕ) : EReal :=
  share l b u 0 i j + share l b v 1 i j + share l b w 2 i j

variable (m : (ℓ : Loc nD τ sig) → Buf (Elt Ideal) ℓ) (c : Dev nD)

/-- The call's arguments. -/
abbrev argL : FVec Ideal S16384x3072 .bf16 := m ((c : Thread nD τ).loc main_arg0)
abbrev argG : FVec Ideal S1x3072 .f32 := m ((c : Thread nD τ).loc main_arg1)
abbrev argA : FVec Ideal S16384x1024 .bf16 := m ((c : Thread nD τ).loc main_arg2)
abbrev argB : FVec Ideal S16384x1024 .bf16 := m ((c : Thread nD τ).loc main_arg3)
abbrev argC : FVec Ideal S16384x1024 .bf16 := m ((c : Thread nD τ).loc main_arg4)

theorem idx0_0 : ∀ t : Fin grid0.N, win0_0.index t = ![t.val, 0] := by decide +kernel
theorem idx0_1 : ∀ t : Fin grid0.N, win0_1.index t = ![t.val, 1] := by decide +kernel
theorem idx0_2 : ∀ t : Fin grid0.N, win0_2.index t = ![t.val, 2] := by decide +kernel
theorem idx0_3 : ∀ t : Fin grid0.N, win0_3.index t = ![0, 0] := by decide +kernel
theorem idx0_4 : ∀ t : Fin grid0.N, win0_4.index t = ![0, 1] := by decide +kernel
theorem idx0_5 : ∀ t : Fin grid0.N, win0_5.index t = ![0, 2] := by decide +kernel
theorem idx0_6 : ∀ t : Fin grid0.N, win0_6.index t = ![t.val, 0] := by decide +kernel
theorem idx0_7 : ∀ t : Fin grid0.N, win0_7.index t = ![t.val, 0] := by decide +kernel
theorem idx0_8 : ∀ t : Fin grid0.N, win0_8.index t = ![t.val, 0] := by decide +kernel
theorem idx0_9 : ∀ t : Fin grid0.N, win0_9.index t = ![t.val, 0] := by decide +kernel

theorem blockL0 (t : Fin cfg0.N) (r l : Fin 1024) : iblk m c 0 t (ix2 r l) = at2 (argL m c) (1024 * t.val + r.val) (1024 * 0 + l.val) := by
  refine at2_of (argL m c) (((cfg0.win 0).blk t).view.emb (ix2 r l)) ?_ ?_
  · blk_simp [idx0_0 t]; omega
  · blk_simp [idx0_0 t]; omega

theorem blockG0 (t : Fin cfg0.N) (l : Fin 1024) : iblk m c 3 t (ix2 (0 : Fin 1) l) = at2 (argG m c) 0 (1024 * 0 + l.val) := by
  refine at2_of (argG m c) (((cfg0.win 3).blk t).view.emb (ix2 (0 : Fin 1) l)) ?_ ?_
  · blk_simp [idx0_3 t]; rfl
  · blk_simp [idx0_3 t]; omega

theorem blockA (t : Fin cfg0.N) (r l : Fin 1024) : iblk m c 6 t (ix2 r l) = at2 (argA m c) (1024 * t.val + r.val) l.val := by
  refine at2_of (argA m c) (((cfg0.win 6).blk t).view.emb (ix2 r l)) ?_ ?_
  · blk_simp [idx0_6 t]; omega
  · blk_simp [idx0_6 t]

theorem blockL1 (t : Fin cfg0.N) (r l : Fin 1024) : iblk m c 1 t (ix2 r l) = at2 (argL m c) (1024 * t.val + r.val) (1024 * 1 + l.val) := by
  refine at2_of (argL m c) (((cfg0.win 1).blk t).view.emb (ix2 r l)) ?_ ?_
  · blk_simp [idx0_1 t]; omega
  · blk_simp [idx0_1 t]

theorem blockG1 (t : Fin cfg0.N) (l : Fin 1024) : iblk m c 4 t (ix2 (0 : Fin 1) l) = at2 (argG m c) 0 (1024 * 1 + l.val) := by
  refine at2_of (argG m c) (((cfg0.win 4).blk t).view.emb (ix2 (0 : Fin 1) l)) ?_ ?_
  · blk_simp [idx0_4 t]; rfl
  · blk_simp [idx0_4 t]

theorem blockB (t : Fin cfg0.N) (r l : Fin 1024) : iblk m c 7 t (ix2 r l) = at2 (argB m c) (1024 * t.val + r.val) l.val := by
  refine at2_of (argB m c) (((cfg0.win 7).blk t).view.emb (ix2 r l)) ?_ ?_
  · blk_simp [idx0_7 t]; omega
  · blk_simp [idx0_7 t]

theorem blockL2 (t : Fin cfg0.N) (r l : Fin 1024) : iblk m c 2 t (ix2 r l) = at2 (argL m c) (1024 * t.val + r.val) (1024 * 2 + l.val) := by
  refine at2_of (argL m c) (((cfg0.win 2).blk t).view.emb (ix2 r l)) ?_ ?_
  · blk_simp [idx0_2 t]; omega
  · blk_simp [idx0_2 t]

theorem blockG2 (t : Fin cfg0.N) (l : Fin 1024) : iblk m c 5 t (ix2 (0 : Fin 1) l) = at2 (argG m c) 0 (1024 * 2 + l.val) := by
  refine at2_of (argG m c) (((cfg0.win 5).blk t).view.emb (ix2 (0 : Fin 1) l)) ?_ ?_
  · blk_simp [idx0_5 t]; rfl
  · blk_simp [idx0_5 t]

theorem blockC (t : Fin cfg0.N) (r l : Fin 1024) : iblk m c 8 t (ix2 r l) = at2 (argC m c) (1024 * t.val + r.val) l.val := by
  refine at2_of (argC m c) (((cfg0.win 8).blk t).view.emb (ix2 r l)) ?_ ?_
  · blk_simp [idx0_8 t]; omega
  · blk_simp [idx0_8 t]

theorem point_row (l0 l1 l2 : Vec Ideal S1024x1024 .bf16) (b0 b1 b2 : Vec Ideal S1x1024 .f32) (u v w : Vec Ideal S1024x1024 .bf16) (r l : Fin 1024) :
    k0_pay1 (k0_pay2 l0 b0 u l1 b1 v) (k0_pay3 l2) b2 w (ix2 r l)
      = logistic (l0 (ix2 r l) + b0 (ix2 (0 : Fin 1) l)) * u (ix2 r l) + logistic (l1 (ix2 r l) + b1 (ix2 (0 : Fin 1) l)) * v (ix2 r l)
        + logistic (l2 (ix2 r l) + b2 (ix2 (0 : Fin 1) l)) * w (ix2 r l) := by
  unfold logistic
  pointwise [k0_pay1, k0_pay2, k0_pay3]
  simp only [zero_sub, zero_add]

theorem after_val (t : Fin cfg0.N) (r l : Fin 1024) :
    (dats m 0 c).after 9 t (ix2 r l)
      = merged (argL m c) (argG m c) (argA m c) (argB m c) (argC m c) (1024 * t.val + r.val) l.val := by
  rw [after0_9, out0_9, View.canon_unit_zero hz]
  simp only [View.ld_unit_zero (S := S1024x1024) hz, View.ld_unit_zero (S := S1x1024) hz]
  unfold merged share
  rw [← blockL0, ← blockL1, ← blockL2, ← blockG0 m c t, ← blockG1 m c t, ← blockG2 m c t, ← blockA, ← blockB, ← blockC]
  exact point_row _ _ _ _ _ _ _ _ _ r l

theorem result_val : (dats m 0 c).arrAt 9 cfg0.N
    = fun y => merged (argL m c) (argG m c) (argA m c) (argB m c) (argC m c) (y 0).val (y 1).val := by
  refine (dats m 0 c).arrAt_eq_of_covers 9 _ (by decide +kernel) fun t hf y => ?_
  blk_simp
  rw [idx0_9]
  obtain ⟨r, l, rfl⟩ : ∃ r l : Fin 1024, y = (ix2 r l : S1024x1024.Idx) := ⟨y 0, y 1, (ix2_eta (n0 := 1024) (n1 := 1024) y).symm⟩
  exact (after_val m c t r l).trans (congrArg₂ (merged (argL m c) (argG m c) (argA m c) (argB m c) (argC m c))
    (show _ = t.val * 1024 + r.val by omega) (show _ = 0 * 1024 + l.val by omega))

/-! ## The reference -/

section

variable (l : FVec Ideal S16384x3072 .bf16) (b : FVec Ideal S1x3072 .f32) (u v w : FVec Ideal S16384x1024 .bf16)

theorem reference_gate (y : S16384x3072.Idx) :
    val_main_v11 (F := Ideal) l b y = logistic (at2 l (y 0).val (y 1).val + at2 b 0 (y 1).val) := by
  rw [val_main_v11_apply, val_main_v10_apply, val_main_v9_apply, val_main_v8_apply, val_main_v7_apply, val_main_v6_apply, val_main_v5_apply,
    val_main_v4_apply, val_main_v0_apply, val_main_cst_apply, val_main_cst_0_apply, ← at2_of l y rfl rfl, ← at2_of b (idx_main_v4 y) rfl rfl]
  unfold logistic
  rw [← one_val]
  rfl

theorem reference_share (y : S16384x1024.Idx) (z : S16384x3072.Idx) (x : FVec Ideal S16384x1024 .bf16) (n : ℕ) (h0 : (z 0).val = (y 0).val)
    (h1 : (z 1).val = 1024 * n + (y 1).val) : val_main_v11 (F := Ideal) l b z * x y = share l b x n (y 0).val (y 1).val := by
  unfold share
  rw [reference_gate, h0, h1]
  exact congrArg (_ * ·) (at2_of x y rfl rfl)

theorem reference_val (y : S16384x1024.Idx) : val_main_v23 (F := Ideal) l b u v w y = merged l b u v w (y 0).val (y 1).val := by
  have y0 : (y 0).val < 16384 := (y 0).isLt
  have y1 : (y 1).val < 1024 := (y 1).isLt
  unfold merged
  rw [val_main_v23_apply, val_main_v19_apply, val_main_v22_apply, val_main_v15_apply, val_main_v18_apply, val_main_v14_apply, val_main_v13_apply,
    val_main_v17_apply, val_main_v16_apply, val_main_v21_apply, val_main_v20_apply, val_main_v12_apply, val_main_v12_apply, val_main_v12_apply,
    val_main_v1_apply, val_main_v2_apply, val_main_v3_apply]
  refine congrArg₂ (· + ·) (congrArg₂ (· + ·) (reference_share l b y _ u 0 ?_ ?_) (reference_share l b y _ v 1 ?_ ?_)) (reference_share l b y _ w 2 ?_ ?_)
  all_goals
    dsimp
    omega

end

theorem algebraic : Cert.algebraic_MergeIdeal_MergeReferenceIdeal := fun m g m' g' _ hargs => by
  refine ⟨fun c y => merged (argL m c) (argG m c) (argA m c) (argB m c) (argC m c) (y 0).val (y 1).val, ?_, ?_⟩
  · exact (θ_run Cert.MergeIdeal.defs _ _).mono (fun r h c => ⟨(h c).1.trans (result_val m c), (h c).2⟩) (Cert.MergeIdeal.Value.run_blocks (F := Ideal) m g)
  · refine (θ_run Cert.MergeReferenceIdeal.defs _ _).mono (fun r h c => ⟨(h c).1.trans ?_, (h c).2⟩) (Cert.MergeReferenceIdeal.Value.run (F := Ideal) m' g')
    rw [val_main_v24_eq, (hargs c).1, (hargs c).2.1, (hargs c).2.2.1, (hargs c).2.2.2.1, (hargs c).2.2.2.2]
    funext y
    exact reference_val _ _ _ _ _ y

end Cert.Proof.Merge

end
-- ==== Proof.Mem.lean ====
/-
  The attention over the memory: a grid point computes 2048 rows of a pair of heads, stacked, each with the other head's lanes zero.
-/
module

public import proofs.«01_k».proof.Proof.Masks
public import proofs.«01_k».proof.Proof.Entries
public import proofs.«01_k».proof.Proof.Gen.MemIdeal.Value
public import proofs.«01_k».proof.Proof.Gen.MemReferenceIdeal.Read
public import proofs.«01_k».proof.Defs
public import Idealize.ShloMosaic.Lib.KernelVsHost
public import Idealize.ShloMosaic.Lib.Tactic

@[expose] public section

set_option maxRecDepth 16384

noncomputable section

namespace Cert.Proof.Mem

open Cert.MemIdeal Cert.MemIdeal.Gen
open Idealize.ShloMosaic Idealize.SL.Sem Idealize.ShloMosaic.WordCmp
open Idealize.ShloMosaic.TcCoe
open Cert.MemReferenceIdeal.Read

theorem hz : (![0, 0] : Fin 2 → Nat) = fun _ => 0 := funext fun a => by fin_cases a <;> rfl

/-! ## The value -/

/-- The scale of the scores. -/
abbrev eighth : EReal := (FloatOps.ofBits .f32 0x3E000000#32 : Ideal .f32)

/-- Where a row's maximum starts. -/
abbrev lowest : EReal := (FloatOps.ofBits .f32 0xFF800000#32 : Ideal .f32)

/-- The maximum of a row of scores. -/
def top (s : ℕ → EReal) : EReal := (Finset.univ : Finset (Fin 256)).fold max lowest fun j => s j.val

/-- The weight of memory row `j` in a row of scores. -/
def weight (s : ℕ → EReal) (j : ℕ) : EReal := Ideal.div (Ideal.exp (s j - top s)) (∑ i ∈ Finset.range 256, Ideal.exp (s i - top s))

/-- The score of memory row `j` for token `i` under head `h`. -/
def score (q : FVec Ideal S16384x256 .bf16) (k : FVec Ideal S256x256 .bf16) (h i j : ℕ) : EReal :=
  (∑ l ∈ Finset.range 64, at2 q i (64 * h + l) * at2 k j (64 * h + l)) * eighth

/-- One entry of the attention; the values are the second half of the projection's columns. -/
def attended (q : FVec Ideal S16384x256 .bf16) (k : FVec Ideal S256x256 .bf16) (v : FVec Ideal S256x512 .bf16) (i n : ℕ) : EReal :=
  ∑ j ∈ Finset.range 256, weight (score q k (n / 64) i) j * at2 v j (256 + n)

/-! ## The kernel -/

/-- The lanes of the pair's first head. -/
def firstHead : IVec S2048x128 1 := cmpi .slt (iota .tc S2048x128 32 [1] iota_S2048x128_d1_w32) (broadcast S2048x128 64#32)

/-- The two heads' rows, stacked. -/
def stack (x : Vec Ideal S2048x128 .bf16) : FVec Ideal S4096x128 .bf16 :=
  concatenate S4096x128 0 [⟨S2048x128, select firstHead x (broadcast S2048x128 (Scalar.ofBits .bf16 0x0000#16 : Ideal .bf16))⟩,
    ⟨S2048x128, select firstHead (broadcast S2048x128 (Scalar.ofBits .bf16 0x0000#16 : Ideal .bf16)) x⟩] concatenates_S2048x128_S2048x128_S4096x128_d0

/-- The scores of the stacked rows. -/
def scores (x : FVec Ideal S4096x128 .bf16) (k : FVec Ideal S256x128 .bf16) : FVec Ideal S4096x256 .f32 :=
  mulf (matmul dot_S4096x128_S256x128_S4096x256_1_1_0_0_n_n none x k (constant S4096x256 .f32 0x00000000#32))
    (broadcast S4096x256 (Scalar.ofBits .f32 0x3E000000#32 : Ideal .f32))

/-- The rows' maxima. -/
def tops (s : FVec Ideal S4096x256 .f32) : FVec Ideal S4096 .f32 :=
  multiReduction .maximumf [1] S4096 s 0xFF800000#32 reduces_S4096x256_S4096 (.inl rfl) rfl

/-- The exponentials of a row's scores less their maximum. -/
def powers (s : FVec Ideal S4096x256 .f32) (u : FVec Ideal S4096 .f32) : FVec Ideal S4096x256 .f32 :=
  exp (subf s (broadcastTo S4096x256 (shapeCast S4096x1 u shapeCasts_S4096_S4096x1) broadcasts_S4096x1_S4096x256))

/-- The rows' weights. -/
def weights (p : FVec Ideal S4096x256 .f32) : FVec Ideal S4096x256 .f32 :=
  divf p (broadcastTo S4096x256 (shapeCast S4096x1 (multiReduction .add [1] S4096 p 0x00000000#32 reduces_S4096x256_S4096 (.inl rfl) rfl)
    shapeCasts_S4096_S4096x1) broadcasts_S4096x1_S4096x256)

/-- The stacked rows' results, before each lane takes its head's. -/
def mixed (w : FVec Ideal S4096x256 .f32) (v : FVec Ideal S256x128 .bf16) : FVec Ideal S4096x128 .f32 :=
  matmul dot_S4096x256_S256x128_S4096x128_1_0_0_1_n_n none (truncf .bf16 w bitsLt_bf16_f32) v (constant S4096x128 .f32 0x00000000#32)

/-- Each lane from its head's row. -/
def unstack (x : FVec Ideal S4096x128 .f32) : FVec Ideal S2048x128 .f32 :=
  select firstHead (extractStridedSlice S2048x128 ![0, 0] x slices_S4096x128_o0_0_S2048x128)
    (extractStridedSlice S2048x128 ![2048, 0] x slices_S4096x128_o2048_0_S2048x128)

theorem pay_eq (q : Vec Ideal S2048x128 .bf16) (k v : Vec Ideal S256x128 .bf16) :
    k0_pay1 q k v = unstack (mixed (weights (powers (scores (stack q) k) (tops (scores (stack q) k)))) v) := rfl

theorem firstHead_val (r : Fin 2048) (l : Fin 128) : firstHead (ix2 r l) = BitVec.ofBool (decide (l.val < 64)) := by
  have e : firstHead (ix2 r l) = IntOp.cmpi .slt (BitVec.ofNat 32 l.val) 64#32 := by pointwise [firstHead]
  rw [e, show (64#32 : BitVec 32) = BitVec.ofNat 32 64 from rfl, cmpi_slt_ofNat (by omega) (by omega)]

theorem stack_val (x : Vec Ideal S2048x128 .bf16) (ρ : Fin 4096) (l : Fin 128) :
    stack x (ix2 ρ l) = if l.val / 64 = ρ.val / 2048 then x (ix2 ⟨ρ.val % 2048, Nat.mod_lt _ (by decide)⟩ l) else 0 := by
  have e : stack x (ix2 ρ l) = if h : ρ.val < 2048
      then Scalar.select (firstHead (ix2 (⟨ρ.val, h⟩ : Fin 2048) l)) (x (ix2 ⟨ρ.val, h⟩ l)) 0
      else Scalar.select (firstHead (ix2 (⟨ρ.val - 2048, by omega⟩ : Fin 2048) l)) 0 (x (ix2 ⟨ρ.val - 2048, by omega⟩ l)) := by
    pointwise [stack]
  rw [e]
  split
  · next h =>
    rw [firstHead_val, select_ofBool, Fin.ext (a := ⟨ρ.val, h⟩) (b := ⟨ρ.val % 2048, Nat.mod_lt _ (by decide)⟩) (by show ρ.val = ρ.val % 2048; omega)]
    by_cases g : l.val < 64
    · rw [if_pos g, if_pos (by omega)]
    · rw [if_neg g, if_neg (by omega)]
  · next h =>
    rw [firstHead_val, select_ofBool, Fin.ext (a := ⟨ρ.val - 2048, by omega⟩) (b := ⟨ρ.val % 2048, Nat.mod_lt _ (by decide)⟩) (by show ρ.val - 2048 = ρ.val % 2048; omega)]
    by_cases g : l.val < 64
    · rw [if_pos g, if_neg (by omega)]
    · rw [if_neg g, if_pos (by omega)]

theorem unstack_val (x : FVec Ideal S4096x128 .f32) (r : Fin 2048) (l : Fin 128) :
    unstack x (ix2 r l) = x (ix2 ⟨2048 * (l.val / 64) + r.val, by omega⟩ l) := by
  have e : unstack x (ix2 r l) = Scalar.select (firstHead (ix2 r l)) (x (ix2 ⟨r.val, by omega⟩ l)) (x (ix2 ⟨2048 + r.val, by omega⟩ l)) := by
    pointwise [unstack]
  rw [e, firstHead_val, select_ofBool]
  split
  · congr 2; apply Fin.ext; show r.val = 2048 * (l.val / 64) + r.val; omega
  · congr 2; apply Fin.ext; show 2048 + r.val = 2048 * (l.val / 64) + r.val; omega

theorem scores_val (x : FVec Ideal S4096x128 .bf16) (k : Vec Ideal S256x128 .bf16) (ρ : Fin 4096) (j : Fin 256) :
    scores x k (ix2 ρ j) = (∑ l : Fin 128, x (ix2 ρ l) * k (ix2 j l)) * eighth := by
  pointwise [scores]

theorem tops_val (s : FVec Ideal S4096x256 .f32) (ρ : Fin 4096) :
    tops s (ix1 ρ) = (Finset.univ : Finset (Fin 256)).fold max lowest fun j => s (ix2 ρ j) := by
  refine (Ideal.multiReduction_maximumf_single s _ reduces_S4096x256_S4096 (.inl rfl) rfl (ix1 ρ)).trans ?_
  refine congrArg (Finset.fold max lowest · _) (funext fun j => congrArg s (funext fun a => Fin.ext ?_))
  match a with
  | ⟨0, _⟩ => rfl
  | ⟨1, _⟩ => rfl

theorem powers_val (s : FVec Ideal S4096x256 .f32) (u : FVec Ideal S4096 .f32) (ρ : Fin 4096) (j : Fin 256) :
    powers s u (ix2 ρ j) = Ideal.exp (s (ix2 ρ j) - u (ix1 ρ)) := by
  pointwise [powers]

theorem weights_val (p : FVec Ideal S4096x256 .f32) (ρ : Fin 4096) (j : Fin 256) :
    weights p (ix2 ρ j) = Ideal.div (p (ix2 ρ j)) (∑ i : Fin 256, p (ix2 ρ i)) := by
  pointwise [weights]

theorem mixed_val (w : FVec Ideal S4096x256 .f32) (v : Vec Ideal S256x128 .bf16) (ρ : Fin 4096) (l : Fin 128) :
    mixed w v (ix2 ρ l) = ∑ j : Fin 256, w (ix2 ρ j) * v (ix2 j l) := by
  pointwise [mixed]

/-- A sum over a pair's lanes with the other head's zero is the sum over the head's lanes. -/
theorem sum_lanes (X Y : ℕ → EReal) (a : ℕ) (ha : a < 2) :
    ∑ l : Fin 128, (if l.val / 64 = a then X l.val else 0) * Y l.val = ∑ l ∈ Finset.range 64, X (64 * a + l) * Y (64 * a + l) := by
  rw [← Finset.sum_range (f := fun l => (if l / 64 = a then X l else 0) * Y l), show 128 = 64 + 64 from rfl, Finset.sum_range_add]
  obtain rfl | rfl : a = 0 ∨ a = 1 := by omega
  · refine (congrArg₂ (· + ·) (Finset.sum_congr rfl fun l hl => ?_) (Finset.sum_eq_zero fun l hl => ?_)).trans (add_zero _)
    · have := Finset.mem_range.mp hl
      rw [if_pos (by omega), Nat.mul_zero, Nat.zero_add]
    · rw [if_neg (by omega), zero_mul]
  · refine (congrArg₂ (· + ·) (Finset.sum_eq_zero fun l hl => ?_) (Finset.sum_congr rfl fun l hl => ?_)).trans (zero_add _)
    · have := Finset.mem_range.mp hl
      rw [if_neg (by omega), zero_mul]
    · have := Finset.mem_range.mp hl
      rw [if_pos (by omega)]

theorem weights_row (s : FVec Ideal S4096x256 .f32) (S : ℕ → EReal) (ρ : Fin 4096) (h : ∀ j : Fin 256, s (ix2 ρ j) = S j.val) (j : Fin 256) :
    weights (powers s (tops s)) (ix2 ρ j) = weight S j.val := by
  unfold weight top
  rw [weights_val, Finset.sum_range]
  simp only [powers_val, tops_val, h]

theorem point_row (q : Vec Ideal S2048x128 .bf16) (k v : Vec Ideal S256x128 .bf16) (r : Fin 2048) (l : Fin 128) (Q : ℕ → EReal) (K V : ℕ → ℕ → EReal)
    (hq : ∀ n : Fin 128, q (ix2 r n) = Q n.val) (hk : ∀ (j : Fin 256) (n : Fin 128), k (ix2 j n) = K j.val n.val)
    (hv : ∀ j : Fin 256, v (ix2 j l) = V j.val l.val) :
    k0_pay1 q k v (ix2 r l) = ∑ j ∈ Finset.range 256, weight (fun i => (∑ n ∈ Finset.range 64, Q (64 * (l.val / 64) + n) * K i (64 * (l.val / 64) + n)) * eighth) j * V j l.val := by
  have hl := l.isLt
  have hr := r.isLt
  rw [pay_eq, unstack_val, mixed_val, Finset.sum_range]
  refine Finset.sum_congr rfl fun j _ => ?_
  rw [hv]
  refine congrArg (· * _) (weights_row _ (fun i => (∑ n ∈ Finset.range 64, Q (64 * (l.val / 64) + n) * K i (64 * (l.val / 64) + n)) * eighth) _ (fun i => ?_) j)
  rw [scores_val, ← sum_lanes Q (K i.val) (l.val / 64) (by omega)]
  refine congrArg (· * eighth) (Finset.sum_congr rfl fun n _ => ?_)
  rw [stack_val, hk, ← hq]
  have e1 : (2048 * (l.val / 64) + r.val) / 2048 = l.val / 64 := by omega
  have e2 : (2048 * (l.val / 64) + r.val) % 2048 = r.val := by omega
  simp only [e1, e2]

variable (m : (ℓ : Loc nD τ sig) → Buf (Elt Ideal) ℓ) (c : Dev nD)

/-- The call's arguments. -/
abbrev argQ : FVec Ideal S16384x256 .bf16 := m ((c : Thread nD τ).loc main_arg0)
abbrev argK : FVec Ideal S256x256 .bf16 := m ((c : Thread nD τ).loc main_arg1)
abbrev argV : FVec Ideal S256x512 .bf16 := m ((c : Thread nD τ).loc main_arg2)

theorem idx0_0 : ∀ t : Fin grid0.N, win0_0.index t = ![t.val % 8, t.val / 8] := by decide +kernel
theorem idx0_1 : ∀ t : Fin grid0.N, win0_1.index t = ![0, t.val / 8] := by decide +kernel
theorem idx0_2 : ∀ t : Fin grid0.N, win0_2.index t = ![0, 2 + t.val / 8] := by decide +kernel
theorem idx0_3 : ∀ t : Fin grid0.N, win0_3.index t = ![t.val % 8, t.val / 8] := by decide +kernel

theorem blockQ (t : Fin cfg0.N) (r : Fin 2048) (n : Fin 128) :
    iblk m c 0 t (ix2 r n) = at2 (argQ m c) (2048 * (t.val % 8) + r.val) (128 * (t.val / 8) + n.val) := by
  refine at2_of (argQ m c) (((cfg0.win 0).blk t).view.emb (ix2 r n)) ?_ ?_
  · blk_simp [idx0_0 t]; omega
  · blk_simp [idx0_0 t]; omega

theorem blockK (t : Fin cfg0.N) (j : Fin 256) (n : Fin 128) : iblk m c 1 t (ix2 j n) = at2 (argK m c) j.val (128 * (t.val / 8) + n.val) := by
  refine at2_of (argK m c) (((cfg0.win 1).blk t).view.emb (ix2 j n)) ?_ ?_
  · blk_simp [idx0_1 t]
  · blk_simp [idx0_1 t]; omega

theorem blockV (t : Fin cfg0.N) (j : Fin 256) (n : Fin 128) : iblk m c 2 t (ix2 j n) = at2 (argV m c) j.val (256 + (128 * (t.val / 8) + n.val)) := by
  refine at2_of (argV m c) (((cfg0.win 2).blk t).view.emb (ix2 j n)) ?_ ?_
  · blk_simp [idx0_2 t]
  · blk_simp [idx0_2 t]; omega

theorem attended_block (q : FVec Ideal S16384x256 .bf16) (k : FVec Ideal S256x256 .bf16) (v : FVec Ideal S256x512 .bf16) (i a l : ℕ) (hl : l < 128) :
    ∑ j ∈ Finset.range 256, weight (fun i' => (∑ n ∈ Finset.range 64, at2 q i (128 * a + (64 * (l / 64) + n)) * at2 k i' (128 * a + (64 * (l / 64) + n))) * eighth) j
        * at2 v j (256 + (128 * a + l)) = attended q k v i (128 * a + l) := by
  unfold attended
  refine Finset.sum_congr rfl fun j _ => congrArg (fun s => weight s j * _) (funext fun i' => ?_)
  unfold score
  refine congrArg (· * eighth) (Finset.sum_congr rfl fun n _ => ?_)
  have e : 128 * a + (64 * (l / 64) + n) = 64 * ((128 * a + l) / 64) + n := by omega
  rw [e]

theorem after_val (t : Fin cfg0.N) (r : Fin 2048) (l : Fin 128) :
    (dats m 0 c).after 3 t (ix2 r l)
      = attended (argQ m c) (argK m c) (argV m c) (2048 * (t.val % 8) + r.val) (128 * (t.val / 8) + l.val) := by
  rw [after0_3, out0_3, View.canon_unit_zero hz]
  simp only [View.ld_unit_zero (S := S2048x128) hz, View.ld_unit_zero (S := S256x128) hz]
  exact (point_row _ _ _ r l (fun n => at2 (argQ m c) (2048 * (t.val % 8) + r.val) (128 * (t.val / 8) + n)) (fun j n => at2 (argK m c) j (128 * (t.val / 8) + n))
    (fun j n => at2 (argV m c) j (256 + (128 * (t.val / 8) + n))) (fun n => blockQ m c t r n) (fun j n => blockK m c t j n)
    (fun j => blockV m c t j l)).trans (attended_block _ _ _ _ _ _ l.isLt)

theorem result_val : (dats m 0 c).arrAt 3 cfg0.N = fun y => attended (argQ m c) (argK m c) (argV m c) (y 0).val (y 1).val := by
  refine (dats m 0 c).arrAt_eq_of_covers 3 _ (by decide +kernel) fun t hf y => ?_
  blk_simp
  rw [idx0_3]
  obtain ⟨r, l, rfl⟩ : ∃ (r : Fin 2048) (l : Fin 128), y = (ix2 r l : S2048x128.Idx) := ⟨y 0, y 1, (ix2_eta (n0 := 2048) (n1 := 128) y).symm⟩
  exact (after_val m c t r l).trans (congrArg₂ (attended (argQ m c) (argK m c) (argV m c)) (show _ = t.val % 8 * 2048 + r.val by omega)
    (show _ = t.val / 8 * 128 + l.val by omega))

/-! ## The reference -/

section

variable (q : FVec Ideal S16384x256 .bf16) (k : FVec Ideal S256x256 .bf16) (v : FVec Ideal S256x512 .bf16)

theorem reference_score (y : Cert.MemReferenceIdeal.S4x16384x256.Idx) :
    val_main_v9 (F := Ideal) q k y = score q k (y 0).val (y 1).val (y 2).val := by
  have h0 : (y 0).val < 4 := (y 0).isLt
  unfold score
  rw [val_main_v9_apply, val_main_v7_apply, val_main_v8_apply, val_main_cst_apply, Finset.sum_range]
  refine congrArg (· * eighth) (Finset.sum_congr rfl fun l _ => ?_)
  have hl := l.isLt
  rw [val_main_v4_apply, val_main_v3_apply, val_main_v0_apply, val_main_v6_apply, val_main_v5_apply, val_main_v1_apply]
  refine congrArg₂ (· * ·) (at2_of q _ ?_ ?_) (at2_of k _ ?_ ?_)
  all_goals
    dsimp
    omega

theorem rows : Cert.MemReferenceIdeal.S4x16384x256.Reduces [2] Cert.MemReferenceIdeal.S4x16384 := by decide

theorem reduce_top (x : FVec Ideal Cert.MemReferenceIdeal.S4x16384x256 .f32) (y : Cert.MemReferenceIdeal.S4x16384.Idx) :
    Host.reduce FloatOps.maximumf x (constant (F := Ideal) Cert.MemReferenceIdeal.S_ .f32 0xFF800000#32)
      Cert.MemReferenceIdeal.Gen.reducesTo_S4x16384x256_S4x16384_d2 Cert.MemReferenceIdeal.Gen.h_S_ y
      = (Finset.univ : Finset (Fin 256)).fold max lowest fun j => x (rows.lift y j) :=
  (congrFun (hostReduce_maximumf_eq_multiReduction (F := Ideal) x _ Cert.MemReferenceIdeal.Gen.reducesTo_S4x16384x256_S4x16384_d2
    Cert.MemReferenceIdeal.Gen.h_S_ rows (.inl rfl) rfl) y).trans (Ideal.multiReduction_maximumf_single x _ rows (.inl rfl) rfl y)

theorem reference_top (y : Cert.MemReferenceIdeal.S4x16384.Idx) : val_main_v12 (F := Ideal) q k y = top (score q k (y 0).val (y 1).val) := by
  have e : val_main_v10 (F := Ideal) q k y = top (score q k (y 0).val (y 1).val) := by
    refine (reduce_top (val_main_v9 (F := Ideal) q k) y).trans ?_
    refine congrArg (Finset.fold max lowest · _) (funext fun j => ?_)
    exact reference_score q k _
  rw [val_main_v12_apply, e, val_main_v11_apply, val_main_cst_1_apply]
  exact max_eq_right ((Finset.le_fold_max _).mpr (.inl le_rfl))

theorem reference_power (y : Cert.MemReferenceIdeal.S4x16384x256.Idx) :
    val_main_v16 (F := Ideal) q k y = Ideal.exp (score q k (y 0).val (y 1).val (y 2).val - top (score q k (y 0).val (y 1).val)) := by
  rw [val_main_v16_apply, val_main_v15_apply, val_main_v14_apply, val_main_v13_apply, reference_top, reference_score]
  rfl

theorem reference_weight (y : Cert.MemReferenceIdeal.S4x16384x256.Idx) :
    val_main_v20 (F := Ideal) q k y = weight (score q k (y 0).val (y 1).val) (y 2).val := by
  unfold weight
  rw [val_main_v20_apply, val_main_v19_apply, val_main_v18_apply, val_main_v17_apply, reference_power, val_main_cst_2_apply, Finset.sum_range]
  refine congrArg (Ideal.div _) ((congrArg (· + _) (by exact Ideal.ofBits_zero_f32)).trans ((zero_add _).trans (Finset.sum_congr rfl fun j _ => ?_)))
  exact reference_power q k _

theorem reference_val (y : S16384x256.Idx) : val_main_v26 (F := Ideal) q k v y = attended q k v (y 0).val (y 1).val := by
  have h0 : (y 0).val < 16384 := (y 0).isLt
  have h1 : (y 1).val < 256 := (y 1).isLt
  unfold attended
  rw [val_main_v26_apply, val_main_v25_apply, val_main_v24_apply, Finset.sum_range]
  refine Finset.sum_congr rfl fun j _ => ?_
  have hj := j.isLt
  rw [val_main_v23_apply, val_main_v22_apply, val_main_v21_apply, val_main_v2_apply, reference_weight]
  refine congrArg₂ (· * ·) ?_ (at2_of v _ ?_ ?_)
  · have e1 : ((y 0).val * 256 + (y 1).val) / 64 % 4 = (y 1).val / 64 := by omega
    have e2 : ((y 0).val * 256 + (y 1).val) / 256 = (y 0).val := by omega
    dsimp
    rw [e1, e2]
  all_goals
    dsimp
    omega

end

theorem algebraic : Cert.algebraic_MemIdeal_MemReferenceIdeal := fun m g m' g' _ hargs => by
  refine ⟨fun c y => attended (argQ m c) (argK m c) (argV m c) (y 0).val (y 1).val, ?_, ?_⟩
  · exact (θ_run Cert.MemIdeal.defs _ _).mono (fun r h c => ⟨(h c).1.trans (result_val m c), (h c).2⟩) (Cert.MemIdeal.Value.run_blocks (F := Ideal) m g)
  · refine (θ_run Cert.MemReferenceIdeal.defs _ _).mono (fun r h c => ⟨(h c).1.trans ?_, (h c).2⟩) (Cert.MemReferenceIdeal.Value.run (F := Ideal) m' g')
    rw [val_main_v26_eq, (hargs c).1, (hargs c).2.1, (hargs c).2.2]
    funext y
    exact reference_val _ _ _ y

end Cert.Proof.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import proofs.«01_k».proof.Proof.FfnFrames
public import proofs.«01_k».proof.Proof.DactAlgebraic
public import proofs.«01_k».proof.Proof.DwAlgebraic
public import proofs.«01_k».proof.Proof.Dw2Algebraic
public import proofs.«01_k».proof.Proof.UpAlgebraic
public import proofs.«01_k».proof.Proof.DhAlgebraic
public import proofs.«01_k».proof.Proof.MixFrames
public import proofs.«01_k».proof.Proof.Down
public import proofs.«01_k».proof.Proof.InProj
public import proofs.«01_k».proof.Proof.GateProj
public import proofs.«01_k».proof.Proof.DwIn
public import proofs.«01_k».proof.Proof.DwGate
public import proofs.«01_k».proof.Proof.DhIn
public import proofs.«01_k».proof.Proof.Loss
public import proofs.«01_k».proof.Proof.DhGate
public import proofs.«01_k».proof.Proof.OutFrames
public import proofs.«01_k».proof.Proof.OutProj
public import proofs.«01_k».proof.Proof.DwOut
public import proofs.«01_k».proof.Proof.DMerged
public import proofs.«01_k».proof.Proof.SbOut
public import proofs.«01_k».proof.Proof.DwSb
public import proofs.«01_k».proof.Proof.DOa
public import proofs.«01_k».proof.Proof.DsaOut
public import proofs.«01_k».proof.Proof.DwDsa
public import proofs.«01_k».proof.Proof.DOb
public import proofs.«01_k».proof.Proof.DOc
public import proofs.«01_k».proof.Proof.MemFrames
public import proofs.«01_k».proof.Proof.Rms
public import proofs.«01_k».proof.Proof.MemRms
public import proofs.«01_k».proof.Proof.MemKv
public import proofs.«01_k».proof.Proof.DwMemKv
public import proofs.«01_k».proof.Proof.DMemh
public import proofs.«01_k».proof.Proof.Merge
public import proofs.«01_k».proof.Proof.Mem
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Dact.Gen.facts, Cert.DactIdeal.Gen.facts, Cert.DactReferenceIdeal.Gen.facts, Cert.Dw.Gen.facts, Cert.DwIdeal.Gen.facts,
  Cert.DwReferenceIdeal.Gen.facts, Cert.Dw2.Gen.facts, Cert.Dw2Ideal.Gen.facts, Cert.Dw2ReferenceIdeal.Gen.facts,
  Cert.Up.Gen.facts, Cert.UpIdeal.Gen.facts, Cert.UpReferenceIdeal.Gen.facts, Cert.Dh.Gen.facts, Cert.DhIdeal.Gen.facts,
  Cert.DhReferenceIdeal.Gen.facts,
  Cert.Down.Gen.facts, Cert.DownIdeal.Gen.facts, Cert.DownReferenceIdeal.Gen.facts,
  Cert.InProj.Gen.facts, Cert.InProjIdeal.Gen.facts, Cert.InProjReferenceIdeal.Gen.facts,
  Cert.GateProj.Gen.facts, Cert.GateProjIdeal.Gen.facts, Cert.GateProjReferenceIdeal.Gen.facts,
  Cert.DwIn.Gen.facts, Cert.DwInIdeal.Gen.facts, Cert.DwInReferenceIdeal.Gen.facts,
  Cert.DwGate.Gen.facts, Cert.DwGateIdeal.Gen.facts, Cert.DwGateReferenceIdeal.Gen.facts,
  Cert.DhIn.Gen.facts, Cert.DhInIdeal.Gen.facts, Cert.DhInReferenceIdeal.Gen.facts,
  Cert.Loss.Gen.facts, Cert.LossIdeal.Gen.facts, Cert.LossReferenceIdeal.Gen.facts,
  Cert.DhGate.Gen.facts, Cert.DhGateIdeal.Gen.facts, Cert.DhGateReferenceIdeal.Gen.facts,
  Cert.OutProj.Gen.facts, Cert.OutProjIdeal.Gen.facts, Cert.OutProjReferenceIdeal.Gen.facts,
  Cert.DwOut.Gen.facts, Cert.DwOutIdeal.Gen.facts, Cert.DwOutReferenceIdeal.Gen.facts,
  Cert.DMerged.Gen.facts, Cert.DMergedIdeal.Gen.facts, Cert.DMergedReferenceIdeal.Gen.facts,
  Cert.SbOut.Gen.facts, Cert.SbOutIdeal.Gen.facts, Cert.SbOutReferenceIdeal.Gen.facts,
  Cert.DwSb.Gen.facts, Cert.DwSbIdeal.Gen.facts, Cert.DwSbReferenceIdeal.Gen.facts,
  Cert.DOa.Gen.facts, Cert.DOaIdeal.Gen.facts, Cert.DOaReferenceIdeal.Gen.facts,
  Cert.DsaOut.Gen.facts, Cert.DsaOutIdeal.Gen.facts, Cert.DsaOutReferenceIdeal.Gen.facts,
  Cert.DwDsa.Gen.facts, Cert.DwDsaIdeal.Gen.facts, Cert.DwDsaReferenceIdeal.Gen.facts,
  Cert.DOb.Gen.facts, Cert.DObIdeal.Gen.facts, Cert.DObReferenceIdeal.Gen.facts,
  Cert.DOc.Gen.facts, Cert.DOcIdeal.Gen.facts, Cert.DOcReferenceIdeal.Gen.facts,
  Cert.Rms.Gen.facts, Cert.RmsIdeal.Gen.facts, Cert.RmsReferenceIdeal.Gen.facts,
  Cert.MemRms.Gen.facts, Cert.MemRmsIdeal.Gen.facts, Cert.MemRmsReferenceIdeal.Gen.facts,
  Cert.MemKv.Gen.facts, Cert.MemKvIdeal.Gen.facts, Cert.MemKvReferenceIdeal.Gen.facts,
  Cert.DwMemKv.Gen.facts, Cert.DwMemKvIdeal.Gen.facts, Cert.DwMemKvReferenceIdeal.Gen.facts,
  Cert.DMemh.Gen.facts, Cert.DMemhIdeal.Gen.facts, Cert.DMemhReferenceIdeal.Gen.facts,
  Cert.Merge.Gen.facts, Cert.MergeIdeal.Gen.facts, Cert.MergeReferenceIdeal.Gen.facts,
  Cert.Mem.Gen.facts, Cert.MemIdeal.Gen.facts, Cert.MemReferenceIdeal.Gen.facts,
  Cert.Pre_finite.Gen.facts, Cert.Pre_finite_gate.Gen.facts,
  frame_kernel, frame_ideal, frame_ideal_finite, frame_reference, frame_reference_finite,
  dact_frame, dact_frame_ideal, dact_frame_finite, dact_frame_reference, dact_frame_reference_finite,
  dw_frame, dw_frame_ideal, dw_frame_reference, dw2_frame, dw2_frame_ideal, dw2_frame_reference,
  up_frame, up_frame_ideal, up_frame_reference, dh_frame, dh_frame_ideal, dh_frame_reference,
  down_frame, down_frame_ideal, down_frame_reference,
  in_proj_frame, in_proj_frame_ideal, in_proj_frame_reference,
  gate_proj_frame, gate_proj_frame_ideal, gate_proj_frame_reference,
  dw_in_frame, dw_in_frame_ideal, dw_in_frame_reference,
  dw_gate_frame, dw_gate_frame_ideal, dw_gate_frame_reference,
  dh_in_frame, dh_in_frame_ideal, dh_in_frame_reference,
  loss_frame, loss_frame_ideal, loss_frame_reference,
  dh_gate_frame, dh_gate_frame_ideal, dh_gate_frame_reference,
  out_proj_frame, out_proj_frame_ideal, out_proj_frame_reference,
  dw_out_frame, dw_out_frame_ideal, dw_out_frame_reference,
  d_merged_frame, d_merged_frame_ideal, d_merged_frame_reference,
  sb_out_frame, sb_out_frame_ideal, sb_out_frame_reference,
  dw_sb_frame, dw_sb_frame_ideal, dw_sb_frame_reference,
  d_oa_frame, d_oa_frame_ideal, d_oa_frame_reference,
  dsa_out_frame, dsa_out_frame_ideal, dsa_out_frame_reference,
  dw_dsa_frame, dw_dsa_frame_ideal, dw_dsa_frame_reference,
  d_ob_frame, d_ob_frame_ideal, d_ob_frame_reference,
  d_oc_frame, d_oc_frame_ideal, d_oc_frame_reference,
  rms_frame, rms_frame_ideal, rms_frame_reference,
  mem_rms_frame, mem_rms_frame_ideal, mem_rms_frame_reference,
  mem_kv_frame, mem_kv_frame_ideal, mem_kv_frame_reference,
  dw_mem_kv_frame, dw_mem_kv_frame_ideal, dw_mem_kv_frame_reference,
  d_memh_frame, d_memh_frame_ideal, d_memh_frame_reference,
  merge_frame, merge_frame_ideal, merge_frame_reference,
  mem_frame, mem_frame_ideal, mem_frame_reference,
  preserved, algebraic, trivial, Dact.algebraic, trivial, Dw.algebraic, trivial, Dw2.algebraic, trivial, Up.algebraic,
  trivial, Dh.algebraic,
  trivial, Down.algebraic, trivial, InProj.algebraic, trivial, GateProj.algebraic, trivial, DwIn.algebraic,
  trivial, DwGate.algebraic, trivial, DhIn.algebraic, trivial, Loss.algebraic, trivial, DhGate.algebraic,
  trivial, OutProj.algebraic, trivial, DwOut.algebraic, trivial, DMerged.algebraic, trivial, SbOut.algebraic, trivial, DwSb.algebraic,
  trivial, DOa.algebraic, trivial, DsaOut.algebraic, trivial, DwDsa.algebraic, trivial, DOb.algebraic, trivial, DOc.algebraic,
  trivial, Rms.algebraic, trivial, MemRms.algebraic, trivial, MemKv.algebraic, trivial, DwMemKv.algebraic, trivial, DMemh.algebraic,
  trivial, Merge.algebraic, trivial, Mem.algebraic⟩

end Cert.Proof

end
